-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mixer_finite [hPre_mixer_finite : Cert.Pre_mixer_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mixer_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mixer_finite [hPre_mixer_finite : Cert.Pre_mixer_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mixer_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ffn_out_finite [hPre_ffn_out_finite : Cert.Pre_ffn_out_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ffn_out_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ffn_out_finite [hPre_ffn_out_finite : Cert.Pre_ffn_out_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ffn_out_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_loss_finite [hPre_loss_finite : Cert.Pre_loss_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_loss_finite [hPre_loss_finite : Cert.Pre_loss_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_in_proj_finite [hPre_in_proj_finite : Cert.Pre_in_proj_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_proj_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_proj_finite [hPre_in_proj_finite : Cert.Pre_in_proj_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_proj_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ffn_in_finite [hPre_ffn_in_finite : Cert.Pre_ffn_in_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ffn_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ffn_in_finite [hPre_ffn_in_finite : Cert.Pre_ffn_in_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ffn_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mixer_fwd_finite [hPre_mixer_fwd_finite : Cert.Pre_mixer_fwd_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mixer_fwd_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mixer_fwd_finite [hPre_mixer_fwd_finite : Cert.Pre_mixer_fwd_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mixer_fwd_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_ffn_gate_finite [hPre_ffn_gate_finite : Cert.Pre_ffn_gate_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_ffn_gate_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_ffn_gate_finite [hPre_ffn_gate_finite : Cert.Pre_ffn_gate_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_ffn_gate_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_mixer_finite [hKernel2Ideal : Cert.Kernel2Ideal.Facts] [hPre_mixer_finite : Cert.Pre_mixer_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mixer_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_mixer_finite [hReference2Ideal : Cert.Reference2Ideal.Facts] [hPre_mixer_finite : Cert.Pre_mixer_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mixer_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_ffn_out_finite [hKernel3Ideal : Cert.Kernel3Ideal.Facts] [hPre_ffn_out_finite : Cert.Pre_ffn_out_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ffn_out_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_ffn_out_finite [hReference3Ideal : Cert.Reference3Ideal.Facts] [hPre_ffn_out_finite : Cert.Pre_ffn_out_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ffn_out_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_loss_finite [hKernel4Ideal : Cert.Kernel4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_loss_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_loss_finite [hReference4Ideal : Cert.Reference4Ideal.Facts] [hPre_loss_finite : Cert.Pre_loss_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_loss_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_in_proj_finite [hKernel5Ideal : Cert.Kernel5Ideal.Facts] [hPre_in_proj_finite : Cert.Pre_in_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_in_proj_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_in_proj_finite [hReference5Ideal : Cert.Reference5Ideal.Facts] [hPre_in_proj_finite : Cert.Pre_in_proj_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_proj_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_ffn_in_finite [hKernel6Ideal : Cert.Kernel6Ideal.Facts] [hPre_ffn_in_finite : Cert.Pre_ffn_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ffn_in_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_ffn_in_finite [hReference6Ideal : Cert.Reference6Ideal.Facts] [hPre_ffn_in_finite : Cert.Pre_ffn_in_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ffn_in_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_mixer_fwd_finite [hKernel7Ideal : Cert.Kernel7Ideal.Facts] [hPre_mixer_fwd_finite : Cert.Pre_mixer_fwd_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mixer_fwd_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_mixer_fwd_finite [hReference7Ideal : Cert.Reference7Ideal.Facts] [hPre_mixer_fwd_finite : Cert.Pre_mixer_fwd_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mixer_fwd_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_ffn_gate_finite [hKernel9Ideal : Cert.Kernel9Ideal.Facts] [hPre_ffn_gate_finite : Cert.Pre_ffn_gate_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_ffn_gate_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_ffn_gate_finite [hReference9Ideal : Cert.Reference9Ideal.Facts] [hPre_ffn_gate_finite : Cert.Pre_ffn_gate_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_ffn_gate_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_mixer_read_pre_mixer_finite [hKernel2Ideal : Cert.Kernel2Ideal.Facts] [hReference2Ideal : Cert.Reference2Ideal.Facts] [hPre_mixer_finite : Cert.Pre_mixer_finite.Facts] [hOn_mixer_read : Cert.On_mixer_read.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mixer_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v75_0)) (v1 : (c : Dev Cert.Kernel2Ideal.nD) → Buf (Elt Ideal) ((c.tc : Thread Cert.Kernel2Ideal.nD Cert.Kernel2Ideal.τ).loc Cert.Kernel2Ideal.main_v75_1)) (v2 : (c : Dev Cert.Kernel2Ideal.nD) → Buf (Elt Ideal) ((c.tc : Thread Cert.Kernel2Ideal.nD Cert.Kernel2Ideal.τ).loc Cert.Kernel2Ideal.main_v75_2)) (v3 : (c : Dev Cert.Kernel2Ideal.nD) → Buf (Elt Ideal) ((c.tc : Thread Cert.Kernel2Ideal.nD Cert.Kernel2Ideal.τ).loc Cert.Kernel2Ideal.main_v75_3)) (v4 : (c : Dev Cert.Kernel2Ideal.nD) → Buf (Elt Ideal) ((c.tc : Thread Cert.Kernel2Ideal.nD Cert.Kernel2Ideal.τ).loc Cert.Kernel2Ideal.main_v75_4)) (v5 : (c : Dev Cert.Kernel2Ideal.nD) → Buf (Elt Ideal) ((c.tc : Thread Cert.Kernel2Ideal.nD Cert.Kernel2Ideal.τ).loc Cert.Kernel2Ideal.main_v75_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![8192, 6400]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Kernel2Ideal.nD Cert.Kernel2Ideal.τ).loc Cert.Kernel2Ideal.main_v75_0) i = v0 c i)
          ∧ (∀ i : (⟨2, ![8448, 256]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 i = 1#1 → r.2.mem ((c.tc : Thread Cert.Kernel2Ideal.nD Cert.Kernel2Ideal.τ).loc Cert.Kernel2Ideal.main_v75_1) i = v1 c i)
          ∧ (∀ i : (⟨2, ![8, 6400]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 i = 1#1 → r.2.mem ((c.tc : Thread Cert.Kernel2Ideal.nD Cert.Kernel2Ideal.τ).loc Cert.Kernel2Ideal.main_v75_2) i = v2 c i)
          ∧ (∀ i : (⟨2, ![8, 256]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.1 i = 1#1 → r.2.mem ((c.tc : Thread Cert.Kernel2Ideal.nD Cert.Kernel2Ideal.τ).loc Cert.Kernel2Ideal.main_v75_3) i = v3 c i)
          ∧ (∀ i : (⟨2, ![8, 1024]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.1 i = 1#1 → r.2.mem ((c.tc : Thread Cert.Kernel2Ideal.nD Cert.Kernel2Ideal.τ).loc Cert.Kernel2Ideal.main_v75_4) i = v4 c i)
          ∧ (∀ i : (⟨2, ![8, 128]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.2 i = 1#1 → r.2.mem ((c.tc : Thread Cert.Kernel2Ideal.nD Cert.Kernel2Ideal.τ).loc Cert.Kernel2Ideal.main_v75_5) i = v5 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![8192, 6400]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 i = 1#1 → r.2.mem ((c.tc : Thread Cert.Reference2Ideal.nD Cert.Reference2Ideal.τ).loc Cert.Reference2Ideal.main_v266) i = v0 c i)
          ∧ (∀ i : (⟨2, ![8448, 256]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 i = 1#1 → r.2.mem ((c.tc : Thread Cert.Reference2Ideal.nD Cert.Reference2Ideal.τ).loc Cert.Reference2Ideal.main_v269) i = v1 c i)
          ∧ (∀ i : (⟨2, ![8, 6400]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 i = 1#1 → r.2.mem ((c.tc : Thread Cert.Reference2Ideal.nD Cert.Reference2Ideal.τ).loc Cert.Reference2Ideal.main_v270) i = v2 c i)
          ∧ (∀ i : (⟨2, ![8, 256]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.1 i = 1#1 → r.2.mem ((c.tc : Thread Cert.Reference2Ideal.nD Cert.Reference2Ideal.τ).loc Cert.Reference2Ideal.main_v272) i = v3 c i)
          ∧ (∀ i : (⟨2, ![8, 1024]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.1 i = 1#1 → r.2.mem ((c.tc : Thread Cert.Reference2Ideal.nD Cert.Reference2Ideal.τ).loc Cert.Reference2Ideal.main_v273) i = v4 c i)
          ∧ (∀ i : (⟨2, ![8, 128]⟩ : Shape).Idx, (Cert.On_mixer_read.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.2 i = 1#1 → r.2.mem ((c.tc : Thread Cert.Reference2Ideal.nD Cert.Reference2Ideal.τ).loc Cert.Reference2Ideal.main_v274) i = v5 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_ffn_out_finite [hKernel3Ideal : Cert.Kernel3Ideal.Facts] [hReference3Ideal : Cert.Reference3Ideal.Facts] [hPre_ffn_out_finite : Cert.Pre_ffn_out_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ffn_out_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_loss_finite [hKernel4Ideal : Cert.Kernel4Ideal.Facts] [hReference4Ideal : Cert.Reference4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_loss_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_in_proj_finite [hKernel5Ideal : Cert.Kernel5Ideal.Facts] [hReference5Ideal : Cert.Reference5Ideal.Facts] [hPre_in_proj_finite : Cert.Pre_in_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_in_proj_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_ffn_in_finite [hKernel6Ideal : Cert.Kernel6Ideal.Facts] [hReference6Ideal : Cert.Reference6Ideal.Facts] [hPre_ffn_in_finite : Cert.Pre_ffn_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ffn_in_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v74) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_mixer_fwd_finite [hKernel7Ideal : Cert.Kernel7Ideal.Facts] [hReference7Ideal : Cert.Reference7Ideal.Facts] [hPre_mixer_fwd_finite : Cert.Pre_mixer_fwd_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mixer_fwd_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v120) = v0 c
          ∧ r.2.mem ((c.tc : Thread Cert.Reference7Ideal.nD Cert.Reference7Ideal.τ).loc Cert.Reference7Ideal.main_v122) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_ffn_gate_finite [hKernel9Ideal : Cert.Kernel9Ideal.Facts] [hReference9Ideal : Cert.Reference9Ideal.Facts] [hPre_ffn_gate_finite : Cert.Pre_ffn_gate_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_ffn_gate_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_mixer_finite : Cert.Pre_mixer_finite.Facts) (hPre_ffn_out_finite : Cert.Pre_ffn_out_finite.Facts) (hPre_loss_finite : Cert.Pre_loss_finite.Facts) (hPre_in_proj_finite : Cert.Pre_in_proj_finite.Facts) (hPre_ffn_in_finite : Cert.Pre_ffn_in_finite.Facts) (hPre_mixer_fwd_finite : Cert.Pre_mixer_fwd_finite.Facts) (hPre_ffn_gate_finite : Cert.Pre_ffn_gate_finite.Facts) (hOn_mixer_read : Cert.On_mixer_read.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_mixer_finite (hKernel2Ideal := hKernel2Ideal) (hPre_mixer_finite := hPre_mixer_finite)
    ∧ quiescent_Reference2Ideal (hReference2Ideal := hReference2Ideal)
    ∧ quiescent_Reference2Ideal_pre_mixer_finite (hReference2Ideal := hReference2Ideal) (hPre_mixer_finite := hPre_mixer_finite)
    ∧ quiescent_Kernel3 (hKernel3 := hKernel3)
    ∧ quiescent_Kernel3Ideal (hKernel3Ideal := hKernel3Ideal)
    ∧ quiescent_Kernel3Ideal_pre_ffn_out_finite (hKernel3Ideal := hKernel3Ideal) (hPre_ffn_out_finite := hPre_ffn_out_finite)
    ∧ quiescent_Reference3Ideal (hReference3Ideal := hReference3Ideal)
    ∧ quiescent_Reference3Ideal_pre_ffn_out_finite (hReference3Ideal := hReference3Ideal) (hPre_ffn_out_finite := hPre_ffn_out_finite)
    ∧ quiescent_Kernel4 (hKernel4 := hKernel4)
    ∧ quiescent_Kernel4Ideal (hKernel4Ideal := hKernel4Ideal)
    ∧ quiescent_Kernel4Ideal_pre_loss_finite (hKernel4Ideal := hKernel4Ideal) (hPre_loss_finite := hPre_loss_finite)
    ∧ quiescent_Reference4Ideal (hReference4Ideal := hReference4Ideal)
    ∧ quiescent_Reference4Ideal_pre_loss_finite (hReference4Ideal := hReference4Ideal) (hPre_loss_finite := hPre_loss_finite)
    ∧ quiescent_Kernel5 (hKernel5 := hKernel5)
    ∧ quiescent_Kernel5Ideal (hKernel5Ideal := hKernel5Ideal)
    ∧ quiescent_Kernel5Ideal_pre_in_proj_finite (hKernel5Ideal := hKernel5Ideal) (hPre_in_proj_finite := hPre_in_proj_finite)
    ∧ quiescent_Reference5Ideal (hReference5Ideal := hReference5Ideal)
    ∧ quiescent_Reference5Ideal_pre_in_proj_finite (hReference5Ideal := hReference5Ideal) (hPre_in_proj_finite := hPre_in_proj_finite)
    ∧ quiescent_Kernel6 (hKernel6 := hKernel6)
    ∧ quiescent_Kernel6Ideal (hKernel6Ideal := hKernel6Ideal)
    ∧ quiescent_Kernel6Ideal_pre_ffn_in_finite (hKernel6Ideal := hKernel6Ideal) (hPre_ffn_in_finite := hPre_ffn_in_finite)
    ∧ quiescent_Reference6Ideal (hReference6Ideal := hReference6Ideal)
    ∧ quiescent_Reference6Ideal_pre_ffn_in_finite (hReference6Ideal := hReference6Ideal) (hPre_ffn_in_finite := hPre_ffn_in_finite)
    ∧ quiescent_Kernel7 (hKernel7 := hKernel7)
    ∧ quiescent_Kernel7Ideal (hKernel7Ideal := hKernel7Ideal)
    ∧ quiescent_Kernel7Ideal_pre_mixer_fwd_finite (hKernel7Ideal := hKernel7Ideal) (hPre_mixer_fwd_finite := hPre_mixer_fwd_finite)
    ∧ quiescent_Reference7Ideal (hReference7Ideal := hReference7Ideal)
    ∧ quiescent_Reference7Ideal_pre_mixer_fwd_finite (hReference7Ideal := hReference7Ideal) (hPre_mixer_fwd_finite := hPre_mixer_fwd_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_ffn_gate_finite (hKernel9Ideal := hKernel9Ideal) (hPre_ffn_gate_finite := hPre_ffn_gate_finite)
    ∧ quiescent_Reference9Ideal (hReference9Ideal := hReference9Ideal)
    ∧ quiescent_Reference9Ideal_pre_ffn_gate_finite (hReference9Ideal := hReference9Ideal) (hPre_ffn_gate_finite := hPre_ffn_gate_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_mixer_read_pre_mixer_finite (hKernel2Ideal := hKernel2Ideal) (hReference2Ideal := hReference2Ideal) (hPre_mixer_finite := hPre_mixer_finite) (hOn_mixer_read := hOn_mixer_read)
    ∧ preserves_Kernel3_Kernel3Ideal
    ∧ algebraic_Kernel3Ideal_Reference3Ideal_pre_ffn_out_finite (hKernel3Ideal := hKernel3Ideal) (hReference3Ideal := hReference3Ideal) (hPre_ffn_out_finite := hPre_ffn_out_finite)
    ∧ preserves_Kernel4_Kernel4Ideal
    ∧ algebraic_Kernel4Ideal_Reference4Ideal_pre_loss_finite (hKernel4Ideal := hKernel4Ideal) (hReference4Ideal := hReference4Ideal) (hPre_loss_finite := hPre_loss_finite)
    ∧ preserves_Kernel5_Kernel5Ideal
    ∧ algebraic_Kernel5Ideal_Reference5Ideal_pre_in_proj_finite (hKernel5Ideal := hKernel5Ideal) (hReference5Ideal := hReference5Ideal) (hPre_in_proj_finite := hPre_in_proj_finite)
    ∧ preserves_Kernel6_Kernel6Ideal
    ∧ algebraic_Kernel6Ideal_Reference6Ideal_pre_ffn_in_finite (hKernel6Ideal := hKernel6Ideal) (hReference6Ideal := hReference6Ideal) (hPre_ffn_in_finite := hPre_ffn_in_finite)
    ∧ preserves_Kernel7_Kernel7Ideal
    ∧ algebraic_Kernel7Ideal_Reference7Ideal_pre_mixer_fwd_finite (hKernel7Ideal := hKernel7Ideal) (hReference7Ideal := hReference7Ideal) (hPre_mixer_fwd_finite := hPre_mixer_fwd_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_ffn_gate_finite (hKernel9Ideal := hKernel9Ideal) (hReference9Ideal := hReference9Ideal) (hPre_ffn_gate_finite := hPre_ffn_gate_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_mixer_read.lean ====
abbrev S8192x6400 : Shape := ⟨2, ![8192, 6400]⟩
abbrev S8192x1024 : Shape := ⟨2, ![8192, 1024]⟩
abbrev S1x16 : Shape := ⟨2, ![1, 16]⟩
abbrev S3x1024 : Shape := ⟨2, ![3, 1024]⟩
abbrev S_ : Shape := ⟨0, ![]⟩
abbrev S8448x256 : Shape := ⟨2, ![8448, 256]⟩
abbrev S8x6400 : Shape := ⟨2, ![8, 6400]⟩
abbrev S8x256 : Shape := ⟨2, ![8, 256]⟩
abbrev S8x1024 : Shape := ⟨2, ![8, 1024]⟩
abbrev S8x128 : Shape := ⟨2, ![8, 128]⟩

class Facts : Prop where
  bcast_S_S8192x6400 : S_.BroadcastsInDim S8192x6400 (![] : Fin 0 → Fin S8192x6400.rank)
  bcast_S_S8448x256 : S_.BroadcastsInDim S8448x256 (![] : Fin 0 → Fin S8448x256.rank)
  bcast_S_S8x6400 : S_.BroadcastsInDim S8x6400 (![] : Fin 0 → Fin S8x6400.rank)
  bcast_S_S8x256 : S_.BroadcastsInDim S8x256 (![] : Fin 0 → Fin S8x256.rank)
  bcast_S_S8x1024 : S_.BroadcastsInDim S8x1024 (![] : Fin 0 → Fin S8x1024.rank)
  bcast_S_S8x128 : S_.BroadcastsInDim S8x128 (![] : Fin 0 → Fin S8x128.rank)

variable [Facts]

def fn_part2 {F : FTy → Type} [FloatOps F] (main_v9 : IVec S8192x6400 1) (main_v19 : IVec S8448x256 1) (main_v29 : IVec S8x6400 1) (main_v36 : IVec S8x256 1) : IVec S8192x6400 1 × IVec S8448x256 1 × IVec S8x6400 1 × IVec S8x256 1 × IVec S8x1024 1 × IVec S8x128 1 :=
  let main_v37 : IVec S8x1024 32 := iotaInDim S8x1024 32 0
  let main_v38 : IVec S8x1024 32 := iotaInDim S8x1024 32 1
  let main_c_10 : IVec S_ 32 := constantI S_ 32 3#32
  let main_v39 : IVec S8x1024 32 := broadcastInDim S8x1024 ![] bcast_S_S8x1024 main_c_10
  let main_v40 : IVec S8x1024 1 := cmpi .slt main_v37 main_v39
  let main_c_11 : IVec S_ 32 := constantI S_ 32 0#32
  let main_v41 : IVec S8x1024 32 := broadcastInDim S8x1024 ![] bcast_S_S8x1024 main_c_11
  let main_v42 : IVec S8x1024 1 := cmpi .sge main_v38 main_v41
  let main_v43 : IVec S8x1024 1 := andi main_v40 main_v42
  let main_v44 : IVec S8x128 32 := iotaInDim S8x128 32 0
  let main_v45 : IVec S8x128 32 := iotaInDim S8x128 32 1
  let main_c_12 : IVec S_ 32 := constantI S_ 32 1#32
  let main_v46 : IVec S8x128 32 := broadcastInDim S8x128 ![] bcast_S_S8x128 main_c_12
  let main_v47 : IVec S8x128 1 := cmpi .slt main_v44 main_v46
  let main_c_13 : IVec S_ 32 := constantI S_ 32 16#32
  let main_v48 : IVec S8x128 32 := broadcastInDim S8x128 ![] bcast_S_S8x128 main_c_13
  let main_v49 : IVec S8x128 1 := cmpi .slt main_v45 main_v48
  let main_v50 : IVec S8x128 1 := andi main_v47 main_v49
  (main_v9, main_v19, main_v29, main_v36, main_v43, main_v50)

def fn_part1 {F : FTy → Type} [FloatOps F] (main_v9 : IVec S8192x6400 1) (main_v11 : IVec S8448x256 32) (main_v16 : IVec S8448x256 1) (main_v17 : IVec S8448x256 32) : IVec S8192x6400 1 × IVec S8448x256 1 × IVec S8x6400 1 × IVec S8x256 1 × IVec S8x1024 1 × IVec S8x128 1 :=
  let main_v18 : IVec S8448x256 1 := cmpi .sge main_v11 main_v17
  let main_v19 : IVec S8448x256 1 := andi main_v16 main_v18
  let main_v20 : IVec S8x6400 32 := iotaInDim S8x6400 32 0
  let main_v21 : IVec S8x6400 32 := iotaInDim S8x6400 32 1
  let main_c_5 : IVec S_ 32 := constantI S_ 32 1#32
  let main_v22 : IVec S8x6400 32 := broadcastInDim S8x6400 ![] bcast_S_S8x6400 main_c_5
  let main_v23 : IVec S8x6400 1 := cmpi .slt main_v20 main_v22
  let main_c_6 : IVec S_ 32 := constantI S_ 32 1024#32
  let main_v24 : IVec S8x6400 32 := broadcastInDim S8x6400 ![] bcast_S_S8x6400 main_c_6
  let main_v25 : IVec S8x6400 1 := cmpi .slt main_v21 main_v24
  let main_c_7 : IVec S_ 32 := constantI S_ 32 1280#32
  let main_v26 : IVec S8x6400 32 := broadcastInDim S8x6400 ![] bcast_S_S8x6400 main_c_7
  let main_v27 : IVec S8x6400 1 := cmpi .sge main_v21 main_v26
  let main_v28 : IVec S8x6400 1 := ori main_v25 main_v27
  let main_v29 : IVec S8x6400 1 := andi main_v23 main_v28
  let main_v30 : IVec S8x256 32 := iotaInDim S8x256 32 0
  let main_v31 : IVec S8x256 32 := iotaInDim S8x256 32 1
  let main_c_8 : IVec S_ 32 := constantI S_ 32 1#32
  let main_v32 : IVec S8x256 32 := broadcastInDim S8x256 ![] bcast_S_S8x256 main_c_8
  let main_v33 : IVec S8x256 1 := cmpi .slt main_v30 main_v32
  let main_c_9 : IVec S_ 32 := constantI S_ 32 0#32
  let main_v34 : IVec S8x256 32 := broadcastInDim S8x256 ![] bcast_S_S8x256 main_c_9
  let main_v35 : IVec S8x256 1 := cmpi .sge main_v31 main_v34
  let main_v36 : IVec S8x256 1 := andi main_v33 main_v35
  fn_part2 (F := F) main_v9 main_v19 main_v29 main_v36

def fn {F : FTy → Type} [FloatOps F] (main_arg0 : FVec F S8192x6400 .bf16) (main_arg1 : FVec F S8192x1024 .bf16) (main_arg2 : FVec F S1x16 .f32) (main_arg3 : FVec F S3x1024 .f32) : IVec S8192x6400 1 × IVec S8448x256 1 × IVec S8x6400 1 × IVec S8x256 1 × IVec S8x1024 1 × IVec S8x128 1 :=
  let main_v0 : IVec S8192x6400 32 := iotaInDim S8192x6400 32 0
  let main_v1 : IVec S8192x6400 32 := iotaInDim S8192x6400 32 1
  let main_c : IVec S_ 32 := constantI S_ 32 0#32
  let main_v2 : IVec S8192x6400 32 := broadcastInDim S8192x6400 ![] bcast_S_S8192x6400 main_c
  let main_v3 : IVec S8192x6400 1 := cmpi .sge main_v0 main_v2
  let main_c_0 : IVec S_ 32 := constantI S_ 32 1024#32
  let main_v4 : IVec S8192x6400 32 := broadcastInDim S8192x6400 ![] bcast_S_S8192x6400 main_c_0
  let main_v5 : IVec S8192x6400 1 := cmpi .slt main_v1 main_v4
  let main_c_1 : IVec S_ 32 := constantI S_ 32 1280#32
  let main_v6 : IVec S8192x6400 32 := broadcastInDim S8192x6400 ![] bcast_S_S8192x6400 main_c_1
  let main_v7 : IVec S8192x6400 1 := cmpi .sge main_v1 main_v6
  let main_v8 : IVec S8192x6400 1 := ori main_v5 main_v7
  let main_v9 : IVec S8192x6400 1 := andi main_v3 main_v8
  let main_v10 : IVec S8448x256 32 := iotaInDim S8448x256 32 0
  let main_v11 : IVec S8448x256 32 := iotaInDim S8448x256 32 1
  let main_c_2 : IVec S_ 32 := constantI S_ 32 128#32
  let main_v12 : IVec S8448x256 32 := broadcastInDim S8448x256 ![] bcast_S_S8448x256 main_c_2
  let main_v13 : IVec S8448x256 1 := cmpi .sge main_v10 main_v12
  let main_c_3 : IVec S_ 32 := constantI S_ 32 8320#32
  let main_v14 : IVec S8448x256 32 := broadcastInDim S8448x256 ![] bcast_S_S8448x256 main_c_3
  let main_v15 : IVec S8448x256 1 := cmpi .slt main_v10 main_v14
  let main_v16 : IVec S8448x256 1 := andi main_v13 main_v15
  let main_c_4 : IVec S_ 32 := constantI S_ 32 0#32
  let main_v17 : IVec S8448x256 32 := broadcastInDim S8448x256 ![] bcast_S_S8448x256 main_c_4
  fn_part1 (F := F) main_v9 main_v11 main_v16 main_v17
-- ==== Pre_ffn_gate_finite.lean ====
abbrev S8192x1024 : Shape := ⟨2, ![8192, 1024]⟩
abbrev S1x1024x5632 : Shape := ⟨3, ![1, 1024, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_

variable [Facts]

def fn {F : FTy → Type} [FloatOps F] (main_arg0 : FVec F S8192x1024 .bf16) (main_arg1 : FVec F S1x1024x5632 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  main_v8
-- ==== Pre_ffn_in_finite.lean ====
abbrev S8192x1024 : Shape := ⟨2, ![8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x8192x2816 : Shape := ⟨3, ![2, 8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S2x8192x2816 : S_.BroadcastsInDim S2x8192x2816 (![] : Fin 0 → Fin S2x8192x2816.rank)
  reducesTo_S2x8192x2816_S_d0_1_2 : S2x8192x2816.ReducesTo [0, 1, 2] S_

variable [Facts]

def fn_part2 {F : FTy → Type} [FloatOps F] (main_arg8 : FVec F S2x8192x2816 .bf16) (main_arg9 : FVec F S8192x1024 .f32) (main_v33 : IVec S_ 1) : IVec S_ 1 :=
  let main_v34 : FVec F S2x8192x2816 .bf16 := Host.absf main_arg8
  let main_cst_12 : FVec F S_ .bf16 := constant S_ .bf16 0x7F80#16
  let main_v35 : FVec F S2x8192x2816 .bf16 := broadcastInDim S2x8192x2816 ![] bcast_S_S2x8192x2816 main_cst_12
  let main_v36 : IVec S2x8192x2816 1 := cmpf .olt main_v34 main_v35
  let main_c_13 : IVec S_ 1 := constantI S_ 1 1#1
  let main_v37 : IVec S_ 1 := (fun x v => Host.reduce IntOp.andi x v reducesTo_S2x8192x2816_S_d0_1_2 h_S_) main_v36 main_c_13
  let main_v38 : IVec S_ 1 := andi main_v33 main_v37
  let main_v39 : FVec F S8192x1024 .f32 := Host.absf main_arg9
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024 .f32) (main_arg7 : FVec F S1x1024x5632 .f32) (main_arg8 : FVec F S2x8192x2816 .bf16) (main_arg9 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x5632 .f32 := Host.absf main_arg7
  let main_cst_10 : FVec F S_ .f32 := constant S_ .f32 0x7F800000#32
  let main_v30 : FVec F S1x1024x5632 .f32 := broadcastInDim S1x1024x5632 ![] bcast_S_S1x1024x5632 main_cst_10
  let main_v31 : IVec S1x1024x5632 1 := cmpf .olt main_v29 main_v30
  let main_c_11 : IVec S_ 1 := constantI S_ 1 1#1
  let main_v32 : IVec S_ 1 := (fun x v => Host.reduce IntOp.andi x v reducesTo_S1x1024x5632_S_d0_1_2 h_S_) main_v31 main_c_11
  let main_v33 : IVec S_ 1 := andi main_v28 main_v32
  fn_part2 (F := F) main_arg8 main_arg9 main_v33

def fn {F : FTy → Type} [FloatOps F] (main_arg0 : FVec F S8192x1024 .bf16) (main_arg1 : FVec F S1x1024x1024 .f32) (main_arg2 : FVec F S8192x1024 .f32) (main_arg3 : FVec F S1x1024 .f32) (main_arg4 : FVec F S1x1024 .f32) (main_arg5 : FVec F S1x1024 .f32) (main_arg6 : FVec F S1x1024 .f32) (main_arg7 : FVec F S1x1024x5632 .f32) (main_arg8 : FVec F S2x8192x2816 .bf16) (main_arg9 : FVec F S8192x1024 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg7 main_arg8 main_arg9 main_v13 main_v16
-- ==== Pre_ffn_out_finite.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .bf16) (main_arg1 : FVec F S1x1024x5632 .f32) (main_arg2 : FVec F S1x2816x1024 .f32) (main_arg3 : FVec F S8192x1024 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S8192x1024 .bf16 := Host.absf main_arg3
  let main_cst_4 : FVec F S_ .bf16 := constant S_ .bf16 0x7F80#16
  let main_v15 : FVec F S8192x1024 .bf16 := broadcastInDim S8192x1024 ![] bcast_S_S8192x1024 main_cst_4
  let main_v16 : IVec S8192x1024 1 := cmpf .olt main_v14 main_v15
  fn_part1 (F := F) main_v13 main_v16
-- ==== Pre_in_proj_finite.lean ====
abbrev S8192x6400 : Shape := ⟨2, ![8192, 6400]⟩
abbrev S1x1024x6400 : Shape := ⟨3, ![1, 1024, 6400]⟩
abbrev S8192x1024 : Shape := ⟨2, ![8192, 1024]⟩
abbrev S1x1024 : Shape := ⟨2, ![1, 1024]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel
  bcast_S_S1x1024x6400 : S_.BroadcastsInDim S1x1024x6400 (![] : Fin 0 → Fin S1x1024x6400.rank)
  reducesTo_S1x1024x6400_S_d0_1_2 : S1x1024x6400.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x6400 .bf16) (main_arg1 : FVec F S1x1024x6400 .f32) (main_arg2 : FVec F S8192x1024 .f32) (main_arg3 : FVec F S8192x1024 .f32) (main_arg4 : FVec F S1x1024 .f32) (main_arg5 : FVec F S1x1024 .f32) : IVec S_ 1 :=
  let main_v0 : FVec F S8192x6400 .bf16 := Host.absf main_arg0
  let main_cst : FVec F S_ .bf16 := constant S_ .bf16 0x7F80#16
  let main_v1 : FVec F S8192x6400 .bf16 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  let main_v4 : FVec F S1x1024x6400 .f32 := Host.absf main_arg1
  let main_cst_0 : FVec F S_ .f32 := constant S_ .f32 0x7F800000#32
  let main_v5 : FVec F S1x1024x6400 .f32 := broadcastInDim S1x1024x6400 ![] bcast_S_S1x1024x6400 main_cst_0
  let main_v6 : IVec S1x1024x6400 1 := cmpf .olt main_v4 main_v5
  let main_c_1 : IVec S_ 1 := constantI S_ 1 1#1
  let main_v7 : IVec S_ 1 := (fun x v => Host.reduce IntOp.andi x v reducesTo_S1x1024x6400_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v13 main_v16
-- ==== Pre_loss_finite.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x1024 .f32) (main_arg5 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x2816 .bf16) (main_arg1 : FVec F S1x2816x1024 .f32) (main_arg2 : FVec F S8192x1024 .f32) (main_arg3 : FVec F S8192x1024 .f32) (main_arg4 : FVec F S1x1024 .f32) (main_arg5 : FVec F S1024 .f32) : IVec S_ 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v13 main_v16
-- ==== Pre_mixer_finite.lean ====
abbrev S8192x6400 : Shape := ⟨2, ![8192, 6400]⟩
abbrev S8192x1024 : Shape := ⟨2, ![8192, 1024]⟩
abbrev S1x16 : Shape := ⟨2, ![1, 16]⟩
abbrev S3x1024 : Shape := ⟨2, ![3, 1024]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x16 : S_.BroadcastsInDim S1x16 (![] : Fin 0 → Fin S1x16.rank)
  reducesTo_S1x16_S_d0_1 : S1x16.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  main_v18

def fn {F : FTy → Type} [FloatOps F] (main_arg0 : FVec F S8192x6400 .bf16) (main_arg1 : FVec F S8192x1024 .bf16) (main_arg2 : FVec F S1x16 .f32) (main_arg3 : FVec F S3x1024 .f32) : IVec S_ 1 :=
  let main_v0 : FVec F S8192x6400 .bf16 := Host.absf main_arg0
  let main_cst : FVec F S_ .bf16 := constant S_ .bf16 0x7F80#16
  let main_v1 : FVec F S8192x6400 .bf16 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S3x1024 .f32 := Host.absf main_arg3
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_v13 main_v16
-- ==== Pre_mixer_fwd_finite.lean ====
abbrev S8192x6400 : Shape := ⟨2, ![8192, 6400]⟩
abbrev S1x16 : Shape := ⟨2, ![1, 16]⟩
abbrev S3x1024 : Shape := ⟨2, ![3, 1024]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x6400 .bf16) (main_arg1 : FVec F S1x16 .f32) (main_arg2 : FVec F S3x1024 .f32) : IVec S_ 1 :=
  let main_v0 : FVec F S8192x6400 .bf16 := Host.absf main_arg0
  let main_cst : FVec F S_ .bf16 := constant S_ .bf16 0x7F80#16
  let main_v1 : FVec F S8192x6400 .bf16 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  main_v8
-- ==== Kernel.lean ====
abbrev S8x1024 : Shape := ⟨2, ![8, 1024]⟩
abbrev S8x1536 : Shape := ⟨2, ![8, 1536]⟩
abbrev S1024x1536 : Shape := ⟨2, ![1024, 1536]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .local _ .vmem, ⟨0, _⟩ => ⟨S8x1024, .f32⟩
  | .local _ .vmem, ⟨1, _⟩ => ⟨S8x512, .f32⟩
  | .local _ .vmem, ⟨2, _⟩ => ⟨S8x512, .f32⟩
  | .local _ .vmem, ⟨3, _⟩ => ⟨S1024x512, .f32⟩
  | .local _ .vmem, ⟨4, _⟩ => ⟨S1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1536, .f32⟩
  | .hbm, ⟨14, _⟩ => ⟨S1536x1024, .f32⟩
  | .hbm, ⟨15, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel2.lean ====
abbrev S8192x6400 : Shape := ⟨2, ![8192, 6400]⟩
abbrev S8192x1024 : Shape := ⟨2, ![8192, 1024]⟩
abbrev S1x16 : Shape := ⟨2, ![1, 16]⟩
abbrev S3x1024 : Shape := ⟨2, ![3, 1024]⟩
abbrev S8192x1280 : Shape := ⟨2, ![8192, 1280]⟩
abbrev S1x8192x1280 : Shape := ⟨3, ![1, 8192, 1280]⟩
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S8448x256 : Shape := ⟨2, ![8448, 256]⟩
abbrev S8x6400 : Shape := ⟨2, ![8, 6400]⟩
abbrev S8x256 : Shape := ⟨2, ![8, 256]⟩
abbrev S8x1024 : Shape := ⟨2, ![8, 1024]⟩
abbrev S8x128 : Shape := ⟨2, ![8, 128]⟩
abbrev S256x6400 : Shape := ⟨2, ![256, 6400]⟩
abbrev S16x6400 : Shape := ⟨2, ![16, 6400]⟩
abbrev S256x1024 : Shape := ⟨2, ![256, 1024]⟩
abbrev S16x1024 : Shape := ⟨2, ![16, 1024]⟩
abbrev S256x256 : Shape := ⟨2, ![256, 256]⟩
abbrev S128x1024 : Shape := ⟨2, ![128, 1024]⟩
abbrev S1x1024 : Shape := ⟨2, ![1, 1024]⟩
abbrev S1024 : Shape := ⟨1, ![1024]⟩
abbrev S256x128 : Shape := ⟨2, ![256, 128]⟩
abbrev S512x256 : Shape := ⟨2, ![512, 256]⟩
abbrev S1x128 : Shape := ⟨2, ![1, 128]⟩
abbrev S512x1 : Shape := ⟨2, ![512, 1]⟩
abbrev S128x128 : Shape := ⟨2, ![128, 128]⟩
abbrev S512x128 : Shape := ⟨2, ![512, 128]⟩
abbrev S1x1 : Shape := ⟨2, ![1, 1]⟩
abbrev S512 : Shape := ⟨1, ![512]⟩
abbrev S1 : Shape := ⟨1, ![1]⟩

abbrev nBuf : Space → Nat
  | .hbm => 99
  | .vmem => 24
  | .smem => 1
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S1x16, .f32⟩
  | .hbm, ⟨3, _⟩ => ⟨S3x1024, .f32⟩
  | .hbm, ⟨4, _⟩ => ⟨S8192x1280, .bf16⟩
  | .hbm, ⟨5, _⟩ => ⟨S8192x1280, .f32⟩
  | .hbm, ⟨6, _⟩ => ⟨S1x8192x1280, .f32⟩
  | .hbm, ⟨7, _⟩ => ⟨S1x8192x1024, .f32⟩
  | .hbm, ⟨8, _⟩ => ⟨S1x8192x128, .f32⟩
  | .hbm, ⟨9, _⟩ => ⟨S1x8192x128, .f32⟩
  | .hbm, ⟨10, _⟩ => ⟨S16, .f32⟩
  | .hbm, ⟨11, _⟩ => ⟨S1x64x128x2x8x64, .f32⟩
  | .hbm, ⟨12, _⟩ => ⟨S1x64x128x2x64, .f32⟩
  | .hbm, ⟨13, _⟩ => ⟨S1x1x128x2x64, .f32⟩
  | .hbm, ⟨14, _⟩ => ⟨S_, .f32⟩
  | .hbm, ⟨15, _⟩ => ⟨S1x1x128x2x64, .f32⟩
  | .hbm, ⟨16, _⟩ => ⟨S1x63x128x2x64, .f32⟩
  | .hbm, ⟨17, _⟩ => ⟨S1x64x128x2x64, .f32⟩
  | .hbm, ⟨18, _⟩ => ⟨S1x64x256x2x64, .f32⟩
  | .hbm, ⟨19, _⟩ => ⟨S1x64x128x2x64, .f32⟩
  | .hbm, ⟨20, _⟩ => ⟨S1x1x128x2x64, .f32⟩
  | .hbm, ⟨21, _⟩ => ⟨S_, .f32⟩
  | .hbm, ⟨22, _⟩ => ⟨S1x1x128x2x64, .f32⟩
  | .hbm, ⟨23, _⟩ => ⟨S1x63x128x2x64, .f32⟩
  | .hbm, ⟨24, _⟩ => ⟨S1x64x128x2x64, .f32⟩
  | .hbm, ⟨25, _⟩ => ⟨S1x64x256x2x64, .f32⟩
  | .hbm, ⟨26, _⟩ => ⟨S1x64x2x256x128x8, .f32⟩
  | .hbm, ⟨27, _⟩ => ⟨S1x64x2x8x128x256, .f32⟩
  | .hbm, ⟨28, _⟩ => ⟨S_, .f32⟩
  | .hbm, ⟨29, _⟩ => ⟨S1x64x2x8x128x256, .f32⟩
  | .hbm, ⟨30, _⟩ => ⟨S1x64x2x8x128x256, .f32⟩
  | .hbm, ⟨31, _⟩ => ⟨S128, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S256, .i32⟩
  | .hbm, ⟨37, _⟩ => ⟨S1x256, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S64, .i32⟩
  | .hbm, ⟨49, _⟩ => ⟨S64x1x1, .i32⟩
  | .hbm, ⟨50, _⟩ => ⟨S1x128x256, .i1⟩
  | .hbm, ⟨51, _⟩ => ⟨S_, .i32⟩
  | .hbm, ⟨52, _⟩ => ⟨S64x1x1, .i32⟩
  | .hbm, ⟨53, _⟩ => ⟨S64x1x1, .i1⟩
  | .hbm, ⟨54, _⟩ => ⟨S1x1x256, .i32⟩
  | .hbm, ⟨55, _⟩ => ⟨S_, .i32⟩
  | .hbm, ⟨56, _⟩ => ⟨S1x1x256, .i32⟩
  | .hbm, ⟨57, _⟩ => ⟨S1x1x256, .i1⟩
  | .hbm, ⟨58, _⟩ => ⟨S64x1x256, .i1⟩
  | .hbm, ⟨59, _⟩ => ⟨S64x1x256, .i1⟩
  | .hbm, ⟨60, _⟩ => ⟨S64x1x256, .i1⟩
  | .hbm, ⟨61, _⟩ => ⟨S64x128x256, .i1⟩
  | .hbm, ⟨62, _⟩ => ⟨S64x128x256, .i1⟩
  | .hbm, ⟨63, _⟩ => ⟨S64x128x256, .i1⟩
  | .hbm, ⟨64, _⟩ => ⟨S1x64x1x1x128x256, .i1⟩
  | .hbm, ⟨65, _⟩ => ⟨S_, .f32⟩
  | .hbm, ⟨66, _⟩ => ⟨S_, .f32⟩
  | .hbm, ⟨67, _⟩ => ⟨S1x64x2x8x128x256, .i1⟩
  | .hbm, ⟨68, _⟩ => ⟨S1x64x2x8x128x256, .f32⟩
  | .hbm, ⟨69, _⟩ => ⟨S1x64x2x8x128x256, .f32⟩
  | .hbm, ⟨70, _⟩ => ⟨S1x1x2x8x1x1, .f32⟩
  | .hbm, ⟨71, _⟩ => ⟨S_, .f32⟩
  | .hbm, ⟨72, _⟩ => ⟨S1x64x2x8x128, .f32⟩
  | .hbm, ⟨73, _⟩ => ⟨S1x64x2x8x128x1, .f32⟩
  | .hbm, ⟨74, _⟩ => ⟨S1x64x2x8x128x1, .f32⟩
  | .hbm, ⟨75, _⟩ => ⟨S1x64x2x8x128x1, .f32⟩
  | .hbm, ⟨76, _⟩ => ⟨S1x64x2x8x128x256, .f32⟩
  | .hbm, ⟨77, _⟩ => ⟨S1x64x2x8x128x256, .f32⟩
  | .hbm, ⟨78, _⟩ => ⟨S1x64x2x8x128x256, .f32⟩
  | .hbm, ⟨79, _⟩ => ⟨S_, .f32⟩
  | .hbm, ⟨80, _⟩ => ⟨S1x64x2x8x128, .f32⟩
  | .hbm, ⟨81, _⟩ => ⟨S1x64x2x8x128x1, .f32⟩
  | .hbm, ⟨82, _⟩ => ⟨S1x64x2x8x128x1, .f32⟩
  | .hbm, ⟨83, _⟩ => ⟨S1x64x2x8x128x1, .f32⟩
  | .hbm, ⟨84, _⟩ => ⟨S1x64x2x8x128x1, .f32⟩
  | .hbm, ⟨85, _⟩ => ⟨S1x64x2x8x128x1, .f32⟩
  | .hbm, ⟨86, _⟩ => ⟨S1x64x2x8x128x256, .f32⟩
  | .hbm, ⟨87, _⟩ => ⟨S1x64x2x8x128x256, .f32⟩
  | .hbm, ⟨88, _⟩ => ⟨S1x64x2x64x8x128, .f32⟩
  | .hbm, ⟨89, _⟩ => ⟨S1x64x128x2x8x64, .f32⟩
  | .hbm, ⟨90, _⟩ => ⟨S1x8192x1024, .f32⟩
  | .hbm, ⟨91, _⟩ => ⟨S8192x1024, .f32⟩
  | .hbm, ⟨92, _⟩ => ⟨S8192x1024, .bf16⟩
  | .hbm, ⟨93, _⟩ => ⟨S8192x6400, .bf16⟩
  | .hbm, ⟨94, _⟩ => ⟨S8448x256, .bf16⟩
  | .hbm, ⟨95, _⟩ => ⟨S8x6400, .f32⟩
  | .hbm, ⟨96, _⟩ => ⟨S8x256, .f32⟩
  | .hbm, ⟨97, _⟩ => ⟨S8x1024, .f32⟩
  | .hbm, ⟨98, _⟩ => ⟨S8x128, .f32⟩
  | .local _ .vmem, ⟨0, _⟩ => ⟨S256x6400, .bf16⟩
  | .local _ .vmem, ⟨1, _⟩ => ⟨S256x6400, .bf16⟩
  | .local _ .vmem, ⟨2, _⟩ => ⟨S128x256, .bf16⟩
  | .local _ .vmem, ⟨3, _⟩ => ⟨S128x256, .bf16⟩
  | .local _ .vmem, ⟨4, _⟩ => ⟨S16x6400, .bf16⟩
  | .local _ .vmem, ⟨5, _⟩ => ⟨S16x6400, .bf16⟩
  | .local _ .vmem, ⟨6, _⟩ => ⟨S16x6400, .bf16⟩
  | .local _ .vmem, ⟨7, _⟩ => ⟨S16x6400, .bf16⟩
  | .local _ .vmem, ⟨8, _⟩ => ⟨S256x1024, .bf16⟩
  | .local _ .vmem, ⟨9, _⟩ => ⟨S256x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .bf16⟩
  | .local _ .vmem, ⟨13, _⟩ => ⟨S256x1024, .bf16⟩
  | .local _ .vmem, ⟨14, _⟩ => ⟨S3x1024, .f32⟩
  | .local _ .vmem, ⟨15, _⟩ => ⟨S256x6400, .bf16⟩
  | .local _ .vmem, ⟨16, _⟩ => ⟨S256x6400, .bf16⟩
  | .local _ .vmem, ⟨17, _⟩ => ⟨S256x256, .bf16⟩
  | .local _ .vmem, ⟨18, _⟩ => ⟨S256x256, .bf16⟩
  | .local _ .vmem, ⟨19, _⟩ => ⟨S8x6400, .f32⟩
  | .local _ .vmem, ⟨20, _⟩ => ⟨S8x256, .f32⟩
  | .local _ .vmem, ⟨21, _⟩ => ⟨S8x1024, .f32⟩
  | .local _ .vmem, ⟨22, _⟩ => ⟨S8x128, .f32⟩
  | .local _ .vmem, ⟨23, _⟩ => ⟨S128x256, .f32⟩
  | .local _ .smem, ⟨0, _⟩ => ⟨S1x16, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75_0 : Ref sig .tc := ⟨.hbm, 93, rfl⟩
abbrev main_v75_1 : Ref sig .tc := ⟨.hbm, 94, rfl⟩
abbrev main_v75_2 : Ref sig .tc := ⟨.hbm, 95, rfl⟩
abbrev main_v75_3 : Ref sig .tc := ⟨.hbm, 96, rfl⟩
abbrev main_v75_4 : Ref sig .tc := ⟨.hbm, 97, rfl⟩
abbrev main_v75_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c16_i32 : BitVec 32 := 16#32
  let v2 : BitVec 32 := Scalar.muli v1 c16_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c16_i32 : BitVec 32 := 16#32
  let v2 : BitVec 32 := Scalar.muli v1 c16_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6400 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x6400 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6400 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x6400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x6400 : Shape := ⟨2, ![8192, 6400]⟩
abbrev S8192x1024 : Shape := ⟨2, ![8192, 1024]⟩
abbrev S1x16 : Shape := ⟨2, ![1, 16]⟩
abbrev S3x1024 : Shape := ⟨2, ![3, 1024]⟩
abbrev S1x8192x6400 : Shape := ⟨3, ![1, 8192, 6400]⟩
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S1x2x1024 : Shape := ⟨3, ![1, 2, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S1x64x2x64x256 : Shape := ⟨5, ![1, 64, 2, 64, 256]⟩
abbrev S1x2x8x1 : Shape := ⟨4, ![1, 2, 8, 1]⟩
abbrev S64x2x8x128 : Shape := ⟨4, ![64, 2, 8, 128]⟩
abbrev S1x64x2x128x8x64 : Shape := ⟨6, ![1, 64, 2, 128, 8, 64]⟩
abbrev S1x64x2x256x64 : Shape := ⟨5, ![1, 64, 2, 256, 64]⟩
abbrev S6400 : Shape := ⟨1, ![6400]⟩
abbrev S1x6400 : Shape := ⟨2, ![1, 6400]⟩
abbrev S8192x256 : Shape := ⟨2, ![8192, 256]⟩
abbrev S8448x256 : Shape := ⟨2, ![8448, 256]⟩
abbrev S8x6400 : Shape := ⟨2, ![8, 6400]⟩
abbrev S8x256 : Shape := ⟨2, ![8, 256]⟩
abbrev S8x1024 : Shape := ⟨2, ![8, 1024]⟩
abbrev S8x128 : Shape := ⟨2, ![8, 128]⟩

abbrev nBuf : Space → Nat
  | .hbm => 349
  | .vmem => 0
  | .smem => 0
  | _ => 0

abbrev hbmTy0_0 (i : Nat) : BufTy := match i % 128 with
  | 0 => ⟨S8192x6400, .bf16⟩
  | 1 => ⟨S8192x1024, .bf16⟩
  | 2 => ⟨S1x16, .f32⟩
  | 3 => ⟨S3x1024, .f32⟩
  | 4 => ⟨S8192x6400, .f32⟩
  | 5 => ⟨S1x8192x6400, .f32⟩
  | 6 => ⟨S1x8192x1024, .f32⟩
  | 7 => ⟨S1x8192x128, .f32⟩
  | 8 => ⟨S1x8192x128, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S16, .f32⟩
  | 15 => ⟨S1x64x128x2x8x64, .f32⟩
  | 16 => ⟨S1x64x128x2x64, .f32⟩
  | 17 => ⟨S1x1x128x2x64, .f32⟩
  | 18 => ⟨S_, .f32⟩
  | 19 => ⟨S1x1x128x2x64, .f32⟩
  | 20 => ⟨S1x63x128x2x64, .f32⟩
  | 21 => ⟨S1x64x128x2x64, .f32⟩
  | 22 => ⟨S_, .f32⟩
  | 23 => ⟨S1x1x128x2x64, .f32⟩
  | 24 => ⟨S1x64x256x2x64, .f32⟩
  | 25 => ⟨S1x64x128x2x64, .f32⟩
  | 26 => ⟨S1x1x128x2x64, .f32⟩
  | 27 => ⟨S_, .f32⟩
  | 28 => ⟨S1x1x128x2x64, .f32⟩
  | 29 => ⟨S1x63x128x2x64, .f32⟩
  | 30 => ⟨S1x64x128x2x64, .f32⟩
  | 31 => ⟨S_, .f32⟩
  | 32 => ⟨S1x1x128x2x64, .f32⟩
  | 33 => ⟨S1x64x256x2x64, .f32⟩
  | 34 => ⟨S1x64x2x256x128x8, .f32⟩
  | 35 => ⟨S1x64x2x8x128x256, .f32⟩
  | 36 => ⟨S_, .f32⟩
  | 37 => ⟨S1x64x2x8x128x256, .f32⟩
  | 38 => ⟨S1x64x2x8x128x256, .f32⟩
  | 39 => ⟨S128, .i32⟩
  | 40 => ⟨S128x1, .i32⟩
  | 41 => ⟨S_, .i32⟩
  | 42 => ⟨S128x1, .i32⟩
  | 43 => ⟨S128x1, .i32⟩
  | 44 => ⟨S256, .i32⟩
  | 45 => ⟨S1x256, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S64, .i32⟩
  | 57 => ⟨S64x1x1, .i32⟩
  | 58 => ⟨S1x128x256, .i1⟩
  | 59 => ⟨S_, .i32⟩
  | 60 => ⟨S64x1x1, .i32⟩
  | 61 => ⟨S64x1x1, .i1⟩
  | 62 => ⟨S1x1x256, .i32⟩
  | 63 => ⟨S_, .i32⟩
  | 64 => ⟨S1x1x256, .i32⟩
  | 65 => ⟨S1x1x256, .i1⟩
  | 66 => ⟨S64x1x256, .i1⟩
  | 67 => ⟨S64x1x256, .i1⟩
  | 68 => ⟨S64x1x256, .i1⟩
  | 69 => ⟨S64x128x256, .i1⟩
  | 70 => ⟨S64x128x256, .i1⟩
  | 71 => ⟨S64x128x256, .i1⟩
  | 72 => ⟨S1x64x1x1x128x256, .i1⟩
  | 73 => ⟨S_, .f32⟩
  | 74 => ⟨S_, .f32⟩
  | 75 => ⟨S1x64x2x8x128x256, .i1⟩
  | 76 => ⟨S1x64x2x8x128x256, .f32⟩
  | 77 => ⟨S1x64x2x8x128x256, .f32⟩
  | 78 => ⟨S_, .f32⟩
  | 79 => ⟨S1x64x2x8x128x256, .f32⟩
  | 80 => ⟨S1x1x2x8x1x1, .f32⟩
  | 81 => ⟨S_, .f32⟩
  | 82 => ⟨S1x64x2x8x128, .f32⟩
  | 83 => ⟨S1x64x2x8x128x1, .f32⟩
  | 84 => ⟨S1x64x2x8x128x256, .f32⟩
  | 85 => ⟨S1x64x2x8x128x256, .i1⟩
  | 86 => ⟨S1x64x2x8x128x256, .f32⟩
  | 87 => ⟨S_, .f32⟩
  | 88 => ⟨S1x64x2x8x128, .f32⟩
  | 89 => ⟨S1x64x2x8x128x1, .f32⟩
  | 90 => ⟨S1x64x2x8x128x1, .f32⟩
  | 91 => ⟨S1x64x2x8x128x1, .f32⟩
  | 92 => ⟨S1x64x2x8x128x1, .f32⟩
  | 93 => ⟨S1x64x2x8x128x1, .i1⟩
  | 94 => ⟨S1x64x2x8x128x1, .f32⟩
  | 95 => ⟨S1x64x2x8x128x1, .i1⟩
  | 96 => ⟨S_, .f32⟩
  | 97 => ⟨S1x64x2x8x128x1, .f32⟩
  | 98 => ⟨S_, .f32⟩
  | 99 => ⟨S1x64x2x8x128x1, .f32⟩
  | 100 => ⟨S_, .f32⟩
  | 101 => ⟨S1x64x2x8x128x1, .f32⟩
  | 102 => ⟨S1x64x2x8x128x1, .f32⟩
  | 103 => ⟨S1x64x2x8x128x1, .f32⟩
  | 104 => ⟨S1x64x2x8x128x1, .f32⟩
  | 105 => ⟨S1x64x2x8x128x1, .i1⟩
  | 106 => ⟨S1x64x2x8x128x1, .f32⟩
  | 107 => ⟨S1x64x2x8x128x1, .i1⟩
  | 108 => ⟨S_, .f32⟩
  | 109 => ⟨S1x64x2x8x128x1, .f32⟩
  | 110 => ⟨S_, .f32⟩
  | 111 => ⟨S1x64x2x8x128x1, .f32⟩
  | 112 => ⟨S_, .f32⟩
  | 113 => ⟨S1x64x2x8x128x1, .f32⟩
  | 114 => ⟨S1x64x2x8x128x1, .f32⟩
  | 115 => ⟨S1x64x2x8x128x1, .f32⟩
  | 116 => ⟨S1x64x2x8x128x256, .f32⟩
  | 117 => ⟨S1x64x2x8x128x256, .f32⟩
  | 118 => ⟨S1x64x2x8x128x256, .f32⟩
  | 119 => ⟨S_, .f32⟩
  | 120 => ⟨S1x64x2x8x128, .f32⟩
  | 121 => ⟨S1x64x2x8x128x1, .f32⟩
  | 122 => ⟨S1x64x2x8x128x1, .f32⟩
  | 123 => ⟨S1x64x2x8x128x1, .f32⟩
  | 124 => ⟨S1x64x2x8x128x1, .f32⟩
  | 125 => ⟨S1x64x2x8x128x1, .f32⟩
  | 126 => ⟨S1x64x2x8x128x256, .f32⟩
  | 127 => ⟨S1x64x2x8x128x256, .f32⟩
  | _ => ⟨S8192x6400, .bf16⟩

abbrev hbmTy0_1 (i : Nat) : BufTy := match i % 128 with
  | 0 => ⟨S1x64x2x8x128x1, .f32⟩
  | 1 => ⟨S_, .f32⟩
  | 2 => ⟨S1x64x2x8x128x1, .f32⟩
  | 3 => ⟨S1x64x2x8x128x1, .f32⟩
  | 4 => ⟨S1x64x2x64x8x128, .f32⟩
  | 5 => ⟨S1x64x128x2x8x64, .f32⟩
  | 6 => ⟨S1x8192x1024, .f32⟩
  | 7 => ⟨S1x8192x1024, .f32⟩
  | 8 => ⟨S1x2x1024, .f32⟩
  | 9 => ⟨S_, .f32⟩
  | 10 => ⟨S1x2x1024, .f32⟩
  | 11 => ⟨S1x8194x1024, .f32⟩
  | 12 => ⟨S_, .f32⟩
  | 13 => ⟨S1x2x1024, .f32⟩
  | 14 => ⟨S1x1024, .f32⟩
  | 15 => ⟨S1024, .f32⟩
  | 16 => ⟨S1x8192x1024, .f32⟩
  | 17 => ⟨S1x1x1024, .f32⟩
  | 18 => ⟨S1x8192x1024, .f32⟩
  | 19 => ⟨S1x8192x1024, .f32⟩
  | 20 => ⟨S_, .f32⟩
  | 21 => ⟨S1x8192x1024, .f32⟩
  | 22 => ⟨S1x8192x1024, .f32⟩
  | 23 => ⟨S1x1024, .f32⟩
  | 24 => ⟨S1024, .f32⟩
  | 25 => ⟨S1x8192x1024, .f32⟩
  | 26 => ⟨S1x1x1024, .f32⟩
  | 27 => ⟨S1x8192x1024, .f32⟩
  | 28 => ⟨S1x8192x1024, .f32⟩
  | 29 => ⟨S1x8192x1024, .f32⟩
  | 30 => ⟨S1x1024, .f32⟩
  | 31 => ⟨S1024, .f32⟩
  | 32 => ⟨S1x8192x1024, .f32⟩
  | 33 => ⟨S1x1x1024, .f32⟩
  | 34 => ⟨S1x8192x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S_, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S_, .f32⟩
  | 57 => ⟨S1x8192x1024, .f32⟩
  | 58 => ⟨S1x8192x1024, .f32⟩
  | 59 => ⟨S_, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S8192x1024, .f32⟩
  | 66 => ⟨S8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S_, .f32⟩
  | 80 => ⟨S1x1024, .f32⟩
  | 81 => ⟨S1x1x1024, .f32⟩
  | 82 => ⟨S_, .f32⟩
  | 83 => ⟨S1024, .f32⟩
  | 84 => ⟨S_, .f32⟩
  | 85 => ⟨S1x8194x1024, .f32⟩
  | 86 => ⟨S1x1024, .f32⟩
  | 87 => ⟨S_, .f32⟩
  | 88 => ⟨S3x1024, .f32⟩
  | 89 => ⟨S1x8192x1024, .f32⟩
  | 90 => ⟨S1x8192x1024, .f32⟩
  | 91 => ⟨S1x8192x1024, .f32⟩
  | 92 => ⟨S_, .f32⟩
  | 93 => ⟨S1x1024, .f32⟩
  | 94 => ⟨S1x1x1024, .f32⟩
  | 95 => ⟨S_, .f32⟩
  | 96 => ⟨S1024, .f32⟩
  | 97 => ⟨S_, .f32⟩
  | 98 => ⟨S1x8194x1024, .f32⟩
  | 99 => ⟨S1x8194x1024, .f32⟩
  | 100 => ⟨S1x1024, .f32⟩
  | 101 => ⟨S_, .f32⟩
  | 102 => ⟨S3x1024, .f32⟩
  | 103 => ⟨S3x1024, .f32⟩
  | 104 => ⟨S1x8192x1024, .f32⟩
  | 105 => ⟨S1x8192x1024, .f32⟩
  | 106 => ⟨S1x8192x1024, .f32⟩
  | 107 => ⟨S_, .f32⟩
  | 108 => ⟨S1x1024, .f32⟩
  | 109 => ⟨S1x1x1024, .f32⟩
  | 110 => ⟨S_, .f32⟩
  | 111 => ⟨S1024, .f32⟩
  | 112 => ⟨S_, .f32⟩
  | 113 => ⟨S1x8194x1024, .f32⟩
  | 114 => ⟨S1x8194x1024, .f32⟩
  | 115 => ⟨S1x1024, .f32⟩
  | 116 => ⟨S_, .f32⟩
  | 117 => ⟨S3x1024, .f32⟩
  | 118 => ⟨S3x1024, .f32⟩
  | 119 => ⟨S1x2x1024, .f32⟩
  | 120 => ⟨S1x8192x1024, .f32⟩
  | 121 => ⟨S1x8192x1024, .f32⟩
  | 122 => ⟨S1x8192x1024, .f32⟩
  | 123 => ⟨S1x64x128x2x8x64, .f32⟩
  | 124 => ⟨S1x64x2x64x8x128, .f32⟩
  | 125 => ⟨S1x64x2x8x128x256, .f32⟩
  | 126 => ⟨S1x64x2x64x256, .f32⟩
  | 127 => ⟨S1x64x256x2x64, .f32⟩
  | _ => ⟨S8192x6400, .bf16⟩

abbrev hbmTy0_2 (i : Nat) : BufTy := match i % 128 with
  | 0 => ⟨S1x64x2x8x128x256, .f32⟩
  | 1 => ⟨S1x64x2x8x128x256, .f32⟩
  | 2 => ⟨S1x64x2x8x128x256, .f32⟩
  | 3 => ⟨S_, .f32⟩
  | 4 => ⟨S1x64x2x8x128, .f32⟩
  | 5 => ⟨S1x64x2x8x128x1, .f32⟩
  | 6 => ⟨S1x64x2x8x128x1, .f32⟩
  | 7 => ⟨S1x64x2x8x128x256, .f32⟩
  | 8 => ⟨S1x64x2x8x128x256, .f32⟩
  | 9 => ⟨S1x64x2x8x128x1, .f32⟩
  | 10 => ⟨S_, .f32⟩
  | 11 => ⟨S1x2x8x1, .f32⟩
  | 12 => ⟨S1x1x2x8x1x1, .f32⟩
  | 13 => ⟨S1x64x2x8x128x1, .f32⟩
  | 14 => ⟨S_, .f32⟩
  | 15 => ⟨S64x2x8x128, .f32⟩
  | 16 => ⟨S1x64x2x8x128, .f32⟩
  | 17 => ⟨S1x64x2x8x128x256, .f32⟩
  | 18 => ⟨S1x64x2x8x128x256, .f32⟩
  | 19 => ⟨S1x64x2x8x128x256, .f32⟩
  | 20 => ⟨S1x64x2x8x128x256, .f32⟩
  | 21 => ⟨S_, .f32⟩
  | 22 => ⟨S1x64x2x8x128, .f32⟩
  | 23 => ⟨S1x64x2x8x128x1, .f32⟩
  | 24 => ⟨S1x64x2x8x128x1, .f32⟩
  | 25 => ⟨S1x64x2x8x128x1, .f32⟩
  | 26 => ⟨S_, .f32⟩
  | 27 => ⟨S1x2x8x1, .f32⟩
  | 28 => ⟨S1x1x2x8x1x1, .f32⟩
  | 29 => ⟨S1x1x2x8x1x1, .f32⟩
  | 30 => ⟨S1x64x2x8x128x1, .f32⟩
  | 31 => ⟨S_, .f32⟩
  | 32 => ⟨S64x2x8x128, .f32⟩
  | 33 => ⟨S1x64x2x8x128, .f32⟩
  | 34 => ⟨S1x64x2x8x128, .f32⟩
  | 35 => ⟨S1x64x2x8x128x256, .f32⟩
  | 36 => ⟨S1x64x2x8x128x256, .f32⟩
  | 37 => ⟨S1x64x2x8x128x256, .f32⟩
  | 38 => ⟨S16, .f32⟩
  | 39 => ⟨S_, .f32⟩
  | 40 => ⟨S1x64x2x8x128x256, .f32⟩
  | 41 => ⟨S1x64x2x8x128x256, .f32⟩
  | 42 => ⟨S_, .f32⟩
  | 43 => ⟨S1x64x2x8x128x256, .f32⟩
  | 44 => ⟨S1x64x2x8x128x256, .f32⟩
  | 45 => ⟨S1x64x2x256x128x8, .f32⟩
  | 46 => ⟨S1x64x2x128x8x64, .f32⟩
  | 47 => ⟨S1x64x128x2x8x64, .f32⟩
  | 48 => ⟨S1x64x2x256x64, .f32⟩
  | 49 => ⟨S1x64x256x2x64, .f32⟩
  | 50 => ⟨S1x64x128x2x64, .f32⟩
  | 51 => ⟨S1x64x128x2x64, .f32⟩
  | 52 => ⟨S1x1x128x2x64, .f32⟩
  | 53 => ⟨S1x63x128x2x64, .f32⟩
  | 54 => ⟨S_, .f32⟩
  | 55 => ⟨S1x64x128x2x64, .f32⟩
  | 56 => ⟨S1x64x128x2x64, .f32⟩
  | 57 => ⟨S1x8192x128, .f32⟩
  | 58 => ⟨S1x64x128x2x64, .f32⟩
  | 59 => ⟨S1x64x128x2x64, .f32⟩
  | 60 => ⟨S1x1x128x2x64, .f32⟩
  | 61 => ⟨S1x63x128x2x64, .f32⟩
  | 62 => ⟨S_, .f32⟩
  | 63 => ⟨S1x64x128x2x64, .f32⟩
  | 64 => ⟨S1x64x128x2x64, .f32⟩
  | 65 => ⟨S1x8192x128, .f32⟩
  | 66 => ⟨S1x8192x1024, .f32⟩
  | 67 => ⟨S1x16, .f32⟩
  | 68 => ⟨S1x8192x6400, .f32⟩
  | 69 => ⟨S_, .f32⟩
  | 70 => ⟨S8192x6400, .f32⟩
  | 71 => ⟨S_, .f32⟩
  | 72 => ⟨S6400, .f32⟩
  | 73 => ⟨S1x6400, .f32⟩
  | 74 => ⟨S8192x6400, .bf16⟩
  | 75 => ⟨S8192x256, .f32⟩
  | 76 => ⟨S_, .i32⟩
  | 77 => ⟨S_, .f32⟩
  | 78 => ⟨S8448x256, .f32⟩
  | 79 => ⟨S8448x256, .bf16⟩
  | 80 => ⟨S_, .i32⟩
  | 81 => ⟨S_, .f32⟩
  | 82 => ⟨S8x6400, .f32⟩
  | 83 => ⟨S1x256, .f32⟩
  | 84 => ⟨S_, .i32⟩
  | 85 => ⟨S_, .f32⟩
  | 86 => ⟨S8x256, .f32⟩
  | 87 => ⟨S_, .i32⟩
  | 88 => ⟨S_, .f32⟩
  | 89 => ⟨S8x1024, .f32⟩
  | 90 => ⟨S_, .i32⟩
  | 91 => ⟨S_, .f32⟩
  | 92 => ⟨S8x128, .f32⟩
  | _ => ⟨S8192x6400, .bf16⟩

abbrev hbmTy (i : Nat) : BufTy := match i / 128 with
  | 0 => hbmTy0_0 i
  | 1 => hbmTy0_1 i
  | 2 => hbmTy0_2 i
  | _ => ⟨S8192x6400, .bf16⟩

abbrev bufTy : (tb : Table) → Fin (tcTables nBuf tb) → BufTy
  | .hbm, ⟨i, _⟩ => hbmTy i
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_call0_v0 : Ref sig .tc := ⟨.hbm, 74, rfl⟩
abbrev main_v59_1 : Ref sig .tc := ⟨.hbm, 75, rfl⟩
abbrev main_call0_v2 : Ref sig .tc := ⟨.hbm, 76, rfl⟩
abbrev main_v59_0 : Ref sig .tc := ⟨.hbm, 77, rfl⟩
abbrev main_call0_cst : Ref sig .tc := ⟨.hbm, 78, rfl⟩
abbrev main_v59_2 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_18 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_cst_20 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_21 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_22 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_v138 : Ref sig .tc := ⟨.hbm, 173, rfl⟩
abbrev main_cst_24 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_25 : Ref sig .tc := ⟨.hbm, 181, rfl⟩
abbrev main_v145 : Ref sig .tc := ⟨.hbm, 182, rfl⟩
abbrev main_v146 : Ref sig .tc := ⟨.hbm, 183, rfl⟩
abbrev main_cst_26 : Ref sig .tc := ⟨.hbm, 184, rfl⟩
abbrev main_v147 : Ref sig .tc := ⟨.hbm, 185, rfl⟩
abbrev main_v148 : Ref sig .tc := ⟨.hbm, 186, rfl⟩
abbrev main_cst_27 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_28 : Ref sig .tc := ⟨.hbm, 207, rfl⟩
abbrev main_v168 : Ref sig .tc := ⟨.hbm, 208, rfl⟩
abbrev main_v169 : Ref sig .tc := ⟨.hbm, 209, rfl⟩
abbrev main_cst_29 : Ref sig .tc := ⟨.hbm, 210, rfl⟩
abbrev main_v170 : Ref sig .tc := ⟨.hbm, 211, rfl⟩
abbrev main_cst_30 : Ref sig .tc := ⟨.hbm, 212, rfl⟩
abbrev main_v171 : Ref sig .tc := ⟨.hbm, 213, rfl⟩
abbrev main_v172 : Ref sig .tc := ⟨.hbm, 214, rfl⟩
abbrev main_cst_31 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_32 : Ref sig .tc := ⟨.hbm, 220, rfl⟩
abbrev main_v177 : Ref sig .tc := ⟨.hbm, 221, rfl⟩
abbrev main_v178 : Ref sig .tc := ⟨.hbm, 222, rfl⟩
abbrev main_cst_33 : Ref sig .tc := ⟨.hbm, 223, rfl⟩
abbrev main_v179 : Ref sig .tc := ⟨.hbm, 224, rfl⟩
abbrev main_cst_34 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_35 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_36 : Ref sig .tc := ⟨.hbm, 235, rfl⟩
abbrev main_v188 : Ref sig .tc := ⟨.hbm, 236, rfl⟩
abbrev main_v189 : Ref sig .tc := ⟨.hbm, 237, rfl⟩
abbrev main_cst_37 : Ref sig .tc := ⟨.hbm, 238, rfl⟩
abbrev main_v190 : Ref sig .tc := ⟨.hbm, 239, rfl⟩
abbrev main_cst_38 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_39 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_cst_40 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_41 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_42 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_cst_43 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_cst_44 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_45 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_call1_cst : Ref sig .tc := ⟨.hbm, 295, rfl⟩
abbrev main_call1_v0 : Ref sig .tc := ⟨.hbm, 296, rfl⟩
abbrev main_v238 : Ref sig .tc := ⟨.hbm, 297, rfl⟩
abbrev main_cst_46 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_47 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_48 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_cst_49 : Ref sig .tc := ⟨.hbm, 325, rfl⟩
abbrev main_v263 : Ref sig .tc := ⟨.hbm, 326, rfl⟩
abbrev main_cst_50 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_c_51 : Ref sig .tc := ⟨.hbm, 332, rfl⟩
abbrev main_call2_v0 : Ref sig .tc := ⟨.hbm, 333, rfl⟩
abbrev main_v268 : Ref sig .tc := ⟨.hbm, 334, rfl⟩
abbrev main_v269 : Ref sig .tc := ⟨.hbm, 335, rfl⟩
abbrev main_c_52 : Ref sig .tc := ⟨.hbm, 336, rfl⟩
abbrev main_call3_v0 : Ref sig .tc := ⟨.hbm, 337, rfl⟩
abbrev main_v270 : Ref sig .tc := ⟨.hbm, 338, rfl⟩
abbrev main_v271 : Ref sig .tc := ⟨.hbm, 339, rfl⟩
abbrev main_c_53 : Ref sig .tc := ⟨.hbm, 340, rfl⟩
abbrev main_call4_v0 : Ref sig .tc := ⟨.hbm, 341, rfl⟩
abbrev main_v272 : Ref sig .tc := ⟨.hbm, 342, rfl⟩
abbrev main_c_54 : Ref sig .tc := ⟨.hbm, 343, rfl⟩
abbrev main_call5_v0 : Ref sig .tc := ⟨.hbm, 344, rfl⟩
abbrev main_v273 : Ref sig .tc := ⟨.hbm, 345, rfl⟩
abbrev main_c_55 : Ref sig .tc := ⟨.hbm, 346, rfl⟩
abbrev main_call6_v0 : Ref sig .tc := ⟨.hbm, 347, rfl⟩
abbrev main_v274 : Ref sig .tc := ⟨.hbm, 348, rfl⟩

abbrev nD : Nat := 1
abbrev τ : Topo := Topo.v7x

variable {F : FTy → Type} [FloatOps F]
-- ==== Kernel3.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x8192x2816 : Shape := ⟨3, ![2, 8192, 2816]⟩
abbrev S8192x2816 : Shape := ⟨2, ![8192, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S2816x1024 : Shape := ⟨2, ![2816, 1024]⟩
abbrev S1408x1024 : Shape := ⟨2, ![1408, 1024]⟩
abbrev S384x1024 : Shape := ⟨2, ![384, 1024]⟩
abbrev S1024x384 : Shape := ⟨2, ![1024, 384]⟩
abbrev S1x1024x384 : Shape := ⟨3, ![1, 1024, 384]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1x2816x1024, .f32⟩
  | .hbm, ⟨3, _⟩ => ⟨S8192x1024, .bf16⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2x8192x2816, .bf16⟩
  | .hbm, ⟨9, _⟩ => ⟨S8192x2816, .bf16⟩
  | .hbm, ⟨10, _⟩ => ⟨S2816x1024, .f32⟩
  | .hbm, ⟨11, _⟩ => ⟨S2816x1024, .bf16⟩
  | .hbm, ⟨12, _⟩ => ⟨S2x8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1024, .bf16⟩
  | .local _ .vmem, ⟨11, _⟩ => ⟨S1024x1024, .bf16⟩
  | .local _ .vmem, ⟨12, _⟩ => ⟨S1408x1024, .bf16⟩
  | .local _ .vmem, ⟨13, _⟩ => ⟨S1408x1024, .bf16⟩
  | .local _ .vmem, ⟨14, _⟩ => ⟨S2x1024x1408, .bf16⟩
  | .local _ .vmem, ⟨15, _⟩ => ⟨S2x1024x1408, .bf16⟩
  | .local _ .vmem, ⟨16, _⟩ => ⟨S2x1024x1408, .bf16⟩
  | .local _ .vmem, ⟨17, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference3Ideal.lean ====
abbrev S8192x1024 : Shape := ⟨2, ![8192, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S2816x1024 : Shape := ⟨2, ![2816, 1024]⟩
abbrev S1x8192x2816 : Shape := ⟨3, ![1, 8192, 2816]⟩
abbrev S2x8192x2816 : Shape := ⟨3, ![2, 8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1x2816x1024, .f32⟩
  | .hbm, ⟨3, _⟩ => ⟨S8192x1024, .bf16⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S1x8192x2816, .f32⟩
  | .hbm, ⟨37, _⟩ => ⟨S1x8192x2816, .f32⟩
  | .hbm, ⟨38, _⟩ => ⟨S2x8192x2816, .f32⟩
  | .hbm, ⟨39, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel4.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S2816x1024 : Shape := ⟨2, ![2816, 1024]⟩
abbrev S8x1024 : Shape := ⟨2, ![8, 1024]⟩
abbrev S1024x2816 : Shape := ⟨2, ![1024, 2816]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S5x1024, .f32⟩
  | .hbm, ⟨90, _⟩ => ⟨S8x1024, .f32⟩
  | .hbm, ⟨91, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel5.lean ====
abbrev S8192x6400 : Shape := ⟨2, ![8192, 6400]⟩
abbrev S1x1024x6400 : Shape := ⟨3, ![1, 1024, 6400]⟩
abbrev S8192x1024 : Shape := ⟨2, ![8192, 1024]⟩
abbrev S1x1024 : Shape := ⟨2, ![1, 1024]⟩
abbrev S8192x256 : Shape := ⟨2, ![8192, 256]⟩
abbrev S1024x6400 : Shape := ⟨2, ![1024, 6400]⟩
abbrev S6400x1024 : Shape := ⟨2, ![6400, 1024]⟩
abbrev S8x1024 : Shape := ⟨2, ![8, 1024]⟩
abbrev S512x6400 : Shape := ⟨2, ![512, 6400]⟩
abbrev S512x256 : Shape := ⟨2, ![512, 256]⟩
abbrev S512x1024 : Shape := ⟨2, ![512, 1024]⟩
abbrev S1024x1024 : Shape := ⟨2, ![1024, 1024]⟩
abbrev S256x1024 : Shape := ⟨2, ![256, 1024]⟩
abbrev S512x5120 : Shape := ⟨2, ![512, 5120]⟩
abbrev S5120x1024 : Shape := ⟨2, ![5120, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S8192x6400, .bf16⟩
  | .hbm, ⟨1, _⟩ => ⟨S1x1024x6400, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x256, .bf16⟩
  | .hbm, ⟨7, _⟩ => ⟨S1024x6400, .f32⟩
  | .hbm, ⟨8, _⟩ => ⟨S6400x1024, .f32⟩
  | .hbm, ⟨9, _⟩ => ⟨S6400x1024, .bf16⟩
  | .hbm, ⟨10, _⟩ => ⟨S8192x1024, .f32⟩
  | .hbm, ⟨11, _⟩ => ⟨S8x1024, .f32⟩
  | .local _ .vmem, ⟨0, _⟩ => ⟨S512x6400, .bf16⟩
  | .local _ .vmem, ⟨1, _⟩ => ⟨S512x6400, .bf16⟩
  | .local _ .vmem, ⟨2, _⟩ => ⟨S512x256, .bf16⟩
  | .local _ .vmem, ⟨3, _⟩ => ⟨S512x256, .bf16⟩
  | .local _ .vmem, ⟨4, _⟩ => ⟨S6400x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6400x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x6400 : Shape := ⟨2, ![8192, 6400]⟩
abbrev S1x1024x6400 : Shape := ⟨3, ![1, 1024, 6400]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S1024x6400 : Shape := ⟨2, ![1024, 6400]⟩
abbrev S5x1024 : Shape := ⟨2, ![5, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S1x1024x6400, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x6400, .f32⟩
  | .hbm, ⟨37, _⟩ => ⟨S8192x6400, .f32⟩
  | .hbm, ⟨38, _⟩ => ⟨S8192x6400, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S_, .f32⟩
  | .hbm, ⟨77, _⟩ => ⟨S5x1024, .f32⟩
  | .hbm, ⟨78, _⟩ => ⟨S8x1024, .f32⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel6.lean ====
abbrev S8192x1024 : Shape := ⟨2, ![8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x8192x2816 : Shape := ⟨3, ![2, 8192, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1024x1024 : Shape := ⟨2, ![1024, 1024]⟩
abbrev S1024 : Shape := ⟨1, ![1024]⟩
abbrev S1024x1 : Shape := ⟨2, ![1024, 1]⟩
abbrev S8x1024 : Shape := ⟨2, ![8, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 22
  | .vmem => 32
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S2x8192x2816, .bf16⟩
  | .hbm, ⟨9, _⟩ => ⟨S8192x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | .hbm, ⟨14, _⟩ => ⟨S1024x1024, .f32⟩
  | .hbm, ⟨15, _⟩ => ⟨S1024x1024, .bf16⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S2x512x2816, .bf16⟩
  | .local _ .vmem, ⟨16, _⟩ => ⟨S2x512x2816, .bf16⟩
  | .local _ .vmem, ⟨17, _⟩ => ⟨S4x1024x1408, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x1408 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== Reference6Ideal.lean ====
abbrev S8192x1024 : Shape := ⟨2, ![8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x8192x2816 : Shape := ⟨3, ![2, 8192, 2816]⟩
abbrev S1024x1024 : Shape := ⟨2, ![1024, 1024]⟩
abbrev S1x8192x2816 : Shape := ⟨3, ![1, 8192, 2816]⟩
abbrev S8192x2816 : Shape := ⟨2, ![8192, 2816]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S4x1024 : Shape := ⟨2, ![4, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S2x8192x2816, .bf16⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S1x8192x2816, .bf16⟩
  | .hbm, ⟨14, _⟩ => ⟨S8192x2816, .bf16⟩
  | .hbm, ⟨15, _⟩ => ⟨S1x8192x2816, .bf16⟩
  | .hbm, ⟨16, _⟩ => ⟨S8192x2816, .bf16⟩
  | .hbm, ⟨17, _⟩ => ⟨S8192x5632, .bf16⟩
  | .hbm, ⟨18, _⟩ => ⟨S8192x5632, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x5632, .f32⟩
  | .hbm, ⟨51, _⟩ => ⟨S8192x5632, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S4x1024, .f32⟩
  | .hbm, ⟨98, _⟩ => ⟨S8x1024, .f32⟩
  | .hbm, ⟨99, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel7.lean ====
abbrev S8192x6400 : Shape := ⟨2, ![8192, 6400]⟩
abbrev S1x16 : Shape := ⟨2, ![1, 16]⟩
abbrev S3x1024 : Shape := ⟨2, ![3, 1024]⟩
abbrev S8192x1024 : Shape := ⟨2, ![8192, 1024]⟩
abbrev S512x6400 : Shape := ⟨2, ![512, 6400]⟩
abbrev S128x256 : Shape := ⟨2, ![128, 256]⟩
abbrev S16x6400 : Shape := ⟨2, ![16, 6400]⟩
abbrev S512x1024 : Shape := ⟨2, ![512, 1024]⟩
abbrev S512x256 : Shape := ⟨2, ![512, 256]⟩
abbrev S512x128 : Shape := ⟨2, ![512, 128]⟩
abbrev S256x256 : Shape := ⟨2, ![256, 256]⟩
abbrev S256x128 : Shape := ⟨2, ![256, 128]⟩
abbrev S128x128 : Shape := ⟨2, ![128, 128]⟩
abbrev S512x1 : Shape := ⟨2, ![512, 1]⟩
abbrev S1x1 : Shape := ⟨2, ![1, 1]⟩
abbrev S512 : Shape := ⟨1, ![512]⟩
abbrev S128x1024 : Shape := ⟨2, ![128, 1024]⟩
abbrev S16x1024 : Shape := ⟨2, ![16, 1024]⟩
abbrev S1x1024 : Shape := ⟨2, ![1, 1024]⟩

abbrev nBuf : Space → Nat
  | .hbm => 5
  | .vmem => 11
  | .smem => 1
  | _ => 0

abbrev bufTy : (tb : Table) → Fin (tcTables nBuf tb) → BufTy
  | .hbm, ⟨0, _⟩ => ⟨S8192x6400, .bf16⟩
  | .hbm, ⟨1, _⟩ => ⟨S1x16, .f32⟩
  | .hbm, ⟨2, _⟩ => ⟨S3x1024, .f32⟩
  | .hbm, ⟨3, _⟩ => ⟨S8192x1024, .bf16⟩
  | .hbm, ⟨4, _⟩ => ⟨S8192x1024, .bf16⟩
  | .local _ .vmem, ⟨0, _⟩ => ⟨S512x6400, .bf16⟩
  | .local _ .vmem, ⟨1, _⟩ => ⟨S512x6400, .bf16⟩
  | .local _ .vmem, ⟨2, _⟩ => ⟨S128x256, .bf16⟩
  | .local _ .vmem, ⟨3, _⟩ => ⟨S128x256, .bf16⟩
  | .local _ .vmem, ⟨4, _⟩ => ⟨S16x6400, .bf16⟩
  | .local _ .vmem, ⟨5, _⟩ => ⟨S16x6400, .bf16⟩
  | .local _ .vmem, ⟨6, _⟩ => ⟨S3x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .smem, ⟨0, _⟩ => ⟨S1x16, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6400 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x6400 : Shape := ⟨2, ![8192, 6400]⟩
abbrev S1x16 : Shape := ⟨2, ![1, 16]⟩
abbrev S3x1024 : Shape := ⟨2, ![3, 1024]⟩
abbrev S1x8192x6400 : Shape := ⟨3, ![1, 8192, 6400]⟩
abbrev S1x8192x1024 : Shape := ⟨3, ![1, 8192, 1024]⟩
abbrev S1x8192x128 : Shape := ⟨3, ![1, 8192, 128]⟩
abbrev S16 : Shape := ⟨1, ![16]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S1x2x1024 : Shape := ⟨3, ![1, 2, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 146
  | .vmem => 0
  | .smem => 0
  | _ => 0

abbrev hbmTy0_0 (i : Nat) : BufTy := match i % 128 with
  | 0 => ⟨S8192x6400, .bf16⟩
  | 1 => ⟨S1x16, .f32⟩
  | 2 => ⟨S3x1024, .f32⟩
  | 3 => ⟨S8192x6400, .f32⟩
  | 4 => ⟨S1x8192x6400, .f32⟩
  | 5 => ⟨S1x8192x1024, .f32⟩
  | 6 => ⟨S1x8192x128, .f32⟩
  | 7 => ⟨S1x8192x128, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S16, .f32⟩
  | 14 => ⟨S1x64x128x2x8x64, .f32⟩
  | 15 => ⟨S1x64x128x2x64, .f32⟩
  | 16 => ⟨S1x1x128x2x64, .f32⟩
  | 17 => ⟨S_, .f32⟩
  | 18 => ⟨S1x1x128x2x64, .f32⟩
  | 19 => ⟨S1x63x128x2x64, .f32⟩
  | 20 => ⟨S1x64x128x2x64, .f32⟩
  | 21 => ⟨S1x64x256x2x64, .f32⟩
  | 22 => ⟨S1x64x128x2x64, .f32⟩
  | 23 => ⟨S1x1x128x2x64, .f32⟩
  | 24 => ⟨S_, .f32⟩
  | 25 => ⟨S1x1x128x2x64, .f32⟩
  | 26 => ⟨S1x63x128x2x64, .f32⟩
  | 27 => ⟨S1x64x128x2x64, .f32⟩
  | 28 => ⟨S1x64x256x2x64, .f32⟩
  | 29 => ⟨S1x64x2x256x128x8, .f32⟩
  | 30 => ⟨S1x64x2x8x128x256, .f32⟩
  | 31 => ⟨S_, .f32⟩
  | 32 => ⟨S1x64x2x8x128x256, .f32⟩
  | 33 => ⟨S1x64x2x8x128x256, .f32⟩
  | 34 => ⟨S128, .i32⟩
  | 35 => ⟨S128x1, .i32⟩
  | 36 => ⟨S_, .i32⟩
  | 37 => ⟨S128x1, .i32⟩
  | 38 => ⟨S128x1, .i32⟩
  | 39 => ⟨S256, .i32⟩
  | 40 => ⟨S1x256, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S64, .i32⟩
  | 52 => ⟨S64x1x1, .i32⟩
  | 53 => ⟨S1x128x256, .i1⟩
  | 54 => ⟨S_, .i32⟩
  | 55 => ⟨S64x1x1, .i32⟩
  | 56 => ⟨S64x1x1, .i1⟩
  | 57 => ⟨S1x1x256, .i32⟩
  | 58 => ⟨S_, .i32⟩
  | 59 => ⟨S1x1x256, .i32⟩
  | 60 => ⟨S1x1x256, .i1⟩
  | 61 => ⟨S64x1x256, .i1⟩
  | 62 => ⟨S64x1x256, .i1⟩
  | 63 => ⟨S64x1x256, .i1⟩
  | 64 => ⟨S64x128x256, .i1⟩
  | 65 => ⟨S64x128x256, .i1⟩
  | 66 => ⟨S64x128x256, .i1⟩
  | 67 => ⟨S1x64x1x1x128x256, .i1⟩
  | 68 => ⟨S_, .f32⟩
  | 69 => ⟨S_, .f32⟩
  | 70 => ⟨S1x64x2x8x128x256, .i1⟩
  | 71 => ⟨S1x64x2x8x128x256, .f32⟩
  | 72 => ⟨S1x64x2x8x128x256, .f32⟩
  | 73 => ⟨S1x1x2x8x1x1, .f32⟩
  | 74 => ⟨S_, .f32⟩
  | 75 => ⟨S1x64x2x8x128, .f32⟩
  | 76 => ⟨S1x64x2x8x128x1, .f32⟩
  | 77 => ⟨S1x64x2x8x128x1, .f32⟩
  | 78 => ⟨S1x64x2x8x128x1, .f32⟩
  | 79 => ⟨S1x64x2x8x128x256, .f32⟩
  | 80 => ⟨S1x64x2x8x128x256, .f32⟩
  | 81 => ⟨S1x64x2x8x128x256, .f32⟩
  | 82 => ⟨S_, .f32⟩
  | 83 => ⟨S1x64x2x8x128, .f32⟩
  | 84 => ⟨S1x64x2x8x128x1, .f32⟩
  | 85 => ⟨S1x64x2x8x128x1, .f32⟩
  | 86 => ⟨S1x64x2x8x128x1, .f32⟩
  | 87 => ⟨S1x64x2x8x128x1, .f32⟩
  | 88 => ⟨S1x64x2x8x128x1, .f32⟩
  | 89 => ⟨S1x64x2x8x128x256, .f32⟩
  | 90 => ⟨S1x64x2x8x128x256, .f32⟩
  | 91 => ⟨S1x64x2x64x8x128, .f32⟩
  | 92 => ⟨S1x64x128x2x8x64, .f32⟩
  | 93 => ⟨S1x8192x1024, .f32⟩
  | 94 => ⟨S1x8192x1024, .f32⟩
  | 95 => ⟨S1x2x1024, .f32⟩
  | 96 => ⟨S_, .f32⟩
  | 97 => ⟨S1x2x1024, .f32⟩
  | 98 => ⟨S1x8194x1024, .f32⟩
  | 99 => ⟨S1x1024, .f32⟩
  | 100 => ⟨S1024, .f32⟩
  | 101 => ⟨S1x8192x1024, .f32⟩
  | 102 => ⟨S1x1x1024, .f32⟩
  | 103 => ⟨S1x8192x1024, .f32⟩
  | 104 => ⟨S1x8192x1024, .f32⟩
  | 105 => ⟨S_, .f32⟩
  | 106 => ⟨S1x8192x1024, .f32⟩
  | 107 => ⟨S1x8192x1024, .f32⟩
  | 108 => ⟨S1x1024, .f32⟩
  | 109 => ⟨S1024, .f32⟩
  | 110 => ⟨S1x8192x1024, .f32⟩
  | 111 => ⟨S1x1x1024, .f32⟩
  | 112 => ⟨S1x8192x1024, .f32⟩
  | 113 => ⟨S1x8192x1024, .f32⟩
  | 114 => ⟨S1x8192x1024, .f32⟩
  | 115 => ⟨S1x1024, .f32⟩
  | 116 => ⟨S1024, .f32⟩
  | 117 => ⟨S1x8192x1024, .f32⟩
  | 118 => ⟨S1x1x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S8192x6400, .bf16⟩

abbrev hbmTy0_1 (i : Nat) : BufTy := match i % 128 with
  | 0 => ⟨S_, .f32⟩
  | 1 => ⟨S1x8192x1024, .f32⟩
  | 2 => ⟨S1x8192x1024, .f32⟩
  | 3 => ⟨S1x8192x1024, .f32⟩
  | 4 => ⟨S1x8192x1024, .f32⟩
  | 5 => ⟨S1x8192x1024, .f32⟩
  | 6 => ⟨S_, .f32⟩
  | 7 => ⟨S1x8192x1024, .f32⟩
  | 8 => ⟨S1x8192x1024, .f32⟩
  | 9 => ⟨S_, .f32⟩
  | 10 => ⟨S1x8192x1024, .f32⟩
  | 11 => ⟨S1x8192x1024, .f32⟩
  | 12 => ⟨S1x8192x1024, .f32⟩
  | 13 => ⟨S1x8192x1024, .f32⟩
  | 14 => ⟨S8192x1024, .f32⟩
  | 15 => ⟨S8192x1024, .bf16⟩
  | 16 => ⟨S8192x1024, .f32⟩
  | 17 => ⟨S8192x1024, .bf16⟩
  | _ => ⟨S8192x6400, .bf16⟩

abbrev hbmTy (i : Nat) : BufTy := match i / 128 with
  | 0 => hbmTy0_0 i
  | 1 => hbmTy0_1 i
  | _ => ⟨S8192x6400, .bf16⟩

abbrev bufTy : (tb : Table) → Fin (tcTables nBuf tb) → BufTy
  | .hbm, ⟨i, _⟩ => hbmTy i
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_cst_12 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_13 : Ref sig .tc := ⟨.hbm, 134, rfl⟩
abbrev main_v113 : Ref sig .tc := ⟨.hbm, 135, rfl⟩
abbrev main_v114 : Ref sig .tc := ⟨.hbm, 136, rfl⟩
abbrev main_cst_14 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩

abbrev nD : Nat := 1
abbrev τ : Topo := Topo.v7x

variable {F : FTy → Type} [FloatOps F]
-- ==== Kernel8.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S8192x1024, .bf16⟩
  | .hbm, ⟨10, _⟩ => ⟨S8192x1024, .f32⟩
  | .hbm, ⟨11, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel9.lean ====
abbrev S8192x1024 : Shape := ⟨2, ![8192, 1024]⟩
abbrev S1x1024x5632 : Shape := ⟨3, ![1, 1024, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x8192x2816 : Shape := ⟨3, ![2, 8192, 2816]⟩
abbrev S8192x2816 : Shape := ⟨2, ![8192, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S1024x5632, .f32⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S2x8192x2816, .bf16⟩
  | .hbm, ⟨7, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x5632, .f32⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | .hbm, ⟨33, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel10.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8x152x128 : Shape := ⟨3, ![8, 152, 128]⟩
abbrev S152x128 : Shape := ⟨2, ![152, 128]⟩
abbrev S1x152x128 : Shape := ⟨3, ![1, 152, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x152x128, .f32⟩
  | .hbm, ⟨1, _⟩ => ⟨S152x128, .f32⟩
  | .local _ .vmem, ⟨0, _⟩ => ⟨S8x152x128, .f32⟩
  | .local _ .vmem, ⟨1, _⟩ => ⟨S152x128, .f32⟩
  | _, _ => ⟨S8x152x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference11Ideal.lean ====
abbrev S8x152x128 : Shape := ⟨3, ![8, 152, 128]⟩
abbrev S_ : Shape := ⟨0, ![]⟩
abbrev S152x128 : Shape := ⟨2, ![152, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x152x128, .f32⟩
  | .hbm, ⟨1, _⟩ => ⟨S_, .f32⟩
  | .hbm, ⟨2, _⟩ => ⟨S152x128, .f32⟩
  | _, _ => ⟨S8x152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S1024x1536 : Shape := ⟨2, ![1024, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x6400 : Shape := ⟨2, ![8192, 6400]⟩
abbrev S8192x1024 : Shape := ⟨2, ![8192, 1024]⟩
abbrev S8192x256 : Shape := ⟨2, ![8192, 256]⟩
abbrev S6400x1024 : Shape := ⟨2, ![6400, 1024]⟩
abbrev S2048x1280 : Shape := ⟨2, ![2048, 1280]⟩
abbrev S2048x256 : Shape := ⟨2, ![2048, 256]⟩
abbrev S2048x1024 : Shape := ⟨2, ![2048, 1024]⟩
abbrev S1280x1024 : Shape := ⟨2, ![1280, 1024]⟩
abbrev S1024x1024 : Shape := ⟨2, ![1024, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S8192x256, .bf16⟩
  | .hbm, ⟨3, _⟩ => ⟨S6400x1024, .f32⟩
  | .hbm, ⟨4, _⟩ => ⟨S6400x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S1280x1024, .f32⟩
  | .local _ .vmem, ⟨7, _⟩ => ⟨S1280x1024, .f32⟩
  | .local _ .vmem, ⟨8, _⟩ => ⟨S1280x1024, .bf16⟩
  | .local _ .vmem, ⟨9, _⟩ => ⟨S1280x1024, .bf16⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference14Ideal.lean ====
abbrev S8192x6400 : Shape := ⟨2, ![8192, 6400]⟩
abbrev S8192x1024 : Shape := ⟨2, ![8192, 1024]⟩
abbrev S_ : Shape := ⟨0, ![]⟩
abbrev S1024x6400 : Shape := ⟨2, ![1024, 6400]⟩
abbrev S6400x1024 : Shape := ⟨2, ![6400, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S8192x1024, .bf16⟩
  | .hbm, ⟨2, _⟩ => ⟨S_, .f32⟩
  | .hbm, ⟨3, _⟩ => ⟨S1024x6400, .f32⟩
  | .hbm, ⟨4, _⟩ => ⟨S8192x1024, .f32⟩
  | .hbm, ⟨5, _⟩ => ⟨S8192x6400, .f32⟩
  | .hbm, ⟨6, _⟩ => ⟨S8192x6400, .f32⟩
  | .hbm, ⟨7, _⟩ => ⟨S6400x1024, .f32⟩
  | .hbm, ⟨8, _⟩ => ⟨S1024x6400, .f32⟩
  | .hbm, ⟨9, _⟩ => ⟨S6400x1024, .f32⟩
  | .hbm, ⟨10, _⟩ => ⟨S6400x1024, .f32⟩
  | .hbm, ⟨11, _⟩ => ⟨S6400x1024, .bf16⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.AdaValue.lean ====
/- The gradient of the modulation weight: what the kernel's three blocks of 512 columns leave in the result array is the
   reference's derivative, `silu(c)ᵀ · dmod`, element by element. -/
module

public import proofs.«01_k».proof.Defs
public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.KernelIdeal.Ada

open Idealize.ShloMosaic TcCoe Idealize.SL.Sem
open Cert.KernelIdeal Gen
open Idealize.ShloMosaic.Pipeline (Dat)

variable (m : (ℓ : Loc nD τ sig) → Buf (Elt Ideal) ℓ)

/-- Element `(r, k)` of the gradient: the sum over the eight sequences of `silu (c b r) · dmod b k`. -/
def gradAt (cond : FVec Ideal S8x1024 .f32) (dmod : FVec Ideal S8x1536 .f32) : FVec Ideal S1024x1536 .f32 := fun j =>
  ∑ b : Fin 8, (cond (ix2 b (j 0)) * Ideal.logistic (cond (ix2 b (j 0)))) * dmod (ix2 b (j 1))

theorem idx : ∀ t : Fin cfg0.N, win0_0.index t = ![0, 0] ∧ win0_1.index t = ![0, t.val] ∧ win0_2.index t = ![0, t.val] :=
  (by decide +kernel : ∀ t : Fin grid0.N, _)

theorem final (c : Dev nD) : (dats m 0 c).arrAt 2 (cfgs 0).N
    = gradAt (m (c.tc.loc main_arg0)) (m (c.tc.loc main_arg1)) := by
  refine (dats m 0 c).arrAt_eq_of_covers 2 _ (by decide +kernel) fun t _ y => ?_
  blk_simp
  rw [after0_2]
  frame_out
  pointwise [k0_pay1, gradAt]
  blk_point [iblk, V, idx t]

end Cert.KernelIdeal.Ada

end
-- ==== Proof.Mixer.Base.lean ====
module

public import proofs.«01_k».proof.Proof.Gen.Kernel2Ideal.Frame
public import proofs.«01_k».proof.Proof.Gen.Kernel2Ideal.Skeleton
public import Idealize.ShloMosaic.Lib.Pipeline.DatRel
public import Idealize.ShloMosaic.Lib.Pipeline.ArrRel

@[expose] public section

set_option maxRecDepth 16384

noncomputable section

namespace Cert.Kernel2Ideal.Mixer

open Idealize.ShloMosaic TcCoe
open Cert.Kernel2Ideal Gen

/-- The first point's condition: there the sums and the carried scratch are zeroed. -/
abbrev cond0 (i : grid0.Coords) : Prop := k0_cond1 i = 1#1
/-- The condition of the points that have rows of their own. -/
abbrev cond1 (i : grid0.Coords) : Prop := k0_cond2 i = 1#1
/-- The last point's condition. -/
abbrev cond2 (i : grid0.Coords) : Prop := k0_cond3 i = 1#1

theorem cond0_iff : ∀ t : Fin cfg0.N, cond0 (grid0.coords t) ↔ t.val = 0 :=
  (by decide +kernel : ∀ t : Fin grid0.N, cond0 (grid0.coords t) ↔ t.val = 0)
theorem cond1_iff : ∀ t : Fin cfg0.N, cond1 (grid0.coords t) ↔ t.val < 32 :=
  (by decide +kernel : ∀ t : Fin grid0.N, cond1 (grid0.coords t) ↔ t.val < 32)
theorem cond2_iff : ∀ t : Fin cfg0.N, cond2 (grid0.coords t) ↔ t.val = 32 :=
  (by decide +kernel : ∀ t : Fin grid0.N, cond2 (grid0.coords t) ↔ t.val = 32)

/-- Where each window's block starts, in blocks. -/
theorem idx : ∀ t : Fin cfg0.N, win0_0.index t = ![min t.val 31, 0] ∧ win0_1.index t = ![2 * min t.val 31 - 1, 4]
    ∧ win0_2.index t = ![16 * min t.val 31 - 1, 0] ∧ win0_3.index t = ![min (16 * min t.val 31 + 16) 511, 0]
    ∧ win0_4.index t = ![min t.val 31, 0] ∧ win0_5.index t = ![min (16 * min t.val 31 + 16) 511, 0]
    ∧ win0_6.index t = ![min t.val 31, 0] ∧ win0_7.index t = ![0, 0] ∧ win0_8.index t = ![0, 0]
    ∧ win0_9.index t = ![min t.val 31, 0] ∧ win0_10.index t = ![t.val, 0] ∧ win0_11.index t = ![0, 0]
    ∧ win0_12.index t = ![0, 0] ∧ win0_13.index t = ![0, 0] ∧ win0_14.index t = ![0, 0] :=
  (by decide +kernel : ∀ t : Fin grid0.N, _)

end Cert.Kernel2Ideal.Mixer

end
-- ==== Proof.Mixer.Run.lean ====
module

public import proofs.«01_k».proof.Proof.Mixer.Base

@[expose] public section

set_option maxRecDepth 16384

noncomputable section

namespace Cert.Kernel2Ideal.Mixer

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Gen

variable {F : FTy → Type} [FloatOps F]

local notation "𝕄" => MT nD τ sig Unit (Elt F) ℕ (UR sig nD τ) ℕ

variable (c : Dev nD) (i : grid0.Coords) (arg1 : Memref sig .tc .vmem S256x6400 .bf16) (harg1 : arg1.IsWhole) (arg2 : Memref sig .tc .vmem S128x256 .bf16) (harg2 : arg2.IsWhole) (arg3 : Memref sig .tc .vmem S16x6400 .bf16) (harg3 : arg3.IsWhole) (arg4 : Memref sig .tc .vmem S16x6400 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S256x1024 .bf16) (harg7 : arg7.IsWhole) (arg8 : Memref sig .tc .smem S1x16 .f32) (harg8 : arg8.IsWhole) (arg9 : Memref sig .tc .vmem S3x1024 .f32) (harg9 : arg9.IsWhole) (arg10 : Memref sig .tc .vmem S256x6400 .bf16) (harg10 : arg10.IsWhole) (arg11 : Memref sig .tc .vmem S256x256 .bf16) (harg11 : arg11.IsWhole) (arg12 : Memref sig .tc .vmem S8x6400 .f32) (harg12 : arg12.IsWhole) (arg13 : Memref sig .tc .vmem S8x256 .f32) (harg13 : arg13.IsWhole) (arg14 : Memref sig .tc .vmem S8x1024 .f32) (harg14 : arg14.IsWhole) (arg15 : Memref sig .tc .vmem S8x128 .f32) (harg15 : arg15.IsWhole) (arg16 : Memref sig .tc .vmem S128x256 .f32) (harg16 : arg16.IsWhole)

set_option maxHeartbeats 2000000 in
/-- The body at the first point: the lists of pieces its stores write into the six results and the carried scratch (the latest first), with the proof that from whole staging buffers at any contents it hands the inputs back as they were and these with their pieces written. -/
noncomputable def runA (hc0 : cond0 i) (hc1 : cond1 i) (hc2 : ¬cond2 i)
    (x1 : Vec F S256x6400 .bf16) (x2 : Vec F S128x256 .bf16) (x3 : Vec F S16x6400 .bf16) (x4 : Vec F S16x6400 .bf16) (x5 : Vec F S256x1024 .bf16) (x6 : Vec F S16x1024 .bf16) (x7 : Vec F S256x1024 .bf16) (x8 : Vec F S1x16 .f32) (x9 : Vec F S3x1024 .f32) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) :
    Σ' (L10 : List (View.Piece (Elt F) S256x6400 .bf16)), Σ' (L11 : List (View.Piece (Elt F) S256x256 .bf16)), Σ' (L12 : List (View.Piece (Elt F) S8x6400 .f32)), Σ' (L13 : List (View.Piece (Elt F) S8x256 .f32)), Σ' (L14 : List (View.Piece (Elt F) S8x1024 .f32)), Σ' (L15 : List (View.Piece (Elt F) S8x128 .f32)), { L16 : List (View.Piece (Elt F) S128x256 .f32) //
      ∀ (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (arg10.view.loc c.tc ↦[arg10.view.set]{fullShare} arg10.view.writes (Elt F) (harg10.unread x10) L10) ∗ (arg11.view.loc c.tc ↦[arg11.view.set]{fullShare} arg11.view.writes (Elt F) (harg11.unread x11) L11) ∗ (arg12.view.loc c.tc ↦[arg12.view.set]{fullShare} arg12.view.writes (Elt F) (harg12.unread x12) L12) ∗ (arg13.view.loc c.tc ↦[arg13.view.set]{fullShare} arg13.view.writes (Elt F) (harg13.unread x13) L13) ∗ (arg14.view.loc c.tc ↦[arg14.view.set]{fullShare} arg14.view.writes (Elt F) (harg14.unread x14) L14) ∗ (arg15.view.loc c.tc ↦[arg15.view.set]{fullShare} arg15.view.writes (Elt F) (harg15.unread x15) L15) ∗ (arg16.view.loc c.tc ↦[arg16.view.set]{fullShare} arg16.view.writes (Elt F) (harg16.unread x16) L16)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_mixer_bwd_eq_skeleton]; unfold cc0_mixer_bwd_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 2000000 in
/-- The body at a point after the first and before the last, as `runA`: the sums go on from what is found. -/
noncomputable def runB (hc0 : ¬cond0 i) (hc1 : cond1 i) (hc2 : ¬cond2 i)
    (x1 : Vec F S256x6400 .bf16) (x2 : Vec F S128x256 .bf16) (x3 : Vec F S16x6400 .bf16) (x4 : Vec F S16x6400 .bf16) (x5 : Vec F S256x1024 .bf16) (x6 : Vec F S16x1024 .bf16) (x7 : Vec F S256x1024 .bf16) (x8 : Vec F S1x16 .f32) (x9 : Vec F S3x1024 .f32) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) :
    Σ' (L10 : List (View.Piece (Elt F) S256x6400 .bf16)), Σ' (L11 : List (View.Piece (Elt F) S256x256 .bf16)), Σ' (L12 : List (View.Piece (Elt F) S8x6400 .f32)), Σ' (L13 : List (View.Piece (Elt F) S8x256 .f32)), Σ' (L14 : List (View.Piece (Elt F) S8x1024 .f32)), Σ' (L15 : List (View.Piece (Elt F) S8x128 .f32)), { L16 : List (View.Piece (Elt F) S128x256 .f32) //
      ∀ (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ (arg10.view.loc c.tc ↦[arg10.view.set]{fullShare} arg10.view.writes (Elt F) (harg10.unread x10) L10) ∗ (arg11.view.loc c.tc ↦[arg11.view.set]{fullShare} arg11.view.writes (Elt F) (harg11.unread x11) L11) ∗ (arg12.view.loc c.tc ↦[arg12.view.set]{fullShare} arg12.view.writes (Elt F) (harg12.unread x12) L12) ∗ (arg13.view.loc c.tc ↦[arg13.view.set]{fullShare} arg13.view.writes (Elt F) (harg13.unread x13) L13) ∗ (arg14.view.loc c.tc ↦[arg14.view.set]{fullShare} arg14.view.writes (Elt F) (harg14.unread x14) L14) ∗ (arg15.view.loc c.tc ↦[arg15.view.set]{fullShare} arg15.view.writes (Elt F) (harg15.unread x15) L15) ∗ (arg16.view.loc c.tc ↦[arg16.view.set]{fullShare} arg16.view.writes (Elt F) (harg16.unread x16) L16)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_mixer_bwd_eq_skeleton]; unfold cc0_mixer_bwd_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 2000000 in
/-- The body at the last point: it writes the pending kv gradients and adds their column sums; the other results and the scratch stay. -/
noncomputable def runC (hc0 : ¬cond0 i) (hc1 : ¬cond1 i) (hc2 : cond2 i)
    (x1 : Vec F S256x6400 .bf16) (x2 : Vec F S128x256 .bf16) (x3 : Vec F S16x6400 .bf16) (x4 : Vec F S16x6400 .bf16) (x5 : Vec F S256x1024 .bf16) (x6 : Vec F S16x1024 .bf16) (x7 : Vec F S256x1024 .bf16) (x8 : Vec F S1x16 .f32) (x9 : Vec F S3x1024 .f32) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) :
    Σ' (L11 : List (View.Piece (Elt F) S256x256 .bf16)), { L13 : List (View.Piece (Elt F) S8x256 .f32) //
      ∀ (E : Set ℕ) (K : PUnit → sProp 𝕄),
        iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16
            ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ (arg11.view.loc c.tc ↦[arg11.view.set]{fullShare} arg11.view.writes (Elt F) (harg11.unread x11) L11) ∗ owns c.tc arg12 fullShare x12 ∗ (arg13.view.loc c.tc ↦[arg13.view.set]{fullShare} arg13.view.writes (Elt F) (harg13.unread x13) L13) ∗ owns c.tc arg14 fullShare x14 ∗ owns c.tc arg15 fullShare x15 ∗ owns c.tc arg16 fullShare x16) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_mixer_bwd_eq_skeleton]; unfold cc0_mixer_bwd_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]
    · iexists _; isplitr; · ipureintro; exact harg12.read_unread _
      iexact H12
    isplitl [H13]; · iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.Kernel2Ideal.Mixer

end
-- ==== Proof.Mixer.Step.lean ====
module

public import proofs.«01_k».proof.Proof.Mixer.Run

/-! The launch, at statements about what the body leaves: whatever holds of the results point by point holds after the run. -/

@[expose] public section

set_option maxRecDepth 16384

noncomputable section

namespace Cert.Kernel2Ideal.Mixer

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)
open Cert.Kernel2Ideal Gen

variable {F : FTy → Type} [FloatOps F]

local notation "𝕄" => MT nD τ sig Unit (Elt F) ℕ (UR sig nD τ) ℕ

/-- What is said of each result after point `n`, and of the part carried before it. -/
structure Inv (F : FTy → Type) where
  S : ℕ → Vec F S128x256 .f32 → Prop
  R9 : ℕ → Vec F S256x6400 .bf16 → Prop
  R10 : ℕ → Vec F S256x256 .bf16 → Prop
  R11 : ℕ → Vec F S8x6400 .f32 → Prop
  R12 : ℕ → Vec F S8x256 .f32 → Prop
  R13 : ℕ → Vec F S8x1024 .f32 → Prop
  R14 : ℕ → Vec F S8x128 .f32 → Prop

/-- What a point may find, -/
def Inv.Pre (I : Inv F) (n : ℕ) (x10 : Vec F S256x6400 .bf16) (x12 : Vec F S8x6400 .f32) (x13 : Vec F S8x256 .f32) (x14 : Vec F S8x1024 .f32) (x15 : Vec F S8x128 .f32) (x16 : Vec F S128x256 .f32) : Prop :=
  (n = 32 → I.R9 31 x10) ∧ (n ≠ 0 → I.R11 (n - 1) x12 ∧ I.R12 (n - 1) x13 ∧ I.R13 (n - 1) x14 ∧ I.R14 (n - 1) x15) ∧ I.S n x16

/-- and what it leaves. -/
def Inv.Post (I : Inv F) (n : ℕ) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) : Prop :=
  I.R9 n x10 ∧ I.R10 n x11 ∧ I.R11 n x12 ∧ I.R12 n x13 ∧ I.R13 n x14 ∧ I.R14 n x15 ∧ I.S (n + 1) x16

variable (m : (ℓ : Loc nD τ sig) → Buf (Elt F) ℓ) (ρ : Dev nD → PrngReg)

/-- The statements are kept by the body, at each kind of point. -/
structure Inv.Ok (I : Inv F) (c : Dev nD) : Prop where
  zero : ∀ x, I.S 0 x
  A : ∀ (t : Fin cfg0.N), t.val = 0 → ∀ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16,
    I.Pre t.val x10 x12 x13 x14 x15 x16 → let r := runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 (iblk m c 0 t) (iblk m c 1 t) (iblk m c 2 t) (iblk m c 3 t) (iblk m c 4 t) (iblk m c 5 t) (iblk m c 6 t) (iblk m c 7 t) (iblk m c 8 t) x10 x11 x12 x13 x14 x15 x16; I.Post t.val (arg10.view.read (Elt F) (arg10.view.writes (Elt F) (harg10.unread x10) r.1)) (arg11.view.read (Elt F) (arg11.view.writes (Elt F) (harg11.unread x11) r.2.1)) (arg12.view.read (Elt F) (arg12.view.writes (Elt F) (harg12.unread x12) r.2.2.1)) (arg13.view.read (Elt F) (arg13.view.writes (Elt F) (harg13.unread x13) r.2.2.2.1)) (arg14.view.read (Elt F) (arg14.view.writes (Elt F) (harg14.unread x14) r.2.2.2.2.1)) (arg15.view.read (Elt F) (arg15.view.writes (Elt F) (harg15.unread x15) r.2.2.2.2.2.1)) (arg16.view.read (Elt F) (arg16.view.writes (Elt F) (harg16.unread x16) r.2.2.2.2.2.2.1))
  B : ∀ (t : Fin cfg0.N), t.val ≠ 0 → t.val < 32 → ∀ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16,
    I.Pre t.val x10 x12 x13 x14 x15 x16 → let r := runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 (iblk m c 0 t) (iblk m c 1 t) (iblk m c 2 t) (iblk m c 3 t) (iblk m c 4 t) (iblk m c 5 t) (iblk m c 6 t) (iblk m c 7 t) (iblk m c 8 t) x10 x11 x12 x13 x14 x15 x16; I.Post t.val (arg10.view.read (Elt F) (arg10.view.writes (Elt F) (harg10.unread x10) r.1)) (arg11.view.read (Elt F) (arg11.view.writes (Elt F) (harg11.unread x11) r.2.1)) (arg12.view.read (Elt F) (arg12.view.writes (Elt F) (harg12.unread x12) r.2.2.1)) (arg13.view.read (Elt F) (arg13.view.writes (Elt F) (harg13.unread x13) r.2.2.2.1)) (arg14.view.read (Elt F) (arg14.view.writes (Elt F) (harg14.unread x14) r.2.2.2.2.1)) (arg15.view.read (Elt F) (arg15.view.writes (Elt F) (harg15.unread x15) r.2.2.2.2.2.1)) (arg16.view.read (Elt F) (arg16.view.writes (Elt F) (harg16.unread x16) r.2.2.2.2.2.2.1))
  C : ∀ (t : Fin cfg0.N), t.val = 32 → ∀ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16,
    I.Pre t.val x10 x12 x13 x14 x15 x16 → let r := runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 (iblk m c 0 t) (iblk m c 1 t) (iblk m c 2 t) (iblk m c 3 t) (iblk m c 4 t) (iblk m c 5 t) (iblk m c 6 t) (iblk m c 7 t) (iblk m c 8 t) x10 x11 x12 x13 x14 x15 x16; I.Post t.val x10 (arg11.view.read (Elt F) (arg11.view.writes (Elt F) (harg11.unread x11) r.1)) x12 (arg13.view.read (Elt F) (arg13.view.writes (Elt F) (harg13.unread x13) r.2.1)) x14 x15 x16

/-- A memref's cells at some contents are the memref owned at what they read. -/
theorem owns_read (ct : Thread nD τ) {sp : Space} {s : Shape} {e : EltTy} (a : Memref sig ct.2.kind sp s e) (f) :
    iprop(a.view.loc ct ↦[a.view.set]{fullShare} f : sProp 𝕄) ⊢ owns ct a fullShare (a.view.read (Elt F) f) := by
  unfold owns
  iintro H; iexists f; isplitr
  · ipureintro; exact rfl
  · iexact H

section

variable (c : Dev nD) (i : grid0.Coords) (arg1 : Memref sig .tc .vmem S256x6400 .bf16) (harg1 : arg1.IsWhole) (arg2 : Memref sig .tc .vmem S128x256 .bf16) (harg2 : arg2.IsWhole) (arg3 : Memref sig .tc .vmem S16x6400 .bf16) (harg3 : arg3.IsWhole) (arg4 : Memref sig .tc .vmem S16x6400 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S256x1024 .bf16) (harg7 : arg7.IsWhole) (arg8 : Memref sig .tc .smem S1x16 .f32) (harg8 : arg8.IsWhole) (arg9 : Memref sig .tc .vmem S3x1024 .f32) (harg9 : arg9.IsWhole) (arg10 : Memref sig .tc .vmem S256x6400 .bf16) (harg10 : arg10.IsWhole) (arg11 : Memref sig .tc .vmem S256x256 .bf16) (harg11 : arg11.IsWhole) (arg12 : Memref sig .tc .vmem S8x6400 .f32) (harg12 : arg12.IsWhole) (arg13 : Memref sig .tc .vmem S8x256 .f32) (harg13 : arg13.IsWhole) (arg14 : Memref sig .tc .vmem S8x1024 .f32) (harg14 : arg14.IsWhole) (arg15 : Memref sig .tc .vmem S8x128 .f32) (harg15 : arg15.IsWhole) (arg16 : Memref sig .tc .vmem S128x256 .f32) (harg16 : arg16.IsWhole) (x1 : Vec F S256x6400 .bf16) (x2 : Vec F S128x256 .bf16) (x3 : Vec F S16x6400 .bf16) (x4 : Vec F S16x6400 .bf16) (x5 : Vec F S256x1024 .bf16) (x6 : Vec F S16x1024 .bf16) (x7 : Vec F S256x1024 .bf16) (x8 : Vec F S1x16 .f32) (x9 : Vec F S3x1024 .f32) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) (Q : Vec F S256x6400 .bf16 → Vec F S256x256 .bf16 → Vec F S8x6400 .f32 → Vec F S8x256 .f32 → Vec F S8x1024 .f32 → Vec F S8x128 .f32 → Vec F S128x256 .f32 → Prop)

/-- The body takes what it finds to something of which `Q` holds. -/
def Steps : Prop := ∀ (E : Set ℕ) (K : PUnit → sProp 𝕄),
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16
        ∗ ((∃ (y10 : Vec F S256x6400 .bf16) (y11 : Vec F S256x256 .bf16) (y12 : Vec F S8x6400 .f32) (y13 : Vec F S8x256 .f32) (y14 : Vec F S8x1024 .f32) (y15 : Vec F S8x128 .f32) (y16 : Vec F S128x256 .f32), owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare y10 ∗ owns c.tc arg11 fullShare y11 ∗ owns c.tc arg12 fullShare y12 ∗ owns c.tc arg13 fullShare y13 ∗ owns c.tc arg14 fullShare y14 ∗ owns c.tc arg15 fullShare y15 ∗ owns c.tc arg16 fullShare y16 ∗ ⌜Q y10 y11 y12 y13 y14 y15 y16⌝) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K

set_option maxHeartbeats 2000000 in
theorem step_A (hc0 : cond0 i) (hc1 : cond1 i) (hc2 : ¬cond2 i)
    (h : let r := runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16; Q (arg10.view.read (Elt F) (arg10.view.writes (Elt F) (harg10.unread x10) r.1)) (arg11.view.read (Elt F) (arg11.view.writes (Elt F) (harg11.unread x11) r.2.1)) (arg12.view.read (Elt F) (arg12.view.writes (Elt F) (harg12.unread x12) r.2.2.1)) (arg13.view.read (Elt F) (arg13.view.writes (Elt F) (harg13.unread x13) r.2.2.2.1)) (arg14.view.read (Elt F) (arg14.view.writes (Elt F) (harg14.unread x14) r.2.2.2.2.1)) (arg15.view.read (Elt F) (arg15.view.writes (Elt F) (harg15.unread x15) r.2.2.2.2.2.1)) (arg16.view.read (Elt F) (arg16.view.writes (Elt F) (harg16.unread x16) r.2.2.2.2.2.2.1))) :
    Steps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 x9 x10 x11 x12 x13 x14 x15 x16 Q := by
  intro E K
  iintro ⟨H1, H2, H3, H4, H5, H6, H7, H8, H9, H10, H11, H12, H13, H14, H15, H16, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c.tc arg10 _); iexact H10
  isplitl [H11]; · iapply (owns_read c.tc arg11 _); iexact H11
  isplitl [H12]; · iapply (owns_read c.tc arg12 _); iexact H12
  isplitl [H13]; · iapply (owns_read c.tc arg13 _); iexact H13
  isplitl [H14]; · iapply (owns_read c.tc arg14 _); iexact H14
  isplitl [H15]; · iapply (owns_read c.tc arg15 _); iexact H15
  isplitl [H16]; · iapply (owns_read c.tc arg16 _); iexact H16
  ipureintro
  exact h

set_option maxHeartbeats 2000000 in
theorem step_B (hc0 : ¬cond0 i) (hc1 : cond1 i) (hc2 : ¬cond2 i)
    (h : let r := runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16; Q (arg10.view.read (Elt F) (arg10.view.writes (Elt F) (harg10.unread x10) r.1)) (arg11.view.read (Elt F) (arg11.view.writes (Elt F) (harg11.unread x11) r.2.1)) (arg12.view.read (Elt F) (arg12.view.writes (Elt F) (harg12.unread x12) r.2.2.1)) (arg13.view.read (Elt F) (arg13.view.writes (Elt F) (harg13.unread x13) r.2.2.2.1)) (arg14.view.read (Elt F) (arg14.view.writes (Elt F) (harg14.unread x14) r.2.2.2.2.1)) (arg15.view.read (Elt F) (arg15.view.writes (Elt F) (harg15.unread x15) r.2.2.2.2.2.1)) (arg16.view.read (Elt F) (arg16.view.writes (Elt F) (harg16.unread x16) r.2.2.2.2.2.2.1))) :
    Steps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 x9 x10 x11 x12 x13 x14 x15 x16 Q := by
  intro E K
  iintro ⟨H1, H2, H3, H4, H5, H6, H7, H8, H9, H10, H11, H12, H13, H14, H15, H16, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  iexists _
  iexists _
  iexists _
  iexists _
  iexists _
  iexists _
  iexists _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c.tc arg10 _); iexact H10
  isplitl [H11]; · iapply (owns_read c.tc arg11 _); iexact H11
  isplitl [H12]; · iapply (owns_read c.tc arg12 _); iexact H12
  isplitl [H13]; · iapply (owns_read c.tc arg13 _); iexact H13
  isplitl [H14]; · iapply (owns_read c.tc arg14 _); iexact H14
  isplitl [H15]; · iapply (owns_read c.tc arg15 _); iexact H15
  isplitl [H16]; · iapply (owns_read c.tc arg16 _); iexact H16
  ipureintro
  exact h

set_option maxHeartbeats 2000000 in
theorem step_C (hc0 : ¬cond0 i) (hc1 : ¬cond1 i) (hc2 : cond2 i)
    (h : Q x10 (arg11.view.read (Elt F) (arg11.view.writes (Elt F) (harg11.unread x11) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).1)) x12 (arg13.view.read (Elt F) (arg13.view.writes (Elt F) (harg13.unread x13) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.1)) x14 x15 x16) :
    Steps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 x9 x10 x11 x12 x13 x14 x15 x16 Q := by
  intro E K
  iintro ⟨H1, H2, H3, H4, H5, H6, H7, H8, H9, H10, H11, H12, H13, H14, H15, H16, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  iexists x10
  iexists _
  iexists x12
  iexists _
  iexists x14
  iexists x15
  iexists x16
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_read c.tc arg11 _); iexact H11
  isplitl [H12]; · iexact H12
  isplitl [H13]; · iapply (owns_read c.tc arg13 _); iexact H13
  isplitl [H14]; · iexact H14
  isplitl [H15]; · iexact H15
  isplitl [H16]; · iexact H16
  ipureintro
  exact h

end

set_option maxHeartbeats 2000000 in
/-- The body at a point, from what it finds to what it leaves. -/
theorem body_step {I : Inv F} (c : Dev nD) (ok : I.Ok m c) (t : Fin cfg0.N) (x10 : Vec F S256x6400 .bf16) (x11 : Vec F S256x256 .bf16) (x12 : Vec F S8x6400 .f32) (x13 : Vec F S8x256 .f32) (x14 : Vec F S8x1024 .f32) (x15 : Vec F S8x128 .f32) (x16 : Vec F S128x256 .f32) (h : I.Pre t.val x10 x12 x13 x14 x15 x16) (E : Set ℕ) (K : PUnit → sProp 𝕄) :
    iprop(owns c.tc (st0_0 t) fullShare (iblk m c 0 t) ∗ owns c.tc (st0_1 t) fullShare (iblk m c 1 t) ∗ owns c.tc (st0_2 t) fullShare (iblk m c 2 t) ∗ owns c.tc (st0_3 t) fullShare (iblk m c 3 t) ∗ owns c.tc (st0_4 t) fullShare (iblk m c 4 t) ∗ owns c.tc (st0_5 t) fullShare (iblk m c 5 t) ∗ owns c.tc (st0_6 t) fullShare (iblk m c 6 t) ∗ owns c.tc (st0_7 t) fullShare (iblk m c 7 t) ∗ owns c.tc (st0_8 t) fullShare (iblk m c 8 t) ∗ owns c.tc (st0_9 t) fullShare x10 ∗ owns c.tc (st0_10 t) fullShare x11 ∗ owns c.tc (st0_11 t) fullShare x12 ∗ owns c.tc (st0_12 t) fullShare x13 ∗ owns c.tc (st0_13 t) fullShare x14 ∗ owns c.tc (st0_14 t) fullShare x15 ∗ owns c.tc (Memref.whole cc0_scratch0) fullShare x16
        ∗ ((∃ (y10 : Vec F S256x6400 .bf16) (y11 : Vec F S256x256 .bf16) (y12 : Vec F S8x6400 .f32) (y13 : Vec F S8x256 .f32) (y14 : Vec F S8x1024 .f32) (y15 : Vec F S8x128 .f32) (y16 : Vec F S128x256 .f32), owns c.tc (st0_0 t) fullShare (iblk m c 0 t) ∗ owns c.tc (st0_1 t) fullShare (iblk m c 1 t) ∗ owns c.tc (st0_2 t) fullShare (iblk m c 2 t) ∗ owns c.tc (st0_3 t) fullShare (iblk m c 3 t) ∗ owns c.tc (st0_4 t) fullShare (iblk m c 4 t) ∗ owns c.tc (st0_5 t) fullShare (iblk m c 5 t) ∗ owns c.tc (st0_6 t) fullShare (iblk m c 6 t) ∗ owns c.tc (st0_7 t) fullShare (iblk m c 7 t) ∗ owns c.tc (st0_8 t) fullShare (iblk m c 8 t) ∗ owns c.tc (st0_9 t) fullShare y10 ∗ owns c.tc (st0_10 t) fullShare y11 ∗ owns c.tc (st0_11 t) fullShare y12 ∗ owns c.tc (st0_12 t) fullShare y13 ∗ owns c.tc (st0_13 t) fullShare y14 ∗ owns c.tc (st0_14 t) fullShare y15 ∗ owns c.tc (Memref.whole cc0_scratch0) fullShare y16 ∗ ⌜I.Post t.val y10 y11 y12 y13 y14 y15 y16⌝) -∗ K ⟨⟩))
      ⊢ wp frame (wpE (defs₀ (F := F)) Variants.none c none) E (bodyAt0 t) K := by
  have hN : t.val < 33 := lt_of_lt_of_eq t.isLt (show cfg0.N = 33 from N_0)
  have H0 := cond0_iff t; have H1 := cond1_iff t; have H2 := cond2_iff t
  by_cases h0 : t.val = 0
  · have h1 : t.val < 32 := by omega
    have h2 : t.val ≠ 32 := by omega
    exact step_A _ _ _ _ _ _ _ _ _ _ _ _ _ _ _ _ _ _ _ _ _ _ _ _ _ _ _ _ _ _ _ _ _ _ _ _ _ _ _ _ _ _ _ _ _ _ _ _ _ _ (I.Post t.val) (H0.mpr h0) (H1.mpr h1) (fun e => h2 (H2.mp e)) (ok.A t h0 _ _ _ _ _ _ _ _ _ _ _ _ _ _ _ _ _ _ _ _ _ _ _ _ _ _ _ _ _ _ _ _ (H0.mpr h0) (H1.mpr h1) (fun e => h2 (H2.mp e)) x10 x11 x12 x13 x14 x15 x16 h) E K
  by_cases h1 : t.val < 32
  · have h2 : t.val ≠ 32 := by omega
    exact step_B _ _ _ _ _ _ _ _ _ _ _ _ _ _ _ _ _ _ _ _ _ _ _ _ _ _ _ _ _ _ _ _ _ _ _ _ _ _ _ _ _ _ _ _ _ _ _ _ _ _ (I.Post t.val) (fun e => h0 (H0.mp e)) (H1.mpr h1) (fun e => h2 (H2.mp e)) (ok.B t h0 h1 _ _ _ _ _ _ _ _ _ _ _ _ _ _ _ _ _ _ _ _ _ _ _ _ _ _ _ _ _ _ _ _ (fun e => h0 (H0.mp e)) (H1.mpr h1) (fun e => h2 (H2.mp e)) x10 x11 x12 x13 x14 x15 x16 h) E K
  · have h2 : t.val = 32 := by omega
    exact step_C _ _ _ _ _ _ _ _ _ _ _ _ _ _ _ _ _ _ _ _ _ _ _ _ _ _ _ _ _ _ _ _ _ _ _ _ _ _ _ _ _ _ _ _ _ _ _ _ _ _ (I.Post t.val) (fun e => h0 (H0.mp e)) (fun e => h1 (H1.mp e)) (H2.mpr h2) (ok.C t h2 _ _ _ _ _ _ _ _ _ _ _ _ _ _ _ _ _ _ _ _ _ _ _ _ _ _ _ _ _ _ _ _ (fun e => h0 (H0.mp e)) (fun e => h1 (H1.mp e)) (H2.mpr h2) x10 x11 x12 x13 x14 x15 x16 h) E K

end Cert.Kernel2Ideal.Mixer

end
-- ==== Proof.Mixer.Launch.lean ====
module

public import proofs.«01_k».proof.Proof.Mixer.Step

/-! The run of the whole program from the statements the body keeps: both frames' form, and the results. -/

@[expose] public section

set_option maxRecDepth 16384

noncomputable section

namespace Cert.Kernel2Ideal.Mixer

open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel2Ideal Gen

variable {F : FTy → Type} [FloatOps F]

local notation "𝕄" => MT nD τ sig Unit (Elt F) ℕ (UR sig nD τ) ℕ

/-- The statements, window by window; of an input nothing is said. -/
def Inv.Rl (I : Inv F) : (w : Fin cfg0.W) → Fin cfg0.N → ((cfg0.win w).block.Idx → Elt F (cfg0.win w).elt) → Prop
  | ⟨9, _⟩, t, X => I.R9 t.val X
  | ⟨10, _⟩, t, X => I.R10 t.val X
  | ⟨11, _⟩, t, X => I.R11 t.val X
  | ⟨12, _⟩, t, X => I.R12 t.val X
  | ⟨13, _⟩, t, X => I.R13 t.val X
  | ⟨14, _⟩, t, X => I.R14 t.val X
  | _, _, _ => True

/-- The results are the windows spoken of. -/
def marked : Fin 15 → Bool := fun w => w.val == 9 || w.val == 10 || w.val == 11 || w.val == 12 || w.val == 13 || w.val == 14

abbrev scratch : Memref sig .tc .vmem S128x256 .f32 := Memref.whole cc0_scratch0

theorem rest_eq (c : Dev nD) : (Pipeline.ΦA spec0 c : sProp 𝕄)
    = iprop((∃ d, owns c.tc scratch fullShare d) ∗ (∃ r, prngReg c r)) := by
  unfold Pipeline.ΦA; rw [scopedRest0_eq]; simp only [scratch, owns_whole]; try rfl

variable (m : (ℓ : Loc nD τ sig) → Buf (Elt F) ℓ) (ρ : Dev nD → PrngReg) (I : Dev nD → Inv F)

/-- What holds of the carried part before point `n`. -/
def Φat (c : Dev nD) (n : ℕ) : sProp 𝕄 :=
  iprop((∃ d, owns c.tc scratch fullShare d ∗ ⌜(I c).S n d⌝) ∗ (∃ r, prngReg c r))

/-- The proof data: each input keeps its block; of the results the statements speak. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Φat I c t.val
  q w := Pipeline.shareOf spec0 w
  owed _ := 0

theorem A_eq (c : Dev nD) (w : Fin cfg0.W) : (dats m I c).A w = V m c (Pipeline.arrRef spec0 w) := by dsimp only [dats]
theorem after0 (c : Dev nD) (t : Fin cfg0.N) : (dats m I c).after 0 t = iblk m c 0 t := by dsimp only [dats]
theorem after1 (c : Dev nD) (t : Fin cfg0.N) : (dats m I c).after 1 t = iblk m c 1 t := by dsimp only [dats]
theorem after2 (c : Dev nD) (t : Fin cfg0.N) : (dats m I c).after 2 t = iblk m c 2 t := by dsimp only [dats]
theorem after3 (c : Dev nD) (t : Fin cfg0.N) : (dats m I c).after 3 t = iblk m c 3 t := by dsimp only [dats]
theorem after4 (c : Dev nD) (t : Fin cfg0.N) : (dats m I c).after 4 t = iblk m c 4 t := by dsimp only [dats]
theorem after5 (c : Dev nD) (t : Fin cfg0.N) : (dats m I c).after 5 t = iblk m c 5 t := by dsimp only [dats]
theorem after6 (c : Dev nD) (t : Fin cfg0.N) : (dats m I c).after 6 t = iblk m c 6 t := by dsimp only [dats]
theorem after7 (c : Dev nD) (t : Fin cfg0.N) : (dats m I c).after 7 t = iblk m c 7 t := by dsimp only [dats]
theorem after8 (c : Dev nD) (t : Fin cfg0.N) : (dats m I c).after 8 t = iblk m c 8 t := by dsimp only [dats]
theorem before0 (c : Dev nD) (t : Fin cfg0.N) (d) : (dats m I c).before 0 t d = iblk m c 0 t :=
  before0_0_of m (dats m I c) (A_eq m I c 0) (after0 m I c) t d
theorem before1 (c : Dev nD) (t : Fin cfg0.N) (d) : (dats m I c).before 1 t d = iblk m c 1 t :=
  before0_1_of m (dats m I c) (A_eq m I c 1) (after1 m I c) t d
theorem before2 (c : Dev nD) (t : Fin cfg0.N) (d) : (dats m I c).before 2 t d = iblk m c 2 t :=
  before0_2_of m (dats m I c) (A_eq m I c 2) (after2 m I c) t d
theorem before3 (c : Dev nD) (t : Fin cfg0.N) (d) : (dats m I c).before 3 t d = iblk m c 3 t :=
  before0_3_of m (dats m I c) (A_eq m I c 3) (after3 m I c) t d
theorem before4 (c : Dev nD) (t : Fin cfg0.N) (d) : (dats m I c).before 4 t d = iblk m c 4 t :=
  before0_4_of m (dats m I c) (A_eq m I c 4) (after4 m I c) t d
theorem before5 (c : Dev nD) (t : Fin cfg0.N) (d) : (dats m I c).before 5 t d = iblk m c 5 t :=
  before0_5_of m (dats m I c) (A_eq m I c 5) (after5 m I c) t d
theorem before6 (c : Dev nD) (t : Fin cfg0.N) (d) : (dats m I c).before 6 t d = iblk m c 6 t :=
  before0_6_of m (dats m I c) (A_eq m I c 6) (after6 m I c) t d
theorem before7 (c : Dev nD) (t : Fin cfg0.N) (d) : (dats m I c).before 7 t d = iblk m c 7 t :=
  before0_7_of m (dats m I c) (A_eq m I c 7) (after7 m I c) t d
theorem before8 (c : Dev nD) (t : Fin cfg0.N) (d) : (dats m I c).before 8 t d = iblk m c 8 t :=
  before0_8_of m (dats m I c) (A_eq m I c 8) (after8 m I c) t d

/-- The relational data. -/
abbrev rdat (c : Dev nD) : RDat τ (Elt F) Unit ℕ (UR sig nD τ) ℕ cfg0 c := (dats m I c).toRRel marked (I c).Rl

/-- A result not fetched, and not written back at the point before, holds what that point left. -/
theorem found (c : Dev nD) (w : Fin cfg0.W) (hw : marked w = true) (t : Fin cfg0.N) (ht : t.val ≠ 0) (hf : (cfg0.win w).fetch t = false)
    (hfl : (cfg0.win w).flush ⟨t.val - 1, Nat.lt_of_le_of_lt (Nat.sub_le _ _) t.isLt⟩ = false) (X : (cfg0.win w).block.Idx → Elt F (cfg0.win w).elt)
    (h : (rdat m I c).Finds w t X) : (I c).Rl w ⟨t.val - 1, Nat.lt_of_le_of_lt (Nat.sub_le _ _) t.isLt⟩ X := by
  rcases ((rdat m I c).finds_of_pos hf ht X).mp h with h | h
  · rw [hfl] at h; exact absurd h Bool.false_ne_true
  · exact (dats m I c).toRRel_leaves hw h

theorem fetch9 : ∀ t : Fin cfg0.N, (cfg0.win 9).fetch t = false := by intro t; rfl
theorem fetch11 : ∀ t : Fin cfg0.N, (cfg0.win 11).fetch t = false := by intro t; rfl
theorem fetch12 : ∀ t : Fin cfg0.N, (cfg0.win 12).fetch t = false := by intro t; rfl
theorem fetch13 : ∀ t : Fin cfg0.N, (cfg0.win 13).fetch t = false := by intro t; rfl
theorem fetch14 : ∀ t : Fin cfg0.N, (cfg0.win 14).fetch t = false := by intro t; rfl
theorem flush11 : ∀ t : Fin cfg0.N, (cfg0.win 11).flush t = decide (t.val = 32) := (by decide +kernel : ∀ t : Fin grid0.N, win0_11.flush t = decide (t.val = 32))
theorem flush12 : ∀ t : Fin cfg0.N, (cfg0.win 12).flush t = decide (t.val = 32) := (by decide +kernel : ∀ t : Fin grid0.N, win0_12.flush t = decide (t.val = 32))
theorem flush13 : ∀ t : Fin cfg0.N, (cfg0.win 13).flush t = decide (t.val = 32) := (by decide +kernel : ∀ t : Fin grid0.N, win0_13.flush t = decide (t.val = 32))
theorem flush14 : ∀ t : Fin cfg0.N, (cfg0.win 14).flush t = decide (t.val = 32) := (by decide +kernel : ∀ t : Fin grid0.N, win0_14.flush t = decide (t.val = 32))
theorem flush9 : ∀ t : Fin cfg0.N, t.val = 31 → (cfg0.win 9).flush t = false := (by decide +kernel : ∀ t : Fin grid0.N, t.val = 31 → win0_9.flush t = false)

theorem found_pre (c : Dev nD) (t : Fin cfg0.N) (x10 x12 x13 x14 x15 x16)
    (h9 : (rdat m I c).Finds 9 t x10) (h11 : (rdat m I c).Finds 11 t x12) (h12 : (rdat m I c).Finds 12 t x13)
    (h13 : (rdat m I c).Finds 13 t x14) (h14 : (rdat m I c).Finds 14 t x15) (hS : (I c).S t.val x16) :
    (I c).Pre t.val x10 x12 x13 x14 x15 x16 := by
  have hN : t.val < 33 := lt_of_lt_of_eq t.isLt (show cfg0.N = 33 from N_0)
  refine ⟨fun h => ?_, fun h => ⟨?_, ?_, ?_, ?_⟩, hS⟩
  · have e := found m I c 9 rfl t (by omega) (fetch9 t) (flush9 _ (by show t.val - 1 = 31; omega)) x10 h9
    have e' : (I c).R9 (t.val - 1) x10 := e
    rw [h] at e'; exact e'
  · exact found m I c 11 rfl t h (fetch11 t) ((flush11 _).trans (decide_eq_false (by show t.val - 1 ≠ 32; omega))) x12 h11
  · exact found m I c 12 rfl t h (fetch12 t) ((flush12 _).trans (decide_eq_false (by show t.val - 1 ≠ 32; omega))) x13 h12
  · exact found m I c 13 rfl t h (fetch13 t) ((flush13 _).trans (decide_eq_false (by show t.val - 1 ≠ 32; omega))) x14 h13
  · exact found m I c 14 rfl t h (fetch14 t) ((flush14 _).trans (decide_eq_false (by show t.val - 1 ≠ 32; omega))) x15 h14

theorem defs₀_row (t : Fin cfg0.N) : defs₀ (F := F) .tc cfg0.body (cfg0.bodyArgs t (cfg0.slots t)) = bodyAt0 t := by
  unfold defs₀; rw [Defs.onTc_tc]

/-- What the body is called with, -/
def bodyPre (c : Dev nD) (t : Fin cfg0.N) : sProp 𝕄 :=
  iprop(Φat I c t.val ∗ (dats m I c).owesAt () t.castSucc
    ∗ (∃ d, owns c.tc (st0_0 t) fullShare ((dats m I c).before 0 t d))
    ∗ (∃ d, owns c.tc (st0_1 t) fullShare ((dats m I c).before 1 t d))
    ∗ (∃ d, owns c.tc (st0_2 t) fullShare ((dats m I c).before 2 t d))
    ∗ (∃ d, owns c.tc (st0_3 t) fullShare ((dats m I c).before 3 t d))
    ∗ (∃ d, owns c.tc (st0_4 t) fullShare ((dats m I c).before 4 t d))
    ∗ (∃ d, owns c.tc (st0_5 t) fullShare ((dats m I c).before 5 t d))
    ∗ (∃ d, owns c.tc (st0_6 t) fullShare ((dats m I c).before 6 t d))
    ∗ (∃ d, owns c.tc (st0_7 t) fullShare ((dats m I c).before 7 t d))
    ∗ (∃ d, owns c.tc (st0_8 t) fullShare ((dats m I c).before 8 t d))
    ∗ (∃ Y, ⌜(rdat m I c).Finds 9 t Y⌝ ∗ owns c.tc (st0_9 t) fullShare Y)
    ∗ (∃ Y, ⌜(rdat m I c).Finds 10 t Y⌝ ∗ owns c.tc (st0_10 t) fullShare Y)
    ∗ (∃ Y, ⌜(rdat m I c).Finds 11 t Y⌝ ∗ owns c.tc (st0_11 t) fullShare Y)
    ∗ (∃ Y, ⌜(rdat m I c).Finds 12 t Y⌝ ∗ owns c.tc (st0_12 t) fullShare Y)
    ∗ (∃ Y, ⌜(rdat m I c).Finds 13 t Y⌝ ∗ owns c.tc (st0_13 t) fullShare Y)
    ∗ (∃ Y, ⌜(rdat m I c).Finds 14 t Y⌝ ∗ owns c.tc (st0_14 t) fullShare Y))

/-- and what it returns. -/
def bodyPost (c : Dev nD) (t : Fin cfg0.N) : sProp 𝕄 :=
  iprop(Φat I c (t.val + 1) ∗ (dats m I c).owesAt () t.succ
    ∗ owns c.tc (st0_0 t) fullShare ((dats m I c).after 0 t)
    ∗ owns c.tc (st0_1 t) fullShare ((dats m I c).after 1 t)
    ∗ owns c.tc (st0_2 t) fullShare ((dats m I c).after 2 t)
    ∗ owns c.tc (st0_3 t) fullShare ((dats m I c).after 3 t)
    ∗ owns c.tc (st0_4 t) fullShare ((dats m I c).after 4 t)
    ∗ owns c.tc (st0_5 t) fullShare ((dats m I c).after 5 t)
    ∗ owns c.tc (st0_6 t) fullShare ((dats m I c).after 6 t)
    ∗ owns c.tc (st0_7 t) fullShare ((dats m I c).after 7 t)
    ∗ owns c.tc (st0_8 t) fullShare ((dats m I c).after 8 t)
    ∗ (∃ X, ⌜(I c).R9 t.val X⌝ ∗ owns c.tc (st0_9 t) fullShare X)
    ∗ (∃ X, ⌜(I c).R10 t.val X⌝ ∗ owns c.tc (st0_10 t) fullShare X)
    ∗ (∃ X, ⌜(I c).R11 t.val X⌝ ∗ owns c.tc (st0_11 t) fullShare X)
    ∗ (∃ X, ⌜(I c).R12 t.val X⌝ ∗ owns c.tc (st0_12 t) fullShare X)
    ∗ (∃ X, ⌜(I c).R13 t.val X⌝ ∗ owns c.tc (st0_13 t) fullShare X)
    ∗ (∃ X, ⌜(I c).R14 t.val X⌝ ∗ owns c.tc (st0_14 t) fullShare X))

set_option maxHeartbeats 2000000 in
theorem sound_body (c : Dev nD) (ok : (I c).Ok m c) (t : Fin cfg0.N) :
    bodyPre m I c t ⊢ wp frame (wpE (defs₀ (F := F)) Variants.none c none) Set.univ (bodyAt0 t) (fun _ => bodyPost m I c t) := by
  unfold bodyPre bodyPost Φat
  simp only [before0, after0, before1, after1, before2, after2, before3, after3, before4, after4, before5, after5, before6, after6, before7, after7, before8, after8]
  rw [show (dats m I c).owesAt () t.succ = (dats m I c).owesAt () t.castSucc from rfl]
  iintro ⟨⟨⟨%x16, H16, %hS⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%x10, %h9, H10⟩, ⟨%x11, %h10, H11⟩, ⟨%x12, %h11, H12⟩, ⟨%x13, %h12, H13⟩, ⟨%x14, %h13, H14⟩, ⟨%x15, %h14, H15⟩⟩
  iapply (body_step m c ok t x10 x11 x12 x13 x14 x15 x16 (found_pre m I c t x10 x12 x13 x14 x15 x16 h9 h11 h12 h13 h14 hS) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨%y10, %y11, %y12, %y13, %y14, %y15, %y16, H1, H2, H3, H4, H5, H6, H7, H8, H9, H10, H11, H12, H13, H14, H15, H16, %hp⟩
  obtain ⟨p9, p10, p11, p12, p13, p14, p15⟩ := hp
  isplitl [H16 Hg]
  · isplitl [H16]
    · iexists y16; isplitl [H16]
      · iexact H16
      · ipureintro; exact p15
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists y10; isplitr
    · ipureintro; exact p9
    · iexact H10
  isplitl [H11]
  · iexists y11; isplitr
    · ipureintro; exact p10
    · iexact H11
  isplitl [H12]
  · iexists y12; isplitr
    · ipureintro; exact p11
    · iexact H12
  isplitl [H13]
  · iexists y13; isplitr
    · ipureintro; exact p12
    · iexact H13
  isplitl [H14]
  · iexists y14; isplitr
    · ipureintro; exact p13
    · iexact H14
  iexists y15; isplitr
  · ipureintro; exact p14
  · iexact H15

theorem body_obligation (c : Dev nD) (ok : (I c).Ok m c) :
    BodyObligationRel (dats m I c) (defs₀ (F := F)) Variants.none () Set.univ marked (I c).Rl := fun t => by
  rw [bigSep_W0, bigSep_W0, defs₀_row]
  exact triple_restated (sound_body m I c ok t) rfl .rfl fun _ => .rfl

set_option backward.isDefEq.respectTransparency.types false in
/-- The run. -/
theorem run_main (ok : ∀ c, (I c).Ok m c) : θ_run defs (onTc (τ := τ) (main (F := F))) (s₀ m ρ)
    (fun r => RDat.FramePost (cfgs 0) (rdat m I) (V m) r ∧ r.2.sem = fun _ => 0) :=
  Pipeline.RDat.θ_run_frame_track_shared (Q' := _) cfgs (0 : Fin 1) launch₀0 defs₀ Variants.none (rdat m I) m ρ main
    (hbody := fun c => (body_obligation m I c (ok c)).toRRel) (hq := fun _ _ _ => rfl) (howed := fun _ _ => rfl) (V := V m)
    (hmain := hmain m Variants.none) (hA := A_eq m I)
    (hin := fun c => by
      rw [rest_eq]
      show _ ⊢ Φat I c 0
      unfold Φat
      iintro ⟨⟨%d, H⟩, Hg⟩
      isplitl [H]
      · iexists d; isplitl [H]
        · iexact H
        · ipureintro; exact (ok c).zero d
      iexact Hg)
    (hout := fun c => by
      rw [rest_eq]
      show Φat I c 33 ⊢ _
      unfold Φat
      iintro ⟨⟨%d, H, %hd⟩, Hg⟩
      isplitl [H]
      · iexists d; iexact H
      iexact Hg)

/-- Nothing said of anything. -/
def idle : Inv F := ⟨fun _ _ => True, fun _ _ => True, fun _ _ => True, fun _ _ => True, fun _ _ => True, fun _ _ => True, fun _ _ => True⟩

theorem idle_ok (c : Dev nD) : (idle : Inv F).Ok m c where
  zero _ := trivial
  A := by intros; exact ⟨trivial, trivial, trivial, trivial, trivial, trivial, trivial⟩
  B := by intros; exact ⟨trivial, trivial, trivial, trivial, trivial, trivial, trivial⟩
  C := by intros; exact ⟨trivial, trivial, trivial, trivial, trivial, trivial, trivial⟩

theorem in_kept {r : PUnit × MemSt nD τ sig (Elt F)} (h : RDat.FramePost (cfgs 0) (rdat m I) (V m) r) (c : Dev nD) (w : Fin cfg0.W)
    (hw : (cfg0.win w).isOut = false) : r.2.mem ((cfg0.spec w).arr.view.loc (c.tc : Thread nD τ)) = V m c (Pipeline.arrRef spec0 w) :=
  (Pipeline.RDat.FramePost.arr_in h c w hw).trans (A_eq m I c w)

set_option maxHeartbeats 1000000 in
/-- The arguments after the run. -/
theorem args_kept {r : PUnit × MemSt nD τ sig (Elt F)} (h : RDat.FramePost (cfgs 0) (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(in_kept m I h c 3 rfl).trans (V_main_arg0 m c), (in_kept m I h c 5 rfl).trans (V_main_arg1 m c),
    (in_kept m I h c 7 rfl).trans (V_main_arg2 m c), (in_kept m I h c 8 rfl).trans (V_main_arg3 m c)⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m (fun _ => idle) h.1 c, h.2⟩) (run_main m ρ (fun _ => idle) (fun c => idle_ok m c))

end Cert.Kernel2Ideal.Mixer

end
-- ==== Proof.Mixer.Frames.lean ====
module

public import proofs.«01_k».proof.Defs
public import proofs.«01_k».proof.Proof.Gen.Kernel2.Frame
public import proofs.«01_k».proof.Proof.Mixer.Launch

@[expose] public section
set_option maxRecDepth 16384
noncomputable section
namespace Cert.Mixer
open Idealize.ShloMosaic Idealize.ShloMosaic.Tactic Idealize.SL.Sem

/-- Every run of the program, at any float, ends with its arguments as they were and its counters at zero. -/
def quiet (F : FTy → Type) [FloatOps F] : Prop := ∀ (m : (ℓ : Loc Cert.Kernel2Ideal.nD Cert.Kernel2Ideal.τ Cert.Kernel2Ideal.sig) → Buf (Elt F) ℓ)
    (ρ : Dev Cert.Kernel2Ideal.nD → PrngReg), True →
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

/-- It holds at every float. -/
theorem quiet_all (F : FTy → Type) [FloatOps F] : quiet F := fun m ρ _ => Cert.Kernel2Ideal.Mixer.frame_run m ρ

/-- The two programs are the same text under two names. -/
theorem same_text : quiet Bits = Cert.quiescent_Kernel2 := by sl_kernel_rfl

/-- The frame of the program as printed. -/
theorem kernel_frame : Cert.quiescent_Kernel2 := same_text.mp (quiet_all Bits)
end Cert.Mixer
end
-- ==== Proof.Reals.lean ====
module

public import Idealize.ShloMosaic.Lib.Pointwise
public import Idealize.ShloMosaic.Lib.Claim

/-! Extended reals that are reals. -/

@[expose] public section

noncomputable section

namespace Cert.Reals

open Idealize.ShloMosaic

theorem coe_sum {ι : Type} (S : Finset ι) (f : ι → ℝ) : ((∑ i ∈ S, f i : ℝ) : EReal) = ∑ i ∈ S, (f i : EReal) :=
  map_sum ({ toFun := fun x : ℝ => (x : EReal), map_zero' := EReal.coe_zero, map_add' := EReal.coe_add } : ℝ →+ EReal) _ _

theorem coe_dot {ι : Type} [Fintype ι] {a b : ι → EReal} {f g : ι → ℝ} (ha : ∀ i, a i = ((f i : ℝ) : EReal)) (hb : ∀ i, b i = ((g i : ℝ) : EReal)) :
    ∑ i, a i * b i = ((∑ i, f i * g i : ℝ) : EReal) := by
  rw [coe_sum]
  exact Finset.sum_congr rfl fun i _ => by rw [ha, hb, EReal.coe_mul]

/-- The derivative of `g · logistic g` times `u`, as the product rule writes it and as it is factored. -/
theorem gate_rule (d u g : ℝ) :
    ((d : EReal) * (u : EReal)) * Ideal.logistic (g : EReal)
      + (g : EReal) * ((d : EReal) * (u : EReal)) * (Ideal.logistic (g : EReal) * (1 - Ideal.logistic (g : EReal)))
    = (d : EReal) * ((u : EReal) * (Ideal.logistic (g : EReal) + (g : EReal) * Ideal.logistic (g : EReal) * (1 - Ideal.logistic (g : EReal)))) := by
  rw [Ideal.logistic_coe, ← EReal.coe_one]
  simp only [← EReal.coe_mul, ← EReal.coe_add, ← EReal.coe_sub]
  exact congrArg (fun x : ℝ => (x : EReal)) (by ring)

end Cert.Reals

end
-- ==== Proof.Ffn.Blocks.lean ====
module

public import proofs.«01_k».proof.Defs
public import proofs.«01_k».proof.Proof.Gen.Kernel3Ideal.Frame
public import Idealize.ShloMosaic.Lib.Pipeline.ValueKit

/-! The gradient through the gated feed-forward: what the two kernels leave in their arrays. The first writes the two derivative
tensors of `silu g · u`, the second multiplies them with the cotangent of the activations. -/

@[expose] public section

set_option maxRecDepth 16384

noncomputable section

namespace Cert.Kernel3Ideal.Ffn

open Idealize.ShloMosaic TcCoe Idealize.SL.Sem
open Cert.Kernel3Ideal Gen
open Idealize.ShloMosaic.Pipeline (Dat)
open Idealize.ShloMosaic.Tactic

variable (V : (c : Dev nD) → (b : Ref sig .tc) → Buf (Elt Ideal) ((c : Thread nD τ).loc b))

/-- The product of a row of activations with a column of the quartered weight, quarter `q + s`, where column `c` lies in quarter `q`. -/
def preAt (X : FVec Ideal S8192x1024 .bf16) (W : FVec Ideal S4x1024x1408 .bf16) (s : ℕ) (hs : s ≤ 2) (r : Fin 8192) (c : Fin 2816) : EReal :=
  ∑ k : Fin 1024, X (ix2 r k) * W (ix3 ⟨c.val / 1408 + s, by omega⟩ k ⟨c.val % 1408, by omega⟩)

/-- The two derivative tensors: by the gate, then by the value. -/
def guOf (X : FVec Ideal S8192x1024 .bf16) (W : FVec Ideal S4x1024x1408 .bf16) : FVec Ideal S2x8192x2816 .bf16 := fun j =>
  if (j 0).val = 0 then
    preAt X W 2 le_rfl (j 1) (j 2) * (Ideal.logistic (preAt X W 0 (by decide) (j 1) (j 2))
      + preAt X W 0 (by decide) (j 1) (j 2) * Ideal.logistic (preAt X W 0 (by decide) (j 1) (j 2))
        * (1 - Ideal.logistic (preAt X W 0 (by decide) (j 1) (j 2))))
  else preAt X W 0 (by decide) (j 1) (j 2) * Ideal.logistic (preAt X W 0 (by decide) (j 1) (j 2))

theorem guOf_gate (X : FVec Ideal S8192x1024 .bf16) (W : FVec Ideal S4x1024x1408 .bf16) (j : S2x8192x2816.Idx) (h : (j 0).val = 0) :
    guOf X W j = preAt X W 2 le_rfl (j 1) (j 2) * (Ideal.logistic (preAt X W 0 (by decide) (j 1) (j 2))
      + preAt X W 0 (by decide) (j 1) (j 2) * Ideal.logistic (preAt X W 0 (by decide) (j 1) (j 2))
        * (1 - Ideal.logistic (preAt X W 0 (by decide) (j 1) (j 2)))) := if_pos h

theorem guOf_value (X : FVec Ideal S8192x1024 .bf16) (W : FVec Ideal S4x1024x1408 .bf16) (j : S2x8192x2816.Idx) (h : (j 0).val ≠ 0) :
    guOf X W j = preAt X W 0 (by decide) (j 1) (j 2) * Ideal.logistic (preAt X W 0 (by decide) (j 1) (j 2)) := if_neg h

/-- The cotangent of the activations times a derivative tensor. -/
def backOf (D : FVec Ideal S8192x1024 .bf16) (W : FVec Ideal S2816x1024 .bf16) (G : FVec Ideal S2x8192x2816 .bf16) : FVec Ideal S2x8192x2816 .bf16 := fun j =>
  (∑ k : Fin 1024, D (ix2 (j 1) k) * W (ix2 (j 2) k)) * G j

theorem idx0 : ∀ t : Fin cfg0.N, win0_0.index t = ![t.val % 8, 0] ∧ win0_1.index t = ![t.val / 8, 0, 0] ∧ win0_2.index t = ![t.val / 8 + 2, 0, 0]
    ∧ win0_3.index t = ![0, t.val % 8, t.val / 8] := (by decide +kernel : ∀ t : Fin grid0.N, _)

theorem idx1 : ∀ t : Fin cfg1.N, win1_0.index t = ![t.val % 8, 0] ∧ win1_1.index t = ![t.val / 8, 0] ∧ win1_2.index t = ![0, t.val % 8, t.val / 8]
    ∧ win1_3.index t = ![0, t.val % 8, t.val / 8] := (by decide +kernel : ∀ t : Fin grid1.N, _)

theorem final0 (c : Dev nD) : (dat0 V c).arrAt 3 cfg0.N = guOf (V c main_arg0) (V c main_v3) := by
  refine (dat0 V c).arrAt_eq_of_covers 3 _ (by decide +kernel) fun t _ y => ?_
  blk_simp
  rw [after0_3]
  canon_tiles x h
  · rw [guOf_value _ _ _ (by blk_simp [idx0 t]; omega)]
    open_payloads
    pointwise [preAt]
    blk_point [iblk0, idx0 t]
  · rw [guOf_gate _ _ _ (by blk_simp [idx0 t]; omega)]
    open_payloads
    pointwise [preAt]
    blk_point [iblk0, idx0 t]

theorem final1 (c : Dev nD) : (dat1 V c).arrAt 3 cfg1.N = backOf (V c main_arg3) (V c main_v6) (V c main_v4_0) := by
  refine (dat1 V c).arrAt_eq_of_covers 3 _ (by decide +kernel) fun t _ y => ?_
  blk_simp
  rw [after1_3]
  unfold Gen.outsAt1
  frame_out
  canon_tiles x h using (View.cover_of_tiledBy _ ![1, 1024, 128] (by sl_kernel_rfl) y)
  all_goals (open_payloads; pointwise [backOf]; blk_point [iblk1, idx1 t])

end Cert.Kernel3Ideal.Ffn

end
-- ==== Proof.Ffn.Run.lean ====
module

public import proofs.«01_k».proof.Proof.Ffn.Blocks
public import Idealize.ShloMosaic.Lib.StableHlo.RunRead

/-! The run of the program of the gated feed-forward's gradient: after it every array holds what the last boundary says, so the result
holds what the second kernel left in it. -/

@[expose] public section

set_option maxRecDepth 16384

noncomputable section

namespace Cert.Kernel3Ideal.Ffn

open Idealize.ShloMosaic TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.Kernel3Ideal Gen
open Idealize.ShloMosaic.Pipeline (Dat)

variable (m : (ℓ : Loc nD τ sig) → Buf (Elt Ideal) ℓ) (ρ : Dev nD → PrngReg)

set_option backward.isDefEq.respectTransparency.types false in
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp _)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

theorem shards_read (w : FVec Ideal S1x1024x5632 .f32) (q : Fin 4) (k : Fin 1024) (l : Fin 1408) :
    truncf .bf16 (transpose S4x1024x1408 [1, 0, 2] (shapeCast S1024x4x1408 (shapeCast S1024x5632 w
      shapeCasts_S1x1024x5632_S1024x5632) shapeCasts_S1024x5632_S1024x4x1408) transposes_S1024x4x1408_S4x1024x1408_1_0_2) bitsLt_bf16_f32 (ix3 q k l)
    = w (ix3 (0 : Fin 1) k ⟨q.val * 1408 + l.val, by omega⟩) := by
  pointwise
  blk_ext

theorem out_weight_read (w : FVec Ideal S1x2816x1024 .f32) (k : Fin 2816) (l : Fin 1024) :
    truncf .bf16 (shapeCast S2816x1024 w shapeCasts_S1x2816x1024_S2816x1024) bitsLt_bf16_f32 (ix2 k l) = w (ix3 (0 : Fin 1) k l) := by
  pointwise

/-- The weight as the first kernel reads it: its columns in four quarters. -/
theorem shards (c : Dev nD) (q : Fin 4) (k : Fin 1024) (l : Fin 1408) :
    V1 m ρ c main_v3 (ix3 q k l) = m (c.tc.loc main_arg1) (ix3 (0 : Fin 1) k ⟨q.val * 1408 + l.val, by omega⟩) := by
  show W1 m ρ c (Proc.devRef .tc main_v3) (ix3 q k l) = _
  after_reads_simp
  exact shards_read _ q k l

theorem result (c : Dev nD) : W4 m ρ c (Proc.devRef .tc main_v7)
    = backOf (m (c.tc.loc main_arg3)) (V3 m ρ c main_v6) (guOf (m (c.tc.loc main_arg0)) (V1 m ρ c main_v3)) := by
  have e : V3 m ρ c main_v4_0 = guOf (m (c.tc.loc main_arg0)) (V1 m ρ c main_v3) :=
    (W3_of m ρ c main_v4_0 (by decide)).trans ((W2_arr m ρ c 3).trans ((final0 (V1 m ρ) c).trans
      (congrArg (fun x => guOf x _) (W1_args m ρ c main_arg0 (by decide)))))
  refine (W4_arr m ρ c 3).trans ((final1 (V3 m ρ) c).trans ?_)
  rw [e, show V3 m ρ c main_arg3 = m (c.tc.loc main_arg3) from W3_args m ρ c main_arg3 (by decide)]

theorem out_weight (c : Dev nD) (k : Fin 2816) (l : Fin 1024) :
    V3 m ρ c main_v6 (ix2 k l) = m (c.tc.loc main_arg2) (ix3 (0 : Fin 1) k l) := by
  show W3 m ρ c (Proc.devRef .tc main_v6) (ix2 k l) = _
  after_reads_simp
  rw [W2_args m ρ c main_arg2 (by decide)]
  exact out_weight_read _ k l

end Cert.Kernel3Ideal.Ffn

end
-- ==== Proof.Mixer.Soft.lean ====
module

public import proofs.«01_k».proof.Proof.Mixer.Base
public import Idealize.ShloMosaic.Lib.Pipeline.ValueKit

/-! The masked softmax with a sink and its derivative, over the reals and as the body computes them. -/

@[expose] public section

set_option maxRecDepth 16384

noncomputable section

namespace Cert.Mixer

open Idealize.ShloMosaic

/-- A matrix of extended reals whose entries are the reals of `g`. -/
def Is2 {n k : ℕ} (v : (⟨2, ![n, k]⟩ : Shape).Idx → EReal) (g : ℕ → ℕ → ℝ) : Prop :=
  ∀ i, v i = ((g (i 0).val (i 1).val : ℝ) : EReal)

theorem Is2.congr {n k : ℕ} {v : (⟨2, ![n, k]⟩ : Shape).Idx → EReal} {g g' : ℕ → ℕ → ℝ} (h : Is2 v g)
    (e : ∀ i j, i < n → j < k → g i j = g' i j) : Is2 v g' :=
  fun i => (h i).trans (congrArg _ (e _ _ (i 0).isLt (i 1).isLt))

theorem coe_sum {n : ℕ} (f : Fin n → ℝ) : ((∑ i, f i : ℝ) : EReal) = ∑ i, (f i : EReal) :=
  map_sum ({ toFun := fun x : ℝ => (x : EReal), map_zero' := EReal.coe_zero, map_add' := EReal.coe_add } : ℝ →+ EReal) _ _

/-! ### Over the reals: one group of rows against 256 keys -/

section
variable (vd : ℕ → ℕ → Prop) [∀ r k, Decidable (vd r k)] (s dp : ℕ → ℕ → ℝ) (sk : ℕ → ℝ)

def ex (r k : ℕ) : ℝ := if vd r k then Real.exp (s r k) else 0
def den (r : ℕ) : ℝ := (∑ k : Fin 256, ex vd s r k) + Real.exp (sk r)
def pr (r k : ℕ) : ℝ := ex vd s r k / den vd s sk r
def ps (r : ℕ) : ℝ := Real.exp (sk r) / den vd s sk r
def del (r : ℕ) : ℝ := ∑ k : Fin 256, pr vd s sk r k * dp r k
def dsc (r k : ℕ) : ℝ := pr vd s sk r k * (dp r k - del vd s dp sk r)

theorem den_pos (r : ℕ) : 0 < den vd s sk r :=
  add_pos_of_nonneg_of_pos (Finset.sum_nonneg fun k _ => by unfold ex; split_ifs <;> positivity) (Real.exp_pos _)

end

theorem fold_max_real {n : ℕ} (f : Fin n → EReal) (h : ∀ i, f i ≠ ⊤) (c : ℝ) :
    ∃ μ : ℝ, max (Finset.fold max ⊥ f Finset.univ) (c : EReal) = μ := by
  have ht : Finset.fold max ⊥ f Finset.univ < ⊤ :=
    (Finset.fold_max_lt _).2 ⟨bot_lt_top, fun i _ => lt_top_iff_ne_top.2 (h i)⟩
  refine ⟨_, (EReal.coe_toReal (x := max _ (c : EReal)) ?_ ?_).symm⟩
  · exact (max_lt ht (EReal.coe_lt_top c)).ne
  · exact (lt_of_lt_of_le (EReal.bot_lt_coe c) (le_max_right _ _)).ne'

theorem ideal_exp_bot : Ideal.exp (⊥ : EReal) = 0 := by rfl

/-- One masked, shifted exponential. -/
theorem exp_masked (p : Prop) [Decidable p] (x μ : ℝ) :
    Ideal.exp ((if p then (x : EReal) else ⊥) - (μ : EReal))
      = (((if p then Real.exp x else 0) * Real.exp (-μ) : ℝ) : EReal) := by
  split_ifs with hp
  · rw [← EReal.coe_sub, Ideal.exp_coe, ← Real.exp_add, sub_eq_add_neg]
  · rw [EReal.bot_sub, ideal_exp_bot]; simp

end Cert.Mixer
-- ==== Proof.Mixer.Ops.lean ====
module

public import proofs.«01_k».proof.Proof.Mixer.Soft

/-! The body's matrix operations, each named once, and what they hold over the reals. -/

@[expose] public section

set_option maxRecDepth 16384

noncomputable section

namespace Cert.Kernel2Ideal.Mixer

open Idealize.ShloMosaic TcCoe Cert.Kernel2Ideal Gen Cert.Mixer

theorem ofBits_neg_inf : Ideal.ofBits FTy.f32 4286578688#32 = ⊥ := by
  simp [Ideal.ofBits, Ideal.ieee]

/-- A mask that reads `vd`. -/
def IsMask {n k : ℕ} (v : (⟨2, ![n, k]⟩ : Shape).Idx → BitVec 1) (vd : ℕ → ℕ → Prop) [∀ r k, Decidable (vd r k)] : Prop :=
  ∀ i, v i = if vd (i 0).val (i 1).val then 1#1 else 0#1

theorem select_mask (p : Prop) [Decidable p] {α : Type} (a b : α) :
    Scalar.select (if p then 1#1 else 0#1) a b = if p then a else b := by
  split_ifs <;> rfl

def maskedV (v : IVec S512x256 1) (s : FVec Ideal S512x256 .f32) : FVec Ideal S512x256 .f32 :=
  select v s (broadcast S512x256 (Scalar.ofBits .f32 0xFF800000#32))
def topV (v : IVec S512x256 1) (s : FVec Ideal S512x256 .f32) (col : FVec Ideal S512x1 .f32) : FVec Ideal S512x1 .f32 :=
  maximumf (shapeCast S512x1 (multiReduction .maximumf [1] S512 (maskedV v s) 0xFF800000#32 reduces_S512x256_S512 (.inl rfl) rfl) shapeCasts_S512_S512x1) col
def expV (v : IVec S512x256 1) (s : FVec Ideal S512x256 .f32) (col : FVec Ideal S512x1 .f32) : FVec Ideal S512x256 .f32 :=
  exp (subf (maskedV v s) (broadcastTo S512x256 (topV v s col) broadcasts_S512x1_S512x256))
def sinkV (v : IVec S512x256 1) (s : FVec Ideal S512x256 .f32) (col : FVec Ideal S512x1 .f32) : FVec Ideal S512x1 .f32 :=
  exp (subf col (topV v s col))
def invV (v : IVec S512x256 1) (s : FVec Ideal S512x256 .f32) (col : FVec Ideal S512x1 .f32) : FVec Ideal S512x1 .f32 :=
  divf (broadcast S512x1 (Scalar.ofBits .f32 0x3F800000#32)) (addf (shapeCast S512x1 (multiReduction .add [1] S512 (expV v s col) 0x00000000#32 reduces_S512x256_S512 (.inl rfl) rfl) shapeCasts_S512_S512x1) (sinkV v s col))
def probV (v : IVec S512x256 1) (s : FVec Ideal S512x256 .f32) (col : FVec Ideal S512x1 .f32) : FVec Ideal S512x256 .f32 :=
  mulf (expV v s col) (broadcastTo S512x256 (invV v s col) broadcasts_S512x1_S512x256)
def scoreV (q : FVec Ideal S512x128 .bf16) (k : FVec Ideal S256x128 .bf16) : FVec Ideal S512x256 .f32 :=
  matmul dot_S512x128_S256x128_S512x256_1_1_0_0_n_n none q k (constant S512x256 .f32 0x00000000#32)
def delV (p dp : FVec Ideal S512x256 .f32) : FVec Ideal S512x1 .f32 :=
  shapeCast S512x1 (multiReduction .add [1] S512 (mulf p dp) 0x00000000#32 reduces_S512x256_S512 (.inl rfl) rfl) shapeCasts_S512_S512x1
def dsV (p dp : FVec Ideal S512x256 .f32) : FVec Ideal S512x256 .bf16 :=
  truncf .bf16 (mulf p (subf dp (broadcastTo S512x256 (delV p dp) broadcasts_S512x1_S512x256))) bitsLt_bf16_f32
def backQ (ds : FVec Ideal S512x256 .bf16) (k : FVec Ideal S256x128 .bf16) : FVec Ideal S512x128 .f32 :=
  matmul dot_S512x256_S256x128_S512x128_1_0_0_1_n_n none ds k (constant S512x128 .f32 0x00000000#32)
def backK (q : FVec Ideal S512x128 .bf16) (ds : FVec Ideal S512x256 .bf16) : FVec Ideal S256x128 .f32 :=
  transpose S256x128 [1, 0] (matmul dot_S512x128_S512x256_S128x256_0_0_1_1_n_n none q ds (constant S128x256 .f32 0x00000000#32)) transposes_S128x256_p1_0_S256x128
def dskV (sk inv del : FVec Ideal S512x1 .f32) : FVec Ideal S512x1 .f32 :=
  subf (broadcast S512x1 (Scalar.ofBits .f32 0x00000000#32)) (mulf (mulf sk inv) del)

section
variable {vd : ℕ → ℕ → Prop} [∀ r k, Decidable (vd r k)] {s dp : ℕ → ℕ → ℝ} {sk : ℕ → ℝ}
  {v : IVec S512x256 1} {S D : FVec Ideal S512x256 .f32} {col : FVec Ideal S512x1 .f32}

theorem topV_real (hv : IsMask v vd) (hS : Is2 S s) (hc : Is2 col fun r _ => sk r) (i : S512x1.Idx) :
    ∃ μ : ℝ, topV v S col i = μ := by
  pointwise [topV, maskedV]
  rw [hc i, ofBits_neg_inf]
  refine fold_max_real _ (fun x => ?_) _
  rw [hv, select_mask, hS]
  split_ifs
  · exact EReal.coe_ne_top _
  · exact bot_ne_top

theorem expV_real (hv : IsMask v vd) (hS : Is2 S s) (hc : Is2 col fun r _ => sk r) (i : S512x256.Idx) {μ : ℝ}
    (hμ : topV v S col (ix2 (i 0) 0) = μ) :
    expV v S col i = ((ex vd s (i 0) (i 1) * Real.exp (-μ) : ℝ) : EReal) := by
  pointwise [expV, maskedV]
  rw [ofBits_neg_inf, hv, select_mask, hS, hμ, exp_masked]
  rfl

theorem sinkV_real (hc : Is2 col fun r _ => sk r) (i : S512x1.Idx) {μ : ℝ} (hμ : topV v S col i = μ) :
    sinkV v S col i = ((Real.exp (sk (i 0)) * Real.exp (-μ) : ℝ) : EReal) := by
  pointwise [sinkV]
  rw [hc, hμ, ← EReal.coe_sub, Ideal.exp_coe, ← Real.exp_add, sub_eq_add_neg]

theorem invV_real (hv : IsMask v vd) (hS : Is2 S s) (hc : Is2 col fun r _ => sk r) (i : S512x1.Idx) {μ : ℝ}
    (hμ : topV v S col i = μ) :
    invV v S col i = ((1 / (den vd s sk (i 0) * Real.exp (-μ)) : ℝ) : EReal) := by
  have h0 : (ix2 (i 0) 0 : S512x1.Idx) = i := funext fun a => by
    fin_cases a
    · rfl
    · exact (Subsingleton.elim (α := Fin 1) _ _)
  have hi : ∀ x : Fin 256, topV v S col (ix2 ((ix2 (i 0) x : S512x256.Idx) 0) 0) = μ := fun x =>
    (congrArg (topV v S col) h0).trans hμ
  have hp : den vd s sk (i 0) * Real.exp (-μ) ≠ 0 := (mul_pos (den_pos vd s sk (i 0)) (Real.exp_pos (-μ))).ne'
  have hd : (∑ x : Fin 256, ex vd s (i 0) x * Real.exp (-μ)) + Real.exp (sk (i 0)) * Real.exp (-μ)
      = den vd s sk (i 0) * Real.exp (-μ) := by
    rw [← Finset.sum_mul, ← add_mul, den]
  pointwise [invV]
  simp only [fun x => expV_real hv hS hc (ix2 (i 0) x) (hi x), h0, sinkV_real hc i hμ]
  rw [← coe_sum, ← EReal.coe_add]
  refine (congrArg (fun x : ℝ => Ideal.div 1 (x : EReal)) hd).trans ?_
  rw [Ideal.div_coe hp, one_mul]

theorem mul_inv_shift (a : ℝ) {d : ℝ} (hd : d ≠ 0) (μ : ℝ) :
    a * Real.exp (-μ) * (1 / (d * Real.exp (-μ))) = a / d := by
  have := (Real.exp_pos (-μ)).ne'
  field_simp

theorem probV_real (hv : IsMask v vd) (hS : Is2 S s) (hc : Is2 col fun r _ => sk r) :
    Is2 (probV v S col) (pr vd s sk) := fun i => by
  obtain ⟨μ, hμ⟩ := topV_real hv hS hc (ix2 (i 0) 0)
  pointwise [probV]
  rw [expV_real hv hS hc i hμ, invV_real hv hS hc _ hμ, ← EReal.coe_mul, pr]
  exact congrArg _ (mul_inv_shift _ (den_pos vd s sk (i 0)).ne' μ)

theorem psV_real (hv : IsMask v vd) (hS : Is2 S s) (hc : Is2 col fun r _ => sk r) (i : S512x1.Idx) :
    sinkV v S col i * invV v S col i = ((ps vd s sk (i 0) : ℝ) : EReal) := by
  obtain ⟨μ, hμ⟩ := topV_real hv hS hc i
  rw [sinkV_real hc i hμ, invV_real hv hS hc _ hμ, ← EReal.coe_mul, ps]
  exact congrArg _ (mul_inv_shift _ (den_pos vd s sk (i 0)).ne' μ)

end

theorem scoreV_real {q : FVec Ideal S512x128 .bf16} {k : FVec Ideal S256x128 .bf16} {gq gk : ℕ → ℕ → ℝ}
    (hq : Is2 q gq) (hk : Is2 k gk) : Is2 (scoreV q k) fun r c => ∑ l : Fin 128, gq r l * gk c l := fun i => by
  pointwise [scoreV]
  simp only [hq _, hk _, ← EReal.coe_mul, ← coe_sum]
  rfl

theorem delV_real {P D : FVec Ideal S512x256 .f32} {p d : ℕ → ℕ → ℝ} (hP : Is2 P p) (hD : Is2 D d) :
    Is2 (delV P D) fun r _ => ∑ k : Fin 256, p r k * d r k := fun i => by
  pointwise [delV]
  simp only [hP _, hD _, ← EReal.coe_mul, ← coe_sum]
  rfl

theorem dsV_real {P D : FVec Ideal S512x256 .f32} {p d : ℕ → ℕ → ℝ} (hP : Is2 P p) (hD : Is2 D d) :
    Is2 (dsV P D) fun r c => p r c * (d r c - ∑ k : Fin 256, p r k * d r k) := fun i => by
  pointwise [dsV]
  rw [delV_real hP hD, hP, hD, ← EReal.coe_sub, ← EReal.coe_mul]
  rfl

theorem backQ_real {d : FVec Ideal S512x256 .bf16} {k : FVec Ideal S256x128 .bf16} {gd gk : ℕ → ℕ → ℝ}
    (hd : Is2 d gd) (hk : Is2 k gk) : Is2 (backQ d k) fun r l => ∑ c : Fin 256, gd r c * gk c l := fun i => by
  pointwise [backQ]
  simp only [hd _, hk _, ← EReal.coe_mul, ← coe_sum]
  rfl

theorem backK_real {q : FVec Ideal S512x128 .bf16} {d : FVec Ideal S512x256 .bf16} {gq gd : ℕ → ℕ → ℝ}
    (hq : Is2 q gq) (hd : Is2 d gd) : Is2 (backK q d) fun c l => ∑ r : Fin 512, gq r l * gd r c := fun i => by
  pointwise [backK]
  simp only [hd _, hq _, ← EReal.coe_mul, ← coe_sum]
  rfl

theorem dskV_real {sk inv del : FVec Ideal S512x1 .f32} {a b : ℕ → ℝ} (h : ∀ i, sk i * inv i = ((a (i 0).val : ℝ) : EReal))
    (hd : Is2 del fun r _ => b r) : Is2 (dskV sk inv del) fun r _ => -(a r * b r) := fun i => by
  pointwise [dskV]
  rw [h, hd, ← EReal.coe_mul, zero_sub, EReal.coe_neg]

end Cert.Kernel2Ideal.Mixer
-- ==== Proof.Mixer.Lanes.lean ====
module

public import proofs.«01_k».proof.Proof.Mixer.Ops

/-! The body's masks, lane moves, stacks and column sums, each named once, and what they hold over the reals. -/

@[expose] public section

set_option maxRecDepth 16384

noncomputable section

namespace Cert.Kernel2Ideal.Mixer

open Idealize.ShloMosaic TcCoe Cert.Kernel2Ideal Gen Cert.Mixer

def bandV : IVec S512x256 1 :=
  andi (cmpi .sgt (iota .tc S512x256 32 [1] iota_S512x256_d1_w32) (andi (iota .tc S512x256 32 [0] iota_S512x256_d0_w32) (broadcast S512x256 127#32)))
    (cmpi .sle (iota .tc S512x256 32 [1] iota_S512x256_d1_w32) (addi (andi (iota .tc S512x256 32 [0] iota_S512x256_d0_w32) (broadcast S512x256 127#32)) (broadcast S512x256 128#32)))
def maskV (n : BitVec 32) : IVec S512x256 1 :=
  andi bandV (ori (broadcast S512x256 (Scalar.cmpi .sgt n 0#32)) (cmpi .sge (iota .tc S512x256 32 [1] iota_S512x256_d1_w32) (broadcast S512x256 128#32)))
def laneV : IVec S256x128 1 := cmpi .slt (iota .tc S256x128 32 [1] iota_S256x128_d1_w32) (broadcast S256x128 64#32)
def laneN : IVec S256x128 1 := xori laneV (constantI S256x128 1 1#1)
def rowblkV : IVec S512x1 32 :=
  let r := iota .tc S512x1 32 [0] iota_S512x1_d0_w32
  let q := divsi r (broadcast S512x1 128#32)
  select (andi (cmpi .ne (subi (extui 32 (cmpi .sgt r (broadcast S512x1 0#32)) natLt_1_32) (extui 32 (cmpi .slt r (broadcast S512x1 0#32)) natLt_1_32)) (broadcast S512x1 1#32))
    (cmpi .ne (remsi r (broadcast S512x1 128#32)) (broadcast S512x1 0#32))) (subi q (broadcast S512x1 1#32)) q
def sinkcolV (a b c d : Elt Ideal .f32) : FVec Ideal S512x1 .f32 :=
  select (cmpi .eq rowblkV (broadcast S512x1 3#32)) (broadcast S512x1 d)
    (select (cmpi .eq rowblkV (broadcast S512x1 2#32)) (broadcast S512x1 c)
      (select (cmpi .eq rowblkV (broadcast S512x1 1#32)) (broadcast S512x1 b)
        (select (cmpi .eq rowblkV (broadcast S512x1 0#32)) (broadcast S512x1 a) (broadcast S512x1 (Scalar.ofBits .f32 0x00000000#32)))))
def loB (x : FVec Ideal S256x128 .bf16) : FVec Ideal S256x128 .bf16 := select laneV x (broadcast S256x128 (Scalar.ofBits .bf16 0x0000#16))
def hiB (x : FVec Ideal S256x128 .bf16) : FVec Ideal S256x128 .bf16 := select laneN x (broadcast S256x128 (Scalar.ofBits .bf16 0x0000#16))
def loF (x : FVec Ideal S256x128 .f32) : FVec Ideal S256x128 .f32 := select laneV x (broadcast S256x128 (Scalar.ofBits .f32 0x00000000#32))
def hiF (x : FVec Ideal S256x128 .f32) : FVec Ideal S256x128 .f32 := select laneN x (broadcast S256x128 (Scalar.ofBits .f32 0x00000000#32))
def kvV (a b : Vec Ideal S128x256 .bf16) : FVec Ideal S256x256 .bf16 :=
  concatenate S256x256 0 [⟨S128x256, a⟩, ⟨S128x256, b⟩] concatenates_S128x256_S128x256_S256x256_d0
def keyV (a b : Vec Ideal S128x256 .bf16) : FVec Ideal S256x128 .bf16 :=
  mulf (extractStridedSlice S256x128 ![0, 0] (kvV a b) slices_S256x256_o0_0_S256x128) (broadcast S256x128 (Scalar.ofBits .bf16 0x3E00#16))
def valV (a b : Vec Ideal S128x256 .bf16) : FVec Ideal S256x128 .bf16 :=
  extractStridedSlice S256x128 ![0, 128] (kvV a b) slices_S256x256_o0_128_S256x128
def rotB (x : FVec Ideal S256x128 .bf16) : FVec Ideal S256x128 .bf16 := dynamicRotate 1 64#32 none x rotates_S256x128_d1
def rotF (x : FVec Ideal S256x128 .f32) : FVec Ideal S256x128 .f32 := dynamicRotate 1 64#32 none x rotates_S256x128_d1
def stackV (a b c d : FVec Ideal S128x128 .bf16) : FVec Ideal S512x128 .bf16 :=
  concatenate S512x128 0 [⟨S128x128, a⟩, ⟨S128x128, b⟩, ⟨S128x128, c⟩, ⟨S128x128, d⟩] concatenates_S128x128_S128x128_S128x128_S128x128_S512x128_d0
def dkvV (k0 k1 v0 v1 : FVec Ideal S256x128 .f32) : FVec Ideal S256x256 .f32 :=
  concatenate S256x256 1 [⟨S256x128, mulf (addf k0 (rotF k1)) (broadcast S256x128 (Scalar.ofBits .f32 0x3E000000#32))⟩, ⟨S256x128, addf v0 (rotF v1)⟩] concatenates_S256x128_S256x128_S256x256_d1
def sinkLane (j m : BitVec 32) (d : FVec Ideal S512x1 .f32) (acc : FVec Ideal S1x128 .f32) : FVec Ideal S1x128 .f32 :=
  addf acc (select (cmpi .eq (iota .tc S1x128 32 [1] iota_S1x128_d1_w32) (broadcast S1x128 m))
    (broadcastTo S1x128 (shapeCast S1x1 (shapeCast S1x1 (multiReduction .add [0] S1 (select (cmpi .eq rowblkV (broadcast S512x1 j)) d (broadcast S512x1 (Scalar.ofBits .f32 0x00000000#32))) 0x00000000#32 reduces_S512x1_S1 (.inl rfl) rfl) shapeCasts_S1_S1x1) shapeCasts_S1x1_S1x1) broadcasts_S1x1_S1x128)
    (broadcast S1x128 (Scalar.ofBits .f32 0x00000000#32)))

/-! ### The masks -/

/-- A row of four stacked blocks sees the keys at most 128 before its own. -/
abbrev band (r k : ℕ) : Prop := r % 128 < k ∧ k ≤ r % 128 + 128
/-- Before the first block there is no key. -/
abbrev seen (n r k : ℕ) : Prop := band r k ∧ (0 < n ∨ 128 ≤ k)

theorem low_bits : ∀ r : Fin 512, IntOp.andi (BitVec.ofNat 32 r.val) 127#32 = BitVec.ofNat 32 (r.val % 128) := by
  decide +kernel

theorem ofBool_eq (p : Prop) [Decidable p] : BitVec.ofBool (decide p) = if p then 1#1 else 0#1 := by
  by_cases h : p <;> simp [h]

theorem andi_ite (p q : Prop) [Decidable p] [Decidable q] :
    IntOp.andi (if p then 1#1 else 0#1) (if q then 1#1 else 0#1) = if p ∧ q then 1#1 else 0#1 := by
  by_cases p <;> by_cases q <;> simp [*] <;> rfl

theorem ori_ite (p q : Prop) [Decidable p] [Decidable q] :
    IntOp.ori (if p then 1#1 else 0#1) (if q then 1#1 else 0#1) = if p ∨ q then 1#1 else 0#1 := by
  by_cases p <;> by_cases q <;> simp [*] <;> rfl

theorem bandV_is : IsMask bandV band := fun i => by
  have h0 : (i 0).val < 512 := (i 0).isLt
  have h1 : (i 1).val < 256 := (i 1).isLt
  have hs : IntOp.addi (BitVec.ofNat 32 ((i 0).val % 128)) 128#32 = BitVec.ofNat 32 ((i 0).val % 128 + 128) :=
    (BitVec.ofNat_add ..).symm
  pointwise [bandV]
  rw [low_bits ⟨(i 0).val, h0⟩]
  simp only []
  rw [hs, WordCmp.cmpi_sgt_ofNat (by omega) (by omega), WordCmp.cmpi_sle_ofNat (by omega) (by omega), ofBool_eq, ofBool_eq,
    andi_ite]

theorem maskV_is {n : ℕ} (hn : n < 64) : IsMask (maskV (BitVec.ofNat 32 n)) (seen n) := fun i => by
  have h1 : (i 1).val < 256 := (i 1).isLt
  pointwise [maskV]
  rw [bandV_is i, Scalar.cmpi, WordCmp.cmpi_sgt_ofNat (by omega) (by omega), WordCmp.cmpi_sge_ofNat (by omega) (by omega),
    ofBool_eq, ofBool_eq, ori_ite, andi_ite]

theorem laneV_is : IsMask laneV fun _ l => l < 64 := fun i => by
  have h1 : (i 1).val < 128 := (i 1).isLt
  pointwise [laneV]
  rw [WordCmp.cmpi_slt_ofNat (by omega) (by omega), ofBool_eq]

theorem laneN_is : IsMask laneN fun _ l => ¬ l < 64 := fun i => by
  pointwise [laneN]
  rw [laneV_is i]
  by_cases h : (i 1).val < 64 <;> simp [h] <;> rfl

theorem rowWord : ∀ r : Fin 512, Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32))) 1#32)
        (IntOp.cmpi .ne (IntOp.remsi .vector (BitVec.ofNat 32 r.val) 128#32) 0#32))
      (IntOp.subi (IntOp.divsi .vector (BitVec.ofNat 32 r.val) 128#32) 1#32)
      (IntOp.divsi .vector (BitVec.ofNat 32 r.val) 128#32) = BitVec.ofNat 32 (r.val / 128) := by
  decide +kernel

theorem rowblkV_is (i : S512x1.Idx) : rowblkV i = BitVec.ofNat 32 ((i 0).val / 128) := by
  pointwise [rowblkV]
  exact rowWord (i 0)

/-! ### Lanes and stacks over the reals -/

theorem is2_lo {x : FVec Ideal S256x128 .bf16} {g : ℕ → ℕ → ℝ} (h : Is2 x g) :
    Is2 (loB x) fun r l => if l < 64 then g r l else 0 := fun i => by
  pointwise [loB]
  rw [laneV_is i, select_mask, h]
  split_ifs <;> simp

theorem is2_hi {x : FVec Ideal S256x128 .bf16} {g : ℕ → ℕ → ℝ} (h : Is2 x g) :
    Is2 (hiB x) fun r l => if l < 64 then 0 else g r l := fun i => by
  pointwise [hiB]
  rw [laneN_is i, select_mask, h]
  by_cases hl : (i 1).val < 64 <;> simp [hl]

theorem is2_loF {x : FVec Ideal S256x128 .f32} {g : ℕ → ℕ → ℝ} (h : Is2 x g) :
    Is2 (loF x) fun r l => if l < 64 then g r l else 0 := fun i => by
  pointwise [loF]
  rw [laneV_is i, select_mask, h]
  split_ifs <;> simp

theorem is2_hiF {x : FVec Ideal S256x128 .f32} {g : ℕ → ℕ → ℝ} (h : Is2 x g) :
    Is2 (hiF x) fun r l => if l < 64 then 0 else g r l := fun i => by
  pointwise [hiF]
  rw [laneN_is i, select_mask, h]
  by_cases hl : (i 1).val < 64 <;> simp [hl]

theorem is2_rot {x : FVec Ideal S256x128 .f32} {g : ℕ → ℕ → ℝ} (h : Is2 x g) :
    Is2 (rotF x) fun r l => g r ((l + 64) % 128) := fun i => by
  pointwise [rotF]
  exact h _

theorem is2_rotB {x : FVec Ideal S256x128 .bf16} {g : ℕ → ℕ → ℝ} (h : Is2 x g) :
    Is2 (rotB x) fun r l => g r ((l + 64) % 128) := is2_rot (x := x) h

theorem is2_add {n k : ℕ} {φ : FTy} {x y : FVec Ideal (⟨2, ![n, k]⟩ : Shape) φ} {g g' : ℕ → ℕ → ℝ} (h : Is2 x g) (h' : Is2 y g') :
    Is2 (addf x y) fun r l => g r l + g' r l := fun i => by
  show x i + y i = _
  rw [h, h', EReal.coe_add]

theorem is2_mul {n k : ℕ} {φ : FTy} {x y : FVec Ideal (⟨2, ![n, k]⟩ : Shape) φ} {g g' : ℕ → ℕ → ℝ} (h : Is2 x g) (h' : Is2 y g') :
    Is2 (mulf x y) fun r l => g r l * g' r l := fun i => by
  show x i * y i = _
  rw [h, h', EReal.coe_mul]

theorem is2_sub {n k : ℕ} {φ : FTy} {x y : FVec Ideal (⟨2, ![n, k]⟩ : Shape) φ} {g g' : ℕ → ℕ → ℝ} (h : Is2 x g) (h' : Is2 y g') :
    Is2 (subf x y) fun r l => g r l - g' r l := fun i => by
  show x i - y i = _
  rw [h, h', EReal.coe_sub]

theorem eighth_bf16 : Ideal.ofBits FTy.bf16 15872#16 = ((1 / 8 : ℝ) : EReal) := by
  simp [Ideal.ofBits, Ideal.ieee, -EReal.coe_mul]; norm_num
theorem eighth_f32 : Ideal.ofBits FTy.f32 1040187392#32 = ((1 / 8 : ℝ) : EReal) := by
  simp [Ideal.ofBits, Ideal.ieee, -EReal.coe_mul]; norm_num

theorem is2_key {a b : Vec Ideal S128x256 .bf16} {g : ℕ → ℕ → ℝ} (ha : Is2 a g) (hb : Is2 b fun r l => g (128 + r) l) :
    Is2 (keyV a b) fun r l => g r l * (1 / 8) := fun i => by
  pointwise [keyV, kvV]
  rw [eighth_bf16, EReal.coe_mul]
  congr 1
  by_cases h : (i 0).val < 128
  · rw [dif_pos h]; exact ha _
  · rw [dif_neg h]
    refine (hb _).trans (congrArg (fun r : ℕ => ((g r (i 1).val : ℝ) : EReal)) ?_)
    show 128 + ((i 0).val - 128) = (i 0).val
    omega

theorem is2_val {a b : Vec Ideal S128x256 .bf16} {g : ℕ → ℕ → ℝ} (ha : Is2 a g) (hb : Is2 b fun r l => g (128 + r) l) :
    Is2 (valV a b) fun r l => g r (128 + l) := fun i => by
  pointwise [valV, kvV]
  by_cases h : (i 0).val < 128
  · rw [dif_pos h]; exact ha _
  · rw [dif_neg h]
    refine (hb _).trans (congrArg (fun r : ℕ => ((g r (128 + (i 1).val) : ℝ) : EReal)) ?_)
    show 128 + ((i 0).val - 128) = (i 0).val
    omega

theorem is2_stack {a b c d : FVec Ideal S128x128 .bf16} {g : ℕ → ℕ → ℝ} (ha : Is2 a g) (hb : Is2 b fun r l => g (128 + r) l)
    (hc : Is2 c fun r l => g (256 + r) l) (hd : Is2 d fun r l => g (384 + r) l) : Is2 (stackV a b c d) g := fun i => by
  have h0 : (i 0).val < 512 := (i 0).isLt
  pointwise [stackV]
  by_cases h1 : (i 0).val < 128
  · rw [dif_pos h1]; exact ha _
  rw [dif_neg h1]
  by_cases h2 : (i 0).val - 128 < 128
  · rw [dif_pos h2]
    refine (hb _).trans (congrArg (fun r : ℕ => ((g r (i 1).val : ℝ) : EReal)) ?_)
    show 128 + ((i 0).val - 128) = (i 0).val
    omega
  rw [dif_neg h2]
  by_cases h3 : (i 0).val - 128 - 128 < 128
  · rw [dif_pos h3]
    refine (hc _).trans (congrArg (fun r : ℕ => ((g r (i 1).val : ℝ) : EReal)) ?_)
    show 256 + ((i 0).val - 128 - 128) = (i 0).val
    omega
  · rw [dif_neg h3]
    refine (hd _).trans (congrArg (fun r : ℕ => ((g r (i 1).val : ℝ) : EReal)) ?_)
    show 384 + ((i 0).val - 128 - 128 - 128) = (i 0).val
    omega

theorem is2_dkv {k0 k1 v0 v1 : FVec Ideal S256x128 .f32} {a b c d : ℕ → ℕ → ℝ} (h0 : Is2 k0 a) (h1 : Is2 k1 b)
    (h2 : Is2 v0 c) (h3 : Is2 v1 d) :
    Is2 (dkvV k0 k1 v0 v1) fun r l => if l < 128 then (a r l + b r ((l + 64) % 128)) * (1 / 8)
      else c r (l - 128) + d r ((l - 128 + 64) % 128) := fun i => by
  have hk : Is2 (mulf (addf k0 (rotF k1)) (broadcast S256x128 (Scalar.ofBits .f32 0x3E000000#32) : FVec Ideal S256x128 .f32))
      fun r l => (a r l + b r ((l + 64) % 128)) * (1 / 8) :=
    is2_mul (is2_add h0 (is2_rot h1)) fun _ => eighth_f32
  have hv : Is2 (addf v0 (rotF v1)) fun r l => c r l + d r ((l + 64) % 128) := is2_add h2 (is2_rot h3)
  unfold dkvV
  generalize mulf (addf k0 (rotF k1)) (broadcast S256x128 (Scalar.ofBits .f32 0x3E000000#32) : FVec Ideal S256x128 .f32) = x at hk ⊢
  generalize addf v0 (rotF v1) = y at hv ⊢
  pointwise
  by_cases h : (i 1).val < 128
  · rw [dif_pos h, if_pos h]; exact hk _
  · rw [dif_neg h, if_neg h]; exact hv _

theorem cmpi_eq_is {a b : ℕ} (ha : a < 2 ^ 32) (hb : b < 2 ^ 32) :
    IntOp.cmpi .eq (BitVec.ofNat 32 a) (BitVec.ofNat 32 b) = if a = b then 1#1 else 0#1 := by
  rw [WordCmp.cmpi_eq_ofNat ha hb, ofBool_eq]

theorem sinkcolV_is {a b c d : Elt Ideal .f32} {f : ℕ → ℝ} (ha : a = ((f 0 : ℝ) : EReal)) (hb : b = ((f 1 : ℝ) : EReal))
    (hc : c = ((f 2 : ℝ) : EReal)) (hd : d = ((f 3 : ℝ) : EReal)) :
    Is2 (sinkcolV a b c d) fun r _ => f (r / 128) := fun i => by
  have h0 : (i 0).val < 512 := (i 0).isLt
  pointwise [sinkcolV]
  rw [rowblkV_is]
  simp only [cmpi_eq_is (show (i 0).val / 128 < 2 ^ 32 by omega) (show 3 < 2 ^ 32 by norm_num),
    cmpi_eq_is (show (i 0).val / 128 < 2 ^ 32 by omega) (show 2 < 2 ^ 32 by norm_num),
    cmpi_eq_is (show (i 0).val / 128 < 2 ^ 32 by omega) (show 1 < 2 ^ 32 by norm_num),
    cmpi_eq_is (show (i 0).val / 128 < 2 ^ 32 by omega) (show 0 < 2 ^ 32 by norm_num), select_mask]
  split_ifs with h3 h2 h1 h4
  · rw [h3, hd]
  · rw [h2, hc]
  · rw [h1, hb]
  · rw [h4, ha]
  · omega

theorem is2_sinkLane {j m : ℕ} (hj : j < 4) (hm : m < 128) {d : FVec Ideal S512x1 .f32} {acc : FVec Ideal S1x128 .f32} {f : ℕ → ℝ} {g : ℕ → ℕ → ℝ}
    (hd : Is2 d fun r _ => f r) (hg : Is2 acc g) :
    Is2 (sinkLane (BitVec.ofNat 32 j) (BitVec.ofNat 32 m) d acc)
      fun r l => g r l + if l = m then ∑ q : Fin 512, (if q.val / 128 = j then f q else 0) else 0 := fun i => by
  have h1 : (i 1).val < 128 := (i 1).isLt
  pointwise [sinkLane]
  have hs : ∀ x : Fin 512, Scalar.select (IntOp.cmpi CmpIPredicate.eq (rowblkV (ix2 x 0)) (BitVec.ofNat 32 j)) (d (ix2 x 0)) 0
      = (((if x.val / 128 = j then f x else 0 : ℝ)) : EReal) := fun x => by
    rw [rowblkV_is, hd]
    show Scalar.select (IntOp.cmpi CmpIPredicate.eq (BitVec.ofNat 32 (x.val / 128)) (BitVec.ofNat 32 j)) ((f x : ℝ) : EReal) 0 = _
    rw [cmpi_eq_is (by omega) (by omega), select_mask]
    split_ifs <;> simp
  simp only [hs]
  have h0 : (i 0).val = 0 := Nat.lt_one_iff.1 (i 0).isLt
  rw [cmpi_eq_is (by omega) (by omega), select_mask, hg, ← coe_sum, EReal.coe_add]
  refine congrArg₂ (· + ·) (congrArg (fun r : ℕ => ((g r (i 1).val : ℝ) : EReal)) h0) ?_
  split_ifs <;> simp

end Cert.Kernel2Ideal.Mixer
-- ==== Proof.Mixer.Spec.lean ====
module

public import proofs.«01_k».proof.Proof.Mixer.Soft

/-! The gradients of the mixer's forward lines over the reals: one block of 128 rows against the block's own and the previous
    block's keys, the gates and the convolution, and the column sums. -/

@[expose] public section

noncomputable section

namespace Cert.Mixer

open Idealize.ShloMosaic

/-- The logistic function. -/
def sig (x : ℝ) : ℝ := (1 + Real.exp (-x))⁻¹

/-- The cotangent of the attention's result. -/
def dO (Z D : ℕ → ℕ → ℝ) (r c : ℕ) : ℝ := D r c * sig (Z r (4352 + c))

section
variable (vd : ℕ → ℕ → Prop) [∀ r k, Decidable (vd r k)] (Z D : ℕ → ℕ → ℝ) (SK : ℕ → ℝ) (kv : ℕ → ℕ → ℝ) (R : ℕ)

/-- Head `H`'s scores and the products of the cotangent with the values, row `r` of the block at row `R`, key `k`. -/
def sc (H r k : ℕ) : ℝ := ∑ d : Fin 64, Z (R + r) (64 * H + d) * (kv k (64 * (H / 8) + d) * (1 / 8))
def dpr (H r k : ℕ) : ℝ := ∑ d : Fin 64, dO Z D (R + r) (64 * H + d) * kv k (128 + 64 * (H / 8) + d)
/-- Head `H`'s weights, its sink's weight, and the cotangent of its scores. -/
def wt (H r k : ℕ) : ℝ := pr vd (sc Z kv R H) (fun _ => SK H) r k
def wsink (H r : ℕ) : ℝ := ps vd (sc Z kv R H) (fun _ => SK H) r
def dl (H r : ℕ) : ℝ := del vd (sc Z kv R H) (dpr Z D kv R H) (fun _ => SK H) r
def dsr (H r k : ℕ) : ℝ := dsc vd (sc Z kv R H) (dpr Z D kv R H) (fun _ => SK H) r k
/-- The block's part of the gradients: of the queries (column `c` of the row), of keys and values (256 columns), of the sinks. -/
def bQ (r c : ℕ) : ℝ := ∑ k : Fin 256, dsr vd Z D SK kv R (c / 64) r k * (kv k (64 * (c / 64 / 8) + c % 64) * (1 / 8))
def bK (k c : ℕ) : ℝ := ∑ g : Fin 8, ∑ r : Fin 128, Z (R + r) (64 * (8 * (c / 64) + g) + c % 64) * dsr vd Z D SK kv R (8 * (c / 64) + g) r k
def bV (k c : ℕ) : ℝ := ∑ g : Fin 8, ∑ r : Fin 128, dO Z D (R + r) (64 * (8 * (c / 64) + g) + c % 64) * wt vd Z SK kv R (8 * (c / 64) + g) r k
def bKV (k c : ℕ) : ℝ := if c < 128 then bK vd Z D SK kv R k c * (1 / 8) else bV vd Z D SK kv R k (c - 128)
def bS (H : ℕ) : ℝ := ∑ r : Fin 128, -(wsink vd Z SK kv R H r * dl vd Z D SK kv R H r)

end

/-- Nothing of the block's gradients reads a key or value that the mask hides. -/
theorem pr_congr {vd : ℕ → ℕ → Prop} [∀ r k, Decidable (vd r k)] {s s' : ℕ → ℕ → ℝ} {sk : ℕ → ℝ} {r : ℕ}
    (h : ∀ k, vd r k → s r k = s' r k) (k : ℕ) : pr vd s sk r k = pr vd s' sk r k := by
  have he : ∀ k, ex vd s r k = ex vd s' r k := fun k => by
    unfold ex; split_ifs with hv
    · rw [h k hv]
    · rfl
  simp only [pr, den, he]

theorem ps_congr {vd : ℕ → ℕ → Prop} [∀ r k, Decidable (vd r k)] {s s' : ℕ → ℕ → ℝ} {sk : ℕ → ℝ} {r : ℕ}
    (h : ∀ k, vd r k → s r k = s' r k) : ps vd s sk r = ps vd s' sk r := by
  have he : ∀ k, ex vd s r k = ex vd s' r k := fun k => by
    unfold ex; split_ifs with hv
    · rw [h k hv]
    · rfl
  simp only [ps, den, he]

theorem pr_hidden {vd : ℕ → ℕ → Prop} [∀ r k, Decidable (vd r k)] {s : ℕ → ℕ → ℝ} {sk : ℕ → ℝ} {r k : ℕ} (h : ¬ vd r k) :
    pr vd s sk r k = 0 := by simp [pr, ex, h]

theorem del_congr {vd : ℕ → ℕ → Prop} [∀ r k, Decidable (vd r k)] {s s' d d' : ℕ → ℕ → ℝ} {sk : ℕ → ℝ} {r : ℕ}
    (h : ∀ k, vd r k → s r k = s' r k) (hd : ∀ k, vd r k → d r k = d' r k) : del vd s d sk r = del vd s' d' sk r := by
  refine Finset.sum_congr rfl fun k _ => ?_
  rw [pr_congr h]
  by_cases hv : vd r k
  · rw [hd k hv]
  · rw [pr_hidden hv, zero_mul, zero_mul]

theorem dsc_congr {vd : ℕ → ℕ → Prop} [∀ r k, Decidable (vd r k)] {s s' d d' : ℕ → ℕ → ℝ} {sk : ℕ → ℝ} {r : ℕ}
    (h : ∀ k, vd r k → s r k = s' r k) (hd : ∀ k, vd r k → d r k = d' r k) (k : ℕ) : dsc vd s d sk r k = dsc vd s' d' sk r k := by
  rw [dsc, dsc, pr_congr h, del_congr h hd]
  by_cases hv : vd r k
  · rw [hd k hv]
  · rw [pr_hidden hv, zero_mul, zero_mul]

theorem dsc_hidden {vd : ℕ → ℕ → Prop} [∀ r k, Decidable (vd r k)] {s d : ℕ → ℕ → ℝ} {sk : ℕ → ℝ} {r k : ℕ} (h : ¬ vd r k) :
    dsc vd s d sk r k = 0 := by simp [dsc, pr_hidden h]

section
variable {vd : ℕ → ℕ → Prop} [∀ r k, Decidable (vd r k)] {Z D : ℕ → ℕ → ℝ} {SK : ℕ → ℝ} {kv kv' : ℕ → ℕ → ℝ} {R : ℕ}

theorem dsr_congr (h : ∀ r k c, vd r k → kv k c = kv' k c) (H r k : ℕ) : dsr vd Z D SK kv R H r k = dsr vd Z D SK kv' R H r k :=
  dsc_congr (fun k hv => by simp only [sc, h r k _ hv]) (fun k hv => by simp only [dpr, h r k _ hv]) k

theorem bQ_congr (h : ∀ r k c, vd r k → kv k c = kv' k c) (r c : ℕ) : bQ vd Z D SK kv R r c = bQ vd Z D SK kv' R r c := by
  refine Finset.sum_congr rfl fun k _ => ?_
  rw [dsr_congr h]
  by_cases hv : vd r k
  · rw [h r k _ hv]
  · rw [dsr, dsc_hidden hv, zero_mul, zero_mul]

theorem bKV_congr (h : ∀ r k c, vd r k → kv k c = kv' k c) (k c : ℕ) : bKV vd Z D SK kv R k c = bKV vd Z D SK kv' R k c := by
  have hw : ∀ H r k, wt vd Z SK kv R H r k = wt vd Z SK kv' R H r k := fun H r k =>
    pr_congr (fun k hv => by simp only [sc, h r k _ hv]) k
  simp only [bKV, bK, bV, dsr_congr h, hw]

theorem bS_congr (h : ∀ r k c, vd r k → kv k c = kv' k c) (H : ℕ) : bS vd Z D SK kv R H = bS vd Z D SK kv' R H := by
  refine Finset.sum_congr rfl fun r _ => ?_
  have h1 : ∀ k, vd r k → sc Z kv R H r k = sc Z kv' R H r k := fun k hv => by simp only [sc, h r k _ hv]
  have h2 : ∀ k, vd r k → dpr Z D kv R H r k = dpr Z D kv' R H r k := fun k hv => by simp only [dpr, h r k _ hv]
  rw [wsink, wsink, ps_congr h1, dl, dl, del_congr h1 h2]

end

/-- A sum over four stacked blocks of 128 rows, block by block. -/
theorem sum_stack (F : ℕ → ℕ → ℝ) : ∑ p : Fin 512, F (p.val / 128) (p.val % 128) = ∑ j : Fin 4, ∑ r : Fin 128, F j r := by
  rw [← Fintype.sum_prod_type' (f := fun (j : Fin 4) (r : Fin 128) => F j r)]
  refine (Fintype.sum_equiv (finProdFinEquiv (m := 4) (n := 128)) _ (fun p : Fin 512 => F (p.val / 128) (p.val % 128)) fun x => ?_).symm
  have h1 := x.1.isLt; have h2 := x.2.isLt
  show F x.1 x.2 = F ((x.2.val + 128 * x.1.val) / 128) ((x.2.val + 128 * x.1.val) % 128)
  rw [show (x.2.val + 128 * x.1.val) / 128 = x.1.val by omega, show (x.2.val + 128 * x.1.val) % 128 = x.2.val by omega]

end Cert.Mixer
-- ==== Proof.Mixer.Att.lean ====
module

public import proofs.«01_k».proof.Proof.Mixer.Lanes
public import proofs.«01_k».proof.Proof.Mixer.Spec

/-! One block of 128 rows as the body computes it, from the blocks it loads, and what it holds over the reals. -/

@[expose] public section

set_option maxRecDepth 16384

noncomputable section

namespace Cert.Kernel2Ideal.Mixer

open Idealize.ShloMosaic TcCoe Cert.Kernel2Ideal Gen Cert.Mixer

/-- What the body loads for one block. -/
structure Blk where
  m : IVec S512x256 1
  kv0 : Vec Ideal S128x256 .bf16
  kv1 : Vec Ideal S128x256 .bf16
  q0 : Vec Ideal S128x128 .bf16
  q1 : Vec Ideal S128x128 .bf16
  q2 : Vec Ideal S128x128 .bf16
  q3 : Vec Ideal S128x128 .bf16
  q4 : Vec Ideal S128x128 .bf16
  q5 : Vec Ideal S128x128 .bf16
  q6 : Vec Ideal S128x128 .bf16
  q7 : Vec Ideal S128x128 .bf16
  dm : Vec Ideal S128x1024 .bf16
  ga : Vec Ideal S128x1024 .bf16
  av : Vec Ideal S128x1024 .bf16
  cb : Vec Ideal S128x1024 .bf16
  cc : Vec Ideal S128x1024 .bf16
  cx : Vec Ideal S128x1024 .bf16
  gc : Vec Ideal S128x1024 .bf16
  s0 : Elt Ideal .f32
  s1 : Elt Ideal .f32
  s2 : Elt Ideal .f32
  s3 : Elt Ideal .f32
  s4 : Elt Ideal .f32
  s5 : Elt Ideal .f32
  s6 : Elt Ideal .f32
  s7 : Elt Ideal .f32
  s8 : Elt Ideal .f32
  s9 : Elt Ideal .f32
  s10 : Elt Ideal .f32
  s11 : Elt Ideal .f32
  s12 : Elt Ideal .f32
  s13 : Elt Ideal .f32
  s14 : Elt Ideal .f32
  s15 : Elt Ideal .f32
  prev : FVec Ideal S16x1024 .f32
  nxt : FVec Ideal S16x1024 .f32
  w0 : Vec Ideal S1x1024 .f32
  w1 : Vec Ideal S1x1024 .f32
  w2 : Vec Ideal S1x1024 .f32

namespace Blk
variable (B : Blk)

def da : FVec Ideal S128x1024 .bf16 := truncf .bf16 (mulf (extf .f32 B.dm bitsLt_bf16_f32) (logistic (extf .f32 B.ga bitsLt_bf16_f32))) bitsLt_bf16_f32
def key : FVec Ideal S256x128 .bf16 := keyV B.kv0 B.kv1
def val : FVec Ideal S256x128 .bf16 := valV B.kv0 B.kv1
def q4_0 : FVec Ideal S512x128 .bf16 := stackV B.q0 B.q1 B.q2 B.q3
def g4_0 : FVec Ideal S512x128 .bf16 := stackV (extractStridedSlice S128x128 ![0, 0] B.da slices_S128x1024_o0_0_S128x128) (extractStridedSlice S128x128 ![0, 128] B.da slices_S128x1024_o0_128_S128x128) (extractStridedSlice S128x128 ![0, 256] B.da slices_S128x1024_o0_256_S128x128) (extractStridedSlice S128x128 ![0, 384] B.da slices_S128x1024_o0_384_S128x128)
def q4_1 : FVec Ideal S512x128 .bf16 := stackV B.q4 B.q5 B.q6 B.q7
def g4_1 : FVec Ideal S512x128 .bf16 := stackV (extractStridedSlice S128x128 ![0, 512] B.da slices_S128x1024_o0_512_S128x128) (extractStridedSlice S128x128 ![0, 640] B.da slices_S128x1024_o0_640_S128x128) (extractStridedSlice S128x128 ![0, 768] B.da slices_S128x1024_o0_768_S128x128) (extractStridedSlice S128x128 ![0, 896] B.da slices_S128x1024_o0_896_S128x128)
def ke00 : FVec Ideal S256x128 .bf16 := loB B.key
def ve00 : FVec Ideal S256x128 .bf16 := loB B.val
def col00 : FVec Ideal S512x1 .f32 := sinkcolV B.s0 B.s2 B.s4 B.s6
def s00' : FVec Ideal S512x256 .f32 := scoreV B.q4_0 B.ke00
def p00 : FVec Ideal S512x256 .f32 := probV B.m B.s00' B.col00
def dp00 : FVec Ideal S512x256 .f32 := scoreV B.g4_0 B.ve00
def ds00 : FVec Ideal S512x256 .bf16 := dsV B.p00 B.dp00
def dk00 : FVec Ideal S256x128 .f32 := backK B.q4_0 B.ds00
def dv00 : FVec Ideal S256x128 .f32 := backK B.g4_0 (truncf .bf16 B.p00 bitsLt_bf16_f32)
def dsk00 : FVec Ideal S512x1 .f32 := dskV (sinkV B.m B.s00' B.col00) (invV B.m B.s00' B.col00) (delV B.p00 B.dp00)
def ke01 : FVec Ideal S256x128 .bf16 := hiB (rotB B.key)
def ve01 : FVec Ideal S256x128 .bf16 := hiB (rotB B.val)
def col01 : FVec Ideal S512x1 .f32 := sinkcolV B.s1 B.s3 B.s5 B.s7
def s01' : FVec Ideal S512x256 .f32 := scoreV B.q4_0 B.ke01
def p01 : FVec Ideal S512x256 .f32 := probV B.m B.s01' B.col01
def dp01 : FVec Ideal S512x256 .f32 := scoreV B.g4_0 B.ve01
def ds01 : FVec Ideal S512x256 .bf16 := dsV B.p01 B.dp01
def dk01 : FVec Ideal S256x128 .f32 := backK B.q4_0 B.ds01
def dv01 : FVec Ideal S256x128 .f32 := backK B.g4_0 (truncf .bf16 B.p01 bitsLt_bf16_f32)
def dsk01 : FVec Ideal S512x1 .f32 := dskV (sinkV B.m B.s01' B.col01) (invV B.m B.s01' B.col01) (delV B.p01 B.dp01)
def ke10 : FVec Ideal S256x128 .bf16 := loB (rotB B.key)
def ve10 : FVec Ideal S256x128 .bf16 := loB (rotB B.val)
def col10 : FVec Ideal S512x1 .f32 := sinkcolV B.s8 B.s10 B.s12 B.s14
def s10' : FVec Ideal S512x256 .f32 := scoreV B.q4_1 B.ke10
def p10 : FVec Ideal S512x256 .f32 := probV B.m B.s10' B.col10
def dp10 : FVec Ideal S512x256 .f32 := scoreV B.g4_1 B.ve10
def ds10 : FVec Ideal S512x256 .bf16 := dsV B.p10 B.dp10
def dk10 : FVec Ideal S256x128 .f32 := backK B.q4_1 B.ds10
def dv10 : FVec Ideal S256x128 .f32 := backK B.g4_1 (truncf .bf16 B.p10 bitsLt_bf16_f32)
def dsk10 : FVec Ideal S512x1 .f32 := dskV (sinkV B.m B.s10' B.col10) (invV B.m B.s10' B.col10) (delV B.p10 B.dp10)
def ke11 : FVec Ideal S256x128 .bf16 := hiB B.key
def ve11 : FVec Ideal S256x128 .bf16 := hiB B.val
def col11 : FVec Ideal S512x1 .f32 := sinkcolV B.s9 B.s11 B.s13 B.s15
def s11' : FVec Ideal S512x256 .f32 := scoreV B.q4_1 B.ke11
def p11 : FVec Ideal S512x256 .f32 := probV B.m B.s11' B.col11
def dp11 : FVec Ideal S512x256 .f32 := scoreV B.g4_1 B.ve11
def ds11 : FVec Ideal S512x256 .bf16 := dsV B.p11 B.dp11
def dk11 : FVec Ideal S256x128 .f32 := backK B.q4_1 B.ds11
def dv11 : FVec Ideal S256x128 .f32 := backK B.g4_1 (truncf .bf16 B.p11 bitsLt_bf16_f32)
def dsk11 : FVec Ideal S512x1 .f32 := dskV (sinkV B.m B.s11' B.col11) (invV B.m B.s11' B.col11) (delV B.p11 B.dp11)
def dq0 : FVec Ideal S512x128 .f32 := addf (addf (broadcast S512x128 (Scalar.ofBits .f32 0x00000000#32)) (backQ B.ds00 B.ke00)) (backQ B.ds01 B.ke01)
def dq1 : FVec Ideal S512x128 .f32 := addf (addf (broadcast S512x128 (Scalar.ofBits .f32 0x00000000#32)) (backQ B.ds10 B.ke10)) (backQ B.ds11 B.ke11)
def dkA : FVec Ideal S256x128 .f32 := addf (addf (broadcast S256x128 (Scalar.ofBits .f32 0x00000000#32)) (loF B.dk00)) (hiF B.dk11)
def dkB : FVec Ideal S256x128 .f32 := addf (addf (broadcast S256x128 (Scalar.ofBits .f32 0x00000000#32)) (hiF B.dk01)) (loF B.dk10)
def dvA : FVec Ideal S256x128 .f32 := addf (addf (broadcast S256x128 (Scalar.ofBits .f32 0x00000000#32)) (loF B.dv00)) (hiF B.dv11)
def dvB : FVec Ideal S256x128 .f32 := addf (addf (broadcast S256x128 (Scalar.ofBits .f32 0x00000000#32)) (hiF B.dv01)) (loF B.dv10)
def dkv : FVec Ideal S256x256 .f32 := dkvV B.dkA B.dkB B.dvA B.dvB
def lanes00 : FVec Ideal S1x128 .f32 := sinkLane 3#32 6#32 B.dsk00 (sinkLane 2#32 4#32 B.dsk00 (sinkLane 1#32 2#32 B.dsk00 (sinkLane 0#32 0#32 B.dsk00 (broadcast S1x128 (Scalar.ofBits .f32 0x00000000#32)))))
def lanes01 : FVec Ideal S1x128 .f32 := sinkLane 3#32 7#32 B.dsk01 (sinkLane 2#32 5#32 B.dsk01 (sinkLane 1#32 3#32 B.dsk01 (sinkLane 0#32 1#32 B.dsk01 B.lanes00)))
def lanes10 : FVec Ideal S1x128 .f32 := sinkLane 3#32 14#32 B.dsk10 (sinkLane 2#32 12#32 B.dsk10 (sinkLane 1#32 10#32 B.dsk10 (sinkLane 0#32 8#32 B.dsk10 B.lanes01)))
def lanes11 : FVec Ideal S1x128 .f32 := sinkLane 3#32 15#32 B.dsk11 (sinkLane 2#32 13#32 B.dsk11 (sinkLane 1#32 11#32 B.dsk11 (sinkLane 0#32 9#32 B.dsk11 B.lanes10)))
end Blk
end Cert.Kernel2Ideal.Mixer
-- ==== Proof.Mixer.AttReal.lean ====
module

public import proofs.«01_k».proof.Proof.Mixer.Att

/-! One block's attention over the reals: what the body computes for a group of heads and for the whole block. -/

@[expose] public section

set_option maxRecDepth 16384

noncomputable section

namespace Cert.Kernel2Ideal.Mixer

open Idealize.ShloMosaic TcCoe Cert.Kernel2Ideal Gen Cert.Mixer

/-- A sum over 128 lanes of which only the half `e` counts. -/
theorem sum_half (F G : ℕ → ℝ) {e : ℕ} (he : e < 2) :
    (∑ l : Fin 128, F l * (if l.val / 64 = e then G (l.val % 64) else 0)) = ∑ d : Fin 64, F (64 * e + d) * G d := by
  rw [Fin.sum_univ_two_halves 64 64 rfl]
  rcases (by omega : e = 0 ∨ e = 1) with rfl | rfl
  · have h1 : ∀ d : Fin 64, F d.val * (if d.val / 64 = 0 then G (d.val % 64) else 0) = F (64 * 0 + d) * G d := fun d => by
      rw [if_pos (by omega), Nat.mod_eq_of_lt d.isLt, Nat.mul_zero, Nat.zero_add]
    have h2 : ∀ d : Fin 64, F (64 + d.val) * (if (64 + d.val) / 64 = 0 then G ((64 + d.val) % 64) else 0) = 0 := fun d => by
      rw [if_neg (by omega), mul_zero]
    simp only [h1, h2, Finset.sum_const_zero, add_zero]
  · have h1 : ∀ d : Fin 64, F d.val * (if d.val / 64 = 1 then G (d.val % 64) else 0) = 0 := fun d => by
      rw [if_neg (by omega), mul_zero]
    have h2 : ∀ d : Fin 64, F (64 + d.val) * (if (64 + d.val) / 64 = 1 then G ((64 + d.val) % 64) else 0) = F (64 * 1 + d) * G d :=
      fun d => by
        rw [if_pos (by omega), show (64 + d.val) % 64 = d.val by omega]
    simp only [h1, h2, Finset.sum_const_zero, zero_add]

theorem sum_eight (F : ℕ → ℝ) : ∑ g : Fin 8, F g = (∑ j : Fin 4, F (2 * j)) + ∑ j : Fin 4, F (2 * j + 1) := by
  simp only [Fin.sum_univ_succ, Fin.sum_univ_zero, Fin.val_zero, Fin.val_succ]
  norm_num
  ring

/-- Two rows with the same mask, scores and sink have the same weights. -/
theorem pr_rows {vd : ℕ → ℕ → Prop} [∀ r k, Decidable (vd r k)] {s s' : ℕ → ℕ → ℝ} {sk sk' : ℕ → ℝ} {p r : ℕ}
    (hv : ∀ k, vd p k ↔ vd r k) (hs : ∀ k, s p k = s' r k) (hk : sk p = sk' r) :
    (∀ k, pr vd s sk p k = pr vd s' sk' r k) ∧ ps vd s sk p = ps vd s' sk' r := by
  have he : ∀ k, ex vd s p k = ex vd s' r k := fun k => by
    unfold ex
    rw [hs k]
    exact if_congr (hv k) rfl rfl
  exact ⟨fun k => by simp only [pr, den, he, hk], by simp only [ps, den, he, hk]⟩

/-- What a group's vectors hold: the heads `8h + 2j + e` of the block `nb`. -/
structure Grp (nb h e : ℕ) (Z D kv : ℕ → ℕ → ℝ) (SK : ℕ → ℝ) (m : IVec S512x256 1) (q4 g4 : FVec Ideal S512x128 .bf16)
    (ke ve : FVec Ideal S256x128 .bf16) (col : FVec Ideal S512x1 .f32) : Prop where
  hh : h < 2
  he : e < 2
  m : IsMask m (seen nb)
  q : Is2 q4 fun p l => Z (128 * nb + p % 128) (512 * h + 128 * (p / 128) + l)
  g : Is2 g4 fun p l => dO Z D (128 * nb + p % 128) (512 * h + 128 * (p / 128) + l)
  k : Is2 ke fun k l => if l / 64 = e then kv k (64 * h + l % 64) * (1 / 8) else 0
  v : Is2 ve fun k l => if l / 64 = e then kv k (128 + 64 * h + l % 64) else 0
  c : Is2 col fun p _ => SK (8 * h + 2 * (p / 128) + e)

namespace Grp
variable {nb h e : ℕ} {Z D kv : ℕ → ℕ → ℝ} {SK : ℕ → ℝ} {m : IVec S512x256 1} {q4 g4 : FVec Ideal S512x128 .bf16}
  {ke ve : FVec Ideal S256x128 .bf16} {col : FVec Ideal S512x1 .f32}

theorem s (G : Grp nb h e Z D kv SK m q4 g4 ke ve col) :
    Is2 (scoreV q4 ke) fun p k => sc Z kv (128 * nb) (8 * h + 2 * (p / 128) + e) (p % 128) k :=
  (scoreV_real G.q G.k).congr fun p k hp _ => by
    have hh := G.hh; have he := G.he
    refine (sum_half (fun l => Z (128 * nb + p % 128) (512 * h + 128 * (p / 128) + l))
      (fun d => kv k (64 * h + d) * (1 / 8)) G.he).trans ?_
    refine Finset.sum_congr rfl fun d _ => ?_
    rw [show 512 * h + 128 * (p / 128) + (64 * e + d.val) = 64 * (8 * h + 2 * (p / 128) + e) + d.val by omega,
      show (8 * h + 2 * (p / 128) + e) / 8 = h by omega]

theorem dp (G : Grp nb h e Z D kv SK m q4 g4 ke ve col) :
    Is2 (scoreV g4 ve) fun p k => dpr Z D kv (128 * nb) (8 * h + 2 * (p / 128) + e) (p % 128) k :=
  (scoreV_real G.g G.v).congr fun p k hp _ => by
    have hh := G.hh; have he := G.he
    refine (sum_half (fun l => dO Z D (128 * nb + p % 128) (512 * h + 128 * (p / 128) + l))
      (fun d => kv k (128 + 64 * h + d)) G.he).trans ?_
    refine Finset.sum_congr rfl fun d _ => ?_
    rw [show 512 * h + 128 * (p / 128) + (64 * e + d.val) = 64 * (8 * h + 2 * (p / 128) + e) + d.val by omega,
      show (8 * h + 2 * (p / 128) + e) / 8 = h by omega]

theorem rows (p : ℕ) :
    (∀ k, pr (seen nb) (fun p k => sc Z kv (128 * nb) (8 * h + 2 * (p / 128) + e) (p % 128) k) (fun p => SK (8 * h + 2 * (p / 128) + e)) p k
      = wt (seen nb) Z SK kv (128 * nb) (8 * h + 2 * (p / 128) + e) (p % 128) k)
    ∧ ps (seen nb) (fun p k => sc Z kv (128 * nb) (8 * h + 2 * (p / 128) + e) (p % 128) k) (fun p => SK (8 * h + 2 * (p / 128) + e)) p
      = wsink (seen nb) Z SK kv (128 * nb) (8 * h + 2 * (p / 128) + e) (p % 128) :=
  pr_rows (vd := seen nb) (fun k => by simp only [seen, band, Nat.mod_mod]) (fun _ => rfl) rfl

theorem p (G : Grp nb h e Z D kv SK m q4 g4 ke ve col) :
    Is2 (probV m (scoreV q4 ke) col) fun p k => wt (seen nb) Z SK kv (128 * nb) (8 * h + 2 * (p / 128) + e) (p % 128) k :=
  (probV_real (sk := fun p => SK (8 * h + 2 * (p / 128) + e)) G.m G.s G.c).congr fun p k _ _ => (rows p).1 k

theorem ds (G : Grp nb h e Z D kv SK m q4 g4 ke ve col) :
    Is2 (dsV (probV m (scoreV q4 ke) col) (scoreV g4 ve)) fun p k =>
      dsr (seen nb) Z D SK kv (128 * nb) (8 * h + 2 * (p / 128) + e) (p % 128) k :=
  (dsV_real G.p G.dp).congr fun _ _ _ _ => rfl

theorem dk (G : Grp nb h e Z D kv SK m q4 g4 ke ve col) :
    Is2 (backK q4 (dsV (probV m (scoreV q4 ke) col) (scoreV g4 ve))) fun k l => ∑ j : Fin 4, ∑ r : Fin 128,
      Z (128 * nb + r) (512 * h + 128 * j + l) * dsr (seen nb) Z D SK kv (128 * nb) (8 * h + 2 * j + e) r k :=
  (backK_real G.q G.ds).congr fun k l _ _ =>
    sum_stack fun j r => Z (128 * nb + r) (512 * h + 128 * j + l) * dsr (seen nb) Z D SK kv (128 * nb) (8 * h + 2 * j + e) r k

theorem dv (G : Grp nb h e Z D kv SK m q4 g4 ke ve col) :
    Is2 (backK g4 (truncf .bf16 (probV m (scoreV q4 ke) col) bitsLt_bf16_f32)) fun k l => ∑ j : Fin 4, ∑ r : Fin 128,
      dO Z D (128 * nb + r) (512 * h + 128 * j + l) * wt (seen nb) Z SK kv (128 * nb) (8 * h + 2 * j + e) r k :=
  (backK_real G.g (d := truncf .bf16 (probV m (scoreV q4 ke) col) bitsLt_bf16_f32) G.p).congr fun k l _ _ =>
    sum_stack fun j r => dO Z D (128 * nb + r) (512 * h + 128 * j + l) * wt (seen nb) Z SK kv (128 * nb) (8 * h + 2 * j + e) r k

theorem dq (G : Grp nb h e Z D kv SK m q4 g4 ke ve col) :
    Is2 (backQ (dsV (probV m (scoreV q4 ke) col) (scoreV g4 ve)) ke) fun p l =>
      if l / 64 = e then bQ (seen nb) Z D SK kv (128 * nb) (p % 128) (512 * h + 128 * (p / 128) + l) else 0 :=
  (backQ_real G.ds G.k).congr fun p l hp hl => by
    have hh := G.hh
    by_cases hl' : l / 64 = e
    · simp only [if_pos hl', bQ]
      refine Finset.sum_congr rfl fun k _ => ?_
      rw [show (512 * h + 128 * (p / 128) + l) / 64 = 8 * h + 2 * (p / 128) + e by omega,
        show (8 * h + 2 * (p / 128) + e) / 8 = h by omega, show (512 * h + 128 * (p / 128) + l) % 64 = l % 64 by omega]
    · simp only [if_neg hl', mul_zero, Finset.sum_const_zero]

theorem dsk (G : Grp nb h e Z D kv SK m q4 g4 ke ve col) :
    Is2 (dskV (sinkV m (scoreV q4 ke) col) (invV m (scoreV q4 ke) col) (delV (probV m (scoreV q4 ke) col) (scoreV g4 ve)))
      fun p _ => -(wsink (seen nb) Z SK kv (128 * nb) (8 * h + 2 * (p / 128) + e) (p % 128)
        * dl (seen nb) Z D SK kv (128 * nb) (8 * h + 2 * (p / 128) + e) (p % 128)) :=
  dskV_real (a := fun p => wsink (seen nb) Z SK kv (128 * nb) (8 * h + 2 * (p / 128) + e) (p % 128))
    (fun i => (psV_real (sk := fun p => SK (8 * h + 2 * (p / 128) + e)) G.m G.s G.c i).trans (congrArg _ (rows (i 0).val).2))
    ((delV_real G.p G.dp).congr fun _ _ _ _ => rfl)

end Grp

/-- The previous and the block's own keys and values; before the first block there are none. -/
def kvS (Z : ℕ → ℕ → ℝ) (nb k c : ℕ) : ℝ := if 128 * nb + k < 128 then 0 else Z (128 * nb + k - 128) (1024 + c)

/-- What the loads of the block `nb` hold. -/
structure Blk.IsA (B : Blk) (nb : ℕ) (Z D : ℕ → ℕ → ℝ) (SK : ℕ → ℝ) (kv : ℕ → ℕ → ℝ) : Prop where
  m : IsMask B.m (seen nb)
  kv0 : Is2 B.kv0 kv
  kv1 : Is2 B.kv1 fun r c => kv (128 + r) c
  hkv : ∀ r k c, seen nb r k → kv k c = kvS Z nb k c
  q0 : Is2 B.q0 fun r l => Z (128 * nb + r) l
  q1 : Is2 B.q1 fun r l => Z (128 * nb + r) (128 + l)
  q2 : Is2 B.q2 fun r l => Z (128 * nb + r) (256 + l)
  q3 : Is2 B.q3 fun r l => Z (128 * nb + r) (384 + l)
  q4 : Is2 B.q4 fun r l => Z (128 * nb + r) (512 + l)
  q5 : Is2 B.q5 fun r l => Z (128 * nb + r) (640 + l)
  q6 : Is2 B.q6 fun r l => Z (128 * nb + r) (768 + l)
  q7 : Is2 B.q7 fun r l => Z (128 * nb + r) (896 + l)
  dm : Is2 B.dm fun r c => D (128 * nb + r) c
  ga : Is2 B.ga fun r c => Z (128 * nb + r) (4352 + c)
  s0 : B.s0 = ((SK 0 : ℝ) : EReal)
  s1 : B.s1 = ((SK 1 : ℝ) : EReal)
  s2 : B.s2 = ((SK 2 : ℝ) : EReal)
  s3 : B.s3 = ((SK 3 : ℝ) : EReal)
  s4 : B.s4 = ((SK 4 : ℝ) : EReal)
  s5 : B.s5 = ((SK 5 : ℝ) : EReal)
  s6 : B.s6 = ((SK 6 : ℝ) : EReal)
  s7 : B.s7 = ((SK 7 : ℝ) : EReal)
  s8 : B.s8 = ((SK 8 : ℝ) : EReal)
  s9 : B.s9 = ((SK 9 : ℝ) : EReal)
  s10 : B.s10 = ((SK 10 : ℝ) : EReal)
  s11 : B.s11 = ((SK 11 : ℝ) : EReal)
  s12 : B.s12 = ((SK 12 : ℝ) : EReal)
  s13 : B.s13 = ((SK 13 : ℝ) : EReal)
  s14 : B.s14 = ((SK 14 : ℝ) : EReal)
  s15 : B.s15 = ((SK 15 : ℝ) : EReal)

theorem logistic_is {n k : ℕ} {φ : FTy} {x : FVec Ideal (⟨2, ![n, k]⟩ : Shape) φ} {g : ℕ → ℕ → ℝ} (h : Is2 x g) :
    Is2 (logistic x) fun r c => Cert.Mixer.sig (g r c) := fun i => by
  show Ideal.logistic (x i) = _
  rw [h i, Ideal.logistic_coe]; rfl

namespace Blk.IsA
variable {B : Blk} {nb : ℕ} {Z D kv : ℕ → ℕ → ℝ} {SK : ℕ → ℝ}

theorem da (I : B.IsA nb Z D SK kv) : Is2 B.da fun r c => dO Z D (128 * nb + r) c :=
  is2_mul (φ := .f32) (x := extf .f32 B.dm bitsLt_bf16_f32) (y := logistic (extf .f32 B.ga bitsLt_bf16_f32)) I.dm
    (logistic_is (φ := .f32) (x := extf .f32 B.ga bitsLt_bf16_f32) I.ga)

theorem key (I : B.IsA nb Z D SK kv) : Is2 B.key fun r l => kv r l * (1 / 8) := is2_key I.kv0 I.kv1
theorem val (I : B.IsA nb Z D SK kv) : Is2 B.val fun r l => kv r (128 + l) := is2_val I.kv0 I.kv1

theorem stack {a b c d : FVec Ideal S128x128 .bf16} {X : ℕ → ℕ → ℝ} {b0 : ℕ} (ha : Is2 a fun r l => X r (b0 + l))
    (hb : Is2 b fun r l => X r (b0 + 128 + l)) (hc : Is2 c fun r l => X r (b0 + 256 + l)) (hd : Is2 d fun r l => X r (b0 + 384 + l)) :
    Is2 (stackV a b c d) fun p l => X (p % 128) (b0 + 128 * (p / 128) + l) :=
  is2_stack (ha.congr fun r l hr _ => by rw [show r % 128 = r by omega, show b0 + 128 * (r / 128) + l = b0 + l by omega])
    (hb.congr fun r l hr _ => by
      rw [show (128 + r) % 128 = r by omega, show b0 + 128 * ((128 + r) / 128) + l = b0 + 128 + l by omega])
    (hc.congr fun r l hr _ => by
      rw [show (256 + r) % 128 = r by omega, show b0 + 128 * ((256 + r) / 128) + l = b0 + 256 + l by omega])
    (hd.congr fun r l hr _ => by
      rw [show (384 + r) % 128 = r by omega, show b0 + 128 * ((384 + r) / 128) + l = b0 + 384 + l by omega])

theorem slice {x : FVec Ideal S128x1024 .bf16} {g : ℕ → ℕ → ℝ} {o : ℕ} (h : Is2 x g) (hs : S128x1024.Slices ![0, o] S128x128) :
    Is2 (extractStridedSlice S128x128 ![0, o] x hs) fun r l => g r (o + l) := fun i => by
  pointwise
  exact h _

theorem q4_0 (I : B.IsA nb Z D SK kv) :
    Is2 B.q4_0 fun p l => Z (128 * nb + p % 128) (512 * 0 + 128 * (p / 128) + l) :=
  stack (X := fun r c => Z (128 * nb + r) c) (b0 := 512 * 0) (I.q0.congr fun r l _ _ => by rw [Nat.mul_zero, Nat.zero_add]) I.q1 I.q2 I.q3

theorem g4_0 (I : B.IsA nb Z D SK kv) :
    Is2 B.g4_0 fun p l => dO Z D (128 * nb + p % 128) (512 * 0 + 128 * (p / 128) + l) :=
  stack (X := fun r c => dO Z D (128 * nb + r) c) (b0 := 512 * 0) (slice I.da _) (slice I.da _) (slice I.da _) (slice I.da _)

theorem q4_1 (I : B.IsA nb Z D SK kv) :
    Is2 B.q4_1 fun p l => Z (128 * nb + p % 128) (512 * 1 + 128 * (p / 128) + l) :=
  stack (X := fun r c => Z (128 * nb + r) c) (b0 := 512 * 1) I.q4 I.q5 I.q6 I.q7

theorem g4_1 (I : B.IsA nb Z D SK kv) :
    Is2 B.g4_1 fun p l => dO Z D (128 * nb + p % 128) (512 * 1 + 128 * (p / 128) + l) :=
  stack (X := fun r c => dO Z D (128 * nb + r) c) (b0 := 512 * 1) (slice I.da _) (slice I.da _) (slice I.da _) (slice I.da _)

theorem ke00 (I : B.IsA nb Z D SK kv) : Is2 B.ke00 fun k l => if l / 64 = 0 then kv k (64 * 0 + l % 64) * (1 / 8) else 0 :=
  (is2_lo I.key).congr fun k l _ hl => by
    by_cases h : l < 64
    · rw [if_pos h, if_pos (show l / 64 = 0 by omega)]; exact congrArg (fun x => kv k (x) * (1 / 8)) (show l = 64 * 0 + l % 64 by omega)
    · rw [if_neg h, if_neg (show ¬ l / 64 = 0 by omega)]

theorem ve00 (I : B.IsA nb Z D SK kv) : Is2 B.ve00 fun k l => if l / 64 = 0 then kv k (128 + 64 * 0 + l % 64) else 0 :=
  (is2_lo I.val).congr fun k l _ hl => by
    by_cases h : l < 64
    · rw [if_pos h, if_pos (show l / 64 = 0 by omega)]; exact congrArg (fun x => kv k (x)) (show 128 + l = 128 + 64 * 0 + l % 64 by omega)
    · rw [if_neg h, if_neg (show ¬ l / 64 = 0 by omega)]

theorem grp00 (I : B.IsA nb Z D SK kv) : Grp nb 0 0 Z D kv SK B.m B.q4_0 B.g4_0 B.ke00 B.ve00 B.col00 :=
  ⟨by omega, by omega, I.m, I.q4_0, I.g4_0, I.ke00, I.ve00,
    sinkcolV_is (f := fun j => SK (8 * 0 + 2 * j + 0)) I.s0 I.s2 I.s4 I.s6⟩

theorem ke01 (I : B.IsA nb Z D SK kv) : Is2 B.ke01 fun k l => if l / 64 = 1 then kv k (64 * 0 + l % 64) * (1 / 8) else 0 :=
  (is2_hi (is2_rotB I.key)).congr fun k l _ hl => by
    by_cases h : l < 64
    · rw [if_pos h, if_neg (show ¬ l / 64 = 1 by omega)]
    · rw [if_neg h, if_pos (show l / 64 = 1 by omega)]; exact congrArg (fun x => kv k (x) * (1 / 8)) (show (l + 64) % 128 = 64 * 0 + l % 64 by omega)

theorem ve01 (I : B.IsA nb Z D SK kv) : Is2 B.ve01 fun k l => if l / 64 = 1 then kv k (128 + 64 * 0 + l % 64) else 0 :=
  (is2_hi (is2_rotB I.val)).congr fun k l _ hl => by
    by_cases h : l < 64
    · rw [if_pos h, if_neg (show ¬ l / 64 = 1 by omega)]
    · rw [if_neg h, if_pos (show l / 64 = 1 by omega)]; exact congrArg (fun x => kv k (x)) (show 128 + (l + 64) % 128 = 128 + 64 * 0 + l % 64 by omega)

theorem grp01 (I : B.IsA nb Z D SK kv) : Grp nb 0 1 Z D kv SK B.m B.q4_0 B.g4_0 B.ke01 B.ve01 B.col01 :=
  ⟨by omega, by omega, I.m, I.q4_0, I.g4_0, I.ke01, I.ve01,
    sinkcolV_is (f := fun j => SK (8 * 0 + 2 * j + 1)) I.s1 I.s3 I.s5 I.s7⟩

theorem ke10 (I : B.IsA nb Z D SK kv) : Is2 B.ke10 fun k l => if l / 64 = 0 then kv k (64 * 1 + l % 64) * (1 / 8) else 0 :=
  (is2_lo (is2_rotB I.key)).congr fun k l _ hl => by
    by_cases h : l < 64
    · rw [if_pos h, if_pos (show l / 64 = 0 by omega)]; exact congrArg (fun x => kv k (x) * (1 / 8)) (show (l + 64) % 128 = 64 * 1 + l % 64 by omega)
    · rw [if_neg h, if_neg (show ¬ l / 64 = 0 by omega)]

theorem ve10 (I : B.IsA nb Z D SK kv) : Is2 B.ve10 fun k l => if l / 64 = 0 then kv k (128 + 64 * 1 + l % 64) else 0 :=
  (is2_lo (is2_rotB I.val)).congr fun k l _ hl => by
    by_cases h : l < 64
    · rw [if_pos h, if_pos (show l / 64 = 0 by omega)]; exact congrArg (fun x => kv k (x)) (show 128 + (l + 64) % 128 = 128 + 64 * 1 + l % 64 by omega)
    · rw [if_neg h, if_neg (show ¬ l / 64 = 0 by omega)]

theorem grp10 (I : B.IsA nb Z D SK kv) : Grp nb 1 0 Z D kv SK B.m B.q4_1 B.g4_1 B.ke10 B.ve10 B.col10 :=
  ⟨by omega, by omega, I.m, I.q4_1, I.g4_1, I.ke10, I.ve10,
    sinkcolV_is (f := fun j => SK (8 * 1 + 2 * j + 0)) I.s8 I.s10 I.s12 I.s14⟩

theorem ke11 (I : B.IsA nb Z D SK kv) : Is2 B.ke11 fun k l => if l / 64 = 1 then kv k (64 * 1 + l % 64) * (1 / 8) else 0 :=
  (is2_hi I.key).congr fun k l _ hl => by
    by_cases h : l < 64
    · rw [if_pos h, if_neg (show ¬ l / 64 = 1 by omega)]
    · rw [if_neg h, if_pos (show l / 64 = 1 by omega)]; exact congrArg (fun x => kv k (x) * (1 / 8)) (show l = 64 * 1 + l % 64 by omega)

theorem ve11 (I : B.IsA nb Z D SK kv) : Is2 B.ve11 fun k l => if l / 64 = 1 then kv k (128 + 64 * 1 + l % 64) else 0 :=
  (is2_hi I.val).congr fun k l _ hl => by
    by_cases h : l < 64
    · rw [if_pos h, if_neg (show ¬ l / 64 = 1 by omega)]
    · rw [if_neg h, if_pos (show l / 64 = 1 by omega)]; exact congrArg (fun x => kv k (x)) (show 128 + l = 128 + 64 * 1 + l % 64 by omega)

theorem grp11 (I : B.IsA nb Z D SK kv) : Grp nb 1 1 Z D kv SK B.m B.q4_1 B.g4_1 B.ke11 B.ve11 B.col11 :=
  ⟨by omega, by omega, I.m, I.q4_1, I.g4_1, I.ke11, I.ve11,
    sinkcolV_is (f := fun j => SK (8 * 1 + 2 * j + 1)) I.s9 I.s11 I.s13 I.s15⟩

theorem zero_is {n k : ℕ} {g : ℕ → ℕ → ℝ} {x : FVec Ideal (⟨2, ![n, k]⟩ : Shape) .f32} (h : Is2 x g) :
    Is2 (addf (broadcast (⟨2, ![n, k]⟩ : Shape) (Scalar.ofBits .f32 0x00000000#32) : FVec Ideal (⟨2, ![n, k]⟩ : Shape) .f32) x) g :=
  (is2_add (g := fun _ _ => 0) (fun _ => Ideal.ofBits_zero_f32) h).congr fun _ _ _ _ => zero_add _

theorem dq0 (I : B.IsA nb Z D SK kv) :
    Is2 B.dq0 fun p l => bQ (seen nb) Z D SK kv (128 * nb) (p % 128) (512 * 0 + 128 * (p / 128) + l) :=
  (is2_add (zero_is I.grp00.dq) I.grp01.dq).congr fun p l _ hl => by
    rcases (by omega : l / 64 = 0 ∨ l / 64 = 1) with h | h <;> simp [h]

theorem dq1 (I : B.IsA nb Z D SK kv) :
    Is2 B.dq1 fun p l => bQ (seen nb) Z D SK kv (128 * nb) (p % 128) (512 * 1 + 128 * (p / 128) + l) :=
  (is2_add (zero_is I.grp10.dq) I.grp11.dq).congr fun p l _ hl => by
    rcases (by omega : l / 64 = 0 ∨ l / 64 = 1) with h | h <;> simp [h]

theorem dkA (I : B.IsA nb Z D SK kv) : Is2 B.dkA fun k l => if l < 64 then ∑ j : Fin 4, ∑ r : Fin 128, Z (128 * nb + r) (512 * 0 + 128 * j + l) * dsr (seen nb) Z D SK kv (128 * nb) (8 * 0 + 2 * j + 0) r k
    else ∑ j : Fin 4, ∑ r : Fin 128, Z (128 * nb + r) (512 * 1 + 128 * j + l) * dsr (seen nb) Z D SK kv (128 * nb) (8 * 1 + 2 * j + 1) r k :=
  (is2_add (zero_is (is2_loF I.grp00.dk)) (is2_hiF I.grp11.dk)).congr fun k l _ _ => by
    by_cases h : l < 64 <;> simp only [h, if_true, if_false, add_zero, zero_add]

theorem dkB (I : B.IsA nb Z D SK kv) : Is2 B.dkB fun k l => if l < 64 then ∑ j : Fin 4, ∑ r : Fin 128, Z (128 * nb + r) (512 * 1 + 128 * j + l) * dsr (seen nb) Z D SK kv (128 * nb) (8 * 1 + 2 * j + 0) r k
    else ∑ j : Fin 4, ∑ r : Fin 128, Z (128 * nb + r) (512 * 0 + 128 * j + l) * dsr (seen nb) Z D SK kv (128 * nb) (8 * 0 + 2 * j + 1) r k :=
  (is2_add (zero_is (is2_hiF I.grp01.dk)) (is2_loF I.grp10.dk)).congr fun k l _ _ => by
    by_cases h : l < 64 <;> simp only [h, if_true, if_false, add_zero, zero_add]

/-- Two groups' sums are the sum over the heads that share the key. -/
theorem dk_heads (k l : ℕ) (hl : l < 128) :
    (if l < 64 then ∑ j : Fin 4, ∑ r : Fin 128, Z (128 * nb + r) (512 * 0 + 128 * j + l) * dsr (seen nb) Z D SK kv (128 * nb) (8 * 0 + 2 * j + 0) r k else ∑ j : Fin 4, ∑ r : Fin 128, Z (128 * nb + r) (512 * 1 + 128 * j + l) * dsr (seen nb) Z D SK kv (128 * nb) (8 * 1 + 2 * j + 1) r k)
      + (if (l + 64) % 128 < 64 then ∑ j : Fin 4, ∑ r : Fin 128, Z (128 * nb + r) (512 * 1 + 128 * j + (l + 64) % 128) * dsr (seen nb) Z D SK kv (128 * nb) (8 * 1 + 2 * j + 0) r k
        else ∑ j : Fin 4, ∑ r : Fin 128, Z (128 * nb + r) (512 * 0 + 128 * j + (l + 64) % 128) * dsr (seen nb) Z D SK kv (128 * nb) (8 * 0 + 2 * j + 1) r k)
      = bK (seen nb) Z D SK kv (128 * nb) k l := by
  rw [bK]
  refine Eq.trans ?_ (sum_eight fun g => ∑ r : Fin 128, Z (128 * nb + r) (64 * (8 * (l / 64) + g) + l % 64) * dsr (seen nb) Z D SK kv (128 * nb) (8 * (l / 64) + g) r k).symm
  by_cases h : l < 64
  · rw [if_pos h, if_neg (show ¬ (l + 64) % 128 < 64 by omega), show l / 64 = 0 by omega]
    refine congrArg₂ (· + ·) (Finset.sum_congr rfl fun j _ => Finset.sum_congr rfl fun r _ => ?_)
      (Finset.sum_congr rfl fun j _ => Finset.sum_congr rfl fun r _ => ?_)
    · rw [show 512 * 0 + 128 * j.val + l = 64 * (8 * 0 + 2 * j.val) + l % 64 by omega]; rfl
    · rw [show 512 * 0 + 128 * j.val + (l + 64) % 128 = 64 * (8 * 0 + (2 * j.val + 1)) + l % 64 by omega]; rfl
  · rw [if_neg h, if_pos (show (l + 64) % 128 < 64 by omega), show l / 64 = 1 by omega, add_comm]
    refine congrArg₂ (· + ·) (Finset.sum_congr rfl fun j _ => Finset.sum_congr rfl fun r _ => ?_)
      (Finset.sum_congr rfl fun j _ => Finset.sum_congr rfl fun r _ => ?_)
    · rw [show 512 * 1 + 128 * j.val + (l + 64) % 128 = 64 * (8 * 1 + 2 * j.val) + l % 64 by omega]; rfl
    · rw [show 512 * 1 + 128 * j.val + l = 64 * (8 * 1 + (2 * j.val + 1)) + l % 64 by omega]; rfl

theorem dvA (I : B.IsA nb Z D SK kv) : Is2 B.dvA fun k l => if l < 64 then ∑ j : Fin 4, ∑ r : Fin 128, dO Z D (128 * nb + r) (512 * 0 + 128 * j + l) * wt (seen nb) Z SK kv (128 * nb) (8 * 0 + 2 * j + 0) r k
    else ∑ j : Fin 4, ∑ r : Fin 128, dO Z D (128 * nb + r) (512 * 1 + 128 * j + l) * wt (seen nb) Z SK kv (128 * nb) (8 * 1 + 2 * j + 1) r k :=
  (is2_add (zero_is (is2_loF I.grp00.dv)) (is2_hiF I.grp11.dv)).congr fun k l _ _ => by
    by_cases h : l < 64 <;> simp only [h, if_true, if_false, add_zero, zero_add]

theorem dvB (I : B.IsA nb Z D SK kv) : Is2 B.dvB fun k l => if l < 64 then ∑ j : Fin 4, ∑ r : Fin 128, dO Z D (128 * nb + r) (512 * 1 + 128 * j + l) * wt (seen nb) Z SK kv (128 * nb) (8 * 1 + 2 * j + 0) r k
    else ∑ j : Fin 4, ∑ r : Fin 128, dO Z D (128 * nb + r) (512 * 0 + 128 * j + l) * wt (seen nb) Z SK kv (128 * nb) (8 * 0 + 2 * j + 1) r k :=
  (is2_add (zero_is (is2_hiF I.grp01.dv)) (is2_loF I.grp10.dv)).congr fun k l _ _ => by
    by_cases h : l < 64 <;> simp only [h, if_true, if_false, add_zero, zero_add]

/-- Two groups' sums are the sum over the heads that share the key. -/
theorem dv_heads (k l : ℕ) (hl : l < 128) :
    (if l < 64 then ∑ j : Fin 4, ∑ r : Fin 128, dO Z D (128 * nb + r) (512 * 0 + 128 * j + l) * wt (seen nb) Z SK kv (128 * nb) (8 * 0 + 2 * j + 0) r k else ∑ j : Fin 4, ∑ r : Fin 128, dO Z D (128 * nb + r) (512 * 1 + 128 * j + l) * wt (seen nb) Z SK kv (128 * nb) (8 * 1 + 2 * j + 1) r k)
      + (if (l + 64) % 128 < 64 then ∑ j : Fin 4, ∑ r : Fin 128, dO Z D (128 * nb + r) (512 * 1 + 128 * j + (l + 64) % 128) * wt (seen nb) Z SK kv (128 * nb) (8 * 1 + 2 * j + 0) r k
        else ∑ j : Fin 4, ∑ r : Fin 128, dO Z D (128 * nb + r) (512 * 0 + 128 * j + (l + 64) % 128) * wt (seen nb) Z SK kv (128 * nb) (8 * 0 + 2 * j + 1) r k)
      = bV (seen nb) Z D SK kv (128 * nb) k l := by
  rw [bV]
  refine Eq.trans ?_ (sum_eight fun g => ∑ r : Fin 128, dO Z D (128 * nb + r) (64 * (8 * (l / 64) + g) + l % 64) * wt (seen nb) Z SK kv (128 * nb) (8 * (l / 64) + g) r k).symm
  by_cases h : l < 64
  · rw [if_pos h, if_neg (show ¬ (l + 64) % 128 < 64 by omega), show l / 64 = 0 by omega]
    refine congrArg₂ (· + ·) (Finset.sum_congr rfl fun j _ => Finset.sum_congr rfl fun r _ => ?_)
      (Finset.sum_congr rfl fun j _ => Finset.sum_congr rfl fun r _ => ?_)
    · rw [show 512 * 0 + 128 * j.val + l = 64 * (8 * 0 + 2 * j.val) + l % 64 by omega]; rfl
    · rw [show 512 * 0 + 128 * j.val + (l + 64) % 128 = 64 * (8 * 0 + (2 * j.val + 1)) + l % 64 by omega]; rfl
  · rw [if_neg h, if_pos (show (l + 64) % 128 < 64 by omega), show l / 64 = 1 by omega, add_comm]
    refine congrArg₂ (· + ·) (Finset.sum_congr rfl fun j _ => Finset.sum_congr rfl fun r _ => ?_)
      (Finset.sum_congr rfl fun j _ => Finset.sum_congr rfl fun r _ => ?_)
    · rw [show 512 * 1 + 128 * j.val + (l + 64) % 128 = 64 * (8 * 1 + 2 * j.val) + l % 64 by omega]; rfl
    · rw [show 512 * 1 + 128 * j.val + l = 64 * (8 * 1 + (2 * j.val + 1)) + l % 64 by omega]; rfl

theorem dkv (I : B.IsA nb Z D SK kv) : Is2 B.dkv fun k c => bKV (seen nb) Z D SK kv (128 * nb) k c :=
  (is2_dkv I.dkA I.dkB I.dvA I.dvB).congr fun k c _ hc => by
    by_cases h : c < 128
    · rw [if_pos h, bKV, if_pos h, ← dk_heads k c h]
    · rw [if_neg h, bKV, if_neg h, ← dv_heads k (c - 128) (by omega)]

theorem lane_sum {j h e : ℕ} (F : ℕ → ℕ → ℝ) (hj : j < 4) :
    (∑ q : Fin 512, if q.val / 128 = j then -F (8 * h + 2 * (q.val / 128) + e) (q.val % 128) else 0)
      = ∑ r : Fin 128, -F (8 * h + 2 * j + e) r := by
  refine (sum_stack fun j' r => if j' = j then -F (8 * h + 2 * j' + e) r else 0).trans ?_
  rw [Finset.sum_eq_single (⟨j, hj⟩ : Fin 4)]
  · simp only [if_true]
  · intro b _ hb
    simp only [if_neg (fun hc => hb (Fin.ext hc) : ¬ b.val = j), Finset.sum_const_zero]
  · intro h; exact absurd (Finset.mem_univ _) h

theorem zeroAcc : Is2 (broadcast S1x128 (Scalar.ofBits .f32 0x00000000#32) : FVec Ideal S1x128 .f32) fun _ _ => 0 :=
  fun _ => Ideal.ofBits_zero_f32

theorem lanes_step {h e : ℕ} {d : FVec Ideal S512x1 .f32} {acc : FVec Ideal S1x128 .f32} {F : ℕ → ℕ → ℝ} {L : List ℕ} (j m : ℕ)
    (hd : Is2 d fun p _ => -F (8 * h + 2 * (p / 128) + e) (p % 128))
    (hg : Is2 acc fun _ l => if l ∈ L then ∑ r : Fin 128, -F l r else 0) (hj : j < 4) (hm : m < 128)
    (hmj : m = 8 * h + 2 * j + e) (hL : m ∉ L) :
    Is2 (sinkLane (BitVec.ofNat 32 j) (BitVec.ofNat 32 m) d acc)
      fun _ l => if l ∈ m :: L then ∑ r : Fin 128, -F l r else 0 :=
  (is2_sinkLane hj hm (f := fun p => -F (8 * h + 2 * (p / 128) + e) (p % 128)) hd hg).congr fun r l _ _ => by
    by_cases hl : l = m
    · rw [if_pos hl, if_pos (show l ∈ m :: L by simp [hl]), lane_sum F hj, if_neg (show ¬ l ∈ L from hl ▸ hL), zero_add, hl, hmj]
    · rw [if_neg hl, add_zero]
      exact if_congr (by simp [hl]) rfl rfl

theorem lanes_four {h e : ℕ} {d : FVec Ideal S512x1 .f32} {acc : FVec Ideal S1x128 .f32} {F : ℕ → ℕ → ℝ} {L : List ℕ}
    (a b c k : ℕ) (hd : Is2 d fun p _ => -F (8 * h + 2 * (p / 128) + e) (p % 128))
    (hg : Is2 acc fun _ l => if l ∈ L then ∑ r : Fin 128, -F l r else 0) (hk : k < 128)
    (ha' : a = 8 * h + 2 * 0 + e) (hb' : b = 8 * h + 2 * 1 + e) (hc' : c = 8 * h + 2 * 2 + e) (hk' : k = 8 * h + 2 * 3 + e)
    (hL : ∀ x ∈ L, x ≠ a ∧ x ≠ b ∧ x ≠ c ∧ x ≠ k) :
    Is2 (sinkLane 3#32 (BitVec.ofNat 32 k) d (sinkLane 2#32 (BitVec.ofNat 32 c) d (sinkLane 1#32 (BitVec.ofNat 32 b) d
      (sinkLane 0#32 (BitVec.ofNat 32 a) d acc)))) fun _ l => if l ∈ k :: c :: b :: a :: L then ∑ r : Fin 128, -F l r else 0 := by
  have hn : a ∉ L ∧ b ∉ L ∧ c ∉ L ∧ k ∉ L :=
    ⟨fun h => (hL _ h).1 rfl, fun h => (hL _ h).2.1 rfl, fun h => (hL _ h).2.2.1 rfl, fun h => (hL _ h).2.2.2 rfl⟩
  have h0 := lanes_step (h := h) (e := e) 0 a hd hg (by omega) (by omega) (by omega) hn.1
  have h1 := lanes_step (h := h) (e := e) 1 b hd h0 (by omega) (by omega) (by omega) (by
    simp only [List.mem_cons, not_or]; exact ⟨by omega, hn.2.1⟩)
  have h2 := lanes_step (h := h) (e := e) 2 c hd h1 (by omega) (by omega) (by omega) (by
    simp only [List.mem_cons, not_or]; exact ⟨by omega, by omega, hn.2.2.1⟩)
  exact lanes_step (h := h) (e := e) 3 k hd h2 (by omega) (by omega) (by omega) (by
    simp only [List.mem_cons, not_or]; exact ⟨by omega, by omega, by omega, hn.2.2.2⟩)

theorem lanes00 (I : B.IsA nb Z D SK kv) :
    Is2 B.lanes00 fun _ l => if l ∈ [6, 4, 2, 0] then ∑ r : Fin 128, -(wsink (seen nb) Z SK kv (128 * nb) l r * dl (seen nb) Z D SK kv (128 * nb) l r) else 0 :=
  lanes_four (F := fun l r => wsink (seen nb) Z SK kv (128 * nb) l r * dl (seen nb) Z D SK kv (128 * nb) l r) (L := []) 0 2 4 6 I.grp00.dsk
    (zeroAcc.congr fun _ _ _ _ => by simp) (by omega) rfl rfl rfl rfl (by decide)

theorem lanes01 (I : B.IsA nb Z D SK kv) :
    Is2 B.lanes01 fun _ l => if l ∈ [7, 5, 3, 1, 6, 4, 2, 0] then ∑ r : Fin 128, -(wsink (seen nb) Z SK kv (128 * nb) l r * dl (seen nb) Z D SK kv (128 * nb) l r) else 0 :=
  lanes_four (F := fun l r => wsink (seen nb) Z SK kv (128 * nb) l r * dl (seen nb) Z D SK kv (128 * nb) l r) (L := [6, 4, 2, 0]) 1 3 5 7 I.grp01.dsk
    I.lanes00 (by omega) rfl rfl rfl rfl (by decide)

theorem lanes10 (I : B.IsA nb Z D SK kv) :
    Is2 B.lanes10 fun _ l => if l ∈ [14, 12, 10, 8, 7, 5, 3, 1, 6, 4, 2, 0] then ∑ r : Fin 128, -(wsink (seen nb) Z SK kv (128 * nb) l r * dl (seen nb) Z D SK kv (128 * nb) l r) else 0 :=
  lanes_four (F := fun l r => wsink (seen nb) Z SK kv (128 * nb) l r * dl (seen nb) Z D SK kv (128 * nb) l r) (L := [7, 5, 3, 1, 6, 4, 2, 0]) 8 10 12 14 I.grp10.dsk
    I.lanes01 (by omega) rfl rfl rfl rfl (by decide)

theorem lanes11 (I : B.IsA nb Z D SK kv) :
    Is2 B.lanes11 fun _ l => if l ∈ [15, 13, 11, 9, 14, 12, 10, 8, 7, 5, 3, 1, 6, 4, 2, 0] then ∑ r : Fin 128, -(wsink (seen nb) Z SK kv (128 * nb) l r * dl (seen nb) Z D SK kv (128 * nb) l r) else 0 :=
  lanes_four (F := fun l r => wsink (seen nb) Z SK kv (128 * nb) l r * dl (seen nb) Z D SK kv (128 * nb) l r) (L := [14, 12, 10, 8, 7, 5, 3, 1, 6, 4, 2, 0]) 9 11 13 15 I.grp11.dsk
    I.lanes10 (by omega) rfl rfl rfl rfl (by decide)

theorem lanes (I : B.IsA nb Z D SK kv) : Is2 B.lanes11 fun _ l => if l < 16 then bS (seen nb) Z D SK kv (128 * nb) l else 0 :=
  I.lanes11.congr fun _ l _ hl => if_congr ((by decide : ∀ l : Fin 128, l.val ∈ [15, 13, 11, 9, 14, 12, 10, 8, 7, 5, 3, 1, 6, 4, 2, 0] ↔ l.val < 16) ⟨l, hl⟩) rfl rfl

end Blk.IsA

end Cert.Kernel2Ideal.Mixer
-- ==== Proof.Mixer.SoftRef.lean ====
module

public import proofs.«01_k».proof.Proof.Mixer.AttReal

/-! The masked softmax with a sink as it is written with a shift by the largest score, over the reals, and its derivative. -/

@[expose] public section

set_option maxRecDepth 16384

noncomputable section

namespace Cert.Mixer

open Idealize.ShloMosaic

section
variable (vd : ℕ → ℕ → Prop) [∀ r k, Decidable (vd r k)] (s dp : ℕ → ℕ → ℝ) (sk : ℕ → ℝ) (r : ℕ) (μ : ℝ)

/-- The shifted exponentials and their sum. -/
def exm (k : ℕ) : ℝ := ex vd s r k * Real.exp (-μ)
def skm : ℝ := Real.exp (sk r - μ)
def denm : ℝ := (∑ k : Fin 256, exm vd s r μ k) + skm sk r μ

theorem denm_eq : denm vd s sk r μ = den vd s sk r * Real.exp (-μ) := by
  simp only [denm, exm, skm, den, ← Finset.sum_mul]
  rw [add_mul, sub_eq_add_neg, Real.exp_add]

theorem denm_ne : denm vd s sk r μ ≠ 0 := by
  rw [denm_eq]
  exact mul_ne_zero (den_pos vd s sk r).ne' (Real.exp_pos _).ne'

theorem exm_div (k : ℕ) : exm vd s r μ k / denm vd s sk r μ = pr vd s sk r k := by
  rw [denm_eq, exm, pr, mul_div_mul_right _ _ (Real.exp_pos _).ne']

theorem skm_div : skm sk r μ / denm vd s sk r μ = ps vd s sk r := by
  rw [denm_eq, skm, ps, sub_eq_add_neg, Real.exp_add, mul_div_mul_right _ _ (Real.exp_pos _).ne']

/-- The weights' sum with the sink's is one. -/
theorem pr_sum : (∑ k : Fin 256, pr vd s sk r k) = 1 - ps vd s sk r := by
  have h := (den_pos vd s sk r).ne'
  rw [eq_sub_iff_add_eq]
  simp only [pr, ps, ← Finset.sum_div]
  rw [← add_div, ← den, div_self h]

theorem sum_over : (∑ k : Fin 256, dp r k * (1 / (denm vd s sk r μ * denm vd s sk r μ)) * exm vd s r μ k)
    = del vd s dp sk r / denm vd s sk r μ := by
  have h := denm_ne vd s sk r μ
  rw [del, Finset.sum_div]
  refine Finset.sum_congr rfl fun k _ => ?_
  rw [← exm_div vd s sk r μ]
  field_simp

theorem sink_part : -(del vd s dp sk r / denm vd s sk r μ) * skm sk r μ = -(ps vd s sk r * del vd s dp sk r) := by
  rw [← skm_div vd s sk r μ]; ring

theorem dsc_part (k : ℕ) : (dp r k / denm vd s sk r μ + -(del vd s dp sk r / denm vd s sk r μ)) * exm vd s r μ k = dsc vd s dp sk r k := by
  rw [dsc, ← exm_div vd s sk r μ]; ring

/-- What the derivative sends back to the shift is zero. -/
theorem shift_zero : - -(ps vd s sk r * del vd s dp sk r) + ∑ k : Fin 256, -dsc vd s dp sk r k = 0 := by
  have h : (∑ k : Fin 256, dsc vd s dp sk r k) = del vd s dp sk r - (1 - ps vd s sk r) * del vd s dp sk r := by
    simp only [dsc, mul_sub, Finset.sum_sub_distrib, ← Finset.sum_mul]
    rw [pr_sum, ← del]
  rw [Finset.sum_neg_distrib, h]; ring
end

/-- The largest of finitely many, at least one of them above `⊥`, is one of them. -/
theorem fold_max_mem {ι : Type} (S : Finset ι) (f : ι → EReal) {i₀ : ι} (hi : i₀ ∈ S) (h : f i₀ ≠ ⊥) :
    ∃ i ∈ S, f i = S.fold max ⊥ f := by
  by_contra hn
  push Not at hn
  have h1 : ∀ i ∈ S, f i ≤ S.fold max ⊥ f := fun i hs => (Finset.le_fold_max _).2 (.inr ⟨i, hs, le_rfl⟩)
  have h2 : S.fold max ⊥ f < S.fold max ⊥ f :=
    (Finset.fold_max_lt _).2 ⟨lt_of_lt_of_le (bot_lt_iff_ne_bot.2 h) (h1 i₀ hi), fun i hs => lt_of_le_of_ne (h1 i hs) (hn i hs)⟩
  exact lt_irrefl _ h2

end Cert.Mixer

end
-- ==== Proof.Mixer.RefIn.lean ====
module

public import proofs.«01_k».proof.Proof.Gen.Reference2Ideal.Read
public import proofs.«01_k».proof.Proof.Mixer.SoftRef

/-! The reference's columns, queries, keys and values over the reals. -/

@[expose] public section

set_option maxRecDepth 16384

noncomputable section

namespace Cert.Reference2Ideal.Mixer

open Idealize.ShloMosaic TcCoe Cert.Reference2Ideal Gen Read Cert.Mixer
open Cert.Kernel2Ideal.Mixer (seen band kvS)

theorem rowMajor_six {d : Fin 6 → Nat} (i : (⟨6, d⟩ : Shape).Idx) : ((⟨6, d⟩ : Shape).rowMajor i).val
    = (((((i 0).val * d 1 + (i 1).val) * d 2 + (i 2).val) * d 3 + (i 3).val) * d 4 + (i 4).val) * d 5 + (i 5).val := by
  rw [Shape.rowMajor_val_succ, Shape.rowMajor_val_five]
  have e : (⟨5, fun a => d a.succ⟩ : Shape).numel = d 1 * d 2 * d 3 * d 4 * d 5 := by
    simp only [Shape.numel, Fin.prod_univ_succ, Fin.prod_univ_zero]
    simp [Nat.mul_assoc]
  rw [e]
  show (i 0).val * (d 1 * d 2 * d 3 * d 4 * d 5) + (((((i 1).val * d 2 + (i 2).val) * d 3 + (i 3).val) * d 4 + (i 4).val) * d 5 + (i 5).val) = _
  ring

/-- An entry as a real, its index given by the value of its coordinates. -/
theorem coe2 {g : ℕ → ℕ → ℝ} {a b a' b' : ℕ} (h0 : a = a') (h1 : b = b') : ((g a b : ℝ) : EReal) = ((g a' b' : ℝ) : EReal) := by
  rw [h0, h1]

theorem zero_f32 (i : S_.Idx) : (constant S_ .f32 0x00000000#32 : FVec Ideal S_ .f32) i = ((0 : ℝ) : EReal) :=
  Ideal.ofBits_zero_f32.trans EReal.coe_zero.symm

/-- Rows of 8192 split into blocks of 128, with the columns split into `2 · 8 · 64` or `2 · 64`. -/
theorem split_q {x : S1x8192x1024.Idx → EReal} {g : ℕ → ℕ → ℝ} (h : ∀ i, x i = ((g (i 1).val (i 2).val : ℝ) : EReal)) {hc} (i : S1x64x128x2x8x64.Idx) :
    shapeCast S1x64x128x2x8x64 x hc i = ((g (128 * (i 1).val + (i 2).val) (64 * (8 * (i 3).val + (i 4).val) + (i 5).val) : ℝ) : EReal) := by
  have h0 : (i 0).val < 1 := (i 0).isLt
  have h1 : (i 1).val < 64 := (i 1).isLt
  have h2 : (i 2).val < 128 := (i 2).isLt
  have h3 : (i 3).val < 2 := (i 3).isLt
  have h4 : (i 4).val < 8 := (i 4).isLt
  have h5 : (i 5).val < 64 := (i 5).isLt
  rw [shapeCast_apply x hc i (ix3 (0 : Fin 1) (⟨128 * (i 1).val + (i 2).val, by omega⟩ : Fin 8192)
    (⟨64 * (8 * (i 3).val + (i 4).val) + (i 5).val, by omega⟩ : Fin 1024)) ?_, h]
  · rfl
  rw [Shape.rowMajor_val_three, rowMajor_six]
  show ((0 : ℕ) * 8192 + (128 * (i 1).val + (i 2).val)) * 1024 + (64 * (8 * (i 3).val + (i 4).val) + (i 5).val)
    = (((((i 0).val * 64 + (i 1).val) * 128 + (i 2).val) * 2 + (i 3).val) * 8 + (i 4).val) * 64 + (i 5).val
  omega

theorem join_q {x : S1x64x128x2x8x64.Idx → EReal} {g : ℕ → ℕ → ℕ → ℕ → ℝ}
    (h : ∀ i, x i = ((g (i 1).val (i 2).val (8 * (i 3).val + (i 4).val) (i 5).val : ℝ) : EReal)) {hc} (i : S1x8192x1024.Idx) :
    shapeCast S1x8192x1024 x hc i = ((g ((i 1).val / 128) ((i 1).val % 128) ((i 2).val / 64) ((i 2).val % 64) : ℝ) : EReal) := by
  have h0 : (i 0).val < 1 := (i 0).isLt
  have h1 : (i 1).val < 8192 := (i 1).isLt
  have h2 : (i 2).val < 1024 := (i 2).isLt
  let k : S1x64x128x2x8x64.Idx := fun a => match a with
    | ⟨0, _⟩ => (0 : Fin 1)
    | ⟨1, _⟩ => (⟨(i 1).val / 128, by omega⟩ : Fin 64)
    | ⟨2, _⟩ => (⟨(i 1).val % 128, by omega⟩ : Fin 128)
    | ⟨3, _⟩ => (⟨(i 2).val / 512, by omega⟩ : Fin 2)
    | ⟨4, _⟩ => (⟨(i 2).val / 64 % 8, by omega⟩ : Fin 8)
    | ⟨5, _⟩ => (⟨(i 2).val % 64, by omega⟩ : Fin 64)
  rw [shapeCast_apply x hc i k ?_, h]
  · show ((g ((i 1).val / 128) ((i 1).val % 128) (8 * ((i 2).val / 512) + (i 2).val / 64 % 8) ((i 2).val % 64) : ℝ) : EReal) = _
    rw [show 8 * ((i 2).val / 512) + (i 2).val / 64 % 8 = (i 2).val / 64 by omega]
  · rw [Shape.rowMajor_val_three, rowMajor_six]
    show (((((0 : ℕ) * 64 + (i 1).val / 128) * 128 + (i 1).val % 128) * 2 + (i 2).val / 512) * 8 + (i 2).val / 64 % 8) * 64 + (i 2).val % 64
      = ((i 0).val * 8192 + (i 1).val) * 1024 + (i 2).val
    omega

/-- A block's keys: the previous block's rows and its own, zeros before the first. -/
theorem keys_is {x : S1x64x128x2x64.Idx → EReal} {y : S1x63x128x2x64.Idx → EReal} {z : S1x1x128x2x64.Idx → EReal} {g : ℕ → ℕ → ℝ}
    (hx : ∀ i, x i = ((g (128 * (i 1).val + (i 2).val) (64 * (i 3).val + (i 4).val) : ℝ) : EReal))
    (hy : ∀ i, y i = ((g (128 * (i 1).val + (i 2).val) (64 * (i 3).val + (i 4).val) : ℝ) : EReal)) (hz : ∀ i, z i = ((0 : ℝ) : EReal)) {hc hc'}
    (i : S1x64x256x2x64.Idx) :
    concatenate S1x64x256x2x64 2 [⟨S1x64x128x2x64, concatenate S1x64x128x2x64 1 [⟨S1x1x128x2x64, z⟩, ⟨S1x63x128x2x64, y⟩] hc⟩, ⟨S1x64x128x2x64, x⟩] hc' i
      = ((if 128 * (i 1).val + (i 2).val < 128 then 0 else g (128 * (i 1).val + (i 2).val - 128) (64 * (i 3).val + (i 4).val) : ℝ) : EReal) := by
  have h1 : (i 1).val < 64 := (i 1).isLt
  have h2 : (i 2).val < 256 := (i 2).isLt
  rw [concatenate_pair_apply]
  split_ifs with ha hb hb
  · have ha' : (i 2).val < 128 := ha
    rw [concatenate_pair_apply]
    have hq : (i 1).val < 1 := by omega
    exact (dif_pos hq).trans (hz _)
  · have ha' : (i 2).val < 128 := ha
    rw [concatenate_pair_apply]
    have hq : ¬ (i 1).val < 1 := by omega
    refine (dif_neg hq).trans ((hy _).trans (coe2 ?_ rfl))
    show 128 * ((i 1).val - 1) + (i 2).val = _
    omega
  · exact absurd (show (i 2).val < 128 by omega) ha
  · refine (hx _).trans (coe2 ?_ rfl)
    have ha' : ¬ (i 2).val < 128 := ha
    show 128 * (i 1).val + ((i 2).val - 128) = _
    omega

variable {x0 : (⟨S8192x6400, .bf16⟩ : BufTy).Contents (Elt Ideal)} {x1 : (⟨S8192x1024, .bf16⟩ : BufTy).Contents (Elt Ideal)}
  {x2 : (⟨S1x16, .f32⟩ : BufTy).Contents (Elt Ideal)} {x3 : (⟨S3x1024, .f32⟩ : BufTy).Contents (Elt Ideal)}
  {Z D : ℕ → ℕ → ℝ} {SK : ℕ → ℝ} {W : ℕ → ℕ → ℝ}

section
variable (hz : Is2 (n := 8192) (k := 6400) x0 Z)
include hz

theorem v1_is (i : S1x8192x6400.Idx) : val_main_v1 (F := Ideal) x0 i = ((Z (i 1).val (i 2).val : ℝ) : EReal) := by
  rw [val_main_v1_apply, val_main_v0_apply]
  exact hz _
theorem v2_is (i : S1x8192x1024.Idx) : val_main_v2 (F := Ideal) x0 i = ((Z (i 1).val (i 2).val : ℝ) : EReal) :=
  (val_main_v2_apply x0 i).trans (v1_is hz _)
theorem v3_is (i : S1x8192x128.Idx) : val_main_v3 (F := Ideal) x0 i = ((Z (i 1).val (1024 + (i 2).val) : ℝ) : EReal) :=
  (val_main_v3_apply x0 i).trans (v1_is hz _)
theorem v4_is (i : S1x8192x128.Idx) : val_main_v4 (F := Ideal) x0 i = ((Z (i 1).val (1152 + (i 2).val) : ℝ) : EReal) :=
  (val_main_v4_apply x0 i).trans (v1_is hz _)
theorem v5_is (i : S1x8192x1024.Idx) : val_main_v5 (F := Ideal) x0 i = ((Z (i 1).val (1280 + (i 2).val) : ℝ) : EReal) :=
  (val_main_v5_apply x0 i).trans (v1_is hz _)
theorem v6_is (i : S1x8192x1024.Idx) : val_main_v6 (F := Ideal) x0 i = ((Z (i 1).val (2304 + (i 2).val) : ℝ) : EReal) :=
  (val_main_v6_apply x0 i).trans (v1_is hz _)
theorem v7_is (i : S1x8192x1024.Idx) : val_main_v7 (F := Ideal) x0 i = ((Z (i 1).val (3328 + (i 2).val) : ℝ) : EReal) :=
  (val_main_v7_apply x0 i).trans (v1_is hz _)
theorem v8_is (i : S1x8192x1024.Idx) : val_main_v8 (F := Ideal) x0 i = ((Z (i 1).val (4352 + (i 2).val) : ℝ) : EReal) :=
  (val_main_v8_apply x0 i).trans (v1_is hz _)
theorem v9_is (i : S1x8192x1024.Idx) : val_main_v9 (F := Ideal) x0 i = ((Z (i 1).val (5376 + (i 2).val) : ℝ) : EReal) :=
  (val_main_v9_apply x0 i).trans (v1_is hz _)

theorem v11_is (i : S1x64x128x2x8x64.Idx) : val_main_v11 (F := Ideal) x0 i
    = ((Z (128 * (i 1).val + (i 2).val) (64 * (8 * (i 3).val + (i 4).val) + (i 5).val) : ℝ) : EReal) := split_q (v2_is hz) i

theorem v12_is (i : S1x64x128x2x64.Idx) : val_main_v12 (F := Ideal) x0 i
    = ((Z (128 * (i 1).val + (i 2).val) (1024 + (64 * (i 3).val + (i 4).val)) : ℝ) : EReal) := by
  have h0 : (i 0).val < 1 := (i 0).isLt
  have h1 : (i 1).val < 64 := (i 1).isLt
  have h2 : (i 2).val < 128 := (i 2).isLt
  have h3 : (i 3).val < 2 := (i 3).isLt
  have h4 : (i 4).val < 64 := (i 4).isLt
  refine (val_main_v12_apply x0 i).trans ((v3_is hz _).trans (coe2 ?_ ?_))
  · show (((((i 0).val * 64 + (i 1).val) * 128 + (i 2).val) * 2 + (i 3).val) * 64 + (i 4).val) / 128 % 8192 = _
    omega
  · show 1024 + (((((i 0).val * 64 + (i 1).val) * 128 + (i 2).val) * 2 + (i 3).val) * 64 + (i 4).val) % 128 = _
    omega
theorem v19_is (i : S1x64x128x2x64.Idx) : val_main_v19 (F := Ideal) x0 i
    = ((Z (128 * (i 1).val + (i 2).val) (1152 + (64 * (i 3).val + (i 4).val)) : ℝ) : EReal) := by
  have h0 : (i 0).val < 1 := (i 0).isLt
  have h1 : (i 1).val < 64 := (i 1).isLt
  have h2 : (i 2).val < 128 := (i 2).isLt
  have h3 : (i 3).val < 2 := (i 3).isLt
  have h4 : (i 4).val < 64 := (i 4).isLt
  refine (val_main_v19_apply x0 i).trans ((v4_is hz _).trans (coe2 ?_ ?_))
  · show (((((i 0).val * 64 + (i 1).val) * 128 + (i 2).val) * 2 + (i 3).val) * 64 + (i 4).val) / 128 % 8192 = _
    omega
  · show 1152 + (((((i 0).val * 64 + (i 1).val) * 128 + (i 2).val) * 2 + (i 3).val) * 64 + (i 4).val) % 128 = _
    omega

/-- The keys and the values. -/
theorem v18_is (i : S1x64x256x2x64.Idx) : val_main_v18 (F := Ideal) x0 i = ((kvS Z (i 1).val (i 2).val (64 * (i 3).val + (i 4).val) : ℝ) : EReal) :=
  keys_is (g := fun r c => Z r (1024 + c)) (v12_is hz) (fun i => (val_main_v15_apply x0 i).trans (v12_is hz _))
    (fun i => (val_main_v14_apply i).trans (zero_f32 _)) i
theorem v25_is (i : S1x64x256x2x64.Idx) : val_main_v25 (F := Ideal) x0 i = ((kvS Z (i 1).val (i 2).val (128 + 64 * (i 3).val + (i 4).val) : ℝ) : EReal) := by
  refine (keys_is (g := fun r c => Z r (1152 + c)) (v19_is hz) (fun i => (val_main_v22_apply x0 i).trans (v19_is hz _))
    (fun i => (val_main_v21_apply i).trans (zero_f32 _)) i).trans (congrArg _ ?_)
  rw [kvS, show 1024 + (128 + 64 * (i 3).val + (i 4).val) = 1152 + (64 * (i 3).val + (i 4).val) by omega]

/-- The scores. -/
theorem v29_is (i : S1x64x2x8x128x256.Idx) : val_main_v29 (F := Ideal) x0 i
    = ((sc Z (kvS Z (i 1).val) (128 * (i 1).val) (8 * (i 2).val + (i 3).val) (i 4).val (i 5).val : ℝ) : EReal) := by
  have h3 : (i 3).val < 8 := (i 3).isLt
  rw [val_main_v29_apply, val_main_v27_apply, val_main_v26_apply, val_main_v28_apply, val_main_cst_3_apply]
  simp only [v18_is hz, v11_is hz, ← EReal.coe_mul, ← coe_sum]
  show ((∑ d : Fin 64, kvS Z (i 1).val (i 5).val (64 * (i 2).val + d.val) * Z (128 * (i 1).val + (i 4).val) (64 * (8 * (i 2).val + (i 3).val) + d.val) : ℝ) : EReal)
    * Ideal.ofBits .f32 0x3E000000#32 = _
  rw [Cert.Kernel2Ideal.Mixer.eighth_f32, ← EReal.coe_mul, sc, Finset.sum_mul, show (8 * (i 2).val + (i 3).val) / 8 = (i 2).val by omega]
  refine congrArg _ (Finset.sum_congr rfl fun d _ => ?_)
  ring
end

/-- The mask. -/
theorem v43_is : ∀ (r : Fin 128) (k : Fin 256), IntOp.andi
    (IntOp.cmpi .sge (IntOp.subi (IntOp.addi (BitVec.ofNat 32 r.val) 128#32) (BitVec.ofNat 32 k.val)) 0#32)
    (IntOp.cmpi .slt (IntOp.subi (IntOp.addi (BitVec.ofNat 32 r.val) 128#32) (BitVec.ofNat 32 k.val)) 128#32)
      = if band r.val k.val then 1#1 else 0#1 := by decide +kernel
theorem v57_is (i : S64x128x256.Idx) : val_main_v57 (F := Ideal) i = if seen (i 0).val (i 1).val (i 2).val then 1#1 else 0#1 := by
  have h0 : (i 0).val < 64 := (i 0).isLt
  have h2 : (i 2).val < 256 := (i 2).isLt
  rw [val_main_v57_apply, val_main_v55_apply, val_main_v46_apply, val_main_v43_apply, val_main_v40_apply, val_main_v42_apply, val_main_v38_apply,
    val_main_v36_apply, val_main_v33_apply, val_main_v31_apply, val_main_v30_apply, val_main_v32_apply, val_main_v37_apply, val_main_v35_apply,
    val_main_v34_apply, val_main_v39_apply, val_main_v41_apply, val_main_v56_apply, val_main_v54_apply, val_main_v52_apply, val_main_v48_apply,
    val_main_v45_apply, val_main_v44_apply, val_main_v47_apply, val_main_v53_apply, val_main_v51_apply, val_main_v49_apply, val_main_v35_apply,
    val_main_v34_apply, val_main_v50_apply]
  refine (congrArg₂ IntOp.andi (v43_is (i 1) (i 2)) (congrArg₂ IntOp.ori
    ((WordCmp.cmpi_sgt_ofNat (w := 32) (a := (i 0).val) (b := 0) (by omega) (by omega)).trans (Cert.Kernel2Ideal.Mixer.ofBool_eq _))
    ((WordCmp.cmpi_sge_ofNat (w := 32) (a := (i 2).val) (b := 128) (by omega) (by omega)).trans (Cert.Kernel2Ideal.Mixer.ofBool_eq _)))).trans ?_
  rw [Cert.Kernel2Ideal.Mixer.ori_ite, Cert.Kernel2Ideal.Mixer.andi_ite]

end Cert.Reference2Ideal.Mixer

end
-- ==== Proof.Mixer.RefAtt.lean ====
module

public import proofs.«01_k».proof.Proof.Mixer.RefIn

/-! The reference's attention over the reals. -/

@[expose] public section

set_option maxRecDepth 16384

noncomputable section

namespace Cert.Mixer

open Cert.Kernel2Ideal.Mixer (seen kvS)

/-- The attention's result: row `g`, column `c`. -/
def attn (Z : ℕ → ℕ → ℝ) (SK : ℕ → ℝ) (g c : ℕ) : ℝ :=
  ∑ k : Fin 256, kvS Z (g / 128) k (128 + 64 * (c / 64 / 8) + c % 64)
    * wt (seen (g / 128)) Z SK (kvS Z (g / 128)) (128 * (g / 128)) (c / 64) (g % 128) k

end Cert.Mixer

namespace Cert.Reference2Ideal.Mixer

open Idealize.ShloMosaic TcCoe Cert.Reference2Ideal Gen Read Cert.Mixer
open Cert.Kernel2Ideal.Mixer (seen band kvS)

variable {x0 : (⟨S8192x6400, .bf16⟩ : BufTy).Contents (Elt Ideal)} {x1 : (⟨S8192x1024, .bf16⟩ : BufTy).Contents (Elt Ideal)}
  {x2 : (⟨S1x16, .f32⟩ : BufTy).Contents (Elt Ideal)} {x3 : (⟨S3x1024, .f32⟩ : BufTy).Contents (Elt Ideal)}
  {Z D : ℕ → ℕ → ℝ} {SK : ℕ → ℝ} {W : ℕ → ℕ → ℝ}

theorem one_f32 (i : S_.Idx) : (constant S_ .f32 0x3F800000#32 : FVec Ideal S_ .f32) i = ((1 : ℝ) : EReal) := by
  show Ideal.ofBits .f32 0x3F800000#32 = _
  simp [Ideal.ofBits, Ideal.ieee, -EReal.coe_mul]
  norm_num

theorem div_real {y : ℝ} (h : y ≠ 0) (x : ℝ) : Ideal.div ((x : ℝ) : EReal) ((y : ℝ) : EReal) = ((x / y : ℝ) : EReal) := by
  rw [Ideal.div_coe h, ← EReal.coe_mul, mul_one_div]

section
variable (hz : Is2 (n := 8192) (k := 6400) x0 Z)
include hz

theorem v59_is (i : S1x64x2x8x128x256.Idx) : val_main_v59_0 (F := Ideal) x0 i = if seen (i 1).val (i 4).val (i 5).val then
    ((sc Z (kvS Z (i 1).val) (128 * (i 1).val) (8 * (i 2).val + (i 3).val) (i 4).val (i 5).val : ℝ) : EReal) else ⊥ := by
  rw [val_main_v59_0_apply, val_main_v59_1_apply, val_main_v58_apply, v57_is, v29_is hz, val_main_call0_v2_apply, val_main_call0_v0_apply,
    val_main_cst_8_apply, Cert.Kernel2Ideal.Mixer.select_mask]
  exact if_congr Iff.rfl rfl Cert.Kernel2Ideal.Mixer.ofBits_neg_inf

/-- The largest score of a row is one of them, and no score is infinite. -/
theorem v61_is (j : S1x64x2x8x128.Idx) : val_main_v61 (F := Ideal) x0 j ≠ ⊤ ∧ ∃ i : S1x64x2x8x128x256.Idx,
    ((i 1).val = (j 1).val ∧ (i 2).val = (j 2).val ∧ (i 3).val = (j 3).val ∧ (i 4).val = (j 4).val)
    ∧ val_main_v59_0 (F := Ideal) x0 i = val_main_v61 (F := Ideal) x0 j := by
  have hd : ∀ i : S1x64x2x8x128x256.Idx, reducesTo_S1x64x2x8x128x256_S1x64x2x8x128_d5.drop i = j →
      ((i 1).val = (j 1).val ∧ (i 2).val = (j 2).val ∧ (i 3).val = (j 3).val ∧ (i 4).val = (j 4).val) := fun i h => by
    subst h
    exact ⟨(Shape.ReducesTo.drop_apply_val_of_eq _ i 1 1).symm, (Shape.ReducesTo.drop_apply_val_of_eq _ i 2 2).symm,
      (Shape.ReducesTo.drop_apply_val_of_eq _ i 3 3).symm, (Shape.ReducesTo.drop_apply_val_of_eq _ i 4 4).symm⟩
  have hr : ∀ r : Fin 128, ∃ k : Fin 256, ∀ b, seen b r.val k.val := fun r => ⟨⟨r.val + 128, by omega⟩, fun b => by
    have := r.isLt
    simp only [seen, band]; omega⟩
  obtain ⟨k₀, hk₀⟩ := hr (j 4)
  let i₀ : S1x64x2x8x128x256.Idx := fun a => match a with
    | ⟨0, _⟩ => j 0 | ⟨1, _⟩ => j 1 | ⟨2, _⟩ => j 2 | ⟨3, _⟩ => j 3 | ⟨4, _⟩ => j 4 | ⟨5, _⟩ => k₀
  have hi₀ : reducesTo_S1x64x2x8x128x256_S1x64x2x8x128_d5.drop i₀ = j := funext fun a => Fin.ext (by
    match a with
    | ⟨0, _⟩ => exact Shape.ReducesTo.drop_apply_val_of_eq _ i₀ 0 0
    | ⟨1, _⟩ => exact Shape.ReducesTo.drop_apply_val_of_eq _ i₀ 1 1
    | ⟨2, _⟩ => exact Shape.ReducesTo.drop_apply_val_of_eq _ i₀ 2 2
    | ⟨3, _⟩ => exact Shape.ReducesTo.drop_apply_val_of_eq _ i₀ 3 3
    | ⟨4, _⟩ => exact Shape.ReducesTo.drop_apply_val_of_eq _ i₀ 4 4)
  have e : val_main_v61 (F := Ideal) x0 j = (Finset.univ.filter fun i => reducesTo_S1x64x2x8x128x256_S1x64x2x8x128_d5.drop i = j).fold max ⊥
      (val_main_v59_0 (F := Ideal) x0) := by
    unfold val_main_v61
    refine (Host.reduce_eq_fold (FloatOps.maximumf (F := Ideal) (φ := .f32)) _ _ _ _ _).trans ?_
    exact congrArg (fun b => Finset.fold max b _ _) Cert.Kernel2Ideal.Mixer.ofBits_neg_inf
  constructor
  · rw [e]
    refine ((Finset.fold_max_lt _).2 ⟨bot_lt_top, fun i _ => ?_⟩).ne
    rw [v59_is hz]
    split_ifs
    · exact EReal.coe_lt_top _
    · exact bot_lt_top
  · obtain ⟨i, hi, h⟩ := fold_max_mem (Finset.univ.filter fun i => reducesTo_S1x64x2x8x128x256_S1x64x2x8x128_d5.drop i = j)
      (val_main_v59_0 (F := Ideal) x0) (i₀ := i₀) (Finset.mem_filter.2 ⟨Finset.mem_univ _, hi₀⟩) (by
        rw [v59_is hz, if_pos (hk₀ _)]; exact EReal.coe_ne_bot _)
    exact ⟨i, hd i (Finset.mem_filter.1 hi).2, h.trans e.symm⟩
end

/-- Values over blocks, heads and rows, none of them infinite, are the reals of a function of the block, the head and the row. -/
theorem rows_real {v : S1x64x2x8x128x1.Idx → EReal} (h : ∀ i, v i ≠ ⊤ ∧ v i ≠ ⊥) :
    ∃ μ : ℕ → ℕ → ℕ → ℝ, ∀ i, v i = ((μ (i 1).val (8 * (i 2).val + (i 3).val) (i 4).val : ℝ) : EReal) := by
  let at_ (b H r : ℕ) : S1x64x2x8x128x1.Idx := fun a => match a with
    | ⟨0, _⟩ => (0 : Fin 1)
    | ⟨1, _⟩ => (⟨b % 64, Nat.mod_lt _ (by decide)⟩ : Fin 64)
    | ⟨2, _⟩ => (⟨H / 8 % 2, Nat.mod_lt _ (by decide)⟩ : Fin 2)
    | ⟨3, _⟩ => (⟨H % 8, Nat.mod_lt _ (by decide)⟩ : Fin 8)
    | ⟨4, _⟩ => (⟨r % 128, Nat.mod_lt _ (by decide)⟩ : Fin 128)
    | ⟨5, _⟩ => (0 : Fin 1)
  refine ⟨fun b H r => (v (at_ b H r)).toReal, fun i => ?_⟩
  have e : at_ (i 1).val (8 * (i 2).val + (i 3).val) (i 4).val = i := funext fun a => Fin.ext (by
    have h0 : (i 0).val < 1 := (i 0).isLt
    have h1 : (i 1).val < 64 := (i 1).isLt
    have h2 : (i 2).val < 2 := (i 2).isLt
    have h3 : (i 3).val < 8 := (i 3).isLt
    have h4 : (i 4).val < 128 := (i 4).isLt
    have h5 : (i 5).val < 1 := (i 5).isLt
    match a with
    | ⟨0, _⟩ => show 0 = (i 0).val; omega
    | ⟨1, _⟩ => show (i 1).val % 64 = (i 1).val; omega
    | ⟨2, _⟩ => show (8 * (i 2).val + (i 3).val) / 8 % 2 = (i 2).val; omega
    | ⟨3, _⟩ => show (8 * (i 2).val + (i 3).val) % 8 = (i 3).val; omega
    | ⟨4, _⟩ => show (i 4).val % 128 = (i 4).val; omega
    | ⟨5, _⟩ => show 0 = (i 5).val; omega)
  simp only [e]
  exact (EReal.coe_toReal (h i).1 (h i).2).symm

section
variable (hs : Is2 (n := 1) (k := 16) x2 fun _ l => SK l)
include hs

theorem v60_is (i : S1x1x2x8x1x1.Idx) : val_main_v60 (F := Ideal) x2 i = ((SK (8 * (i 2).val + (i 3).val) : ℝ) : EReal) := by
  have h0 : (i 0).val < 1 := (i 0).isLt
  have h1 : (i 1).val < 1 := (i 1).isLt
  have h2 : (i 2).val < 2 := (i 2).isLt
  have h3 : (i 3).val < 8 := (i 3).isLt
  have h4 : (i 4).val < 1 := (i 4).isLt
  have h5 : (i 5).val < 1 := (i 5).isLt
  unfold val_main_v60
  rw [shapeCast_apply (val_main_v10 (F := Ideal) x2) _ i (ix1 (⟨8 * (i 2).val + (i 3).val, by omega⟩ : Fin 16)) ?_, val_main_v10_apply]
  · refine (hs _).trans (congrArg (fun n => ((SK n : ℝ) : EReal)) ?_)
    show (8 * (i 2).val + (i 3).val) % 16 = _
    omega
  · rw [Shape.rowMajor_val_one, rowMajor_six]
    show 8 * (i 2).val + (i 3).val = (((((i 0).val * 1 + (i 1).val) * 2 + (i 2).val) * 8 + (i 3).val) * 1 + (i 4).val) * 1 + (i 5).val
    omega

variable (hz : Is2 (n := 8192) (k := 6400) x0 Z)
include hz

/-- The shift is a real number. -/
theorem shift_real : ∃ μ : ℕ → ℕ → ℕ → ℝ, ∀ i, val_main_v69 (F := Ideal) x0 x2 i = ((μ (i 1).val (8 * (i 2).val + (i 3).val) (i 4).val : ℝ) : EReal) := by
  refine rows_real fun i => ?_
  rw [val_main_v69_apply, val_main_v67_apply, val_main_v68_apply, v60_is hs]
  refine ⟨(max_lt (lt_top_iff_ne_top.2 (v61_is hz _).1) (EReal.coe_lt_top _)).ne, (lt_of_lt_of_le (EReal.bot_lt_coe _) (le_max_right _ _)).ne'⟩

variable {μ : ℕ → ℕ → ℕ → ℝ} (hμ : ∀ i, val_main_v69 (F := Ideal) x0 x2 i = ((μ (i 1).val (8 * (i 2).val + (i 3).val) (i 4).val : ℝ) : EReal))
include hμ

omit hs in
theorem v90_is (i : S1x64x2x8x128x256.Idx) : val_main_v90 (F := Ideal) x0 x2 i
    = ((exm (seen (i 1).val) (sc Z (kvS Z (i 1).val) (128 * (i 1).val) (8 * (i 2).val + (i 3).val)) (i 4).val
      (μ (i 1).val (8 * (i 2).val + (i 3).val) (i 4).val) (i 5).val : ℝ) : EReal) := by
  rw [val_main_v90_apply, val_main_v89_apply, val_main_v88_apply, hμ, v59_is hz]
  exact exp_masked _ _ _

theorem v95_is (i : S1x64x2x8x128x1.Idx) : val_main_v95 (F := Ideal) x0 x2 i
    = ((skm (fun _ => SK (8 * (i 2).val + (i 3).val)) (i 4).val (μ (i 1).val (8 * (i 2).val + (i 3).val) (i 4).val) : ℝ) : EReal) := by
  rw [val_main_v95_apply, val_main_v94_apply, val_main_v93_apply, hμ, v60_is hs]
  show Ideal.exp (((SK (8 * (i 2).val + (i 3).val) : ℝ) : EReal) - ((μ (i 1).val (8 * (i 2).val + (i 3).val) (i 4).val : ℝ) : EReal)) = _
  rw [← EReal.coe_sub, Ideal.exp_coe]; rfl

theorem v96_is (i : S1x64x2x8x128x1.Idx) : val_main_v96 (F := Ideal) x0 x2 i
    = ((denm (seen (i 1).val) (sc Z (kvS Z (i 1).val) (128 * (i 1).val) (8 * (i 2).val + (i 3).val)) (fun _ => SK (8 * (i 2).val + (i 3).val)) (i 4).val
      (μ (i 1).val (8 * (i 2).val + (i 3).val) (i 4).val) : ℝ) : EReal) := by
  rw [val_main_v96_apply, val_main_v92_apply, val_main_v91_apply, v95_is hs hz hμ, val_main_cst_17_apply]
  simp only [v90_is hz hμ, ← coe_sum]
  rw [denm, EReal.coe_add]
  exact congrArg (· + _) ((congrArg (· + _) Ideal.ofBits_zero_f32).trans (zero_add _))

theorem v98_is (i : S1x64x2x8x128x256.Idx) : val_main_v98 (F := Ideal) x0 x2 i
    = ((wt (seen (i 1).val) Z SK (kvS Z (i 1).val) (128 * (i 1).val) (8 * (i 2).val + (i 3).val) (i 4).val (i 5).val : ℝ) : EReal) := by
  rw [val_main_v98_apply, val_main_v97_apply, v90_is hz hμ, v96_is hs hz hμ]
  exact (div_real (denm_ne _ _ _ _ _) _).trans (congrArg (fun x : ℝ => (x : EReal)) (exm_div _ _ _ _ _ _))

theorem v101_is (i : S1x64x2x8x128x1.Idx) : val_main_v101 (F := Ideal) x0 x2 i
    = ((1 / (denm (seen (i 1).val) (sc Z (kvS Z (i 1).val) (128 * (i 1).val) (8 * (i 2).val + (i 3).val)) (fun _ => SK (8 * (i 2).val + (i 3).val)) (i 4).val
      (μ (i 1).val (8 * (i 2).val + (i 3).val) (i 4).val) * denm (seen (i 1).val) (sc Z (kvS Z (i 1).val) (128 * (i 1).val) (8 * (i 2).val + (i 3).val))
      (fun _ => SK (8 * (i 2).val + (i 3).val)) (i 4).val (μ (i 1).val (8 * (i 2).val + (i 3).val) (i 4).val)) : ℝ) : EReal) := by
  rw [val_main_v101_apply, val_main_v100_apply, val_main_cst_18_apply, val_main_v99_apply, v96_is hs hz hμ]
  refine (congrArg₂ Ideal.div (one_f32 (Shape.Idx.first h_S_)) (EReal.coe_mul _ _).symm).trans (div_real (mul_ne_zero (denm_ne _ _ _ _ _) (denm_ne _ _ _ _ _)) _)

theorem v104_is (i : S1x8192x1024.Idx) : val_main_v104 (F := Ideal) x0 x2 i = ((attn Z SK (i 1).val (i 2).val : ℝ) : EReal) := by
  refine (join_q (g := fun b r H d => ∑ k : Fin 256, kvS Z b k (128 + 64 * (H / 8) + d) * wt (seen b) Z SK (kvS Z b) (128 * b) H r k) (fun i => ?_) i).trans rfl
  have h4 : (i 4).val < 8 := (i 4).isLt
  rw [val_main_v103_apply, val_main_v102_apply]
  simp only [v25_is hz, v98_is hs hz hμ, ← EReal.coe_mul, ← coe_sum]
  rw [show (8 * (i 3).val + (i 4).val) / 8 = (i 3).val by omega]
end

end Cert.Reference2Ideal.Mixer

end
-- ==== Proof.Mixer.Blocks.lean ====
module

public import proofs.«01_k».proof.Proof.Mixer.Att
public import Idealize.ShloMosaic.Lib.Pipeline.ReadBack

/-! The two blocks of a grid point, read from the windows the body is given. -/

@[expose] public section

set_option maxRecDepth 16384

noncomputable section

namespace Cert.Kernel2Ideal.Mixer

open Idealize.ShloMosaic TcCoe Cert.Kernel2Ideal Gen Cert.Mixer

/-- The first block of 128 rows of the point `n`. -/
def blk0 (n : BitVec 32) (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) : Blk where
  m := maskV n
  kv0 := (View.ld x2 (Rect.unit ![0, 0] S128x256.size inb_S128x256_S128x256_0_0))
  kv1 := (View.ld x1 (Rect.unit ![0, 1024] S128x256.size inb_S256x6400_S128x256_0_1024))
  q0 := (View.ld x1 (Rect.unit ![0, 0] S128x128.size inb_S256x6400_S128x128_0_0))
  q1 := (View.ld x1 (Rect.unit ![0, 128] S128x128.size inb_S256x6400_S128x128_0_128))
  q2 := (View.ld x1 (Rect.unit ![0, 256] S128x128.size inb_S256x6400_S128x128_0_256))
  q3 := (View.ld x1 (Rect.unit ![0, 384] S128x128.size inb_S256x6400_S128x128_0_384))
  q4 := (View.ld x1 (Rect.unit ![0, 512] S128x128.size inb_S256x6400_S128x128_0_512))
  q5 := (View.ld x1 (Rect.unit ![0, 640] S128x128.size inb_S256x6400_S128x128_0_640))
  q6 := (View.ld x1 (Rect.unit ![0, 768] S128x128.size inb_S256x6400_S128x128_0_768))
  q7 := (View.ld x1 (Rect.unit ![0, 896] S128x128.size inb_S256x6400_S128x128_0_896))
  dm := (View.ld x5 (Rect.unit ![0, 0] S128x1024.size inb_S256x1024_S128x1024_0_0))
  av := (View.ld x7 (Rect.unit ![0, 0] S128x1024.size inb_S256x1024_S128x1024_0_0))
  ga := (View.ld x1 (Rect.unit ![0, 4352] S128x1024.size inb_S256x6400_S128x1024_0_4352))
  cb := (View.ld x1 (Rect.unit ![0, 1280] S128x1024.size inb_S256x6400_S128x1024_0_1280))
  cc := (View.ld x1 (Rect.unit ![0, 2304] S128x1024.size inb_S256x6400_S128x1024_0_2304))
  cx := (View.ld x1 (Rect.unit ![0, 3328] S128x1024.size inb_S256x6400_S128x1024_0_3328))
  gc := (View.ld x1 (Rect.unit ![0, 5376] S128x1024.size inb_S256x6400_S128x1024_0_5376))
  s0 := View.ld x8 (Rect.unit ![0, 0] S1x1.size inb_S1x16_S1x1_0_0) (Shape.Idx.first (by decide))
  s1 := View.ld x8 (Rect.unit ![0, 1] S1x1.size inb_S1x16_S1x1_0_1) (Shape.Idx.first (by decide))
  s2 := View.ld x8 (Rect.unit ![0, 2] S1x1.size inb_S1x16_S1x1_0_2) (Shape.Idx.first (by decide))
  s3 := View.ld x8 (Rect.unit ![0, 3] S1x1.size inb_S1x16_S1x1_0_3) (Shape.Idx.first (by decide))
  s4 := View.ld x8 (Rect.unit ![0, 4] S1x1.size inb_S1x16_S1x1_0_4) (Shape.Idx.first (by decide))
  s5 := View.ld x8 (Rect.unit ![0, 5] S1x1.size inb_S1x16_S1x1_0_5) (Shape.Idx.first (by decide))
  s6 := View.ld x8 (Rect.unit ![0, 6] S1x1.size inb_S1x16_S1x1_0_6) (Shape.Idx.first (by decide))
  s7 := View.ld x8 (Rect.unit ![0, 7] S1x1.size inb_S1x16_S1x1_0_7) (Shape.Idx.first (by decide))
  s8 := View.ld x8 (Rect.unit ![0, 8] S1x1.size inb_S1x16_S1x1_0_8) (Shape.Idx.first (by decide))
  s9 := View.ld x8 (Rect.unit ![0, 9] S1x1.size inb_S1x16_S1x1_0_9) (Shape.Idx.first (by decide))
  s10 := View.ld x8 (Rect.unit ![0, 10] S1x1.size inb_S1x16_S1x1_0_10) (Shape.Idx.first (by decide))
  s11 := View.ld x8 (Rect.unit ![0, 11] S1x1.size inb_S1x16_S1x1_0_11) (Shape.Idx.first (by decide))
  s12 := View.ld x8 (Rect.unit ![0, 12] S1x1.size inb_S1x16_S1x1_0_12) (Shape.Idx.first (by decide))
  s13 := View.ld x8 (Rect.unit ![0, 13] S1x1.size inb_S1x16_S1x1_0_13) (Shape.Idx.first (by decide))
  s14 := View.ld x8 (Rect.unit ![0, 14] S1x1.size inb_S1x16_S1x1_0_14) (Shape.Idx.first (by decide))
  s15 := View.ld x8 (Rect.unit ![0, 15] S1x1.size inb_S1x16_S1x1_0_15) (Shape.Idx.first (by decide))
  prev := Scalar.select (Scalar.cmpi .sgt n 0#32) (mulf (extf .f32 (View.ld x3 (Rect.unit ![0, 2304] S16x1024.size inb_S16x6400_S16x1024_0_2304)) bitsLt_bf16_f32) (extf .f32 (View.ld x3 (Rect.unit ![0, 3328] S16x1024.size inb_S16x6400_S16x1024_0_3328)) bitsLt_bf16_f32)) (broadcast S16x1024 (Scalar.ofBits .f32 0x00000000#32))
  nxt := (mulf (mulf (extf .f32 (View.ld x5 (Rect.unit ![128, 0] S16x1024.size inb_S256x1024_S16x1024_128_0)) bitsLt_bf16_f32) (logistic (extf .f32 (View.ld x1 (Rect.unit ![128, 5376] S16x1024.size inb_S256x6400_S16x1024_128_5376)) bitsLt_bf16_f32))) (extf .f32 (View.ld x1 (Rect.unit ![128, 1280] S16x1024.size inb_S256x6400_S16x1024_128_1280)) bitsLt_bf16_f32))
  w0 := (View.ld x9 (Rect.unit ![0, 0] S1x1024.size inb_S3x1024_S1x1024_0_0))
  w1 := (View.ld x9 (Rect.unit ![1, 0] S1x1024.size inb_S3x1024_S1x1024_1_0))
  w2 := (View.ld x9 (Rect.unit ![2, 0] S1x1024.size inb_S3x1024_S1x1024_2_0))

/-- The second block of 128 rows of the point `n`. -/
def blk1 (n : BitVec 32) (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) : Blk where
  m := bandV
  kv0 := (View.ld x1 (Rect.unit ![0, 1024] S128x256.size inb_S256x6400_S128x256_0_1024))
  kv1 := (View.ld x1 (Rect.unit ![128, 1024] S128x256.size inb_S256x6400_S128x256_128_1024))
  q0 := (View.ld x1 (Rect.unit ![128, 0] S128x128.size inb_S256x6400_S128x128_128_0))
  q1 := (View.ld x1 (Rect.unit ![128, 128] S128x128.size inb_S256x6400_S128x128_128_128))
  q2 := (View.ld x1 (Rect.unit ![128, 256] S128x128.size inb_S256x6400_S128x128_128_256))
  q3 := (View.ld x1 (Rect.unit ![128, 384] S128x128.size inb_S256x6400_S128x128_128_384))
  q4 := (View.ld x1 (Rect.unit ![128, 512] S128x128.size inb_S256x6400_S128x128_128_512))
  q5 := (View.ld x1 (Rect.unit ![128, 640] S128x128.size inb_S256x6400_S128x128_128_640))
  q6 := (View.ld x1 (Rect.unit ![128, 768] S128x128.size inb_S256x6400_S128x128_128_768))
  q7 := (View.ld x1 (Rect.unit ![128, 896] S128x128.size inb_S256x6400_S128x128_128_896))
  dm := (View.ld x5 (Rect.unit ![128, 0] S128x1024.size inb_S256x1024_S128x1024_128_0))
  av := (View.ld x7 (Rect.unit ![128, 0] S128x1024.size inb_S256x1024_S128x1024_128_0))
  ga := (View.ld x1 (Rect.unit ![128, 4352] S128x1024.size inb_S256x6400_S128x1024_128_4352))
  cb := (View.ld x1 (Rect.unit ![128, 1280] S128x1024.size inb_S256x6400_S128x1024_128_1280))
  cc := (View.ld x1 (Rect.unit ![128, 2304] S128x1024.size inb_S256x6400_S128x1024_128_2304))
  cx := (View.ld x1 (Rect.unit ![128, 3328] S128x1024.size inb_S256x6400_S128x1024_128_3328))
  gc := (View.ld x1 (Rect.unit ![128, 5376] S128x1024.size inb_S256x6400_S128x1024_128_5376))
  s0 := View.ld x8 (Rect.unit ![0, 0] S1x1.size inb_S1x16_S1x1_0_0) (Shape.Idx.first (by decide))
  s1 := View.ld x8 (Rect.unit ![0, 1] S1x1.size inb_S1x16_S1x1_0_1) (Shape.Idx.first (by decide))
  s2 := View.ld x8 (Rect.unit ![0, 2] S1x1.size inb_S1x16_S1x1_0_2) (Shape.Idx.first (by decide))
  s3 := View.ld x8 (Rect.unit ![0, 3] S1x1.size inb_S1x16_S1x1_0_3) (Shape.Idx.first (by decide))
  s4 := View.ld x8 (Rect.unit ![0, 4] S1x1.size inb_S1x16_S1x1_0_4) (Shape.Idx.first (by decide))
  s5 := View.ld x8 (Rect.unit ![0, 5] S1x1.size inb_S1x16_S1x1_0_5) (Shape.Idx.first (by decide))
  s6 := View.ld x8 (Rect.unit ![0, 6] S1x1.size inb_S1x16_S1x1_0_6) (Shape.Idx.first (by decide))
  s7 := View.ld x8 (Rect.unit ![0, 7] S1x1.size inb_S1x16_S1x1_0_7) (Shape.Idx.first (by decide))
  s8 := View.ld x8 (Rect.unit ![0, 8] S1x1.size inb_S1x16_S1x1_0_8) (Shape.Idx.first (by decide))
  s9 := View.ld x8 (Rect.unit ![0, 9] S1x1.size inb_S1x16_S1x1_0_9) (Shape.Idx.first (by decide))
  s10 := View.ld x8 (Rect.unit ![0, 10] S1x1.size inb_S1x16_S1x1_0_10) (Shape.Idx.first (by decide))
  s11 := View.ld x8 (Rect.unit ![0, 11] S1x1.size inb_S1x16_S1x1_0_11) (Shape.Idx.first (by decide))
  s12 := View.ld x8 (Rect.unit ![0, 12] S1x1.size inb_S1x16_S1x1_0_12) (Shape.Idx.first (by decide))
  s13 := View.ld x8 (Rect.unit ![0, 13] S1x1.size inb_S1x16_S1x1_0_13) (Shape.Idx.first (by decide))
  s14 := View.ld x8 (Rect.unit ![0, 14] S1x1.size inb_S1x16_S1x1_0_14) (Shape.Idx.first (by decide))
  s15 := View.ld x8 (Rect.unit ![0, 15] S1x1.size inb_S1x16_S1x1_0_15) (Shape.Idx.first (by decide))
  prev := (mulf (extf .f32 (View.ld x1 (Rect.unit ![112, 2304] S16x1024.size inb_S256x6400_S16x1024_112_2304)) bitsLt_bf16_f32) (extf .f32 (View.ld x1 (Rect.unit ![112, 3328] S16x1024.size inb_S256x6400_S16x1024_112_3328)) bitsLt_bf16_f32))
  nxt := Scalar.select (Scalar.cmpi .slt n 31#32) (mulf (mulf (extf .f32 (View.ld x6 (Rect.unit ![0, 0] S16x1024.size inb_S16x1024_S16x1024_0_0)) bitsLt_bf16_f32) (logistic (extf .f32 (View.ld x4 (Rect.unit ![0, 5376] S16x1024.size inb_S16x6400_S16x1024_0_5376)) bitsLt_bf16_f32))) (extf .f32 (View.ld x4 (Rect.unit ![0, 1280] S16x1024.size inb_S16x6400_S16x1024_0_1280)) bitsLt_bf16_f32)) (broadcast S16x1024 (Scalar.ofBits .f32 0x00000000#32))
  w0 := (View.ld x9 (Rect.unit ![0, 0] S1x1024.size inb_S3x1024_S1x1024_0_0))
  w1 := (View.ld x9 (Rect.unit ![1, 0] S1x1024.size inb_S3x1024_S1x1024_1_0))
  w2 := (View.ld x9 (Rect.unit ![2, 0] S1x1024.size inb_S3x1024_S1x1024_2_0))

end Cert.Kernel2Ideal.Mixer
-- ==== Proof.Mixer.Conv.lean ====
module

public import proofs.«01_k».proof.Proof.Mixer.AttReal

/-! One block's gates and convolution as the body computes them, and what they hold over the reals. -/

@[expose] public section

set_option maxRecDepth 16384

noncomputable section

namespace Cert.Mixer

open Idealize.ShloMosaic

/-- `P` moved down or up by `s` rows of a sequence of 8192. -/
def dn (P : ℕ → ℕ → ℝ) (s g c : ℕ) : ℝ := if s ≤ g then P (g - s) c else 0
def up (P : ℕ → ℕ → ℝ) (s g c : ℕ) : ℝ := if g + s < 8192 then P (g + s) c else 0

section
variable (Z D A W : ℕ → ℕ → ℝ)
/-- The convolution's input and result, the cotangent of the result, and of the input. -/
def pin (g c : ℕ) : ℝ := Z g (2304 + c) * Z g (3328 + c)
def cnv (g c : ℕ) : ℝ := W 0 c * dn (pin Z) 2 g c + W 1 c * dn (pin Z) 1 g c + W 2 c * pin Z g c
def dcn (g c : ℕ) : ℝ := D g c * sig (Z g (5376 + c)) * Z g (1280 + c)
def dpi (g c : ℕ) : ℝ := W 2 c * dcn Z D g c + W 1 c * up (dcn Z D) 1 g c + W 0 c * up (dcn Z D) 2 g c
/-- The gradients of the five other columns of a row. -/
def gCB (g c : ℕ) : ℝ := D g c * sig (Z g (5376 + c)) * cnv Z W g c
def gCC (g c : ℕ) : ℝ := dpi Z D W g c * Z g (3328 + c)
def gCX (g c : ℕ) : ℝ := dpi Z D W g c * Z g (2304 + c)
def gGA (g c : ℕ) : ℝ := D g c * A g c * sig (Z g (4352 + c)) * (1 - sig (Z g (4352 + c)))
def gGC (g c : ℕ) : ℝ := D g c * (Z g (1280 + c) * cnv Z W g c) * sig (Z g (5376 + c)) * (1 - sig (Z g (5376 + c)))
end

end Cert.Mixer

namespace Cert.Kernel2Ideal.Mixer

open Idealize.ShloMosaic TcCoe Cert.Kernel2Ideal Gen Cert.Mixer

/-! ### Rows moved within a block, with rows from the neighbouring block -/

def rowV (k : BitVec 32) (x : FVec Ideal S1x1024 .f32) (p : FVec Ideal S128x1024 .f32) : FVec Ideal S128x1024 .f32 :=
  select (cmpi .eq (iota .tc S128x1024 32 [0] iota_S128x1024_d0_w32) (broadcast S128x1024 k))
    (broadcastTo S128x1024 (shapeCast S1x1024 x shapeCasts_S1x1024_S1x1024) broadcasts_S1x1024_S128x1024) p
def dn1V (p : FVec Ideal S128x1024 .f32) (q : FVec Ideal S16x1024 .f32) : FVec Ideal S128x1024 .f32 :=
  rowV 0#32 (extractStridedSlice S1x1024 ![15, 0] q slices_S16x1024_o15_0_S1x1024) (dynamicRotate 0 1#32 none p rotates_S128x1024_d0)
def dn2V (p : FVec Ideal S128x1024 .f32) (q : FVec Ideal S16x1024 .f32) : FVec Ideal S128x1024 .f32 :=
  rowV 1#32 (extractStridedSlice S1x1024 ![15, 0] q slices_S16x1024_o15_0_S1x1024)
    (rowV 0#32 (extractStridedSlice S1x1024 ![14, 0] q slices_S16x1024_o14_0_S1x1024) (dynamicRotate 0 2#32 none p rotates_S128x1024_d0))
def up1V (p : FVec Ideal S128x1024 .f32) (q : FVec Ideal S16x1024 .f32) : FVec Ideal S128x1024 .f32 :=
  rowV 127#32 (extractStridedSlice S1x1024 ![0, 0] q slices_S16x1024_o0_0_S1x1024) (dynamicRotate 0 127#32 none p rotates_S128x1024_d0)
def up2V (p : FVec Ideal S128x1024 .f32) (q : FVec Ideal S16x1024 .f32) : FVec Ideal S128x1024 .f32 :=
  rowV 127#32 (extractStridedSlice S1x1024 ![1, 0] q slices_S16x1024_o1_0_S1x1024)
    (rowV 126#32 (extractStridedSlice S1x1024 ![0, 0] q slices_S16x1024_o0_0_S1x1024) (dynamicRotate 0 126#32 none p rotates_S128x1024_d0))
/-- A row of weights times a block. -/
def wV (w : Vec Ideal S1x1024 .f32) (p : FVec Ideal S128x1024 .f32) : FVec Ideal S128x1024 .f32 :=
  mulf (broadcastTo S128x1024 w broadcasts_S1x1024_S128x1024) p
def one_sub (x : FVec Ideal S128x1024 .f32) : FVec Ideal S128x1024 .f32 :=
  subf (broadcast S128x1024 (Scalar.ofBits .f32 0x3F800000#32)) x
def bf (x : FVec Ideal S128x1024 .f32) : FVec Ideal S128x1024 .bf16 := truncf .bf16 x bitsLt_bf16_f32
def fl (x : Vec Ideal S128x1024 .bf16) : FVec Ideal S128x1024 .f32 := extf .f32 x bitsLt_bf16_f32
/-- The sums of a block's columns. -/
def colV (x : FVec Ideal S128x1024 .f32) : FVec Ideal S1x1024 .f32 :=
  shapeCast S1x1024 (multiReduction .add [0] S1024 x 0x00000000#32 reduces_S128x1024_S1024 (.inl rfl) rfl) shapeCasts_S1024_S1x1024
def colQ (x : FVec Ideal S128x128 .f32) : FVec Ideal S1x128 .f32 :=
  shapeCast S1x128 (multiReduction .add [0] S128 x 0x00000000#32 reduces_S128x128_S128 (.inl rfl) rfl) shapeCasts_S128_S1x128
def colK (x : FVec Ideal S128x256 .f32) : FVec Ideal S1x256 .f32 :=
  shapeCast S1x256 (multiReduction .add [0] S256 x 0x00000000#32 reduces_S128x256_S256 (.inl rfl) rfl) shapeCasts_S256_S1x256

theorem is2_row {x : FVec Ideal S1x1024 .f32} {p : FVec Ideal S128x1024 .f32} {k : ℕ} {f : ℕ → ℝ} {g : ℕ → ℕ → ℝ} (hk : k < 128)
    (hx : Is2 x fun _ c => f c) (hp : Is2 p g) : Is2 (rowV (BitVec.ofNat 32 k) x p) fun r c => if r = k then f c else g r c := fun i => by
  have h0 : (i 0).val < 128 := (i 0).isLt
  pointwise [rowV]
  rw [cmpi_eq_is (by omega) (by omega), select_mask, hp]
  split_ifs
  · exact hx _
  · rfl

theorem is2_rotRows {p : FVec Ideal S128x1024 .f32} {g : ℕ → ℕ → ℝ} (hp : Is2 p g) :
    Is2 (dynamicRotate 0 1#32 none p rotates_S128x1024_d0) (fun r c => g ((r + 127) % 128) c)
    ∧ Is2 (dynamicRotate 0 2#32 none p rotates_S128x1024_d0) (fun r c => g ((r + 126) % 128) c)
    ∧ Is2 (dynamicRotate 0 127#32 none p rotates_S128x1024_d0) (fun r c => g ((r + 1) % 128) c)
    ∧ Is2 (dynamicRotate 0 126#32 none p rotates_S128x1024_d0) (fun r c => g ((r + 2) % 128) c) := by
  refine ⟨fun i => ?_, fun i => ?_, fun i => ?_, fun i => ?_⟩ <;> · pointwise; exact hp _

theorem is2_rowOf {q : FVec Ideal S16x1024 .f32} {g : ℕ → ℕ → ℝ} (hq : Is2 q g) {k : ℕ} (hs : S16x1024.Slices ![k, 0] S1x1024) :
    Is2 (extractStridedSlice S1x1024 ![k, 0] q hs) fun _ c => g k c := fun i => by
  pointwise
  exact hq _

section
variable {p : FVec Ideal S128x1024 .f32} {q : FVec Ideal S16x1024 .f32} {P g : ℕ → ℕ → ℝ} {R : ℕ}

theorem dn1_is (hR : R = 0 ∨ 16 ≤ R) (hp : Is2 p fun r c => P (R + r) c)
    (hq : Is2 q fun r c => if 16 ≤ R + r then P (R + r - 16) c else 0) : Is2 (dn1V p q) fun r c => dn P 1 (R + r) c :=
  (is2_row (by omega) (is2_rowOf hq _) (is2_rotRows hp).1).congr fun r c hr _ => by
    unfold dn
    by_cases h : r = 0
    · rw [if_pos h]
      refine if_congr (by omega) ?_ rfl
      rw [show R + 15 - 16 = R + r - 1 by omega]
    · rw [if_neg h, if_pos (by omega), show R + (r + 127) % 128 = R + r - 1 by omega]

theorem dn2_is (hR : R = 0 ∨ 16 ≤ R) (hp : Is2 p fun r c => P (R + r) c)
    (hq : Is2 q fun r c => if 16 ≤ R + r then P (R + r - 16) c else 0) : Is2 (dn2V p q) fun r c => dn P 2 (R + r) c :=
  (is2_row (by omega) (is2_rowOf hq _) (is2_row (by omega) (is2_rowOf hq _) (is2_rotRows hp).2.1)).congr fun r c hr _ => by
    unfold dn
    by_cases h1 : r = 1
    · rw [if_pos h1]
      refine if_congr (by omega) ?_ rfl
      rw [show R + 15 - 16 = R + r - 2 by omega]
    rw [if_neg h1]
    by_cases h : r = 0
    · rw [if_pos h]
      by_cases h' : R = 0
      · rw [if_neg (by omega), if_neg (by omega)]
      · rw [if_pos (by omega), if_pos (by omega), show R + 14 - 16 = R + r - 2 by omega]
    · rw [if_neg h, if_pos (by omega), show R + (r + 126) % 128 = R + r - 2 by omega]

theorem up1_is (hR : R + 128 = 8192 ∨ R + 144 ≤ 8192) (hp : Is2 p fun r c => P (R + r) c)
    (hq : Is2 q fun r c => if R + 128 + r < 8192 then P (R + 128 + r) c else 0) : Is2 (up1V p q) fun r c => up P 1 (R + r) c :=
  (is2_row (by omega) (is2_rowOf hq _) (is2_rotRows hp).2.2.1).congr fun r c hr _ => by
    unfold up
    by_cases h : r = 127
    · rw [if_pos h]
      refine if_congr (by omega) ?_ rfl
      rw [show R + 128 + 0 = R + r + 1 by omega]
    · rw [if_neg h, if_pos (by omega), show R + (r + 1) % 128 = R + r + 1 by omega]

theorem up2_is (hR : R + 128 = 8192 ∨ R + 144 ≤ 8192) (hp : Is2 p fun r c => P (R + r) c)
    (hq : Is2 q fun r c => if R + 128 + r < 8192 then P (R + 128 + r) c else 0) : Is2 (up2V p q) fun r c => up P 2 (R + r) c :=
  (is2_row (by omega) (is2_rowOf hq _) (is2_row (by omega) (is2_rowOf hq _) (is2_rotRows hp).2.2.2)).congr fun r c hr _ => by
    unfold up
    by_cases h1 : r = 127
    · rw [if_pos h1]
      refine if_congr (by omega) ?_ rfl
      rw [show R + 128 + 1 = R + r + 2 by omega]
    rw [if_neg h1]
    by_cases h : r = 126
    · rw [if_pos h]
      refine if_congr (by omega) ?_ rfl
      rw [show R + 128 + 0 = R + r + 2 by omega]
    · rw [if_neg h, if_pos (by omega), show R + (r + 2) % 128 = R + r + 2 by omega]

end

theorem wV_is {w : Vec Ideal S1x1024 .f32} {p : FVec Ideal S128x1024 .f32} {f : ℕ → ℝ} {g : ℕ → ℕ → ℝ} (hw : Is2 w fun _ c => f c)
    (hp : Is2 p g) : Is2 (wV w p) fun r c => f c * g r c := fun i => by
  pointwise [wV]
  rw [hw, hp, EReal.coe_mul]
  rfl

theorem one_sub_is {x : FVec Ideal S128x1024 .f32} {g : ℕ → ℕ → ℝ} (h : Is2 x g) : Is2 (one_sub x) fun r c => 1 - g r c :=
  is2_sub (g := fun _ _ => 1) (fun _ => by
    show Ideal.ofBits FTy.f32 0x3F800000#32 = _
    simp [Ideal.ofBits, Ideal.ieee, -EReal.coe_mul]; norm_num) h

theorem colV_is {x : FVec Ideal S128x1024 .f32} {g : ℕ → ℕ → ℝ} (h : Is2 x g) : Is2 (colV x) fun _ c => ∑ r : Fin 128, g r c := fun i => by
  pointwise [colV]
  simp only [h _, ← coe_sum]
  rfl
theorem colQ_is {x : FVec Ideal S128x128 .f32} {g : ℕ → ℕ → ℝ} (h : Is2 x g) : Is2 (colQ x) fun _ c => ∑ r : Fin 128, g r c := fun i => by
  pointwise [colQ]
  simp only [h _, ← coe_sum]
  rfl
theorem colK_is {x : FVec Ideal S128x256 .f32} {g : ℕ → ℕ → ℝ} (h : Is2 x g) : Is2 (colK x) fun _ c => ∑ r : Fin 128, g r c := fun i => by
  pointwise [colK]
  simp only [h _, ← coe_sum]
  rfl

/-! ### The block's columns -/

namespace Blk
variable (B : Blk)

def sa : FVec Ideal S128x1024 .f32 := logistic (fl B.ga)
def dga : FVec Ideal S128x1024 .f32 :=
  mulf (mulf (mulf (fl B.dm) (fl (shapeCast S128x1024 B.av shapeCasts_S128x1024_S128x1024))) B.sa) (one_sub B.sa)
def sg : FVec Ideal S128x1024 .f32 := logistic (fl B.gc)
def pinV : FVec Ideal S128x1024 .f32 := mulf (fl B.cc) (fl B.cx)
def pm1 : FVec Ideal S128x1024 .f32 := dn1V B.pinV B.prev
def pm2 : FVec Ideal S128x1024 .f32 := dn2V B.pinV B.prev
def cnvV : FVec Ideal S128x1024 .f32 := addf (addf (wV B.w0 B.pm2) (wV B.w1 B.pm1)) (wV B.w2 B.pinV)
def dconv : FVec Ideal S128x1024 .f32 := mulf (fl B.dm) B.sg
def dgc : FVec Ideal S128x1024 .f32 := mulf (mulf (mulf (fl B.dm) (mulf (fl B.cb) B.cnvV)) B.sg) (one_sub B.sg)
def dcb : FVec Ideal S128x1024 .f32 := mulf B.dconv B.cnvV
def dct : FVec Ideal S128x1024 .f32 := mulf B.dconv (fl B.cb)
def dpiV : FVec Ideal S128x1024 .f32 := addf (addf (wV B.w2 B.dct) (wV B.w1 (up1V B.dct B.nxt))) (wV B.w0 (up2V B.dct B.nxt))
def dcc : FVec Ideal S128x1024 .f32 := mulf B.dpiV (fl B.cx)
def dcx : FVec Ideal S128x1024 .f32 := mulf B.dpiV (fl B.cc)

/-- What the loads of the block at row `R` hold. -/
structure IsC (R : ℕ) (Z D A W : ℕ → ℕ → ℝ) : Prop where
  hR : R = 0 ∨ 16 ≤ R
  hR' : R + 128 = 8192 ∨ R + 144 ≤ 8192
  dm : Is2 B.dm fun r c => D (R + r) c
  ga : Is2 B.ga fun r c => Z (R + r) (4352 + c)
  av : Is2 B.av fun r c => A (R + r) c
  cb : Is2 B.cb fun r c => Z (R + r) (1280 + c)
  cc : Is2 B.cc fun r c => Z (R + r) (2304 + c)
  cx : Is2 B.cx fun r c => Z (R + r) (3328 + c)
  gc : Is2 B.gc fun r c => Z (R + r) (5376 + c)
  prev : Is2 B.prev fun r c => if 16 ≤ R + r then pin Z (R + r - 16) c else 0
  nxt : Is2 B.nxt fun r c => if R + 128 + r < 8192 then dcn Z D (R + 128 + r) c else 0
  w0 : Is2 B.w0 fun _ c => W 0 c
  w1 : Is2 B.w1 fun _ c => W 1 c
  w2 : Is2 B.w2 fun _ c => W 2 c

theorem fl_is {x : Vec Ideal S128x1024 .bf16} {g : ℕ → ℕ → ℝ} (h : Is2 x g) : Is2 (fl x) g := h

namespace IsC
variable {B : Blk} {R : ℕ} {Z D A W : ℕ → ℕ → ℝ} (I : B.IsC R Z D A W)
include I

theorem sa : Is2 B.sa fun r c => Cert.Mixer.sig (Z (R + r) (4352 + c)) := logistic_is (fl_is I.ga)
theorem sg : Is2 B.sg fun r c => Cert.Mixer.sig (Z (R + r) (5376 + c)) := logistic_is (fl_is I.gc)
theorem dga : Is2 B.dga fun r c => gGA Z D A (R + r) c :=
  is2_mul (is2_mul (is2_mul (fl_is I.dm) (y := fl (shapeCast S128x1024 B.av shapeCasts_S128x1024_S128x1024))
    (g' := fun r c => A (R + r) c) (fun i => by pointwise [fl]; exact I.av _)) I.sa) (one_sub_is I.sa)
theorem pinV : Is2 B.pinV fun r c => pin Z (R + r) c := is2_mul (fl_is I.cc) (fl_is I.cx)
theorem pm1 : Is2 B.pm1 fun r c => dn (pin Z) 1 (R + r) c := dn1_is I.hR I.pinV I.prev
theorem pm2 : Is2 B.pm2 fun r c => dn (pin Z) 2 (R + r) c := dn2_is I.hR I.pinV I.prev
theorem cnvV : Is2 B.cnvV fun r c => cnv Z W (R + r) c :=
  is2_add (is2_add (wV_is I.w0 I.pm2) (wV_is I.w1 I.pm1)) (wV_is I.w2 I.pinV)
theorem dconv : Is2 B.dconv fun r c => D (R + r) c * Cert.Mixer.sig (Z (R + r) (5376 + c)) := is2_mul (fl_is I.dm) I.sg
theorem dgc : Is2 B.dgc fun r c => gGC Z D W (R + r) c :=
  is2_mul (is2_mul (is2_mul (fl_is I.dm) (is2_mul (fl_is I.cb) I.cnvV)) I.sg) (one_sub_is I.sg)
theorem dcb : Is2 B.dcb fun r c => gCB Z D W (R + r) c := is2_mul I.dconv I.cnvV
theorem dct : Is2 B.dct fun r c => dcn Z D (R + r) c := is2_mul I.dconv (fl_is I.cb)
theorem dpiV : Is2 B.dpiV fun r c => dpi Z D W (R + r) c :=
  is2_add (is2_add (wV_is I.w2 I.dct) (wV_is I.w1 (up1_is I.hR' I.dct I.nxt))) (wV_is I.w0 (up2_is I.hR' I.dct I.nxt))
theorem dcc : Is2 B.dcc fun r c => gCC Z D W (R + r) c := is2_mul I.dpiV (fl_is I.cx)
theorem dcx : Is2 B.dcx fun r c => gCX Z D W (R + r) c := is2_mul I.dpiV (fl_is I.cc)

end IsC
end Blk

end Cert.Kernel2Ideal.Mixer
-- ==== Proof.Mixer.Outs.lean ====
module

public import proofs.«01_k».proof.Proof.Mixer.Blocks
public import proofs.«01_k».proof.Proof.Mixer.Conv

/-! What the body leaves in its results at a point, chunk by chunk, from the two blocks and what it found. -/

@[expose] public section

set_option maxRecDepth 16384

noncomputable section

namespace Cert.Kernel2Ideal.Mixer

open Idealize.ShloMosaic TcCoe Cert.Kernel2Ideal Gen Cert.Mixer

/-- The rows of the previous block's keys and values, and of the block's own. -/
def Blk.first (B : Blk) : FVec Ideal S128x256 .f32 := extractStridedSlice S128x256 ![0, 0] B.dkv slices_S256x256_o0_0_S128x256
def Blk.second (B : Blk) : FVec Ideal S128x256 .f32 := extractStridedSlice S128x256 ![128, 0] B.dkv slices_S256x256_o128_0_S128x256
def Blk.dqc0 (B : Blk) : FVec Ideal S128x128 .f32 := extractStridedSlice S128x128 ![0, 0] B.dq0 slices_S512x128_o0_0_S128x128
def Blk.dqc1 (B : Blk) : FVec Ideal S128x128 .f32 := extractStridedSlice S128x128 ![128, 0] B.dq0 slices_S512x128_o128_0_S128x128
def Blk.dqc2 (B : Blk) : FVec Ideal S128x128 .f32 := extractStridedSlice S128x128 ![256, 0] B.dq0 slices_S512x128_o256_0_S128x128
def Blk.dqc3 (B : Blk) : FVec Ideal S128x128 .f32 := extractStridedSlice S128x128 ![384, 0] B.dq0 slices_S512x128_o384_0_S128x128
def Blk.dqc4 (B : Blk) : FVec Ideal S128x128 .f32 := extractStridedSlice S128x128 ![0, 0] B.dq1 slices_S512x128_o0_0_S128x128
def Blk.dqc5 (B : Blk) : FVec Ideal S128x128 .f32 := extractStridedSlice S128x128 ![128, 0] B.dq1 slices_S512x128_o128_0_S128x128
def Blk.dqc6 (B : Blk) : FVec Ideal S128x128 .f32 := extractStridedSlice S128x128 ![256, 0] B.dq1 slices_S512x128_o256_0_S128x128
def Blk.dqc7 (B : Blk) : FVec Ideal S128x128 .f32 := extractStridedSlice S128x128 ![384, 0] B.dq1 slices_S512x128_o384_0_S128x128

/-- A sum taken up and two terms added to it, one after the other. -/
def two {s : Shape} (h : s.ShapeCasts s) (x a b : FVec Ideal s .f32) : FVec Ideal s .f32 :=
  addf (shapeCast s (addf (shapeCast s x h) a) h) b

variable (B0 B1 : Blk)

/-- The block rows of the columns other than the keys' and values'. -/
structure Out10 (o : S256x6400.Idx → Elt Ideal .bf16) : Prop where
  h0_0 : View.ld (Val := Elt Ideal) (e' := .bf16) o (Rect.unit (s := S256x6400) ![0, 0] S128x128.size inb_S256x6400_S128x128_0_0) = truncf .bf16 B0.dqc0 bitsLt_bf16_f32
  h0_128 : View.ld (Val := Elt Ideal) (e' := .bf16) o (Rect.unit (s := S256x6400) ![0, 128] S128x128.size inb_S256x6400_S128x128_0_128) = truncf .bf16 B0.dqc1 bitsLt_bf16_f32
  h0_256 : View.ld (Val := Elt Ideal) (e' := .bf16) o (Rect.unit (s := S256x6400) ![0, 256] S128x128.size inb_S256x6400_S128x128_0_256) = truncf .bf16 B0.dqc2 bitsLt_bf16_f32
  h0_384 : View.ld (Val := Elt Ideal) (e' := .bf16) o (Rect.unit (s := S256x6400) ![0, 384] S128x128.size inb_S256x6400_S128x128_0_384) = truncf .bf16 B0.dqc3 bitsLt_bf16_f32
  h0_512 : View.ld (Val := Elt Ideal) (e' := .bf16) o (Rect.unit (s := S256x6400) ![0, 512] S128x128.size inb_S256x6400_S128x128_0_512) = truncf .bf16 B0.dqc4 bitsLt_bf16_f32
  h0_640 : View.ld (Val := Elt Ideal) (e' := .bf16) o (Rect.unit (s := S256x6400) ![0, 640] S128x128.size inb_S256x6400_S128x128_0_640) = truncf .bf16 B0.dqc5 bitsLt_bf16_f32
  h0_768 : View.ld (Val := Elt Ideal) (e' := .bf16) o (Rect.unit (s := S256x6400) ![0, 768] S128x128.size inb_S256x6400_S128x128_0_768) = truncf .bf16 B0.dqc6 bitsLt_bf16_f32
  h0_896 : View.ld (Val := Elt Ideal) (e' := .bf16) o (Rect.unit (s := S256x6400) ![0, 896] S128x128.size inb_S256x6400_S128x128_0_896) = truncf .bf16 B0.dqc7 bitsLt_bf16_f32
  h0_1280 : View.ld (Val := Elt Ideal) (e' := .bf16) o (Rect.unit (s := S256x6400) ![0, 1280] S128x1024.size inb_S256x6400_S128x1024_0_1280) = truncf .bf16 B0.dcb bitsLt_bf16_f32
  h0_2304 : View.ld (Val := Elt Ideal) (e' := .bf16) o (Rect.unit (s := S256x6400) ![0, 2304] S128x1024.size inb_S256x6400_S128x1024_0_2304) = truncf .bf16 B0.dcc bitsLt_bf16_f32
  h0_3328 : View.ld (Val := Elt Ideal) (e' := .bf16) o (Rect.unit (s := S256x6400) ![0, 3328] S128x1024.size inb_S256x6400_S128x1024_0_3328) = truncf .bf16 B0.dcx bitsLt_bf16_f32
  h0_4352 : View.ld (Val := Elt Ideal) (e' := .bf16) o (Rect.unit (s := S256x6400) ![0, 4352] S128x1024.size inb_S256x6400_S128x1024_0_4352) = truncf .bf16 B0.dga bitsLt_bf16_f32
  h0_5376 : View.ld (Val := Elt Ideal) (e' := .bf16) o (Rect.unit (s := S256x6400) ![0, 5376] S128x1024.size inb_S256x6400_S128x1024_0_5376) = truncf .bf16 B0.dgc bitsLt_bf16_f32
  h1_0 : View.ld (Val := Elt Ideal) (e' := .bf16) o (Rect.unit (s := S256x6400) ![128, 0] S128x128.size inb_S256x6400_S128x128_128_0) = truncf .bf16 B1.dqc0 bitsLt_bf16_f32
  h1_128 : View.ld (Val := Elt Ideal) (e' := .bf16) o (Rect.unit (s := S256x6400) ![128, 128] S128x128.size inb_S256x6400_S128x128_128_128) = truncf .bf16 B1.dqc1 bitsLt_bf16_f32
  h1_256 : View.ld (Val := Elt Ideal) (e' := .bf16) o (Rect.unit (s := S256x6400) ![128, 256] S128x128.size inb_S256x6400_S128x128_128_256) = truncf .bf16 B1.dqc2 bitsLt_bf16_f32
  h1_384 : View.ld (Val := Elt Ideal) (e' := .bf16) o (Rect.unit (s := S256x6400) ![128, 384] S128x128.size inb_S256x6400_S128x128_128_384) = truncf .bf16 B1.dqc3 bitsLt_bf16_f32
  h1_512 : View.ld (Val := Elt Ideal) (e' := .bf16) o (Rect.unit (s := S256x6400) ![128, 512] S128x128.size inb_S256x6400_S128x128_128_512) = truncf .bf16 B1.dqc4 bitsLt_bf16_f32
  h1_640 : View.ld (Val := Elt Ideal) (e' := .bf16) o (Rect.unit (s := S256x6400) ![128, 640] S128x128.size inb_S256x6400_S128x128_128_640) = truncf .bf16 B1.dqc5 bitsLt_bf16_f32
  h1_768 : View.ld (Val := Elt Ideal) (e' := .bf16) o (Rect.unit (s := S256x6400) ![128, 768] S128x128.size inb_S256x6400_S128x128_128_768) = truncf .bf16 B1.dqc6 bitsLt_bf16_f32
  h1_896 : View.ld (Val := Elt Ideal) (e' := .bf16) o (Rect.unit (s := S256x6400) ![128, 896] S128x128.size inb_S256x6400_S128x128_128_896) = truncf .bf16 B1.dqc7 bitsLt_bf16_f32
  h1_1280 : View.ld (Val := Elt Ideal) (e' := .bf16) o (Rect.unit (s := S256x6400) ![128, 1280] S128x1024.size inb_S256x6400_S128x1024_128_1280) = truncf .bf16 B1.dcb bitsLt_bf16_f32
  h1_2304 : View.ld (Val := Elt Ideal) (e' := .bf16) o (Rect.unit (s := S256x6400) ![128, 2304] S128x1024.size inb_S256x6400_S128x1024_128_2304) = truncf .bf16 B1.dcc bitsLt_bf16_f32
  h1_3328 : View.ld (Val := Elt Ideal) (e' := .bf16) o (Rect.unit (s := S256x6400) ![128, 3328] S128x1024.size inb_S256x6400_S128x1024_128_3328) = truncf .bf16 B1.dcx bitsLt_bf16_f32
  h1_4352 : View.ld (Val := Elt Ideal) (e' := .bf16) o (Rect.unit (s := S256x6400) ![128, 4352] S128x1024.size inb_S256x6400_S128x1024_128_4352) = truncf .bf16 B1.dga bitsLt_bf16_f32
  h1_5376 : View.ld (Val := Elt Ideal) (e' := .bf16) o (Rect.unit (s := S256x6400) ![128, 5376] S128x1024.size inb_S256x6400_S128x1024_128_5376) = truncf .bf16 B1.dgc bitsLt_bf16_f32

/-- The finished rows of keys and values; `p` is the part carried in. -/
structure Out11 (p : FVec Ideal S128x256 .f32) (o : S256x256.Idx → Elt Ideal .bf16) : Prop where
  h0 : View.ld (Val := Elt Ideal) (e' := .bf16) o (Rect.unit (s := S256x256) ![0, 0] S128x256.size inb_S256x256_S128x256_0_0) = truncf .bf16 (addf p B0.first) bitsLt_bf16_f32
  h1 : View.ld (Val := Elt Ideal) (e' := .bf16) o (Rect.unit (s := S256x256) ![128, 0] S128x256.size inb_S256x256_S128x256_128_0) = truncf .bf16 (addf B0.second B1.first) bitsLt_bf16_f32

/-- The column sums. -/
structure Out12 (x o : S8x6400.Idx → Elt Ideal .f32) : Prop where
  h0 : View.ld (Val := Elt Ideal) (e' := .f32) o (Rect.unit (s := S8x6400) ![0, 0] S1x128.size inb_S8x6400_S1x128_0_0) = two shapeCasts_S1x128_S1x128 (View.ld (Val := Elt Ideal) (e' := .f32) x (Rect.unit (s := S8x6400) ![0, 0] S1x128.size inb_S8x6400_S1x128_0_0)) (colQ B0.dqc0) (colQ B1.dqc0)
  h128 : View.ld (Val := Elt Ideal) (e' := .f32) o (Rect.unit (s := S8x6400) ![0, 128] S1x128.size inb_S8x6400_S1x128_0_128) = two shapeCasts_S1x128_S1x128 (View.ld (Val := Elt Ideal) (e' := .f32) x (Rect.unit (s := S8x6400) ![0, 128] S1x128.size inb_S8x6400_S1x128_0_128)) (colQ B0.dqc1) (colQ B1.dqc1)
  h256 : View.ld (Val := Elt Ideal) (e' := .f32) o (Rect.unit (s := S8x6400) ![0, 256] S1x128.size inb_S8x6400_S1x128_0_256) = two shapeCasts_S1x128_S1x128 (View.ld (Val := Elt Ideal) (e' := .f32) x (Rect.unit (s := S8x6400) ![0, 256] S1x128.size inb_S8x6400_S1x128_0_256)) (colQ B0.dqc2) (colQ B1.dqc2)
  h384 : View.ld (Val := Elt Ideal) (e' := .f32) o (Rect.unit (s := S8x6400) ![0, 384] S1x128.size inb_S8x6400_S1x128_0_384) = two shapeCasts_S1x128_S1x128 (View.ld (Val := Elt Ideal) (e' := .f32) x (Rect.unit (s := S8x6400) ![0, 384] S1x128.size inb_S8x6400_S1x128_0_384)) (colQ B0.dqc3) (colQ B1.dqc3)
  h512 : View.ld (Val := Elt Ideal) (e' := .f32) o (Rect.unit (s := S8x6400) ![0, 512] S1x128.size inb_S8x6400_S1x128_0_512) = two shapeCasts_S1x128_S1x128 (View.ld (Val := Elt Ideal) (e' := .f32) x (Rect.unit (s := S8x6400) ![0, 512] S1x128.size inb_S8x6400_S1x128_0_512)) (colQ B0.dqc4) (colQ B1.dqc4)
  h640 : View.ld (Val := Elt Ideal) (e' := .f32) o (Rect.unit (s := S8x6400) ![0, 640] S1x128.size inb_S8x6400_S1x128_0_640) = two shapeCasts_S1x128_S1x128 (View.ld (Val := Elt Ideal) (e' := .f32) x (Rect.unit (s := S8x6400) ![0, 640] S1x128.size inb_S8x6400_S1x128_0_640)) (colQ B0.dqc5) (colQ B1.dqc5)
  h768 : View.ld (Val := Elt Ideal) (e' := .f32) o (Rect.unit (s := S8x6400) ![0, 768] S1x128.size inb_S8x6400_S1x128_0_768) = two shapeCasts_S1x128_S1x128 (View.ld (Val := Elt Ideal) (e' := .f32) x (Rect.unit (s := S8x6400) ![0, 768] S1x128.size inb_S8x6400_S1x128_0_768)) (colQ B0.dqc6) (colQ B1.dqc6)
  h896 : View.ld (Val := Elt Ideal) (e' := .f32) o (Rect.unit (s := S8x6400) ![0, 896] S1x128.size inb_S8x6400_S1x128_0_896) = two shapeCasts_S1x128_S1x128 (View.ld (Val := Elt Ideal) (e' := .f32) x (Rect.unit (s := S8x6400) ![0, 896] S1x128.size inb_S8x6400_S1x128_0_896)) (colQ B0.dqc7) (colQ B1.dqc7)
  h1280 : View.ld (Val := Elt Ideal) (e' := .f32) o (Rect.unit (s := S8x6400) ![0, 1280] S1x1024.size inb_S8x6400_S1x1024_0_1280) = two shapeCasts_S1x1024_S1x1024 (View.ld (Val := Elt Ideal) (e' := .f32) x (Rect.unit (s := S8x6400) ![0, 1280] S1x1024.size inb_S8x6400_S1x1024_0_1280)) (colV B0.dcb) (colV B1.dcb)
  h2304 : View.ld (Val := Elt Ideal) (e' := .f32) o (Rect.unit (s := S8x6400) ![0, 2304] S1x1024.size inb_S8x6400_S1x1024_0_2304) = two shapeCasts_S1x1024_S1x1024 (View.ld (Val := Elt Ideal) (e' := .f32) x (Rect.unit (s := S8x6400) ![0, 2304] S1x1024.size inb_S8x6400_S1x1024_0_2304)) (colV B0.dcc) (colV B1.dcc)
  h3328 : View.ld (Val := Elt Ideal) (e' := .f32) o (Rect.unit (s := S8x6400) ![0, 3328] S1x1024.size inb_S8x6400_S1x1024_0_3328) = two shapeCasts_S1x1024_S1x1024 (View.ld (Val := Elt Ideal) (e' := .f32) x (Rect.unit (s := S8x6400) ![0, 3328] S1x1024.size inb_S8x6400_S1x1024_0_3328)) (colV B0.dcx) (colV B1.dcx)
  h4352 : View.ld (Val := Elt Ideal) (e' := .f32) o (Rect.unit (s := S8x6400) ![0, 4352] S1x1024.size inb_S8x6400_S1x1024_0_4352) = two shapeCasts_S1x1024_S1x1024 (View.ld (Val := Elt Ideal) (e' := .f32) x (Rect.unit (s := S8x6400) ![0, 4352] S1x1024.size inb_S8x6400_S1x1024_0_4352)) (colV B0.dga) (colV B1.dga)
  h5376 : View.ld (Val := Elt Ideal) (e' := .f32) o (Rect.unit (s := S8x6400) ![0, 5376] S1x1024.size inb_S8x6400_S1x1024_0_5376) = two shapeCasts_S1x1024_S1x1024 (View.ld (Val := Elt Ideal) (e' := .f32) x (Rect.unit (s := S8x6400) ![0, 5376] S1x1024.size inb_S8x6400_S1x1024_0_5376)) (colV B0.dgc) (colV B1.dgc)

/-- The column sums of keys and values. -/
structure Out13 (p : FVec Ideal S128x256 .f32) (x o : S8x256.Idx → Elt Ideal .f32) : Prop where
  h : View.ld (Val := Elt Ideal) (e' := .f32) o (Rect.unit (s := S8x256) ![0, 0] S1x256.size inb_S8x256_S1x256_0_0) = two shapeCasts_S1x256_S1x256 (View.ld (Val := Elt Ideal) (e' := .f32) x (Rect.unit (s := S8x256) ![0, 0] S1x256.size inb_S8x256_S1x256_0_0)) (colK (addf p B0.first)) (colK (addf B0.second B1.first))

/-- The convolution's weights. -/
structure Out14 (x o : S8x1024.Idx → Elt Ideal .f32) : Prop where
  h0 : View.ld (Val := Elt Ideal) (e' := .f32) o (Rect.unit (s := S8x1024) ![0, 0] S1x1024.size inb_S8x1024_S1x1024_0_0) = two shapeCasts_S1x1024_S1x1024 (View.ld (Val := Elt Ideal) (e' := .f32) x (Rect.unit (s := S8x1024) ![0, 0] S1x1024.size inb_S8x1024_S1x1024_0_0)) (colV (mulf B0.dct B0.pm2)) (colV (mulf B1.dct B1.pm2))
  h1 : View.ld (Val := Elt Ideal) (e' := .f32) o (Rect.unit (s := S8x1024) ![1, 0] S1x1024.size inb_S8x1024_S1x1024_1_0) = two shapeCasts_S1x1024_S1x1024 (View.ld (Val := Elt Ideal) (e' := .f32) x (Rect.unit (s := S8x1024) ![1, 0] S1x1024.size inb_S8x1024_S1x1024_1_0)) (colV (mulf B0.dct B0.pm1)) (colV (mulf B1.dct B1.pm1))
  h2 : View.ld (Val := Elt Ideal) (e' := .f32) o (Rect.unit (s := S8x1024) ![2, 0] S1x1024.size inb_S8x1024_S1x1024_2_0) = two shapeCasts_S1x1024_S1x1024 (View.ld (Val := Elt Ideal) (e' := .f32) x (Rect.unit (s := S8x1024) ![2, 0] S1x1024.size inb_S8x1024_S1x1024_2_0)) (colV (mulf B0.dct B0.pinV)) (colV (mulf B1.dct B1.pinV))

/-- The sinks. -/
structure Out15 (x o : S8x128.Idx → Elt Ideal .f32) : Prop where
  h : View.ld (Val := Elt Ideal) (e' := .f32) o (Rect.unit (s := S8x128) ![0, 0] S1x128.size inb_S8x128_S1x128_0_0) = two shapeCasts_S1x128_S1x128 (View.ld (Val := Elt Ideal) (e' := .f32) x (Rect.unit (s := S8x128) ![0, 0] S1x128.size inb_S8x128_S1x128_0_0)) B0.lanes11 B1.lanes11

/-- The part carried on. -/
structure Out16 (o : S128x256.Idx → Elt Ideal .f32) : Prop where
  h : View.ld (Val := Elt Ideal) (e' := .f32) o (Rect.unit (s := S128x256) ![0, 0] S128x256.size inb_S128x256_S128x256_0_0) = shapeCast S128x256 B1.second shapeCasts_S128x256_S128x256

/-- A load that a store does not touch, and one of just what it stored. -/
theorem ld_skip {sig : RefSig} {κ : Kind} {sp : Space} {s : Shape} {e : EltTy} (v : View sig κ sp s e) (f : v.ty.Contents (Elt Ideal))
    (r : Rect s) (w : r.shape.Idx → Elt Ideal e) (L : List (View.Piece (Elt Ideal) s e)) (B : Rect s) (h : LoadRect.disj r B.toLoadRect = true) :
    View.ld (v.read (Elt Ideal) (v.writes (Elt Ideal) f (⟨r, w⟩ :: L))) B = View.ld (v.read (Elt Ideal) (v.writes (Elt Ideal) f L)) B :=
  funext fun j => View.read_writes_cons_miss v f ⟨r, w⟩ L _ (LoadRect.idx_not_mem_of_disj h j)

theorem ld_hit {sig : RefSig} {κ : Kind} {sp : Space} {s : Shape} {e : EltTy} (v : View sig κ sp s e) (f : v.ty.Contents (Elt Ideal))
    (r : Rect s) (w : r.shape.Idx → Elt Ideal e) (L : List (View.Piece (Elt Ideal) s e)) :
    View.ld (v.read (Elt Ideal) (v.writes (Elt Ideal) f (⟨r, w⟩ :: L))) r = w :=
  funext fun j => View.read_writes_cons_emb v f r w L j

end Cert.Kernel2Ideal.Mixer
-- ==== Proof.Mixer.Point.lean ====
module

public import proofs.«01_k».proof.Proof.Mixer.Blocks
public import proofs.«01_k».proof.Proof.Mixer.Conv

/-! What the two blocks of a point load, from what the point's windows hold. -/

@[expose] public section

set_option maxRecDepth 16384

noncomputable section

namespace Cert.Kernel2Ideal.Mixer

open Idealize.ShloMosaic TcCoe Cert.Kernel2Ideal Gen Cert.Mixer

/-- A load of a part of a block. -/
theorem ld_is {n k : ℕ} {x : (⟨2, ![n, k]⟩ : Shape).Idx → EReal} {g : ℕ → ℕ → ℝ} (hx : Is2 x g) {a b h w : ℕ} {hb} :
    Is2 (n := h) (k := w) (fun i => x ((Rect.unit (s := ⟨2, ![n, k]⟩) ![a, b] ![h, w] hb).idx i)) fun r c => g (a + r) (b + c) := by
  intro i
  have h0 : (((Rect.unit (s := ⟨2, ![n, k]⟩) ![a, b] ![h, w] hb).idx i) 0).val = a + (i 0).val := by simp [Rect.unit, LoadRect.idx]
  have h1 : (((Rect.unit (s := ⟨2, ![n, k]⟩) ![a, b] ![h, w] hb).idx i) 1).val = b + (i 1).val := by simp [Rect.unit, LoadRect.idx]
  refine (hx _).trans ?_
  rw [h0, h1]

/-- What the input windows of point `n` hold. -/
structure Win (n : ℕ) (Z D A : ℕ → ℕ → ℝ) (SK : ℕ → ℝ) (W : ℕ → ℕ → ℝ) (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) : Prop where
  hn : n < 32
  z : Is2 x1 fun r c => Z (256 * n + r) c
  kv : Is2 x2 fun r c => Z (128 * (2 * n - 1) + r) (1024 + c)
  zp : Is2 x3 fun r c => Z (16 * (16 * n - 1) + r) c
  zn : Is2 x4 fun r c => Z (16 * min (16 * n + 16) 511 + r) c
  d : Is2 x5 fun r c => D (256 * n + r) c
  dn : Is2 x6 fun r c => D (16 * min (16 * n + 16) 511 + r) c
  a : Is2 x7 fun r c => A (256 * n + r) c
  s : Is2 x8 fun _ l => SK l
  w : Is2 x9 W

/-- The keys and values a block reads: the previous block's rows and its own (the very first block's previous rows are hidden). -/
def kv0 (Z : ℕ → ℕ → ℝ) (n k c : ℕ) : ℝ := if k < 128 then Z (128 * (2 * n - 1) + k) (1024 + c) else Z (256 * n + (k - 128)) (1024 + c)
def kv1 (Z : ℕ → ℕ → ℝ) (n k c : ℕ) : ℝ := Z (256 * n + k) (1024 + c)

namespace Win
variable {n : ℕ} {Z D A : ℕ → ℕ → ℝ} {SK : ℕ → ℝ} {W : ℕ → ℕ → ℝ} {x1 : Vec Ideal S256x6400 .bf16} {x2 : Vec Ideal S128x256 .bf16} {x3 : Vec Ideal S16x6400 .bf16} {x4 : Vec Ideal S16x6400 .bf16} {x5 : Vec Ideal S256x1024 .bf16} {x6 : Vec Ideal S16x1024 .bf16} {x7 : Vec Ideal S256x1024 .bf16} {x8 : Vec Ideal S1x16 .f32} {x9 : Vec Ideal S3x1024 .f32}
  (h : Win n Z D A SK W x1 x2 x3 x4 x5 x6 x7 x8 x9)
include h

theorem sink {j : ℕ} {hb} {hp} : x8 ((Rect.unit (s := S1x16) ![0, j] S1x1.size hb).idx (Shape.Idx.first hp)) = ((SK j : ℝ) : EReal) := by
  rw [h.s]
  exact congrArg (fun l => ((SK l : ℝ) : EReal)) (by simp [Rect.unit, LoadRect.idx, Shape.Idx.first])

theorem isA0 : (blk0 (BitVec.ofNat 32 n) x1 x2 x3 x4 x5 x6 x7 x8 x9).IsA (2 * n) Z D SK (kv0 Z n) where
  m := fun i => (maskV_is (show n < 64 by have := h.hn; omega) i).trans (by
    have e : seen n (i 0).val (i 1).val ↔ seen (2 * n) (i 0).val (i 1).val := and_congr_right fun _ => or_congr_left (by omega)
    simp only [e])
  kv0 := (ld_is h.kv).congr fun r c hr _ => by
    show _ = kv0 Z n r c
    rw [kv0, if_pos hr]; exact congrArg₂ Z (by omega) (by omega)
  kv1 := (ld_is h.z).congr fun r c _ _ => by
    show _ = kv0 Z n (128 + r) c
    rw [kv0, if_neg (by omega)]; exact congrArg₂ Z (by omega) (by omega)
  hkv := fun r k c hs => by
    rw [kv0, kvS]
    have h2 : 0 < 2 * n ∨ 128 ≤ k := hs.2
    by_cases hk : k < 128
    · rw [if_pos hk, if_neg (by omega)]; exact congrArg₂ Z (by omega) rfl
    · rw [if_neg hk, if_neg (by omega)]; exact congrArg₂ Z (by omega) rfl
  q0 := (ld_is h.z).congr fun r c _ _ => (congrArg₂ Z (by omega) (by omega))
  q1 := (ld_is h.z).congr fun r c _ _ => (congrArg₂ Z (by omega) (by omega))
  q2 := (ld_is h.z).congr fun r c _ _ => (congrArg₂ Z (by omega) (by omega))
  q3 := (ld_is h.z).congr fun r c _ _ => (congrArg₂ Z (by omega) (by omega))
  q4 := (ld_is h.z).congr fun r c _ _ => (congrArg₂ Z (by omega) (by omega))
  q5 := (ld_is h.z).congr fun r c _ _ => (congrArg₂ Z (by omega) (by omega))
  q6 := (ld_is h.z).congr fun r c _ _ => (congrArg₂ Z (by omega) (by omega))
  q7 := (ld_is h.z).congr fun r c _ _ => (congrArg₂ Z (by omega) (by omega))
  dm := (ld_is h.d).congr fun r c _ _ => congrArg₂ D (by omega) (by omega)
  ga := (ld_is h.z).congr fun r c _ _ => congrArg₂ Z (by omega) (by omega)
  s0 := h.sink
  s1 := h.sink
  s2 := h.sink
  s3 := h.sink
  s4 := h.sink
  s5 := h.sink
  s6 := h.sink
  s7 := h.sink
  s8 := h.sink
  s9 := h.sink
  s10 := h.sink
  s11 := h.sink
  s12 := h.sink
  s13 := h.sink
  s14 := h.sink
  s15 := h.sink

theorem isC0 : (blk0 (BitVec.ofNat 32 n) x1 x2 x3 x4 x5 x6 x7 x8 x9).IsC (256 * n) Z D A W where
  hR := by omega
  hR' := by have := h.hn; omega
  dm := (ld_is h.d).congr fun r c _ _ => congrArg₂ D (by omega) (by omega)
  ga := (ld_is h.z).congr fun r c _ _ => congrArg₂ Z (by omega) (by omega)
  av := (ld_is h.a).congr fun r c _ _ => congrArg₂ A (by omega) (by omega)
  cb := (ld_is h.z).congr fun r c _ _ => congrArg₂ Z (by omega) (by omega)
  cc := (ld_is h.z).congr fun r c _ _ => congrArg₂ Z (by omega) (by omega)
  cx := (ld_is h.z).congr fun r c _ _ => congrArg₂ Z (by omega) (by omega)
  gc := (ld_is h.z).congr fun r c _ _ => congrArg₂ Z (by omega) (by omega)
  prev := by
    have e : Scalar.cmpi .sgt (BitVec.ofNat 32 n) 0#32 = BitVec.ofBool (decide (0 < n)) := WordCmp.cmpi_sgt_ofNat (by have := h.hn; omega) (by omega)
    intro i
    have hi : (i 0).val < 16 := (i 0).isLt
    by_cases hn : 0 < n
    · have e' : Scalar.cmpi .sgt (BitVec.ofNat 32 n) 0#32 = 1#1 := by rw [e, decide_eq_true hn]; rfl
      refine (congrFun (congrArg (fun b => Scalar.select b _ _) e') i).trans ?_
      refine ((is2_mul (φ := .f32) (ld_is h.zp) (ld_is h.zp)) i).trans (congrArg _ ?_)
      beta_reduce; rw [if_pos (by omega), pin]
      exact congrArg₂ (· * ·) (congrArg₂ Z (by omega) rfl) (congrArg₂ Z (by omega) rfl)
    · have e' : Scalar.cmpi .sgt (BitVec.ofNat 32 n) 0#32 = 0#1 := by rw [e, decide_eq_false hn]; rfl
      refine (congrFun (congrArg (fun b => Scalar.select b _ _) e') i).trans ?_
      refine Ideal.ofBits_zero_f32.trans ?_
      beta_reduce; rw [if_neg (by omega)]; rfl
  nxt := by
    intro i
    have hi : (i 0).val < 16 := (i 0).isLt
    have := h.hn
    refine ((is2_mul (φ := .f32) (is2_mul (φ := .f32) (ld_is h.d) (logistic_is (φ := .f32) (ld_is h.z))) (ld_is h.z)) i).trans (congrArg _ ?_)
    beta_reduce; rw [if_pos (by omega), dcn]
    exact congrArg₂ (· * ·) (congrArg₂ (· * ·) (congrArg₂ D (by omega) (by omega)) (congrArg Cert.Mixer.sig (congrArg₂ Z (by omega) rfl))) (congrArg₂ Z (by omega) rfl)
  w0 := (ld_is h.w).congr fun r c hr _ => congrArg₂ W (by omega) (by omega)
  w1 := (ld_is h.w).congr fun r c hr _ => congrArg₂ W (by omega) (by omega)
  w2 := (ld_is h.w).congr fun r c hr _ => congrArg₂ W (by omega) (by omega)

theorem isA1 : (blk1 (BitVec.ofNat 32 n) x1 x2 x3 x4 x5 x6 x7 x8 x9).IsA (2 * n + 1) Z D SK (kv1 Z n) where
  m := fun i => (bandV_is i).trans (by
    have e : band (i 0).val (i 1).val ↔ seen (2 * n + 1) (i 0).val (i 1).val := (and_iff_left (Or.inl (by omega))).symm
    simp only [e])
  kv0 := (ld_is h.z).congr fun r c hr _ => congrArg₂ Z (by omega) (by omega)
  kv1 := (ld_is h.z).congr fun r c _ _ => congrArg₂ Z (by omega) (by omega)
  hkv := fun r k c hs => by
    rw [kv1, kvS, if_neg (by omega)]; exact congrArg₂ Z (by omega) rfl
  q0 := (ld_is h.z).congr fun r c _ _ => (congrArg₂ Z (by omega) (by omega))
  q1 := (ld_is h.z).congr fun r c _ _ => (congrArg₂ Z (by omega) (by omega))
  q2 := (ld_is h.z).congr fun r c _ _ => (congrArg₂ Z (by omega) (by omega))
  q3 := (ld_is h.z).congr fun r c _ _ => (congrArg₂ Z (by omega) (by omega))
  q4 := (ld_is h.z).congr fun r c _ _ => (congrArg₂ Z (by omega) (by omega))
  q5 := (ld_is h.z).congr fun r c _ _ => (congrArg₂ Z (by omega) (by omega))
  q6 := (ld_is h.z).congr fun r c _ _ => (congrArg₂ Z (by omega) (by omega))
  q7 := (ld_is h.z).congr fun r c _ _ => (congrArg₂ Z (by omega) (by omega))
  dm := (ld_is h.d).congr fun r c _ _ => congrArg₂ D (by omega) (by omega)
  ga := (ld_is h.z).congr fun r c _ _ => congrArg₂ Z (by omega) (by omega)
  s0 := h.sink
  s1 := h.sink
  s2 := h.sink
  s3 := h.sink
  s4 := h.sink
  s5 := h.sink
  s6 := h.sink
  s7 := h.sink
  s8 := h.sink
  s9 := h.sink
  s10 := h.sink
  s11 := h.sink
  s12 := h.sink
  s13 := h.sink
  s14 := h.sink
  s15 := h.sink

theorem isC1 : (blk1 (BitVec.ofNat 32 n) x1 x2 x3 x4 x5 x6 x7 x8 x9).IsC (256 * n + 128) Z D A W where
  hR := by omega
  hR' := by have := h.hn; omega
  dm := (ld_is h.d).congr fun r c _ _ => congrArg₂ D (by omega) (by omega)
  ga := (ld_is h.z).congr fun r c _ _ => congrArg₂ Z (by omega) (by omega)
  av := (ld_is h.a).congr fun r c _ _ => congrArg₂ A (by omega) (by omega)
  cb := (ld_is h.z).congr fun r c _ _ => congrArg₂ Z (by omega) (by omega)
  cc := (ld_is h.z).congr fun r c _ _ => congrArg₂ Z (by omega) (by omega)
  cx := (ld_is h.z).congr fun r c _ _ => congrArg₂ Z (by omega) (by omega)
  gc := (ld_is h.z).congr fun r c _ _ => congrArg₂ Z (by omega) (by omega)
  prev := by
    intro i
    have hi : (i 0).val < 16 := (i 0).isLt
    refine ((is2_mul (φ := .f32) (ld_is h.z) (ld_is h.z)) i).trans (congrArg _ ?_)
    beta_reduce; rw [if_pos (by omega), pin]
    exact congrArg₂ (· * ·) (congrArg₂ Z (by omega) rfl) (congrArg₂ Z (by omega) rfl)
  nxt := by
    have e : Scalar.cmpi .slt (BitVec.ofNat 32 n) 31#32 = BitVec.ofBool (decide (n < 31)) := WordCmp.cmpi_slt_ofNat (by have := h.hn; omega) (by omega)
    intro i
    have hi : (i 0).val < 16 := (i 0).isLt
    by_cases hn : n < 31
    · have e' : Scalar.cmpi .slt (BitVec.ofNat 32 n) 31#32 = 1#1 := by rw [e, decide_eq_true hn]; rfl
      refine (congrFun (congrArg (fun b => Scalar.select b _ _) e') i).trans ?_
      refine ((is2_mul (φ := .f32) (is2_mul (φ := .f32) (ld_is h.dn) (logistic_is (φ := .f32) (ld_is h.zn))) (ld_is h.zn)) i).trans (congrArg _ ?_)
      beta_reduce; rw [if_pos (by omega), dcn]
      exact congrArg₂ (· * ·) (congrArg₂ (· * ·) (congrArg₂ D (by omega) (by omega)) (congrArg Cert.Mixer.sig (congrArg₂ Z (by omega) rfl))) (congrArg₂ Z (by omega) rfl)
    · have e' : Scalar.cmpi .slt (BitVec.ofNat 32 n) 31#32 = 0#1 := by rw [e, decide_eq_false hn]; rfl
      refine (congrFun (congrArg (fun b => Scalar.select b _ _) e') i).trans ?_
      refine Ideal.ofBits_zero_f32.trans ?_
      have := h.hn
      beta_reduce; rw [if_neg (by omega)]; rfl
  w0 := (ld_is h.w).congr fun r c hr _ => congrArg₂ W (by omega) (by omega)
  w1 := (ld_is h.w).congr fun r c hr _ => congrArg₂ W (by omega) (by omega)
  w2 := (ld_is h.w).congr fun r c hr _ => congrArg₂ W (by omega) (by omega)

end Win

end Cert.Kernel2Ideal.Mixer
-- ==== Proof.Mixer.OutReal.lean ====
module

public import proofs.«01_k».proof.Proof.Mixer.Outs
public import proofs.«01_k».proof.Proof.Mixer.Point

/-! The gradients over all rows, and what a point adds to them. -/

@[expose] public section

set_option maxRecDepth 16384

noncomputable section

namespace Cert.Kernel2Ideal.Mixer

open Idealize.ShloMosaic TcCoe Cert.Kernel2Ideal Gen Cert.Mixer

section
variable (Z D A : ℕ → ℕ → ℝ) (SK : ℕ → ℝ) (W : ℕ → ℕ → ℝ)

/-- The queries' gradient at a row. -/
def gQ (g c : ℕ) : ℝ := bQ (seen (g / 128)) Z D SK (kvS Z (g / 128)) (128 * (g / 128)) (g % 128) c
/-- The gradient of a row of the projected input, the keys' and values' columns left out. -/
def gDZ (g c : ℕ) : ℝ :=
  if c < 1024 then gQ Z D SK g c else if c < 2304 then gCB Z D W g (c - 1280) else if c < 3328 then gCC Z D W g (c - 2304)
  else if c < 4352 then gCX Z D W g (c - 3328) else if c < 5376 then gGA Z D A g (c - 4352) else gGC Z D W g (c - 5376)
/-- A block's part in its own rows of keys and values and in the rows before them. -/
def own (b k c : ℕ) : ℝ := bKV (seen b) Z D SK (kvS Z b) (128 * b) (128 + k) c
def back (b k c : ℕ) : ℝ := bKV (seen b) Z D SK (kvS Z b) (128 * b) k c
/-- The part a point finds carried in. -/
def pend (n k c : ℕ) : ℝ := if n = 0 then 0 else own Z D SK (2 * n - 1) k c
/-- The rows of keys and values as they are written, 128 rows late. -/
def gKV (g c : ℕ) : ℝ :=
  (if 128 ≤ g ∧ g < 8320 then own Z D SK (g / 128 - 1) (g % 128) c else 0) + (if g < 8192 then back Z D SK (g / 128) (g % 128) c else 0)
def gS (b l : ℕ) : ℝ := bS (seen b) Z D SK (kvS Z b) (128 * b) l
/-- A row's term in the gradient of the convolution's weights. -/
def gW (k g c : ℕ) : ℝ := dcn Z D g c * dn (pin Z) (2 - k) g c
end

theorem of_ld {n k : ℕ} {o : (⟨2, ![n, k]⟩ : Shape).Idx → EReal} {a b h w : ℕ} {hb} {g : ℕ → ℕ → ℝ}
    (hg : Is2 (n := h) (k := w) (fun i => o ((Rect.unit (s := ⟨2, ![n, k]⟩) ![a, b] ![h, w] hb).idx i)) g) (y : (⟨2, ![n, k]⟩ : Shape).Idx)
    (h0 : a ≤ (y 0).val) (h0' : (y 0).val < a + h) (h1 : b ≤ (y 1).val) (h1' : (y 1).val < b + w) :
    o y = ((g ((y 0).val - a) ((y 1).val - b) : ℝ) : EReal) := by
  refine Eq.trans (congrArg o ?_) (hg (ix2 ⟨(y 0).val - a, by omega⟩ ⟨(y 1).val - b, by omega⟩))
  funext d
  apply Fin.ext
  fin_cases d
  · show (y 0).val = _
    simp [Rect.unit, LoadRect.idx]; omega
  · show (y 1).val = _
    simp [Rect.unit, LoadRect.idx]; omega

theorem two_apply {s : Shape} (hc : s.ShapeCasts s) (x a b : FVec Ideal s .f32) (i : s.Idx) : two hc x a b i = x i + a i + b i := by
  pointwise [two]

/-- A row that takes two further rows onto what it held. -/
theorem row_two {n k : ℕ} {o x : (⟨2, ![n, k]⟩ : Shape).Idx → EReal} {a b w : ℕ} {hb hc} {u v : FVec Ideal (⟨2, ![1, w]⟩ : Shape) .f32} {gu gv : ℕ → ℕ → ℝ}
    (h : (fun i => o ((Rect.unit (s := ⟨2, ![n, k]⟩) ![a, b] ![1, w] hb).idx i)) = two hc (fun i => x ((Rect.unit (s := ⟨2, ![n, k]⟩) ![a, b] ![1, w] hb).idx i)) u v)
    (hu : Is2 u gu) (hv : Is2 v gv) {f : ℝ} (y : (⟨2, ![n, k]⟩ : Shape).Idx) (hx : x y = (f : EReal)) (h0 : (y 0).val = a) (h1 : b ≤ (y 1).val) (h1' : (y 1).val < b + w) :
    o y = ((f + gu 0 ((y 1).val - b) + gv 0 ((y 1).val - b) : ℝ) : EReal) := by
  have e0 : (Rect.unit (s := ⟨2, ![n, k]⟩) ![a, b] ![1, w] hb).idx (ix2 (0 : Fin 1) ⟨(y 1).val - b, by omega⟩) = y := by
    funext d
    apply Fin.ext
    fin_cases d
    · show _ = (y 0).val
      simp [Rect.unit, LoadRect.idx, ix2]; omega
    · show _ = (y 1).val
      simp [Rect.unit, LoadRect.idx, ix2]; omega
  refine (congrArg o e0.symm).trans ((congrFun h (ix2 (0 : Fin 1) ⟨(y 1).val - b, by omega⟩)).trans ?_)
  rw [two_apply, hu, hv, EReal.coe_add, EReal.coe_add]
  exact congrArg (fun t => t + _ + _) ((congrArg x e0).trans hx)

/-- Two blocks of rows added to a sum over the rows before them. -/
theorem sum_two (f : ℕ → ℝ) (n : ℕ) : ∑ g ∈ Finset.range (256 * n), f g + ∑ r : Fin 128, f (128 * (2 * n) + r) + ∑ r : Fin 128, f (128 * (2 * n + 1) + r)
    = ∑ g ∈ Finset.range (256 * (n + 1)), f g := by
  rw [show 256 * (n + 1) = 256 * n + 128 + 128 by ring, Finset.sum_range_add, Finset.sum_range_add, Finset.sum_range (n := 128), Finset.sum_range (n := 128),
    show 128 * (2 * n) = 256 * n by ring, show 128 * (2 * n + 1) = 256 * n + 128 by ring]

/-- A chunk of the block rows, read entry by entry. -/
theorem cut {n b a w : ℕ} {o : S256x6400.Idx → Elt Ideal .bf16} {g : ℕ → ℕ → ℝ} {u : FVec Ideal (⟨2, ![128, w]⟩ : Shape) .bf16} (c : ℕ) {hb : ∀ d : Fin 2, ![a, c] d + ![128, w] d ≤ S256x6400.size d}
    (h : View.ld (Val := Elt Ideal) (e' := .bf16) o (Rect.unit (s := S256x6400) ![a, c] ![128, w] hb) = u)
    (hv : Is2 (n := 128) (k := w) u fun r l => g (128 * b + r) (c + l)) (y : S256x6400.Idx)
    (hy : a ≤ (y 0).val ∧ (y 0).val < a + 128 ∧ c ≤ (y 1).val ∧ (y 1).val < c + w ∧ 256 * n + a = 128 * b) :
    o y = ((g (256 * n + (y 0).val) (y 1).val : ℝ) : EReal) :=
  (of_ld (h := 128) (w := w) (g := fun r l => g (128 * b + r) (c + l)) (fun i => (congrFun h i).trans (hv i)) y hy.1 hy.2.1 hy.2.2.1 hy.2.2.2.1).trans
    (congrArg _ (congrArg₂ _ (by omega) (by omega)))

/-- A chunk of a row of column sums takes two further blocks. -/
theorem adds {n w : ℕ} {o x : S8x6400.Idx → Elt Ideal .f32} {hc} {u v : FVec Ideal (⟨2, ![1, w]⟩ : Shape) .f32} {f : ℕ → ℕ → ℝ} (b : ℕ) {hb : ∀ d : Fin 2, ![0, b] d + ![1, w] d ≤ S8x6400.size d}
    (h : (fun i => o ((Rect.unit (s := S8x6400) ![0, b] ![1, w] hb).idx i)) = two hc (fun i => x ((Rect.unit (s := S8x6400) ![0, b] ![1, w] hb).idx i)) u v)
    (hu : Is2 u fun _ l => ∑ r : Fin 128, f (128 * (2 * n) + r) (b + l)) (hv : Is2 v fun _ l => ∑ r : Fin 128, f (128 * (2 * n + 1) + r) (b + l)) (y : S8x6400.Idx)
    (hx : x y = ((∑ g ∈ Finset.range (256 * n), f g (y 1).val : ℝ) : EReal)) (h0 : (y 0).val = 0) (h1 : b ≤ (y 1).val) (h1' : (y 1).val < b + w) :
    o y = ((∑ g ∈ Finset.range (256 * (n + 1)), f g (y 1).val : ℝ) : EReal) := by
  refine (row_two h hu hv y hx h0 h1 h1').trans (congrArg _ ?_)
  beta_reduce
  rw [show b + ((y 1).val - b) = (y 1).val by omega]
  exact sum_two (fun g => f g (y 1).val) n

/-- What a block of 128 rows gives. -/
structure Part (B : Blk) (b : ℕ) (Z D A : ℕ → ℕ → ℝ) (SK : ℕ → ℝ) (W : ℕ → ℕ → ℝ) : Prop where
  dqc0 : Is2 B.dqc0 fun r l => gDZ Z D A SK W (128 * b + r) (0 + l)
  dqc1 : Is2 B.dqc1 fun r l => gDZ Z D A SK W (128 * b + r) (128 + l)
  dqc2 : Is2 B.dqc2 fun r l => gDZ Z D A SK W (128 * b + r) (256 + l)
  dqc3 : Is2 B.dqc3 fun r l => gDZ Z D A SK W (128 * b + r) (384 + l)
  dqc4 : Is2 B.dqc4 fun r l => gDZ Z D A SK W (128 * b + r) (512 + l)
  dqc5 : Is2 B.dqc5 fun r l => gDZ Z D A SK W (128 * b + r) (640 + l)
  dqc6 : Is2 B.dqc6 fun r l => gDZ Z D A SK W (128 * b + r) (768 + l)
  dqc7 : Is2 B.dqc7 fun r l => gDZ Z D A SK W (128 * b + r) (896 + l)
  dcb : Is2 B.dcb fun r l => gDZ Z D A SK W (128 * b + r) (1280 + l)
  dcc : Is2 B.dcc fun r l => gDZ Z D A SK W (128 * b + r) (2304 + l)
  dcx : Is2 B.dcx fun r l => gDZ Z D A SK W (128 * b + r) (3328 + l)
  dga : Is2 B.dga fun r l => gDZ Z D A SK W (128 * b + r) (4352 + l)
  dgc : Is2 B.dgc fun r l => gDZ Z D A SK W (128 * b + r) (5376 + l)
  first : Is2 B.first fun k c => back Z D SK b k c
  second : Is2 B.second fun k c => own Z D SK b k c
  w0 : Is2 (mulf B.dct B.pm2) fun r c => gW Z D 0 (128 * b + r) c
  w1 : Is2 (mulf B.dct B.pm1) fun r c => gW Z D 1 (128 * b + r) c
  w2 : Is2 (mulf B.dct B.pinV) fun r c => gW Z D 2 (128 * b + r) c
  lanes : Is2 B.lanes11 fun _ l => if l < 16 then gS Z D SK b l else 0

/-- A head's rows, cut from a group of four. -/
theorem query {b : ℕ} {Z D A : ℕ → ℕ → ℝ} {SK : ℕ → ℝ} {W kv : ℕ → ℕ → ℝ} (q s x a : ℕ) (hkv : ∀ r k c, seen b r k → kv k c = kvS Z b k c) {r l : ℕ}
    (hr : r < 128) (hl : l < 128) (hx : x = 128 * s + r := by omega) (ha : a = 512 * q + 128 * s := by omega) (ha' : a < 1024 := by omega) :
    bQ (seen b) Z D SK kv (128 * b) (x % 128) (512 * q + 128 * (x / 128) + l) = gDZ Z D A SK W (128 * b + r) (a + l) := by
  rw [bQ_congr hkv, gDZ, if_pos (by omega), gQ, show (128 * b + r) / 128 = b by omega]
  exact congrArg₂ _ (by omega) (by omega)

theorem Part.of {B : Blk} {b : ℕ} {Z D A : ℕ → ℕ → ℝ} {SK : ℕ → ℝ} {W : ℕ → ℕ → ℝ} {kv : ℕ → ℕ → ℝ} (I : B.IsA b Z D SK kv) (C : B.IsC (128 * b) Z D A W) :
    Part B b Z D A SK W where
  dqc0 := fun i => by pointwise [Blk.dqc0]; exact (I.dq0 _).trans (congrArg _ ((query 0 0 ((i 0).val) 0 I.hkv (i 0).isLt (i 1).isLt).trans (by rw [Nat.zero_add])))
  dqc1 := fun i => by pointwise [Blk.dqc1]; exact (I.dq0 _).trans (congrArg _ (query 0 1 (128 + (i 0).val) 128 I.hkv (i 0).isLt (i 1).isLt))
  dqc2 := fun i => by pointwise [Blk.dqc2]; exact (I.dq0 _).trans (congrArg _ (query 0 2 (256 + (i 0).val) 256 I.hkv (i 0).isLt (i 1).isLt))
  dqc3 := fun i => by pointwise [Blk.dqc3]; exact (I.dq0 _).trans (congrArg _ (query 0 3 (384 + (i 0).val) 384 I.hkv (i 0).isLt (i 1).isLt))
  dqc4 := fun i => by pointwise [Blk.dqc4]; exact (I.dq1 _).trans (congrArg _ (query 1 0 ((i 0).val) 512 I.hkv (i 0).isLt (i 1).isLt))
  dqc5 := fun i => by pointwise [Blk.dqc5]; exact (I.dq1 _).trans (congrArg _ (query 1 1 (128 + (i 0).val) 640 I.hkv (i 0).isLt (i 1).isLt))
  dqc6 := fun i => by pointwise [Blk.dqc6]; exact (I.dq1 _).trans (congrArg _ (query 1 2 (256 + (i 0).val) 768 I.hkv (i 0).isLt (i 1).isLt))
  dqc7 := fun i => by pointwise [Blk.dqc7]; exact (I.dq1 _).trans (congrArg _ (query 1 3 (384 + (i 0).val) 896 I.hkv (i 0).isLt (i 1).isLt))
  dcb := C.dcb.congr fun r l _ hl => by
    rw [gDZ, if_neg (by omega), if_pos (by omega)]; exact congrArg _ (by omega)
  dcc := C.dcc.congr fun r l _ hl => by
    rw [gDZ, if_neg (by omega), if_neg (by omega), if_pos (by omega)]; exact congrArg _ (by omega)
  dcx := C.dcx.congr fun r l _ hl => by
    rw [gDZ, if_neg (by omega), if_neg (by omega), if_neg (by omega), if_pos (by omega)]; exact congrArg _ (by omega)
  dga := C.dga.congr fun r l _ hl => by
    rw [gDZ, if_neg (by omega), if_neg (by omega), if_neg (by omega), if_neg (by omega), if_pos (by omega)]; exact congrArg _ (by omega)
  dgc := C.dgc.congr fun r l _ hl => by
    rw [gDZ, if_neg (by omega), if_neg (by omega), if_neg (by omega), if_neg (by omega), if_neg (by omega)]; exact congrArg _ (by omega)
  first := fun i => by
    pointwise [Blk.first]
    refine (I.dkv _).trans (congrArg _ ?_)
    show bKV (seen b) Z D SK kv (128 * b) (i 0).val (i 1).val = _
    rw [bKV_congr I.hkv]; rfl
  second := fun i => by
    pointwise [Blk.second]
    refine (I.dkv _).trans (congrArg _ ?_)
    show bKV (seen b) Z D SK kv (128 * b) (128 + (i 0).val) (i 1).val = _
    rw [bKV_congr I.hkv]; rfl
  w0 := is2_mul C.dct C.pm2
  w1 := is2_mul C.dct C.pm1
  w2 := (is2_mul C.dct C.pinV).congr fun r c _ _ => by rw [gW, dn, if_pos (by omega)]; rfl
  lanes := I.lanes.congr fun _ l _ _ => if_congr Iff.rfl (bS_congr I.hkv l) rfl

section
variable {n : ℕ} {Z D A : ℕ → ℕ → ℝ} {SK : ℕ → ℝ} {W : ℕ → ℕ → ℝ} {B0 B1 : Blk} (P0 : Part B0 (2 * n) Z D A SK W) (P1 : Part B1 (2 * n + 1) Z D A SK W)
include P0 P1

theorem real10 {o : S256x6400.Idx → Elt Ideal .bf16} (h : Out10 B0 B1 o) (y : S256x6400.Idx) (hy : (y 1).val < 1024 ∨ 1280 ≤ (y 1).val) :
    o y = ((gDZ Z D A SK W (256 * n + (y 0).val) (y 1).val : ℝ) : EReal) := by
  have h0 : (y 0).val < 256 := (y 0).isLt
  have h1 : (y 1).val < 6400 := (y 1).isLt
  by_cases hb : (y 0).val < 128
  · by_cases c0 : (y 1).val < 128
    · exact cut 0 h.h0_0 P0.dqc0 y (by omega)
    by_cases c128 : (y 1).val < 256
    · exact cut 128 h.h0_128 P0.dqc1 y (by omega)
    by_cases c256 : (y 1).val < 384
    · exact cut 256 h.h0_256 P0.dqc2 y (by omega)
    by_cases c384 : (y 1).val < 512
    · exact cut 384 h.h0_384 P0.dqc3 y (by omega)
    by_cases c512 : (y 1).val < 640
    · exact cut 512 h.h0_512 P0.dqc4 y (by omega)
    by_cases c640 : (y 1).val < 768
    · exact cut 640 h.h0_640 P0.dqc5 y (by omega)
    by_cases c768 : (y 1).val < 896
    · exact cut 768 h.h0_768 P0.dqc6 y (by omega)
    by_cases c896 : (y 1).val < 1024
    · exact cut 896 h.h0_896 P0.dqc7 y (by omega)
    by_cases c1280 : (y 1).val < 2304
    · exact cut 1280 h.h0_1280 P0.dcb y (by omega)
    by_cases c2304 : (y 1).val < 3328
    · exact cut 2304 h.h0_2304 P0.dcc y (by omega)
    by_cases c3328 : (y 1).val < 4352
    · exact cut 3328 h.h0_3328 P0.dcx y (by omega)
    by_cases c4352 : (y 1).val < 5376
    · exact cut 4352 h.h0_4352 P0.dga y (by omega)
    exact cut 5376 h.h0_5376 P0.dgc y (by omega)
  · by_cases c0 : (y 1).val < 128
    · exact cut 0 h.h1_0 P1.dqc0 y (by omega)
    by_cases c128 : (y 1).val < 256
    · exact cut 128 h.h1_128 P1.dqc1 y (by omega)
    by_cases c256 : (y 1).val < 384
    · exact cut 256 h.h1_256 P1.dqc2 y (by omega)
    by_cases c384 : (y 1).val < 512
    · exact cut 384 h.h1_384 P1.dqc3 y (by omega)
    by_cases c512 : (y 1).val < 640
    · exact cut 512 h.h1_512 P1.dqc4 y (by omega)
    by_cases c640 : (y 1).val < 768
    · exact cut 640 h.h1_640 P1.dqc5 y (by omega)
    by_cases c768 : (y 1).val < 896
    · exact cut 768 h.h1_768 P1.dqc6 y (by omega)
    by_cases c896 : (y 1).val < 1024
    · exact cut 896 h.h1_896 P1.dqc7 y (by omega)
    by_cases c1280 : (y 1).val < 2304
    · exact cut 1280 h.h1_1280 P1.dcb y (by omega)
    by_cases c2304 : (y 1).val < 3328
    · exact cut 2304 h.h1_2304 P1.dcc y (by omega)
    by_cases c3328 : (y 1).val < 4352
    · exact cut 3328 h.h1_3328 P1.dcx y (by omega)
    by_cases c4352 : (y 1).val < 5376
    · exact cut 4352 h.h1_4352 P1.dga y (by omega)
    exact cut 5376 h.h1_5376 P1.dgc y (by omega)

theorem real11 {p : FVec Ideal S128x256 .f32} {o : S256x256.Idx → Elt Ideal .bf16} (hn : n < 32) (hp : Is2 p (pend Z D SK n)) (h : Out11 B0 B1 p o) :
    Is2 (n := 256) (k := 256) o fun r c => gKV Z D SK (256 * n + r) c := fun y => by
  have h0 : (y 0).val < 256 := (y 0).isLt
  have h1 : (y 1).val < 256 := (y 1).isLt
  by_cases hb : (y 0).val < 128
  · refine (of_ld (h := 128) (w := 256) (g := fun r c => pend Z D SK n r c + back Z D SK (2 * n) r c) (fun i => (congrFun h.h0 i).trans (is2_add (φ := .f32) hp P0.first i)) y (by omega) (by omega) (by omega) (by omega)).trans (congrArg _ ?_)
    show pend Z D SK n ((y 0).val - 0) ((y 1).val - 0) + back Z D SK (2 * n) ((y 0).val - 0) ((y 1).val - 0) = gKV Z D SK (256 * n + (y 0).val) (y 1).val
    rw [pend, gKV, if_pos (show 256 * n + (y 0).val < 8192 by omega), show (256 * n + (y 0).val) / 128 = 2 * n by omega, show (256 * n + (y 0).val) % 128 = (y 0).val by omega]
    refine congrArg (· + _) ?_
    by_cases hz : n = 0
    · rw [if_pos hz, if_neg (by omega)]
    · rw [if_neg hz, if_pos (by omega)]; rfl
  · refine (of_ld (h := 128) (w := 256) (g := fun r c => own Z D SK (2 * n) r c + back Z D SK (2 * n + 1) r c) (fun i => (congrFun h.h1 i).trans (is2_add P0.second P1.first i)) y (by omega) (by omega) (by omega) (by omega)).trans (congrArg _ ?_)
    show own Z D SK (2 * n) ((y 0).val - 128) ((y 1).val - 0) + back Z D SK (2 * n + 1) ((y 0).val - 128) ((y 1).val - 0) = gKV Z D SK (256 * n + (y 0).val) (y 1).val
    rw [gKV, if_pos (show 256 * n + (y 0).val < 8192 by omega), if_pos (by omega), show (256 * n + (y 0).val) / 128 = 2 * n + 1 by omega,
      show (256 * n + (y 0).val) % 128 = (y 0).val - 128 by omega]
    rfl

theorem real12 {x o : S8x6400.Idx → Elt Ideal .f32} (h : Out12 B0 B1 x o)
    (hx : ∀ y : S8x6400.Idx, (y 0).val = 0 → ((y 1).val < 1024 ∨ 1280 ≤ (y 1).val) → x y = ((∑ g ∈ Finset.range (256 * n), gDZ Z D A SK W g (y 1).val : ℝ) : EReal))
    (y : S8x6400.Idx) (hy0 : (y 0).val = 0) (hy : (y 1).val < 1024 ∨ 1280 ≤ (y 1).val) :
    o y = ((∑ g ∈ Finset.range (256 * (n + 1)), gDZ Z D A SK W g (y 1).val : ℝ) : EReal) := by
  have h1 : (y 1).val < 6400 := (y 1).isLt
  by_cases c0 : (y 1).val < 128
  · exact adds 0 h.h0 (colQ_is P0.dqc0) (colQ_is P1.dqc0) y (hx y hy0 hy) hy0 (by omega) (by omega)
  by_cases c128 : (y 1).val < 256
  · exact adds 128 h.h128 (colQ_is P0.dqc1) (colQ_is P1.dqc1) y (hx y hy0 hy) hy0 (by omega) (by omega)
  by_cases c256 : (y 1).val < 384
  · exact adds 256 h.h256 (colQ_is P0.dqc2) (colQ_is P1.dqc2) y (hx y hy0 hy) hy0 (by omega) (by omega)
  by_cases c384 : (y 1).val < 512
  · exact adds 384 h.h384 (colQ_is P0.dqc3) (colQ_is P1.dqc3) y (hx y hy0 hy) hy0 (by omega) (by omega)
  by_cases c512 : (y 1).val < 640
  · exact adds 512 h.h512 (colQ_is P0.dqc4) (colQ_is P1.dqc4) y (hx y hy0 hy) hy0 (by omega) (by omega)
  by_cases c640 : (y 1).val < 768
  · exact adds 640 h.h640 (colQ_is P0.dqc5) (colQ_is P1.dqc5) y (hx y hy0 hy) hy0 (by omega) (by omega)
  by_cases c768 : (y 1).val < 896
  · exact adds 768 h.h768 (colQ_is P0.dqc6) (colQ_is P1.dqc6) y (hx y hy0 hy) hy0 (by omega) (by omega)
  by_cases c896 : (y 1).val < 1024
  · exact adds 896 h.h896 (colQ_is P0.dqc7) (colQ_is P1.dqc7) y (hx y hy0 hy) hy0 (by omega) (by omega)
  by_cases c1280 : (y 1).val < 2304
  · exact adds 1280 h.h1280 (colV_is P0.dcb) (colV_is P1.dcb) y (hx y hy0 hy) hy0 (by omega) (by omega)
  by_cases c2304 : (y 1).val < 3328
  · exact adds 2304 h.h2304 (colV_is P0.dcc) (colV_is P1.dcc) y (hx y hy0 hy) hy0 (by omega) (by omega)
  by_cases c3328 : (y 1).val < 4352
  · exact adds 3328 h.h3328 (colV_is P0.dcx) (colV_is P1.dcx) y (hx y hy0 hy) hy0 (by omega) (by omega)
  by_cases c4352 : (y 1).val < 5376
  · exact adds 4352 h.h4352 (colV_is P0.dga) (colV_is P1.dga) y (hx y hy0 hy) hy0 (by omega) (by omega)
  exact adds 5376 h.h5376 (colV_is P0.dgc) (colV_is P1.dgc) y (hx y hy0 hy) hy0 (by omega) (by omega)

theorem gKV_first (hn : n < 32) (r : Fin 128) (c : ℕ) : pend Z D SK n r c + back Z D SK (2 * n) r c = gKV Z D SK (128 * (2 * n) + r) c := by
  have h0 := r.isLt
  rw [pend, gKV, if_pos (show 128 * (2 * n) + r.val < 8192 by omega), show (128 * (2 * n) + r.val) / 128 = 2 * n by omega, show (128 * (2 * n) + r.val) % 128 = r.val by omega]
  refine congrArg (· + _) ?_
  by_cases hz : n = 0
  · rw [if_pos hz, if_neg (by omega)]
  · rw [if_neg hz, if_pos (by omega)]

theorem gKV_second (hn : n < 32) (r : Fin 128) (c : ℕ) : own Z D SK (2 * n) r c + back Z D SK (2 * n + 1) r c = gKV Z D SK (128 * (2 * n + 1) + r) c := by
  have h0 := r.isLt
  rw [gKV, if_pos (show 128 * (2 * n + 1) + r.val < 8192 by omega), if_pos (by omega), show (128 * (2 * n + 1) + r.val) / 128 = 2 * n + 1 by omega,
    show (128 * (2 * n + 1) + r.val) % 128 = r.val by omega]
  rfl

theorem real13 {p : FVec Ideal S128x256 .f32} {x o : S8x256.Idx → Elt Ideal .f32} (hn : n < 32) (hp : Is2 p (pend Z D SK n)) (h : Out13 B0 B1 p x o)
    (hx : ∀ y : S8x256.Idx, (y 0).val = 0 → x y = ((∑ g ∈ Finset.range (256 * n), gKV Z D SK g (y 1).val : ℝ) : EReal))
    (y : S8x256.Idx) (hy0 : (y 0).val = 0) : o y = ((∑ g ∈ Finset.range (256 * (n + 1)), gKV Z D SK g (y 1).val : ℝ) : EReal) := by
  have h1 : (y 1).val < 256 := (y 1).isLt
  refine (row_two h.h (colK_is (is2_add hp P0.first)) (colK_is (is2_add P0.second P1.first)) y (hx y hy0) hy0 (by omega) (by omega)).trans (congrArg _ ?_)
  beta_reduce
  rw [Nat.sub_zero]
  simp only [gKV_first P0 P1 hn, gKV_second P0 P1 hn]
  exact sum_two (fun g => gKV Z D SK g (y 1).val) n

theorem real14 {x o : S8x1024.Idx → Elt Ideal .f32} (h : Out14 B0 B1 x o)
    (hx : ∀ y : S8x1024.Idx, (y 0).val < 3 → x y = ((∑ g ∈ Finset.range (256 * n), gW Z D (y 0).val g (y 1).val : ℝ) : EReal))
    (y : S8x1024.Idx) (hy0 : (y 0).val < 3) : o y = ((∑ g ∈ Finset.range (256 * (n + 1)), gW Z D (y 0).val g (y 1).val : ℝ) : EReal) := by
  have h1 : (y 1).val < 1024 := (y 1).isLt
  by_cases c0 : (y 0).val = 0
  · refine (row_two h.h0 (colV_is P0.w0) (colV_is P1.w0) y (hx y hy0) (by omega) (by omega) (by omega)).trans (congrArg _ ?_)
    beta_reduce
    rw [Nat.sub_zero, c0]
    exact sum_two (fun g => gW Z D 0 g (y 1).val) n
  by_cases c1 : (y 0).val = 1
  · refine (row_two h.h1 (colV_is P0.w1) (colV_is P1.w1) y (hx y hy0) (by omega) (by omega) (by omega)).trans (congrArg _ ?_)
    beta_reduce
    rw [Nat.sub_zero, c1]
    exact sum_two (fun g => gW Z D 1 g (y 1).val) n
  have c2 : (y 0).val = 2 := by omega
  refine (row_two h.h2 (colV_is P0.w2) (colV_is P1.w2) y (hx y hy0) (by omega) (by omega) (by omega)).trans (congrArg _ ?_)
  beta_reduce
  rw [Nat.sub_zero, c2]
  exact sum_two (fun g => gW Z D 2 g (y 1).val) n

theorem real15 {x o : S8x128.Idx → Elt Ideal .f32} (h : Out15 B0 B1 x o)
    (hx : ∀ y : S8x128.Idx, (y 0).val = 0 → (y 1).val < 16 → x y = ((∑ b ∈ Finset.range (2 * n), gS Z D SK b (y 1).val : ℝ) : EReal))
    (y : S8x128.Idx) (hy0 : (y 0).val = 0) (hy : (y 1).val < 16) : o y = ((∑ b ∈ Finset.range (2 * (n + 1)), gS Z D SK b (y 1).val : ℝ) : EReal) := by
  refine (row_two h.h P0.lanes P1.lanes y (hx y hy0 hy) hy0 (by omega) (by have := (y 1).isLt; exact (by omega : (y 1).val < 0 + 128))).trans (congrArg _ ?_)
  beta_reduce
  rw [Nat.sub_zero, if_pos hy, if_pos hy, show 2 * (n + 1) = 2 * n + 1 + 1 by ring, Finset.sum_range_succ, Finset.sum_range_succ]

theorem real16 {o : S128x256.Idx → Elt Ideal .f32} (h : Out16 B1 o) : Is2 (n := 128) (k := 256) o (pend Z D SK (n + 1)) := fun y => by
  have h0 : (y 0).val < 128 := (y 0).isLt
  have h1 : (y 1).val < 256 := (y 1).isLt
  refine (of_ld (h := 128) (w := 256) (g := fun r c => own Z D SK (2 * n + 1) r c) (fun i => (congrFun h.h i).trans ?_) y (by omega) (by omega) (by omega) (by omega)).trans (congrArg _ ?_)
  · pointwise
    exact P1.second _
  · rw [pend, if_neg (by omega)]; rfl
end

end Cert.Kernel2Ideal.Mixer
-- ==== Proof.Mixer.RefGate.lean ====
module

public import proofs.«01_k».proof.Proof.Mixer.RefAtt
public import proofs.«01_k».proof.Proof.Mixer.OutReal
public import Idealize.ShloMosaic.Lib.KernelVsHost

/-! The reference's gates and convolution over the reals. -/

@[expose] public section

set_option maxRecDepth 16384

noncomputable section

namespace Cert.Reference2Ideal.Mixer

open Idealize.ShloMosaic TcCoe Cert.Reference2Ideal Gen Read Cert.Mixer
open Cert.Kernel2Ideal.Mixer (seen band kvS gW)

/-- A gate: one over one plus the exponential of the negation. -/
theorem gate {o : EReal} (ho : o = ((1 : ℝ) : EReal)) {o' : EReal} (ho' : o' = ((1 : ℝ) : EReal)) (x : ℝ) :
    Ideal.div o (o' + Ideal.exp (-((x : ℝ) : EReal))) = ((Cert.Mixer.sig x : ℝ) : EReal) := by
  have hp : 1 + Real.exp (-x) ≠ 0 := (add_pos one_pos (Real.exp_pos _)).ne'
  rw [ho, ho', ← EReal.coe_neg, Ideal.exp_coe, ← EReal.coe_add, Ideal.div_coe hp, ← EReal.coe_mul]
  refine congrArg (fun x : ℝ => (x : EReal)) ?_
  exact (one_mul _).trans (one_div _)

theorem mul_three (a b d : ℝ) : (a : EReal) * (b : EReal) * (d : EReal) = ((a * b * d : ℝ) : EReal) := by
  rw [← EReal.coe_mul, ← EReal.coe_mul]
theorem mul_four (a b c d : ℝ) : (a : EReal) * ((b : EReal) * (c : EReal)) * (d : EReal) = ((a * (b * c) * d : ℝ) : EReal) := by
  rw [← EReal.coe_mul, ← EReal.coe_mul, ← EReal.coe_mul]

theorem pad_rows {x : S1x8192x1024.Idx → EReal} {g : ℕ → ℕ → ℝ} (hx : ∀ i, x i = ((g (i 1).val (i 2).val : ℝ) : EReal)) {v : S_.Idx → EReal}
    (hv : ∀ i, v i = ((0 : ℝ) : EReal)) (lo hi : ℕ) {hc} {hu} (i : S1x8194x1024.Idx) :
    pad S1x8194x1024 ![0, lo, 0] ![0, hi, 0] ![0, 0, 0] x v hc hu i
      = ((if lo ≤ (i 1).val ∧ (i 1).val - lo < 8192 then g ((i 1).val - lo) (i 2).val else 0 : ℝ) : EReal) := by
  have h0 : (i 0).val < 1 := (i 0).isLt
  have h2 : (i 2).val < 1024 := (i 2).isLt
  by_cases h : lo ≤ (i 1).val ∧ (i 1).val - lo < 8192
  · rw [if_pos h, pad_apply_of_inside _ _ _ x v hc hu i (ix3 (0 : Fin 1) (⟨(i 1).val - lo, h.2⟩ : Fin 8192) (i 2)) (fun a => ?_), hx]
    · rfl
    · match a with
      | ⟨0, _⟩ => show (i 0).val = 0 + 0 * 1; omega
      | ⟨1, _⟩ => show (i 1).val = lo + ((i 1).val - lo) * 1; omega
      | ⟨2, _⟩ => show (i 2).val = 0 + (i 2).val * 1; omega
  · rw [if_neg h, pad_apply_of_not_inside _ _ _ x v hc hu i 1 (fun hh => h ⟨hh.1, ?_⟩), hv]
    have := hh.2.2
    change ((i 1).val - lo) / 1 < 8192 at this
    omega

theorem pad_row {x : S1x1024.Idx → EReal} {g : ℕ → ℝ} (hx : ∀ i, x i = ((g (i 1).val : ℝ) : EReal)) {v : S_.Idx → EReal}
    (hv : ∀ i, v i = ((0 : ℝ) : EReal)) (lo hi : ℕ) {hc} {hu} (i : S3x1024.Idx) :
    pad S3x1024 ![lo, 0] ![hi, 0] ![0, 0] x v hc hu i = ((if (i 0).val = lo then g (i 1).val else 0 : ℝ) : EReal) := by
  have h1 : (i 1).val < 1024 := (i 1).isLt
  by_cases h : (i 0).val = lo
  · rw [if_pos h, pad_apply_of_inside _ _ _ x v hc hu i (ix2 (0 : Fin 1) (i 1)) (fun a => ?_), hx]
    · rfl
    · match a with
      | ⟨0, _⟩ => show (i 0).val = lo + 0 * 1; omega
      | ⟨1, _⟩ => show (i 1).val = 0 + (i 1).val * 1; omega
  · rw [if_neg h, pad_apply_of_not_inside _ _ _ x v hc hu i 0 (fun hh => h ?_), hv]
    have h2 := hh.2.2
    have h1 := hh.1
    change ((i 0).val - lo) / 1 < 1 at h2
    change lo ≤ (i 0).val at h1
    omega

/-- A sum over indices of which only one is met. -/
theorem sum_one {s t : Shape} {axes : List (Fin s.rank)} (h : s.ReducesTo axes t) (x : s.Idx → EReal) (v : EReal) (j : t.Idx) (i₀ : s.Idx)
    (h0 : h.drop i₀ = j) (h1 : ∀ i, h.drop i = j → i = i₀) : Ideal.hostReduceAdd h x v j = v + x i₀ := by
  unfold Ideal.hostReduceAdd
  refine congrArg (v + ·) ?_
  rw [show (Finset.univ.filter fun i => h.drop i = j) = {i₀} from Finset.ext fun i => by
    simp only [Finset.mem_filter, Finset.mem_univ, true_and, Finset.mem_singleton]
    exact ⟨h1 i, fun e => e ▸ h0⟩]
  exact Finset.sum_singleton _ _

/-- The sum over two axes of one entry each. -/
theorem sum_11 {x : S1x1x1024.Idx → EReal} {g : ℕ → ℝ} (hx : ∀ i, x i = ((g (i 2).val : ℝ) : EReal)) {v : S_.Idx → EReal}
    (hv : ∀ i, v i = ((0 : ℝ) : EReal)) (i : S1024.Idx) :
    Host.reduceAdd (F := Ideal) (φ := .f32) x v reducesTo_S1x1x1024_S1024_d0_1 h_S_ i = ((g (i 0).val : ℝ) : EReal) := by
  show Ideal.hostReduceAdd reducesTo_S1x1x1024_S1024_d0_1 x (v (Shape.Idx.first h_S_)) i = _
  have e : ∀ k : S1x1x1024.Idx, (reducesTo_S1x1x1024_S1024_d0_1.drop k 0).val = (k 2).val := fun k => Shape.ReducesTo.drop_apply_val_of_eq _ k 0 2
  refine (sum_one reducesTo_S1x1x1024_S1024_d0_1 x (v (Shape.Idx.first h_S_)) i (ix3 (0 : Fin 1) (0 : Fin 1) (i 0)) (funext fun a => Fin.ext (by
    match a with
    | ⟨0, _⟩ => exact e _)) (fun k hk => funext fun a => Fin.ext (by
    subst hk
    have h0 : (k 0).val < 1 := (k 0).isLt
    have h1 : (k 1).val < 1 := (k 1).isLt
    match a with
    | ⟨0, _⟩ => show (k 0).val = 0; omega
    | ⟨1, _⟩ => show (k 1).val = 0; omega
    | ⟨2, _⟩ => exact (e k).symm))).trans ?_
  rw [hv, hx, EReal.coe_zero, zero_add]
  rfl

variable {x0 : (⟨S8192x6400, .bf16⟩ : BufTy).Contents (Elt Ideal)} {x1 : (⟨S8192x1024, .bf16⟩ : BufTy).Contents (Elt Ideal)}
  {x2 : (⟨S1x16, .f32⟩ : BufTy).Contents (Elt Ideal)} {x3 : (⟨S3x1024, .f32⟩ : BufTy).Contents (Elt Ideal)}
  {Z D : ℕ → ℕ → ℝ} {SK : ℕ → ℝ} {W : ℕ → ℕ → ℝ}

section
variable (hd : Is2 (n := 8192) (k := 1024) x1 D)
include hd
theorem v156_is (i : S1x8192x1024.Idx) : val_main_v156 (F := Ideal) x1 i = ((D (i 1).val (i 2).val : ℝ) : EReal) := by
  rw [val_main_v156_apply, val_main_v155_apply]
  exact hd _
end

section
variable (hw : Is2 (n := 3) (k := 1024) x3 W)
include hw
theorem v113_is (i : S1x1x1024.Idx) : val_main_v113 (F := Ideal) x3 i = ((W 0 (i 2).val : ℝ) : EReal) := by
  have h2 : (i 2).val < 1024 := (i 2).isLt
  rw [val_main_v113_apply, val_main_v111_apply, val_main_v110_apply]
  refine (hw _).trans (coe2 rfl ?_)
  show (i 2).val % 1024 = _
  omega
theorem v121_is (i : S1x1x1024.Idx) : val_main_v121 (F := Ideal) x3 i = ((W 1 (i 2).val : ℝ) : EReal) := by
  have h2 : (i 2).val < 1024 := (i 2).isLt
  rw [val_main_v121_apply, val_main_v119_apply, val_main_v118_apply]
  refine (hw _).trans (coe2 rfl ?_)
  show (i 2).val % 1024 = _
  omega
theorem v128_is (i : S1x1x1024.Idx) : val_main_v128 (F := Ideal) x3 i = ((W 2 (i 2).val : ℝ) : EReal) := by
  have h2 : (i 2).val < 1024 := (i 2).isLt
  rw [val_main_v128_apply, val_main_v126_apply, val_main_v125_apply]
  refine (hw _).trans (coe2 rfl ?_)
  show (i 2).val % 1024 = _
  omega
end

section
variable (hz : Is2 (n := 8192) (k := 6400) x0 Z)
include hz

theorem v138_is (i : S1x8192x1024.Idx) : val_main_v138 (F := Ideal) x0 i = ((Cert.Mixer.sig (Z (i 1).val (4352 + (i 2).val)) : ℝ) : EReal) := by
  rw [val_main_v138_apply, val_main_v137_apply, val_main_v136_apply, val_main_v135_apply, val_main_v134_apply, val_main_v133_apply, v8_is hz]
  exact gate (one_f32 _) (one_f32 _) _
theorem v148_is (i : S1x8192x1024.Idx) : val_main_v148 (F := Ideal) x0 i = ((Cert.Mixer.sig (Z (i 1).val (5376 + (i 2).val)) : ℝ) : EReal) := by
  rw [val_main_v148_apply, val_main_v147_apply, val_main_v146_apply, val_main_v145_apply, val_main_v144_apply, val_main_v143_apply, v9_is hz]
  exact gate (one_f32 _) (one_f32 _) _
theorem v141_is (i : S1x8192x1024.Idx) : val_main_v141 (F := Ideal) x0 i = ((Cert.Mixer.sig (Z (i 1).val (4352 + (i 2).val))
    * (1 - Cert.Mixer.sig (Z (i 1).val (4352 + (i 2).val))) : ℝ) : EReal) := by
  rw [val_main_v141_apply, val_main_v140_apply, val_main_v139_apply, v138_is hz, EReal.coe_mul, EReal.coe_sub]
  exact congrArg (fun x : EReal => _ * (x - _)) (one_f32 _)
theorem v151_is (i : S1x8192x1024.Idx) : val_main_v151 (F := Ideal) x0 i = ((Cert.Mixer.sig (Z (i 1).val (5376 + (i 2).val))
    * (1 - Cert.Mixer.sig (Z (i 1).val (5376 + (i 2).val))) : ℝ) : EReal) := by
  rw [val_main_v151_apply, val_main_v150_apply, val_main_v149_apply, v148_is hz, EReal.coe_mul, EReal.coe_sub]
  exact congrArg (fun x : EReal => _ * (x - _)) (one_f32 _)

theorem v105_is (i : S1x8192x1024.Idx) : val_main_v105 (F := Ideal) x0 i = ((pin Z (i 1).val (i 2).val : ℝ) : EReal) := by
  rw [val_main_v105_apply, v6_is hz, v7_is hz]
  exact (EReal.coe_mul _ _).symm
theorem v108_is (i : S1x8194x1024.Idx) : val_main_v108 (F := Ideal) x0 i = ((dn (pin Z) 2 (i 1).val (i 2).val : ℝ) : EReal) := by
  unfold val_main_v108
  rw [concatenate_pair_apply]
  split_ifs with ha
  · have ha' : (i 1).val < 2 := ha
    rw [dn, if_neg (by omega)]
    exact (val_main_v107_apply _).trans (zero_f32 _)
  · have ha' : ¬ (i 1).val < 2 := ha
    rw [dn, if_pos (by omega)]
    exact v105_is hz _
theorem v112_is (i : S1x8192x1024.Idx) : val_main_v112 (F := Ideal) x0 i = ((dn (pin Z) 2 (i 1).val (i 2).val : ℝ) : EReal) :=
  (val_main_v112_apply x0 i).trans (v108_is hz _)
theorem v120_is (i : S1x8192x1024.Idx) : val_main_v120 (F := Ideal) x0 i = ((dn (pin Z) 1 (i 1).val (i 2).val : ℝ) : EReal) := by
  refine (val_main_v120_apply x0 i).trans ((v108_is hz _).trans (congrArg _ ?_))
  show dn (pin Z) 2 (1 + (i 1).val) (i 2).val = _
  unfold dn
  split_ifs <;> first | rfl | omega | skip
  rw [show 1 + (i 1).val - 2 = (i 1).val - 1 by omega]
theorem v127_is (i : S1x8192x1024.Idx) : val_main_v127 (F := Ideal) x0 i = ((pin Z (i 1).val (i 2).val : ℝ) : EReal) := by
  refine (val_main_v127_apply x0 i).trans ((v108_is hz _).trans (congrArg _ ?_))
  show dn (pin Z) 2 (2 + (i 1).val) (i 2).val = _
  rw [dn, if_pos (by omega), show 2 + (i 1).val - 2 = (i 1).val by omega]

theorem v131_is (hw : Is2 (n := 3) (k := 1024) x3 W) (i : S1x8192x1024.Idx) : val_main_v131 (F := Ideal) x0 x3 i = ((cnv Z W (i 1).val (i 2).val : ℝ) : EReal) := by
  rw [val_main_v131_apply, val_main_v124_apply, val_main_v117_apply, val_main_v116_apply, val_main_v115_apply, val_main_v114_apply, val_main_v123_apply,
    val_main_v122_apply, val_main_v130_apply, val_main_v129_apply, v113_is hw, v121_is hw, v128_is hw, v112_is hz, v120_is hz, v127_is hz, cnv,
    EReal.coe_add, EReal.coe_add, EReal.coe_mul, EReal.coe_mul, EReal.coe_mul]
  refine congrArg (fun x : EReal => x + _ + _) ?_
  exact (congrArg (· + _) ((zero_f32 _).trans EReal.coe_zero)).trans (zero_add _)

variable (hd : Is2 (n := 8192) (k := 1024) x1 D)
include hd

theorem v157_is (i : S1x8192x1024.Idx) : val_main_v157 (F := Ideal) x0 x1 i
    = ((D (i 1).val (i 2).val * Cert.Mixer.sig (Z (i 1).val (5376 + (i 2).val)) : ℝ) : EReal) := by
  rw [val_main_v157_apply, v148_is hz, v156_is hd, mul_comm (D _ _)]
  exact (EReal.coe_mul _ _).symm
theorem v160_is (i : S1x8192x1024.Idx) : val_main_v160 (F := Ideal) x0 x1 i = ((dO Z D (i 1).val (i 2).val : ℝ) : EReal) := by
  rw [val_main_v160_apply, v138_is hz, v156_is hd, dO, mul_comm (D _ _)]
  exact (EReal.coe_mul _ _).symm
theorem v163_is (i : S1x8192x1024.Idx) : val_main_v163 (F := Ideal) x0 x1 i = ((dcn Z D (i 1).val (i 2).val : ℝ) : EReal) := by
  rw [val_main_v163_apply, v157_is hz hd, v5_is hz, dcn, mul_comm (D _ _ * _)]
  exact (EReal.coe_mul _ _).symm
/-- The gradient of the convolution's weights. -/
theorem w2_is (i : S1024.Idx) : val_main_v170 (F := Ideal) x0 x1 i = ((∑ g : Fin 8192, gW Z D 2 g.val (i 0).val : ℝ) : EReal) := by
  refine sum_11 (g := fun c => ∑ g : Fin 8192, gW Z D 2 g.val c) (fun i => ?_) (fun _ => zero_f32 _) i
  have h2 : (i 2).val < 1024 := (i 2).isLt
  have h1 : (i 1).val < 1 := (i 1).isLt
  have h0 : (i 0).val < 1 := (i 0).isLt
  rw [val_main_v169_apply, val_main_v168_apply]
  simp only [val_main_v167_apply, v163_is hz hd, v127_is hz]
  refine (congrArg₂ (· + ·) ((zero_f32 _).trans EReal.coe_zero) (Finset.sum_congr rfl fun k _ => (EReal.coe_mul _ _).symm)).trans ?_
  rw [zero_add, ← coe_sum]
  refine congrArg _ (Finset.sum_congr rfl fun k _ => ?_)
  show dcn Z D k.val ((((i 0).val * 1 + (i 1).val) * 1024 + (i 2).val) % 1024) * pin Z k.val ((((i 0).val * 1 + (i 1).val) * 1024 + (i 2).val) % 1024) = _
  rw [show (((i 0).val * 1 + (i 1).val) * 1024 + (i 2).val) % 1024 = (i 2).val by omega, gW, dn, if_pos (by omega)]
  rfl
theorem w1_is (i : S1024.Idx) : val_main_v179 (F := Ideal) x0 x1 i = ((∑ g : Fin 8192, gW Z D 1 g.val (i 0).val : ℝ) : EReal) := by
  refine sum_11 (g := fun c => ∑ g : Fin 8192, gW Z D 1 g.val c) (fun i => ?_) (fun _ => zero_f32 _) i
  have h2 : (i 2).val < 1024 := (i 2).isLt
  have h1 : (i 1).val < 1 := (i 1).isLt
  have h0 : (i 0).val < 1 := (i 0).isLt
  rw [val_main_v178_apply, val_main_v177_apply]
  simp only [val_main_v176_apply, v163_is hz hd, v120_is hz]
  refine (congrArg₂ (· + ·) ((zero_f32 _).trans EReal.coe_zero) (Finset.sum_congr rfl fun k _ => (EReal.coe_mul _ _).symm)).trans ?_
  rw [zero_add, ← coe_sum]
  refine congrArg _ (Finset.sum_congr rfl fun k _ => ?_)
  show dcn Z D k.val ((((i 0).val * 1 + (i 1).val) * 1024 + (i 2).val) % 1024) * dn (pin Z) 1 k.val ((((i 0).val * 1 + (i 1).val) * 1024 + (i 2).val) % 1024) = _
  rw [show (((i 0).val * 1 + (i 1).val) * 1024 + (i 2).val) % 1024 = (i 2).val by omega]
  rfl
theorem w0_is (i : S1024.Idx) : val_main_v190 (F := Ideal) x0 x1 i = ((∑ g : Fin 8192, gW Z D 0 g.val (i 0).val : ℝ) : EReal) := by
  refine sum_11 (g := fun c => ∑ g : Fin 8192, gW Z D 0 g.val c) (fun i => ?_) (fun _ => zero_f32 _) i
  have h2 : (i 2).val < 1024 := (i 2).isLt
  have h1 : (i 1).val < 1 := (i 1).isLt
  have h0 : (i 0).val < 1 := (i 0).isLt
  rw [val_main_v189_apply, val_main_v188_apply]
  simp only [val_main_v187_apply, v163_is hz hd, v112_is hz]
  refine (congrArg₂ (· + ·) ((zero_f32 _).trans EReal.coe_zero) (Finset.sum_congr rfl fun k _ => (EReal.coe_mul _ _).symm)).trans ?_
  rw [zero_add, ← coe_sum]
  refine congrArg _ (Finset.sum_congr rfl fun k _ => ?_)
  show dcn Z D k.val ((((i 0).val * 1 + (i 1).val) * 1024 + (i 2).val) % 1024) * dn (pin Z) 2 k.val ((((i 0).val * 1 + (i 1).val) * 1024 + (i 2).val) % 1024) = _
  rw [show (((i 0).val * 1 + (i 1).val) * 1024 + (i 2).val) % 1024 = (i 2).val by omega]
  rfl
theorem v195_is (i : S3x1024.Idx) : val_main_v195 (F := Ideal) x0 x1 i = ((∑ g : Fin 8192, gW Z D (i 0).val g.val (i 1).val : ℝ) : EReal) := by
  have h0 : (i 0).val < 3 := (i 0).isLt
  rw [val_main_v195_apply, val_main_v184_apply]
  refine (congrArg₂ (· + ·) (congrArg₂ (· + ·)
    (pad_row (g := fun c => ∑ g : Fin 8192, gW Z D 2 g.val c) (fun i => (val_main_v172_apply x0 x1 i).trans (w2_is hz hd _)) (fun _ => zero_f32 _) 2 0 i)
    (pad_row (g := fun c => ∑ g : Fin 8192, gW Z D 1 g.val c) (fun i => (val_main_v182_apply x0 x1 i).trans (w1_is hz hd _)) (fun _ => zero_f32 _) 1 1 i))
    (pad_row (g := fun c => ∑ g : Fin 8192, gW Z D 0 g.val c) (fun i => (val_main_v193_apply x0 x1 i).trans (w0_is hz hd _)) (fun _ => zero_f32 _) 0 2 i)).trans ?_
  rw [← EReal.coe_add, ← EReal.coe_add]
  refine congrArg _ ?_
  obtain h | h | h : (i 0).val = 0 ∨ (i 0).val = 1 ∨ (i 0).val = 2 := by omega
  all_goals rw [h]; simp

variable (hw : Is2 (n := 3) (k := 1024) x3 W)
include hw

theorem v159_is (i : S1x8192x1024.Idx) : val_main_v159 (F := Ideal) x0 x1 x3 i = ((gGC Z D W (i 1).val (i 2).val : ℝ) : EReal) := by
  rw [val_main_v159_apply, val_main_v158_apply, val_main_v132_apply, v151_is hz, v156_is hd, v131_is hz hw, v5_is hz, gGC, mul_assoc (D _ _ * _)]
  exact mul_four _ _ _ _
theorem v164_is (i : S1x8192x1024.Idx) : val_main_v164 (F := Ideal) x0 x1 x3 i = ((gCB Z D W (i 1).val (i 2).val : ℝ) : EReal) := by
  rw [val_main_v164_apply, v157_is hz hd, v131_is hz hw]
  exact (EReal.coe_mul _ _).symm
theorem v166_is (i : S1x8192x1024.Idx) : val_main_v166 (F := Ideal) x0 x1 x3 i = ((W 2 (i 2).val * dcn Z D (i 1).val (i 2).val : ℝ) : EReal) := by
  rw [val_main_v166_apply, val_main_v165_apply, v128_is hw, v163_is hz hd]
  exact (EReal.coe_mul _ _).symm
theorem v175_is (i : S1x8192x1024.Idx) : val_main_v175 (F := Ideal) x0 x1 x3 i = ((W 1 (i 2).val * dcn Z D (i 1).val (i 2).val : ℝ) : EReal) := by
  rw [val_main_v175_apply, val_main_v174_apply, v121_is hw, v163_is hz hd]
  exact (EReal.coe_mul _ _).symm
theorem v186_is (i : S1x8192x1024.Idx) : val_main_v186 (F := Ideal) x0 x1 x3 i = ((W 0 (i 2).val * dcn Z D (i 1).val (i 2).val : ℝ) : EReal) := by
  rw [val_main_v186_apply, val_main_v185_apply, v113_is hw, v163_is hz hd]
  exact (EReal.coe_mul _ _).symm
theorem v197_is (i : S1x8192x1024.Idx) : val_main_v197 (F := Ideal) x0 x1 x3 i = ((dpi Z D W (i 1).val (i 2).val : ℝ) : EReal) := by
  have h1 : (i 1).val < 8192 := (i 1).isLt
  rw [val_main_v197_apply, val_main_v192_apply, val_main_v181_apply]
  refine (congrArg₂ (· + ·) (congrArg₂ (· + ·)
    (pad_rows (g := fun g c => W 2 c * dcn Z D g c) (v166_is hz hd hw) (fun _ => zero_f32 _) 2 0 _)
    (pad_rows (g := fun g c => W 1 c * dcn Z D g c) (v175_is hz hd hw) (fun _ => zero_f32 _) 1 1 _))
    (pad_rows (g := fun g c => W 0 c * dcn Z D g c) (v186_is hz hd hw) (fun _ => zero_f32 _) 0 2 _)).trans ?_
  rw [← EReal.coe_add, ← EReal.coe_add]
  refine congrArg _ ?_
  show ((if 2 ≤ 2 + (i 1).val ∧ 2 + (i 1).val - 2 < 8192 then W 2 (i 2).val * dcn Z D (2 + (i 1).val - 2) (i 2).val else 0)
    + (if 1 ≤ 2 + (i 1).val ∧ 2 + (i 1).val - 1 < 8192 then W 1 (i 2).val * dcn Z D (2 + (i 1).val - 1) (i 2).val else 0))
    + (if 0 ≤ 2 + (i 1).val ∧ 2 + (i 1).val - 0 < 8192 then W 0 (i 2).val * dcn Z D (2 + (i 1).val - 0) (i 2).val else 0) = dpi Z D W (i 1).val (i 2).val
  rw [dpi, up, up, show 2 + (i 1).val - 2 = (i 1).val by omega, show 2 + (i 1).val - 1 = (i 1).val + 1 by omega, show 2 + (i 1).val - 0 = (i 1).val + 2 by omega,
    if_pos ⟨by omega, h1⟩]
  by_cases ha : (i 1).val + 1 < 8192
  · rw [if_pos ⟨by omega, ha⟩, if_pos ha]
    by_cases hb : (i 1).val + 2 < 8192
    · rw [if_pos ⟨by omega, hb⟩, if_pos hb]
    · rw [if_neg (fun h => hb h.2), if_neg hb, mul_zero]
  · rw [if_neg (fun h => ha h.2), if_neg ha, mul_zero, if_neg (fun h => absurd h.2 (by omega)), if_neg (by omega), mul_zero]
theorem v198_is (i : S1x8192x1024.Idx) : val_main_v198 (F := Ideal) x0 x1 x3 i = ((gCX Z D W (i 1).val (i 2).val : ℝ) : EReal) := by
  rw [val_main_v198_apply, v197_is hz hd hw, v6_is hz, gCX, mul_comm (dpi _ _ _ _ _)]
  exact (EReal.coe_mul _ _).symm
theorem v199_is (i : S1x8192x1024.Idx) : val_main_v199 (F := Ideal) x0 x1 x3 i = ((gCC Z D W (i 1).val (i 2).val : ℝ) : EReal) := by
  rw [val_main_v199_apply, v197_is hz hd hw, v7_is hz]
  exact (EReal.coe_mul _ _).symm
omit hw in
/-- The gradient through the attention's gate. -/
theorem v162_is (hs : Is2 (n := 1) (k := 16) x2 fun _ l => SK l) (i : S1x8192x1024.Idx) : val_main_v162 (F := Ideal) x0 x1 x2 i
    = ((gGA Z D (attn Z SK) (i 1).val (i 2).val : ℝ) : EReal) := by
  obtain ⟨μ, hμ⟩ := shift_real hs hz
  rw [val_main_v162_apply, val_main_v161_apply, v104_is hs hz hμ, v141_is hz, v156_is hd, gGA, mul_assoc (D _ _ * _)]
  exact mul_three _ _ _
end

end Cert.Reference2Ideal.Mixer

end
-- ==== Proof.Ffn.Ref.lean ====
module

public import proofs.«01_k».proof.Proof.Gen.Reference3Ideal.Read
public import proofs.«01_k».proof.Proof.Mixer.RefGate

/-! The reference's gradient of the gated feed-forward, entry by entry. -/

@[expose] public section

set_option maxRecDepth 16384

noncomputable section

namespace Cert.Reference3Ideal.Ffn

open Idealize.ShloMosaic TcCoe Cert.Reference3Ideal Gen Read

variable (x0 : FVec Ideal S8192x1024 .bf16) (x1 : FVec Ideal S1x1024x5632 .f32) (x2 : FVec Ideal S1x2816x1024 .f32) (x3 : FVec Ideal S8192x1024 .bf16)

/-- A row times a column of the input weight, -/
def pre (r : Fin 8192) (l : Fin 5632) : EReal := ∑ k : Fin 1024, x0 (ix2 r k) * x1 (ix3 (0 : Fin 1) k l)
/-- and the cotangent of an activation. -/
def cot (r : Fin 8192) (l : Fin 2816) : EReal := ∑ k : Fin 1024, x3 (ix2 r k) * x2 (ix3 (0 : Fin 1) l k)

theorem gate_at (r : Fin 8192) (l : Fin 2816) : val_main_v20 (F := Ideal) x0 x1 x2 x3 (ix3 (0 : Fin 2) r l)
    = (cot x2 x3 r l * pre x0 x1 r ⟨2816 + l.val, by omega⟩) * Ideal.div 1 (1 + Ideal.exp (-pre x0 x1 r ⟨l.val, by omega⟩))
      + pre x0 x1 r ⟨l.val, by omega⟩ * (cot x2 x3 r l * pre x0 x1 r ⟨2816 + l.val, by omega⟩)
        * (Ideal.div 1 (1 + Ideal.exp (-pre x0 x1 r ⟨l.val, by omega⟩)) * (1 - Ideal.div 1 (1 + Ideal.exp (-pre x0 x1 r ⟨l.val, by omega⟩)))) := by
  simp only [pre, cot]
  pointwise [val_main_v20, val_main_v19, val_main_v18, val_main_v17, val_main_v16, val_main_v15, val_main_v14, val_main_v13, val_main_v12, val_main_v11,
    val_main_v10, val_main_v9, val_main_v7, val_main_v5_2, val_main_v5_1, val_main_v5_0, val_main_call0_v0, val_main_call0_v1, val_main_call0_v2,
    val_main_call0_v3, val_main_call0_v4, val_main_call0_v6, val_main_call0_v7, val_main_call1_v0, val_main_call1_v1, val_main_call1_v2,
    val_main_call0_cst, val_main_call0_cst_0, val_main_call0_cst_1, val_main_v4, val_main_v3, val_main_v2, val_main_v1, val_main_v0]

theorem value_at (r : Fin 8192) (l : Fin 2816) : val_main_v20 (F := Ideal) x0 x1 x2 x3 (ix3 (1 : Fin 2) r l)
    = pre x0 x1 r ⟨l.val, by omega⟩ * Ideal.div 1 (1 + Ideal.exp (-pre x0 x1 r ⟨l.val, by omega⟩)) * cot x2 x3 r l := by
  simp only [pre, cot]
  pointwise [val_main_v20, val_main_v19, val_main_v18, val_main_v17, val_main_v16, val_main_v15, val_main_v14, val_main_v13, val_main_v12, val_main_v11,
    val_main_v10, val_main_v9, val_main_v7, val_main_v5_2, val_main_v5_1, val_main_v5_0, val_main_call0_v0, val_main_call0_v1, val_main_call0_v2,
    val_main_call0_v3, val_main_call0_v4, val_main_call0_v6, val_main_call0_v7, val_main_call1_v0, val_main_call1_v1, val_main_call1_v2,
    val_main_call0_cst, val_main_call0_cst_0, val_main_call0_cst_1, val_main_v4, val_main_v3, val_main_v2, val_main_v1, val_main_v0]

end Cert.Reference3Ideal.Ffn

end
-- ==== Proof.Mixer.Finite.lean ====
module

public import proofs.«01_k».proof.Proof.Gen.Pre_mixer_finite
public import Idealize.ShloMosaic.Lib.ReduceAll
public import Idealize.ShloMosaic.Lib.Pointwise
public import Idealize.ShloMosaic.Lib.Claim

/-! Every entry of an array whose absolute values are all below infinity is a real number. -/

@[expose] public section

set_option maxRecDepth 16384

noncomputable section

namespace Cert.Mixer

open Idealize.ShloMosaic

theorem real_of_abs_lt {x : EReal} (h : max x (-x) < ⊤) : x = ((x.toReal : ℝ) : EReal) := by
  refine (EReal.coe_toReal ?_ ?_).symm
  · rintro rfl; exact absurd h (by simp)
  · rintro rfl; exact absurd h (by simp)

theorem of_olt {x y : EReal} (h : Ideal.cmp .olt x y = 1#1) : x < y := by
  by_contra hn
  have h' : BitVec.ofBool (decide (x < y)) = 1#1 := h
  rw [decide_eq_false hn] at h'
  exact absurd h' (by decide)

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

end Cert.Mixer

namespace Cert.Pre_mixer_finite

open Idealize.ShloMosaic Cert.Mixer Cert.Pre_mixer_finite Cert.Pre_mixer_finite.Facts

theorem real_args (x0 : FVec Ideal S8192x6400 .bf16) (x1 : FVec Ideal S8192x1024 .bf16) (x2 : FVec Ideal S1x16 .f32) (x3 : FVec Ideal S3x1024 .f32)
    (i : S_.Idx) (h : fn (F := Ideal) x0 x1 x2 x3 i = 1#1) :
    (∀ i, x0 i = (((x0 i).toReal : ℝ) : EReal)) ∧ (∀ i, x1 i = (((x1 i).toReal : ℝ) : EReal))
    ∧ (∀ i, x2 i = (((x2 i).toReal : ℝ) : EReal)) ∧ ∀ i, x3 i = (((x3 i).toReal : ℝ) : EReal) := by
  obtain ⟨h', h3⟩ := IntOp.andi_eq_one.1 h
  obtain ⟨h', h2⟩ := IntOp.andi_eq_one.1 h'
  obtain ⟨h0, h1⟩ := IntOp.andi_eq_one.1 h'
  have : Subsingleton S_.Idx := ⟨fun a b => funext fun d => d.elim0⟩
  refine ⟨fun i => ?_, fun i => ?_, fun i => ?_, fun i => ?_⟩
  · exact real_of_abs_lt (inf_bf16 ▸ of_olt (Host.reduce_andi_all _ _ _ _ _ h0 i))
  · exact real_of_abs_lt (inf_bf16 ▸ of_olt (Host.reduce_andi_all _ _ _ _ _ h1 i))
  · exact real_of_abs_lt (inf_f32 ▸ of_olt (Host.reduce_andi_all _ _ _ _ _ h2 i))
  · exact real_of_abs_lt (inf_f32 ▸ of_olt (Host.reduce_andi_all _ _ _ _ _ h3 i))

end Cert.Pre_mixer_finite

end
-- ==== Proof.Ffn.Claim.lean ====
module

public import proofs.«01_k».proof.Proof.Reals
public import proofs.«01_k».proof.Proof.Ffn.Run
public import proofs.«01_k».proof.Proof.Ffn.Ref
public import proofs.«01_k».proof.Proof.Mixer.Finite
public import proofs.«01_k».proof.Proof.Gen.Pre_ffn_out_finite

/-! The gradient of the gated feed-forward: the kernels' result is the reference's derivative. -/

@[expose] public section

set_option maxRecDepth 16384

noncomputable section

namespace Cert.Pre_ffn_out_finite

open Idealize.ShloMosaic Cert.Mixer Cert.Pre_ffn_out_finite Cert.Pre_ffn_out_finite.Facts

theorem real_args (x0 : FVec Ideal S8192x1024 .bf16) (x1 : FVec Ideal S1x1024x5632 .f32) (x2 : FVec Ideal S1x2816x1024 .f32) (x3 : FVec Ideal S8192x1024 .bf16)
    (i : S_.Idx) (h : fn (F := Ideal) x0 x1 x2 x3 i = 1#1) :
    (∀ i, x0 i = (((x0 i).toReal : ℝ) : EReal)) ∧ (∀ i, x1 i = (((x1 i).toReal : ℝ) : EReal))
    ∧ (∀ i, x2 i = (((x2 i).toReal : ℝ) : EReal)) ∧ ∀ i, x3 i = (((x3 i).toReal : ℝ) : EReal) := by
  obtain ⟨h', h3⟩ := IntOp.andi_eq_one.1 h
  obtain ⟨h', h2⟩ := IntOp.andi_eq_one.1 h'
  obtain ⟨h0, h1⟩ := IntOp.andi_eq_one.1 h'
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i)),
    fun i => real_of_abs_lt (inf_f32 ▸ of_olt (Host.reduce_andi_all _ _ _ _ _ h2 i)),
    fun i => real_of_abs_lt (inf_bf16 ▸ of_olt (Host.reduce_andi_all _ _ _ _ _ h3 i))⟩

end Cert.Pre_ffn_out_finite

namespace Cert.Ffn

open Idealize.ShloMosaic TcCoe Idealize.SL.Sem
open Cert.Kernel3Ideal Gen Cert.Kernel3Ideal.Ffn
open Cert.Reference3Ideal.Ffn (pre cot)

variable (m : (ℓ : Loc Cert.Kernel3Ideal.nD Cert.Kernel3Ideal.τ Cert.Kernel3Ideal.sig) → Buf (Elt Ideal) ℓ) (ρ : Dev Cert.Kernel3Ideal.nD → PrngReg)

theorem pre_eq (c : Dev nD) (s : ℕ) (hs : s ≤ 2) (r : Fin 8192) (l : Fin 2816) (j : Fin 5632) (hj : j.val = 1408 * s + l.val) :
    preAt (m (c.tc.loc main_arg0)) (V1 m ρ c main_v3) s hs r l
      = pre (m (c.tc.loc main_arg0)) (m (c.tc.loc main_arg1)) r j := by
  unfold preAt pre
  refine Finset.sum_congr rfl fun k _ => congrArg _ ((shards m ρ c _ _ _).trans (congrArg _ ?_))
  have : (⟨(l.val / 1408 + s) * 1408 + l.val % 1408, by omega⟩ : Fin 5632) = j := Fin.ext (by show (l.val / 1408 + s) * 1408 + l.val % 1408 = j.val; omega)
  exact congrArg _ this

theorem back_eq (D : FVec Ideal S8192x1024 .bf16) (w : FVec Ideal S1x2816x1024 .f32) (W : FVec Ideal S2816x1024 .bf16)
    (hW : ∀ k l, W (ix2 k l) = w (ix3 (0 : Fin 1) k l)) (G : FVec Ideal S2x8192x2816 .bf16) (j : S2x8192x2816.Idx) :
    backOf D W G j = cot w D (j 1) (j 2) * G j := by
  unfold backOf cot
  exact congrArg (· * G j) (Finset.sum_congr rfl fun k _ => congrArg _ (hW (j 2) k))

theorem result_eq (c : Dev nD) (h : Cert.Pre_Kernel3Ideal_ffn_out_finite m) :
    Cert.Reference3Ideal.Read.val_main_v20 (F := Ideal) (m (c.tc.loc main_arg0)) (m (c.tc.loc main_arg1))
      (m (c.tc.loc main_arg2)) (m (c.tc.loc main_arg3)) = W4 m ρ c (Proc.devRef .tc main_v7) := by
  obtain ⟨h0, h1, h2, h3⟩ := Cert.Pre_ffn_out_finite.real_args _ _ _ _ _ (congrFun (h c) (fun a => a.elim0))
  rw [result m ρ c]
  funext j
  have hj0 : (j 0).val < 2 := (j 0).isLt
  have hl : (j 2).val < 2816 := (j 2).isLt
  have P := fun l => Reals.coe_dot (a := fun k : Fin 1024 => (m (c.tc.loc main_arg0) : FVec Ideal S8192x1024 .bf16) (ix2 (j 1) k))
    (b := fun k => (m (c.tc.loc main_arg1) : FVec Ideal S1x1024x5632 .f32) (ix3 (0 : Fin 1) k l)) (fun k => h0 _) (fun k => h1 _)
  have Q := Reals.coe_dot (a := fun k : Fin 1024 => (m (c.tc.loc main_arg3) : FVec Ideal S8192x1024 .bf16) (ix2 (j 1) k))
    (b := fun k => (m (c.tc.loc main_arg2) : FVec Ideal S1x2816x1024 .f32) (ix3 (0 : Fin 1) (j 2) k)) (fun k => h3 _) (fun k => h2 _)
  have e : ∀ p : Fin 2, p.val = (j 0).val → j = ix3 p (j 1) (j 2) := fun p hp => funext fun a => match a with
    | ⟨0, _⟩ => Fin.ext hp.symm
    | ⟨1, _⟩ => rfl
    | ⟨2, _⟩ => rfl
  refine Eq.trans ?_ (back_eq _ _ _ (out_weight m ρ c) _ j).symm
  by_cases hz : (j 0).val = 0
  · rw [guOf_gate _ _ _ hz, pre_eq m ρ c 2 le_rfl (j 1) (j 2) ⟨2816 + (j 2).val, by omega⟩ (by show 2816 + (j 2).val = 1408 * 2 + (j 2).val; omega),
      pre_eq m ρ c 0 (by decide) (j 1) (j 2) ⟨(j 2).val, by omega⟩ (by show (j 2).val = 1408 * 0 + (j 2).val; omega)]
    refine (congrArg _ (e 0 hz.symm)).trans ((Cert.Reference3Ideal.Ffn.gate_at _ _ _ _ (j 1) (j 2)).trans ?_)
    unfold pre cot
    rw [P, P, Q]
    exact Reals.gate_rule _ _ _
  · rw [guOf_value _ _ _ hz, pre_eq m ρ c 0 (by decide) (j 1) (j 2) ⟨(j 2).val, by omega⟩ (by show (j 2).val = 1408 * 0 + (j 2).val; omega)]
    refine (congrArg _ (e 1 (by show 1 = _; omega))).trans ((Cert.Reference3Ideal.Ffn.value_at _ _ _ _ (j 1) (j 2)).trans ?_)
    exact mul_comm _ _

theorem ffn_out_algebraic : Cert.algebraic_Kernel3Ideal_Reference3Ideal_pre_ffn_out_finite := by
  intro m g m' g' hpre hagree
  refine ⟨fun c => W4 m g c (Proc.devRef .tc main_v7), ?_, ?_⟩
  · refine (θ_run Cert.Kernel3Ideal.defs _ _).mono (fun r h c => ?_) (run_all m g)
    exact ⟨h c _ (mem_uc main_v7 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c)⟩
  · refine (θ_run Cert.Reference3Ideal.defs _ _).mono (fun r h c => ?_) (Cert.Reference3Ideal.Value.run (F := Ideal) m' g')
    obtain ⟨h0, a⟩ := h c
    obtain ⟨e0, e1, e2, e3⟩ := hagree c
    refine ⟨(h0.trans (Cert.Reference3Ideal.Read.val_main_v20_eq _ _)).trans ?_, a⟩
    rw [e0, e1, e2, e3]
    exact result_eq m g c hpre

end Cert.Ffn

end
-- ==== Proof.Norm.Basic.lean ====
module

public import proofs.«01_k».proof.Proof.Reals

/-! A row divided by the root of its mean square, over the reals: its value and its derivative. -/

@[expose] public section

noncomputable section

namespace Cert.Reals

open Idealize.ShloMosaic

/-- The constant added to the mean square. -/
def eps : ℝ := 8796093 / 2 ^ 43

theorem eps_pos : 0 < eps := by unfold eps; positivity

theorem bits_eps : Ideal.ofBits FTy.f32 897988541#32 = ((eps : ℝ) : EReal) := by
  unfold eps; simp [Ideal.ofBits, Ideal.ieee]; norm_num [zpow_neg]; rw [← EReal.coe_mul]; norm_num
theorem bits_1024 : Ideal.ofBits FTy.f32 1149239296#32 = ((1024 : ℝ) : EReal) := by
  simp [Ideal.ofBits, Ideal.ieee]; norm_num [zpow_neg]; rw [← EReal.coe_mul]; norm_num
theorem bits_one : Ideal.ofBits FTy.f32 1065353216#32 = ((1 : ℝ) : EReal) := by
  simp [Ideal.ofBits, Ideal.ieee]; norm_num [zpow_neg]; rw [← EReal.coe_mul]; norm_num
theorem bits_two : Ideal.ofBits FTy.f32 1073741824#32 = ((2 : ℝ) : EReal) := by
  simp [Ideal.ofBits, Ideal.ieee]; norm_num [zpow_neg]; rw [← EReal.coe_mul]; norm_num
theorem bits_half : Ideal.ofBits FTy.f32 1056964608#32 = ((1 / 2 : ℝ) : EReal) := by
  simp [Ideal.ofBits, Ideal.ieee]; norm_num [zpow_neg]; rw [← EReal.coe_mul]; norm_num
theorem bits_neg_half : Ideal.ofBits FTy.f32 3204448256#32 = ((-(1 / 2) : ℝ) : EReal) := by
  simp [Ideal.ofBits, Ideal.ieee]; norm_num [zpow_neg]; rw [← EReal.coe_mul]; norm_num
theorem bits_inv_1024 : Ideal.ofBits FTy.f32 981467136#32 = ((1 / 1024 : ℝ) : EReal) := by
  simp [Ideal.ofBits, Ideal.ieee]; norm_num [zpow_neg]; rw [← EReal.coe_mul]; norm_num

theorem div_1024 (a : ℝ) : Ideal.div (a : EReal) ((1024 : ℝ) : EReal) = ((a * (1 / 1024) : ℝ) : EReal) := by
  rw [Ideal.div_coe (by norm_num), EReal.coe_mul]

/-- The mean square of a row and a bit more. -/
def ms (x : Fin 1024 → ℝ) : ℝ := (∑ k, x k * x k) * (1 / 1024) + eps

theorem ms_pos (x : Fin 1024 → ℝ) : 0 < ms x :=
  add_pos_of_nonneg_of_pos (mul_nonneg (Finset.sum_nonneg fun _ _ => mul_self_nonneg _) (by norm_num)) eps_pos

/-- What a row is multiplied by. -/
def rs (x : Fin 1024 → ℝ) : ℝ := (√(ms x))⁻¹

theorem rs_sq (x : Fin 1024 → ℝ) : rs x * rs x = 1 / ms x := by
  unfold rs
  rw [← mul_inv, Real.mul_self_sqrt (ms_pos x).le, one_div]

theorem rsqrt_ms (x : Fin 1024 → ℝ) : Ideal.rsqrt (((∑ k, x k * x k) * (1 / 1024) + eps : ℝ) : EReal) = ((rs x : ℝ) : EReal) := by
  rw [show (∑ k, x k * x k) * (1 / 1024) + eps = ms x from rfl, Ideal.rsqrt_coe, if_neg (not_lt.2 (ms_pos x).le), if_neg (ms_pos x).ne']
  rfl

theorem div_ms (x : Fin 1024 → ℝ) (a : ℝ) :
    Ideal.div (a : EReal) (((∑ k, x k * x k) * (1 / 1024) + eps : ℝ) : EReal) = ((a * (1 / ms x) : ℝ) : EReal) := by
  rw [show (∑ k, x k * x k) * (1 / 1024) + eps = ms x from rfl, Ideal.div_coe (ms_pos x).ne', EReal.coe_mul]

/-- The derivative of `x · rs x` at `x`, applied to `u`. -/
def normBack (x u : Fin 1024 → ℝ) (k : Fin 1024) : ℝ := rs x * (u k - x k * rs x * ((∑ j, u j * (x j * rs x)) * (1 / 1024)))

/-- The same as the chain rule writes it. -/
theorem norm_rule (x u : Fin 1024 → ℝ) (k : Fin 1024) :
    u k * rs x + x k * (((∑ j, x j * u j) * (-(1 / 2) * (rs x * (1 / ms x)))) * (1 / 1024))
      + (((∑ j, x j * u j) * (-(1 / 2) * (rs x * (1 / ms x)))) * (1 / 1024)) * x k = normBack x u k := by
  unfold normBack
  have : ∑ j, u j * (x j * rs x) = (∑ j, x j * u j) * rs x := by
    rw [Finset.sum_mul]
    exact Finset.sum_congr rfl fun _ _ => by ring
  rw [this, ← rs_sq]
  ring

end Cert.Reals

end
-- ==== Proof.Loss.Pay.lean ====
module

public import proofs.«01_k».proof.Proof.Norm.Basic
public import proofs.«01_k».proof.Proof.Gen.Kernel4Ideal.Frame
public import Idealize.ShloMosaic.Lib.Pipeline.ValueKit
public import Idealize.ShloMosaic.Lib.KernelVsHost

/-! What half a block of the last product, the last norm and the loss computes, over the reals. -/

@[expose] public section

set_option maxRecDepth 16384

noncomputable section

namespace Cert.Kernel4Ideal.Loss

open Idealize.ShloMosaic TcCoe Cert.Reals
open Cert.Kernel4Ideal Gen

/-! ### The first half is the second half's text -/

theorem pay4_eq (v3 : FVec Ideal S512x2816 .bf16) (v4 : FVec Ideal S2816x1024 .bf16) : k0_pay4 (F := Ideal) v3 v4 = k0_pay5 (F := Ideal) v3 v4 := rfl

section Same

variable (v3 : FVec Ideal S512x2816 .bf16) (v4 : FVec Ideal S2816x1024 .bf16) (v11 v30 : FVec Ideal S512x1024 .f32) (v12 v26 : FVec Ideal S1x1024 .f32)

theorem pay7_eq : k0_pay7 (F := Ideal) v3 v4 v11 v12 = k0_pay19 (F := Ideal) (k0_pay5 (F := Ideal) v3 v4) v11 v12 := rfl
theorem pay8_eq : k0_pay8 (F := Ideal) v3 v4 v11 v12 = k0_pay20 (F := Ideal) (k0_pay5 (F := Ideal) v3 v4) v11 v12 := rfl
theorem pay9_eq : k0_pay9 (F := Ideal) v3 v4 v11 v12 v26 v30 = k0_pay21 (F := Ideal) (k0_pay5 (F := Ideal) v3 v4) v11 v12 v26 v30 := rfl
theorem pay11_eq : k0_pay11 (F := Ideal) (k0_pay10 (F := Ideal) v3 v4 v11 v12 v26 v30) = k0_pay24 (F := Ideal) (k0_pay22 (F := Ideal) (k0_pay5 (F := Ideal) v3 v4) v11 v12 v26 v30) k0_pay23 := rfl

end Same

section Back

variable (v23 : FVec Ideal S512x1 .f32) (v6 v25 v31 : FVec Ideal S512x1024 .f32) (v43 v58 p : FVec Ideal S1x1024 .f32) (q : FVec Ideal S1x1 .f32)

theorem pay13_eq : k0_pay13 v23 v25 v31 v43 = k0_pay26 v23 v25 v31 v43 := rfl
theorem pay14_eq : k0_pay14 v23 v25 v31 v43 v58 = k0_pay27 v23 v25 v31 v43 v58 := rfl
theorem pay15_eq : k0_pay15 v6 v23 v25 v31 v43 p = k0_pay28 v6 v23 v25 v31 v43 p := rfl
theorem pay16_eq : k0_pay16 v25 (k0_pay12 v31) p = k0_pay1 (k0_pay29 p) (k0_pay30 v25 v31) := rfl
theorem pay17_eq : k0_pay17 q p = k0_pay2 q p := rfl

end Back

theorem pay5_at (v7 : FVec Ideal S512x2816 .bf16) (v8 : FVec Ideal S2816x1024 .bf16) (A : Fin 512 → Fin 2816 → ℝ) (W : Fin 2816 → Fin 1024 → ℝ)
    (h7 : ∀ a j, v7 (ix2 a j) = ((A a j : ℝ) : EReal)) (h8 : ∀ j k, v8 (ix2 j k) = ((W j k : ℝ) : EReal)) (a : Fin 512) (k : Fin 1024) :
    k0_pay5 (F := Ideal) v7 v8 (ix2 a k) = ((∑ j, A a j * W j k : ℝ) : EReal) := by
  pointwise [k0_pay5]
  simp only [h7, h8, ← EReal.coe_mul, ← coe_sum]

section Norm

variable (v10 v83 v102 : FVec Ideal S512x1024 .f32) (v84 v98 : FVec Ideal S1x1024 .f32) (Y x T : Fin 512 → Fin 1024 → ℝ) (ga g : Fin 1024 → ℝ)
  (h10 : ∀ a k, v10 (ix2 a k) = ((Y a k : ℝ) : EReal)) (h83 : ∀ a k, v83 (ix2 a k) = ((x a k : ℝ) : EReal)) (h102 : ∀ a k, v102 (ix2 a k) = ((T a k : ℝ) : EReal))
  (h84 : ∀ k, v84 (ix2 (0 : Fin 1) k) = ((ga k : ℝ) : EReal)) (h98 : ∀ k, v98 (ix2 (0 : Fin 1) k) = ((g k : ℝ) : EReal))

include h10 h83 h84

theorem pay18_at (a : Fin 512) (k : Fin 1024) : k0_pay18 (F := Ideal) v10 v83 v84 (ix2 a k) = ((x a k + ga k * Y a k : ℝ) : EReal) := by
  pointwise [k0_pay18]
  simp only [h10, h83, h84, ← EReal.coe_mul, ← EReal.coe_add]

theorem pay19_at (a : Fin 512) : k0_pay19 (F := Ideal) v10 v83 v84 (ix2 a (0 : Fin 1)) = ((rs (fun k => x a k + ga k * Y a k) : ℝ) : EReal) := by
  pointwise [k0_pay19]
  simp only [pay18_at v10 v83 v84 Y x ga h10 h83 h84, bits_eps, bits_1024, ← EReal.coe_mul, ← coe_sum, div_1024, ← EReal.coe_add]
  exact rsqrt_ms fun k => x a k + ga k * Y a k

theorem pay20_at (a : Fin 512) (k : Fin 1024) :
    k0_pay20 (F := Ideal) v10 v83 v84 (ix2 a k) = (((x a k + ga k * Y a k) * rs (fun k => x a k + ga k * Y a k) : ℝ) : EReal) := by
  pointwise [k0_pay20]
  simp only [pay18_at v10 v83 v84 Y x ga h10 h83 h84, pay19_at v10 v83 v84 Y x ga h10 h83 h84, EReal.coe_mul]

include h102 h98

theorem pay21_at (a : Fin 512) (k : Fin 1024) :
    k0_pay21 (F := Ideal) v10 v83 v84 v98 v102 (ix2 a k) = (((x a k + ga k * Y a k) * rs (fun k => x a k + ga k * Y a k) * g k - T a k : ℝ) : EReal) := by
  pointwise [k0_pay21]
  simp only [pay20_at v10 v83 v84 Y x ga h10 h83 h84, h98, h102, ← EReal.coe_mul, ← EReal.coe_sub]

theorem pay2_at (p : FVec Ideal S1x1024 .f32) (k : Fin 1024) :
    k0_pay2 (F := Ideal) (k0_pay24 (k0_pay22 v10 v83 v84 v98 v102) k0_pay23) p (ix2 (0 : Fin 1) k)
      = p (ix2 (0 : Fin 1) k) + ((∑ a, 1 / 2 * ((∑ k, ((x a k + ga k * Y a k) * rs (fun k => x a k + ga k * Y a k) * g k - T a k)
          * ((x a k + ga k * Y a k) * rs (fun k => x a k + ga k * Y a k) * g k - T a k)) * (1 / 1024)) : ℝ) : EReal) := by
  pointwise [k0_pay2, k0_pay24, k0_pay23, k0_pay22]
  simp only [pay21_at v10 v83 v102 v84 v98 Y x T ga g h10 h83 h102 h84 h98, bits_half, bits_1024, ← EReal.coe_mul, ← coe_sum, div_1024, Finset.mul_sum]

end Norm

section Back

variable (v10 : FVec Ideal S512x1024 .f32) (v95 : FVec Ideal S512x1 .f32) (v97 v103 : FVec Ideal S512x1024 .f32) (v115 v130 p : FVec Ideal S1x1024 .f32)
  (Y : Fin 512 → Fin 1024 → ℝ) (r : Fin 512 → ℝ) (y E : Fin 512 → Fin 1024 → ℝ) (g ga : Fin 1024 → ℝ)
  (h10 : ∀ a k, v10 (ix2 a k) = ((Y a k : ℝ) : EReal)) (h95 : ∀ a, v95 (ix2 a (0 : Fin 1)) = ((r a : ℝ) : EReal)) (h97 : ∀ a k, v97 (ix2 a k) = ((y a k : ℝ) : EReal))
  (h103 : ∀ a k, v103 (ix2 a k) = ((E a k : ℝ) : EReal)) (h115 : ∀ k, v115 (ix2 (0 : Fin 1) k) = ((g k : ℝ) : EReal)) (h130 : ∀ k, v130 (ix2 (0 : Fin 1) k) = ((ga k : ℝ) : EReal))

include h97 h103 in
theorem pay30_at (k : Fin 1024) : k0_pay1 (F := Ideal) (k0_pay29 p) (k0_pay30 v97 v103) (ix2 (0 : Fin 1) k) = p (ix2 (0 : Fin 1) k) + ((∑ a, E a k * (1 / 1024) * y a k : ℝ) : EReal) := by
  pointwise [k0_pay1, k0_pay29, k0_pay30, k0_pay25]
  simp only [h97, h103, bits_inv_1024, ← EReal.coe_mul, ← coe_sum]

include h95 h97 h103 h115

theorem pay26_at (a : Fin 512) (k : Fin 1024) : k0_pay26 (F := Ideal) v95 v97 v103 v115 (ix2 a k)
      = ((r a * (E a k * (1 / 1024) * g k - y a k * ((∑ j, E a j * (1 / 1024) * g j * y a j) * (1 / 1024))) : ℝ) : EReal) := by
  pointwise [k0_pay26, k0_pay25]
  simp only [h95, h97, h103, h115, bits_inv_1024, bits_1024, ← EReal.coe_mul, ← coe_sum, div_1024, ← EReal.coe_sub]

include h130 in
theorem pay27_at (a : Fin 512) (k : Fin 1024) : k0_pay27 (F := Ideal) v95 v97 v103 v115 v130 (ix2 a k)
      = ((ga k * (r a * (E a k * (1 / 1024) * g k - y a k * ((∑ j, E a j * (1 / 1024) * g j * y a j) * (1 / 1024)))) : ℝ) : EReal) := by
  pointwise [k0_pay27]
  simp only [pay26_at v95 v97 v103 v115 r y E g h95 h97 h103 h115, h130, ← EReal.coe_mul]

include h10 in
theorem pay28_at (k : Fin 1024) : k0_pay28 (F := Ideal) v10 v95 v97 v103 v115 p (ix2 (0 : Fin 1) k)
      = p (ix2 (0 : Fin 1) k) + ((∑ a, r a * (E a k * (1 / 1024) * g k - y a k * ((∑ j, E a j * (1 / 1024) * g j * y a j) * (1 / 1024))) * Y a k : ℝ) : EReal) := by
  pointwise [k0_pay28]
  simp only [pay26_at v95 v97 v103 v115 r y E g h95 h97 h103 h115, h10, ← EReal.coe_mul, ← coe_sum]

end Back

end Cert.Kernel4Ideal.Loss

end
-- ==== Proof.Norm.Rows.lean ====
module

public import Idealize.ShloMosaic.Lib.Pipeline.ValueKit
public import Idealize.ShloMosaic.Lib.WritesUnit

/-! Single rows stored over a block of rows, and what is read of them afterwards. -/

@[expose] public section

noncomputable section

namespace Cert.Rows

open Idealize.ShloMosaic

theorem of_ix2 {n k : ℕ} {X Y : (⟨2, ![n, k]⟩ : Shape).Idx → EReal} (h : ∀ i j, X (ix2 i j) = Y (ix2 i j)) : X = Y := by
  funext j
  rw [show j = ix2 (j 0) (j 1) from funext fun a => by fin_cases a <;> rfl]
  exact h _ _

/-- A load of part of a block reads the block at the index moved. -/
theorem ld_at {n m a b o p : ℕ} {e : EltTy} (X : (⟨2, ![n, m]⟩ : Shape).Idx → Elt Ideal e) (inb : ∀ q : Fin 2, (![o, p] : Fin 2 → ℕ) q + (![a, b] : Fin 2 → ℕ) q ≤ (![n, m] : Fin 2 → ℕ) q)
    (i : Fin a) (j : Fin b) (i' : Fin n) (j' : Fin m) (hi : o + i.val = i'.val) (hj : p + j.val = j'.val) :
    View.ld (Val := Elt Ideal) (e' := e) X (Rect.unit (s := ⟨2, ![n, m]⟩) ![o, p] ![a, b] inb) (ix2 i j) = X (ix2 i' j') := by
  have : (Rect.unit (s := ⟨2, ![n, m]⟩) ![o, p] ![a, b] inb).emb (ix2 i j) = ix2 i' j' := by
    funext q
    refine Fin.ext ?_
    fin_cases q
    · show o + 1 * i.val = i'.val
      omega
    · show p + 1 * j.val = j'.val
      omega
  rw [← this]
  rfl

/-- The same for a block of three axes of which a single slab is loaded. -/
theorem ld_slab {l n m a b o p q : ℕ} {e : EltTy} (X : (⟨3, ![l, n, m]⟩ : Shape).Idx → Elt Ideal e) (inb : ∀ d : Fin 3, (![o, p, q] : Fin 3 → ℕ) d + (![1, a, b] : Fin 3 → ℕ) d ≤ (![l, n, m] : Fin 3 → ℕ) d)
    (i : Fin a) (j : Fin b) (h : Fin l) (i' : Fin n) (j' : Fin m) (hh : o = h.val) (hi : p + i.val = i'.val) (hj : q + j.val = j'.val) :
    View.ld (Val := Elt Ideal) (e' := e) X (Rect.unit (s := ⟨3, ![l, n, m]⟩) ![o, p, q] ![1, a, b] inb) (ix3 (0 : Fin 1) i j) = X (ix3 h i' j') := by
  have : (Rect.unit (s := ⟨3, ![l, n, m]⟩) ![o, p, q] ![1, a, b] inb).emb (ix3 (0 : Fin 1) i j) = ix3 h i' j' := by
    funext d
    refine Fin.ext ?_
    fin_cases d
    · show o + 1 * 0 = h.val
      omega
    · show p + 1 * i.val = i'.val
      omega
    · show q + 1 * j.val = j'.val
      omega
  exact congrArg X this

/-! ### Two halves of a block of 1024 rows -/

abbrev Whole : Shape := ⟨2, ![1024, 1024]⟩
abbrev Half : Shape := ⟨2, ![512, 1024]⟩

section Halves

variable {o : ℕ} {e : EltTy} (inb : ∀ a : Fin 2, (![o, 0] : Fin 2 → ℕ) a + (![512, 1024] : Fin 2 → ℕ) a ≤ (![1024, 1024] : Fin 2 → ℕ) a)
  (w : Half.Idx → Elt Ideal e) (L : List (View.Piece (Elt Ideal) Whole e)) (i : Fin 1024) (a : Fin 512) (k : Fin 1024)

theorem emb_half (h : i.val = o + a.val) : (Rect.unit (s := Whole) ![o, 0] ![512, 1024] inb).emb (ix2 a k) = ix2 i k := by
  funext q
  refine Fin.ext ?_
  fin_cases q
  · show o + 1 * a.val = i.val
    omega
  · show 0 + 1 * k.val = k.val
    omega

theorem canon_hit (h : i.val = o + a.val) : View.canon ((⟨Rect.unit (s := Whole) ![o, 0] ![512, 1024] inb, w⟩ : View.Piece (Elt Ideal) Whole e) :: L) (ix2 i k) = w (ix2 a k) := by
  rw [← emb_half inb i a k h]
  exact View.canon_cons_emb (Rect.unit (s := Whole) ![o, 0] ![512, 1024] inb) w L _

theorem canon_miss (h : i.val < o ∨ o + 512 ≤ i.val) :
    View.canon ((⟨Rect.unit (s := Whole) ![o, 0] ![512, 1024] inb, w⟩ : View.Piece (Elt Ideal) Whole e) :: L) (ix2 i k) = View.canon L (ix2 i k) :=
  View.canon_cons_of_not_mem _ L fun hy => by
    have : o ≤ i.val ∧ i.val < o + 512 := ((Rect.mem_set_unit (inb := inb)).1 hy) (0 : Fin 2)
    omega

end Halves

/-! ### Rows of 1024 in a block of eight -/

abbrev Sum8 : Shape := ⟨2, ![8, 1024]⟩
abbrev Row1 : Shape := ⟨2, ![1, 1024]⟩

section Eight

variable {o : ℕ} (inb : ∀ a : Fin 2, (![o, 0] : Fin 2 → ℕ) a + (![1, 1024] : Fin 2 → ℕ) a ≤ (![8, 1024] : Fin 2 → ℕ) a)
  (w : FVec Ideal Row1 .f32) (L : List (View.Piece (Elt Ideal) Sum8 .f32)) (i : Fin 8) (k : Fin 1024)

theorem emb_row (i : Fin 8) (h : i.val = o) : (Rect.unit (s := Sum8) ![o, 0] ![1, 1024] inb).emb (ix2 (0 : Fin 1) k) = ix2 i k := by
  funext a
  refine Fin.ext ?_
  fin_cases a
  · show o + 1 * 0 = i.val
    omega
  · show 0 + 1 * k.val = k.val
    omega

theorem canon_hit8 (h : i.val = o) : View.canon ((⟨Rect.unit (s := Sum8) ![o, 0] ![1, 1024] inb, w⟩ : View.Piece (Elt Ideal) Sum8 .f32) :: L) (ix2 i k) = w (ix2 (0 : Fin 1) k) := by
  rw [← emb_row inb k i h]
  exact View.canon_cons_emb (Rect.unit (s := Sum8) ![o, 0] ![1, 1024] inb) w L _

theorem canon_miss8 (h : i.val ≠ o) : View.canon ((⟨Rect.unit (s := Sum8) ![o, 0] ![1, 1024] inb, w⟩ : View.Piece (Elt Ideal) Sum8 .f32) :: L) (ix2 i k) = View.canon L (ix2 i k) :=
  View.canon_cons_of_not_mem _ L fun hy => h (by
    have : o ≤ i.val ∧ i.val < o + 1 := ((Rect.mem_set_unit (inb := inb)).1 hy) (0 : Fin 2)
    omega)

theorem canon_whole8 {off : Fin 2 → ℕ} (inb : ∀ a, off a + Sum8.size a ≤ Sum8.size a) (Z : FVec Ideal Sum8 .f32) (h : ∀ a, off a = 0) (i : Fin 8) (k : Fin 1024) (L : List (View.Piece (Elt Ideal) Sum8 .f32)) :
    View.canon ((⟨Rect.unit (s := Sum8) off ![8, 1024] inb, Z⟩ : View.Piece (Elt Ideal) Sum8 .f32) :: L) (ix2 i k) = Z (ix2 i k) := by
  rw [View.canon_cons_unit_zero (S := Sum8) (funext h) inb Z L]

variable {sig : RefSig} {κ : Kind} {sp : Space} (v : View sig κ sp Sum8 .f32) (f : v.ty.Contents (Elt Ideal))

theorem read_hit8 (h : i.val = o) : v.read (Elt Ideal) (v.writes (Elt Ideal) f ((⟨Rect.unit (s := Sum8) ![o, 0] ![1, 1024] inb, w⟩ : View.Piece (Elt Ideal) Sum8 .f32) :: L)) (ix2 i k) = w (ix2 (0 : Fin 1) k) :=
  View.read_writes_cons_rows_of_mem (d := ![8, 1024]) v f inb w L _ (ix2 (0 : Fin 1) k) rfl h rfl

theorem read_miss8 (h : i.val ≠ o) : v.read (Elt Ideal) (v.writes (Elt Ideal) f ((⟨Rect.unit (s := Sum8) ![o, 0] ![1, 1024] inb, w⟩ : View.Piece (Elt Ideal) Sum8 .f32) :: L)) (ix2 i k)
    = v.read (Elt Ideal) (v.writes (Elt Ideal) f L) (ix2 i k) :=
  View.read_writes_cons_rows_of_not_mem (d := ![8, 1024]) (W := 1) v f inb w L _ rfl rfl (by show i.val < o ∨ o + 1 ≤ i.val; omega)

theorem readCov8 (h : i.val = o) (P : List (View.Piece (Elt Ideal) Sum8 .f32)) : v.readCov P (Rect.unit (s := Sum8) ![o, 0] ![1, 1024] inb).toLoadRect (ix2 (0 : Fin 1) k) = View.canon P (ix2 i k) := by
  rw [View.readCov_eq_canon' v P (Rect.unit (s := Sum8) ![o, 0] ![1, 1024] inb).toLoadRect, ← emb_row inb k i h]
  rfl

theorem ld8 (h : i.val = o) (P : FVec Ideal Sum8 .f32) : View.ld (Val := Elt Ideal) (e' := .f32) P (Rect.unit (s := Sum8) ![o, 0] ![1, 1024] inb) (ix2 (0 : Fin 1) k) = P (ix2 i k) := by
  rw [← emb_row inb k i h]
  rfl

end Eight

end Cert.Rows

end
-- ==== Proof.Loss.Blocks.lean ====
module

public import proofs.«01_k».proof.Proof.Loss.Pay
public import proofs.«01_k».proof.Proof.Norm.Rows
public import Idealize.ShloMosaic.Lib.StableHlo.RunRead
public import Idealize.ShloMosaic.Lib.Pipeline.ReadBack

/-! The three results as the eight blocks leave them, over the reals. -/

@[expose] public section

set_option maxRecDepth 16384

noncomputable section

namespace Cert.Kernel4Ideal.Loss

open Idealize.ShloMosaic TcCoe Idealize.SL.Sem Cert.Reals
open Cert.Kernel4Ideal Gen
open Idealize.ShloMosaic.Pipeline (Dat)

/-- The real arguments: `A` the activations, `W` the weight, `x` the rows before, `T` the target, `ga` the gate, `g` the last norm's scale. -/
structure Args where
  A : Fin 8192 → Fin 2816 → ℝ
  W : Fin 2816 → Fin 1024 → ℝ
  x : Fin 8192 → Fin 1024 → ℝ
  T : Fin 8192 → Fin 1024 → ℝ
  ga : Fin 1024 → ℝ
  g : Fin 1024 → ℝ

variable (R : Args)

/-- The product. -/
def Args.Y (r : Fin 8192) (k : Fin 1024) : ℝ := ∑ j, R.A r j * R.W j k
/-- The rows the norm is taken of. -/
def Args.X (r : Fin 8192) (k : Fin 1024) : ℝ := R.x r k + R.ga k * R.Y r k
/-- The error. -/
def Args.E (r : Fin 8192) (k : Fin 1024) : ℝ := R.X r k * rs (R.X r) * R.g k - R.T r k
/-- The cotangent of the rows. -/
def Args.dx (r : Fin 8192) (k : Fin 1024) : ℝ := normBack (R.X r) (fun j => R.E r j * (1 / 1024) * R.g j) k
/-- What row `r` adds to the sums of the gate, the norm's scale and the loss. -/
def Args.part (i : ℕ) (r : Fin 8192) (k : Fin 1024) : ℝ :=
  if i = 0 then R.dx r k * R.Y r k else if i = 1 then R.E r k * (1 / 1024) * (R.X r k * rs (R.X r)) else if i = 2 then 1 / 2 * ((∑ j, R.E r j * R.E r j) * (1 / 1024)) else 0

/-- The cotangents of the rows and of the product as arrays. -/
def Args.DX : FVec Ideal S8192x1024 .f32 := fun j => ((R.dx (j 0) (j 1) : ℝ) : EReal)
def Args.DY : FVec Ideal S8192x1024 .bf16 := fun j => ((R.ga (j 1) * R.dx (j 0) (j 1) : ℝ) : EReal)

theorem Args.part_rest {i : ℕ} (hi : 3 ≤ i) (r : Fin 8192) (k : Fin 1024) : R.part i r k = 0 := by
  unfold Args.part; rw [if_neg (by omega), if_neg (by omega), if_neg (by omega)]

theorem Args.part0 (r : Fin 8192) (k : Fin 1024) : R.part 0 r k = R.dx r k * R.Y r k := rfl
theorem Args.part1 (r : Fin 8192) (k : Fin 1024) : R.part 1 r k = R.E r k * (1 / 1024) * (R.X r k * rs (R.X r)) := by
  unfold Args.part; rw [if_neg (by decide), if_pos rfl]
theorem Args.part2 (r : Fin 8192) (k : Fin 1024) : R.part 2 r k = 1 / 2 * ((∑ j, R.E r j * R.E r j) * (1 / 1024)) := by
  unfold Args.part; rw [if_neg (by decide), if_neg (by decide), if_pos rfl]

variable (m : (ℓ : Loc nD τ sig) → Buf (Elt Ideal) ℓ)

/-- The arguments in memory are the real ones. -/
structure Holds (c : Dev nD) : Prop where
  A : ∀ r j, (m (c.tc.loc main_arg0) : FVec Ideal S8192x2816 .bf16) (ix2 r j) = ((R.A r j : ℝ) : EReal)
  W : ∀ j k, (m (c.tc.loc main_arg1) : FVec Ideal S1x2816x1024 .f32) (ix3 (0 : Fin 1) j k) = ((R.W j k : ℝ) : EReal)
  x : ∀ r k, (m (c.tc.loc main_arg2) : FVec Ideal S8192x1024 .f32) (ix2 r k) = ((R.x r k : ℝ) : EReal)
  T : ∀ r k, (m (c.tc.loc main_arg3) : FVec Ideal S8192x1024 .f32) (ix2 r k) = ((R.T r k : ℝ) : EReal)
  ga : ∀ k, (m (c.tc.loc main_arg4) : FVec Ideal S1x1024 .f32) (ix2 (0 : Fin 1) k) = ((R.ga k : ℝ) : EReal)
  g : ∀ k, (m (c.tc.loc main_arg5) : FVec Ideal S1024 .f32) (ix1 k) = ((R.g k : ℝ) : EReal)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![0, 0] :=
  (by decide +kernel : ∀ t : Fin grid0.N, _)

/-- Row `a` of block `t`. -/
def row (t : Fin cfg0.N) (a : Fin 1024) : Fin 8192 := ⟨1024 * t.val + a.val, by have : cfg0.N = 8 := N_0; omega⟩

/-- Row `a` of the half of block `t` from row `o` on. -/
def half (t : Fin cfg0.N) (o : ℕ) (ho : o ≤ 512) (a : Fin 512) : Fin 8192 := row t ⟨o + a.val, by omega⟩

variable {R m} {c : Dev nD} (h : Holds R m c) (t : Fin cfg0.N)
include h

theorem blk0 (a : Fin 1024) (j : Fin 2816) : (iblk m c 0 t : FVec Ideal S1024x2816 .bf16) (ix2 a j) = ((R.A (row t a) j : ℝ) : EReal) := by
  refine Eq.trans ?_ (h.A (row t a) j)
  blk_point [iblk, V, idx t, row]

theorem blk1 (j : Fin 2816) (k : Fin 1024) : (iblk m c 1 t : FVec Ideal S2816x1024 .bf16) (ix2 j k) = ((R.W j k : ℝ) : EReal) := by
  refine Eq.trans ?_ (h.W j k)
  blk_point [iblk, V, idx t]

theorem blk2 (a k : Fin 1024) : (iblk m c 2 t : FVec Ideal S1024x1024 .f32) (ix2 a k) = ((R.x (row t a) k : ℝ) : EReal) := by
  refine Eq.trans ?_ (h.x (row t a) k)
  blk_point [iblk, V, idx t, row]

theorem blk3 (a k : Fin 1024) : (iblk m c 3 t : FVec Ideal S1024x1024 .f32) (ix2 a k) = ((R.T (row t a) k : ℝ) : EReal) := by
  refine Eq.trans ?_ (h.T (row t a) k)
  blk_point [iblk, V, idx t, row]

theorem blk4 (k : Fin 1024) : (iblk m c 4 t : FVec Ideal S1x1024 .f32) (ix2 (0 : Fin 1) k) = ((R.ga k : ℝ) : EReal) := by
  refine Eq.trans ?_ (h.ga k)
  blk_point [iblk, V, idx t]

theorem blk5 (k : Fin 1024) : (iblk m c 5 t : FVec Ideal S1x1024 .f32) (ix2 (0 : Fin 1) k) = ((R.g k : ℝ) : EReal) := by
  refine Eq.trans ?_ (h.g k)
  blk_point [iblk, V, idx t]

section Halves

variable (o : ℕ) (ho : o ≤ 512) (inbA : ∀ a : Fin 2, (![o, 0] : Fin 2 → ℕ) a + (![512, 2816] : Fin 2 → ℕ) a ≤ (![1024, 2816] : Fin 2 → ℕ) a)
  (inb : ∀ a : Fin 2, (![o, 0] : Fin 2 → ℕ) a + (![512, 1024] : Fin 2 → ℕ) a ≤ (![1024, 1024] : Fin 2 → ℕ) a)

variable (m c) in
/-- The loads of a half. -/
abbrev ldA : FVec Ideal S512x2816 .bf16 := View.ld (Val := Elt Ideal) (e' := .bf16) (iblk m c 0 t : FVec Ideal S1024x2816 .bf16) (Rect.unit (s := S1024x2816) ![o, 0] ![512, 2816] inbA)
variable (m c) in
abbrev ldX : FVec Ideal S512x1024 .f32 := View.ld (Val := Elt Ideal) (e' := .f32) (iblk m c 2 t : FVec Ideal S1024x1024 .f32) (Rect.unit (s := S1024x1024) ![o, 0] ![512, 1024] inb)
variable (m c) in
abbrev ldT : FVec Ideal S512x1024 .f32 := View.ld (Val := Elt Ideal) (e' := .f32) (iblk m c 3 t : FVec Ideal S1024x1024 .f32) (Rect.unit (s := S1024x1024) ![o, 0] ![512, 1024] inb)

theorem ldX_at (a : Fin 512) (k : Fin 1024) : ldX m c t o inb (ix2 a k) = ((R.x (half t o ho a) k : ℝ) : EReal) := by
  refine (Rows.ld_at (n := 1024) (m := 1024) (o := o) (p := 0) _ _ a k ⟨o + a.val, by omega⟩ k rfl (Nat.zero_add _)).trans ?_
  exact blk2 h t _ k

theorem ldT_at (a : Fin 512) (k : Fin 1024) : ldT m c t o inb (ix2 a k) = ((R.T (half t o ho a) k : ℝ) : EReal) := by
  refine (Rows.ld_at (n := 1024) (m := 1024) (o := o) (p := 0) _ _ a k ⟨o + a.val, by omega⟩ k rfl (Nat.zero_add _)).trans ?_
  exact blk3 h t _ k

theorem Y_at (a : Fin 512) (k : Fin 1024) : k0_pay5 (F := Ideal) (ldA m c t o inbA) (iblk m c 1 t) (ix2 a k) = ((R.Y (half t o ho a) k : ℝ) : EReal) := by
  refine pay5_at _ _ (fun a => R.A (half t o ho a)) R.W (fun a j => ?_) (blk1 h t) a k
  refine (Rows.ld_at (n := 1024) (m := 2816) (o := o) (p := 0) _ _ a j ⟨o + a.val, by omega⟩ j rfl (Nat.zero_add _)).trans ?_
  exact blk0 h t _ j

/-! What a half computes of its loads. -/

variable (m c) in
abbrev LY : FVec Ideal S512x1024 .f32 := k0_pay5 (F := Ideal) (ldA m c t o inbA) (iblk m c 1 t)
variable (m c) in
abbrev Lr : FVec Ideal S512x1 .f32 := k0_pay19 (F := Ideal) (LY m c t o inbA) (ldX m c t o inb) (iblk m c 4 t)
variable (m c) in
abbrev Ly : FVec Ideal S512x1024 .f32 := k0_pay20 (F := Ideal) (LY m c t o inbA) (ldX m c t o inb) (iblk m c 4 t)
variable (m c) in
abbrev LE : FVec Ideal S512x1024 .f32 := k0_pay21 (F := Ideal) (LY m c t o inbA) (ldX m c t o inb) (iblk m c 4 t) (iblk m c 5 t) (ldT m c t o inb)

theorem r_at (a : Fin 512) : Lr m c t o inbA inb (ix2 a (0 : Fin 1)) = ((rs (R.X (half t o ho a)) : ℝ) : EReal) :=
  pay19_at _ _ _ _ _ _ (Y_at h t o ho inbA) (ldX_at h t o ho inb) (blk4 h t) a

theorem y_at (a : Fin 512) (k : Fin 1024) : Ly m c t o inbA inb (ix2 a k) = ((R.X (half t o ho a) k * rs (R.X (half t o ho a)) : ℝ) : EReal) :=
  pay20_at _ _ _ _ _ _ (Y_at h t o ho inbA) (ldX_at h t o ho inb) (blk4 h t) a k

theorem E_at (a : Fin 512) (k : Fin 1024) : LE m c t o inbA inb (ix2 a k) = ((R.E (half t o ho a) k : ℝ) : EReal) :=
  pay21_at _ _ _ _ _ _ _ _ _ _ (Y_at h t o ho inbA) (ldX_at h t o ho inb) (ldT_at h t o ho inb) (blk4 h t) (blk5 h t) a k

theorem dx_at (a : Fin 512) (k : Fin 1024) :
    k0_pay26 (F := Ideal) (Lr m c t o inbA inb) (Ly m c t o inbA inb) (LE m c t o inbA inb) (iblk m c 5 t) (ix2 a k) = ((R.dx (half t o ho a) k : ℝ) : EReal) :=
  pay26_at _ _ _ _ _ _ _ _ (r_at h t o ho inbA inb) (y_at h t o ho inbA inb) (E_at h t o ho inbA inb) (blk5 h t) a k

theorem dy_at (a : Fin 512) (k : Fin 1024) :
    k0_pay27 (F := Ideal) (Lr m c t o inbA inb) (Ly m c t o inbA inb) (LE m c t o inbA inb) (iblk m c 5 t) (iblk m c 4 t) (ix2 a k)
      = ((R.ga k * R.dx (half t o ho a) k : ℝ) : EReal) :=
  pay27_at _ _ _ _ _ _ _ _ _ _ (r_at h t o ho inbA inb) (y_at h t o ho inbA inb) (E_at h t o ho inbA inb) (blk5 h t) (blk4 h t) a k

theorem row0_at (p : FVec Ideal S1x1024 .f32) (k : Fin 1024) :
    k0_pay28 (F := Ideal) (LY m c t o inbA) (Lr m c t o inbA inb) (Ly m c t o inbA inb) (LE m c t o inbA inb) (iblk m c 5 t) p (ix2 (0 : Fin 1) k)
      = p (ix2 (0 : Fin 1) k) + ((∑ a, R.part 0 (half t o ho a) k : ℝ) : EReal) :=
  pay28_at _ _ _ _ _ _ _ _ _ _ _ (Y_at h t o ho inbA) (r_at h t o ho inbA inb) (y_at h t o ho inbA inb) (E_at h t o ho inbA inb) (blk5 h t) k

theorem row1_at (p : FVec Ideal S1x1024 .f32) (k : Fin 1024) :
    k0_pay1 (F := Ideal) (k0_pay29 p) (k0_pay30 (Ly m c t o inbA inb) (LE m c t o inbA inb)) (ix2 (0 : Fin 1) k)
      = p (ix2 (0 : Fin 1) k) + ((∑ a, R.part 1 (half t o ho a) k : ℝ) : EReal) := by
  simp only [R.part1]
  exact pay30_at _ _ _ _ _ (y_at h t o ho inbA inb) (E_at h t o ho inbA inb) k

theorem row2_at (p : FVec Ideal S1x1024 .f32) (k : Fin 1024) :
    k0_pay2 (F := Ideal) (k0_pay24 (k0_pay22 (LY m c t o inbA) (ldX m c t o inb) (iblk m c 4 t) (iblk m c 5 t) (ldT m c t o inb)) k0_pay23) p (ix2 (0 : Fin 1) k)
      = p (ix2 (0 : Fin 1) k) + ((∑ a, R.part 2 (half t o ho a) k : ℝ) : EReal) := by
  simp only [R.part2]
  exact pay2_at _ _ _ _ _ _ _ _ _ _ (Y_at h t o ho inbA) (ldX_at h t o ho inb) (ldT_at h t o ho inb) (blk4 h t) (blk5 h t) p k

end Halves

omit h in
theorem half_lo (a : Fin 1024) (ha : a.val < 512) : half t 0 (by decide) ⟨a.val, ha⟩ = row t a := congrArg (row t) (Fin.ext (Nat.zero_add _))
omit h in
theorem half_hi (a : Fin 1024) (ha : ¬ a.val < 512) : half t 512 (by decide) ⟨a.val - 512, by omega⟩ = row t a := congrArg (row t) (Fin.ext (by show 512 + (a.val - 512) = a.val; omega))

omit h in
theorem sum_halves (f : Fin 8192 → ℝ) : (∑ a, f (half t 0 (by decide) a)) + (∑ a, f (half t 512 (by decide) a)) = ∑ a, f (row t a) := by
  rw [show (∑ a, f (row t a)) = ∑ a : Fin (512 + 512), f (row t a) from rfl, Fin.sum_univ_add]
  refine congrArg₂ (· + ·) (Finset.sum_congr rfl fun a _ => congrArg f (congrArg (row t) (Fin.ext (Nat.zero_add _)))) (Finset.sum_congr rfl fun a _ => rfl)

theorem out6 (a k : Fin 1024) : (outsAt0 m c t.val t.isLt).1 (ix2 a k) = ((R.dx (row t a) k : ℝ) : EReal) := by
  have lo := dx_at h t 0 (by decide) inb_S1024x2816_S512x2816_0_0 inb_S1024x1024_S512x1024_0_0
  have hi := dx_at h t 512 (by decide) inb_S1024x2816_S512x2816_512_0 inb_S1024x1024_S512x1024_512_0
  by_cases h0 : t.val % 8 = 0
  · rw [outsAt0_A m c t h0]
    frame_out
    by_cases ha : a.val < 512
    · refine (Rows.canon_miss _ _ _ _ _ (Or.inl ha)).trans ((Rows.canon_hit _ _ _ _ ⟨a.val, ha⟩ _ (Nat.zero_add _).symm).trans ?_)
      rw [pay13_eq, pay7_eq, pay8_eq, pay9_eq, ← half_lo t a ha]
      exact lo _ k
    · refine (Rows.canon_hit _ _ _ _ ⟨a.val - 512, by omega⟩ _ (by show a.val = 512 + (a.val - 512); omega)).trans ?_
      rw [← half_hi t a ha]
      exact hi _ k
  · rw [outsAt0_B m c t h0]
    frame_out
    by_cases ha : a.val < 512
    · refine (Rows.canon_miss _ _ _ _ _ (Or.inl ha)).trans ((Rows.canon_hit _ _ _ _ ⟨a.val, ha⟩ _ (Nat.zero_add _).symm).trans ?_)
      rw [pay13_eq, pay7_eq, pay8_eq, pay9_eq, ← half_lo t a ha]
      exact lo _ k
    · refine (Rows.canon_hit _ _ _ _ ⟨a.val - 512, by omega⟩ _ (by show a.val = 512 + (a.val - 512); omega)).trans ?_
      rw [← half_hi t a ha]
      exact hi _ k

theorem out7 (a k : Fin 1024) : (outsAt0 m c t.val t.isLt).2.1 (ix2 a k) = ((R.ga k * R.dx (row t a) k : ℝ) : EReal) := by
  have lo := dy_at h t 0 (by decide) inb_S1024x2816_S512x2816_0_0 inb_S1024x1024_S512x1024_0_0
  have hi := dy_at h t 512 (by decide) inb_S1024x2816_S512x2816_512_0 inb_S1024x1024_S512x1024_512_0
  by_cases h0 : t.val % 8 = 0
  · rw [outsAt0_A m c t h0]
    frame_out
    by_cases ha : a.val < 512
    · refine (Rows.canon_miss _ _ _ _ _ (Or.inl ha)).trans ((Rows.canon_hit _ _ _ _ ⟨a.val, ha⟩ _ (Nat.zero_add _).symm).trans ?_)
      rw [pay14_eq, pay7_eq, pay8_eq, pay9_eq, ← half_lo t a ha]
      exact lo _ k
    · refine (Rows.canon_hit _ _ _ _ ⟨a.val - 512, by omega⟩ _ (by show a.val = 512 + (a.val - 512); omega)).trans ?_
      rw [← half_hi t a ha]
      exact hi _ k
  · rw [outsAt0_B m c t h0]
    frame_out
    by_cases ha : a.val < 512
    · refine (Rows.canon_miss _ _ _ _ _ (Or.inl ha)).trans ((Rows.canon_hit _ _ _ _ ⟨a.val, ha⟩ _ (Nat.zero_add _).symm).trans ?_)
      rw [pay14_eq, pay7_eq, pay8_eq, pay9_eq, ← half_lo t a ha]
      exact lo _ k
    · refine (Rows.canon_hit _ _ _ _ ⟨a.val - 512, by omega⟩ _ (by show a.val = 512 + (a.val - 512); omega)).trans ?_
      rw [← half_hi t a ha]
      exact hi _ k

omit h in
theorem zero_at (i : Fin 8) (k : Fin 1024) : k0_pay3 (F := Ideal) (ix2 i k) = 0 := by
  pointwise [k0_pay3]

theorem next (i : Fin 8) (k : Fin 1024) (h0 : ¬ t.val % 8 = 0) :
    (outsAt0 m c t.val t.isLt).2.2 (ix2 i k)
      = (outsAt0 m c (t.val - 1) (Nat.lt_of_le_of_lt (Nat.sub_le _ _) t.isLt)).2.2 (ix2 i k) + ((∑ a, R.part i.val (row t a) k : ℝ) : EReal) := by
  have lo0 := row0_at h t 0 (by decide) inb_S1024x2816_S512x2816_0_0 inb_S1024x1024_S512x1024_0_0
  have lo1 := row1_at h t 0 (by decide) inb_S1024x2816_S512x2816_0_0 inb_S1024x1024_S512x1024_0_0
  have lo2 := row2_at h t 0 (by decide) inb_S1024x2816_S512x2816_0_0 inb_S1024x1024_S512x1024_0_0
  have hi0 := row0_at h t 512 (by decide) inb_S1024x2816_S512x2816_512_0 inb_S1024x1024_S512x1024_512_0
  have hi1 := row1_at h t 512 (by decide) inb_S1024x2816_S512x2816_512_0 inb_S1024x1024_S512x1024_512_0
  have hi2 := row2_at h t 512 (by decide) inb_S1024x2816_S512x2816_512_0 inb_S1024x1024_S512x1024_512_0
  rw [← sum_halves t fun r => R.part i.val r k, EReal.coe_add, ← add_assoc]
  rw [outsAt0_B m c t h0]; frame_out
  simp only [pay4_eq, pay7_eq, pay8_eq, pay9_eq, pay11_eq, pay15_eq, pay16_eq, pay17_eq]
  by_cases i2 : i.val = 2
  · rw [i2]
    refine (Rows.read_hit8 _ _ _ _ _ _ _ i2).trans ((hi2 _ k).trans (congrArg (· + _) ((Rows.readCov8 _ _ _ _ i2 _).trans
      ((Rows.canon_miss8 _ _ _ _ _ (by omega)).trans ((Rows.canon_miss8 _ _ _ _ _ (by omega)).trans ((Rows.canon_hit8 _ _ _ _ _ i2).trans
        ((lo2 _ k).trans (congrArg (· + _) (Rows.ld8 _ _ _ i2 _)))))))))
  refine (Rows.read_miss8 _ _ _ _ _ _ _ i2).trans ?_
  by_cases i1 : i.val = 1
  · rw [i1]
    refine (Rows.read_hit8 _ _ _ _ _ _ _ i1).trans ((hi1 _ k).trans (congrArg (· + _) ((Rows.readCov8 _ _ _ _ i1 _).trans
      ((Rows.canon_miss8 _ _ _ _ _ (by omega)).trans ((Rows.canon_miss8 _ _ _ _ _ (by omega)).trans ((Rows.canon_hit8 _ _ _ _ _ i1).trans
        ((lo1 _ k).trans (congrArg (· + _) (Rows.ld8 _ _ _ i1 _)))))))))
  refine (Rows.read_miss8 _ _ _ _ _ _ _ i1).trans ?_
  by_cases i0 : i.val = 0
  · rw [i0]
    refine (Rows.read_hit8 _ _ _ _ _ _ _ i0).trans ((hi0 _ k).trans (congrArg (· + _) ((Rows.readCov8 _ _ _ _ i0 _).trans
      ((Rows.canon_miss8 _ _ _ _ _ (by omega)).trans ((Rows.canon_miss8 _ _ _ _ _ (by omega)).trans ((Rows.canon_hit8 _ _ _ _ _ i0).trans
        ((lo0 _ k).trans (congrArg (· + _) (Rows.ld8 _ _ _ i0 _)))))))))
  refine (Rows.read_miss8 _ _ _ _ _ _ _ i0).trans ((Rows.read_miss8 _ _ _ _ _ _ _ i2).trans ((Rows.read_miss8 _ _ _ _ _ _ _ i1).trans
    ((Rows.read_miss8 _ _ _ _ _ _ _ i0).trans ?_)))
  simp only [R.part_rest (show 3 ≤ i.val by omega), Finset.sum_const_zero, EReal.coe_zero, add_zero, View.writes_nil, Memref.IsWhole.read_unread]

theorem first (i : Fin 8) (k : Fin 1024) (h0 : t.val % 8 = 0) :
    (outsAt0 m c t.val t.isLt).2.2 (ix2 i k) = ((∑ a, R.part i.val (row t a) k : ℝ) : EReal) := by
  have lo0 := row0_at h t 0 (by decide) inb_S1024x2816_S512x2816_0_0 inb_S1024x1024_S512x1024_0_0
  have lo1 := row1_at h t 0 (by decide) inb_S1024x2816_S512x2816_0_0 inb_S1024x1024_S512x1024_0_0
  have lo2 := row2_at h t 0 (by decide) inb_S1024x2816_S512x2816_0_0 inb_S1024x1024_S512x1024_0_0
  have hi0 := row0_at h t 512 (by decide) inb_S1024x2816_S512x2816_512_0 inb_S1024x1024_S512x1024_512_0
  have hi1 := row1_at h t 512 (by decide) inb_S1024x2816_S512x2816_512_0 inb_S1024x1024_S512x1024_512_0
  have hi2 := row2_at h t 512 (by decide) inb_S1024x2816_S512x2816_512_0 inb_S1024x1024_S512x1024_512_0
  rw [← sum_halves t fun r => R.part i.val r k, EReal.coe_add]
  rw [outsAt0_A m c t h0]; frame_out
  simp only [pay4_eq, pay7_eq, pay8_eq, pay9_eq, pay11_eq, pay15_eq, pay16_eq, pay17_eq]
  by_cases i2 : i.val = 2
  · rw [i2]
    refine (Rows.canon_hit8 _ _ _ _ _ i2).trans ((hi2 _ k).trans (congrArg (· + _) ((Rows.readCov8 _ _ _ _ i2 _).trans
      ((Rows.canon_miss8 _ _ _ _ _ (by omega)).trans ((Rows.canon_miss8 _ _ _ _ _ (by omega)).trans ((Rows.canon_hit8 _ _ _ _ _ i2).trans
        ((lo2 _ k).trans ((congrArg (· + _) ((Rows.readCov8 _ _ _ _ i2 _).trans ((Rows.canon_miss8 _ _ _ _ _ (by omega)).trans
          ((Rows.canon_miss8 _ _ _ _ _ (by omega)).trans ((Rows.canon_whole8 _ _ (by decide) _ _ _).trans (zero_at i k)))))).trans (zero_add _)))))))))
  refine (Rows.canon_miss8 _ _ _ _ _ i2).trans ?_
  by_cases i1 : i.val = 1
  · rw [i1]
    refine (Rows.canon_hit8 _ _ _ _ _ i1).trans ((hi1 _ k).trans (congrArg (· + _) ((Rows.readCov8 _ _ _ _ i1 _).trans
      ((Rows.canon_miss8 _ _ _ _ _ (by omega)).trans ((Rows.canon_miss8 _ _ _ _ _ (by omega)).trans ((Rows.canon_hit8 _ _ _ _ _ i1).trans
        ((lo1 _ k).trans ((congrArg (· + _) ((Rows.readCov8 _ _ _ _ i1 _).trans ((Rows.canon_miss8 _ _ _ _ _ (by omega)).trans
          ((Rows.canon_whole8 _ _ (by decide) _ _ _).trans (zero_at i k))))).trans (zero_add _)))))))))
  refine (Rows.canon_miss8 _ _ _ _ _ i1).trans ?_
  by_cases i0 : i.val = 0
  · rw [i0]
    refine (Rows.canon_hit8 _ _ _ _ _ i0).trans ((hi0 _ k).trans (congrArg (· + _) ((Rows.readCov8 _ _ _ _ i0 _).trans
      ((Rows.canon_miss8 _ _ _ _ _ (by omega)).trans ((Rows.canon_miss8 _ _ _ _ _ (by omega)).trans ((Rows.canon_hit8 _ _ _ _ _ i0).trans
        ((lo0 _ k).trans ((congrArg (· + _) ((Rows.readCov8 _ _ _ _ i0 _).trans ((Rows.canon_whole8 _ _ (by decide) _ _ _).trans (zero_at i k)))).trans (zero_add _)))))))))
  refine (Rows.canon_miss8 _ _ _ _ _ i0).trans ((Rows.canon_miss8 _ _ _ _ _ i2).trans ((Rows.canon_miss8 _ _ _ _ _ i1).trans
    ((Rows.canon_miss8 _ _ _ _ _ i0).trans ((Rows.canon_whole8 _ _ (by decide) _ _ _).trans ((zero_at i k).trans ?_)))))
  simp only [R.part_rest (show 3 ≤ i.val by omega), Finset.sum_const_zero, EReal.coe_zero, add_zero]

theorem final6 : (dats m 0 c).arrAt 6 (cfgs 0).N = R.DX := by
  refine (dats m 0 c).arrAt_eq_of_covers 6 _ (by decide +kernel) fun t _ y => ?_
  blk_simp
  rw [after0_6]
  refine ((congrArg _ (show (y : S1024x1024.Idx) = ix2 (y 0) (y 1) from funext fun a => by fin_cases a <;> rfl)).trans (out6 h t _ _)).trans ?_
  show R.DX (ix2 (row t (y 0)) (y 1)) = R.DX ((win0_6.blk t).view.emb y)
  generalize R.DX = G
  blk_point [idx t, row]

theorem final7 : (dats m 0 c).arrAt 7 (cfgs 0).N = R.DY := by
  refine (dats m 0 c).arrAt_eq_of_covers 7 _ (by decide +kernel) fun t _ y => ?_
  blk_simp
  rw [after0_7]
  refine ((congrArg _ (show (y : S1024x1024.Idx) = ix2 (y 0) (y 1) from funext fun a => by fin_cases a <;> rfl)).trans (out7 h t _ _)).trans ?_
  show R.DY (ix2 (row t (y 0)) (y 1)) = R.DY ((win0_7.blk t).view.emb y)
  generalize R.DY = G
  blk_point [idx t, row]

theorem final8 (i : Fin 8) (k : Fin 1024) : ((dats m 0 c).arrAt 8 (cfgs 0).N : FVec Ideal S8x1024 .f32) (ix2 i k) = ((∑ r, R.part i.val r k : ℝ) : EReal) := by
  have step : ∀ (t : Fin cfg0.N) (j : S8x1024.Idx), (outsAt0 m c t.val t.isLt).2.2 j
      = (if t.val % 8 = 0 then 0 else (outsAt0 m c (t.val - 1) (Nat.lt_of_le_of_lt (Nat.sub_le _ _) t.isLt)).2.2 j) + ((∑ a, R.part (j 0).val (row t a) (j 1) : ℝ) : EReal) := fun t j => by
    have e : (j : S8x1024.Idx) = ix2 (j 0) (j 1) := funext fun a => by fin_cases a <;> rfl
    rw [e]
    by_cases h0 : t.val % 8 = 0
    · rw [if_pos h0, zero_add]
      exact first h t (j 0) (j 1) h0
    · rw [if_neg h0]
      exact next h t (j 0) (j 1) h0
  refine congrFun ((dats m 0 c).arrAt_eq_of_after_last 8 t0_7 (by decide +kernel) (fun j : S8x1024.Idx => ((∑ r, R.part (j 0).val r (j 1) : ℝ) : EReal)) fun j => ?_) (ix2 i k)
  blk_simp
  rw [after0_8, Pipeline.eq_sum_fin_of_reset_step_apply_last (fun n h => (outsAt0 m c n h).2.2) 8 (fun _ => 0) (fun t j => ((∑ a, R.part (j 0).val (row t a) (j 1) : ℝ) : EReal))
    (fun t h0 j => by rw [step t j, if_pos h0]) (fun t h0 j => by rw [step t j, if_neg h0]) (le_of_eq N_0) t0_7 rfl j, zero_add, ← coe_sum]
  refine congrArg _ (Fin.sum_mul_add_congr (S := 8) (n := 1024) fun t a hl => ?_)
  exact congrArg (fun r => R.part (j 0).val r (j 1)) (Fin.ext (by show 1024 * t.val + a.val = t.val * 1024 + a.val; omega))

end Cert.Kernel4Ideal.Loss

end
-- ==== Proof.Loss.Ref.lean ====
module

public import proofs.«01_k».proof.Proof.Loss.Blocks
public import proofs.«01_k».proof.Proof.Gen.Reference4Ideal.Read

/-! The reference's three results over the reals. -/

@[expose] public section

set_option maxRecDepth 16384

noncomputable section

namespace Cert.Reference4Ideal.Loss

open Idealize.ShloMosaic TcCoe Cert.Reals
open Cert.Reference4Ideal Cert.Reference4Ideal.Read
open Cert.Kernel4Ideal.Loss (Args)

variable (X0 : FVec Ideal S8192x2816 .bf16) (X1 : FVec Ideal S1x2816x1024 .f32) (X2 X3 : FVec Ideal S8192x1024 .f32) (X4 : FVec Ideal S1x1024 .f32) (X5 : FVec Ideal S1024 .f32) (R : Args)

structure Holds : Prop where
  A : ∀ r j, X0 (ix2 r j) = ((R.A r j : ℝ) : EReal)
  W : ∀ j k, X1 (ix3 (0 : Fin 1) j k) = ((R.W j k : ℝ) : EReal)
  x : ∀ r k, X2 (ix2 r k) = ((R.x r k : ℝ) : EReal)
  T : ∀ r k, X3 (ix2 r k) = ((R.T r k : ℝ) : EReal)
  ga : ∀ k, X4 (ix2 (0 : Fin 1) k) = ((R.ga k : ℝ) : EReal)
  g : ∀ k, X5 (ix1 k) = ((R.g k : ℝ) : EReal)

variable {X0 X1 X2 X3 X4 X5 R} (h : Holds X0 X1 X2 X3 X4 X5 R)
include h

theorem Y_at (r : Fin 8192) (k : Fin 1024) : val_main_v2 (F := Ideal) X0 X1 (ix2 r k) = ((R.Y r k : ℝ) : EReal) := by
  pointwise [val_main_v2, val_main_v1, val_main_v0]
  exact coe_dot (h.A r) fun j => h.W j k

theorem X_at (r : Fin 8192) (k : Fin 1024) : val_main_v5 (F := Ideal) X0 X1 X2 X4 (ix2 r k) = ((R.X r k : ℝ) : EReal) := by
  pointwise [val_main_v5, val_main_v4, val_main_v3]
  simp only [Y_at h, h.x, h.ga, ← EReal.coe_mul, ← EReal.coe_add]
  rfl

theorem dx_at (r : Fin 8192) (k : Fin 1024) : val_main_v56 (F := Ideal) X0 X1 X2 X3 X4 X5 (ix2 r k) = ((R.dx r k : ℝ) : EReal) := by
  pointwise [val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_cst_3, val_main_v24, val_main_v25, val_main_cst_4, val_main_v26, val_main_cst_5, val_main_v27, val_main_v28, val_main_cst_6, val_main_v29, val_main_cst_7, val_main_v30, val_main_cst_8, val_main_cst_9, val_main_v31, val_main_v32, val_main_cst_10, val_main_v33, val_main_v34, val_main_v35, val_main_v36, val_main_v37, val_main_cst_11, val_main_v38, val_main_v39, val_main_v40, val_main_v41, val_main_cst_12, val_main_v42, val_main_v43, val_main_cst_13, val_main_v44, val_main_v45, val_main_v46, val_main_v47, val_main_v48, val_main_cst_14, val_main_v49, val_main_v50, val_main_cst_15, val_main_v51, val_main_v52, val_main_v53, val_main_v54, val_main_v55, val_main_v56, val_main_v57, val_main_v58, val_main_v59, val_main_cst_16, val_main_v60, val_main_v61, val_main_v62, val_main_v63, val_main_cst_17, val_main_v64, val_main_v65, val_main_v66]
  simp only [X_at h, h.T, h.g, bits_eps, bits_1024, bits_half, bits_two, bits_neg_half, bits_one, ← EReal.coe_one, ← EReal.coe_mul, ← coe_sum, ← EReal.coe_add, ← EReal.coe_sub, div_1024, rsqrt_ms, div_ms, Finset.univ_unique, Finset.sum_singleton]
  refine congrArg (fun x : ℝ => (x : EReal)) ?_
  unfold Args.dx
  rw [← norm_rule (R.X r) (fun j => R.E r j * (1 / 1024) * R.g j) k]
  have e : ∀ j, 1 / 2 * (1 / 1024) * (2 * (R.X r j * rs (R.X r) * R.g j - R.T r j)) * R.g j = R.E r j * (1 / 1024) * R.g j := fun j => by
    unfold Args.E
    ring
  simp only [e]

theorem st_at (i : Fin 8) (k : Fin 1024) : val_main_v65 (F := Ideal) X0 X1 X2 X3 X4 X5 (ix2 i k) = ((∑ r, R.part i.val r k : ℝ) : EReal) := by
  pointwise [val_main_v6, val_main_cst, val_main_v7, val_main_v8, val_main_cst_0, val_main_v9, val_main_v10, val_main_cst_1, val_main_v11, val_main_v12, val_main_v13, val_main_v14, val_main_cst_2, val_main_v15, val_main_v16, val_main_v17, val_main_v18, val_main_v19, val_main_v20, val_main_v21, val_main_v22, val_main_v23, val_main_cst_3, val_main_v24, val_main_v25, val_main_cst_4, val_main_v26, val_main_cst_5, val_main_v27, val_main_v28, val_main_cst_6, val_main_v29, val_main_cst_7, val_main_v30, val_main_cst_8, val_main_cst_9, val_main_v31, val_main_v32, val_main_cst_10, val_main_v33, val_main_v34, val_main_v35, val_main_v36, val_main_v37, val_main_cst_11, val_main_v38, val_main_v39, val_main_v40, val_main_v41, val_main_cst_12, val_main_v42, val_main_v43, val_main_cst_13, val_main_v44, val_main_v45, val_main_v46, val_main_v47, val_main_v48, val_main_cst_14, val_main_v49, val_main_v50, val_main_cst_15, val_main_v51, val_main_v52, val_main_v53, val_main_v54, val_main_v55, val_main_v57, val_main_v58, val_main_v59, val_main_cst_16, val_main_v60, val_main_v61, val_main_v62, val_main_v63, val_main_cst_17, val_main_v64, val_main_v65, val_main_v66]
  simp only [dx_at h, Y_at h, X_at h, h.T, h.g, bits_eps, bits_1024, bits_half, bits_two, bits_neg_half, bits_one, ← EReal.coe_one, ← EReal.coe_mul, ← coe_sum, ← EReal.coe_add, ← EReal.coe_sub, div_1024, rsqrt_ms, div_ms, Finset.univ_unique, Finset.sum_singleton]
  split_ifs with h0 h1 h2
  · rw [show i.val = 0 by omega]
    rfl
  · rw [show i.val = 1 by omega]
    exact congrArg _ (Finset.sum_congr rfl fun r _ => by rw [R.part1]; unfold Args.E; ring)
  · rw [show i.val = 2 by omega, Finset.mul_sum]
    exact congrArg _ (Finset.sum_congr rfl fun r _ => by rw [R.part2]; rfl)
  · simp only [R.part_rest (show 3 ≤ i.val by omega), Finset.sum_const_zero, EReal.coe_zero]

theorem dy_at (r : Fin 8192) (k : Fin 1024) : val_main_v66 (F := Ideal) X0 X1 X2 X3 X4 X5 (ix2 r k) = ((R.ga k * R.dx r k : ℝ) : EReal) := by
  pointwise [val_main_v66, val_main_v58, val_main_v57]
  simp only [dx_at h, h.ga, ← EReal.coe_mul]

end Cert.Reference4Ideal.Loss

end
-- ==== Proof.Loss.Claim.lean ====
module

public import proofs.«01_k».proof.Defs
public import proofs.«01_k».proof.Proof.Loss.Ref
public import proofs.«01_k».proof.Proof.Mixer.Finite
public import proofs.«01_k».proof.Proof.Gen.Pre_loss_finite

/-! The last product, the last norm and the loss: the kernel's three results are the reference's derivatives and its loss. -/

@[expose] public section

set_option maxRecDepth 16384

noncomputable section

namespace Cert.Pre_loss_finite

open Idealize.ShloMosaic Cert.Mixer Cert.Pre_loss_finite Cert.Pre_loss_finite.Facts

theorem real_args (x0 : FVec Ideal S8192x2816 .bf16) (x1 : FVec Ideal S1x2816x1024 .f32) (x2 x3 : FVec Ideal S8192x1024 .f32) (x4 : FVec Ideal S1x1024 .f32)
    (x5 : FVec Ideal S1024 .f32) (i : S_.Idx) (h : fn (F := Ideal) x0 x1 x2 x3 x4 x5 i = 1#1) :
    (∀ i, x0 i = (((x0 i).toReal : ℝ) : EReal)) ∧ (∀ i, x1 i = (((x1 i).toReal : ℝ) : EReal)) ∧ (∀ i, x2 i = (((x2 i).toReal : ℝ) : EReal))
    ∧ (∀ i, x3 i = (((x3 i).toReal : ℝ) : EReal)) ∧ (∀ i, x4 i = (((x4 i).toReal : ℝ) : EReal)) ∧ ∀ i, x5 i = (((x5 i).toReal : ℝ) : EReal) := by
  obtain ⟨h', h5⟩ := IntOp.andi_eq_one.1 h
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i)),
    fun i => real_of_abs_lt (inf_f32 ▸ of_olt (Host.reduce_andi_all _ _ _ _ _ h2 i)),
    fun i => real_of_abs_lt (inf_f32 ▸ of_olt (Host.reduce_andi_all _ _ _ _ _ h3 i)),
    fun i => real_of_abs_lt (inf_f32 ▸ of_olt (Host.reduce_andi_all _ _ _ _ _ h4 i)),
    fun i => real_of_abs_lt (inf_f32 ▸ of_olt (Host.reduce_andi_all _ _ _ _ _ h5 i))⟩

end Cert.Pre_loss_finite

namespace Cert.Loss

open Idealize.ShloMosaic TcCoe Idealize.SL.Sem
open Cert.Kernel4Ideal Gen Cert.Kernel4Ideal.Loss

/-- The arguments' real values. -/
def real (x0 : FVec Ideal S8192x2816 .bf16) (x1 : FVec Ideal S1x2816x1024 .f32) (x2 x3 : FVec Ideal S8192x1024 .f32) (x4 : FVec Ideal S1x1024 .f32) (x5 : FVec Ideal S1024 .f32) : Args where
  A r j := (x0 (ix2 r j)).toReal
  W j k := (x1 (ix3 (0 : Fin 1) j k)).toReal
  x r k := (x2 (ix2 r k)).toReal
  T r k := (x3 (ix2 r k)).toReal
  ga k := (x4 (ix2 (0 : Fin 1) k)).toReal
  g k := (x5 (ix1 k)).toReal

theorem loss_algebraic : Cert.algebraic_Kernel4Ideal_Reference4Ideal_pre_loss_finite := by
  intro m g m' g' hpre hagree
  refine ⟨fun c => (dats m 0 c).arrAt 6 (cfgs 0).N, fun c => (dats m 0 c).arrAt 7 (cfgs 0).N, fun c => (dats m 0 c).arrAt 8 (cfgs 0).N, ?_, ?_⟩
  · run_from Cert.Kernel4Ideal.Gen.run_main m g
  · refine (θ_run Cert.Reference4Ideal.defs _ _).mono (fun r h c => ?_) (Cert.Reference4Ideal.Value.run (F := Ideal) m' g')
    obtain ⟨h0, h1, h2, a⟩ := h c
    obtain ⟨e0, e1, e2, e3, e4, e5⟩ := hagree c
    obtain ⟨r0, r1, r2, r3, r4, r5⟩ := Cert.Pre_loss_finite.real_args _ _ _ _ _ _ _ (congrFun (hpre c) (fun a => a.elim0))
    have hk : Holds (real (m (c.tc.loc main_arg0)) (m (c.tc.loc main_arg1)) (m (c.tc.loc main_arg2)) (m (c.tc.loc main_arg3))
        (m (c.tc.loc main_arg4)) (m (c.tc.loc main_arg5))) m c :=
      ⟨fun r j => r0 _, fun k j => r1 _, fun r k => r2 _, fun r k => r3 _, fun k => r4 _, fun k => r5 _⟩
    have hr : Cert.Reference4Ideal.Loss.Holds (m (c.tc.loc main_arg0)) (m (c.tc.loc main_arg1)) (m (c.tc.loc main_arg2)) (m (c.tc.loc main_arg3))
        (m (c.tc.loc main_arg4)) (m (c.tc.loc main_arg5)) _ := ⟨hk.A, hk.W, hk.x, hk.T, hk.ga, hk.g⟩
    refine ⟨(h0.trans (Cert.Reference4Ideal.Read.val_main_v56_eq _ _)).trans ?_, (h1.trans (Cert.Reference4Ideal.Read.val_main_v66_eq _ _)).trans ?_,
      (h2.trans (Cert.Reference4Ideal.Read.val_main_v65_eq _ _)).trans ?_, a⟩
    · rw [e0, e1, e2, e3, e4, e5]
      refine Eq.trans ?_ (final6 hk).symm
      exact Cert.Rows.of_ix2 fun i j => Cert.Reference4Ideal.Loss.dx_at hr i j
    · rw [e0, e1, e2, e3, e4, e5]
      refine Eq.trans ?_ (final7 hk).symm
      exact Cert.Rows.of_ix2 fun i j => Cert.Reference4Ideal.Loss.dy_at hr i j
    · rw [e0, e1, e2, e3, e4, e5]
      exact Cert.Rows.of_ix2 fun i j => (Cert.Reference4Ideal.Loss.st_at hr i j).trans (final8 hk i j).symm

end Cert.Loss

end
-- ==== Proof.Inproj.Pay.lean ====
module

public import proofs.«01_k».proof.Proof.Norm.Basic
public import proofs.«01_k».proof.Proof.Gen.Kernel5Ideal.Frame
public import Idealize.ShloMosaic.Lib.Pipeline.ValueKit
public import Idealize.ShloMosaic.Lib.KernelVsHost

/-! What one block of 512 rows computes, over the reals. -/

@[expose] public section

set_option maxRecDepth 16384

noncomputable section

namespace Cert.Kernel5Ideal.Inproj

open Idealize.ShloMosaic TcCoe Cert.Reals
open Cert.Kernel5Ideal Gen

/-- The 6400 columns in the three groups that are multiplied one by one. -/
theorem sum_groups (f : Fin 6400 → ℝ) :
    (∑ j : Fin 1024, f ⟨j.val, by omega⟩) + (∑ j : Fin 256, f ⟨1024 + j.val, by omega⟩) + (∑ j : Fin 5120, f ⟨1280 + j.val, by omega⟩) = ∑ j, f j := by
  rw [show (∑ j, f j) = ∑ j : Fin (1024 + 256 + 5120), f j from rfl, Fin.sum_univ_add, Fin.sum_univ_add]
  rfl

theorem pay3_at (v3 : FVec Ideal S512x1024 .bf16) (v4 : FVec Ideal S1024x1024 .bf16) (v7 : FVec Ideal S512x256 .bf16) (v9 : FVec Ideal S256x1024 .bf16)
    (v13 : FVec Ideal S512x5120 .bf16) (v14 : FVec Ideal S5120x1024 .bf16) (D : Fin 512 → Fin 6400 → ℝ) (W : Fin 1024 → Fin 6400 → ℝ)
    (h3 : ∀ a (j : Fin 1024), v3 (ix2 a j) = ((D a ⟨j.val, by omega⟩ : ℝ) : EReal)) (h7 : ∀ a (j : Fin 256), v7 (ix2 a j) = ((D a ⟨1024 + j.val, by omega⟩ : ℝ) : EReal))
    (h13 : ∀ a (j : Fin 5120), v13 (ix2 a j) = ((D a ⟨1280 + j.val, by omega⟩ : ℝ) : EReal)) (h4 : ∀ (j : Fin 1024) k, v4 (ix2 j k) = ((W k ⟨j.val, by omega⟩ : ℝ) : EReal))
    (h9 : ∀ (j : Fin 256) k, v9 (ix2 j k) = ((W k ⟨1024 + j.val, by omega⟩ : ℝ) : EReal)) (h14 : ∀ (j : Fin 5120) k, v14 (ix2 j k) = ((W k ⟨1280 + j.val, by omega⟩ : ℝ) : EReal))
    (a : Fin 512) (k : Fin 1024) : k0_pay3 (F := Ideal) v3 v4 v7 v9 v13 v14 (ix2 a k) = ((∑ j, D a j * W k j : ℝ) : EReal) := by
  pointwise [k0_pay3]
  simp only [h3, h4, h7, h9, h13, h14, ← EReal.coe_mul, ← coe_sum, ← EReal.coe_add]
  rw [sum_groups fun j => D a j * W k j]

section Norm

variable (v18 : FVec Ideal S512x1024 .f32) (x : Fin 512 → Fin 1024 → ℝ) (hx : ∀ a k, v18 (ix2 a k) = ((x a k : ℝ) : EReal))
include hx

theorem pay4_at (a : Fin 512) : k0_pay4 (F := Ideal) v18 (ix2 a (0 : Fin 1)) = ((rs (x a) : ℝ) : EReal) := by
  pointwise [k0_pay4]
  simp only [hx, bits_eps, bits_1024, ← EReal.coe_mul, ← coe_sum, div_1024, ← EReal.coe_add, rsqrt_ms]

theorem pay5_at (a : Fin 512) (k : Fin 1024) : k0_pay5 (F := Ideal) v18 (ix2 a k) = ((x a k * rs (x a) : ℝ) : EReal) := by
  pointwise [k0_pay5]
  simp only [hx, pay4_at v18 x hx, EReal.coe_mul]

end Norm

section Back

variable (v17 : FVec Ideal S512x1024 .f32) (v28 : FVec Ideal S512x1024 .f32) (v29 v30 : FVec Ideal S1x1024 .f32)
  (H y : Fin 512 → Fin 1024 → ℝ) (g s : Fin 1024 → ℝ)
  (h17 : ∀ a k, v17 (ix2 a k) = ((H a k : ℝ) : EReal)) (h28 : ∀ a k, v28 (ix2 a k) = ((y a k : ℝ) : EReal))
  (h29 : ∀ k, v29 (ix2 (0 : Fin 1) k) = ((g k : ℝ) : EReal)) (h30 : ∀ k, v30 (ix2 (0 : Fin 1) k) = ((s k : ℝ) : EReal))

include h17 h28 h29 h30 in
theorem pay7_at (v26 : FVec Ideal S512x1 .f32) (v37 : FVec Ideal S512x1024 .f32) (r : Fin 512 → ℝ) (d : Fin 512 → Fin 1024 → ℝ)
    (h26 : ∀ a, v26 (ix2 a (0 : Fin 1)) = ((r a : ℝ) : EReal)) (h37 : ∀ a k, v37 (ix2 a k) = ((d a k : ℝ) : EReal)) (a : Fin 512) (k : Fin 1024) :
    k0_pay7 v17 v26 v28 v29 v30 (Scalar.ofBits .f32 0x3F800000#32) v37 (ix2 a k)
      = ((d a k + r a * (H a k * (1 + s k) * g k - y a k * ((∑ j, H a j * (1 + s j) * g j * y a j) * (1 / 1024))) : ℝ) : EReal) := by
  pointwise [k0_pay7, k0_pay6]
  simp only [h17, h30, ← EReal.coe_one, h26, h28, h29, h37, bits_1024, ← EReal.coe_mul, ← EReal.coe_add, ← coe_sum, div_1024, ← EReal.coe_sub]

include h17 in
theorem pay8_at (p : FVec Ideal S1x1024 .f32) (k : Fin 1024) : k0_pay8 v17 p (ix2 (0 : Fin 1) k) = p (ix2 (0 : Fin 1) k) + ((∑ a, H a k : ℝ) : EReal) := by
  pointwise [k0_pay8]
  simp only [h17, ← coe_sum]

include h17 h28 h29 in
theorem pay9_at (p : FVec Ideal S1x1024 .f32) (k : Fin 1024) :
    k0_pay9 v17 v28 v29 p (ix2 (0 : Fin 1) k) = p (ix2 (0 : Fin 1) k) + ((∑ a, H a k * (y a k * g k) : ℝ) : EReal) := by
  pointwise [k0_pay9]
  simp only [h17, h28, h29, ← EReal.coe_mul, ← coe_sum]

include h17 h28 h30 in
theorem pay11_at (p : FVec Ideal S1x1024 .f32) (k : Fin 1024) :
    k0_pay1 (k0_pay10 p) (k0_pay11 v17 v28 v30 (Scalar.ofBits .f32 0x3F800000#32)) (ix2 (0 : Fin 1) k)
      = p (ix2 (0 : Fin 1) k) + ((∑ a, H a k * (1 + s k) * y a k : ℝ) : EReal) := by
  pointwise [k0_pay1, k0_pay10, k0_pay11, k0_pay6]
  simp only [h17, h30, ← EReal.coe_one, h28, ← EReal.coe_mul, ← EReal.coe_add, ← coe_sum]

end Back

end Cert.Kernel5Ideal.Inproj

end
-- ==== Proof.Inproj.Blocks.lean ====
module

public import proofs.«01_k».proof.Proof.Inproj.Pay
public import proofs.«01_k».proof.Proof.Norm.Rows
public import Idealize.ShloMosaic.Lib.StableHlo.RunRead
public import Idealize.ShloMosaic.Lib.Pipeline.ReadBack

/-! The two results as the sixteen blocks leave them, over the reals. -/

@[expose] public section

set_option maxRecDepth 16384

noncomputable section

namespace Cert.Kernel5Ideal.Inproj

open Idealize.ShloMosaic TcCoe Idealize.SL.Sem Cert.Reals
open Cert.Kernel5Ideal Gen
open Idealize.ShloMosaic.Pipeline (Dat)

/-- The real arguments: `D` the cotangent of the projection, `W` the weight, `x` the rows, `d` the cotangent that reaches
    them another way, `g` and `s` the norm's scale and the modulation's. -/
structure Args where
  D : Fin 8192 → Fin 6400 → ℝ
  W : Fin 1024 → Fin 6400 → ℝ
  x : Fin 8192 → Fin 1024 → ℝ
  d : Fin 8192 → Fin 1024 → ℝ
  g : Fin 1024 → ℝ
  s : Fin 1024 → ℝ

variable (R : Args)

/-- The cotangent of the modulated rows. -/
def Args.H (r : Fin 8192) (k : Fin 1024) : ℝ := ∑ j, R.D r j * R.W k j
/-- The cotangent of the rows. -/
def Args.gx (r : Fin 8192) (k : Fin 1024) : ℝ := R.d r k + normBack (R.x r) (fun j => R.H r j * (1 + R.s j) * R.g j) k
/-- What row `r` adds to the sums of shift, scale and the norm's scale. -/
def Args.part (i : ℕ) (r : Fin 8192) (k : Fin 1024) : ℝ :=
  if i = 0 then R.H r k else if i = 1 then R.H r k * (R.x r k * rs (R.x r) * R.g k) else if i = 2 then R.H r k * (1 + R.s k) * (R.x r k * rs (R.x r)) else 0

/-- The cotangent of the rows as an array. -/
def Args.GX : FVec Ideal S8192x1024 .f32 := fun j => ((R.gx (j 0) (j 1) : ℝ) : EReal)

theorem Args.part_rest {i : ℕ} (hi : 3 ≤ i) (r : Fin 8192) (k : Fin 1024) : R.part i r k = 0 := by
  unfold Args.part; rw [if_neg (by omega), if_neg (by omega), if_neg (by omega)]

theorem Args.part0 (r : Fin 8192) (k : Fin 1024) : R.part 0 r k = R.H r k := rfl
theorem Args.part1 (r : Fin 8192) (k : Fin 1024) : R.part 1 r k = R.H r k * (R.x r k * rs (R.x r) * R.g k) := by
  unfold Args.part; rw [if_neg (by decide), if_pos rfl]
theorem Args.part2 (r : Fin 8192) (k : Fin 1024) : R.part 2 r k = R.H r k * (1 + R.s k) * (R.x r k * rs (R.x r)) := by
  unfold Args.part; rw [if_neg (by decide), if_neg (by decide), if_pos rfl]

variable (m : (ℓ : Loc nD τ sig) → Buf (Elt Ideal) ℓ)

/-- The arguments in memory are the real ones. -/
structure Holds (c : Dev nD) : Prop where
  D : ∀ r j, (m (c.tc.loc main_arg0) : FVec Ideal S8192x6400 .bf16) (ix2 r j) = ((R.D r j : ℝ) : EReal)
  W : ∀ k j, (m (c.tc.loc main_arg1) : FVec Ideal S1x1024x6400 .f32) (ix3 (0 : Fin 1) k j) = ((R.W k j : ℝ) : EReal)
  x : ∀ r k, (m (c.tc.loc main_arg2) : FVec Ideal S8192x1024 .f32) (ix2 r k) = ((R.x r k : ℝ) : EReal)
  d : ∀ r k, (m (c.tc.loc main_arg3) : FVec Ideal S8192x1024 .f32) (ix2 r k) = ((R.d r k : ℝ) : EReal)
  g : ∀ k, (m (c.tc.loc main_arg4) : FVec Ideal S1x1024 .f32) (ix2 (0 : Fin 1) k) = ((R.g k : ℝ) : EReal)
  s : ∀ k, (m (c.tc.loc main_arg5) : FVec Ideal S1x1024 .f32) (ix2 (0 : Fin 1) k) = ((R.s k : ℝ) : EReal)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] ∧ win0_7.index t = ![t.val, 0] ∧ win0_8.index t = ![0, 0] :=
  (by decide +kernel : ∀ t : Fin grid0.N, _)

/-- Row `a` of block `t`. -/
def row (t : Fin cfg0.N) (a : Fin 512) : Fin 8192 := ⟨512 * t.val + a.val, by have : cfg0.N = 16 := N_0; omega⟩

variable {R m} {c : Dev nD} (h : Holds R m c) (t : Fin cfg0.N)
include h

theorem blk0 (a : Fin 512) (j : Fin 6400) : (iblk m c 0 t : FVec Ideal S512x6400 .bf16) (ix2 a j) = ((R.D (row t a) j : ℝ) : EReal) := by
  refine Eq.trans ?_ (h.D (row t a) j)
  blk_point [iblk, V, idx t, row]

theorem blk3 (a : Fin 512) (k : Fin 1024) : (iblk m c 3 t : FVec Ideal S512x1024 .f32) (ix2 a k) = ((R.x (row t a) k : ℝ) : EReal) := by
  refine Eq.trans ?_ (h.x (row t a) k)
  blk_point [iblk, V, idx t, row]

theorem blk4 (a : Fin 512) (k : Fin 1024) : (iblk m c 4 t : FVec Ideal S512x1024 .f32) (ix2 a k) = ((R.d (row t a) k : ℝ) : EReal) := by
  refine Eq.trans ?_ (h.d (row t a) k)
  blk_point [iblk, V, idx t, row]

theorem blk5 (k : Fin 1024) : (iblk m c 5 t : FVec Ideal S1x1024 .f32) (ix2 (0 : Fin 1) k) = ((R.g k : ℝ) : EReal) := by
  refine Eq.trans ?_ (h.g k)
  blk_point [iblk, V, idx t]

theorem blk6 (k : Fin 1024) : (iblk m c 6 t : FVec Ideal S1x1024 .f32) (ix2 (0 : Fin 1) k) = ((R.s k : ℝ) : EReal) := by
  refine Eq.trans ?_ (h.s k)
  blk_point [iblk, V, idx t]

theorem blk1 (a : Fin 512) (j : Fin 256) : (iblk m c 1 t : FVec Ideal S512x256 .bf16) (ix2 a j) = ((R.D (row t a) ⟨1024 + j.val, by omega⟩ : ℝ) : EReal) := by
  refine Eq.trans ?_ (h.D (row t a) _)
  blk_point [iblk, V, idx t, row]

theorem blk2 (j : Fin 6400) (k : Fin 1024) : (iblk m c 2 t : FVec Ideal S6400x1024 .bf16) (ix2 j k) = ((R.W k j : ℝ) : EReal) := by
  refine Eq.trans ?_ (h.W k j)
  blk_point [iblk, V, idx t]

theorem H_at (a : Fin 512) (k : Fin 1024) :
    k0_pay3 (F := Ideal) (View.ld (iblk m c 0 t) (Rect.unit ![0, 0] ![512, 1024] inb_S512x6400_S512x1024_0_0))
      (View.ld (iblk m c 2 t) (Rect.unit ![0, 0] ![1024, 1024] inb_S6400x1024_S1024x1024_0_0)) (iblk m c 1 t)
      (View.ld (iblk m c 2 t) (Rect.unit ![1024, 0] ![256, 1024] inb_S6400x1024_S256x1024_1024_0))
      (View.ld (iblk m c 0 t) (Rect.unit ![0, 1280] ![512, 5120] inb_S512x6400_S512x5120_0_1280))
      (View.ld (iblk m c 2 t) (Rect.unit ![1280, 0] ![5120, 1024] inb_S6400x1024_S5120x1024_1280_0)) (ix2 a k) = ((R.H (row t a) k : ℝ) : EReal) := by
  refine pay3_at _ _ _ _ _ _ (fun a => R.D (row t a)) R.W (fun a j => ?_) (blk1 h t) (fun a j => ?_) (fun j k => ?_) (fun j k => ?_) (fun j k => ?_) a k
  · refine (Rows.ld_at (n := 512) (m := 6400) (o := 0) (p := 0) _ _ a j a ⟨j.val, by omega⟩ (Nat.zero_add _) (Nat.zero_add _)).trans ?_
    exact blk0 h t a _
  · refine (Rows.ld_at _ _ a j a ⟨1280 + j.val, by omega⟩ (Nat.zero_add _) rfl).trans ?_
    exact blk0 h t a _
  · refine (Rows.ld_at (n := 6400) (m := 1024) (o := 0) (p := 0) _ _ j k ⟨j.val, by omega⟩ k (Nat.zero_add _) (Nat.zero_add _)).trans ?_
    exact blk2 h t _ k
  · refine (Rows.ld_at _ _ j k ⟨1024 + j.val, by omega⟩ k rfl (Nat.zero_add _)).trans ?_
    exact blk2 h t _ k
  · refine (Rows.ld_at _ _ j k ⟨1280 + j.val, by omega⟩ k rfl (Nat.zero_add _)).trans ?_
    exact blk2 h t _ k

theorem out7 (a : Fin 512) (k : Fin 1024) : (outsAt0 m c t.val t.isLt).1 (ix2 a k) = ((R.gx (row t a) k : ℝ) : EReal) := by
  have := pay7_at _ _ _ _ _ _ _ _ (H_at h t) (pay5_at _ _ (blk3 h t)) (blk5 h t) (blk6 h t) _ _ _ _ (pay4_at _ _ (blk3 h t)) (blk4 h t) a k
  by_cases h0 : t.val % 16 = 0
  · rw [outsAt0_A m c t h0]; frame_out
    exact this
  · rw [outsAt0_B m c t h0]; frame_out
    exact this

omit h in
theorem zero_at (i : Fin 8) (k : Fin 1024) : k0_pay2 (F := Ideal) (ix2 i k) = 0 := by
  pointwise [k0_pay2]

theorem first (i : Fin 8) (k : Fin 1024) (h0 : t.val % 16 = 0) :
    (outsAt0 m c t.val t.isLt).2 (ix2 i k) = ((∑ a, R.part i.val (row t a) k : ℝ) : EReal) := by
  have p0 := fun p => pay8_at _ _ (H_at h t) p k
  have p1 := fun p => pay9_at _ _ _ _ _ _ (H_at h t) (pay5_at _ _ (blk3 h t)) (blk5 h t) p k
  have p2 := fun p => pay11_at _ _ _ _ _ _ (H_at h t) (pay5_at _ _ (blk3 h t)) (blk6 h t) p k
  rw [outsAt0_A m c t h0]; frame_out
  by_cases i2 : i.val = 2
  · refine (Rows.canon_hit8 _ _ _ _ _ i2).trans ((p2 _).trans ((congrArg (· + _) ((Rows.readCov8 _ _ _ _ i2 _).trans ((Rows.canon_miss8 _ _ _ _ _ (by omega)).trans
      ((Rows.canon_miss8 _ _ _ _ _ (by omega)).trans ((Rows.canon_whole8 _ _ (by decide) _ _ _).trans (zero_at i k)))))).trans ?_))
    simp only [zero_add, i2, Args.part2]
  refine (Rows.canon_miss8 _ _ _ _ _ i2).trans ?_
  by_cases i1 : i.val = 1
  · refine (Rows.canon_hit8 _ _ _ _ _ i1).trans ((p1 _).trans ((congrArg (· + _) ((Rows.readCov8 _ _ _ _ i1 _).trans
      ((Rows.canon_miss8 _ _ _ _ _ (by omega)).trans ((Rows.canon_whole8 _ _ (by decide) _ _ _).trans (zero_at i k))))).trans ?_))
    simp only [zero_add, i1, Args.part1]
  refine (Rows.canon_miss8 _ _ _ _ _ i1).trans ?_
  by_cases i0 : i.val = 0
  · refine (Rows.canon_hit8 _ _ _ _ _ i0).trans ((p0 _).trans ((congrArg (· + _) ((Rows.readCov8 _ _ _ _ i0 _).trans
      ((Rows.canon_whole8 _ _ (by decide) _ _ _).trans (zero_at i k)))).trans ?_))
    simp only [zero_add, i0, Args.part0]
  refine (Rows.canon_miss8 _ _ _ _ _ i0).trans ((Rows.canon_whole8 _ _ (by decide) _ _ _).trans ((zero_at i k).trans ?_))
  simp only [R.part_rest (show 3 ≤ i.val by omega), Finset.sum_const_zero, EReal.coe_zero]

theorem next (i : Fin 8) (k : Fin 1024) (h0 : ¬ t.val % 16 = 0) :
    (outsAt0 m c t.val t.isLt).2 (ix2 i k)
      = (outsAt0 m c (t.val - 1) (Nat.lt_of_le_of_lt (Nat.sub_le _ _) t.isLt)).2 (ix2 i k) + ((∑ a, R.part i.val (row t a) k : ℝ) : EReal) := by
  have p0 := fun p => pay8_at _ _ (H_at h t) p k
  have p1 := fun p => pay9_at _ _ _ _ _ _ (H_at h t) (pay5_at _ _ (blk3 h t)) (blk5 h t) p k
  have p2 := fun p => pay11_at _ _ _ _ _ _ (H_at h t) (pay5_at _ _ (blk3 h t)) (blk6 h t) p k
  rw [outsAt0_B m c t h0]; frame_out
  by_cases i2 : i.val = 2
  · refine (Rows.read_hit8 _ _ _ _ _ _ _ i2).trans ((p2 _).trans ((congrArg (· + _) (Rows.ld8 _ _ _ i2 _)).trans ?_))
    simp only [i2, Args.part2]
  refine (Rows.read_miss8 _ _ _ _ _ _ _ i2).trans ?_
  by_cases i1 : i.val = 1
  · refine (Rows.read_hit8 _ _ _ _ _ _ _ i1).trans ((p1 _).trans ((congrArg (· + _) (Rows.ld8 _ _ _ i1 _)).trans ?_))
    simp only [i1, Args.part1]
  refine (Rows.read_miss8 _ _ _ _ _ _ _ i1).trans ?_
  by_cases i0 : i.val = 0
  · refine (Rows.read_hit8 _ _ _ _ _ _ _ i0).trans ((p0 _).trans ((congrArg (· + _) (Rows.ld8 _ _ _ i0 _)).trans ?_))
    simp only [i0, Args.part0]
  refine (Rows.read_miss8 _ _ _ _ _ _ _ i0).trans ?_
  simp only [R.part_rest (show 3 ≤ i.val by omega), Finset.sum_const_zero, EReal.coe_zero, add_zero, View.writes_nil, Memref.IsWhole.read_unread]

theorem final7 : (dats m 0 c).arrAt 7 (cfgs 0).N = R.GX := by
  refine (dats m 0 c).arrAt_eq_of_covers 7 _ (by decide +kernel) fun t _ y => ?_
  blk_simp
  rw [after0_7]
  refine ((congrArg _ (show (y : S512x1024.Idx) = ix2 (y 0) (y 1) from funext fun a => by fin_cases a <;> rfl)).trans (out7 h t _ _)).trans ?_
  show R.GX (ix2 (row t (y 0)) (y 1)) = R.GX ((win0_7.blk t).view.emb y)
  generalize R.GX = G
  blk_point [idx t, row]

theorem final8 (i : Fin 8) (k : Fin 1024) : ((dats m 0 c).arrAt 8 (cfgs 0).N : FVec Ideal S8x1024 .f32) (ix2 i k) = ((∑ r, R.part i.val r k : ℝ) : EReal) := by
  have step : ∀ (t : Fin cfg0.N) (j : S8x1024.Idx), (outsAt0 m c t.val t.isLt).2 j
      = (if t.val % 16 = 0 then 0 else (outsAt0 m c (t.val - 1) (Nat.lt_of_le_of_lt (Nat.sub_le _ _) t.isLt)).2 j) + ((∑ a, R.part (j 0).val (row t a) (j 1) : ℝ) : EReal) := fun t j => by
    have e : (j : S8x1024.Idx) = ix2 (j 0) (j 1) := funext fun a => by fin_cases a <;> rfl
    rw [e]
    by_cases h0 : t.val % 16 = 0
    · rw [if_pos h0, zero_add]
      exact first h t (j 0) (j 1) h0
    · rw [if_neg h0]
      exact next h t (j 0) (j 1) h0
  refine congrFun ((dats m 0 c).arrAt_eq_of_after_last 8 t0_15 (by decide +kernel) (fun j : S8x1024.Idx => ((∑ r, R.part (j 0).val r (j 1) : ℝ) : EReal)) fun j => ?_) (ix2 i k)
  blk_simp
  rw [after0_8, Pipeline.eq_sum_fin_of_reset_step_apply_last (fun n h => (outsAt0 m c n h).2) 16 (fun _ => 0) (fun t j => ((∑ a, R.part (j 0).val (row t a) (j 1) : ℝ) : EReal))
    (fun t h0 j => by rw [step t j, if_pos h0]) (fun t h0 j => by rw [step t j, if_neg h0]) (le_of_eq N_0) t0_15 rfl j, zero_add, ← coe_sum]
  refine congrArg _ (Fin.sum_mul_add_congr (S := 16) (n := 512) fun t a hl => ?_)
  exact congrArg (fun r => R.part (j 0).val r (j 1)) (Fin.ext (by show 512 * t.val + a.val = t.val * 512 + a.val; omega))

end Cert.Kernel5Ideal.Inproj

end
-- ==== Proof.Inproj.Ref.lean ====
module

public import proofs.«01_k».proof.Proof.Inproj.Blocks
public import proofs.«01_k».proof.Proof.Gen.Reference5Ideal.Read

/-! The reference's two results over the reals. -/

@[expose] public section

set_option maxRecDepth 16384

noncomputable section

namespace Cert.Reference5Ideal.Inproj

open Idealize.ShloMosaic TcCoe Cert.Reals
open Cert.Reference5Ideal Cert.Reference5Ideal.Read
open Cert.Kernel5Ideal.Inproj (Args)

variable (X0 : FVec Ideal S8192x6400 .bf16) (X1 : FVec Ideal S1x1024x6400 .f32) (X2 X3 : FVec Ideal S8192x1024 .f32) (X4 X5 : FVec Ideal S1x1024 .f32) (R : Args)

structure Holds : Prop where
  D : ∀ r j, X0 (ix2 r j) = ((R.D r j : ℝ) : EReal)
  W : ∀ k j, X1 (ix3 (0 : Fin 1) k j) = ((R.W k j : ℝ) : EReal)
  x : ∀ r k, X2 (ix2 r k) = ((R.x r k : ℝ) : EReal)
  d : ∀ r k, X3 (ix2 r k) = ((R.d r k : ℝ) : EReal)
  g : ∀ k, X4 (ix2 (0 : Fin 1) k) = ((R.g k : ℝ) : EReal)
  s : ∀ k, X5 (ix2 (0 : Fin 1) k) = ((R.s k : ℝ) : EReal)

variable {X0 X1 X2 X3 X4 X5 R} (h : Holds X0 X1 X2 X3 X4 X5 R)
include h

theorem H_at (r : Fin 8192) (k : Fin 1024) : val_main_v27 (F := Ideal) X0 X1 (ix2 r k) = ((R.H r k : ℝ) : EReal) := by
  pointwise [val_main_v27, val_main_v26, val_main_v24]
  exact coe_dot (h.D r) (h.W k)

theorem gx_at (r : Fin 8192) (k : Fin 1024) : val_main_v55 (F := Ideal) X0 X1 X2 X3 X4 X5 (ix2 r k) = ((R.gx r k : ℝ) : EReal) := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_cst_4, val_main_v18, val_main_v19, val_main_v20, val_main_v21, val_main_v22, val_main_v23, val_main_v24, val_main_v25, val_main_v26, val_main_cst_5, val_main_v28, val_main_v29, val_main_v30, val_main_cst_6, val_main_v31, val_main_v32, val_main_v33, val_main_v34, val_main_v35, val_main_cst_7, val_main_v36, val_main_v37, val_main_v38, val_main_v39, val_main_cst_8, val_main_v40, val_main_v41, val_main_cst_9, val_main_v42, val_main_v43, val_main_v44, val_main_v45, val_main_v46, val_main_v47, val_main_cst_10, val_main_v48, val_main_v49, val_main_cst_11, val_main_v50, val_main_v51, val_main_v52, val_main_v53, val_main_v54, val_main_v55, val_main_v56, val_main_cst_12, val_main_v57, val_main_v58]
  simp only [H_at h, h.x, h.d, h.g, h.s, bits_eps, bits_1024, bits_neg_half, bits_one, ← EReal.coe_one, ← EReal.coe_mul, ← coe_sum, ← EReal.coe_add, div_1024, rsqrt_ms, div_ms, Finset.univ_unique, Finset.sum_singleton]
  refine congrArg (fun x : ℝ => (x : EReal)) ?_
  unfold Args.gx
  rw [← norm_rule (R.x r) (fun j => R.H r j * (1 + R.s j) * R.g j) k]
  ring

theorem st_at (i : Fin 8) (k : Fin 1024) : val_main_v58 (F := Ideal) X0 X1 X2 X4 X5 (ix2 i k) = ((∑ r, R.part i.val r k : ℝ) : EReal) := by
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_cst_4, val_main_v18, val_main_v19, val_main_v20, val_main_v21, val_main_v22, val_main_v23, val_main_v24, val_main_v25, val_main_v26, val_main_cst_5, val_main_v28, val_main_v29, val_main_v30, val_main_cst_6, val_main_v31, val_main_v32, val_main_v33, val_main_v34, val_main_v35, val_main_cst_7, val_main_v36, val_main_v37, val_main_v38, val_main_v39, val_main_cst_8, val_main_v40, val_main_v41, val_main_cst_9, val_main_v42, val_main_v43, val_main_v44, val_main_v45, val_main_v46, val_main_v47, val_main_cst_10, val_main_v48, val_main_v49, val_main_cst_11, val_main_v50, val_main_v51, val_main_v52, val_main_v53, val_main_v54, val_main_v55, val_main_v56, val_main_cst_12, val_main_v57, val_main_v58]
  simp only [H_at h, h.x, h.d, h.g, h.s, bits_eps, bits_1024, bits_neg_half, bits_one, ← EReal.coe_one, ← EReal.coe_mul, ← coe_sum, ← EReal.coe_add, div_1024, rsqrt_ms, div_ms, Finset.univ_unique, Finset.sum_singleton]
  split_ifs with h0 h1 h2
  · rw [show i.val = 0 by omega]
    rfl
  · rw [show i.val = 1 by omega]
    exact congrArg _ (Finset.sum_congr rfl fun r _ => by rw [R.part1]; ring)
  · rw [show i.val = 2 by omega]
    exact congrArg _ (Finset.sum_congr rfl fun r _ => by rw [R.part2]; ring)
  · simp only [R.part_rest (show 3 ≤ i.val by omega), Finset.sum_const_zero, EReal.coe_zero]

end Cert.Reference5Ideal.Inproj

end
-- ==== Proof.Inproj.Claim.lean ====
module

public import proofs.«01_k».proof.Defs
public import proofs.«01_k».proof.Proof.Inproj.Ref
public import proofs.«01_k».proof.Proof.Mixer.Finite
public import proofs.«01_k».proof.Proof.Gen.Pre_in_proj_finite

/-! The gradient of the first norm and its projection: the kernel's two results are the reference's derivatives. -/

@[expose] public section

set_option maxRecDepth 16384

noncomputable section

namespace Cert.Pre_in_proj_finite

open Idealize.ShloMosaic Cert.Mixer Cert.Pre_in_proj_finite Cert.Pre_in_proj_finite.Facts

theorem real_args (x0 : FVec Ideal S8192x6400 .bf16) (x1 : FVec Ideal S1x1024x6400 .f32) (x2 x3 : FVec Ideal S8192x1024 .f32) (x4 x5 : FVec Ideal S1x1024 .f32)
    (i : S_.Idx) (h : fn (F := Ideal) x0 x1 x2 x3 x4 x5 i = 1#1) :
    (∀ i, x0 i = (((x0 i).toReal : ℝ) : EReal)) ∧ (∀ i, x1 i = (((x1 i).toReal : ℝ) : EReal)) ∧ (∀ i, x2 i = (((x2 i).toReal : ℝ) : EReal))
    ∧ (∀ i, x3 i = (((x3 i).toReal : ℝ) : EReal)) ∧ (∀ i, x4 i = (((x4 i).toReal : ℝ) : EReal)) ∧ ∀ i, x5 i = (((x5 i).toReal : ℝ) : EReal) := by
  obtain ⟨h', h5⟩ := IntOp.andi_eq_one.1 h
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i)),
    fun i => real_of_abs_lt (inf_f32 ▸ of_olt (Host.reduce_andi_all _ _ _ _ _ h2 i)),
    fun i => real_of_abs_lt (inf_f32 ▸ of_olt (Host.reduce_andi_all _ _ _ _ _ h3 i)),
    fun i => real_of_abs_lt (inf_f32 ▸ of_olt (Host.reduce_andi_all _ _ _ _ _ h4 i)),
    fun i => real_of_abs_lt (inf_f32 ▸ of_olt (Host.reduce_andi_all _ _ _ _ _ h5 i))⟩

end Cert.Pre_in_proj_finite

namespace Cert.Inproj

open Idealize.ShloMosaic TcCoe Idealize.SL.Sem
open Cert.Kernel5Ideal Gen Cert.Kernel5Ideal.Inproj

/-- The arguments' real values. -/
def real (x0 : FVec Ideal S8192x6400 .bf16) (x1 : FVec Ideal S1x1024x6400 .f32) (x2 x3 : FVec Ideal S8192x1024 .f32) (x4 x5 : FVec Ideal S1x1024 .f32) : Args where
  D r j := (x0 (ix2 r j)).toReal
  W k j := (x1 (ix3 (0 : Fin 1) k j)).toReal
  x r k := (x2 (ix2 r k)).toReal
  d r k := (x3 (ix2 r k)).toReal
  g k := (x4 (ix2 (0 : Fin 1) k)).toReal
  s k := (x5 (ix2 (0 : Fin 1) k)).toReal

theorem in_proj_algebraic : Cert.algebraic_Kernel5Ideal_Reference5Ideal_pre_in_proj_finite := by
  intro m g m' g' hpre hagree
  refine ⟨fun c => (dats m 0 c).arrAt 7 (cfgs 0).N, fun c => (dats m 0 c).arrAt 8 (cfgs 0).N, ?_, ?_⟩
  · run_from Cert.Kernel5Ideal.Gen.run_main m g
  · refine (θ_run Cert.Reference5Ideal.defs _ _).mono (fun r h c => ?_) (Cert.Reference5Ideal.Value.run (F := Ideal) m' g')
    obtain ⟨h0, h1, a⟩ := h c
    obtain ⟨e0, e1, e2, e3, e4, e5⟩ := hagree c
    obtain ⟨r0, r1, r2, r3, r4, r5⟩ := Cert.Pre_in_proj_finite.real_args _ _ _ _ _ _ _ (congrFun (hpre c) (fun a => a.elim0))
    have hk : Holds (real (m (c.tc.loc main_arg0)) (m (c.tc.loc main_arg1)) (m (c.tc.loc main_arg2)) (m (c.tc.loc main_arg3))
        (m (c.tc.loc main_arg4)) (m (c.tc.loc main_arg5))) m c :=
      ⟨fun r j => r0 _, fun k j => r1 _, fun r k => r2 _, fun r k => r3 _, fun k => r4 _, fun k => r5 _⟩
    have hr : Cert.Reference5Ideal.Inproj.Holds (m (c.tc.loc main_arg0)) (m (c.tc.loc main_arg1)) (m (c.tc.loc main_arg2)) (m (c.tc.loc main_arg3))
        (m (c.tc.loc main_arg4)) (m (c.tc.loc main_arg5)) _ := ⟨hk.D, hk.W, hk.x, hk.d, hk.g, hk.s⟩
    refine ⟨(h0.trans (Cert.Reference5Ideal.Read.val_main_v55_eq _ _)).trans ?_, (h1.trans (Cert.Reference5Ideal.Read.val_main_v58_eq _ _ _ _ _)).trans ?_, a⟩
    · rw [e0, e1, e2, e3, e4, e5]
      refine Eq.trans ?_ (final7 hk).symm
      exact Cert.Rows.of_ix2 fun i j => Cert.Reference5Ideal.Inproj.gx_at hr i j
    · rw [e0, e1, e2, e4, e5]
      exact Cert.Rows.of_ix2 fun i j => (Cert.Reference5Ideal.Inproj.st_at hr i j).trans (final8 hk i j).symm

end Cert.Inproj

end
-- ==== Proof.Ffnin.Pay.lean ====
module

public import proofs.«01_k».proof.Proof.Norm.Basic
public import proofs.«01_k».proof.Proof.Gen.Kernel6Ideal.Frame
public import Idealize.ShloMosaic.Lib.Pipeline.ValueKit
public import Idealize.ShloMosaic.Lib.KernelVsHost

/-! What one block of rows computes in each of the two kernels, over the reals. -/

@[expose] public section

set_option maxRecDepth 16384

noncomputable section

namespace Cert.Kernel6Ideal.Ffnin

open Idealize.ShloMosaic TcCoe Cert.Reals
open Cert.Kernel6Ideal Gen

/-- The 5632 columns in the four groups that are multiplied one by one. -/
theorem sum_quarters (f : Fin 5632 → ℝ) :
    (∑ j : Fin 1408, f ⟨j.val, by omega⟩) + (∑ j : Fin 1408, f ⟨1408 + j.val, by omega⟩) + (∑ j : Fin 1408, f ⟨2816 + j.val, by omega⟩)
      + (∑ j : Fin 1408, f ⟨4224 + j.val, by omega⟩) = ∑ j, f j := by
  rw [show (∑ j, f j) = ∑ j : Fin (1408 + 1408 + 1408 + 1408), f j from rfl, Fin.sum_univ_add, Fin.sum_univ_add, Fin.sum_univ_add]
  rfl

section First

variable (v0 v1 : FVec Ideal S1024x1024 .bf16) (M Wo : Fin 1024 → Fin 1024 → ℝ)
  (h0 : ∀ a j, v0 (ix2 a j) = ((M a j : ℝ) : EReal)) (h1 : ∀ j k, v1 (ix2 j k) = ((Wo j k : ℝ) : EReal))
include h0 h1

theorem y_at (a k : Fin 1024) : k0_pay1 (F := Ideal) v0 v1 (ix2 a k) = ((∑ j, M a j * Wo j k : ℝ) : EReal) := by
  pointwise [k0_pay1]
  simp only [h0, h1, ← EReal.coe_mul, ← coe_sum]

theorem pay3_at (a k : Fin 1024) : k0_pay3 (F := Ideal) v0 v1 (ix2 a k) = ((∑ j, M a j * Wo j k : ℝ) : EReal) := by
  refine Eq.trans ?_ (y_at v0 v1 M Wo h0 h1 a k)
  pointwise [k0_pay3]

theorem pay2_at (v4 : FVec Ideal S1024x1024 .f32) (v5 : FVec Ideal S1x1024 .f32) (x : Fin 1024 → Fin 1024 → ℝ) (ga : Fin 1024 → ℝ)
    (h4 : ∀ a k, v4 (ix2 a k) = ((x a k : ℝ) : EReal)) (h5 : ∀ k, v5 (ix2 (0 : Fin 1) k) = ((ga k : ℝ) : EReal)) (a k : Fin 1024) :
    k0_pay2 (F := Ideal) v0 v1 v4 v5 (ix2 a k) = ((x a k + ga k * ∑ j, M a j * Wo j k : ℝ) : EReal) := by
  pointwise [k0_pay2, k0_pay1]
  simp only [h0, h1, h4, h5, ← EReal.coe_mul, ← coe_sum, ← EReal.coe_add]

end First

theorem pay6_at (v3 v8 v14 v20 : FVec Ideal S1x512x1408 .bf16) (v5 v10 v16 v22 : FVec Ideal S1x1024x1408 .bf16) (D : Fin 512 → Fin 5632 → ℝ) (W : Fin 1024 → Fin 5632 → ℝ)
    (h3 : ∀ a (j : Fin 1408), v3 (ix3 (0 : Fin 1) a j) = ((D a ⟨j.val, by omega⟩ : ℝ) : EReal)) (h8 : ∀ a (j : Fin 1408), v8 (ix3 (0 : Fin 1) a j) = ((D a ⟨1408 + j.val, by omega⟩ : ℝ) : EReal))
    (h14 : ∀ a (j : Fin 1408), v14 (ix3 (0 : Fin 1) a j) = ((D a ⟨2816 + j.val, by omega⟩ : ℝ) : EReal)) (h20 : ∀ a (j : Fin 1408), v20 (ix3 (0 : Fin 1) a j) = ((D a ⟨4224 + j.val, by omega⟩ : ℝ) : EReal))
    (h5 : ∀ k (j : Fin 1408), v5 (ix3 (0 : Fin 1) k j) = ((W k ⟨j.val, by omega⟩ : ℝ) : EReal)) (h10 : ∀ k (j : Fin 1408), v10 (ix3 (0 : Fin 1) k j) = ((W k ⟨1408 + j.val, by omega⟩ : ℝ) : EReal))
    (h16 : ∀ k (j : Fin 1408), v16 (ix3 (0 : Fin 1) k j) = ((W k ⟨2816 + j.val, by omega⟩ : ℝ) : EReal)) (h22 : ∀ k (j : Fin 1408), v22 (ix3 (0 : Fin 1) k j) = ((W k ⟨4224 + j.val, by omega⟩ : ℝ) : EReal))
    (a : Fin 512) (k : Fin 1024) : k1_pay6 (F := Ideal) v3 v5 v8 v10 v14 v16 v20 v22 (ix2 a k) = ((∑ j, D a j * W k j : ℝ) : EReal) := by
  pointwise [k1_pay6]
  simp only [h3, h5, h8, h10, h14, h16, h20, h22, ← EReal.coe_mul, ← coe_sum, ← EReal.coe_add]
  rw [sum_quarters fun j => D a j * W k j]

section Norm

variable (v26 : FVec Ideal S512x1024 .f32) (x : Fin 512 → Fin 1024 → ℝ) (hx : ∀ a k, v26 (ix2 a k) = ((x a k : ℝ) : EReal))
include hx

theorem pay8_at (a : Fin 512) : k1_pay8 (F := Ideal) v26 (ix2 a (0 : Fin 1)) = ((rs (x a) : ℝ) : EReal) := by
  pointwise [k1_pay8, k1_pay7]
  simp only [hx, bits_eps, bits_1024, ← EReal.coe_mul, ← coe_sum, div_1024, ← EReal.coe_add, rsqrt_ms]

theorem pay9_at (a : Fin 512) (k : Fin 1024) : k1_pay9 (F := Ideal) v26 (ix2 a k) = ((x a k * rs (x a) : ℝ) : EReal) := by
  pointwise [k1_pay9, k1_pay7]
  simp only [hx, pay8_at v26 x hx, EReal.coe_mul]

end Norm

section Back

variable (v25 v26 v46 : FVec Ideal S512x1024 .f32) (v38 v39 : FVec Ideal S1x1024 .f32)
  (H x d : Fin 512 → Fin 1024 → ℝ) (g s : Fin 1024 → ℝ)
  (h25 : ∀ a k, v25 (ix2 a k) = ((H a k : ℝ) : EReal)) (h26 : ∀ a k, v26 (ix2 a k) = ((x a k : ℝ) : EReal)) (h46 : ∀ a k, v46 (ix2 a k) = ((d a k : ℝ) : EReal))
  (h38 : ∀ k, v38 (ix2 (0 : Fin 1) k) = ((g k : ℝ) : EReal)) (h39 : ∀ k, v39 (ix2 (0 : Fin 1) k) = ((s k : ℝ) : EReal))

include h25 h39 in
theorem pay10_at (a : Fin 512) (k : Fin 1024) : k1_pay10 (F := Ideal) v25 v39 (ix2 a k) = ((H a k * (1 + s k) : ℝ) : EReal) := by
  pointwise [k1_pay10]
  simp only [h25, h39, bits_one, ← EReal.coe_one, ← EReal.coe_mul, ← EReal.coe_add]

include h25 h26 h46 h38 h39 in
theorem pay11_at (a : Fin 512) (k : Fin 1024) :
    k1_pay11 (F := Ideal) v25 v26 v38 v39 v46 (ix2 a k) = ((d a k + normBack (x a) (fun j => H a j * (1 + s j) * g j) k : ℝ) : EReal) := by
  pointwise [k1_pay11]
  simp only [pay10_at v25 v39 H s h25 h39, pay9_at v26 x h26, pay8_at v26 x h26, h38, h46, bits_1024, ← EReal.coe_mul, ← EReal.coe_add, ← coe_sum, div_1024, ← EReal.coe_sub]
  rfl

include h25 h26 h46 h38 h39 in
theorem pay12_at (v59 : FVec Ideal S1x1024 .f32) (ga : Fin 1024 → ℝ) (h59 : ∀ k, v59 (ix2 (0 : Fin 1) k) = ((ga k : ℝ) : EReal)) (a : Fin 512) (k : Fin 1024) :
    k1_pay12 (F := Ideal) v25 v26 v38 v39 v46 v59 (ix2 a k) = ((ga k * (d a k + normBack (x a) (fun j => H a j * (1 + s j) * g j) k) : ℝ) : EReal) := by
  pointwise [k1_pay12]
  simp only [pay11_at v25 v26 v46 v38 v39 H x d g s h25 h26 h46 h38 h39, h59, ← EReal.coe_mul]

include h25 in
theorem sum0_at (p : FVec Ideal S1x1024 .f32) (k : Fin 1024) : k1_pay1 (F := Ideal) v25 p (ix2 (0 : Fin 1) k) = p (ix2 (0 : Fin 1) k) + ((∑ a, H a k : ℝ) : EReal) := by
  pointwise [k1_pay1]
  simp only [h25, ← coe_sum]

include h25 h26 h38 in
theorem sum1_at (p : FVec Ideal S1x1024 .f32) (k : Fin 1024) :
    k1_pay2 (F := Ideal) v25 (k1_pay9 v26) v38 p (ix2 (0 : Fin 1) k) = p (ix2 (0 : Fin 1) k) + ((∑ a, H a k * (x a k * rs (x a) * g k) : ℝ) : EReal) := by
  pointwise [k1_pay2]
  simp only [h25, pay9_at v26 x h26, h38, ← EReal.coe_mul, ← coe_sum]

include h25 h26 h39 in
theorem sum2_at (p : FVec Ideal S1x1024 .f32) (k : Fin 1024) :
    k1_pay3 (F := Ideal) (k1_pay9 v26) (k1_pay10 v25 v39) p (ix2 (0 : Fin 1) k) = p (ix2 (0 : Fin 1) k) + ((∑ a, H a k * (1 + s k) * (x a k * rs (x a)) : ℝ) : EReal) := by
  pointwise [k1_pay3]
  simp only [pay9_at v26 x h26, pay10_at v25 v39 H s h25 h39, ← EReal.coe_mul, ← coe_sum]

include h25 h26 h46 h38 h39 in
theorem sum3_at (v88 : FVec Ideal S512x1024 .bf16) (Y : Fin 512 → Fin 1024 → ℝ) (h88 : ∀ a k, v88 (ix2 a k) = ((Y a k : ℝ) : EReal)) (p : FVec Ideal S1x1024 .f32) (k : Fin 1024) :
    k1_pay4 (F := Ideal) (k1_pay11 v25 v26 v38 v39 v46) p v88 (ix2 (0 : Fin 1) k)
      = p (ix2 (0 : Fin 1) k) + ((∑ a, (d a k + normBack (x a) (fun j => H a j * (1 + s j) * g j) k) * Y a k : ℝ) : EReal) := by
  pointwise [k1_pay4]
  simp only [pay11_at v25 v26 v46 v38 v39 H x d g s h25 h26 h46 h38 h39, h88, ← EReal.coe_mul, ← coe_sum]

end Back

end Cert.Kernel6Ideal.Ffnin

end
-- ==== Proof.Ffnin.Blocks.lean ====
module

public import proofs.«01_k».proof.Proof.Ffnin.Pay
public import proofs.«01_k».proof.Proof.Norm.Rows
public import Idealize.ShloMosaic.Lib.StableHlo.RunRead
public import Idealize.ShloMosaic.Lib.Pipeline.ReadBack

/-! The arrays as the two kernels leave them, over the reals: the residual rows, and from them the three results. -/

@[expose] public section

set_option maxRecDepth 16384

noncomputable section

namespace Cert.Kernel6Ideal.Ffnin

open Idealize.ShloMosaic TcCoe Idealize.SL.Sem Cert.Reals
open Cert.Kernel6Ideal Gen
open Idealize.ShloMosaic.Pipeline (Dat)

/-- The real arguments: `M` the merged heads, `Wo` the weight they are projected with, `x` the rows they are added to, `ga` the factor of that,
    `g` and `s` the norm's scale and the modulation's, `W` the weight the modulated rows are multiplied with, `G` the cotangents of the two
    halves of that product, `d` the cotangent that reaches the residual rows another way. -/
structure Args where
  M : Fin 8192 → Fin 1024 → ℝ
  Wo : Fin 1024 → Fin 1024 → ℝ
  x : Fin 8192 → Fin 1024 → ℝ
  ga : Fin 1024 → ℝ
  g : Fin 1024 → ℝ
  s : Fin 1024 → ℝ
  W : Fin 1024 → Fin 5632 → ℝ
  G : Fin 2 → Fin 8192 → Fin 2816 → ℝ
  d : Fin 8192 → Fin 1024 → ℝ

variable (R : Args)

/-- The projected heads. -/
def Args.Y (r : Fin 8192) (k : Fin 1024) : ℝ := ∑ j, R.M r j * R.Wo j k
/-- The residual rows. -/
def Args.X (r : Fin 8192) (k : Fin 1024) : ℝ := R.x r k + R.ga k * R.Y r k
/-- The cotangent of the product with its halves side by side. -/
def Args.D (r : Fin 8192) (j : Fin 5632) : ℝ := if h : j.val < 2816 then R.G 0 r ⟨j.val, h⟩ else R.G 1 r ⟨j.val - 2816, by omega⟩
/-- The cotangent of the modulated rows. -/
def Args.H (r : Fin 8192) (k : Fin 1024) : ℝ := ∑ j, R.D r j * R.W k j
/-- The cotangent of the residual rows. -/
def Args.dx (r : Fin 8192) (k : Fin 1024) : ℝ := R.d r k + normBack (R.X r) (fun j => R.H r j * (1 + R.s j) * R.g j) k
/-- What row `r` adds to the sums of shift, scale, the norm's scale and the factor. -/
def Args.part (i : ℕ) (r : Fin 8192) (k : Fin 1024) : ℝ :=
  if i = 0 then R.H r k else if i = 1 then R.H r k * (R.X r k * rs (R.X r) * R.g k)
  else if i = 2 then R.H r k * (1 + R.s k) * (R.X r k * rs (R.X r)) else if i = 3 then R.dx r k * R.Y r k else 0

/-- The residual rows, the cotangent of them and that of the projected heads, as arrays. -/
def Args.YA : FVec Ideal S8192x1024 .bf16 := fun j => ((R.Y (j 0) (j 1) : ℝ) : EReal)
def Args.XA : FVec Ideal S8192x1024 .f32 := fun j => ((R.X (j 0) (j 1) : ℝ) : EReal)
def Args.DX : FVec Ideal S8192x1024 .f32 := fun j => ((R.dx (j 0) (j 1) : ℝ) : EReal)
def Args.DY : FVec Ideal S8192x1024 .bf16 := fun j => ((R.ga (j 1) * R.dx (j 0) (j 1) : ℝ) : EReal)

theorem Args.part_rest {i : ℕ} (hi : 4 ≤ i) (r : Fin 8192) (k : Fin 1024) : R.part i r k = 0 := by
  unfold Args.part; rw [if_neg (by omega), if_neg (by omega), if_neg (by omega), if_neg (by omega)]

theorem Args.part0 (r : Fin 8192) (k : Fin 1024) : R.part 0 r k = R.H r k := rfl
theorem Args.part1 (r : Fin 8192) (k : Fin 1024) : R.part 1 r k = R.H r k * (R.X r k * rs (R.X r) * R.g k) := by
  unfold Args.part; rw [if_neg (by decide), if_pos rfl]
theorem Args.part2 (r : Fin 8192) (k : Fin 1024) : R.part 2 r k = R.H r k * (1 + R.s k) * (R.X r k * rs (R.X r)) := by
  unfold Args.part; rw [if_neg (by decide), if_neg (by decide), if_pos rfl]
theorem Args.part3 (r : Fin 8192) (k : Fin 1024) : R.part 3 r k = R.dx r k * R.Y r k := by
  unfold Args.part; rw [if_neg (by decide), if_neg (by decide), if_neg (by decide), if_pos rfl]

theorem Args.D_lo (r : Fin 8192) (j : Fin 5632) (l : Fin 2816) (h : j.val = l.val) : R.D r j = R.G 0 r l := by
  unfold Args.D; rw [dif_pos (by omega)]; exact congrArg _ (Fin.ext h)
theorem Args.D_hi (r : Fin 8192) (j : Fin 5632) (l : Fin 2816) (h : j.val = 2816 + l.val) : R.D r j = R.G 1 r l := by
  unfold Args.D; rw [dif_neg (by omega)]; exact congrArg _ (Fin.ext (by show j.val - 2816 = l.val; omega))

variable (V : (c : Dev nD) → (b : Ref sig .tc) → Buf (Elt Ideal) ((c : Thread nD τ).loc b)) (c : Dev nD)

/-- What the first kernel reads is the real arguments. -/
structure Holds0 : Prop where
  M : ∀ r j, (V c main_arg0 : FVec Ideal S8192x1024 .bf16) (ix2 r j) = ((R.M r j : ℝ) : EReal)
  Wo : ∀ j k, (V c main_v5 : FVec Ideal S1024x1024 .bf16) (ix2 j k) = ((R.Wo j k : ℝ) : EReal)
  x : ∀ r k, (V c main_arg2 : FVec Ideal S8192x1024 .f32) (ix2 r k) = ((R.x r k : ℝ) : EReal)
  ga : ∀ k, (V c main_arg3 : FVec Ideal S1x1024 .f32) (ix2 (0 : Fin 1) k) = ((R.ga k : ℝ) : EReal)

/-- What the second kernel reads is the real arguments and what the first computes from them. -/
structure Holds1 : Prop where
  G : ∀ p r l, (V c main_arg8 : FVec Ideal S2x8192x2816 .bf16) (ix3 p r l) = ((R.G p r l : ℝ) : EReal)
  W : ∀ (q : Fin 4) k (l : Fin 1408), (V c main_v3 : FVec Ideal S4x1024x1408 .bf16) (ix3 q k l) = ((R.W k ⟨q.val * 1408 + l.val, by omega⟩ : ℝ) : EReal)
  X : ∀ r k, (V c main_v6_1 : FVec Ideal S8192x1024 .f32) (ix2 r k) = ((R.X r k : ℝ) : EReal)
  d : ∀ r k, (V c main_arg9 : FVec Ideal S8192x1024 .f32) (ix2 r k) = ((R.d r k : ℝ) : EReal)
  Y : ∀ r k, (V c main_v6_0 : FVec Ideal S8192x1024 .bf16) (ix2 r k) = ((R.Y r k : ℝ) : EReal)
  g : ∀ k, (V c main_arg4 : FVec Ideal S1x1024 .f32) (ix2 (0 : Fin 1) k) = ((R.g k : ℝ) : EReal)
  s : ∀ k, (V c main_arg5 : FVec Ideal S1x1024 .f32) (ix2 (0 : Fin 1) k) = ((R.s k : ℝ) : EReal)
  ga : ∀ k, (V c main_arg3 : FVec Ideal S1x1024 .f32) (ix2 (0 : Fin 1) k) = ((R.ga k : ℝ) : EReal)

theorem idx0 : ∀ t : Fin cfg0.N, win0_0.index t = ![t.val, 0] ∧ win0_1.index t = ![0, 0] ∧ win0_2.index t = ![t.val, 0] ∧ win0_3.index t = ![0, 0]
    ∧ win0_7.index t = ![t.val, 0] ∧ win0_8.index t = ![t.val, 0] := (by decide +kernel : ∀ t : Fin grid0.N, _)

theorem idx1 : ∀ t : Fin cfg1.N, win1_0.index t = ![0, t.val, 0] ∧ win1_1.index t = ![0, 0, 0] ∧ win1_2.index t = ![t.val, 0] ∧ win1_3.index t = ![t.val, 0]
    ∧ win1_4.index t = ![t.val, 0] ∧ win1_5.index t = ![0, 0] ∧ win1_6.index t = ![0, 0] ∧ win1_7.index t = ![0, 0]
    ∧ win1_8.index t = ![t.val, 0] ∧ win1_9.index t = ![t.val, 0] ∧ win1_10.index t = ![0, 0] := (by decide +kernel : ∀ t : Fin grid1.N, _)

/-- Row `a` of block `t`, in blocks of 1024 rows and of 512. -/
def row0 (t : Fin cfg0.N) (a : Fin 1024) : Fin 8192 := ⟨1024 * t.val + a.val, by have : cfg0.N = 8 := N_0; omega⟩
def row (t : Fin cfg1.N) (a : Fin 512) : Fin 8192 := ⟨512 * t.val + a.val, by have : cfg1.N = 16 := N_1; omega⟩

variable {R V c}

section First

variable (h : Holds0 R V c) (t : Fin cfg0.N)
include h

theorem blk0_0 (a j : Fin 1024) : (iblk0 V c 0 t : FVec Ideal S1024x1024 .bf16) (ix2 a j) = ((R.M (row0 t a) j : ℝ) : EReal) := by
  refine Eq.trans ?_ (h.M (row0 t a) j)
  blk_point [iblk0, idx0 t, row0]

theorem blk0_1 (j k : Fin 1024) : (iblk0 V c 1 t : FVec Ideal S1024x1024 .bf16) (ix2 j k) = ((R.Wo j k : ℝ) : EReal) := by
  refine Eq.trans ?_ (h.Wo j k)
  blk_point [iblk0, idx0 t]

theorem blk0_2 (a k : Fin 1024) : (iblk0 V c 2 t : FVec Ideal S1024x1024 .f32) (ix2 a k) = ((R.x (row0 t a) k : ℝ) : EReal) := by
  refine Eq.trans ?_ (h.x (row0 t a) k)
  blk_point [iblk0, idx0 t, row0]

theorem blk0_3 (k : Fin 1024) : (iblk0 V c 3 t : FVec Ideal S1x1024 .f32) (ix2 (0 : Fin 1) k) = ((R.ga k : ℝ) : EReal) := by
  refine Eq.trans ?_ (h.ga k)
  blk_point [iblk0, idx0 t]

theorem final0_7 : (dat0 V c).arrAt 7 cfg0.N = R.YA := by
  refine (dat0 V c).arrAt_eq_of_covers 7 _ (by decide +kernel) fun t _ y => ?_
  blk_simp
  rw [after0_7]
  frame_out
  refine ((congrArg _ (show (y : S1024x1024.Idx) = ix2 (y 0) (y 1) from funext fun a => by fin_cases a <;> rfl)).trans
    (pay3_at _ _ (fun a => R.M (row0 t a)) R.Wo (blk0_0 h t) (blk0_1 h t) _ _)).trans ?_
  show R.YA (ix2 (row0 t (y 0)) (y 1)) = R.YA ((win0_7.blk t).view.emb y)
  generalize R.YA = G
  blk_point [idx0 t, row0]

theorem final0_8 : (dat0 V c).arrAt 8 cfg0.N = R.XA := by
  refine (dat0 V c).arrAt_eq_of_covers 8 _ (by decide +kernel) fun t _ y => ?_
  blk_simp
  rw [after0_8]
  frame_out
  refine ((congrArg _ (show (y : S1024x1024.Idx) = ix2 (y 0) (y 1) from funext fun a => by fin_cases a <;> rfl)).trans
    (pay2_at _ _ (fun a => R.M (row0 t a)) R.Wo (blk0_0 h t) (blk0_1 h t) _ _ _ _ (blk0_2 h t) (blk0_3 h t) _ _)).trans ?_
  show R.XA (ix2 (row0 t (y 0)) (y 1)) = R.XA ((win0_8.blk t).view.emb y)
  generalize R.XA = G
  blk_point [idx0 t, row0]

end First

variable (h : Holds1 R V c) (t : Fin cfg1.N)
include h

theorem blk1_0 (p : Fin 2) (a : Fin 512) (l : Fin 2816) : (iblk1 V c 0 t : FVec Ideal S2x512x2816 .bf16) (ix3 p a l) = ((R.G p (row t a) l : ℝ) : EReal) := by
  refine Eq.trans ?_ (h.G p (row t a) l)
  blk_point [iblk1, idx1 t, row]

theorem blk1_1 (q : Fin 4) (k : Fin 1024) (l : Fin 1408) (j : Fin 5632) (hj : q.val * 1408 + l.val = j.val) :
    (iblk1 V c 1 t : FVec Ideal S4x1024x1408 .bf16) (ix3 q k l) = ((R.W k j : ℝ) : EReal) := by
  refine Eq.trans ?_ ((h.W q k l).trans (congrArg (fun j => ((R.W k j : ℝ) : EReal)) (Fin.ext hj)))
  blk_point [iblk1, idx1 t]

theorem blk1_2 (a : Fin 512) (k : Fin 1024) : (iblk1 V c 2 t : FVec Ideal S512x1024 .f32) (ix2 a k) = ((R.X (row t a) k : ℝ) : EReal) := by
  refine Eq.trans ?_ (h.X (row t a) k)
  blk_point [iblk1, idx1 t, row]

theorem blk1_3 (a : Fin 512) (k : Fin 1024) : (iblk1 V c 3 t : FVec Ideal S512x1024 .f32) (ix2 a k) = ((R.d (row t a) k : ℝ) : EReal) := by
  refine Eq.trans ?_ (h.d (row t a) k)
  blk_point [iblk1, idx1 t, row]

theorem blk1_4 (a : Fin 512) (k : Fin 1024) : (iblk1 V c 4 t : FVec Ideal S512x1024 .bf16) (ix2 a k) = ((R.Y (row t a) k : ℝ) : EReal) := by
  refine Eq.trans ?_ (h.Y (row t a) k)
  blk_point [iblk1, idx1 t, row]

theorem blk1_5 (k : Fin 1024) : (iblk1 V c 5 t : FVec Ideal S1x1024 .f32) (ix2 (0 : Fin 1) k) = ((R.g k : ℝ) : EReal) := by
  refine Eq.trans ?_ (h.g k)
  blk_point [iblk1, idx1 t]

theorem blk1_6 (k : Fin 1024) : (iblk1 V c 6 t : FVec Ideal S1x1024 .f32) (ix2 (0 : Fin 1) k) = ((R.s k : ℝ) : EReal) := by
  refine Eq.trans ?_ (h.s k)
  blk_point [iblk1, idx1 t]

theorem blk1_7 (k : Fin 1024) : (iblk1 V c 7 t : FVec Ideal S1x1024 .f32) (ix2 (0 : Fin 1) k) = ((R.ga k : ℝ) : EReal) := by
  refine Eq.trans ?_ (h.ga k)
  blk_point [iblk1, idx1 t]

omit h in
variable (V c) in
/-- A quarter of the block's cotangents, and the quarter of the weight it meets. -/
abbrev ldG (o q : ℕ) (inb : ∀ d : Fin 3, (![o, 0, q] : Fin 3 → ℕ) d + (![1, 512, 1408] : Fin 3 → ℕ) d ≤ (![2, 512, 2816] : Fin 3 → ℕ) d) : FVec Ideal S1x512x1408 .bf16 :=
  View.ld (iblk1 V c 0 t) (Rect.unit (s := S2x512x2816) ![o, 0, q] ![1, 512, 1408] inb)
omit h in
variable (V c) in
abbrev ldW (o : ℕ) (inb : ∀ d : Fin 3, (![o, 0, 0] : Fin 3 → ℕ) d + (![1, 1024, 1408] : Fin 3 → ℕ) d ≤ (![4, 1024, 1408] : Fin 3 → ℕ) d) : FVec Ideal S1x1024x1408 .bf16 :=
  View.ld (iblk1 V c 1 t) (Rect.unit (s := S4x1024x1408) ![o, 0, 0] ![1, 1024, 1408] inb)

theorem ldG_lo (q : ℕ) (inb) (a : Fin 512) (l : Fin 1408) (j : Fin 5632) (hq : q + 1408 ≤ 2816) (hj : j.val = q + l.val) :
    ldG V c t 0 q inb (ix3 (0 : Fin 1) a l) = ((R.D (row t a) j : ℝ) : EReal) :=
  (Rows.ld_slab (l := 2) (n := 512) (m := 2816) (o := 0) (p := 0) (q := q) (iblk1 V c 0 t) inb a l 0 a ⟨q + l.val, by omega⟩ rfl (Nat.zero_add _) rfl).trans
    ((blk1_0 h t _ _ _).trans (congrArg (fun x : ℝ => (x : EReal)) (R.D_lo _ _ _ hj).symm))

theorem ldG_hi (q : ℕ) (inb) (a : Fin 512) (l : Fin 1408) (j : Fin 5632) (hq : q + 1408 ≤ 2816) (hj : j.val = 2816 + (q + l.val)) :
    ldG V c t 1 q inb (ix3 (0 : Fin 1) a l) = ((R.D (row t a) j : ℝ) : EReal) :=
  (Rows.ld_slab (l := 2) (n := 512) (m := 2816) (o := 1) (p := 0) (q := q) (iblk1 V c 0 t) inb a l 1 a ⟨q + l.val, by omega⟩ rfl (Nat.zero_add _) rfl).trans
    ((blk1_0 h t _ _ _).trans (congrArg (fun x : ℝ => (x : EReal)) (R.D_hi _ _ _ hj).symm))

theorem ldW_at (o : Fin 4) (inb) (k : Fin 1024) (l : Fin 1408) (j : Fin 5632) (hj : o.val * 1408 + l.val = j.val) :
    ldW V c t o.val inb (ix3 (0 : Fin 1) k l) = ((R.W k j : ℝ) : EReal) :=
  (Rows.ld_slab (l := 4) (n := 1024) (m := 1408) (o := o.val) (p := 0) (q := 0) (iblk1 V c 1 t) inb k l o k l rfl (Nat.zero_add _) (Nat.zero_add _)).trans
    (blk1_1 h t _ _ _ _ hj)

omit h in
variable (V c) in
/-- The block's cotangents of the modulated rows. -/
abbrev LH : FVec Ideal S512x1024 .f32 :=
  k1_pay6 (F := Ideal) (ldG V c t 0 0 inb_S2x512x2816_S1x512x1408_0_0_0) (ldW V c t 0 inb_S4x1024x1408_S1x1024x1408_0_0_0)
    (ldG V c t 0 1408 inb_S2x512x2816_S1x512x1408_0_0_1408) (ldW V c t 1 inb_S4x1024x1408_S1x1024x1408_1_0_0)
    (ldG V c t 1 0 inb_S2x512x2816_S1x512x1408_1_0_0) (ldW V c t 2 inb_S4x1024x1408_S1x1024x1408_2_0_0)
    (ldG V c t 1 1408 inb_S2x512x2816_S1x512x1408_1_0_1408) (ldW V c t 3 inb_S4x1024x1408_S1x1024x1408_3_0_0)

theorem H_at (a : Fin 512) (k : Fin 1024) : LH V c t (ix2 a k) = ((R.H (row t a) k : ℝ) : EReal) := by
  refine pay6_at _ _ _ _ _ _ _ _ (fun a => R.D (row t a)) R.W (fun a j => ?_) (fun a j => ?_) (fun a j => ?_) (fun a j => ?_) (fun k j => ?_) (fun k j => ?_) (fun k j => ?_) (fun k j => ?_) a k
  · exact ldG_lo h t 0 _ a j _ (by decide) (Nat.zero_add _).symm
  · exact ldG_lo h t 1408 _ a j _ (by decide) rfl
  · exact ldG_hi h t 0 _ a j _ (by decide) (by show 2816 + j.val = 2816 + (0 + j.val); omega)
  · exact ldG_hi h t 1408 _ a j _ (by decide) (by show 4224 + j.val = 2816 + (1408 + j.val); omega)
  · exact ldW_at h t 0 _ k j _ (by show 0 * 1408 + j.val = j.val; omega)
  · exact ldW_at h t 1 _ k j _ (by show 1 * 1408 + j.val = 1408 + j.val; omega)
  · exact ldW_at h t 2 _ k j _ (by show 2 * 1408 + j.val = 2816 + j.val; omega)
  · exact ldW_at h t 3 _ k j _ (by show 3 * 1408 + j.val = 4224 + j.val; omega)

theorem out8 (a : Fin 512) (k : Fin 1024) : (outsAt1 (F := Ideal) V c t.val t.isLt).1 (ix2 a k) = ((R.dx (row t a) k : ℝ) : EReal) := by
  have := pay11_at _ _ _ _ _ _ _ _ _ _ (H_at h t) (blk1_2 h t) (blk1_3 h t) (blk1_5 h t) (blk1_6 h t) a k
  by_cases h0 : t.val % 16 = 0
  · rw [outsAt1_A V c t h0]; frame_out
    exact this
  · rw [outsAt1_B V c t h0]; frame_out
    exact this

theorem out9 (a : Fin 512) (k : Fin 1024) : (outsAt1 (F := Ideal) V c t.val t.isLt).2.1 (ix2 a k) = ((R.ga k * R.dx (row t a) k : ℝ) : EReal) := by
  have := pay12_at _ _ _ _ _ _ _ _ _ _ (H_at h t) (blk1_2 h t) (blk1_3 h t) (blk1_5 h t) (blk1_6 h t) _ _ (blk1_7 h t) a k
  by_cases h0 : t.val % 16 = 0
  · rw [outsAt1_A V c t h0]; frame_out
    exact this
  · rw [outsAt1_B V c t h0]; frame_out
    exact this

omit h in
theorem zero_at (i : Fin 8) (k : Fin 1024) : k1_pay5 (F := Ideal) (ix2 i k) = 0 := by
  pointwise [k1_pay5]

theorem first (i : Fin 8) (k : Fin 1024) (h0 : t.val % 16 = 0) :
    (outsAt1 (F := Ideal) V c t.val t.isLt).2.2 (ix2 i k) = ((∑ a, R.part i.val (row t a) k : ℝ) : EReal) := by
  have p0 := fun p => sum0_at _ _ (H_at h t) p k
  have p1 := fun p => sum1_at _ _ _ _ _ _ (H_at h t) (blk1_2 h t) (blk1_5 h t) p k
  have p2 := fun p => sum2_at _ _ _ _ _ _ (H_at h t) (blk1_2 h t) (blk1_6 h t) p k
  have p3 := fun p => sum3_at _ _ _ _ _ _ _ _ _ _ (H_at h t) (blk1_2 h t) (blk1_3 h t) (blk1_5 h t) (blk1_6 h t) _ _ (blk1_4 h t) p k
  rw [outsAt1_A V c t h0]; frame_out
  by_cases i3 : i.val = 3
  · refine (Rows.canon_hit8 _ _ _ _ _ i3).trans ((p3 _).trans ((congrArg (· + _) ((Rows.readCov8 _ _ _ _ i3 _).trans
      (((Rows.canon_miss8 _ _ _ _ _ (by omega)).trans ((Rows.canon_miss8 _ _ _ _ _ (by omega)).trans ((Rows.canon_miss8 _ _ _ _ _ (by omega)).trans ((Rows.canon_whole8 _ _ (by decide) _ _ _).trans (zero_at i k)))))))).trans ?_))
    simp only [zero_add, i3, Args.part3]
    try rfl
  refine (Rows.canon_miss8 _ _ _ _ _ i3).trans ?_
  by_cases i2 : i.val = 2
  · refine (Rows.canon_hit8 _ _ _ _ _ i2).trans ((p2 _).trans ((congrArg (· + _) ((Rows.readCov8 _ _ _ _ i2 _).trans
      (((Rows.canon_miss8 _ _ _ _ _ (by omega)).trans ((Rows.canon_miss8 _ _ _ _ _ (by omega)).trans ((Rows.canon_whole8 _ _ (by decide) _ _ _).trans (zero_at i k))))))).trans ?_))
    simp only [zero_add, i2, Args.part2]
    try rfl
  refine (Rows.canon_miss8 _ _ _ _ _ i2).trans ?_
  by_cases i1 : i.val = 1
  · refine (Rows.canon_hit8 _ _ _ _ _ i1).trans ((p1 _).trans ((congrArg (· + _) ((Rows.readCov8 _ _ _ _ i1 _).trans
      (((Rows.canon_miss8 _ _ _ _ _ (by omega)).trans ((Rows.canon_whole8 _ _ (by decide) _ _ _).trans (zero_at i k)))))).trans ?_))
    simp only [zero_add, i1, Args.part1]
    try rfl
  refine (Rows.canon_miss8 _ _ _ _ _ i1).trans ?_
  by_cases i0 : i.val = 0
  · refine (Rows.canon_hit8 _ _ _ _ _ i0).trans ((p0 _).trans ((congrArg (· + _) ((Rows.readCov8 _ _ _ _ i0 _).trans
      (((Rows.canon_whole8 _ _ (by decide) _ _ _).trans (zero_at i k))))).trans ?_))
    simp only [zero_add, i0, Args.part0]
    try rfl
  refine (Rows.canon_miss8 _ _ _ _ _ i0).trans ?_
  refine (Rows.canon_whole8 _ _ (by decide) _ _ _).trans ((zero_at i k).trans ?_)
  simp only [R.part_rest (show 4 ≤ i.val by omega), Finset.sum_const_zero, EReal.coe_zero]

theorem next (i : Fin 8) (k : Fin 1024) (h0 : ¬ t.val % 16 = 0) :
    (outsAt1 (F := Ideal) V c t.val t.isLt).2.2 (ix2 i k)
      = (outsAt1 (F := Ideal) V c (t.val - 1) (Nat.lt_of_le_of_lt (Nat.sub_le _ _) t.isLt)).2.2 (ix2 i k) + ((∑ a, R.part i.val (row t a) k : ℝ) : EReal) := by
  have p0 := fun p => sum0_at _ _ (H_at h t) p k
  have p1 := fun p => sum1_at _ _ _ _ _ _ (H_at h t) (blk1_2 h t) (blk1_5 h t) p k
  have p2 := fun p => sum2_at _ _ _ _ _ _ (H_at h t) (blk1_2 h t) (blk1_6 h t) p k
  have p3 := fun p => sum3_at _ _ _ _ _ _ _ _ _ _ (H_at h t) (blk1_2 h t) (blk1_3 h t) (blk1_5 h t) (blk1_6 h t) _ _ (blk1_4 h t) p k
  rw [outsAt1_B V c t h0]; frame_out
  by_cases i3 : i.val = 3
  · refine (Rows.read_hit8 _ _ _ _ _ _ _ i3).trans ((p3 _).trans ((congrArg (· + _) (Rows.ld8 _ _ _ i3 _)).trans ?_))
    simp only [i3, Args.part3]
    try rfl
  refine (Rows.read_miss8 _ _ _ _ _ _ _ i3).trans ?_
  by_cases i2 : i.val = 2
  · refine (Rows.read_hit8 _ _ _ _ _ _ _ i2).trans ((p2 _).trans ((congrArg (· + _) (Rows.ld8 _ _ _ i2 _)).trans ?_))
    simp only [i2, Args.part2]
    try rfl
  refine (Rows.read_miss8 _ _ _ _ _ _ _ i2).trans ?_
  by_cases i1 : i.val = 1
  · refine (Rows.read_hit8 _ _ _ _ _ _ _ i1).trans ((p1 _).trans ((congrArg (· + _) (Rows.ld8 _ _ _ i1 _)).trans ?_))
    simp only [i1, Args.part1]
    try rfl
  refine (Rows.read_miss8 _ _ _ _ _ _ _ i1).trans ?_
  by_cases i0 : i.val = 0
  · refine (Rows.read_hit8 _ _ _ _ _ _ _ i0).trans ((p0 _).trans ((congrArg (· + _) (Rows.ld8 _ _ _ i0 _)).trans ?_))
    simp only [i0, Args.part0]
    try rfl
  refine (Rows.read_miss8 _ _ _ _ _ _ _ i0).trans ?_
  simp only [R.part_rest (show 4 ≤ i.val by omega), Finset.sum_const_zero, EReal.coe_zero, add_zero, View.writes_nil, Memref.IsWhole.read_unread]

theorem final1_8 : (dat1 V c).arrAt 8 cfg1.N = R.DX := by
  refine (dat1 V c).arrAt_eq_of_covers 8 _ (by decide +kernel) fun t _ y => ?_
  blk_simp
  rw [after1_8]
  refine ((congrArg _ (show (y : S512x1024.Idx) = ix2 (y 0) (y 1) from funext fun a => by fin_cases a <;> rfl)).trans (out8 h t _ _)).trans ?_
  show R.DX (ix2 (row t (y 0)) (y 1)) = R.DX ((win1_8.blk t).view.emb y)
  generalize R.DX = G
  blk_point [idx1 t, row]

theorem final1_9 : (dat1 V c).arrAt 9 cfg1.N = R.DY := by
  refine (dat1 V c).arrAt_eq_of_covers 9 _ (by decide +kernel) fun t _ y => ?_
  blk_simp
  rw [after1_9]
  refine ((congrArg _ (show (y : S512x1024.Idx) = ix2 (y 0) (y 1) from funext fun a => by fin_cases a <;> rfl)).trans (out9 h t _ _)).trans ?_
  show R.DY (ix2 (row t (y 0)) (y 1)) = R.DY ((win1_9.blk t).view.emb y)
  generalize R.DY = G
  blk_point [idx1 t, row]

theorem final1_10 (i : Fin 8) (k : Fin 1024) : ((dat1 V c).arrAt 10 cfg1.N : FVec Ideal S8x1024 .f32) (ix2 i k) = ((∑ r, R.part i.val r k : ℝ) : EReal) := by
  have step : ∀ (t : Fin cfg1.N) (j : S8x1024.Idx), (outsAt1 (F := Ideal) V c t.val t.isLt).2.2 j
      = (if t.val % 16 = 0 then 0 else (outsAt1 (F := Ideal) V c (t.val - 1) (Nat.lt_of_le_of_lt (Nat.sub_le _ _) t.isLt)).2.2 j) + ((∑ a, R.part (j 0).val (row t a) (j 1) : ℝ) : EReal) := fun t j => by
    have e : (j : S8x1024.Idx) = ix2 (j 0) (j 1) := funext fun a => by fin_cases a <;> rfl
    rw [e]
    by_cases h0 : t.val % 16 = 0
    · rw [if_pos h0, zero_add]
      exact first h t (j 0) (j 1) h0
    · rw [if_neg h0]
      exact next h t (j 0) (j 1) h0
  refine congrFun ((dat1 V c).arrAt_eq_of_after_last 10 t1_15 (by decide +kernel) (fun j : S8x1024.Idx => ((∑ r, R.part (j 0).val r (j 1) : ℝ) : EReal)) fun j => ?_) (ix2 i k)
  blk_simp
  rw [after1_10, Pipeline.eq_sum_fin_of_reset_step_apply_last (fun n h => (outsAt1 V c n h).2.2) 16 (fun _ => 0) (fun t j => ((∑ a, R.part (j 0).val (row t a) (j 1) : ℝ) : EReal))
    (fun t h0 j => by rw [step t j, if_pos h0]) (fun t h0 j => by rw [step t j, if_neg h0]) (le_of_eq N_1) t1_15 rfl j, zero_add, ← coe_sum]
  refine congrArg _ (Fin.sum_mul_add_congr (S := 16) (n := 512) fun t a hl => ?_)
  exact congrArg (fun r => R.part (j 0).val r (j 1)) (Fin.ext (by show 512 * t.val + a.val = t.val * 512 + a.val; omega))

end Cert.Kernel6Ideal.Ffnin

end
-- ==== Proof.Ffnin.Run.lean ====
module

public import proofs.«01_k».proof.Proof.Ffnin.Blocks

/-! The run of the two kernels: after it every array holds what the last boundary says, so the three results hold what the second kernel
left in them, and the second kernel reads what the first computes. -/

@[expose] public section

set_option maxRecDepth 16384

noncomputable section

namespace Cert.Kernel6Ideal.Ffnin

open Idealize.ShloMosaic TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.Kernel6Ideal Gen
open Idealize.ShloMosaic.Pipeline (Dat)

variable (m : (ℓ : Loc nD τ sig) → Buf (Elt Ideal) ℓ) (ρ : Dev nD → PrngReg)

set_option backward.isDefEq.respectTransparency.types false in
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp _)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

theorem shards_read (w : FVec Ideal S1x1024x5632 .f32) (q : Fin 4) (k : Fin 1024) (l : Fin 1408) :
    truncf .bf16 (transpose S4x1024x1408 [1, 0, 2] (shapeCast S1024x4x1408 (shapeCast S1024x5632 w
      shapeCasts_S1x1024x5632_S1024x5632) shapeCasts_S1024x5632_S1024x4x1408) transposes_S1024x4x1408_S4x1024x1408_1_0_2) bitsLt_bf16_f32 (ix3 q k l)
    = w (ix3 (0 : Fin 1) k ⟨q.val * 1408 + l.val, by omega⟩) := by
  pointwise
  blk_ext

theorem out_weight_read (w : FVec Ideal S1x1024x1024 .f32) (j k : Fin 1024) :
    truncf .bf16 (shapeCast S1024x1024 w shapeCasts_S1x1024x1024_S1024x1024) bitsLt_bf16_f32 (ix2 j k) = w (ix3 (0 : Fin 1) j k) := by
  pointwise

/-- The weight as the second kernel reads it: its columns in four quarters. -/
theorem shards (c : Dev nD) (q : Fin 4) (k : Fin 1024) (l : Fin 1408) :
    V1 m ρ c main_v3 (ix3 q k l) = m (c.tc.loc main_arg7) (ix3 (0 : Fin 1) k ⟨q.val * 1408 + l.val, by omega⟩) := by
  show W1 m ρ c (Proc.devRef .tc main_v3) (ix3 q k l) = _
  after_reads_simp
  exact shards_read _ q k l

/-- The weight as the first kernel reads it. -/
theorem out_weight (c : Dev nD) (j k : Fin 1024) :
    V1 m ρ c main_v5 (ix2 j k) = m (c.tc.loc main_arg1) (ix3 (0 : Fin 1) j k) := by
  show W1 m ρ c (Proc.devRef .tc main_v5) (ix2 j k) = _
  after_reads_simp
  exact out_weight_read _ j k

/-- The arguments in memory are the real ones. -/
structure Holds (R : Args) (c : Dev nD) : Prop where
  M : ∀ r j, (m (c.tc.loc main_arg0) : FVec Ideal S8192x1024 .bf16) (ix2 r j) = ((R.M r j : ℝ) : EReal)
  Wo : ∀ j k, (m (c.tc.loc main_arg1) : FVec Ideal S1x1024x1024 .f32) (ix3 (0 : Fin 1) j k) = ((R.Wo j k : ℝ) : EReal)
  x : ∀ r k, (m (c.tc.loc main_arg2) : FVec Ideal S8192x1024 .f32) (ix2 r k) = ((R.x r k : ℝ) : EReal)
  ga : ∀ k, (m (c.tc.loc main_arg3) : FVec Ideal S1x1024 .f32) (ix2 (0 : Fin 1) k) = ((R.ga k : ℝ) : EReal)
  g : ∀ k, (m (c.tc.loc main_arg4) : FVec Ideal S1x1024 .f32) (ix2 (0 : Fin 1) k) = ((R.g k : ℝ) : EReal)
  s : ∀ k, (m (c.tc.loc main_arg5) : FVec Ideal S1x1024 .f32) (ix2 (0 : Fin 1) k) = ((R.s k : ℝ) : EReal)
  W : ∀ k j, (m (c.tc.loc main_arg7) : FVec Ideal S1x1024x5632 .f32) (ix3 (0 : Fin 1) k j) = ((R.W k j : ℝ) : EReal)
  G : ∀ p r l, (m (c.tc.loc main_arg8) : FVec Ideal S2x8192x2816 .bf16) (ix3 p r l) = ((R.G p r l : ℝ) : EReal)
  d : ∀ r k, (m (c.tc.loc main_arg9) : FVec Ideal S8192x1024 .f32) (ix2 r k) = ((R.d r k : ℝ) : EReal)

variable {m} {R : Args} {c : Dev nD} (h : Holds m R c)
include h

theorem holds0 : Holds0 R (V1 m ρ) c where
  M r j := (congrFun (W1_args m ρ c main_arg0 (by decide)) _).trans (h.M r j)
  Wo j k := (out_weight m ρ c j k).trans (h.Wo j k)
  x r k := (congrFun (W1_args m ρ c main_arg2 (by decide)) _).trans (h.x r k)
  ga k := (congrFun (W1_args m ρ c main_arg3 (by decide)) _).trans (h.ga k)

theorem holds1 : Holds1 R (V2 m ρ) c where
  G p r l := (congrFun (W2_args m ρ c main_arg8 (by decide)) _).trans (h.G p r l)
  W q k l := (congrFun (W2_of m ρ c main_v3 (by decide)) _).trans ((shards m ρ c q k l).trans (h.W k _))
  X r k := congrFun ((W2_arr m ρ c 8).trans (final0_8 (holds0 ρ h))) (ix2 r k)
  d r k := (congrFun (W2_args m ρ c main_arg9 (by decide)) _).trans (h.d r k)
  Y r k := congrFun ((W2_arr m ρ c 7).trans (final0_7 (holds0 ρ h))) (ix2 r k)
  g k := (congrFun (W2_args m ρ c main_arg4 (by decide)) _).trans (h.g k)
  s k := (congrFun (W2_args m ρ c main_arg5 (by decide)) _).trans (h.s k)
  ga k := (congrFun (W2_args m ρ c main_arg3 (by decide)) _).trans (h.ga k)

theorem result_dx : W3 m ρ c (Proc.devRef .tc main_v7_0) = R.DX := (W3_arr m ρ c 8).trans (final1_8 (holds1 ρ h))

theorem result_dy : W3 m ρ c (Proc.devRef .tc main_v7_1) = R.DY := (W3_arr m ρ c 9).trans (final1_9 (holds1 ρ h))

theorem result_st (i : Fin 8) (k : Fin 1024) : (W3 m ρ c (Proc.devRef .tc main_v7_2) : FVec Ideal S8x1024 .f32) (ix2 i k) = ((∑ r, R.part i.val r k : ℝ) : EReal) :=
  (congrFun (W3_arr m ρ c 10) (ix2 i k)).trans (final1_10 (holds1 ρ h) i k)

end Cert.Kernel6Ideal.Ffnin

end
-- ==== Proof.Ffnin.Ref.lean ====
module

public import proofs.«01_k».proof.Proof.Ffnin.Blocks
public import proofs.«01_k».proof.Proof.Gen.Reference6Ideal.Read

/-! The reference's three results over the reals. -/

@[expose] public section

set_option maxRecDepth 16384

noncomputable section

namespace Cert.Reference6Ideal.Ffnin

open Idealize.ShloMosaic TcCoe Cert.Reals
open Cert.Reference6Ideal Cert.Reference6Ideal.Read
open Cert.Kernel6Ideal.Ffnin (Args)

variable (X0 : FVec Ideal S8192x1024 .bf16) (X1 : FVec Ideal S1x1024x1024 .f32) (X2 : FVec Ideal S8192x1024 .f32) (X3 X4 X5 : FVec Ideal S1x1024 .f32)
  (X7 : FVec Ideal S1x1024x5632 .f32) (X8 : FVec Ideal S2x8192x2816 .bf16) (X9 : FVec Ideal S8192x1024 .f32) (R : Args)

structure Holds : Prop where
  M : ∀ r j, X0 (ix2 r j) = ((R.M r j : ℝ) : EReal)
  Wo : ∀ j k, X1 (ix3 (0 : Fin 1) j k) = ((R.Wo j k : ℝ) : EReal)
  x : ∀ r k, X2 (ix2 r k) = ((R.x r k : ℝ) : EReal)
  ga : ∀ k, X3 (ix2 (0 : Fin 1) k) = ((R.ga k : ℝ) : EReal)
  g : ∀ k, X4 (ix2 (0 : Fin 1) k) = ((R.g k : ℝ) : EReal)
  s : ∀ k, X5 (ix2 (0 : Fin 1) k) = ((R.s k : ℝ) : EReal)
  W : ∀ k j, X7 (ix3 (0 : Fin 1) k j) = ((R.W k j : ℝ) : EReal)
  G : ∀ p r l, X8 (ix3 p r l) = ((R.G p r l : ℝ) : EReal)
  d : ∀ r k, X9 (ix2 r k) = ((R.d r k : ℝ) : EReal)

variable {X0 X1 X2 X3 X4 X5 X7 X8 X9 R} (h : Holds X0 X1 X2 X3 X4 X5 X7 X8 X9 R)
include h

theorem Y_at (r : Fin 8192) (k : Fin 1024) : val_main_v2 (F := Ideal) X0 X1 (ix2 r k) = ((R.Y r k : ℝ) : EReal) := by
  pointwise [val_main_v2, val_main_v1, val_main_v0]
  exact coe_dot (h.M r) (fun j => h.Wo j k)

theorem X_at (r : Fin 8192) (k : Fin 1024) : val_main_v11 (F := Ideal) X0 X1 X2 X3 (ix2 r k) = ((R.X r k : ℝ) : EReal) := by
  pointwise [val_main_v11, val_main_v10, val_main_v9]
  simp only [Y_at h, h.x, h.ga, ← EReal.coe_mul, ← EReal.coe_add]
  rfl

theorem D_at (r : Fin 8192) (j : Fin 5632) : val_main_v8 (F := Ideal) X8 (ix2 r j) = ((R.D r j : ℝ) : EReal) := by
  pointwise [val_main_v8, val_main_v7, val_main_v6, val_main_v5, val_main_v4, val_main_v3]
  split_ifs with hj
  · exact (h.G _ _ _).trans (congrArg (fun x : ℝ => (x : EReal)) (R.D_lo _ _ _ rfl).symm)
  · exact (h.G _ _ _).trans (congrArg (fun x : ℝ => (x : EReal)) (R.D_hi _ _ _ (by show j.val = 2816 + (j.val - 2816); omega)).symm)
  · rename_i h1
    exact absurd rfl h1

theorem H_at (r : Fin 8192) (k : Fin 1024) : val_main_v37 (F := Ideal) X7 X8 (ix2 r k) = ((R.H r k : ℝ) : EReal) := by
  pointwise [val_main_v37, val_main_v35]
  exact coe_dot (D_at h r) (h.W k)

theorem dx_at (r : Fin 8192) (k : Fin 1024) : val_main_v67 (F := Ideal) X0 X1 X2 X3 X4 X5 X7 X8 X9 (ix2 r k) = ((R.dx r k : ℝ) : EReal) := by
  pointwise [val_main_v0, val_main_v1, val_main_v3, val_main_v4, val_main_v5, val_main_v6, val_main_v7, val_main_v8, val_main_v12, val_main_v13, val_main_cst, val_main_v14, val_main_v15, val_main_cst_0, val_main_v16, val_main_v17, val_main_cst_1, val_main_v18, val_main_v19, val_main_v20, val_main_v21, val_main_cst_2, val_main_v22, val_main_v23, val_main_v24, val_main_v25, val_main_v26, val_main_v27, val_main_v28, val_main_cst_3, val_main_v29, val_main_v30, val_main_v31, val_main_v32, val_main_v33, val_main_v34, val_main_v35, val_main_v36, val_main_cst_4, val_main_v38, val_main_v39, val_main_v40, val_main_cst_5, val_main_v41, val_main_v42, val_main_v43, val_main_v44, val_main_v45, val_main_cst_6, val_main_v46, val_main_v47, val_main_v48, val_main_v49, val_main_cst_7, val_main_v50, val_main_v51, val_main_cst_8, val_main_v52, val_main_v53, val_main_v54, val_main_v55, val_main_v56, val_main_v57, val_main_cst_9, val_main_v58, val_main_v59, val_main_cst_10, val_main_v60, val_main_v61, val_main_v62, val_main_v63, val_main_v64, val_main_v65, val_main_v66, val_main_v67, val_main_v68, val_main_v69, val_main_v70, val_main_cst_11, val_main_v71, val_main_v72, val_main_cst_12, val_main_v73, val_main_v74, val_main_v75]
  simp only [H_at h, X_at h, h.x, h.d, h.g, h.s, h.ga, bits_eps, bits_1024, bits_neg_half, bits_one, ← EReal.coe_one, ← EReal.coe_mul, ← coe_sum, ← EReal.coe_add, div_1024, rsqrt_ms, div_ms, Finset.univ_unique, Finset.sum_singleton]
  refine congrArg (fun x : ℝ => (x : EReal)) ?_
  unfold Args.dx
  rw [← norm_rule (R.X r) (fun j => R.H r j * (1 + R.s j) * R.g j) k]
  ring

theorem dx_is : val_main_v65 (F := Ideal) X0 X1 X2 X3 X4 X5 X7 X8 X9 = val_main_v67 (F := Ideal) X0 X1 X2 X3 X4 X5 X7 X8 X9 := by
  refine Cert.Rows.of_ix2 fun r k => ?_
  pointwise [val_main_v67]

theorem dy_at (r : Fin 8192) (k : Fin 1024) : val_main_v75 (F := Ideal) X0 X1 X2 X3 X4 X5 X7 X8 X9 (ix2 r k) = ((R.ga k * R.dx r k : ℝ) : EReal) := by
  pointwise [val_main_v75, val_main_v69, val_main_v68]
  simp only [dx_at h, h.ga, ← EReal.coe_mul]

theorem st_at (i : Fin 8) (k : Fin 1024) : val_main_v74 (F := Ideal) X0 X1 X2 X3 X4 X5 X7 X8 X9 (ix2 i k) = ((∑ r, R.part i.val r k : ℝ) : EReal) := by
  pointwise [val_main_v0, val_main_v1, val_main_v3, val_main_v4, val_main_v5, val_main_v6, val_main_v7, val_main_v8, val_main_v12, val_main_v13, val_main_cst, val_main_v14, val_main_v15, val_main_cst_0, val_main_v16, val_main_v17, val_main_cst_1, val_main_v18, val_main_v19, val_main_v20, val_main_v21, val_main_cst_2, val_main_v22, val_main_v23, val_main_v24, val_main_v25, val_main_v26, val_main_v27, val_main_v28, val_main_cst_3, val_main_v29, val_main_v30, val_main_v31, val_main_v32, val_main_v33, val_main_v34, val_main_v35, val_main_v36, val_main_cst_4, val_main_v38, val_main_v39, val_main_v40, val_main_cst_5, val_main_v41, val_main_v42, val_main_v43, val_main_v44, val_main_v45, val_main_cst_6, val_main_v46, val_main_v47, val_main_v48, val_main_v49, val_main_cst_7, val_main_v50, val_main_v51, val_main_cst_8, val_main_v52, val_main_v53, val_main_v54, val_main_v55, val_main_v56, val_main_v57, val_main_cst_9, val_main_v58, val_main_v59, val_main_cst_10, val_main_v60, val_main_v61, val_main_v62, val_main_v63, val_main_v64, val_main_v66, val_main_v68, val_main_v69, val_main_v70, val_main_cst_11, val_main_v71, val_main_v72, val_main_cst_12, val_main_v73, val_main_v74, val_main_v75]
  simp only [H_at h, Y_at h, X_at h, dx_at h, h.x, h.d, h.g, h.s, h.ga, bits_eps, bits_1024, bits_neg_half, bits_one, ← EReal.coe_one, ← EReal.coe_mul, ← coe_sum, ← EReal.coe_add, div_1024, rsqrt_ms, div_ms, Finset.univ_unique, Finset.sum_singleton]
  split_ifs with h0 h1 h2 h3
  · rw [show i.val = 0 by omega]
    rfl
  · rw [show i.val = 1 by omega]
    exact congrArg _ (Finset.sum_congr rfl fun r _ => by rw [R.part1]; ring)
  · rw [show i.val = 2 by omega]
    exact congrArg _ (Finset.sum_congr rfl fun r _ => by rw [R.part2]; ring)
  · rw [show i.val = 3 by omega]
    exact congrArg _ (Finset.sum_congr rfl fun r _ => by rw [R.part3])
  · simp only [R.part_rest (show 4 ≤ i.val by omega), Finset.sum_const_zero, EReal.coe_zero]

end Cert.Reference6Ideal.Ffnin

end
-- ==== Proof.Ffnin.Claim.lean ====
module

public import proofs.«01_k».proof.Defs
public import proofs.«01_k».proof.Proof.Ffnin.Run
public import proofs.«01_k».proof.Proof.Ffnin.Ref
public import proofs.«01_k».proof.Proof.Mixer.Finite
public import proofs.«01_k».proof.Proof.Gen.Pre_ffn_in_finite

/-! The gradient of the second norm and the feed-forward's first product: the kernels' three results are the reference's derivatives. -/

@[expose] public section

set_option maxRecDepth 16384

noncomputable section

namespace Cert.Pre_ffn_in_finite

open Idealize.ShloMosaic Cert.Mixer Cert.Pre_ffn_in_finite Cert.Pre_ffn_in_finite.Facts

theorem real_args (x0 : FVec Ideal S8192x1024 .bf16) (x1 : FVec Ideal S1x1024x1024 .f32) (x2 : FVec Ideal S8192x1024 .f32) (x3 x4 x5 x6 : FVec Ideal S1x1024 .f32)
    (x7 : FVec Ideal S1x1024x5632 .f32) (x8 : FVec Ideal S2x8192x2816 .bf16) (x9 : FVec Ideal S8192x1024 .f32)
    (i : S_.Idx) (h : fn (F := Ideal) x0 x1 x2 x3 x4 x5 x6 x7 x8 x9 i = 1#1) :
    (∀ i, x0 i = (((x0 i).toReal : ℝ) : EReal)) ∧ (∀ i, x1 i = (((x1 i).toReal : ℝ) : EReal)) ∧ (∀ i, x2 i = (((x2 i).toReal : ℝ) : EReal))
    ∧ (∀ i, x3 i = (((x3 i).toReal : ℝ) : EReal)) ∧ (∀ i, x4 i = (((x4 i).toReal : ℝ) : EReal)) ∧ (∀ i, x5 i = (((x5 i).toReal : ℝ) : EReal))
    ∧ (∀ i, x7 i = (((x7 i).toReal : ℝ) : EReal)) ∧ (∀ i, x8 i = (((x8 i).toReal : ℝ) : EReal)) ∧ ∀ i, x9 i = (((x9 i).toReal : ℝ) : EReal) := by
  obtain ⟨h', h9⟩ := IntOp.andi_eq_one.1 h
  obtain ⟨h', h8⟩ := IntOp.andi_eq_one.1 h'
  obtain ⟨h', h7⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i)),
    fun i => real_of_abs_lt (inf_f32 ▸ of_olt (Host.reduce_andi_all _ _ _ _ _ h2 i)),
    fun i => real_of_abs_lt (inf_f32 ▸ of_olt (Host.reduce_andi_all _ _ _ _ _ h3 i)),
    fun i => real_of_abs_lt (inf_f32 ▸ of_olt (Host.reduce_andi_all _ _ _ _ _ h4 i)),
    fun i => real_of_abs_lt (inf_f32 ▸ of_olt (Host.reduce_andi_all _ _ _ _ _ h5 i)),
    fun i => real_of_abs_lt (inf_f32 ▸ of_olt (Host.reduce_andi_all _ _ _ _ _ h7 i)),
    fun i => real_of_abs_lt (inf_bf16 ▸ of_olt (Host.reduce_andi_all _ _ _ _ _ h8 i)),
    fun i => real_of_abs_lt (inf_f32 ▸ of_olt (Host.reduce_andi_all _ _ _ _ _ h9 i))⟩

end Cert.Pre_ffn_in_finite

namespace Cert.Ffnin

open Idealize.ShloMosaic TcCoe Idealize.SL.Sem
open Cert.Kernel6Ideal Gen Cert.Kernel6Ideal.Ffnin

/-- The arguments' real values. -/
def real (x0 : FVec Ideal S8192x1024 .bf16) (x1 : FVec Ideal S1x1024x1024 .f32) (x2 : FVec Ideal S8192x1024 .f32) (x3 x4 x5 : FVec Ideal S1x1024 .f32)
    (x7 : FVec Ideal S1x1024x5632 .f32) (x8 : FVec Ideal S2x8192x2816 .bf16) (x9 : FVec Ideal S8192x1024 .f32) : Args where
  M r j := (x0 (ix2 r j)).toReal
  Wo j k := (x1 (ix3 (0 : Fin 1) j k)).toReal
  x r k := (x2 (ix2 r k)).toReal
  ga k := (x3 (ix2 (0 : Fin 1) k)).toReal
  g k := (x4 (ix2 (0 : Fin 1) k)).toReal
  s k := (x5 (ix2 (0 : Fin 1) k)).toReal
  W k j := (x7 (ix3 (0 : Fin 1) k j)).toReal
  G p r l := (x8 (ix3 p r l)).toReal
  d r k := (x9 (ix2 r k)).toReal

theorem ffn_in_algebraic : Cert.algebraic_Kernel6Ideal_Reference6Ideal_pre_ffn_in_finite := by
  intro m g m' g' hpre hagree
  refine ⟨fun c => W3 m g c (Proc.devRef .tc main_v7_0), fun c => W3 m g c (Proc.devRef .tc main_v7_1), fun c => W3 m g c (Proc.devRef .tc main_v7_2), ?_, ?_⟩
  · refine (θ_run Cert.Kernel6Ideal.defs _ _).mono (fun r h c => ?_) (run_all m g)
    exact ⟨h c _ (mem_uc main_v7_0 (by decide)), h c _ (mem_uc main_v7_1 (by decide)), h c _ (mem_uc main_v7_2 (by decide)),
      (h c _ (mem_uc main_arg0 (by decide))).trans (W3_main_arg0 m g c), (h c _ (mem_uc main_arg1 (by decide))).trans (W3_main_arg1 m g c),
      (h c _ (mem_uc main_arg2 (by decide))).trans (W3_main_arg2 m g c), (h c _ (mem_uc main_arg3 (by decide))).trans (W3_main_arg3 m g c),
      (h c _ (mem_uc main_arg4 (by decide))).trans (W3_main_arg4 m g c), (h c _ (mem_uc main_arg5 (by decide))).trans (W3_main_arg5 m g c),
      (h c _ (mem_uc main_arg6 (by decide))).trans (W3_main_arg6 m g c), (h c _ (mem_uc main_arg7 (by decide))).trans (W3_main_arg7 m g c),
      (h c _ (mem_uc main_arg8 (by decide))).trans (W3_main_arg8 m g c), (h c _ (mem_uc main_arg9 (by decide))).trans (W3_main_arg9 m g c)⟩
  · refine (θ_run Cert.Reference6Ideal.defs _ _).mono (fun r h c => ?_) (Cert.Reference6Ideal.Value.run (F := Ideal) m' g')
    obtain ⟨h0, h1, h2, a⟩ := h c
    obtain ⟨e0, e1, e2, e3, e4, e5, -, e7, e8, e9⟩ := hagree c
    obtain ⟨r0, r1, r2, r3, r4, r5, r7, r8, r9⟩ := Cert.Pre_ffn_in_finite.real_args _ _ _ _ _ _ _ _ _ _ _ (congrFun (hpre c) (fun a => a.elim0))
    have hk : Holds m (real (m (c.tc.loc main_arg0)) (m (c.tc.loc main_arg1)) (m (c.tc.loc main_arg2)) (m (c.tc.loc main_arg3))
        (m (c.tc.loc main_arg4)) (m (c.tc.loc main_arg5)) (m (c.tc.loc main_arg7)) (m (c.tc.loc main_arg8))
        (m (c.tc.loc main_arg9))) c :=
      ⟨fun r j => r0 _, fun j k => r1 _, fun r k => r2 _, fun k => r3 _, fun k => r4 _, fun k => r5 _, fun k j => r7 _, fun p r l => r8 _, fun r k => r9 _⟩
    have hr : Cert.Reference6Ideal.Ffnin.Holds (m (c.tc.loc main_arg0)) (m (c.tc.loc main_arg1)) (m (c.tc.loc main_arg2)) (m (c.tc.loc main_arg3))
        (m (c.tc.loc main_arg4)) (m (c.tc.loc main_arg5)) (m (c.tc.loc main_arg7)) (m (c.tc.loc main_arg8))
        (m (c.tc.loc main_arg9)) _ := ⟨hk.M, hk.Wo, hk.x, hk.ga, hk.g, hk.s, hk.W, hk.G, hk.d⟩
    refine ⟨(h0.trans (Cert.Reference6Ideal.Read.val_main_v65_eq _ _)).trans ?_, (h1.trans (Cert.Reference6Ideal.Read.val_main_v75_eq _ _)).trans ?_,
      (h2.trans (Cert.Reference6Ideal.Read.val_main_v74_eq _ _)).trans ?_, a⟩
    · rw [e0, e1, e2, e3, e4, e5, e7, e8, e9]
      refine (Cert.Reference6Ideal.Ffnin.dx_is hr).trans (Eq.trans ?_ (result_dx g hk).symm)
      exact Cert.Rows.of_ix2 fun i j => Cert.Reference6Ideal.Ffnin.dx_at hr i j
    · rw [e0, e1, e2, e3, e4, e5, e7, e8, e9]
      refine Eq.trans ?_ (result_dy g hk).symm
      exact Cert.Rows.of_ix2 fun i j => Cert.Reference6Ideal.Ffnin.dy_at hr i j
    · rw [e0, e1, e2, e3, e4, e5, e7, e8, e9]
      exact Cert.Rows.of_ix2 fun i j => (Cert.Reference6Ideal.Ffnin.st_at hr i j).trans (result_st g hk i j).symm

end Cert.Ffnin

end
-- ==== Proof.Fwd.Block.lean ====
module

public import proofs.«01_k».proof.Proof.Mixer.Point
public import proofs.«01_k».proof.Proof.Mixer.RefAtt
public import proofs.«01_k».proof.Proof.Gen.Kernel7Ideal.Skeleton

/-! One block of 128 rows of the mixer's forward pass: its attention and its merged rows, over the loads. -/

@[expose] public section

set_option maxRecDepth 16384

noncomputable section

namespace Cert.Kernel7Ideal.Fwd

open Idealize.ShloMosaic TcCoe Cert.Kernel2Ideal Cert.Kernel2Ideal.Gen Cert.Kernel2Ideal.Mixer Cert.Mixer
open Cert.Kernel7Ideal (S512x6400)

/-- The lower half of a row's 128 lanes. -/
def halfV : IVec S512x128 1 := cmpi .slt (iota .tc S512x128 32 [1] Cert.Kernel7Ideal.Gen.iota_S512x128_d1_w32) (broadcast S512x128 64#32)

theorem halfV_is : IsMask halfV fun _ l => l < 64 := fun i => by
  have h1 : (i 1).val < 128 := (i 1).isLt
  pointwise [halfV]
  rw [WordCmp.cmpi_slt_ofNat (by omega) (by omega), ofBool_eq]

/-- What a pair of heads per lane row gives: the weights times the values, divided at the end. -/
def oV (m : IVec S512x256 1) (q4 : FVec Ideal S512x128 .bf16) (k0 v0 : FVec Ideal S256x128 .bf16) (c0 : FVec Ideal S512x1 .f32)
    (k1 v1 : FVec Ideal S256x128 .bf16) (c1 : FVec Ideal S512x1 .f32) : FVec Ideal S512x128 .f32 :=
  mulf (addf (addf (broadcast S512x128 (Scalar.ofBits .f32 0x00000000#32)) (backQ (truncf .bf16 (expV m (scoreV q4 k0) c0) bitsLt_bf16_f32) v0))
      (backQ (truncf .bf16 (expV m (scoreV q4 k1) c1) bitsLt_bf16_f32) v1))
    (select halfV (broadcastTo S512x128 (shapeCast S512x1 (invV m (scoreV q4 k0) c0) Cert.Kernel7Ideal.Gen.shapeCasts_S512x1_S512x1) Cert.Kernel7Ideal.Gen.broadcasts_S512x1_S512x128)
      (broadcastTo S512x128 (shapeCast S512x1 (invV m (scoreV q4 k1) c1) Cert.Kernel7Ideal.Gen.shapeCasts_S512x1_S512x1) Cert.Kernel7Ideal.Gen.broadcasts_S512x1_S512x128))

section
variable {nb h : ℕ} {Z D kv : ℕ → ℕ → ℝ} {SK : ℕ → ℝ} {m : IVec S512x256 1} {q4 g4 : FVec Ideal S512x128 .bf16}

/-- One group's weights times its values, before the division, and the divisor. -/
theorem half_is {e : ℕ} {ke ve : FVec Ideal S256x128 .bf16} {col : FVec Ideal S512x1 .f32} (G : Grp nb h e Z D kv SK m q4 g4 ke ve col)
    (i : S512x128.Idx) : ∃ a d : ℝ, backQ (truncf .bf16 (expV m (scoreV q4 ke) col) bitsLt_bf16_f32) ve i = ((if (i 1).val / 64 = e then a else 0 : ℝ) : EReal)
      ∧ invV m (scoreV q4 ke) col (ix2 (i 0) 0) = ((d : ℝ) : EReal)
      ∧ a * d = ∑ k : Fin 256, wt (seen nb) Z SK kv (128 * nb) (8 * h + 2 * ((i 0).val / 128) + e) ((i 0).val % 128) k * kv k (128 + 64 * h + (i 1).val % 64) := by
  obtain ⟨μ, hμ⟩ := topV_real (sk := fun p => SK (8 * h + 2 * (p / 128) + e)) G.m G.s G.c (ix2 (i 0) 0)
  refine ⟨∑ k : Fin 256, ex (seen nb) (fun p k => sc Z kv (128 * nb) (8 * h + 2 * (p / 128) + e) (p % 128) k) (i 0).val k * Real.exp (-μ) * kv k (128 + 64 * h + (i 1).val % 64),
    _, ?_, invV_real G.m G.s G.c _ hμ, ?_⟩
  · pointwise [backQ]
    simp only [fun k : Fin 256 => expV_real G.m G.s G.c (ix2 (i 0) k) hμ, G.v _, ← EReal.coe_mul, ← coe_sum]
    refine congrArg (fun x : ℝ => (x : EReal)) ?_
    by_cases hl : (i 1).val / 64 = e
    · rw [if_pos hl]
      exact Finset.sum_congr rfl fun k _ => congrArg _ (if_pos hl)
    · rw [if_neg hl]
      exact Finset.sum_eq_zero fun k _ => (congrArg _ (if_neg hl)).trans (mul_zero _)
  · rw [Finset.sum_mul]
    refine Finset.sum_congr rfl fun k _ => ?_
    rw [← (Grp.rows (i 0).val).1 k, mul_right_comm]
    refine congrArg (· * _) ?_
    exact mul_inv_shift _ (den_pos _ _ (fun p => SK (8 * h + 2 * (p / 128) + e)) (i 0).val).ne' μ

theorem oV_is {g5 : FVec Ideal S512x128 .bf16} {k0 v0 k1 v1 : FVec Ideal S256x128 .bf16} {c0 c1 : FVec Ideal S512x1 .f32} (G0 : Grp nb h 0 Z D kv SK m q4 g4 k0 v0 c0) (G1 : Grp nb h 1 Z D kv SK m q4 g5 k1 v1 c1) :
    Is2 (oV m q4 k0 v0 c0 k1 v1 c1) fun p l => ∑ k : Fin 256,
      wt (seen nb) Z SK kv (128 * nb) (8 * h + 2 * (p / 128) + l / 64) (p % 128) k * kv k (128 + 64 * h + l % 64) := fun i => by
  have h1 : (i 1).val < 128 := (i 1).isLt
  obtain ⟨a, d, ha, hd, had⟩ := half_is G0 i
  obtain ⟨a', d', ha', hd', had'⟩ := half_is G1 i
  pointwise [oV]
  rw [ha, ha', hd, hd', halfV_is i, select_mask]
  beta_reduce
  by_cases hl : (i 1).val < 64
  · rw [if_pos hl, if_pos (by omega), if_neg (by omega), EReal.coe_zero, add_zero, ← EReal.coe_mul, had]
    simp only [show (i 1).val / 64 = 0 by omega]
  · rw [if_neg hl, if_neg (by omega), if_pos (by omega), EReal.coe_zero, zero_add, ← EReal.coe_mul, had']
    simp only [show (i 1).val / 64 = 1 by omega]

end

theorem part {b c w : ℕ} (hb : b < 4) (h : c + w ≤ 6400) : ∀ a, (![128 * b, c] : Fin 2 → ℕ) a + (![128, w] : Fin 2 → ℕ) a ≤ S512x6400.size a
  | 0 => by show 128 * b + 128 ≤ 512; omega
  | 1 => h
theorem one {k : ℕ} (h : k < 16) : ∀ a, (![0, k] : Fin 2 → ℕ) a + S1x1.size a ≤ S1x16.size a
  | 0 => by show 0 + 1 ≤ 1; omega
  | 1 => by show k + 1 ≤ 16; omega
theorem row {k : ℕ} (h : k < 3) : ∀ a, (![k, 0] : Fin 2 → ℕ) a + S1x1024.size a ≤ S3x1024.size a
  | 0 => by show k + 1 ≤ 3; omega
  | 1 => by show 0 + 1024 ≤ 1024; omega
theorem quarter {j : ℕ} (h : j < 4) : S512x128.Slices ![128 * j, 0] S128x128 := ⟨rfl, fun
  | 0 => by show 128 * j + 128 ≤ 512; omega
  | 1 => by show 0 + 128 ≤ 128; omega⟩

/-- What the body loads for the block `b` of a point: its mask, the previous keys and values, the rows before it, the loads of its own rows,
of the sinks and of the convolution's weights, and the attention it has stored. -/
def blk (b : ℕ) (hb : b < 4) (m : IVec S512x256 1) (kv0 : Vec Ideal S128x256 .bf16) (prev : FVec Ideal S16x1024 .f32)
    (x0 : Vec Ideal S512x6400 .bf16) (x3 : Vec Ideal S1x16 .f32) (x4 : Vec Ideal S3x1024 .f32) (a : Vec Ideal S128x1024 .bf16) : Blk :=
  let z (c w : ℕ) (h : c + w ≤ 6400) : Vec Ideal (⟨2, ![128, w]⟩ : Shape) .bf16 :=
    View.ld x0 (Rect.unit (s := S512x6400) ![128 * b, c] ![128, w] (part hb h))
  let s (k : ℕ) (h : k < 16) : Elt Ideal .f32 := View.ld x3 (Rect.unit (s := S1x16) ![0, k] S1x1.size (one h)) (Shape.Idx.first (s := S1x1) (by decide))
  let w (k : ℕ) (h : k < 3) : Vec Ideal S1x1024 .f32 := View.ld x4 (Rect.unit (s := S3x1024) ![k, 0] S1x1024.size (row h))
  { m := m, kv0 := kv0, kv1 := z 1024 256 (by omega)
    q0 := z 0 128 (by omega), q1 := z 128 128 (by omega), q2 := z 256 128 (by omega), q3 := z 384 128 (by omega)
    q4 := z 512 128 (by omega), q5 := z 640 128 (by omega), q6 := z 768 128 (by omega), q7 := z 896 128 (by omega)
    dm := z 4352 1024 (by omega), ga := z 4352 1024 (by omega), av := a, cb := z 1280 1024 (by omega), cc := z 2304 1024 (by omega)
    cx := z 3328 1024 (by omega), gc := z 5376 1024 (by omega)
    s0 := s 0 (by omega), s1 := s 1 (by omega), s2 := s 2 (by omega), s3 := s 3 (by omega), s4 := s 4 (by omega), s5 := s 5 (by omega)
    s6 := s 6 (by omega), s7 := s 7 (by omega), s8 := s 8 (by omega), s9 := s 9 (by omega), s10 := s 10 (by omega), s11 := s 11 (by omega)
    s12 := s 12 (by omega), s13 := s 13 (by omega), s14 := s 14 (by omega), s15 := s 15 (by omega)
    prev := prev, nxt := prev, w0 := w 0 (by omega), w1 := w 1 (by omega), w2 := w 2 (by omega) }

/-- The attention of the heads 8h to 8h + 7 over a block, four pairs of heads below each other. -/
def oB (B : Blk) : ℕ → FVec Ideal S512x128 .f32
  | 0 => oV B.m B.q4_0 B.ke00 B.ve00 B.col00 B.ke01 B.ve01 B.col01
  | _ => oV B.m B.q4_1 B.ke10 B.ve10 B.col10 B.ke11 B.ve11 B.col11

/-- The stored columns of one pair of heads. -/
def pair (o : FVec Ideal S512x128 .f32) (j : ℕ) (hj : j < 4) : FVec Ideal S128x128 .bf16 :=
  truncf .bf16 (extractStridedSlice S128x128 ![128 * j, 0] o (quarter hj)) bitsLt_bf16_f32

/-- The merged rows of a block. -/
def mrg (B : Blk) : FVec Ideal S128x1024 .bf16 :=
  bf (addf (mulf B.sa (fl (shapeCast S128x1024 B.av shapeCasts_S128x1024_S128x1024))) (mulf B.sg (mulf (fl B.cb) B.cnvV)))

/-- The merged row over the reals, but for the convolution's weights. -/
def mergedR (Z : ℕ → ℕ → ℝ) (SK : ℕ → ℝ) (W : ℕ → ℕ → EReal) (g c : ℕ) : EReal :=
  ((Cert.Mixer.sig (Z g (4352 + c)) * attn Z SK g c : ℝ) : EReal)
    + ((Cert.Mixer.sig (Z g (5376 + c)) : ℝ) : EReal) * (((Z g (1280 + c) : ℝ) : EReal)
      * (W 0 c * ((dn (pin Z) 2 g c : ℝ) : EReal) + W 1 c * ((dn (pin Z) 1 g c : ℝ) : EReal) + W 2 c * ((pin Z g c : ℝ) : EReal)))

/-- What a block's loads hold. -/
structure Holds (b : ℕ) (hb : b < 4) (n : ℕ) (Z : ℕ → ℕ → ℝ) (SK : ℕ → ℝ) (W : ℕ → ℕ → EReal) (m : IVec S512x256 1) (kv0 : Vec Ideal S128x256 .bf16)
    (prev : FVec Ideal S16x1024 .f32) (x0 : Vec Ideal S512x6400 .bf16) (x3 : Vec Ideal S1x16 .f32) (x4 : Vec Ideal S3x1024 .f32) : Prop where
  m : IsMask m (seen (4 * n + b))
  kv0 : Is2 kv0 fun k c => Z (128 * (4 * n + b - 1) + k) (1024 + c)
  prev : Is2 prev fun r c => if 16 ≤ 128 * (4 * n + b) + r then pin Z (128 * (4 * n + b) + r - 16) c else 0
  z : Is2 x0 fun r c => Z (512 * n + r) c
  s : Is2 x3 fun _ l => SK l
  w : ∀ i, x4 i = W (i 0).val (i 1).val

/-- The keys and values of the previous and of the own block. -/
def kvB (Z : ℕ → ℕ → ℝ) (nb k c : ℕ) : ℝ := if k < 128 then Z (128 * (nb - 1) + k) (1024 + c) else Z (128 * nb + (k - 128)) (1024 + c)

namespace Holds
variable {b n : ℕ} {hb : b < 4} {Z : ℕ → ℕ → ℝ} {SK : ℕ → ℝ} {W : ℕ → ℕ → EReal} {m : IVec S512x256 1} {kv0 : Vec Ideal S128x256 .bf16}
  {prev : FVec Ideal S16x1024 .f32} {x0 : Vec Ideal S512x6400 .bf16} {x3 : Vec Ideal S1x16 .f32} {x4 : Vec Ideal S3x1024 .f32}
  (h : Holds b hb n Z SK W m kv0 prev x0 x3 x4)
include h

theorem sink {j : ℕ} {hb} {hp} : x3 ((Rect.unit (s := S1x16) ![0, j] S1x1.size hb).idx (Shape.Idx.first hp)) = ((SK j : ℝ) : EReal) := by
  rw [h.s]
  exact congrArg (fun l => ((SK l : ℝ) : EReal)) (by simp [Rect.unit, LoadRect.idx, Shape.Idx.first])

theorem own {c w : ℕ} {hw} : Is2 (n := 128) (k := w) (fun i => x0 ((Rect.unit (s := S512x6400) ![128 * b, c] ![128, w] hw).idx i))
    fun r l => Z (128 * (4 * n + b) + r) (c + l) :=
  (ld_is h.z).congr fun r l _ _ => congrArg₂ Z (by omega) rfl

theorem wrow {k : ℕ} {hw} (i : S1x1024.Idx) : x4 ((Rect.unit (s := S3x1024) ![k, 0] S1x1024.size hw).idx i) = W k (i 1).val := by
  have hi : (i 0).val < 1 := (i 0).isLt
  rw [h.w]
  refine congrArg₂ W ?_ ?_
  · simp [Rect.unit, LoadRect.idx]
  · simp [Rect.unit, LoadRect.idx]

theorem isA (a : Vec Ideal S128x1024 .bf16) :
    (blk b hb m kv0 prev x0 x3 x4 a).IsA (4 * n + b) Z (fun r c => Z r (4352 + c)) SK (kvB Z (4 * n + b)) where
  m := h.m
  kv0 := h.kv0.congr fun r c hr _ => (if_pos hr).symm
  kv1 := h.own.congr fun r c _ _ => by
    show _ = kvB Z (4 * n + b) (128 + r) c
    rw [kvB, if_neg (by omega)]; exact congrArg₂ Z (by omega) rfl
  hkv := fun r k c hs => by
    rw [kvB, kvS]
    have h2 : 0 < 4 * n + b ∨ 128 ≤ k := hs.2
    by_cases hk : k < 128
    · rw [if_pos hk, if_neg (by omega)]; exact congrArg₂ Z (by omega) rfl
    · rw [if_neg hk, if_neg (by omega)]; exact congrArg₂ Z (by omega) rfl
  q0 := h.own.congr fun r c _ _ => congrArg (Z _) (Nat.zero_add c)
  q1 := h.own
  q2 := h.own
  q3 := h.own
  q4 := h.own
  q5 := h.own
  q6 := h.own
  q7 := h.own
  dm := h.own
  ga := h.own
  s0 := h.sink
  s1 := h.sink
  s2 := h.sink
  s3 := h.sink
  s4 := h.sink
  s5 := h.sink
  s6 := h.sink
  s7 := h.sink
  s8 := h.sink
  s9 := h.sink
  s10 := h.sink
  s11 := h.sink
  s12 := h.sink
  s13 := h.sink
  s14 := h.sink
  s15 := h.sink

theorem oB_is (a : Vec Ideal S128x1024 .bf16) {e : ℕ} (he : e < 2) : Is2 (oB (blk b hb m kv0 prev x0 x3 x4 a) e) fun p l =>
    attn Z SK (128 * (4 * n + b) + p % 128) (512 * e + 128 * (p / 128) + l) := by
  have I := h.isA a
  have key : ∀ {O : FVec Ideal S512x128 .f32}, (Is2 O fun p l => ∑ k : Fin 256, wt (seen (4 * n + b)) Z SK (kvB Z (4 * n + b)) (128 * (4 * n + b))
      (8 * e + 2 * (p / 128) + l / 64) (p % 128) k * kvB Z (4 * n + b) k (128 + 64 * e + l % 64)) →
      Is2 O fun p l => attn Z SK (128 * (4 * n + b) + p % 128) (512 * e + 128 * (p / 128) + l) := fun hO => hO.congr fun p l hp hl => by
    rw [attn, show (128 * (4 * n + b) + p % 128) / 128 = 4 * n + b by omega, show (128 * (4 * n + b) + p % 128) % 128 = p % 128 by omega,
      show (512 * e + 128 * (p / 128) + l) / 64 = 8 * e + 2 * (p / 128) + l / 64 by omega,
      show (8 * e + 2 * (p / 128) + l / 64) / 8 = e by omega, show (512 * e + 128 * (p / 128) + l) % 64 = l % 64 by omega]
    refine Finset.sum_congr rfl fun k _ => ?_
    have hw : wt (seen (4 * n + b)) Z SK (kvB Z (4 * n + b)) (128 * (4 * n + b)) (8 * e + 2 * (p / 128) + l / 64) (p % 128) k
        = wt (seen (4 * n + b)) Z SK (kvS Z (4 * n + b)) (128 * (4 * n + b)) (8 * e + 2 * (p / 128) + l / 64) (p % 128) k :=
      pr_congr (fun k hv => by simp only [sc, I.hkv _ k _ hv]) k
    by_cases hv : seen (4 * n + b) (p % 128) k
    · rw [hw, I.hkv _ k _ hv, mul_comm]
    · rw [hw, wt, pr_hidden hv, zero_mul, mul_zero]
  rcases (by omega : e = 0 ∨ e = 1) with rfl | rfl
  · exact key (oV_is I.grp00 I.grp01)
  · exact key (oV_is I.grp10 I.grp11)

theorem pair_is (a : Vec Ideal S128x1024 .bf16) {e j : ℕ} (he : e < 2) (hj : j < 4) : Is2 (pair (oB (blk b hb m kv0 prev x0 x3 x4 a) e) j hj) fun r l =>
    attn Z SK (512 * n + 128 * b + r) (512 * e + 128 * j + l) := fun i => by
  have hi : (i 0).val < 128 := (i 0).isLt
  refine Eq.trans ?_ ((h.oB_is a he (ix2 (⟨128 * j + (i 0).val, by omega⟩ : Fin 512) ⟨(i 1).val, (i 1).isLt⟩)).trans ?_)
  · refine congrArg (oB (blk b hb m kv0 prev x0 x3 x4 a) e) (funext fun d => Fin.ext ?_)
    match d with
    | 0 => rfl
    | 1 => exact Nat.zero_add _
  · refine congrArg (fun x : ℝ => (x : EReal)) (congrArg₂ (attn Z SK) ?_ ?_)
    · show 128 * (4 * n + b) + (128 * j + (i 0).val) % 128 = _
      omega
    · show 512 * e + 128 * ((128 * j + (i 0).val) / 128) + (i 1).val = _
      omega

theorem mrg_is {a : Vec Ideal S128x1024 .bf16} (ha : Is2 a fun r c => attn Z SK (512 * n + 128 * b + r) c) (i : S128x1024.Idx) :
    mrg (blk b hb m kv0 prev x0 x3 x4 a) i = mergedR Z SK W (512 * n + 128 * b + (i 0).val) (i 1).val := by
  have hp : Is2 (blk b hb m kv0 prev x0 x3 x4 a).pinV fun r c => pin Z (128 * (4 * n + b) + r) c := is2_mul h.own h.own
  have e1 : Is2 (blk b hb m kv0 prev x0 x3 x4 a).pm1 _ := dn1_is (by omega) hp h.prev
  have e2 : Is2 (blk b hb m kv0 prev x0 x3 x4 a).pm2 _ := dn2_is (by omega) hp h.prev
  have es : Is2 (blk b hb m kv0 prev x0 x3 x4 a).sa _ := logistic_is (Blk.fl_is h.own)
  have eg : Is2 (blk b hb m kv0 prev x0 x3 x4 a).sg _ := logistic_is (Blk.fl_is h.own)
  have eb : Is2 (blk b hb m kv0 prev x0 x3 x4 a).cb _ := h.own
  have hR : 128 * (4 * n + b) = 512 * n + 128 * b := by omega
  rw [hR] at hp e1 e2 es eg eb
  pointwise [mrg, bf, fl, Blk.cnvV, wV]
  rw [es, eg, eb, e1, e2, hp]
  exact congrArg₂ (· + ·) ((congrArg _ (ha i)).trans (EReal.coe_mul _ _).symm) (congrArg _ (congrArg _ (congrArg₂ (· + ·)
    (congrArg₂ (· + ·) (congrArg (· * _) (h.wrow _)) (congrArg (· * _) (h.wrow _))) (congrArg (· * _) (h.wrow _)))))
end Holds

end Cert.Kernel7Ideal.Fwd

end
-- ==== Proof.Fwd.Outs.lean ====
module

public import proofs.«01_k».proof.Proof.Gen.Kernel7Ideal.Frame
public import proofs.«01_k».proof.Proof.Fwd.Block

/-! The two output blocks of a point of the mixer's forward pass: the attention and the merged rows of four blocks of 128 rows. -/

@[expose] public section

set_option maxRecDepth 16384

noncomputable section

namespace Cert.Kernel7Ideal.Fwd

open Idealize.ShloMosaic TcCoe Idealize.SL.Sem Cert.Kernel7Ideal Cert.Kernel7Ideal.Gen
open Cert.Kernel2Ideal.Mixer (IsMask maskV bandV)
open Cert.Mixer (Is2)
open Idealize.ShloMosaic.Pipeline (Dat)

/-- The point's word, its previous rows, and those of a later block of the point. -/
def word (t : Fin cfg0.N) : BitVec 32 := BitVec.ofNat 32 (grid0.coords t 0).val
def before (n : BitVec 32) (x2 : Vec Ideal S16x6400 .bf16) : FVec Ideal S16x1024 .f32 :=
  Scalar.select (Scalar.cmpi .sgt n 0#32) (mulf (extf .f32 (View.ld x2 (Rect.unit ![0, 2304] S16x1024.size inb_S16x6400_S16x1024_0_2304)) bitsLt_bf16_f32)
    (extf .f32 (View.ld x2 (Rect.unit ![0, 3328] S16x1024.size inb_S16x6400_S16x1024_0_3328)) bitsLt_bf16_f32)) (broadcast S16x1024 (Scalar.ofBits .f32 0x00000000#32))
theorem last {b c : ℕ} (hb : b + 1 < 4) (h : c + 1024 ≤ 6400) : ∀ a, (![128 * b + 112, c] : Fin 2 → ℕ) a + S16x1024.size a ≤ S512x6400.size a
  | 0 => by show 128 * b + 112 + 16 ≤ 512; omega
  | 1 => h
def within (b : ℕ) (hb : b + 1 < 4) (x0 : Vec Ideal S512x6400 .bf16) : FVec Ideal S16x1024 .f32 :=
  mulf (extf .f32 (View.ld x0 (Rect.unit ![128 * b + 112, 2304] S16x1024.size (last hb (by omega)))) bitsLt_bf16_f32)
    (extf .f32 (View.ld x0 (Rect.unit ![128 * b + 112, 3328] S16x1024.size (last hb (by omega)))) bitsLt_bf16_f32)

theorem tile {b e j : ℕ} (hb : b < 4) (he : e < 2) (hj : j < 4) : ∀ a, (![128 * b, 512 * e + 128 * j] : Fin 2 → ℕ) a + S128x128.size a ≤ S512x1024.size a
  | 0 => by show 128 * b + 128 ≤ 512; omega
  | 1 => by show 512 * e + 128 * j + 128 ≤ 1024; omega

/-- A point's four blocks. -/
structure Point (n : ℕ) (w : BitVec 32) (Z : ℕ → ℕ → ℝ) (SK : ℕ → ℝ) (W : ℕ → ℕ → EReal) (x0 : Vec Ideal S512x6400 .bf16) (x1 : Vec Ideal S128x256 .bf16)
    (x2 : Vec Ideal S16x6400 .bf16) (x3 : Vec Ideal S1x16 .f32) (x4 : Vec Ideal S3x1024 .f32) : Prop where
  b0 : Holds 0 (by omega) n Z SK W (maskV w) x1 (before w x2) x0 x3 x4
  b1 : Holds 1 (by omega) n Z SK W bandV (View.ld x0 (Rect.unit ![0, 1024] S128x256.size inb_S512x6400_S128x256_0_1024)) (within 0 (by omega) x0) x0 x3 x4
  b2 : Holds 2 (by omega) n Z SK W bandV (View.ld x0 (Rect.unit ![128, 1024] S128x256.size inb_S512x6400_S128x256_128_1024)) (within 1 (by omega) x0) x0 x3 x4
  b3 : Holds 3 (by omega) n Z SK W bandV (View.ld x0 (Rect.unit ![256, 1024] S128x256.size inb_S512x6400_S128x256_256_1024)) (within 2 (by omega) x0) x0 x3 x4

/-- The attention and the merged rows of a point's block. -/
def attnP (n : ℕ) (Z : ℕ → ℕ → ℝ) (SK : ℕ → ℝ) (y : S512x1024.Idx) : EReal := ((Cert.Mixer.attn Z SK (512 * n + (y 0).val) (y 1).val : ℝ) : EReal)
def mrgP (n : ℕ) (Z : ℕ → ℕ → ℝ) (SK : ℕ → ℝ) (W : ℕ → ℕ → EReal) (y : S512x1024.Idx) : EReal := mergedR Z SK W (512 * n + (y 0).val) (y 1).val

section
variable {b n : ℕ} {hb : b < 4} {Z : ℕ → ℕ → ℝ} {SK : ℕ → ℝ} {W : ℕ → ℕ → EReal} {m : IVec S512x256 1} {kv0 : Vec Ideal S128x256 .bf16}
  {prev : FVec Ideal S16x1024 .f32} {x0 : Vec Ideal S512x6400 .bf16} {x3 : Vec Ideal S1x16 .f32} {x4 : Vec Ideal S3x1024 .f32}

theorem attn_piece (h : Holds b hb n Z SK W m kv0 prev x0 x3 x4) {a : Vec Ideal S128x1024 .bf16} {o : FVec Ideal S512x128 .f32} {e : ℕ} (j : ℕ)
    (ho : o = oB (blk b hb m kv0 prev x0 x3 x4 a) e) (he : e < 2) (hj : j < 4) :
    ∀ x : S128x128.Idx, pair o j hj x = attnP n Z SK ((Rect.unit (s := S512x1024) ![128 * b, 512 * e + 128 * j] S128x128.size (tile hb he hj)).emb x) := fun x => by
  subst ho
  refine (h.pair_is a he hj x).trans ?_
  refine congrArg (fun x : ℝ => (x : EReal)) (congrArg₂ (Cert.Mixer.attn Z SK) ?_ ?_)
  · simp [Rect.unit, Rect.emb, Nat.add_assoc]
  · simp [Rect.unit, Rect.emb]
end

variable (m : (ℓ : Loc nD τ sig) → Buf (Elt Ideal) ℓ) (c : Dev nD)

section
variable {Z : ℕ → ℕ → ℝ} {SK : ℕ → ℝ} {W : ℕ → ℕ → EReal} {t : Fin cfg0.N}
  (P : Point t.val (word t) Z SK W (iblk m c 0 t) (iblk m c 1 t) (iblk m c 2 t) (iblk m c 3 t) (iblk m c 4 t)) (a : Vec Ideal S128x1024 .bf16)
include P a

set_option maxHeartbeats 4000000
theorem after5 (y : S512x1024.Idx) : ((dats m 0 c).after 5 t : Vec Ideal S512x1024 .bf16) y = attnP t.val Z SK y := by
  rw [after0_5]; unfold outsAt0; dsimp only; frame_out
  rw [← List.append_nil (_ :: _)]
  refine View.canon_append_of_piecesOf (Val := Elt Ideal) (e := .bf16) (s := S512x1024) (attnP t.val Z SK) [] _ ?_ y (View.cover_of_tiledL (s := S512x1024) _ ![128, 128] (by sl_kernel_rfl) y)
  refine ⟨attn_piece P.b3 3 (a := a) (e := 1) ?o31 (by omega) (by omega),
    attn_piece P.b3 2 (a := a) (e := 1) ?o31 (by omega) (by omega),
    attn_piece P.b3 1 (a := a) (e := 1) ?o31 (by omega) (by omega),
    attn_piece P.b3 0 (a := a) (e := 1) ?o31 (by omega) (by omega),
    attn_piece P.b3 3 (a := a) (e := 0) ?o30 (by omega) (by omega),
    attn_piece P.b3 2 (a := a) (e := 0) ?o30 (by omega) (by omega),
    attn_piece P.b3 1 (a := a) (e := 0) ?o30 (by omega) (by omega),
    attn_piece P.b3 0 (a := a) (e := 0) ?o30 (by omega) (by omega),
    attn_piece P.b2 3 (a := a) (e := 1) ?o21 (by omega) (by omega),
    attn_piece P.b2 2 (a := a) (e := 1) ?o21 (by omega) (by omega),
    attn_piece P.b2 1 (a := a) (e := 1) ?o21 (by omega) (by omega),
    attn_piece P.b2 0 (a := a) (e := 1) ?o21 (by omega) (by omega),
    attn_piece P.b2 3 (a := a) (e := 0) ?o20 (by omega) (by omega),
    attn_piece P.b2 2 (a := a) (e := 0) ?o20 (by omega) (by omega),
    attn_piece P.b2 1 (a := a) (e := 0) ?o20 (by omega) (by omega),
    attn_piece P.b2 0 (a := a) (e := 0) ?o20 (by omega) (by omega),
    attn_piece P.b1 3 (a := a) (e := 1) ?o11 (by omega) (by omega),
    attn_piece P.b1 2 (a := a) (e := 1) ?o11 (by omega) (by omega),
    attn_piece P.b1 1 (a := a) (e := 1) ?o11 (by omega) (by omega),
    attn_piece P.b1 0 (a := a) (e := 1) ?o11 (by omega) (by omega),
    attn_piece P.b1 3 (a := a) (e := 0) ?o10 (by omega) (by omega),
    attn_piece P.b1 2 (a := a) (e := 0) ?o10 (by omega) (by omega),
    attn_piece P.b1 1 (a := a) (e := 0) ?o10 (by omega) (by omega),
    attn_piece P.b1 0 (a := a) (e := 0) ?o10 (by omega) (by omega),
    attn_piece P.b0 3 (a := a) (e := 1) ?o01 (by omega) (by omega),
    attn_piece P.b0 2 (a := a) (e := 1) ?o01 (by omega) (by omega),
    attn_piece P.b0 1 (a := a) (e := 1) ?o01 (by omega) (by omega),
    attn_piece P.b0 0 (a := a) (e := 1) ?o01 (by omega) (by omega),
    attn_piece P.b0 3 (a := a) (e := 0) ?o00 (by omega) (by omega),
    attn_piece P.b0 2 (a := a) (e := 0) ?o00 (by omega) (by omega),
    attn_piece P.b0 1 (a := a) (e := 0) ?o00 (by omega) (by omega),
    attn_piece P.b0 0 (a := a) (e := 0) ?o00 (by omega) (by omega), trivial⟩
  case o31 => rfl
  case o30 => rfl
  case o21 => rfl
  case o20 => rfl
  case o11 => rfl
  case o10 => rfl
  case o01 => rfl
  case o00 => rfl
end
end Cert.Kernel7Ideal.Fwd
end
-- ==== Proof.Fwd.Merged.lean ====
module

public import proofs.«01_k».proof.Proof.Fwd.Outs

/-! The merged rows of a point: each block's attention is read back from the stores that cover its rows. -/

@[expose] public section

set_option maxRecDepth 16384

noncomputable section

namespace Cert.Kernel7Ideal.Fwd

open Idealize.ShloMosaic TcCoe Idealize.SL.Sem Cert.Kernel7Ideal Cert.Kernel7Ideal.Gen
open Cert.Kernel2Ideal.Mixer (IsMask maskV bandV)
open Cert.Mixer (Is2 attn)
open Idealize.ShloMosaic.Pipeline (Dat)

section
variable {b n : ℕ} {hb : b < 4} {Z : ℕ → ℕ → ℝ} {SK : ℕ → ℝ} {W : ℕ → ℕ → EReal} {m : IVec S512x256 1} {kv0 : Vec Ideal S128x256 .bf16}
  {prev : FVec Ideal S16x1024 .f32} {x0 : Vec Ideal S512x6400 .bf16} {x3 : Vec Ideal S1x16 .f32} {x4 : Vec Ideal S3x1024 .f32}

/-- The rows of a block. -/
theorem rows (hb : b < 4) : ∀ a, (![128 * b, 0] : Fin 2 → ℕ) a + S128x1024.size a ≤ S512x1024.size a
  | 0 => by show 128 * b + 128 ≤ 512; omega
  | 1 => by show 0 + 1024 ≤ 1024; omega

/-- A stored pair of heads. -/
def pc (hb : b < 4) (o : FVec Ideal S512x128 .f32) {e j : ℕ} (he : e < 2) (hj : j < 4) : View.Piece (Elt Ideal) S512x1024 .bf16 :=
  ⟨Rect.unit (s := S512x1024) ![128 * b, 512 * e + 128 * j] S128x128.size (tile hb he hj), pair o j hj⟩

/-- The stores of a block, the last one first. -/
def pcs (hb : b < 4) (o1 o0 : FVec Ideal S512x128 .f32) : List (View.Piece (Elt Ideal) S512x1024 .bf16) :=
  [pc hb o1 (e := 1) (j := 3) (by omega) (by omega), pc hb o1 (e := 1) (j := 2) (by omega) (by omega),
    pc hb o1 (e := 1) (j := 1) (by omega) (by omega), pc hb o1 (e := 1) (j := 0) (by omega) (by omega),
    pc hb o0 (e := 0) (j := 3) (by omega) (by omega), pc hb o0 (e := 0) (j := 2) (by omega) (by omega),
    pc hb o0 (e := 0) (j := 1) (by omega) (by omega), pc hb o0 (e := 0) (j := 0) (by omega) (by omega)]

theorem mem_pc {o : FVec Ideal S512x128 .f32} {e j : ℕ} (he : e < 2) (hj : j < 4) {y : S512x1024.Idx} (h0 : 128 * b ≤ (y 0).val) (h1 : (y 0).val < 128 * b + 128)
    (h2 : 512 * e + 128 * j ≤ (y 1).val) (h3 : (y 1).val < 512 * e + 128 * j + 128) : y ∈ (pc hb o he hj).1.set := by
  refine (Rect.mem_set_unit (inb := tile hb he hj)).mpr fun
    | 0 => ⟨h0, h1⟩
    | 1 => ⟨h2, h3⟩

theorem back (h : Holds b hb n Z SK W m kv0 prev x0 x3 x4) (a : Vec Ideal S128x1024 .bf16) {o1 o0 : FVec Ideal S512x128 .f32}
    (e1 : o1 = oB (blk b hb m kv0 prev x0 x3 x4 a) 1) (e0 : o0 = oB (blk b hb m kv0 prev x0 x3 x4 a) 0)
    {sg : RefSig} {κ : Kind} {sp : Space} (v : View sg κ sp S512x1024 .bf16) (rest : List (View.Piece (Elt Ideal) S512x1024 .bf16)) :
    Is2 (n := 128) (k := 1024) (v.readCov (pcs hb o1 o0 ++ rest) (Rect.unit (s := S512x1024) ![128 * b, 0] S128x1024.size (rows hb)).toLoadRect)
      fun r c => attn Z SK (512 * n + 128 * b + r) c := fun i => by
  have h0 : (i 0).val < 128 := (i 0).isLt
  have h1 : (i 1).val < 1024 := (i 1).isLt
  rw [View.readCov_eq_canon']
  refine (View.canon_append_of_piecesOf (attnP n Z SK) rest (pcs hb o1 o0) ?_ _ ?_).trans ?_
  · exact ⟨attn_piece h 3 e1 (by omega) (by omega), attn_piece h 2 e1 (by omega) (by omega), attn_piece h 1 e1 (by omega) (by omega),
      attn_piece h 0 e1 (by omega) (by omega), attn_piece h 3 e0 (by omega) (by omega), attn_piece h 2 e0 (by omega) (by omega),
      attn_piece h 1 e0 (by omega) (by omega), attn_piece h 0 e0 (by omega) (by omega), trivial⟩
  · have d0 : ∀ {y : S512x1024.Idx} {o e j he hj}, (y 0).val = 128 * b + (i 0).val → (y 1).val = (i 1).val → (i 1).val / 128 = 4 * e + j →
        y ∈ (pc hb o (e := e) (j := j) he hj).1.set := fun hy0 hy1 hd => mem_pc _ _ (by omega) (by omega) (by omega) (by omega)
    have y0 : (((Rect.unit (s := S512x1024) ![128 * b, 0] S128x1024.size (rows hb)).toLoadRect.idx i) 0).val = 128 * b + (i 0).val := by simp [Rect.unit, LoadRect.idx]
    have y1 : (((Rect.unit (s := S512x1024) ![128 * b, 0] S128x1024.size (rows hb)).toLoadRect.idx i) 1).val = (i 1).val := by simp [Rect.unit, LoadRect.idx]
    have hq : (i 1).val / 128 < 8 := by omega
    obtain ⟨q, hq'⟩ : ∃ q, q = (i 1).val / 128 := ⟨_, rfl⟩
    rw [← hq'] at hq
    unfold pcs
    simp only [List.mem_cons, exists_eq_or_imp, List.not_mem_nil, or_false, exists_false]
    interval_cases q
    · exact .inr (.inr (.inr (.inr (.inr (.inr (.inr ⟨_, rfl, d0 y0 y1 hq'.symm⟩))))))
    · exact .inr (.inr (.inr (.inr (.inr (.inr (.inl (d0 y0 y1 hq'.symm)))))))
    · exact .inr (.inr (.inr (.inr (.inr (.inl (d0 y0 y1 hq'.symm))))))
    · exact .inr (.inr (.inr (.inr (.inl (d0 y0 y1 hq'.symm)))))
    · exact .inr (.inr (.inr (.inl (d0 y0 y1 hq'.symm))))
    · exact .inr (.inr (.inl (d0 y0 y1 hq'.symm)))
    · exact .inr (.inl (d0 y0 y1 hq'.symm))
    · exact .inl (d0 y0 y1 hq'.symm)
  · refine congrArg (fun x : ℝ => (x : EReal)) (congrArg₂ (attn Z SK) ?_ ?_)
    · simp [Rect.unit, LoadRect.idx, Nat.add_assoc]
    · simp [Rect.unit, LoadRect.idx]

theorem mrg_piece (h : Holds b hb n Z SK W m kv0 prev x0 x3 x4) {a : Vec Ideal S128x1024 .bf16} {o : FVec Ideal S128x1024 .bf16}
    (ho : o = mrg (blk b hb m kv0 prev x0 x3 x4 a)) (ha : Is2 (n := 128) (k := 1024) a fun r c => attn Z SK (512 * n + 128 * b + r) c) :
    ∀ x : S128x1024.Idx, o x = mrgP n Z SK W ((Rect.unit (s := S512x1024) ![128 * b, 0] S128x1024.size (rows hb)).emb x) := fun x => by
  subst ho
  refine (h.mrg_is ha x).trans ?_
  refine congrArg₂ (mergedR Z SK W) ?_ ?_
  · simp [Rect.unit, Rect.emb, Nat.add_assoc]
  · simp [Rect.unit, Rect.emb]
end
end Cert.Kernel7Ideal.Fwd
end
-- ==== Proof.Fwd.Rows.lean ====
module

public import proofs.«01_k».proof.Proof.Fwd.Merged

/-! The second output block of a point: its merged rows. -/

@[expose] public section

set_option maxRecDepth 16384

noncomputable section

namespace Cert.Kernel7Ideal.Fwd

open Idealize.ShloMosaic TcCoe Idealize.SL.Sem Cert.Kernel7Ideal Cert.Kernel7Ideal.Gen
open Cert.Kernel2Ideal.Mixer (IsMask maskV bandV)
open Cert.Mixer (Is2)
open Idealize.ShloMosaic.Pipeline (Dat)

variable (m : (ℓ : Loc nD τ sig) → Buf (Elt Ideal) ℓ) (c : Dev nD)
section
variable {Z : ℕ → ℕ → ℝ} {SK : ℕ → ℝ} {W : ℕ → ℕ → EReal} {t : Fin cfg0.N}
  (P : Point t.val (word t) Z SK W (iblk m c 0 t) (iblk m c 1 t) (iblk m c 2 t) (iblk m c 3 t) (iblk m c 4 t)) (a : Vec Ideal S128x1024 .bf16)
include P a

set_option maxHeartbeats 4000000
theorem after6 (y : S512x1024.Idx) : ((dats m 0 c).after 6 t : Vec Ideal S512x1024 .bf16) y = mrgP t.val Z SK W y := by
  rw [after0_6]; unfold outsAt0; dsimp only; frame_out
  rw [← List.append_nil (_ :: _)]
  refine View.canon_append_of_piecesOf (Val := Elt Ideal) (e := .bf16) (s := S512x1024) (mrgP t.val Z SK W) [] _ ?_ y (View.cover_of_tiledL (s := S512x1024) _ ![128, 1024] (by sl_kernel_rfl) y)
  refine ⟨mrg_piece P.b3 (a := ?a3) ?r3 ?h3, mrg_piece P.b2 (a := ?a2) ?r2 ?h2, mrg_piece P.b1 (a := ?a1) ?r1 ?h1, mrg_piece P.b0 (a := ?a0) ?r0 ?h0, trivial⟩
  case r3 => rfl
  case r2 => rfl
  case r1 => rfl
  case r0 => rfl
  case h3 => exact back P.b3 a (by rfl) (by rfl) _ _
  case h2 => exact back P.b2 a (by rfl) (by rfl) _ _
  case h1 => exact back P.b1 a (by rfl) (by rfl) _ _
  case h0 => exact back P.b0 a (by rfl) (by rfl) _ _
end

end Cert.Kernel7Ideal.Fwd
end
-- ==== Proof.Fwd.Final.lean ====
module

public import proofs.«01_k».proof.Proof.Fwd.Rows

/-! What a point's windows hold, and the two arrays the sixteen points leave. -/

@[expose] public section

set_option maxRecDepth 16384

noncomputable section

namespace Cert.Kernel7Ideal.Fwd

open Idealize.ShloMosaic TcCoe Idealize.SL.Sem Cert.Kernel7Ideal Cert.Kernel7Ideal.Gen
open Cert.Kernel2Ideal.Mixer (maskV_is bandV_is seen band ld_is is2_mul)
open Cert.Mixer (Is2 attn pin)
open Idealize.ShloMosaic.Pipeline (Dat)

theorem idx : ∀ t : Fin cfg0.N, win0_0.index t = ![t.val, 0] ∧ win0_1.index t = ![4 * t.val - 1, 4] ∧ win0_2.index t = ![32 * t.val - 1, 0]
    ∧ win0_3.index t = ![0, 0] ∧ win0_4.index t = ![0, 0] ∧ win0_5.index t = ![t.val, 0] ∧ win0_6.index t = ![t.val, 0]
    ∧ (grid0.coords t 0).val = t.val :=
  (by decide +kernel : ∀ t : Fin grid0.N, _)

section
variable {n : ℕ} {Z : ℕ → ℕ → ℝ} {SK : ℕ → ℝ} {W : ℕ → ℕ → EReal} {x0 : Vec Ideal S512x6400 .bf16} {x1 : Vec Ideal S128x256 .bf16}
    {x2 : Vec Ideal S16x6400 .bf16} {x3 : Vec Ideal S1x16 .f32} {x4 : Vec Ideal S3x1024 .f32}

/-- The rows before the point's first block. -/
theorem before_is (hn : n < 16) (h : Is2 x2 fun r c => Z (16 * (32 * n - 1) + r) c) :
    Is2 (before (BitVec.ofNat 32 n) x2) fun r c => if 16 ≤ 128 * (4 * n + 0) + r then pin Z (128 * (4 * n + 0) + r - 16) c else 0 := fun i => by
  have e : Scalar.cmpi .sgt (BitVec.ofNat 32 n) 0#32 = BitVec.ofBool (decide (0 < n)) := WordCmp.cmpi_sgt_ofNat (by omega) (by omega)
  have hi : (i 0).val < 16 := (i 0).isLt
  by_cases h0 : 0 < n
  · have e' : Scalar.cmpi .sgt (BitVec.ofNat 32 n) 0#32 = 1#1 := by rw [e, decide_eq_true h0]; rfl
    refine (congrFun (congrArg (fun b => Scalar.select b _ _) e') i).trans ?_
    refine ((is2_mul (φ := .f32) (ld_is h) (ld_is h)) i).trans (congrArg _ ?_)
    beta_reduce; rw [if_pos (by omega), pin]
    exact congrArg₂ (· * ·) (congrArg₂ Z (by omega) rfl) (congrArg₂ Z (by omega) rfl)
  · have e' : Scalar.cmpi .sgt (BitVec.ofNat 32 n) 0#32 = 0#1 := by rw [e, decide_eq_false h0]; rfl
    refine (congrFun (congrArg (fun b => Scalar.select b _ _) e') i).trans ?_
    refine Ideal.ofBits_zero_f32.trans ?_
    beta_reduce; rw [if_neg (by omega)]; rfl

/-- The rows before a later block. -/
theorem within_is (h : Is2 x0 fun r c => Z (512 * n + r) c) (b : ℕ) (hb : b + 1 < 4) :
    Is2 (within b hb x0) fun r c => if 16 ≤ 128 * (4 * n + (b + 1)) + r then pin Z (128 * (4 * n + (b + 1)) + r - 16) c else 0 := fun i => by
  have hi : (i 0).val < 16 := (i 0).isLt
  refine ((is2_mul (φ := .f32) (ld_is h) (ld_is h)) i).trans (congrArg _ ?_)
  beta_reduce; rw [if_pos (by omega), pin]
  exact congrArg₂ (· * ·) (congrArg₂ Z (by omega) rfl) (congrArg₂ Z (by omega) rfl)

theorem later (b : ℕ) (hb : b + 1 < 4) (h0 : Is2 x0 fun r c => Z (512 * n + r) c) (h3 : Is2 x3 fun _ l => SK l) (h4 : ∀ i, x4 i = W (i 0).val (i 1).val) {hr} :
    Holds (b + 1) hb n Z SK W Cert.Kernel2Ideal.Mixer.bandV (View.ld x0 (Rect.unit (s := S512x6400) ![128 * b, 1024] S128x256.size hr)) (within b (by omega) x0) x0 x3 x4 where
  m := fun i => (bandV_is i).trans (by
    have e : band (i 0).val (i 1).val ↔ seen (4 * n + (b + 1)) (i 0).val (i 1).val := (and_iff_left (Or.inl (by omega))).symm
    simp only [e])
  kv0 := (ld_is h0).congr fun r c _ _ => congrArg₂ Z (by omega) rfl
  prev := within_is h0 b hb
  z := h0
  s := h3
  w := h4

theorem point_is (hn : n < 16) (h0 : Is2 x0 fun r c => Z (512 * n + r) c) (h1 : Is2 x1 fun r c => Z (128 * (4 * n - 1) + r) (1024 + c))
    (h2 : Is2 x2 fun r c => Z (16 * (32 * n - 1) + r) c) (h3 : Is2 x3 fun _ l => SK l) (h4 : ∀ i, x4 i = W (i 0).val (i 1).val) :
    Point n (BitVec.ofNat 32 n) Z SK W x0 x1 x2 x3 x4 where
  b0 := {
    m := fun i => (maskV_is (show n < 64 by omega) i).trans (by
      have e : seen n (i 0).val (i 1).val ↔ seen (4 * n + 0) (i 0).val (i 1).val := and_congr_right fun _ => or_congr_left (by omega)
      simp only [e])
    kv0 := h1
    prev := before_is hn h2
    z := h0
    s := h3
    w := h4 }
  b1 := later 0 (by omega) h0 h3 h4
  b2 := later 1 (by omega) h0 h3 h4
  b3 := later 2 (by omega) h0 h3 h4
end

variable {m : (ℓ : Loc nD τ sig) → Buf (Elt Ideal) ℓ} {c : Dev nD} {Z : ℕ → ℕ → ℝ} {SK : ℕ → ℝ} {W : ℕ → ℕ → EReal}
  (hz : Is2 (n := 8192) (k := 6400) (m ((c.tc : Thread nD τ).loc main_arg0)) Z) (hs : Is2 (n := 1) (k := 16) (m ((c.tc : Thread nD τ).loc main_arg1)) fun _ l => SK l)
  (hw : ∀ i, (m ((c.tc : Thread nD τ).loc main_arg2) : FVec Ideal S3x1024 .f32) i = W (i 0).val (i 1).val)

section
include hz
theorem win0 (t : Fin cfg0.N) (ht : t.val < 16) : Is2 (n := 512) (k := 6400) (iblk m c 0 t) fun r c => Z (512 * t.val + r) c := fun i => by
  have h0 : (i 0).val < 512 := (i 0).isLt
  have h1 : (i 1).val < 6400 := (i 1).isLt
  refine Eq.trans ?_ (hz (ix2 (⟨512 * t.val + (i 0).val, by omega⟩ : Fin 8192) ⟨(i 1).val, h1⟩))
  blk_ext [iblk, V, idx t]
theorem win1 (t : Fin cfg0.N) (ht : t.val < 16) : Is2 (n := 128) (k := 256) (iblk m c 1 t) fun r c => Z (128 * (4 * t.val - 1) + r) (1024 + c) := fun i => by
  have h0 : (i 0).val < 128 := (i 0).isLt
  have h1 : (i 1).val < 256 := (i 1).isLt
  refine Eq.trans ?_ (hz (ix2 (⟨128 * (4 * t.val - 1) + (i 0).val, by omega⟩ : Fin 8192) ⟨1024 + (i 1).val, by omega⟩))
  blk_ext [iblk, V, idx t]
theorem win2 (t : Fin cfg0.N) (ht : t.val < 16) : Is2 (n := 16) (k := 6400) (iblk m c 2 t) fun r c => Z (16 * (32 * t.val - 1) + r) c := fun i => by
  have h0 : (i 0).val < 16 := (i 0).isLt
  have h1 : (i 1).val < 6400 := (i 1).isLt
  refine Eq.trans ?_ (hz (ix2 (⟨16 * (32 * t.val - 1) + (i 0).val, by omega⟩ : Fin 8192) ⟨(i 1).val, h1⟩))
  blk_ext [iblk, V, idx t]
end
include hs in
theorem win3 (t : Fin cfg0.N) : Is2 (n := 1) (k := 16) (iblk m c 3 t) fun _ l => SK l := fun i => by
  refine Eq.trans ?_ (hs i)
  blk_ext [iblk, V, idx t]
include hw in
theorem win4 (t : Fin cfg0.N) (i : S3x1024.Idx) : (iblk m c 4 t : FVec Ideal S3x1024 .f32) i = W (i 0).val (i 1).val := by
  refine Eq.trans ?_ (hw i)
  blk_ext [iblk, V, idx t]

include hz hs hw
theorem point (t : Fin cfg0.N) : Point t.val (word t) Z SK W (iblk m c 0 t) (iblk m c 1 t) (iblk m c 2 t) (iblk m c 3 t) (iblk m c 4 t) := by
  have hn : cfg0.N = 16 := N_0
  have ht : t.val < 16 := by omega
  have e : word t = BitVec.ofNat 32 t.val := congrArg _ (idx t).2.2.2.2.2.2.2
  rw [e]
  exact point_is ht (win0 hz t ht) (win1 hz t ht) (win2 hz t ht) (win3 hs t) (win4 hw t)

/-- The two results as arrays. -/
def attnA (Z : ℕ → ℕ → ℝ) (SK : ℕ → ℝ) : FVec Ideal S8192x1024 .bf16 := fun i => ((attn Z SK (i 0).val (i 1).val : ℝ) : EReal)
def mrgA (Z : ℕ → ℕ → ℝ) (SK : ℕ → ℝ) (W : ℕ → ℕ → EReal) : FVec Ideal S8192x1024 .bf16 := fun i => mergedR Z SK W (i 0).val (i 1).val

theorem final5 : (dats m 0 c).arrAt 5 (cfgs 0).N = attnA Z SK := by
  refine (dats m 0 c).arrAt_eq_of_covers 5 _ (by decide +kernel) fun t _ y => ?_
  blk_simp
  refine (after5 m c (point hz hs hw t) (fun _ => 0) y).trans ?_
  have ht : t.val < 16 := lt_of_lt_of_eq t.isLt N_0
  have h0 : (y 0).val < 512 := (y 0).isLt
  have h1 : (y 1).val < 1024 := (y 1).isLt
  show attnA Z SK (ix2 (⟨512 * t.val + (y 0).val, by omega⟩ : Fin 8192) ⟨(y 1).val, h1⟩) = attnA Z SK ((win0_5.blk t).view.emb y)
  generalize attnA Z SK = G
  blk_ext [idx t]

theorem final6 : (dats m 0 c).arrAt 6 (cfgs 0).N = mrgA Z SK W := by
  refine (dats m 0 c).arrAt_eq_of_covers 6 _ (by decide +kernel) fun t _ y => ?_
  blk_simp
  refine (after6 m c (point hz hs hw t) (fun _ => 0) y).trans ?_
  have ht : t.val < 16 := lt_of_lt_of_eq t.isLt N_0
  have h0 : (y 0).val < 512 := (y 0).isLt
  have h1 : (y 1).val < 1024 := (y 1).isLt
  show mrgA Z SK W (ix2 (⟨512 * t.val + (y 0).val, by omega⟩ : Fin 8192) ⟨(y 1).val, h1⟩) = mrgA Z SK W ((win0_6.blk t).view.emb y)
  generalize mrgA Z SK W = G
  blk_ext [idx t]

end Cert.Kernel7Ideal.Fwd
end
-- ==== Proof.Fwd.Ref.lean ====
module

public import proofs.«01_k».proof.Proof.Mixer.RefGate
public import proofs.«01_k».proof.Proof.Gen.Reference7Ideal.Read
public import proofs.«01_k».proof.Proof.Fwd.Block

/-! The reference's forward lines over the reals: its attention is that of the backward pass's reference; its merged rows. -/

@[expose] public section

set_option maxRecDepth 16384

noncomputable section

namespace Cert.Reference7Ideal.Fwd

open Idealize.ShloMosaic TcCoe Cert.Reference7Ideal Cert.Reference7Ideal.Gen Read
open Cert.Mixer (Is2 attn)
open Cert.Kernel7Ideal.Fwd (mergedR)
open Cert.Reference2Ideal.Mixer (shift_real v104_is v138_is v148_is v112_is v120_is v127_is v5_is zero_f32)

variable {x0 : (⟨S8192x6400, .bf16⟩ : BufTy).Contents (Elt Ideal)} {x1 : (⟨S1x16, .f32⟩ : BufTy).Contents (Elt Ideal)}
  {x2 : (⟨S3x1024, .f32⟩ : BufTy).Contents (Elt Ideal)} {Z : ℕ → ℕ → ℝ} {SK : ℕ → ℝ} {W : ℕ → ℕ → EReal}

theorem v76_is (hs : Is2 (n := 1) (k := 16) x1 fun _ l => SK l) (hz : Is2 (n := 8192) (k := 6400) x0 Z) (i : S1x8192x1024.Idx) :
    val_main_v76 (F := Ideal) x0 x1 i = ((attn Z SK (i 1).val (i 2).val : ℝ) : EReal) := by
  obtain ⟨μ, hμ⟩ := shift_real hs hz
  refine Eq.trans ?_ (v104_is hs hz hμ i)
  rfl

section
variable (hw : ∀ i, x2 i = W (i 0).val (i 1).val)
include hw
theorem v84_is (i : S1x1x1024.Idx) : val_main_v84 (F := Ideal) x2 i = W 0 (i 2).val := by
  have h2 : (i 2).val < 1024 := (i 2).isLt
  rw [val_main_v84_apply, val_main_v82_apply, val_main_v81_apply, hw]
  refine congrArg₂ W rfl ?_
  show (i 2).val % 1024 = _
  omega
theorem v92_is (i : S1x1x1024.Idx) : val_main_v92 (F := Ideal) x2 i = W 1 (i 2).val := by
  have h2 : (i 2).val < 1024 := (i 2).isLt
  rw [val_main_v92_apply, val_main_v90_apply, val_main_v89_apply, hw]
  refine congrArg₂ W rfl ?_
  show (i 2).val % 1024 = _
  omega
theorem v99_is (i : S1x1x1024.Idx) : val_main_v99 (F := Ideal) x2 i = W 2 (i 2).val := by
  have h2 : (i 2).val < 1024 := (i 2).isLt
  rw [val_main_v99_apply, val_main_v97_apply, val_main_v96_apply, hw]
  refine congrArg₂ W rfl ?_
  show (i 2).val % 1024 = _
  omega
end

theorem v120_at (hs : Is2 (n := 1) (k := 16) x1 fun _ l => SK l) (hz : Is2 (n := 8192) (k := 6400) x0 Z) (i : S8192x1024.Idx) :
    val_main_v120 (F := Ideal) x0 x1 i = ((attn Z SK (i 0).val (i 1).val : ℝ) : EReal) := by
  have h0 : (i 0).val < 8192 := (i 0).isLt
  have h1 : (i 1).val < 1024 := (i 1).isLt
  rw [val_main_v120_apply, val_main_v119_apply]
  refine (v76_is hs hz _).trans (congrArg (fun x : ℝ => (x : EReal)) (congrArg₂ (attn Z SK) ?_ ?_))
  · show ((i 0).val * 1024 + (i 1).val) / 1024 % 8192 = _
    omega
  · show ((i 0).val * 1024 + (i 1).val) % 1024 = _
    omega

theorem v118_is (hs : Is2 (n := 1) (k := 16) x1 fun _ l => SK l) (hz : Is2 (n := 8192) (k := 6400) x0 Z) (hw : ∀ i, x2 i = W (i 0).val (i 1).val)
    (i : S1x8192x1024.Idx) : val_main_v118 (F := Ideal) x0 x1 x2 i = mergedR Z SK W (i 1).val (i 2).val := by
  rw [val_main_v118_apply, val_main_v110_apply, val_main_v117_apply, val_main_v103_apply, val_main_v102_apply, val_main_v95_apply, val_main_v88_apply,
    val_main_v87_apply, val_main_v86_apply, val_main_v85_apply, val_main_v94_apply, val_main_v93_apply, val_main_v101_apply, val_main_v100_apply,
    v84_is hw, v92_is hw, v99_is hw, v76_is hs hz]
  have e109 : val_main_v109 (F := Ideal) x0 i = _ := v138_is hz i
  have e116 : val_main_v116 (F := Ideal) x0 i = _ := v148_is hz i
  have e5 : val_main_v5 (F := Ideal) x0 i = _ := v5_is hz i
  have e83 : val_main_v83 (F := Ideal) x0 i = _ := v112_is hz i
  have e91 : val_main_v91 (F := Ideal) x0 i = _ := v120_is hz i
  have e98 : val_main_v98 (F := Ideal) x0 i = _ := v127_is hz i
  rw [e109, e116, e5, e83, e91, e98]
  refine congrArg₂ (· + ·) (EReal.coe_mul _ _).symm (congrArg _ (congrArg _ ?_))
  refine congrArg (fun x : EReal => x + _ + _) ?_
  exact (congrArg (· + _) ((zero_f32 _).trans EReal.coe_zero)).trans (zero_add _)

theorem v122_at (hs : Is2 (n := 1) (k := 16) x1 fun _ l => SK l) (hz : Is2 (n := 8192) (k := 6400) x0 Z) (hw : ∀ i, x2 i = W (i 0).val (i 1).val)
    (i : S8192x1024.Idx) : val_main_v122 (F := Ideal) x0 x1 x2 i = mergedR Z SK W (i 0).val (i 1).val := by
  have h0 : (i 0).val < 8192 := (i 0).isLt
  have h1 : (i 1).val < 1024 := (i 1).isLt
  rw [val_main_v122_apply, val_main_v121_apply]
  refine (v118_is hs hz hw _).trans (congrArg₂ (mergedR Z SK W) ?_ ?_)
  · show ((i 0).val * 1024 + (i 1).val) / 1024 % 8192 = _
    omega
  · show ((i 0).val * 1024 + (i 1).val) % 1024 = _
    omega

end Cert.Reference7Ideal.Fwd

end
-- ==== Proof.Mixer.Read.lean ====
module

public import proofs.«01_k».proof.Proof.Mixer.Outs
public import proofs.«01_k».proof.Proof.Mixer.Run

/-! The results of the body at the first point, at the points between and at the last one, read from the pieces it stores. -/

@[expose] public section

set_option maxRecDepth 16384

noncomputable section

namespace Cert.Kernel2Ideal.Mixer

open Idealize.ShloMosaic TcCoe Cert.Kernel2Ideal Gen Cert.Mixer

variable (c : Dev nD) (i : grid0.Coords) (arg1 : Memref sig .tc .vmem S256x6400 .bf16) (harg1 : arg1.IsWhole) (arg2 : Memref sig .tc .vmem S128x256 .bf16) (harg2 : arg2.IsWhole) (arg3 : Memref sig .tc .vmem S16x6400 .bf16) (harg3 : arg3.IsWhole) (arg4 : Memref sig .tc .vmem S16x6400 .bf16) (harg4 : arg4.IsWhole) (arg5 : Memref sig .tc .vmem S256x1024 .bf16) (harg5 : arg5.IsWhole) (arg6 : Memref sig .tc .vmem S16x1024 .bf16) (harg6 : arg6.IsWhole) (arg7 : Memref sig .tc .vmem S256x1024 .bf16) (harg7 : arg7.IsWhole) (arg8 : Memref sig .tc .smem S1x16 .f32) (harg8 : arg8.IsWhole) (arg9 : Memref sig .tc .vmem S3x1024 .f32) (harg9 : arg9.IsWhole) (arg10 : Memref sig .tc .vmem S256x6400 .bf16) (harg10 : arg10.IsWhole) (arg11 : Memref sig .tc .vmem S256x256 .bf16) (harg11 : arg11.IsWhole) (arg12 : Memref sig .tc .vmem S8x6400 .f32) (harg12 : arg12.IsWhole) (arg13 : Memref sig .tc .vmem S8x256 .f32) (harg13 : arg13.IsWhole) (arg14 : Memref sig .tc .vmem S8x1024 .f32) (harg14 : arg14.IsWhole) (arg15 : Memref sig .tc .vmem S8x128 .f32) (harg15 : arg15.IsWhole) (arg16 : Memref sig .tc .vmem S128x256 .f32) (harg16 : arg16.IsWhole)

section

variable (hc0 : cond0 i) (hc1 : cond1 i) (hc2 : ¬cond2 i)
  (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) (x10 : Vec Ideal S256x6400 .bf16) (x11 : Vec Ideal S256x256 .bf16) (x12 : Vec Ideal S8x6400 .f32) (x13 : Vec Ideal S8x256 .f32) (x14 : Vec Ideal S8x1024 .f32) (x15 : Vec Ideal S8x128 .f32) (x16 : Vec Ideal S128x256 .f32)

set_option maxHeartbeats 8000000 in
theorem out10A : Out10 (blk0 (BitVec.ofNat 32 (i 0).val) x1 x2 x3 x4 x5 x6 x7 x8 x9) (blk1 (BitVec.ofNat 32 (i 0).val) x1 x2 x3 x4 x5 x6 x7 x8 x9)
    (arg10.view.read (Elt Ideal) (arg10.view.writes (Elt Ideal) (harg10.unread x10) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out11A : Out11 (blk0 (BitVec.ofNat 32 (i 0).val) x1 x2 x3 x4 x5 x6 x7 x8 x9) (blk1 (BitVec.ofNat 32 (i 0).val) x1 x2 x3 x4 x5 x6 x7 x8 x9) (k0_pay1 (F := Ideal))
    (arg11.view.read (Elt Ideal) (arg11.view.writes (Elt Ideal) (harg11.unread x11) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out12A : Out12 (blk0 (BitVec.ofNat 32 (i 0).val) x1 x2 x3 x4 x5 x6 x7 x8 x9) (blk1 (BitVec.ofNat 32 (i 0).val) x1 x2 x3 x4 x5 x6 x7 x8 x9) (k0_pay2 (F := Ideal))
    (arg12.view.read (Elt Ideal) (arg12.view.writes (Elt Ideal) (harg12.unread x12) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out13A : Out13 (blk0 (BitVec.ofNat 32 (i 0).val) x1 x2 x3 x4 x5 x6 x7 x8 x9) (blk1 (BitVec.ofNat 32 (i 0).val) x1 x2 x3 x4 x5 x6 x7 x8 x9) (k0_pay1 (F := Ideal)) (k0_pay3 (F := Ideal))
    (arg13.view.read (Elt Ideal) (arg13.view.writes (Elt Ideal) (harg13.unread x13) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out14A : Out14 (blk0 (BitVec.ofNat 32 (i 0).val) x1 x2 x3 x4 x5 x6 x7 x8 x9) (blk1 (BitVec.ofNat 32 (i 0).val) x1 x2 x3 x4 x5 x6 x7 x8 x9) (k0_pay4 (F := Ideal))
    (arg14.view.read (Elt Ideal) (arg14.view.writes (Elt Ideal) (harg14.unread x14) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out15A : Out15 (blk0 (BitVec.ofNat 32 (i 0).val) x1 x2 x3 x4 x5 x6 x7 x8 x9) (blk1 (BitVec.ofNat 32 (i 0).val) x1 x2 x3 x4 x5 x6 x7 x8 x9) (k0_pay5 (F := Ideal))
    (arg15.view.read (Elt Ideal) (arg15.view.writes (Elt Ideal) (harg15.unread x15) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out16A : Out16 (blk1 (BitVec.ofNat 32 (i 0).val) x1 x2 x3 x4 x5 x6 x7 x8 x9)
    (arg16.view.read (Elt Ideal) (arg16.view.writes (Elt Ideal) (harg16.unread x16) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

end

section

variable (hc0 : ¬cond0 i) (hc1 : cond1 i) (hc2 : ¬cond2 i)
  (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) (x10 : Vec Ideal S256x6400 .bf16) (x11 : Vec Ideal S256x256 .bf16) (x12 : Vec Ideal S8x6400 .f32) (x13 : Vec Ideal S8x256 .f32) (x14 : Vec Ideal S8x1024 .f32) (x15 : Vec Ideal S8x128 .f32) (x16 : Vec Ideal S128x256 .f32)

set_option maxHeartbeats 8000000 in
theorem out10B : Out10 (blk0 (BitVec.ofNat 32 (i 0).val) x1 x2 x3 x4 x5 x6 x7 x8 x9) (blk1 (BitVec.ofNat 32 (i 0).val) x1 x2 x3 x4 x5 x6 x7 x8 x9)
    (arg10.view.read (Elt Ideal) (arg10.view.writes (Elt Ideal) (harg10.unread x10) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out11B : Out11 (blk0 (BitVec.ofNat 32 (i 0).val) x1 x2 x3 x4 x5 x6 x7 x8 x9) (blk1 (BitVec.ofNat 32 (i 0).val) x1 x2 x3 x4 x5 x6 x7 x8 x9) (View.ld (Val := Elt Ideal) (e' := .f32) x16 (Rect.unit (s := S128x256) ![0, 0] S128x256.size inb_S128x256_S128x256_0_0))
    (arg11.view.read (Elt Ideal) (arg11.view.writes (Elt Ideal) (harg11.unread x11) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out12B : Out12 (blk0 (BitVec.ofNat 32 (i 0).val) x1 x2 x3 x4 x5 x6 x7 x8 x9) (blk1 (BitVec.ofNat 32 (i 0).val) x1 x2 x3 x4 x5 x6 x7 x8 x9) x12
    (arg12.view.read (Elt Ideal) (arg12.view.writes (Elt Ideal) (harg12.unread x12) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out13B : Out13 (blk0 (BitVec.ofNat 32 (i 0).val) x1 x2 x3 x4 x5 x6 x7 x8 x9) (blk1 (BitVec.ofNat 32 (i 0).val) x1 x2 x3 x4 x5 x6 x7 x8 x9) (View.ld (Val := Elt Ideal) (e' := .f32) x16 (Rect.unit (s := S128x256) ![0, 0] S128x256.size inb_S128x256_S128x256_0_0)) x13
    (arg13.view.read (Elt Ideal) (arg13.view.writes (Elt Ideal) (harg13.unread x13) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out14B : Out14 (blk0 (BitVec.ofNat 32 (i 0).val) x1 x2 x3 x4 x5 x6 x7 x8 x9) (blk1 (BitVec.ofNat 32 (i 0).val) x1 x2 x3 x4 x5 x6 x7 x8 x9) x14
    (arg14.view.read (Elt Ideal) (arg14.view.writes (Elt Ideal) (harg14.unread x14) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out15B : Out15 (blk0 (BitVec.ofNat 32 (i 0).val) x1 x2 x3 x4 x5 x6 x7 x8 x9) (blk1 (BitVec.ofNat 32 (i 0).val) x1 x2 x3 x4 x5 x6 x7 x8 x9) x15
    (arg15.view.read (Elt Ideal) (arg15.view.writes (Elt Ideal) (harg15.unread x15) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

set_option maxHeartbeats 8000000 in
theorem out16B : Out16 (blk1 (BitVec.ofNat 32 (i 0).val) x1 x2 x3 x4 x5 x6 x7 x8 x9)
    (arg16.view.read (Elt Ideal) (arg16.view.writes (Elt Ideal) (harg16.unread x16) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.2.2.2.2.2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    rfl

end

section

/-- The last rows of keys and values: the part carried in, and zeros. -/
structure OutC11 (p : FVec Ideal S128x256 .f32) (o : S256x256.Idx → Elt Ideal .bf16) : Prop where
  h0 : View.ld (Val := Elt Ideal) (e' := .bf16) o (Rect.unit (s := S256x256) ![0, 0] S128x256.size inb_S256x256_S128x256_0_0) = truncf .bf16 p bitsLt_bf16_f32
  h1 : View.ld (Val := Elt Ideal) (e' := .bf16) o (Rect.unit (s := S256x256) ![128, 0] S128x256.size inb_S256x256_S128x256_128_0) = k0_pay7 (F := Ideal)

/-- The column sums of keys and values, with the part carried in. -/
structure OutC13 (p : FVec Ideal S128x256 .f32) (x o : S8x256.Idx → Elt Ideal .f32) : Prop where
  h : View.ld (Val := Elt Ideal) (e' := .f32) o (Rect.unit (s := S8x256) ![0, 0] S1x256.size inb_S8x256_S1x256_0_0) = addf (shapeCast S1x256 (View.ld (Val := Elt Ideal) (e' := .f32) x (Rect.unit (s := S8x256) ![0, 0] S1x256.size inb_S8x256_S1x256_0_0)) shapeCasts_S1x256_S1x256) (colK p)

variable (hc0 : ¬cond0 i) (hc1 : ¬cond1 i) (hc2 : cond2 i)
  (x1 : Vec Ideal S256x6400 .bf16) (x2 : Vec Ideal S128x256 .bf16) (x3 : Vec Ideal S16x6400 .bf16) (x4 : Vec Ideal S16x6400 .bf16) (x5 : Vec Ideal S256x1024 .bf16) (x6 : Vec Ideal S16x1024 .bf16) (x7 : Vec Ideal S256x1024 .bf16) (x8 : Vec Ideal S1x16 .f32) (x9 : Vec Ideal S3x1024 .f32) (x10 : Vec Ideal S256x6400 .bf16) (x11 : Vec Ideal S256x256 .bf16) (x12 : Vec Ideal S8x6400 .f32) (x13 : Vec Ideal S8x256 .f32) (x14 : Vec Ideal S8x1024 .f32) (x15 : Vec Ideal S8x128 .f32) (x16 : Vec Ideal S128x256 .f32)

set_option maxHeartbeats 8000000 in
theorem out11C : OutC11 (View.ld (Val := Elt Ideal) (e' := .f32) x16 (Rect.unit (s := S128x256) ![0, 0] S128x256.size inb_S128x256_S128x256_0_0))
    (arg11.view.read (Elt Ideal) (arg11.view.writes (Elt Ideal) (harg11.unread x11) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    try rfl

set_option maxHeartbeats 8000000 in
theorem out13C : OutC13 (View.ld (Val := Elt Ideal) (e' := .f32) x16 (Rect.unit (s := S128x256) ![0, 0] S128x256.size inb_S128x256_S128x256_0_0)) x13
    (arg13.view.read (Elt Ideal) (arg13.view.writes (Elt Ideal) (harg13.unread x13) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x1 x2 x3 x4 x5 x6 x7 x8 x9 x10 x11 x12 x13 x14 x15 x16).2.1)) := by
  frame_open
  constructor
  all_goals
    simp (disch := decide) only [↓ld_skip, ↓View.readCov_skip, ↓ld_hit, ↓View.readCov_cons_toLoadRect, ↓View.readCov_fill, View.writes_nil, View.readAt_eq_ld, Memref.IsWhole.read_unread]
    try rfl

end

end Cert.Kernel2Ideal.Mixer
-- ==== Proof.Mixer.Values.lean ====
module

public import proofs.«01_k».proof.Proof.Mixer.OutReal
public import proofs.«01_k».proof.Proof.Mixer.Read
public import proofs.«01_k».proof.Proof.Mixer.Step

/-! The gradients so far, kept from point to point. -/

@[expose] public section

set_option maxRecDepth 16384

noncomputable section

namespace Cert.Kernel2Ideal.Mixer

open Idealize.ShloMosaic TcCoe Cert.Kernel2Ideal Gen Cert.Mixer

theorem coord : ∀ t : Fin cfg0.N, (grid0.coords t 0).val = t.val := (by decide +kernel : ∀ t : Fin grid0.N, _)

/-- What each window holds after a point. -/
def sofar (Z D A : ℕ → ℕ → ℝ) (SK : ℕ → ℝ) (W : ℕ → ℕ → ℝ) : Inv Ideal where
  S n x := n = 0 ∨ n = 33 ∨ Is2 x (pend Z D SK n)
  R9 n x := ∀ y : S256x6400.Idx, ((y 1).val < 1024 ∨ 1280 ≤ (y 1).val) → x y = ((gDZ Z D A SK W (256 * min n 31 + (y 0).val) (y 1).val : ℝ) : EReal)
  R10 n x := Is2 x fun r c => gKV Z D SK (256 * n + r) c
  R11 n x := ∀ y : S8x6400.Idx, (y 0).val = 0 → ((y 1).val < 1024 ∨ 1280 ≤ (y 1).val) →
    x y = ((∑ g ∈ Finset.range (256 * (min n 31 + 1)), gDZ Z D A SK W g (y 1).val : ℝ) : EReal)
  R12 n x := ∀ y : S8x256.Idx, (y 0).val = 0 → x y = ((∑ g ∈ Finset.range (256 * (n + 1)), gKV Z D SK g (y 1).val : ℝ) : EReal)
  R13 n x := ∀ y : S8x1024.Idx, (y 0).val < 3 → x y = ((∑ g ∈ Finset.range (256 * (min n 31 + 1)), gW Z D (y 0).val g (y 1).val : ℝ) : EReal)
  R14 n x := ∀ y : S8x128.Idx, (y 0).val = 0 → (y 1).val < 16 → x y = ((∑ b ∈ Finset.range (2 * (min n 31 + 1)), gS Z D SK b (y 1).val : ℝ) : EReal)

variable {Z D A : ℕ → ℕ → ℝ} {SK : ℕ → ℝ} {W : ℕ → ℕ → ℝ}

theorem Win.part0 {n : ℕ} {x1 x2 x3 x4 x5 x6 x7 x8 x9} (h : Win n Z D A SK W x1 x2 x3 x4 x5 x6 x7 x8 x9) :
    Part (blk0 (BitVec.ofNat 32 n) x1 x2 x3 x4 x5 x6 x7 x8 x9) (2 * n) Z D A SK W :=
  .of h.isA0 ((show 128 * (2 * n) = 256 * n by omega) ▸ h.isC0)

theorem Win.part1 {n : ℕ} {x1 x2 x3 x4 x5 x6 x7 x8 x9} (h : Win n Z D A SK W x1 x2 x3 x4 x5 x6 x7 x8 x9) :
    Part (blk1 (BitVec.ofNat 32 n) x1 x2 x3 x4 x5 x6 x7 x8 x9) (2 * n + 1) Z D A SK W :=
  .of h.isA1 ((show 128 * (2 * n + 1) = 256 * n + 128 by omega) ▸ h.isC1)

/-- A point that computes two blocks adds them to what it took up. -/
theorem post_two {n : ℕ} (hn : n < 32) {B0 B1 : Blk} (P0 : Part B0 (2 * n) Z D A SK W) (P1 : Part B1 (2 * n + 1) Z D A SK W)
    {p : FVec Ideal S128x256 .f32} (hp : Is2 p (pend Z D SK n)) {x12 x13 x14 x15 o10 o11 o12 o13 o14 o15 o16}
    (h12 : ∀ y : S8x6400.Idx, (y 0).val = 0 → ((y 1).val < 1024 ∨ 1280 ≤ (y 1).val) → x12 y = ((∑ g ∈ Finset.range (256 * n), gDZ Z D A SK W g (y 1).val : ℝ) : EReal))
    (h13 : ∀ y : S8x256.Idx, (y 0).val = 0 → x13 y = ((∑ g ∈ Finset.range (256 * n), gKV Z D SK g (y 1).val : ℝ) : EReal))
    (h14 : ∀ y : S8x1024.Idx, (y 0).val < 3 → x14 y = ((∑ g ∈ Finset.range (256 * n), gW Z D (y 0).val g (y 1).val : ℝ) : EReal))
    (h15 : ∀ y : S8x128.Idx, (y 0).val = 0 → (y 1).val < 16 → x15 y = ((∑ b ∈ Finset.range (2 * n), gS Z D SK b (y 1).val : ℝ) : EReal))
    (r10 : Out10 B0 B1 o10) (r11 : Out11 B0 B1 p o11) (r12 : Out12 B0 B1 x12 o12) (r13 : Out13 B0 B1 p x13 o13) (r14 : Out14 B0 B1 x14 o14)
    (r15 : Out15 B0 B1 x15 o15) (r16 : Out16 B1 o16) : (sofar Z D A SK W).Post n o10 o11 o12 o13 o14 o15 o16 := by
  have e : min n 31 = n := by omega
  refine ⟨?_, ?_, ?_, ?_, ?_, ?_, ?_⟩
  · show ∀ y : S256x6400.Idx, _
    rw [e]; exact real10 P0 P1 r10
  · exact real11 P0 P1 hn hp r11
  · show ∀ y : S8x6400.Idx, _
    rw [e]; exact real12 P0 P1 r12 h12
  · exact real13 P0 P1 hn hp r13 h13
  · show ∀ y : S8x1024.Idx, _
    rw [e]; exact real14 P0 P1 r14 h14
  · show ∀ y : S8x128.Idx, _
    rw [e]; exact real15 P0 P1 r15 h15
  · exact .inr (.inr (real16 P0 P1 r16))

theorem one_apply {s : Shape} (hc : s.ShapeCasts s) (x a : FVec Ideal s .f32) (i : s.Idx) : addf (shapeCast s x hc) a i = x i + a i := by
  pointwise

/-- The carried part, loaded. -/
theorem ld_pend {n : ℕ} {x : FVec Ideal S128x256 .f32} (h : Is2 x (pend Z D SK n)) :
    Is2 (View.ld (Val := Elt Ideal) (e' := .f32) x (Rect.unit (s := S128x256) ![0, 0] S128x256.size inb_S128x256_S128x256_0_0)) (pend Z D SK n) :=
  (ld_is h).congr fun r c _ _ => congrArg₂ _ (by omega) (by omega)

/-- The last point: the carried part, written and added. -/
theorem post_last {x10 x12 x13 x14 x15 x16 o11 o13} (h : (sofar Z D A SK W).Pre 32 x10 x12 x13 x14 x15 x16)
    (r11 : OutC11 (View.ld (Val := Elt Ideal) (e' := .f32) x16 (Rect.unit (s := S128x256) ![0, 0] S128x256.size inb_S128x256_S128x256_0_0)) o11)
    (r13 : OutC13 (View.ld (Val := Elt Ideal) (e' := .f32) x16 (Rect.unit (s := S128x256) ![0, 0] S128x256.size inb_S128x256_S128x256_0_0)) x13 o13) :
    (sofar Z D A SK W).Post 32 x10 o11 x12 o13 x14 x15 x16 := by
  obtain ⟨h9, hs, h16⟩ := h
  obtain ⟨h11, h12, h13, h14⟩ := hs (by decide)
  have hp : Is2 x16 (pend Z D SK 32) := (h16.resolve_left (by decide)).resolve_left (by decide)
  have hk : ∀ (r : ℕ) (c : ℕ), r < 128 → pend Z D SK 32 r c = gKV Z D SK (8192 + r) c := fun r c hr => by
    rw [pend, if_neg (by decide), gKV, if_pos (by omega), if_neg (by omega), add_zero]
    exact congrArg₂ (fun a b => own Z D SK a b c) (by omega) (by omega)
  have hz : ∀ (r : ℕ) (c : ℕ), r < 128 → gKV Z D SK (8320 + r) c = 0 := fun r c hr => by
    rw [gKV, if_neg (by omega), if_neg (by omega), add_zero]
  refine ⟨h9 rfl, ?_, h11, ?_, h13, h14, .inr (.inl rfl)⟩
  · show Is2 (n := 256) (k := 256) o11 fun r c => gKV Z D SK (256 * 32 + r) c
    intro y
    have h0 : (y 0).val < 256 := (y 0).isLt
    have h1 : (y 1).val < 256 := (y 1).isLt
    by_cases hb : (y 0).val < 128
    · refine (of_ld (h := 128) (w := 256) (g := fun r c => pend Z D SK 32 r c) (fun i => (congrFun r11.h0 i).trans (ld_pend hp i)) y (by omega) (by omega) (by omega) (by omega)).trans (congrArg _ ?_)
      beta_reduce
      rw [hk _ _ (by omega)]
      exact congrArg₂ _ (by omega) (by omega)
    · refine (of_ld (h := 128) (w := 256) (g := fun _ _ => 0) (fun i => (congrFun r11.h1 i).trans ?_) y (by omega) (by omega) (by omega) (by omega)).trans (congrArg _ ?_)
      · pointwise [k0_pay7]
        exact EReal.coe_zero.symm
      · beta_reduce
        rw [show 256 * 32 + (y 0).val = 8320 + ((y 0).val - 128) by omega, hz _ _ (by omega)]
  · show ∀ y : S8x256.Idx, _
    intro y hy0
    have h1 : (y 1).val < 256 := (y 1).isLt
    have e0 : (Rect.unit (s := S8x256) ![0, 0] S1x256.size inb_S8x256_S1x256_0_0).idx (ix2 (0 : Fin 1) (y 1)) = y := by
      funext d
      apply Fin.ext
      fin_cases d
      · show _ = (y 0).val
        simp [Rect.unit, LoadRect.idx, ix2]; omega
      · show _ = (y 1).val
        simp [Rect.unit, LoadRect.idx, ix2]
    have e := congrFun r13.h (ix2 (0 : Fin 1) (y 1))
    refine (congrArg o13 e0.symm).trans (e.trans ?_)
    rw [one_apply]
    refine (congrArg (fun t => t + _) ((congrArg x13 e0).trans (h12 y hy0))).trans ?_
    rw [colK_is (ld_pend hp), ← EReal.coe_add]
    refine congrArg _ ?_
    show ∑ g ∈ Finset.range (256 * 32), gKV Z D SK g (y 1).val + ∑ r : Fin 128, pend Z D SK 32 r.val (y 1).val = ∑ g ∈ Finset.range (256 * 32 + 256), gKV Z D SK g (y 1).val
    rw [show 256 * 32 + 256 = 256 * 32 + 128 + 128 by norm_num, Finset.sum_range_add, Finset.sum_range_add, Finset.sum_range (n := 128), Finset.sum_range (n := 128),
      Finset.sum_congr rfl fun (r : Fin 128) _ => hk r.val (y 1).val r.isLt,
      Finset.sum_eq_zero (s := (Finset.univ : Finset (Fin 128))) fun r _ => hz r.val (y 1).val r.isLt, add_zero]

variable (m : (ℓ : Loc nD τ sig) → Buf (Elt Ideal) ℓ)

set_option maxHeartbeats 4000000 in
theorem sofar_ok (c : Dev nD) (hw : ∀ t : Fin cfg0.N, t.val < 32 → Win t.val Z D A SK W (iblk m c 0 t) (iblk m c 1 t) (iblk m c 2 t) (iblk m c 3 t) (iblk m c 4 t) (iblk m c 5 t) (iblk m c 6 t) (iblk m c 7 t) (iblk m c 8 t)) :
    (sofar Z D A SK W).Ok m c where
  zero _ := .inl rfl
  A := by
    intro t ht arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16 hpre r
    have hn : t.val < 32 := by omega
    have P0 := (hw t hn).part0
    have P1 := (hw t hn).part1
    have ec : BitVec.ofNat 32 (grid0.coords t 0).val = BitVec.ofNat 32 t.val := congrArg _ (coord t)
    rw [← ec] at P0 P1
    have z : ∀ (f : ℕ → ℝ) (k : ℕ), Ideal.ofBits .f32 0x00000000#32 = ((∑ g ∈ Finset.range (k * t.val), f g : ℝ) : EReal) := fun f k => by
      rw [ht, Nat.mul_zero, Finset.sum_range_zero]; exact Ideal.ofBits_zero_f32
    refine post_two hn P0 P1 (p := k0_pay1 (F := Ideal)) (x12 := k0_pay2 (F := Ideal)) (x13 := k0_pay3 (F := Ideal)) (x14 := k0_pay4 (F := Ideal)) (x15 := k0_pay5 (F := Ideal)) ?_
      (fun y _ _ => z (fun g => gDZ Z D A SK W g (y 1).val) 256) (fun y _ => z (fun g => gKV Z D SK g (y 1).val) 256) (fun y _ => z (fun g => gW Z D (y 0).val g (y 1).val) 256)
      (fun y _ _ => z (fun b => gS Z D SK b (y 1).val) 2)
      (out10A _ _ _ _ _ _ _ _ _ _ _ _ _ _ _ _ _ _ _ _ _ _ _ _ _ _ _ _ _ _ _ _ _ _ _ _ _ _ _ _ _ _ _ _ _ _ _ _ _ _ _ _ _)
      (out11A _ _ _ _ _ _ _ _ _ _ _ _ _ _ _ _ _ _ _ _ _ _ _ _ _ _ _ _ _ _ _ _ _ _ _ _ _ _ _ _ _ _ _ _ _ _ _ _ _ _ _ _ _)
      (out12A _ _ _ _ _ _ _ _ _ _ _ _ _ _ _ _ _ _ _ _ _ _ _ _ _ _ _ _ _ _ _ _ _ _ _ _ _ _ _ _ _ _ _ _ _ _ _ _ _ _ _ _ _)
      (out13A _ _ _ _ _ _ _ _ _ _ _ _ _ _ _ _ _ _ _ _ _ _ _ _ _ _ _ _ _ _ _ _ _ _ _ _ _ _ _ _ _ _ _ _ _ _ _ _ _ _ _ _ _)
      (out14A _ _ _ _ _ _ _ _ _ _ _ _ _ _ _ _ _ _ _ _ _ _ _ _ _ _ _ _ _ _ _ _ _ _ _ _ _ _ _ _ _ _ _ _ _ _ _ _ _ _ _ _ _)
      (out15A _ _ _ _ _ _ _ _ _ _ _ _ _ _ _ _ _ _ _ _ _ _ _ _ _ _ _ _ _ _ _ _ _ _ _ _ _ _ _ _ _ _ _ _ _ _ _ _ _ _ _ _ _)
      (out16A _ _ _ _ _ _ _ _ _ _ _ _ _ _ _ _ _ _ _ _ _ _ _ _ _ _ _ _ _ _ _ _ _ _ _ _ _ _ _ _ _ _ _ _ _ _ _ _ _ _ _ _ _)
    intro i
    pointwise [k0_pay1]
    rw [pend, if_pos ht]
    exact EReal.coe_zero.symm
  B := by
    intro t ht hu arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16 hpre r
    have hn : t.val < 32 := hu
    have P0 := (hw t hn).part0
    have P1 := (hw t hn).part1
    obtain ⟨_, hs, h16⟩ := hpre
    obtain ⟨h11, h12, h13, h14⟩ := hs ht
    have e1 : min (t.val - 1) 31 + 1 = t.val := by omega
    have e2 : t.val - 1 + 1 = t.val := by omega
    change ∀ y : S8x6400.Idx, _ at h11
    change ∀ y : S8x256.Idx, _ at h12
    change ∀ y : S8x1024.Idx, _ at h13
    change ∀ y : S8x128.Idx, _ at h14
    rw [e1] at h11 h13 h14
    rw [e2] at h12
    have ec : BitVec.ofNat 32 (grid0.coords t 0).val = BitVec.ofNat 32 t.val := congrArg _ (coord t)
    rw [← ec] at P0 P1
    exact post_two hn P0 P1 (ld_pend ((h16.resolve_left ht).resolve_left (by omega))) h11 h12 h13 h14
      (out10B _ _ _ _ _ _ _ _ _ _ _ _ _ _ _ _ _ _ _ _ _ _ _ _ _ _ _ _ _ _ _ _ _ _ _ _ _ _ _ _ _ _ _ _ _ _ _ _ _ _ _ _ _)
      (out11B _ _ _ _ _ _ _ _ _ _ _ _ _ _ _ _ _ _ _ _ _ _ _ _ _ _ _ _ _ _ _ _ _ _ _ _ _ _ _ _ _ _ _ _ _ _ _ _ _ _ _ _ _)
      (out12B _ _ _ _ _ _ _ _ _ _ _ _ _ _ _ _ _ _ _ _ _ _ _ _ _ _ _ _ _ _ _ _ _ _ _ _ _ _ _ _ _ _ _ _ _ _ _ _ _ _ _ _ _)
      (out13B _ _ _ _ _ _ _ _ _ _ _ _ _ _ _ _ _ _ _ _ _ _ _ _ _ _ _ _ _ _ _ _ _ _ _ _ _ _ _ _ _ _ _ _ _ _ _ _ _ _ _ _ _)
      (out14B _ _ _ _ _ _ _ _ _ _ _ _ _ _ _ _ _ _ _ _ _ _ _ _ _ _ _ _ _ _ _ _ _ _ _ _ _ _ _ _ _ _ _ _ _ _ _ _ _ _ _ _ _)
      (out15B _ _ _ _ _ _ _ _ _ _ _ _ _ _ _ _ _ _ _ _ _ _ _ _ _ _ _ _ _ _ _ _ _ _ _ _ _ _ _ _ _ _ _ _ _ _ _ _ _ _ _ _ _)
      (out16B _ _ _ _ _ _ _ _ _ _ _ _ _ _ _ _ _ _ _ _ _ _ _ _ _ _ _ _ _ _ _ _ _ _ _ _ _ _ _ _ _ _ _ _ _ _ _ _ _ _ _ _ _)
  C := by
    intro t ht arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x10 x11 x12 x13 x14 x15 x16 hpre r
    rw [ht] at hpre ⊢
    exact post_last hpre (out11C _ _ _ _ _ _ _ _ _ _ _ _ _ _ _ _ _ _ _ _ _ _ _ _ _ _ _ _ _ _ _ _ _ _ _ _ _ _ _ _ _ _ _ _ _ _ _ _ _ _ _ _ _)
      (out13C _ _ _ _ _ _ _ _ _ _ _ _ _ _ _ _ _ _ _ _ _ _ _ _ _ _ _ _ _ _ _ _ _ _ _ _ _ _ _ _ _ _ _ _ _ _ _ _ _ _ _ _ _)

end Cert.Kernel2Ideal.Mixer
-- ==== Proof.Mixer.Final.lean ====
module

public import proofs.«01_k».proof.Proof.Mixer.Launch
public import proofs.«01_k».proof.Proof.Mixer.Values

/-! What the result arrays hold after the run. -/

@[expose] public section

set_option maxRecDepth 16384

noncomputable section

namespace Cert.Kernel2Ideal.Mixer

open Idealize.ShloMosaic TcCoe Idealize.SL.Sem Cert.Kernel2Ideal Gen Cert.Mixer
open Idealize.ShloMosaic.Pipeline

section
variable {Z D A : ℕ → ℕ → ℝ} {SK : ℕ → ℝ} {W : ℕ → ℕ → ℝ} {c : Dev nD} (dat : Dat τ (Elt Ideal) Unit ℕ (UR sig nD τ) ℕ cfg0 c)

theorem end9 (h : ∀ u : Fin cfg0.N, (cfg0.win 9).flush u = true → (sofar Z D A SK W).R9 u.val (dat.after 9 u))
    (i : S8192x6400.Idx) (hi : (i 1).val < 1024 ∨ 1280 ≤ (i 1).val) : dat.arrAt 9 cfg0.N i = ((gDZ Z D A SK W (i 0).val (i 1).val : ℝ) : EReal) := by
  revert hi
  refine dat.arrAt_forall_of_covers 9 (fun (i : S8192x6400.Idx) v => ((i 1).val < 1024 ∨ 1280 ≤ (i 1).val) → v = ((gDZ Z D A SK W (i 0).val (i 1).val : ℝ) : EReal))
    (by decide +kernel) (fun t hf y => ?_) i
  have h9 := h t hf
  change ∀ y : S256x6400.Idx, _ at h9
  obtain ⟨-, -, -, -, -, -, -, -, -, e, -⟩ := idx t
  have e0 : win0_9.index t 0 = min t.val 31 := congrFun e 0
  have e1 : win0_9.index t 1 = 0 := congrFun e 1
  blk_simp
  rw [e0, e1, zero_mul, zero_add, mul_comm]
  exact h9 y

theorem end10 (h : ∀ u : Fin cfg0.N, (cfg0.win 10).flush u = true → (sofar Z D A SK W).R10 u.val (dat.after 10 u))
    (i : S8448x256.Idx) : dat.arrAt 10 cfg0.N i = ((gKV Z D SK (i 0).val (i 1).val : ℝ) : EReal) := by
  refine dat.arrAt_forall_of_covers 10 (fun (i : S8448x256.Idx) v => v = ((gKV Z D SK (i 0).val (i 1).val : ℝ) : EReal))
    (by decide +kernel) (fun t hf y => ?_) i
  have h9 : ∀ y : S256x256.Idx, dat.after 10 t y = ((gKV Z D SK (256 * t.val + (y 0).val) (y 1).val : ℝ) : EReal) := h t hf
  obtain ⟨-, -, -, -, -, -, -, -, -, -, e, -⟩ := idx t
  have e0 : win0_10.index t 0 = t.val := congrFun e 0
  have e1 : win0_10.index t 1 = 0 := congrFun e 1
  blk_simp
  rw [e0, e1, zero_mul, zero_add, mul_comm]
  exact h9 y

theorem end11 (h : ∀ u : Fin cfg0.N, (cfg0.win 11).flush u = true → (sofar Z D A SK W).R11 u.val (dat.after 11 u))
    (i : S8x6400.Idx) : (i 0).val = 0 → ((i 1).val < 1024 ∨ 1280 ≤ (i 1).val) → dat.arrAt 11 cfg0.N i = ((∑ g ∈ Finset.range 8192, gDZ Z D A SK W g (i 1).val : ℝ) : EReal) := by
  refine dat.arrAt_forall_of_covers 11 (fun (i : S8x6400.Idx) v => (i 0).val = 0 → ((i 1).val < 1024 ∨ 1280 ≤ (i 1).val) → v = ((∑ g ∈ Finset.range 8192, gDZ Z D A SK W g (i 1).val : ℝ) : EReal))
    (by decide +kernel) (fun t hf y => ?_) i
  have ht : t.val = 32 := by rw [flush11] at hf; exact of_decide_eq_true hf
  have h9 := h t hf
  rw [ht] at h9
  change ∀ y : S8x6400.Idx, _ at h9
  obtain ⟨-, -, -, -, -, -, -, -, -, -, -, e, -⟩ := idx t
  have e0 : win0_11.index t 0 = 0 := congrFun e 0
  have e1 : win0_11.index t 1 = 0 := congrFun e 1
  blk_simp
  rw [e0, e1, zero_mul, zero_add, zero_mul, zero_add]
  exact h9 y

theorem end12 (h : ∀ u : Fin cfg0.N, (cfg0.win 12).flush u = true → (sofar Z D A SK W).R12 u.val (dat.after 12 u))
    (i : S8x256.Idx) : (i 0).val = 0 → dat.arrAt 12 cfg0.N i = ((∑ g ∈ Finset.range 8448, gKV Z D SK g (i 1).val : ℝ) : EReal) := by
  refine dat.arrAt_forall_of_covers 12 (fun (i : S8x256.Idx) v => (i 0).val = 0 → v = ((∑ g ∈ Finset.range 8448, gKV Z D SK g (i 1).val : ℝ) : EReal))
    (by decide +kernel) (fun t hf y => ?_) i
  have ht : t.val = 32 := by rw [flush12] at hf; exact of_decide_eq_true hf
  have h9 := h t hf
  rw [ht] at h9
  change ∀ y : S8x256.Idx, _ at h9
  obtain ⟨-, -, -, -, -, -, -, -, -, -, -, -, e, -⟩ := idx t
  have e0 : win0_12.index t 0 = 0 := congrFun e 0
  have e1 : win0_12.index t 1 = 0 := congrFun e 1
  blk_simp
  rw [e0, e1, zero_mul, zero_add, zero_mul, zero_add]
  exact h9 y

theorem end13 (h : ∀ u : Fin cfg0.N, (cfg0.win 13).flush u = true → (sofar Z D A SK W).R13 u.val (dat.after 13 u))
    (i : S8x1024.Idx) : (i 0).val < 3 → dat.arrAt 13 cfg0.N i = ((∑ g ∈ Finset.range 8192, gW Z D (i 0).val g (i 1).val : ℝ) : EReal) := by
  refine dat.arrAt_forall_of_covers 13 (fun (i : S8x1024.Idx) v => (i 0).val < 3 → v = ((∑ g ∈ Finset.range 8192, gW Z D (i 0).val g (i 1).val : ℝ) : EReal))
    (by decide +kernel) (fun t hf y => ?_) i
  have ht : t.val = 32 := by rw [flush13] at hf; exact of_decide_eq_true hf
  have h9 := h t hf
  rw [ht] at h9
  change ∀ y : S8x1024.Idx, _ at h9
  obtain ⟨-, -, -, -, -, -, -, -, -, -, -, -, -, e, -⟩ := idx t
  have e0 : win0_13.index t 0 = 0 := congrFun e 0
  have e1 : win0_13.index t 1 = 0 := congrFun e 1
  blk_simp
  rw [e0, e1, zero_mul, zero_add, zero_mul, zero_add]
  exact h9 y

theorem end14 (h : ∀ u : Fin cfg0.N, (cfg0.win 14).flush u = true → (sofar Z D A SK W).R14 u.val (dat.after 14 u))
    (i : S8x128.Idx) : (i 0).val = 0 → (i 1).val < 16 → dat.arrAt 14 cfg0.N i = ((∑ b ∈ Finset.range 64, gS Z D SK b (i 1).val : ℝ) : EReal) := by
  refine dat.arrAt_forall_of_covers 14 (fun (i : S8x128.Idx) v => (i 0).val = 0 → (i 1).val < 16 → v = ((∑ b ∈ Finset.range 64, gS Z D SK b (i 1).val : ℝ) : EReal))
    (by decide +kernel) (fun t hf y => ?_) i
  have ht : t.val = 32 := by rw [flush14] at hf; exact of_decide_eq_true hf
  have h9 := h t hf
  rw [ht] at h9
  change ∀ y : S8x128.Idx, _ at h9
  obtain ⟨-, -, -, -, -, -, -, -, -, -, -, -, -, -, e⟩ := idx t
  have e0 : win0_14.index t 0 = 0 := congrFun e 0
  have e1 : win0_14.index t 1 = 0 := congrFun e 1
  blk_simp
  rw [e0, e1, zero_mul, zero_add, zero_mul, zero_add]
  exact h9 y
end

/-- What a run leaves. -/
structure Res (Z D A : ℕ → ℕ → ℝ) (SK : ℕ → ℝ) (W : ℕ → ℕ → ℝ) (m μ : (ℓ : Loc nD τ sig) → Buf (Elt Ideal) ℓ) (c : Dev nD) : Prop where
  dz : ∀ i : S8192x6400.Idx, ((i 1).val < 1024 ∨ 1280 ≤ (i 1).val) → μ ((c.tc : Thread nD τ).loc main_v75_0) i = ((gDZ Z D A SK W (i 0).val (i 1).val : ℝ) : EReal)
  dkv : ∀ i : S8448x256.Idx, μ ((c.tc : Thread nD τ).loc main_v75_1) i = ((gKV Z D SK (i 0).val (i 1).val : ℝ) : EReal)
  db : ∀ i : S8x6400.Idx, (i 0).val = 0 → ((i 1).val < 1024 ∨ 1280 ≤ (i 1).val) → μ ((c.tc : Thread nD τ).loc main_v75_2) i = ((∑ g ∈ Finset.range 8192, gDZ Z D A SK W g (i 1).val : ℝ) : EReal)
  dbkv : ∀ i : S8x256.Idx, (i 0).val = 0 → μ ((c.tc : Thread nD τ).loc main_v75_3) i = ((∑ g ∈ Finset.range 8448, gKV Z D SK g (i 1).val : ℝ) : EReal)
  dcw : ∀ i : S8x1024.Idx, (i 0).val < 3 → μ ((c.tc : Thread nD τ).loc main_v75_4) i = ((∑ g ∈ Finset.range 8192, gW Z D (i 0).val g (i 1).val : ℝ) : EReal)
  dsk : ∀ i : S8x128.Idx, (i 0).val = 0 → (i 1).val < 16 → μ ((c.tc : Thread nD τ).loc main_v75_5) i = ((∑ b ∈ Finset.range 64, gS Z D SK b (i 1).val : ℝ) : EReal)
  a0 : μ ((c.tc : Thread nD τ).loc main_arg0) = m ((c.tc : Thread nD τ).loc main_arg0)
  a1 : μ ((c.tc : Thread nD τ).loc main_arg1) = m ((c.tc : Thread nD τ).loc main_arg1)
  a2 : μ ((c.tc : Thread nD τ).loc main_arg2) = m ((c.tc : Thread nD τ).loc main_arg2)
  a3 : μ ((c.tc : Thread nD τ).loc main_arg3) = m ((c.tc : Thread nD τ).loc main_arg3)

variable (m : (ℓ : Loc nD τ sig) → Buf (Elt Ideal) ℓ) (ρ : Dev nD → PrngReg) (Z D A : Dev nD → ℕ → ℕ → ℝ) (SK : Dev nD → ℕ → ℝ) (W : Dev nD → ℕ → ℕ → ℝ)

set_option maxHeartbeats 1000000 in
theorem run_values (hw : ∀ c, ∀ t : Fin cfg0.N, t.val < 32 → Win t.val (Z c) (D c) (A c) (SK c) (W c)
      (iblk m c 0 t) (iblk m c 1 t) (iblk m c 2 t) (iblk m c 3 t) (iblk m c 4 t) (iblk m c 5 t) (iblk m c 6 t) (iblk m c 7 t) (iblk m c 8 t)) :
    θ_run defs (onTc (τ := τ) (main (F := Ideal))) (s₀ m ρ) (fun r => (∀ c, Res (Z c) (D c) (A c) (SK c) (W c) m r.2.mem c) ∧ r.2.sem = fun _ => 0) :=
  (θ_run defs _ _).mono (fun r h => ⟨fun c => by
    obtain ⟨after, hL, hA⟩ := RDat.FramePost.exists_exact h.1 c
    obtain ⟨a0, a1, a2, a3⟩ := args_kept m _ h.1 c
    let J : Dev nD → Inv Ideal := fun c => sofar (Z c) (D c) (A c) (SK c) (W c)
    let dat : Dat τ (Elt Ideal) Unit ℕ (UR sig nD τ) ℕ cfg0 c := (rdat m J c).withAfter after
    have e9 : ∀ u : Fin cfg0.N, (cfg0.win 9).flush u = true → (sofar (Z c) (D c) (A c) (SK c) (W c)).R9 u.val (dat.after 9 u) := fun u hu => (dats m J c).toRRel_leaves (w := 9) rfl (hL 9 u hu)
    have e10 : ∀ u : Fin cfg0.N, (cfg0.win 10).flush u = true → (sofar (Z c) (D c) (A c) (SK c) (W c)).R10 u.val (dat.after 10 u) := fun u hu => (dats m J c).toRRel_leaves (w := 10) rfl (hL 10 u hu)
    have e11 : ∀ u : Fin cfg0.N, (cfg0.win 11).flush u = true → (sofar (Z c) (D c) (A c) (SK c) (W c)).R11 u.val (dat.after 11 u) := fun u hu => (dats m J c).toRRel_leaves (w := 11) rfl (hL 11 u hu)
    have e12 : ∀ u : Fin cfg0.N, (cfg0.win 12).flush u = true → (sofar (Z c) (D c) (A c) (SK c) (W c)).R12 u.val (dat.after 12 u) := fun u hu => (dats m J c).toRRel_leaves (w := 12) rfl (hL 12 u hu)
    have e13 : ∀ u : Fin cfg0.N, (cfg0.win 13).flush u = true → (sofar (Z c) (D c) (A c) (SK c) (W c)).R13 u.val (dat.after 13 u) := fun u hu => (dats m J c).toRRel_leaves (w := 13) rfl (hL 13 u hu)
    have e14 : ∀ u : Fin cfg0.N, (cfg0.win 14).flush u = true → (sofar (Z c) (D c) (A c) (SK c) (W c)).R14 u.val (dat.after 14 u) := fun u hu => (dats m J c).toRRel_leaves (w := 14) rfl (hL 14 u hu)
    exact ⟨fun i hi => (congrFun (hA 9) i).trans (end9 dat e9 i hi), fun i => (congrFun (hA 10) i).trans (end10 dat e10 i),
      fun i h0 h1 => (congrFun (hA 11) i).trans (end11 dat e11 i h0 h1), fun i h0 => (congrFun (hA 12) i).trans (end12 dat e12 i h0),
      fun i h0 => (congrFun (hA 13) i).trans (end13 dat e13 i h0), fun i h0 h1 => (congrFun (hA 14) i).trans (end14 dat e14 i h0 h1), a0, a1, a2, a3⟩, h.2⟩)
    (run_main m ρ (fun c => sofar (Z c) (D c) (A c) (SK c) (W c)) fun c => sofar_ok m c (hw c))

end Cert.Kernel2Ideal.Mixer
-- ==== Proof.Mixer.Inputs.lean ====
module

public import proofs.«01_k».proof.Proof.Mixer.Point
public import proofs.«01_k».proof.Proof.Mixer.Launch

/-! What the windows of a point hold, in terms of the arrays they are blocks of. -/

@[expose] public section

set_option maxRecDepth 16384

noncomputable section

namespace Cert.Kernel2Ideal.Mixer

open Idealize.ShloMosaic TcCoe Cert.Kernel2Ideal Gen Cert.Mixer

variable (m : (ℓ : Loc nD τ sig) → Buf (Elt Ideal) ℓ)

theorem win_0 (t : Fin cfg0.N) (ht : t.val < 32) {g : ℕ → ℕ → ℝ} (X : (⟨2, ![8192, 6400]⟩ : Shape).Idx → EReal) (hX : Is2 X g) :
    Is2 (n := 256) (k := 6400) (((cfg0.win 0).blk t).view.read (Elt Ideal) X) fun r c => g (256 * t.val + r) (c) := fun i => by
  have h0 : (i 0).val < 256 := (i 0).isLt
  have h1 : (i 1).val < 6400 := (i 1).isLt
  have hm : min t.val 31 = t.val := by omega
  have e : ((cfg0.win 0).blk t).view.read (Elt Ideal) X i = X (ix2 (⟨256 * t.val + (i 0).val, by omega⟩ : Fin 8192) ⟨(i 1).val, by omega⟩) := by
    obtain ⟨e0, e1, e2, e3, e4, e5, e6, e7, e8, -⟩ := idx t
    blk_ext [e0, hm]
  exact e.trans (hX _)

theorem win_1 (t : Fin cfg0.N) (ht : t.val < 32) {g : ℕ → ℕ → ℝ} (X : (⟨2, ![8192, 6400]⟩ : Shape).Idx → EReal) (hX : Is2 X g) :
    Is2 (n := 128) (k := 256) (((cfg0.win 1).blk t).view.read (Elt Ideal) X) fun r c => g (128 * (2 * t.val - 1) + r) (1024 + c) := fun i => by
  have h0 : (i 0).val < 128 := (i 0).isLt
  have h1 : (i 1).val < 256 := (i 1).isLt
  have hm : min t.val 31 = t.val := by omega
  have e : ((cfg0.win 1).blk t).view.read (Elt Ideal) X i = X (ix2 (⟨128 * (2 * t.val - 1) + (i 0).val, by omega⟩ : Fin 8192) ⟨1024 + (i 1).val, by omega⟩) := by
    obtain ⟨e0, e1, e2, e3, e4, e5, e6, e7, e8, -⟩ := idx t
    blk_ext [e1, hm]
  exact e.trans (hX _)

theorem win_2 (t : Fin cfg0.N) (ht : t.val < 32) {g : ℕ → ℕ → ℝ} (X : (⟨2, ![8192, 6400]⟩ : Shape).Idx → EReal) (hX : Is2 X g) :
    Is2 (n := 16) (k := 6400) (((cfg0.win 2).blk t).view.read (Elt Ideal) X) fun r c => g (16 * (16 * t.val - 1) + r) (c) := fun i => by
  have h0 : (i 0).val < 16 := (i 0).isLt
  have h1 : (i 1).val < 6400 := (i 1).isLt
  have hm : min t.val 31 = t.val := by omega
  have e : ((cfg0.win 2).blk t).view.read (Elt Ideal) X i = X (ix2 (⟨16 * (16 * t.val - 1) + (i 0).val, by omega⟩ : Fin 8192) ⟨(i 1).val, by omega⟩) := by
    obtain ⟨e0, e1, e2, e3, e4, e5, e6, e7, e8, -⟩ := idx t
    blk_ext [e2, hm]
  exact e.trans (hX _)

theorem win_3 (t : Fin cfg0.N) (ht : t.val < 32) {g : ℕ → ℕ → ℝ} (X : (⟨2, ![8192, 6400]⟩ : Shape).Idx → EReal) (hX : Is2 X g) :
    Is2 (n := 16) (k := 6400) (((cfg0.win 3).blk t).view.read (Elt Ideal) X) fun r c => g (16 * min (16 * t.val + 16) 511 + r) (c) := fun i => by
  have h0 : (i 0).val < 16 := (i 0).isLt
  have h1 : (i 1).val < 6400 := (i 1).isLt
  have hm : min t.val 31 = t.val := by omega
  have e : ((cfg0.win 3).blk t).view.read (Elt Ideal) X i = X (ix2 (⟨16 * min (16 * t.val + 16) 511 + (i 0).val, by omega⟩ : Fin 8192) ⟨(i 1).val, by omega⟩) := by
    obtain ⟨e0, e1, e2, e3, e4, e5, e6, e7, e8, -⟩ := idx t
    blk_ext [e3, hm]
  exact e.trans (hX _)

theorem win_4 (t : Fin cfg0.N) (ht : t.val < 32) {g : ℕ → ℕ → ℝ} (X : (⟨2, ![8192, 1024]⟩ : Shape).Idx → EReal) (hX : Is2 X g) :
    Is2 (n := 256) (k := 1024) (((cfg0.win 4).blk t).view.read (Elt Ideal) X) fun r c => g (256 * t.val + r) (c) := fun i => by
  have h0 : (i 0).val < 256 := (i 0).isLt
  have h1 : (i 1).val < 1024 := (i 1).isLt
  have hm : min t.val 31 = t.val := by omega
  have e : ((cfg0.win 4).blk t).view.read (Elt Ideal) X i = X (ix2 (⟨256 * t.val + (i 0).val, by omega⟩ : Fin 8192) ⟨(i 1).val, by omega⟩) := by
    obtain ⟨e0, e1, e2, e3, e4, e5, e6, e7, e8, -⟩ := idx t
    blk_ext [e4, hm]
  exact e.trans (hX _)

theorem win_5 (t : Fin cfg0.N) (ht : t.val < 32) {g : ℕ → ℕ → ℝ} (X : (⟨2, ![8192, 1024]⟩ : Shape).Idx → EReal) (hX : Is2 X g) :
    Is2 (n := 16) (k := 1024) (((cfg0.win 5).blk t).view.read (Elt Ideal) X) fun r c => g (16 * min (16 * t.val + 16) 511 + r) (c) := fun i => by
  have h0 : (i 0).val < 16 := (i 0).isLt
  have h1 : (i 1).val < 1024 := (i 1).isLt
  have hm : min t.val 31 = t.val := by omega
  have e : ((cfg0.win 5).blk t).view.read (Elt Ideal) X i = X (ix2 (⟨16 * min (16 * t.val + 16) 511 + (i 0).val, by omega⟩ : Fin 8192) ⟨(i 1).val, by omega⟩) := by
    obtain ⟨e0, e1, e2, e3, e4, e5, e6, e7, e8, -⟩ := idx t
    blk_ext [e5, hm]
  exact e.trans (hX _)

theorem win_6 (t : Fin cfg0.N) (ht : t.val < 32) {g : ℕ → ℕ → ℝ} (X : (⟨2, ![8192, 1024]⟩ : Shape).Idx → EReal) (hX : Is2 X g) :
    Is2 (n := 256) (k := 1024) (((cfg0.win 6).blk t).view.read (Elt Ideal) X) fun r c => g (256 * t.val + r) (c) := fun i => by
  have h0 : (i 0).val < 256 := (i 0).isLt
  have h1 : (i 1).val < 1024 := (i 1).isLt
  have hm : min t.val 31 = t.val := by omega
  have e : ((cfg0.win 6).blk t).view.read (Elt Ideal) X i = X (ix2 (⟨256 * t.val + (i 0).val, by omega⟩ : Fin 8192) ⟨(i 1).val, by omega⟩) := by
    obtain ⟨e0, e1, e2, e3, e4, e5, e6, e7, e8, -⟩ := idx t
    blk_ext [e6, hm]
  exact e.trans (hX _)

theorem win_7 (t : Fin cfg0.N) (ht : t.val < 32) {g : ℕ → ℕ → ℝ} (X : (⟨2, ![1, 16]⟩ : Shape).Idx → EReal) (hX : Is2 X g) :
    Is2 (n := 1) (k := 16) (((cfg0.win 7).blk t).view.read (Elt Ideal) X) fun r c => g (r) (c) := fun i => by
  have h0 : (i 0).val < 1 := (i 0).isLt
  have h1 : (i 1).val < 16 := (i 1).isLt
  have hm : min t.val 31 = t.val := by omega
  have e : ((cfg0.win 7).blk t).view.read (Elt Ideal) X i = X (ix2 (⟨(i 0).val, by omega⟩ : Fin 1) ⟨(i 1).val, by omega⟩) := by
    obtain ⟨e0, e1, e2, e3, e4, e5, e6, e7, e8, -⟩ := idx t
    blk_ext [e7, hm]
  exact e.trans (hX _)

theorem win_8 (t : Fin cfg0.N) (ht : t.val < 32) {g : ℕ → ℕ → ℝ} (X : (⟨2, ![3, 1024]⟩ : Shape).Idx → EReal) (hX : Is2 X g) :
    Is2 (n := 3) (k := 1024) (((cfg0.win 8).blk t).view.read (Elt Ideal) X) fun r c => g (r) (c) := fun i => by
  have h0 : (i 0).val < 3 := (i 0).isLt
  have h1 : (i 1).val < 1024 := (i 1).isLt
  have hm : min t.val 31 = t.val := by omega
  have e : ((cfg0.win 8).blk t).view.read (Elt Ideal) X i = X (ix2 (⟨(i 0).val, by omega⟩ : Fin 3) ⟨(i 1).val, by omega⟩) := by
    obtain ⟨e0, e1, e2, e3, e4, e5, e6, e7, e8, -⟩ := idx t
    blk_ext [e8, hm]
  exact e.trans (hX _)

/-- Every point's windows, once the arrays hold the reals `Z`, `D`, `A`, `SK`, `W`. -/
theorem win_ok (c : Dev nD) {Z D A : ℕ → ℕ → ℝ} {SK : ℕ → ℝ} {W : ℕ → ℕ → ℝ}
    (hz : Is2 (n := 8192) (k := 6400) (m ((c.tc : Thread nD τ).loc main_arg0)) Z)
    (hd : Is2 (n := 8192) (k := 1024) (m ((c.tc : Thread nD τ).loc main_arg1)) D)
    (hs : Is2 (n := 1) (k := 16) (m ((c.tc : Thread nD τ).loc main_arg2)) fun _ l => SK l)
    (hw : Is2 (n := 3) (k := 1024) (m ((c.tc : Thread nD τ).loc main_arg3)) W)
    (ha : Is2 (n := 8192) (k := 1024) (V m c main_v74) A) (t : Fin cfg0.N) (ht : t.val < 32) :
    Win t.val Z D A SK W (iblk m c 0 t) (iblk m c 1 t) (iblk m c 2 t) (iblk m c 3 t) (iblk m c 4 t) (iblk m c 5 t) (iblk m c 6 t)
      (iblk m c 7 t) (iblk m c 8 t) := by
  refine ⟨ht, win_0 t ht _ (V_main_arg0 m c ▸ hz), win_1 t ht _ (V_main_arg0 m c ▸ hz), win_2 t ht _ (V_main_arg0 m c ▸ hz), win_3 t ht _ (V_main_arg0 m c ▸ hz), win_4 t ht _ (V_main_arg1 m c ▸ hd), win_5 t ht _ (V_main_arg1 m c ▸ hd), win_6 t ht _ (ha), win_7 t ht _ (V_main_arg2 m c ▸ hs), win_8 t ht _ (V_main_arg3 m c ▸ hw)⟩

end Cert.Kernel2Ideal.Mixer

end
-- ==== Proof.Mixer.AttnHost.lean ====
module

public import proofs.«01_k».proof.Proof.Mixer.RefAtt
public import proofs.«01_k».proof.Proof.Mixer.Launch
public import Idealize.ShloMosaic.Lib.StableHlo.RunRead

/-! The attention's result that the kernel's host lines prepare is the reference's own, laid out as a matrix. -/

@[expose] public section

set_option maxRecDepth 16384

noncomputable section

namespace Cert.Kernel2Ideal.Mixer

open Idealize.ShloMosaic TcCoe Cert.Kernel2Ideal Gen Cert.Mixer
open Cert.Reference2Ideal.Read

variable (m : (ℓ : Loc nD τ sig) → Buf (Elt Ideal) ℓ)

theorem bcast_part (Y : S8192x1280.Idx → EReal) {h2} (j : S1x8192x1280.Idx) :
    broadcastInDim S1x8192x1280 ![1, 2] h2 Y j = Y (ix2 (j 1) (j 2)) :=
  broadcastInDim_apply _ h2 Y j (ix2 (j 1) (j 2)) (fun a => match a with
    | ⟨0, _⟩ => by show (j 1).val = if (8192 : Nat) = 1 then 0 else (j 1).val; rw [if_neg (by decide)]
    | ⟨1, _⟩ => by show (j 2).val = if (1280 : Nat) = 1 then 0 else (j 2).val; rw [if_neg (by decide)])

/-- The columns of the projection's first part, cut from the whole, are cut from the part. -/
theorem cut_q (X : (⟨S8192x6400, .bf16⟩ : BufTy).Contents (Elt Ideal)) {h1 h2 h3} :
    extractStridedSlice S1x8192x1024 ![0, 0, 0] (broadcastInDim S1x8192x1280 ![1, 2] h2 (extf (F := Ideal) (φ := .bf16) .f32 (extractStridedSlice S8192x1280 ![0, 0] X h1) bitsLt_bf16_f32)) h3
      = val_main_v2 X := funext fun i => by
  rw [val_main_v2_apply, val_main_v1_apply, val_main_v0_apply]
  refine (bcast_part _ _).trans (congrArg X (funext fun a => Fin.ext ?_))
  match a with
  | ⟨0, _⟩ => exact (Nat.zero_add _).trans (Nat.zero_add _)
  | ⟨1, _⟩ => exact (Nat.zero_add _).trans (Nat.zero_add _)

theorem cut_k (X : (⟨S8192x6400, .bf16⟩ : BufTy).Contents (Elt Ideal)) {h1 h2 h3} :
    extractStridedSlice S1x8192x128 ![0, 0, 1024] (broadcastInDim S1x8192x1280 ![1, 2] h2 (extf (F := Ideal) (φ := .bf16) .f32 (extractStridedSlice S8192x1280 ![0, 0] X h1) bitsLt_bf16_f32)) h3
      = val_main_v3 X := funext fun i => by
  rw [val_main_v3_apply, val_main_v1_apply, val_main_v0_apply]
  refine (bcast_part _ _).trans (congrArg X (funext fun a => Fin.ext ?_))
  match a with
  | ⟨0, _⟩ => exact (Nat.zero_add _).trans (Nat.zero_add _)
  | ⟨1, _⟩ => exact Nat.zero_add _

theorem cut_v (X : (⟨S8192x6400, .bf16⟩ : BufTy).Contents (Elt Ideal)) {h1 h2 h3} :
    extractStridedSlice S1x8192x128 ![0, 0, 1152] (broadcastInDim S1x8192x1280 ![1, 2] h2 (extf (F := Ideal) (φ := .bf16) .f32 (extractStridedSlice S8192x1280 ![0, 0] X h1) bitsLt_bf16_f32)) h3
      = val_main_v4 X := funext fun i => by
  rw [val_main_v4_apply, val_main_v1_apply, val_main_v0_apply]
  refine (bcast_part _ _).trans (congrArg X (funext fun a => Fin.ext ?_))
  match a with
  | ⟨0, _⟩ => exact (Nat.zero_add _).trans (Nat.zero_add _)
  | ⟨1, _⟩ => exact Nat.zero_add _

/-- Two arrays side by side. -/
def cat2 {α : Type} (S : Shape) (d : Fin S.rank) (s t : Shape) (a : s.Idx → α) (b : t.Idx → α) (h : Shape.Concatenates [s, t] S d) : S.Idx → α :=
  concatenate S d [⟨s, a⟩, ⟨t, b⟩] h
theorem cat2_eq {α : Type} (S : Shape) (d : Fin S.rank) (s t : Shape) (a : s.Idx → α) (b : t.Idx → α) (h : Shape.Concatenates [s, t] S d) :
    concatenate S d [⟨s, a⟩, ⟨t, b⟩] h = cat2 S d s t a b h := rfl

theorem attn_is (c : Dev nD) : V m c main_v74 = truncf (F := Ideal) (φ := .f32) .bf16 (shapeCast S8192x1024
    (val_main_v104 (F := Ideal) (m ((c.tc : Thread nD τ).loc main_arg0)) (m ((c.tc : Thread nD τ).loc main_arg2))) shapeCasts_S1x8192x1024_S8192x1024) bitsLt_bf16_f32 := by
  unfold V
  after_reads_simp [cat2_eq]
  rw [cut_q, cut_k, cut_v]
  rfl

/-- The prepared array holds the attention's result. -/
theorem attn_real (c : Dev nD) {Z : ℕ → ℕ → ℝ} {SK : ℕ → ℝ} (hz : Is2 (n := 8192) (k := 6400) (m ((c.tc : Thread nD τ).loc main_arg0)) Z)
    (hs : Is2 (n := 1) (k := 16) (m ((c.tc : Thread nD τ).loc main_arg2)) fun _ l => SK l) :
    Is2 (n := 8192) (k := 1024) (V m c main_v74) (Cert.Mixer.attn Z SK) := fun i => by
  obtain ⟨μ, hμ⟩ := Cert.Reference2Ideal.Mixer.shift_real hs hz
  rw [attn_is]
  refine (shapeCast_apply (val_main_v104 (F := Ideal) (m ((c.tc : Thread nD τ).loc main_arg0)) (m ((c.tc : Thread nD τ).loc main_arg2)))
    shapeCasts_S1x8192x1024_S8192x1024 i (ix3 (0 : Fin 1) (i 0) (i 1)) ?_).trans (Cert.Reference2Ideal.Mixer.v104_is hs hz hμ _)
  rw [Shape.rowMajor_val_three, Shape.rowMajor_val_two]
  show ((0 : ℕ) * 8192 + (i 0).val) * 1024 + (i 1).val = (i 0).val * 1024 + (i 1).val
  omega

end Cert.Kernel2Ideal.Mixer

end
-- ==== Proof.Mixer.RefBack.lean ====
module

public import proofs.«01_k».proof.Proof.Mixer.RefGate

/-! The reference's gradients through the attention over the reals. -/

@[expose] public section

set_option maxRecDepth 16384

noncomputable section

namespace Cert.Reference2Ideal.Mixer

open Idealize.ShloMosaic TcCoe Cert.Reference2Ideal Gen Read Cert.Mixer
open Cert.Kernel2Ideal.Mixer (seen band kvS gW gS gQ)

theorem unit_last {x : S1x64x2x8x128.Idx → EReal} {g : ℕ → ℕ → ℕ → ℝ} (hx : ∀ i, x i = ((g (i 1).val (8 * (i 2).val + (i 3).val) (i 4).val : ℝ) : EReal)) {hc}
    (i : S1x64x2x8x128x1.Idx) : shapeCast S1x64x2x8x128x1 x hc i = ((g (i 1).val (8 * (i 2).val + (i 3).val) (i 4).val : ℝ) : EReal) := by
  have h5 : (i 5).val < 1 := (i 5).isLt
  rw [shapeCast_apply x hc i (ix5 (i 0) (i 1) (i 2) (i 3) (i 4)) ?_, hx]
  · rfl
  · rw [Shape.rowMajor_val_five, rowMajor_six]
    show ((((i 0).val * 64 + (i 1).val) * 2 + (i 2).val) * 8 + (i 3).val) * 128 + (i 4).val
      = (((((i 0).val * 64 + (i 1).val) * 2 + (i 2).val) * 8 + (i 3).val) * 128 + (i 4).val) * 1 + (i 5).val
    omega

/-- The sum over the first and the last axis, of one entry each. -/
theorem sum_05 {x : S1x64x2x8x128x1.Idx → EReal} {g : ℕ → ℕ → ℕ → ℝ} (hx : ∀ i, x i = ((g (i 1).val (8 * (i 2).val + (i 3).val) (i 4).val : ℝ) : EReal))
    {v : S_.Idx → EReal} (hv : ∀ i, v i = ((0 : ℝ) : EReal)) (i : S64x2x8x128.Idx) :
    Host.reduceAdd (F := Ideal) (φ := .f32) x v reducesTo_S1x64x2x8x128x1_S64x2x8x128_d0_5 h_S_ i
      = ((g (i 0).val (8 * (i 1).val + (i 2).val) (i 3).val : ℝ) : EReal) := by
  show Ideal.hostReduceAdd reducesTo_S1x64x2x8x128x1_S64x2x8x128_d0_5 x (v (Shape.Idx.first h_S_)) i = _
  have e0 : ∀ k : S1x64x2x8x128x1.Idx, (reducesTo_S1x64x2x8x128x1_S64x2x8x128_d0_5.drop k 0).val = (k 1).val := fun k => Shape.ReducesTo.drop_apply_val_of_eq _ k 0 1
  have e1 : ∀ k : S1x64x2x8x128x1.Idx, (reducesTo_S1x64x2x8x128x1_S64x2x8x128_d0_5.drop k 1).val = (k 2).val := fun k => Shape.ReducesTo.drop_apply_val_of_eq _ k 1 2
  have e2 : ∀ k : S1x64x2x8x128x1.Idx, (reducesTo_S1x64x2x8x128x1_S64x2x8x128_d0_5.drop k 2).val = (k 3).val := fun k => Shape.ReducesTo.drop_apply_val_of_eq _ k 2 3
  have e3 : ∀ k : S1x64x2x8x128x1.Idx, (reducesTo_S1x64x2x8x128x1_S64x2x8x128_d0_5.drop k 3).val = (k 4).val := fun k => Shape.ReducesTo.drop_apply_val_of_eq _ k 3 4
  let k₀ : S1x64x2x8x128x1.Idx := fun a => match a with
    | ⟨0, _⟩ => (0 : Fin 1) | ⟨1, _⟩ => i 0 | ⟨2, _⟩ => i 1 | ⟨3, _⟩ => i 2 | ⟨4, _⟩ => i 3 | ⟨5, _⟩ => (0 : Fin 1)
  rw [sum_one _ _ _ _ k₀ (funext fun a => Fin.ext (by
    match a with
    | ⟨0, _⟩ => exact e0 _
    | ⟨1, _⟩ => exact e1 _
    | ⟨2, _⟩ => exact e2 _
    | ⟨3, _⟩ => exact e3 _)) (fun k hk => funext fun a => Fin.ext (by
    subst hk
    have h0 : (k 0).val < 1 := (k 0).isLt
    have h5 : (k 5).val < 1 := (k 5).isLt
    match a with
    | ⟨0, _⟩ => show (k 0).val = 0; omega
    | ⟨1, _⟩ => exact (e0 k).symm
    | ⟨2, _⟩ => exact (e1 k).symm
    | ⟨3, _⟩ => exact (e2 k).symm
    | ⟨4, _⟩ => exact (e3 k).symm
    | ⟨5, _⟩ => show (k 5).val = 0; omega)), hv, hx, EReal.coe_zero, zero_add]

theorem coe_sum_over {ι : Type} (S : Finset ι) (f : ι → ℝ) : ((∑ i ∈ S, f i : ℝ) : EReal) = ∑ i ∈ S, (f i : EReal) :=
  map_sum ({ toFun := fun x : ℝ => (x : EReal), map_zero' := EReal.coe_zero, map_add' := EReal.coe_add } : ℝ →+ EReal) _ _

/-- The sum over the blocks and the rows. -/
theorem sum_14 {x : S1x64x2x8x128x1.Idx → EReal} {g : ℕ → ℕ → ℕ → ℝ} (hx : ∀ i, x i = ((g (i 1).val (8 * (i 2).val + (i 3).val) (i 4).val : ℝ) : EReal))
    {v : S_.Idx → EReal} (hv : ∀ i, v i = ((0 : ℝ) : EReal)) (i : S1x2x8x1.Idx) :
    Host.reduceAdd (F := Ideal) (φ := .f32) x v reducesTo_S1x64x2x8x128x1_S1x2x8x1_d1_4 h_S_ i
      = ((∑ b : Fin 64, ∑ r : Fin 128, g b.val (8 * (i 1).val + (i 2).val) r.val : ℝ) : EReal) := by
  show Ideal.hostReduceAdd reducesTo_S1x64x2x8x128x1_S1x2x8x1_d1_4 x (v (Shape.Idx.first h_S_)) i = _
  have e1 : ∀ k : S1x64x2x8x128x1.Idx, (reducesTo_S1x64x2x8x128x1_S1x2x8x1_d1_4.drop k 1).val = (k 2).val := fun k => Shape.ReducesTo.drop_apply_val_of_eq _ k 1 2
  have e2 : ∀ k : S1x64x2x8x128x1.Idx, (reducesTo_S1x64x2x8x128x1_S1x2x8x1_d1_4.drop k 2).val = (k 3).val := fun k => Shape.ReducesTo.drop_apply_val_of_eq _ k 2 3
  let mk (p : Fin 64 × Fin 128) : S1x64x2x8x128x1.Idx := fun a => match a with
    | ⟨0, _⟩ => (0 : Fin 1) | ⟨1, _⟩ => p.1 | ⟨2, _⟩ => i 1 | ⟨3, _⟩ => i 2 | ⟨4, _⟩ => p.2 | ⟨5, _⟩ => (0 : Fin 1)
  unfold Ideal.hostReduceAdd
  rw [hv, EReal.coe_zero, zero_add, ← Fintype.sum_prod_type' (f := fun (b : Fin 64) (r : Fin 128) => g b.val (8 * (i 1).val + (i 2).val) r.val), coe_sum_over]
  refine Finset.sum_nbij' (fun k => ((k 1, k 4) : Fin 64 × Fin 128)) mk (fun _ _ => Finset.mem_univ _) (fun p _ => ?_) (fun k hk => ?_) (fun _ _ => rfl) (fun k hk => ?_)
  · refine Finset.mem_filter.2 ⟨Finset.mem_univ _, funext fun a => ?_⟩
    match a with
    | ⟨0, _⟩ => exact Subsingleton.elim (α := Fin 1) _ _
    | ⟨1, _⟩ => exact Fin.ext (e1 _)
    | ⟨2, _⟩ => exact Fin.ext (e2 _)
    | ⟨3, _⟩ => exact Subsingleton.elim (α := Fin 1) _ _
  · have hk := (Finset.mem_filter.1 hk).2
    subst hk
    funext a
    match a with
    | ⟨0, _⟩ => exact Subsingleton.elim (α := Fin 1) _ _
    | ⟨1, _⟩ => rfl
    | ⟨2, _⟩ => exact Fin.ext (e1 k)
    | ⟨3, _⟩ => exact Fin.ext (e2 k)
    | ⟨4, _⟩ => rfl
    | ⟨5, _⟩ => exact Subsingleton.elim (α := Fin 1) _ _
  · have hk := (Finset.mem_filter.1 hk).2
    subst hk
    rw [hx]
    show _ = ((g (k 1).val (8 * (reducesTo_S1x64x2x8x128x1_S1x2x8x1_d1_4.drop k 1).val + (reducesTo_S1x64x2x8x128x1_S1x2x8x1_d1_4.drop k 2).val) (k 4).val : ℝ) : EReal)
    rw [e1, e2]

theorem div_zero_left {x : EReal} (h : x ≠ 0) : Ideal.div ((0 : ℝ) : EReal) x = ((0 : ℝ) : EReal) := by
  rw [EReal.coe_zero, Ideal.div, if_neg h, zero_mul]

/-- A block's keys' or values' gradient moved one block back, zero past the last. -/
theorem pad_block {y : S1x63x128x2x64.Idx → EReal} {g : ℕ → ℕ → ℕ → ℝ} (hy : ∀ i, y i = ((g (i 1).val (i 2).val (64 * (i 3).val + (i 4).val) : ℝ) : EReal))
    {v : S_.Idx → EReal} (hv : ∀ i, v i = ((0 : ℝ) : EReal)) {hc} {hu} (i : S1x64x128x2x64.Idx) :
    pad S1x64x128x2x64 ![0, 0, 0, 0, 0] ![0, 1, 0, 0, 0] ![0, 0, 0, 0, 0] y v hc hu i
      = ((if (i 1).val < 63 then g (i 1).val (i 2).val (64 * (i 3).val + (i 4).val) else 0 : ℝ) : EReal) := by
  have h0 : (i 0).val < 1 := (i 0).isLt
  by_cases h : (i 1).val < 63
  · rw [if_pos h, pad_apply_of_inside _ _ _ y v hc hu i (ix5 (0 : Fin 1) (⟨(i 1).val, h⟩ : Fin 63) (i 2) (i 3) (i 4)) (fun a => ?_), hy]
    · rfl
    · match a with
      | ⟨0, _⟩ => show (i 0).val = 0 + 0 * 1; omega
      | ⟨1, _⟩ => show (i 1).val = 0 + (i 1).val * 1; omega
      | ⟨2, _⟩ => show (i 2).val = 0 + (i 2).val * 1; omega
      | ⟨3, _⟩ => show (i 3).val = 0 + (i 3).val * 1; omega
      | ⟨4, _⟩ => show (i 4).val = 0 + (i 4).val * 1; omega
  · rw [if_neg h, pad_apply_of_not_inside _ _ _ y v hc hu i 1 (fun hh => h ?_), hv]
    have := hh.2.2
    change ((i 1).val - 0) / 1 < 63 at this
    omega

variable {x0 : (⟨S8192x6400, .bf16⟩ : BufTy).Contents (Elt Ideal)} {x1 : (⟨S8192x1024, .bf16⟩ : BufTy).Contents (Elt Ideal)}
  {x2 : (⟨S1x16, .f32⟩ : BufTy).Contents (Elt Ideal)}
  {Z D : ℕ → ℕ → ℝ} {SK : ℕ → ℝ}

/-- The rows in which the largest score is attained number at least one. -/
theorem v66_ne (hz : Is2 (n := 8192) (k := 6400) x0 Z) (j : S1x64x2x8x128.Idx) : val_main_v66 (F := Ideal) x0 j ≠ 0 := by
  have hn : ∀ i, 0 ≤ val_main_v65 (F := Ideal) x0 i := fun i => by
    rw [val_main_v65_apply]
    exact EReal.coe_nonneg.2 (Nat.cast_nonneg _)
  obtain ⟨-, i, ⟨h1, h2, h3, h4⟩, he⟩ := v61_is hz j
  have hi : idx_main_v66 j (i 5) = i := funext fun a => Fin.ext (by
    have h0 : (i 0).val < 1 := (i 0).isLt
    have hj : (j 0).val < 1 := (j 0).isLt
    match a with
    | ⟨0, _⟩ => show (j 0).val = (i 0).val; omega
    | ⟨1, _⟩ => exact h1.symm
    | ⟨2, _⟩ => exact h2.symm
    | ⟨3, _⟩ => exact h3.symm
    | ⟨4, _⟩ => exact h4.symm
    | ⟨5, _⟩ => rfl)
  have h62 : val_main_v62 (F := Ideal) x0 (idx_main_v63 i) = val_main_v61 (F := Ideal) x0 j := by
    unfold val_main_v62
    refine shapeCast_apply (val_main_v61 (F := Ideal) x0) _ _ j ?_
    rw [Shape.rowMajor_val_five, rowMajor_six]
    have h0 : (i 0).val < 1 := (i 0).isLt
    have hj : (j 0).val < 1 := (j 0).isLt
    show ((((j 0).val * 64 + (j 1).val) * 2 + (j 2).val) * 8 + (j 3).val) * 128 + (j 4).val
      = (((((0 : ℕ) * 64 + (i 1).val) * 2 + (i 2).val) * 8 + (i 3).val) * 128 + (i 4).val) * 1 + 0
    omega
  have hone : val_main_v65 (F := Ideal) x0 i = 1 := by
    rw [val_main_v65_apply, val_main_v64_apply, val_main_v63_apply, h62, he]
    show (((Ideal.cmp .oeq _ _ : BitVec 1).toNat : ℝ) : EReal) = _
    simp [Ideal.cmp]
  rw [val_main_v66_apply]
  have hs : (1 : EReal) ≤ ∑ k : Fin 256, val_main_v65 (F := Ideal) x0 (idx_main_v66 j k) := by
    rw [← hone, ← hi]
    exact Finset.single_le_sum (f := fun k : Fin 256 => val_main_v65 (F := Ideal) x0 (idx_main_v66 j k)) (fun k _ => hn _) (Finset.mem_univ (i 5))
  rw [show val_main_cst_10 (F := Ideal) (Shape.Idx.first h_S_) = 0 from Ideal.ofBits_zero_f32, zero_add]
  exact (lt_of_lt_of_le zero_lt_one hs).ne'

section
variable (hz : Is2 (n := 8192) (k := 6400) x0 Z) (hd : Is2 (n := 8192) (k := 1024) x1 D)
include hz hd

theorem v201_is (i : S1x64x2x64x8x128.Idx) : val_main_v201 (F := Ideal) x0 x1 i
    = ((dO Z D (128 * (i 1).val + (i 5).val) (64 * (8 * (i 2).val + (i 4).val) + (i 3).val) : ℝ) : EReal) :=
  (val_main_v201_apply x0 x1 i).trans (split_q (v160_is hz hd) _)

theorem v202_is (i : S1x64x2x8x128x256.Idx) : val_main_v202 (F := Ideal) x0 x1 i
    = ((dpr Z D (kvS Z (i 1).val) (128 * (i 1).val) (8 * (i 2).val + (i 3).val) (i 4).val (i 5).val : ℝ) : EReal) := by
  have h3 : (i 3).val < 8 := (i 3).isLt
  rw [val_main_v202_apply]
  simp only [v201_is hz hd, v25_is hz, ← EReal.coe_mul, ← coe_sum]
  rw [dpr, show (8 * (i 2).val + (i 3).val) / 8 = (i 2).val by omega]

variable (hs : Is2 (n := 1) (k := 16) x2 fun _ l => SK l)
  {μ : ℕ → ℕ → ℕ → ℝ} (hμ : ∀ i, val_main_v69 (F := Ideal) x0 x2 i = ((μ (i 1).val (8 * (i 2).val + (i 3).val) (i 4).val : ℝ) : EReal))
include hs hμ

theorem v210_is (i : S1x64x2x8x128x1.Idx) : val_main_v210 (F := Ideal) x0 x1 x2 i
    = ((-(dl (seen (i 1).val) Z D SK (kvS Z (i 1).val) (128 * (i 1).val) (8 * (i 2).val + (i 3).val) (i 4).val
      / denm (seen (i 1).val) (sc Z (kvS Z (i 1).val) (128 * (i 1).val) (8 * (i 2).val + (i 3).val)) (fun _ => SK (8 * (i 2).val + (i 3).val)) (i 4).val
        (μ (i 1).val (8 * (i 2).val + (i 3).val) (i 4).val)) : ℝ) : EReal) := by
  rw [val_main_v210_apply]
  unfold val_main_v209
  rw [unit_last (g := fun b H r => dl (seen b) Z D SK (kvS Z b) (128 * b) H r / denm (seen b) (sc Z (kvS Z b) (128 * b) H) (fun _ => SK H) r (μ b H r))
    (fun i => ?_) i]
  · exact (EReal.coe_neg _).symm
  rw [val_main_v208_apply]
  simp only [val_main_v207_apply, val_main_v206_apply, val_main_v205_apply, v202_is hz hd, v101_is hs hz hμ, v90_is hz hμ]
  refine (congrArg₂ (· + ·) ((zero_f32 _).trans EReal.coe_zero) (Finset.sum_congr rfl fun k _ =>
    (congrArg (· * _) (EReal.coe_mul _ _).symm).trans (EReal.coe_mul _ _).symm)).trans ?_
  rw [zero_add, ← coe_sum]
  exact congrArg (fun x : ℝ => (x : EReal)) (sum_over _ _ _ _ _ _)

theorem v213_is (i : S1x64x2x8x128x1.Idx) : val_main_v213 (F := Ideal) x0 x1 x2 i
    = ((-(wsink (seen (i 1).val) Z SK (kvS Z (i 1).val) (128 * (i 1).val) (8 * (i 2).val + (i 3).val) (i 4).val
      * dl (seen (i 1).val) Z D SK (kvS Z (i 1).val) (128 * (i 1).val) (8 * (i 2).val + (i 3).val) (i 4).val) : ℝ) : EReal) := by
  rw [val_main_v213_apply, v210_is hz hd hs hμ, v95_is hs hz hμ]
  exact (EReal.coe_mul _ _).symm.trans (congrArg (fun x : ℝ => (x : EReal)) (sink_part _ _ _ _ _ _))

theorem v221_is (i : S1x64x2x8x128x256.Idx) : val_main_v221 (F := Ideal) x0 x1 x2 i
    = ((dsr (seen (i 1).val) Z D SK (kvS Z (i 1).val) (128 * (i 1).val) (8 * (i 2).val + (i 3).val) (i 4).val (i 5).val : ℝ) : EReal) := by
  have e := sum_05 (g := fun b H r => -(dl (seen b) Z D SK (kvS Z b) (128 * b) H r / denm (seen b) (sc Z (kvS Z b) (128 * b) H) (fun _ => SK H) r (μ b H r)))
    (v210_is hz hd hs hμ) (v := val_main_cst_42 (F := Ideal)) (fun i => zero_f32 i) (idx_main_v218 (idx_main_v219 i))
  rw [val_main_v221_apply, val_main_v220_apply, val_main_v212_apply, val_main_v211_apply, val_main_v219_apply, val_main_v218_apply, v202_is hz hd,
    v96_is hs hz hμ, v90_is hz hμ]
  refine (congrArg₂ (fun a b : EReal => (a + b) * _) (div_real (denm_ne _ _ _ _ _) _) e).trans ?_
  rw [← EReal.coe_add, ← EReal.coe_mul]
  exact congrArg (fun x : ℝ => (x : EReal)) (dsc_part _ _ _ _ _ _ _)

/-- What is sent back to the shift. -/
theorem v225_is (i : S1x64x2x8x128x1.Idx) : val_main_v225 (F := Ideal) x0 x1 x2 i = 0 := by
  rw [val_main_v225_apply, val_main_v216_apply, v213_is hz hd hs hμ]
  unfold val_main_v224
  rw [unit_last (g := fun b H r => ∑ k : Fin 256, -dsr (seen b) Z D SK (kvS Z b) (128 * b) H r k) (fun i => ?_) i]
  · refine (congrArg (· + _) (EReal.coe_neg _).symm).trans ((EReal.coe_add _ _).symm.trans ?_)
    exact (congrArg (fun x : ℝ => (x : EReal)) (shift_zero _ _ _ _ _)).trans EReal.coe_zero
  rw [val_main_v223_apply]
  simp only [val_main_v222_apply, v221_is hz hd hs hμ]
  refine (congrArg₂ (· + ·) ((zero_f32 _).trans EReal.coe_zero) (Finset.sum_congr rfl fun k _ => (EReal.coe_neg _).symm)).trans ?_
  rw [zero_add, ← coe_sum]

theorem v235_is (i : S1x64x2x8x128x256.Idx) : val_main_v235 (F := Ideal) x0 x1 x2 i = 0 := by
  have e := sum_05 (x := val_main_v230 (F := Ideal) x0 x1 x2) (g := fun _ _ _ => 0) (fun i => by
    rw [val_main_v230_apply, v225_is hz hd hs hμ]
    exact (zero_mul _).trans EReal.coe_zero.symm) (v := val_main_cst_45 (F := Ideal)) (fun i => zero_f32 i) (idx_main_v232 (idx_main_v234 i))
  rw [val_main_v235_apply, val_main_v234_apply, val_main_v233_apply, val_main_v232_apply]
  refine (congrArg (fun x : EReal => Ideal.div x _ * _) e).trans ?_
  rw [div_zero_left (v66_ne hz _), EReal.coe_zero, zero_mul]

theorem v240_is (i : S1x64x2x8x128x256.Idx) : val_main_v240 (F := Ideal) x0 x1 x2 i
    = ((dsr (seen (i 1).val) Z D SK (kvS Z (i 1).val) (128 * (i 1).val) (8 * (i 2).val + (i 3).val) (i 4).val (i 5).val * (1 / 8) : ℝ) : EReal) := by
  rw [val_main_v240_apply, val_main_v238_apply, val_main_v236_apply, v221_is hz hd hs hμ, v235_is hz hd hs hμ, val_main_v239_apply, val_main_cst_46_apply,
    val_main_v59_1_apply, val_main_v58_apply, v57_is, val_main_call1_v0_apply, val_main_call1_cst_apply]
  refine (congrArg₂ (fun a b : EReal => a * b) (Cert.Kernel2Ideal.Mixer.select_mask _ _ _) Cert.Kernel2Ideal.Mixer.eighth_f32).trans ?_
  rw [EReal.coe_mul]
  refine congrArg (· * _) ?_
  split_ifs with h
  · exact add_zero _
  · refine Ideal.ofBits_zero_f32.trans (EReal.coe_zero.symm.trans (congrArg (fun x : ℝ => (x : EReal)) ?_))
    rw [dsr, dsc, pr, ex, if_neg h, zero_div, zero_mul]

theorem v243_is (i : S1x64x128x2x8x64.Idx) : val_main_v243 (F := Ideal) x0 x1 x2 i
    = ((∑ k : Fin 256, dsr (seen (i 1).val) Z D SK (kvS Z (i 1).val) (128 * (i 1).val) (8 * (i 3).val + (i 4).val) (i 2).val k
      * (kvS Z (i 1).val k (64 * ((8 * (i 3).val + (i 4).val) / 8) + (i 5).val) * (1 / 8)) : ℝ) : EReal) := by
  have h4 : (i 4).val < 8 := (i 4).isLt
  rw [val_main_v243_apply, val_main_v242_apply]
  simp only [val_main_v241_apply, v240_is hz hd hs hμ, v18_is hz, ← EReal.coe_mul, ← coe_sum]
  refine congrArg _ (Finset.sum_congr rfl fun k _ => ?_)
  rw [show (8 * (i 3).val + (i 4).val) / 8 = (i 3).val by omega]
  show _ * (1 / 8) * kvS Z (i 1).val k.val (64 * (i 3).val + (i 5).val) = _
  rw [mul_assoc, mul_comm (1 / 8 : ℝ)]

theorem v260_is (i : S1x8192x1024.Idx) : val_main_v260 (F := Ideal) x0 x1 x2 i = ((gQ Z D SK (i 1).val (i 2).val : ℝ) : EReal) :=
  (join_q (g := fun b r H d => ∑ k : Fin 256, dsr (seen b) Z D SK (kvS Z b) (128 * b) H r k * (kvS Z b k (64 * (H / 8) + d) * (1 / 8)))
    (v243_is hz hd hs hμ) i).trans rfl

theorem v245_is (i : S1x64x256x2x64.Idx) : val_main_v245 (F := Ideal) x0 x1 x2 i
    = ((bKV (seen (i 1).val) Z D SK (kvS Z (i 1).val) (128 * (i 1).val) (i 2).val (64 * (i 3).val + (i 4).val) : ℝ) : EReal) := by
  have h3 : (i 3).val < 2 := (i 3).isLt
  have h4 : (i 4).val < 64 := (i 4).isLt
  have e : ∀ i : S1x64x2x256x64.Idx, val_main_v244 (F := Ideal) x0 x1 x2 i = ∑ r : Fin 128, ∑ g : Fin 8,
      val_main_v241 (F := Ideal) x0 x1 x2 (ix6 (i 0) (i 1) (i 2) (i 3) r g) * val_main_v11 (F := Ideal) x0 (ix6 (i 0) (i 1) r (i 2) g (i 4)) := fun i => by
    unfold val_main_v244
    generalize val_main_v241 (F := Ideal) x0 x1 x2 = y0
    generalize val_main_v11 (F := Ideal) x0 = y1
    pointwise
  rw [val_main_v245_apply, e]
  simp only [val_main_v241_apply, v240_is hz hd hs hμ, v11_is hz, ← EReal.coe_mul, ← coe_sum]
  rw [bKV, if_pos (by omega), bK, Finset.sum_comm, Finset.sum_mul]
  refine congrArg _ (Finset.sum_congr rfl fun g _ => ?_)
  rw [Finset.sum_mul]
  refine Finset.sum_congr rfl fun r _ => ?_
  show dsr (seen (i 1).val) Z D SK (kvS Z (i 1).val) (128 * (i 1).val) (8 * (i 3).val + g.val) r.val (i 2).val * (1 / 8)
    * Z (128 * (i 1).val + r.val) (64 * (8 * (i 3).val + g.val) + (i 4).val) = _
  rw [show (64 * (i 3).val + (i 4).val) / 64 = (i 3).val by omega, show (64 * (i 3).val + (i 4).val) % 64 = (i 4).val by omega]
  ring

theorem v204_is (i : S1x64x256x2x64.Idx) : val_main_v204 (F := Ideal) x0 x1 x2 i
    = ((bKV (seen (i 1).val) Z D SK (kvS Z (i 1).val) (128 * (i 1).val) (i 2).val (128 + (64 * (i 3).val + (i 4).val)) : ℝ) : EReal) := by
  have h3 : (i 3).val < 2 := (i 3).isLt
  have h4 : (i 4).val < 64 := (i 4).isLt
  have e : ∀ i : S1x64x2x64x256.Idx, val_main_v203 (F := Ideal) x0 x1 x2 i = ∑ g : Fin 8, ∑ r : Fin 128,
      val_main_v201 (F := Ideal) x0 x1 (ix6 (i 0) (i 1) (i 2) (i 3) g r) * val_main_v98 (F := Ideal) x0 x2 (ix6 (i 0) (i 1) (i 2) g r (i 4)) := fun i => by
    unfold val_main_v203
    generalize val_main_v201 (F := Ideal) x0 x1 = y0
    generalize val_main_v98 (F := Ideal) x0 x2 = y1
    pointwise
  rw [val_main_v204_apply, e]
  simp only [v201_is hz hd, v98_is hs hz hμ, ← EReal.coe_mul, ← coe_sum]
  rw [bKV, if_neg (by omega), bV]
  refine congrArg _ (Finset.sum_congr rfl fun g _ => Finset.sum_congr rfl fun r _ => ?_)
  show dO Z D (128 * (i 1).val + r.val) (64 * (8 * (i 3).val + g.val) + (i 4).val)
    * wt (seen (i 1).val) Z SK (kvS Z (i 1).val) (128 * (i 1).val) (8 * (i 3).val + g.val) r.val (i 2).val = _
  rw [show (128 + (64 * (i 3).val + (i 4).val) - 128) / 64 = (i 3).val by omega, show (128 + (64 * (i 3).val + (i 4).val) - 128) % 64 = (i 4).val by omega]
end

end Cert.Reference2Ideal.Mixer

end
-- ==== Proof.Mixer.RefOut.lean ====
module

public import proofs.«01_k».proof.Proof.Mixer.RefBack

/-! What the reference's results hold over the reals. -/

@[expose] public section

set_option maxRecDepth 16384

noncomputable section

namespace Cert.Reference2Ideal.Mixer

open Idealize.ShloMosaic TcCoe Cert.Reference2Ideal Gen Read Cert.Mixer
open Cert.Kernel2Ideal.Mixer (seen band kvS gW gS gQ gKV gDZ own back)

theorem dite_real {p q : Prop} [Decidable p] [Decidable q] {x : p → EReal} {y : ¬p → EReal} {u w : ℝ} (h : p ↔ q) (hx : ∀ h, x h = (u : EReal))
    (hy : ∀ h, y h = (w : EReal)) : (if h : p then x h else y h) = ((if q then u else w : ℝ) : EReal) := by
  by_cases hp : p
  · rw [dif_pos hp, if_pos (h.1 hp), hx]
  · rw [dif_neg hp, if_neg (fun hq => hp (h.2 hq)), hy]

/-- The gradients of the eight groups of columns side by side. -/
theorem cols_is {a b c d e f : S1x8192x1024.Idx → EReal} {k v : S1x8192x128.Idx → EReal} {ga gb gc gd ge gf gk gv : ℕ → ℕ → ℝ}
    (ha : ∀ i, a i = ((ga (i 1).val (i 2).val : ℝ) : EReal)) (hk : ∀ i, k i = ((gk (i 1).val (i 2).val : ℝ) : EReal))
    (hv : ∀ i, v i = ((gv (i 1).val (i 2).val : ℝ) : EReal)) (hb : ∀ i, b i = ((gb (i 1).val (i 2).val : ℝ) : EReal))
    (hc : ∀ i, c i = ((gc (i 1).val (i 2).val : ℝ) : EReal)) (hd : ∀ i, d i = ((gd (i 1).val (i 2).val : ℝ) : EReal))
    (he : ∀ i, e i = ((ge (i 1).val (i 2).val : ℝ) : EReal)) (hf : ∀ i, f i = ((gf (i 1).val (i 2).val : ℝ) : EReal)) {hh} (i : S1x8192x6400.Idx) :
    concatenate S1x8192x6400 2 [⟨S1x8192x1024, a⟩, ⟨S1x8192x128, k⟩, ⟨S1x8192x128, v⟩, ⟨S1x8192x1024, b⟩, ⟨S1x8192x1024, c⟩, ⟨S1x8192x1024, d⟩,
      ⟨S1x8192x1024, e⟩, ⟨S1x8192x1024, f⟩] hh i = (((if (i 2).val < 1024 then ga (i 1).val (i 2).val else if (i 2).val < 1152 then gk (i 1).val ((i 2).val - 1024)
        else if (i 2).val < 1280 then gv (i 1).val ((i 2).val - 1152) else if (i 2).val < 2304 then gb (i 1).val ((i 2).val - 1280)
        else if (i 2).val < 3328 then gc (i 1).val ((i 2).val - 2304) else if (i 2).val < 4352 then gd (i 1).val ((i 2).val - 3328)
        else if (i 2).val < 5376 then ge (i 1).val ((i 2).val - 4352) else gf (i 1).val ((i 2).val - 5376) : ℝ)) : EReal) := by
  pointwise
  refine dite_real (by omega) (fun _ => (ha _).trans (coe2 rfl (by show (i 2).val = (i 2).val; omega))) fun _ => ?_
  refine dite_real (by omega) (fun _ => (hk _).trans (coe2 rfl (by show (i 2).val - 1024 = (i 2).val - 1024; omega))) fun _ => ?_
  refine dite_real (by omega) (fun _ => (hv _).trans (coe2 rfl (by show (i 2).val - 1024 - 128 = (i 2).val - 1152; omega))) fun _ => ?_
  refine dite_real (by omega) (fun _ => (hb _).trans (coe2 rfl (by show (i 2).val - 1024 - 128 - 128 = (i 2).val - 1280; omega))) fun _ => ?_
  refine dite_real (by omega) (fun _ => (hc _).trans (coe2 rfl (by show (i 2).val - 1024 - 128 - 128 - 1024 = (i 2).val - 2304; omega))) fun _ => ?_
  refine dite_real (by omega) (fun _ => (hd _).trans (coe2 rfl (by show (i 2).val - 1024 - 128 - 128 - 1024 - 1024 = (i 2).val - 3328; omega))) fun _ => ?_
  refine dite_real (by omega) (fun _ => (he _).trans (coe2 rfl (by show (i 2).val - 1024 - 128 - 128 - 1024 - 1024 - 1024 = (i 2).val - 4352; omega))) fun _ => ?_
  exact (hf _).trans (coe2 rfl (by show (i 2).val - 1024 - 128 - 128 - 1024 - 1024 - 1024 - 1024 = (i 2).val - 5376; omega))
theorem pad_in {n k N K : ℕ} {x : (⟨2, ![n, k]⟩ : Shape).Idx → EReal} {g : ℕ → ℕ → ℝ} (hx : ∀ i, x i = ((g (i 0).val (i 1).val : ℝ) : EReal)) {v : S_.Idx → EReal}
    (lo h0 h1 : ℕ) {hc} {hu} (i : (⟨2, ![N, K]⟩ : Shape).Idx) (ha : lo ≤ (i 0).val) (hb : (i 0).val - lo < n) (hk : (i 1).val < k) :
    pad (⟨2, ![N, K]⟩ : Shape) ![lo, 0] ![h0, h1] ![0, 0] x v hc hu i = ((g ((i 0).val - lo) (i 1).val : ℝ) : EReal) := by
  rw [pad_apply_of_inside _ _ _ x v hc hu i (ix2 (⟨(i 0).val - lo, hb⟩ : Fin n) (⟨(i 1).val, hk⟩ : Fin k)) (fun a => ?_), hx]
  · rfl
  · match a with
    | ⟨0, _⟩ => show (i 0).val = lo + ((i 0).val - lo) * 1; omega
    | ⟨1, _⟩ => show (i 1).val = 0 + (i 1).val * 1; omega

variable {x0 : (⟨S8192x6400, .bf16⟩ : BufTy).Contents (Elt Ideal)} {x1 : (⟨S8192x1024, .bf16⟩ : BufTy).Contents (Elt Ideal)}
  {x2 : (⟨S1x16, .f32⟩ : BufTy).Contents (Elt Ideal)} {x3 : (⟨S3x1024, .f32⟩ : BufTy).Contents (Elt Ideal)}
  {Z D : ℕ → ℕ → ℝ} {SK : ℕ → ℝ} {W : ℕ → ℕ → ℝ}

/-- A row's gradient of keys or values: from its own block, and from the next one if there is one. -/
theorem shifted {b b' k c : ℕ} (hb : b' = b + 1) (h : b < 64) (hk : k < 128) : bKV (seen b) Z D SK (kvS Z b) (128 * b) (128 + k) c
    + (if b < 63 then bKV (seen b') Z D SK (kvS Z b') (128 * b') k c else 0) = gKV Z D SK (128 * b + k + 128) c := by
  subst hb
  rw [gKV, show (128 * b + k + 128) / 128 = b + 1 by omega, show (128 * b + k + 128) % 128 = k by omega, Nat.add_sub_cancel,
    if_pos (c := 128 ≤ 128 * b + k + 128 ∧ 128 * b + k + 128 < 8320) ⟨by omega, by omega⟩, own]
  refine congrArg (bKV (seen b) Z D SK (kvS Z b) (128 * b) (128 + k) c + ·) ?_
  exact if_congr (by omega) rfl rfl

/-- The keys before the first block have no gradient. -/
theorem first_zero (k c : ℕ) (hk : k < 128) : back Z D SK 0 k c = 0 := by
  have hs : ∀ r, ¬ seen 0 r k := fun r h => by have := h.2; omega
  rw [back, bKV, bK, bV]
  split_ifs
  · rw [Finset.sum_eq_zero fun g _ => Finset.sum_eq_zero fun r _ => ?_, zero_mul]
    rw [dsr, dsc, pr, ex, if_neg (hs _), zero_div, zero_mul, mul_zero]
  · refine Finset.sum_eq_zero fun g _ => Finset.sum_eq_zero fun r _ => ?_
    rw [wt, pr, ex, if_neg (hs _), zero_div, mul_zero]

/-- The sum over all the rows, the first and the last 128 being zero. -/
theorem sum_rows (c : ℕ) : (∑ g : Fin 8192, gKV Z D SK (g.val + 128) c) = ∑ g ∈ Finset.range 8448, gKV Z D SK g c := by
  rw [show (8448 : ℕ) = 128 + 8192 + 128 from rfl, Finset.sum_range_add, Finset.sum_range_add, Finset.sum_eq_zero (s := Finset.range 128) (fun g hg => ?_),
    Finset.sum_eq_zero (s := Finset.range 128) (fun g hg => ?_), zero_add, add_zero, Finset.sum_range]
  · exact Finset.sum_congr rfl fun g _ => by rw [Nat.add_comm]
  · have := Finset.mem_range.1 hg
    rw [gKV, if_neg (by omega), if_neg (by omega), add_zero]
  · have := Finset.mem_range.1 hg
    rw [gKV, if_neg (by omega), if_pos (by omega), show g / 128 = 0 by omega, first_zero _ _ (by omega), add_zero]

section
variable (hz : Is2 (n := 8192) (k := 6400) x0 Z) (hd : Is2 (n := 8192) (k := 1024) x1 D) (hs : Is2 (n := 1) (k := 16) x2 fun _ l => SK l)
include hz hd hs

theorem v258_is (i : S1x64x128x2x64.Idx) : val_main_v258 (F := Ideal) x0 x1 x2 i
    = ((gKV Z D SK (128 * (i 1).val + (i 2).val + 128) (64 * (i 3).val + (i 4).val) : ℝ) : EReal) := by
  obtain ⟨μ, hμ⟩ := shift_real hs hz
  have h1 : (i 1).val < 64 := (i 1).isLt
  have h2 : (i 2).val < 128 := (i 2).isLt
  rw [val_main_v258_apply, val_main_v254_apply, v245_is hz hd hs hμ]
  refine (congrArg (_ + ·) (pad_block (y := val_main_v256 (F := Ideal) x0 x1 x2)
    (g := fun b k c => bKV (seen (1 + b)) Z D SK (kvS Z (1 + b)) (128 * (1 + b)) k c) (fun i => ?_) (fun _ => zero_f32 _) i)).trans
    ((EReal.coe_add _ _).symm.trans (congrArg (fun x : ℝ => (x : EReal)) (shifted (Nat.add_comm _ _) h1 h2)))
  rw [val_main_v256_apply, val_main_v253_apply]
  exact v245_is hz hd hs hμ _

theorem v251_is (i : S1x64x128x2x64.Idx) : val_main_v251 (F := Ideal) x0 x1 x2 i
    = ((gKV Z D SK (128 * (i 1).val + (i 2).val + 128) (128 + (64 * (i 3).val + (i 4).val)) : ℝ) : EReal) := by
  obtain ⟨μ, hμ⟩ := shift_real hs hz
  have h1 : (i 1).val < 64 := (i 1).isLt
  have h2 : (i 2).val < 128 := (i 2).isLt
  rw [val_main_v251_apply, val_main_v247_apply, v204_is hz hd hs hμ]
  refine (congrArg (_ + ·) (pad_block (y := val_main_v249 (F := Ideal) x0 x1 x2)
    (g := fun b k c => bKV (seen (1 + b)) Z D SK (kvS Z (1 + b)) (128 * (1 + b)) k (128 + c)) (fun i => ?_) (fun _ => zero_f32 _) i)).trans
    ((EReal.coe_add _ _).symm.trans (congrArg (fun x : ℝ => (x : EReal)) (shifted (Nat.add_comm _ _) h1 h2)))
  rw [val_main_v249_apply, val_main_v246_apply]
  exact v204_is hz hd hs hμ _

theorem v259_is (i : S1x8192x128.Idx) : val_main_v259 (F := Ideal) x0 x1 x2 i = ((gKV Z D SK ((i 1).val + 128) (i 2).val : ℝ) : EReal) := by
  have h0 : (i 0).val < 1 := (i 0).isLt
  have h1 : (i 1).val < 8192 := (i 1).isLt
  have h2 : (i 2).val < 128 := (i 2).isLt
  refine (val_main_v259_apply x0 x1 x2 i).trans ((v258_is hz hd hs _).trans (coe2 ?_ ?_))
  · show 128 * ((((i 0).val * 8192 + (i 1).val) * 128 + (i 2).val) / 16384 % 64) + (((i 0).val * 8192 + (i 1).val) * 128 + (i 2).val) / 128 % 128 + 128 = _
    omega
  · show 64 * ((((i 0).val * 8192 + (i 1).val) * 128 + (i 2).val) / 64 % 2) + (((i 0).val * 8192 + (i 1).val) * 128 + (i 2).val) % 64 = _
    omega
theorem v252_is (i : S1x8192x128.Idx) : val_main_v252 (F := Ideal) x0 x1 x2 i = ((gKV Z D SK ((i 1).val + 128) (128 + (i 2).val) : ℝ) : EReal) := by
  have h0 : (i 0).val < 1 := (i 0).isLt
  have h1 : (i 1).val < 8192 := (i 1).isLt
  have h2 : (i 2).val < 128 := (i 2).isLt
  refine (val_main_v252_apply x0 x1 x2 i).trans ((v251_is hz hd hs _).trans (coe2 ?_ ?_))
  · show 128 * ((((i 0).val * 8192 + (i 1).val) * 128 + (i 2).val) / 16384 % 64) + (((i 0).val * 8192 + (i 1).val) * 128 + (i 2).val) / 128 % 128 + 128 = _
    omega
  · show 128 + (64 * ((((i 0).val * 8192 + (i 1).val) * 128 + (i 2).val) / 64 % 2) + (((i 0).val * 8192 + (i 1).val) * 128 + (i 2).val) % 64) = _
    omega

/-- The sinks' gradient. -/
theorem v237_is (i : S16.Idx) : val_main_v237 (F := Ideal) x0 x1 x2 i = ((∑ b ∈ Finset.range 64, gS Z D SK b (i 0).val : ℝ) : EReal) := by
  obtain ⟨μ, hμ⟩ := shift_real hs hz
  have h0 : (i 0).val < 16 := (i 0).isLt
  have e1 := sum_14 (g := fun b H r => -(wsink (seen b) Z SK (kvS Z b) (128 * b) H r * dl (seen b) Z D SK (kvS Z b) (128 * b) H r))
    (v213_is hz hd hs hμ) (v := val_main_cst_41 (F := Ideal)) (fun _ => zero_f32 _)
  have e2 := sum_14 (x := val_main_v226 (F := Ideal) x0 x1 x2) (g := fun _ _ _ => 0) (fun i => by
    rw [val_main_v226_apply, v225_is hz hd hs hμ]
    exact (zero_mul _).trans EReal.coe_zero.symm) (v := val_main_cst_44 (F := Ideal)) (fun _ => zero_f32 _)
  let k6 : S1x1x2x8x1x1.Idx := fun a => match a with
    | ⟨0, _⟩ => (0 : Fin 1) | ⟨1, _⟩ => (0 : Fin 1) | ⟨2, _⟩ => (⟨(i 0).val / 8, by omega⟩ : Fin 2) | ⟨3, _⟩ => (⟨(i 0).val % 8, by omega⟩ : Fin 8)
    | ⟨4, _⟩ => (0 : Fin 1) | ⟨5, _⟩ => (0 : Fin 1)
  have r6 : (S1x2x8x1.rowMajor (ix4 (0 : Fin 1) (⟨(i 0).val / 8, by omega⟩ : Fin 2) (⟨(i 0).val % 8, by omega⟩ : Fin 8) (0 : Fin 1))).val = (S1x1x2x8x1x1.rowMajor k6).val := by
    rw [Shape.rowMajor_val_four, rowMajor_six]
    show ((((0 : ℕ) * 2 + (i 0).val / 8) * 8 + (i 0).val % 8) * 1 + 0) = (((((0 : ℕ) * 1 + 0) * 2 + (i 0).val / 8) * 8 + (i 0).val % 8) * 1 + 0) * 1 + 0
    omega
  unfold val_main_v237
  rw [shapeCast_apply (val_main_v229 (F := Ideal) x0 x1 x2) _ i k6 ?_, val_main_v229_apply]
  · unfold val_main_v215 val_main_v228
    rw [shapeCast_apply (val_main_v214 (F := Ideal) x0 x1 x2) _ k6 _ r6, shapeCast_apply (val_main_v227 (F := Ideal) x0 x1 x2) _ k6 _ r6]
    refine (congrArg₂ (· + ·) (e1 _) (e2 _)).trans ((EReal.coe_add _ _).symm.trans (congrArg (fun x : ℝ => (x : EReal)) ?_))
    simp only [Finset.sum_const_zero, add_zero]
    rw [Finset.sum_range]
    refine Finset.sum_congr rfl fun b _ => ?_
    show (∑ r : Fin 128, -(wsink (seen b) Z SK (kvS Z b) (128 * b) (8 * ((i 0).val / 8) + (i 0).val % 8) r.val
      * dl (seen b) Z D SK (kvS Z b) (128 * b) (8 * ((i 0).val / 8) + (i 0).val % 8) r.val)) = _
    rw [show 8 * ((i 0).val / 8) + (i 0).val % 8 = (i 0).val by omega]
    rfl
  · rw [Shape.rowMajor_val_one, rowMajor_six]
    show (((((0 : ℕ) * 1 + 0) * 2 + (i 0).val / 8) * 8 + (i 0).val % 8) * 1 + 0) * 1 + 0 = (i 0).val
    omega

theorem v274_is (i : S8x128.Idx) (h0 : (i 0).val = 0) (h1 : (i 1).val < 16) : val_main_v274 (F := Ideal) x0 x1 x2 i
    = ((∑ b ∈ Finset.range 64, gS Z D SK b (i 1).val : ℝ) : EReal) :=
  pad_in (n := 1) (k := 16) (N := 8) (K := 128) (x := val_main_v261 (F := Ideal) x0 x1 x2) (g := fun _ l => ∑ b ∈ Finset.range 64, gS Z D SK b l)
    (fun i => (val_main_v261_apply x0 x1 x2 i).trans (v237_is hz hd hs _)) 0 7 112 i (Nat.zero_le _) (by omega) h1

omit hs in
theorem v273_is (i : S8x1024.Idx) (h0 : (i 0).val < 3) : val_main_v273 (F := Ideal) x0 x1 i
    = ((∑ g ∈ Finset.range 8192, gW Z D (i 0).val g (i 1).val : ℝ) : EReal) :=
  pad_in (n := 3) (k := 1024) (N := 8) (K := 1024) (x := val_main_v195 (F := Ideal) x0 x1) (g := fun k l => ∑ g ∈ Finset.range 8192, gW Z D k g l)
    (fun i => (v195_is hz hd _).trans (congrArg (fun x : ℝ => (x : EReal)) (Finset.sum_range fun g => gW Z D (i 0).val g (i 1).val).symm)) 0 5 0 i (Nat.zero_le _) (by omega) (i 1).isLt

variable (hw : Is2 (n := 3) (k := 1024) x3 W)
include hw

/-- All the columns of a row's gradient. -/
def row (Z D : ℕ → ℕ → ℝ) (SK : ℕ → ℝ) (W : ℕ → ℕ → ℝ) (g c : ℕ) : ℝ :=
  if 1024 ≤ c ∧ c < 1280 then gKV Z D SK (g + 128) (c - 1024) else gDZ Z D (attn Z SK) SK W g c

theorem v263_is (i : S8192x6400.Idx) : val_main_v263 (F := Ideal) x0 x1 x2 x3 i = ((row Z D SK W (i 0).val (i 1).val : ℝ) : EReal) := by
  obtain ⟨μ, hμ⟩ := shift_real hs hz
  rw [val_main_v263_apply, Fin.sum_univ_one]
  refine (congrArg₂ (· + ·) ((zero_f32 _).trans EReal.coe_zero) (cols_is (gk := fun g c => gKV Z D SK (g + 128) c) (gv := fun g c => gKV Z D SK (g + 128) (128 + c)) (v260_is hz hd hs hμ) (v259_is hz hd hs) (v252_is hz hd hs)
    (v164_is hz hd hw) (v199_is hz hd hw) (v198_is hz hd hw) (v162_is hz hd hs) (v159_is hz hd hw) (idx_main_v263 i 0))).trans ?_
  rw [zero_add]
  refine congrArg (fun x : ℝ => (x : EReal)) ?_
  show (if (i 1).val < 1024 then _ else if (i 1).val < 1152 then gKV Z D SK ((i 0).val + 128) ((i 1).val - 1024) else if (i 1).val < 1280
    then gKV Z D SK ((i 0).val + 128) (128 + ((i 1).val - 1152)) else _) = _
  generalize (i 0).val = g
  generalize (i 1).val = c
  unfold row gDZ
  by_cases ha : c < 1024
  · rw [if_pos ha, if_neg (by omega), if_pos ha]
  rw [if_neg ha]
  by_cases hb : c < 1280
  · rw [if_pos (c := 1024 ≤ c ∧ c < 1280) ⟨by omega, hb⟩]
    by_cases hc : c < 1152
    · rw [if_pos hc]
    · rw [if_neg hc, if_pos hb, show 128 + (c - 1152) = c - 1024 by omega]
  · rw [if_neg (c := c < 1152) (by omega), if_neg hb, if_neg (c := 1024 ≤ c ∧ c < 1280) (by omega), if_neg ha]

theorem v266_is (i : S8192x6400.Idx) (h : (i 1).val < 1024 ∨ 1280 ≤ (i 1).val) : val_main_v266 (F := Ideal) x0 x1 x2 x3 i
    = ((gDZ Z D (attn Z SK) SK W (i 0).val (i 1).val : ℝ) : EReal) := by
  refine (val_main_v266_apply x0 x1 x2 x3 i).trans ((v263_is hz hd hs hw i).trans (congrArg (fun x : ℝ => (x : EReal)) ?_))
  rw [row, if_neg (by omega)]

theorem v269_is (i : S8448x256.Idx) (h : 128 ≤ (i 0).val) (h' : (i 0).val < 8320) : val_main_v269 (F := Ideal) x0 x1 x2 x3 i
    = ((gKV Z D SK (i 0).val (i 1).val : ℝ) : EReal) := by
  refine (val_main_v269_apply x0 x1 x2 x3 i).trans ((pad_in (hc := pads_S8192x256_S8448x256_1281280_000) (hu := h_S_) (v := val_main_call2_v0 (F := Ideal)) (n := 8192) (k := 256) (N := 8448) (K := 256) (x := val_main_v267 (F := Ideal) x0 x1 x2 x3)
    (g := fun g c => gKV Z D SK (g + 128) c) (fun i => ?_) 128 128 0 i h (by omega) (i 1).isLt).trans (coe2 (by omega) rfl))
  have h1 : (i 1).val < 256 := (i 1).isLt
  refine (val_main_v267_apply x0 x1 x2 x3 i).trans ((v263_is hz hd hs hw _).trans (congrArg (fun x : ℝ => (x : EReal)) ?_))
  show row Z D SK W (i 0).val (1024 + (i 1).val) = _
  rw [row, if_pos ⟨by omega, by omega⟩, Nat.add_sub_cancel_left]

theorem v265_is (i : S1x6400.Idx) : val_main_v265 (F := Ideal) x0 x1 x2 x3 i = ((∑ g : Fin 8192, row Z D SK W g.val (i 1).val : ℝ) : EReal) := by
  rw [val_main_v265_apply, val_main_v264_apply]
  simp only [v263_is hz hd hs hw]
  refine (congrArg (· + _) ((zero_f32 _).trans EReal.coe_zero)).trans ?_
  rw [zero_add, ← coe_sum]

theorem v270_is (i : S8x6400.Idx) (h0 : (i 0).val = 0) (h : (i 1).val < 1024 ∨ 1280 ≤ (i 1).val) : val_main_v270 (F := Ideal) x0 x1 x2 x3 i
    = ((∑ g ∈ Finset.range 8192, gDZ Z D (attn Z SK) SK W g (i 1).val : ℝ) : EReal) := by
  refine (pad_in (n := 1) (k := 6400) (N := 8) (K := 6400) (x := val_main_v265 (F := Ideal) x0 x1 x2 x3)
    (g := fun _ c => ∑ g : Fin 8192, row Z D SK W g.val c) (v265_is hz hd hs hw) 0 7 0 i (Nat.zero_le _) (by omega) (i 1).isLt).trans
    (congrArg (fun x : ℝ => (x : EReal)) ?_)
  rw [Finset.sum_range]
  exact Finset.sum_congr rfl fun g _ => by rw [row, if_neg (by omega)]

theorem v272_is (i : S8x256.Idx) (h0 : (i 0).val = 0) : val_main_v272 (F := Ideal) x0 x1 x2 x3 i
    = ((∑ g ∈ Finset.range 8448, gKV Z D SK g (i 1).val : ℝ) : EReal) := by
  have h1 : (i 1).val < 256 := (i 1).isLt
  refine (pad_in (n := 1) (k := 256) (N := 8) (K := 256) (x := val_main_v271 (F := Ideal) x0 x1 x2 x3)
    (g := fun _ c => ∑ g : Fin 8192, row Z D SK W g.val (1024 + c)) (fun i => (val_main_v271_apply x0 x1 x2 x3 i).trans (v265_is hz hd hs hw _)) 0 7 0 i
    (Nat.zero_le _) (by omega) (i 1).isLt).trans (congrArg (fun x : ℝ => (x : EReal)) ?_)
  rw [← sum_rows]
  exact Finset.sum_congr rfl fun g _ => by rw [row, if_pos ⟨by omega, by omega⟩, Nat.add_sub_cancel_left]
end

end Cert.Reference2Ideal.Mixer

end
-- ==== Proof.Mixer.Claim.lean ====
module

public import proofs.«01_k».proof.Defs
public import proofs.«01_k».proof.Proof.Gen.On_mixer_read
public import proofs.«01_k».proof.Proof.Mixer.Final
public import proofs.«01_k».proof.Proof.Mixer.Inputs
public import proofs.«01_k».proof.Proof.Mixer.Finite
public import proofs.«01_k».proof.Proof.Mixer.AttnHost
public import proofs.«01_k».proof.Proof.Mixer.RefOut

/-! The backward pass of the mixer: the kernel's six result arrays and the derivative of the reference's lines hold the same reals
    wherever the step reads them. -/

@[expose] public section

set_option maxRecDepth 16384

noncomputable section

namespace Cert.Mixer

open Idealize.ShloMosaic TcCoe Idealize.SL.Sem
open Cert.Kernel2Ideal.Mixer (gDZ gKV gW gS Res)

section
open Cert.On_mixer_read

/-- Columns off the keys and values. -/
theorem off_cols {n : ℕ} (hn : n < 6400) (h : IntOp.ori (IntOp.cmpi .slt (BitVec.ofNat 32 n) 1024#32) (IntOp.cmpi .sge (BitVec.ofNat 32 n) 1280#32) = 1#1) :
    n < 1024 ∨ 1280 ≤ n :=
  (IntOp.ori_eq_one.1 h).imp (WordCmp.cmpi_slt_ofNat_eq_one_iff (by omega) (by omega)).1 (WordCmp.cmpi_sge_ofNat_eq_one_iff (by omega) (by omega)).1

theorem below {n c : ℕ} (hn : n < 65536) (hc : c < 65536) (h : IntOp.cmpi .slt (BitVec.ofNat 32 n) (BitVec.ofNat 32 c) = 1#1) : n < c :=
  (WordCmp.cmpi_slt_ofNat_eq_one_iff (by omega) (by omega)).1 h

variable {x0 : FVec Ideal S8192x6400 .bf16} {x1 : FVec Ideal S8192x1024 .bf16} {x2 : FVec Ideal S1x16 .f32} {x3 : FVec Ideal S3x1024 .f32}

theorem read_dz (i : S8192x6400.Idx) (h : (fn (F := Ideal) x0 x1 x2 x3).1 i = 1#1) : (i 1).val < 1024 ∨ 1280 ≤ (i 1).val :=
  off_cols (i 1).isLt (IntOp.andi_eq_one.1 h).2

theorem read_dkv (i : S8448x256.Idx) (h : (fn (F := Ideal) x0 x1 x2 x3).2.1 i = 1#1) : 128 ≤ (i 0).val ∧ (i 0).val < 8320 := by
  have h0 : (i 0).val < 8448 := (i 0).isLt
  obtain ⟨a, b⟩ := IntOp.andi_eq_one.1 (IntOp.andi_eq_one.1 h).1
  exact ⟨(WordCmp.cmpi_sge_ofNat_eq_one_iff (by omega) (by omega)).1 a, below (by omega) (by omega) b⟩

theorem read_db (i : S8x6400.Idx) (h : (fn (F := Ideal) x0 x1 x2 x3).2.2.1 i = 1#1) : (i 0).val = 0 ∧ ((i 1).val < 1024 ∨ 1280 ≤ (i 1).val) := by
  have h0 : (i 0).val < 8 := (i 0).isLt
  obtain ⟨a, b⟩ := IntOp.andi_eq_one.1 h
  exact ⟨by have := below (c := 1) (by omega) (by omega) a; omega, off_cols (i 1).isLt b⟩

theorem read_dbkv (i : S8x256.Idx) (h : (fn (F := Ideal) x0 x1 x2 x3).2.2.2.1 i = 1#1) : (i 0).val = 0 := by
  have h0 : (i 0).val < 8 := (i 0).isLt
  have := below (c := 1) (by omega) (by omega) (IntOp.andi_eq_one.1 h).1
  omega

theorem read_dcw (i : S8x1024.Idx) (h : (fn (F := Ideal) x0 x1 x2 x3).2.2.2.2.1 i = 1#1) : (i 0).val < 3 := by
  have h0 : (i 0).val < 8 := (i 0).isLt
  exact below (by omega) (by omega) (IntOp.andi_eq_one.1 h).1

theorem read_dsk (i : S8x128.Idx) (h : (fn (F := Ideal) x0 x1 x2 x3).2.2.2.2.2 i = 1#1) : (i 0).val = 0 ∧ (i 1).val < 16 := by
  have h0 : (i 0).val < 8 := (i 0).isLt
  have h1 : (i 1).val < 128 := (i 1).isLt
  obtain ⟨a, b⟩ := IntOp.andi_eq_one.1 h
  exact ⟨by have := below (c := 1) (by omega) (by omega) a; omega, below (by omega) (by omega) b⟩
end

/-- The reals an array of finite elements holds. -/
def grid {n k : ℕ} (x : (⟨2, ![n, k]⟩ : Shape).Idx → EReal) (a b : ℕ) : ℝ :=
  if h : a < n ∧ b < k then (x (ix2 (⟨a, h.1⟩ : Fin n) (⟨b, h.2⟩ : Fin k))).toReal else 0

theorem grid_is {n k : ℕ} (x : (⟨2, ![n, k]⟩ : Shape).Idx → EReal) (h : ∀ i, x i = (((x i).toReal : ℝ) : EReal)) : Is2 x (grid x) := fun i => by
  have e : ix2 (⟨(i 0).val, (i 0).isLt⟩ : Fin n) (⟨(i 1).val, (i 1).isLt⟩ : Fin k) = i := funext fun a => match a with
    | ⟨0, _⟩ => rfl
    | ⟨1, _⟩ => rfl
  rw [grid, dif_pos ⟨(i 0).isLt, (i 1).isLt⟩]
  exact (h i).trans (congrArg (fun j => (((x j).toReal : ℝ) : EReal)) e.symm)

section
open Cert.Kernel2Ideal
variable (m : (ℓ : Loc Cert.Kernel2Ideal.nD Cert.Kernel2Ideal.τ Cert.Kernel2Ideal.sig) → Buf (Elt Ideal) ℓ) (c : Dev nD)

abbrev zOf : ℕ → ℕ → ℝ := grid (n := 8192) (k := 6400) (m ((c.tc : Thread nD τ).loc main_arg0))
abbrev dOf : ℕ → ℕ → ℝ := grid (n := 8192) (k := 1024) (m ((c.tc : Thread nD τ).loc main_arg1))
abbrev skOf (l : ℕ) : ℝ := grid (n := 1) (k := 16) (m ((c.tc : Thread nD τ).loc main_arg2)) 0 l
abbrev wOf : ℕ → ℕ → ℝ := grid (n := 3) (k := 1024) (m ((c.tc : Thread nD τ).loc main_arg3))
abbrev aOf : ℕ → ℕ → ℝ := attn (zOf m c) (skOf m c)

/-- The four arguments hold reals. -/
theorem args_real (h : Cert.Pre_Kernel2Ideal_mixer_finite m) :
    Is2 (n := 8192) (k := 6400) (m ((c.tc : Thread nD τ).loc main_arg0)) (zOf m c) ∧ Is2 (n := 8192) (k := 1024) (m ((c.tc : Thread nD τ).loc main_arg1)) (dOf m c)
    ∧ Is2 (n := 1) (k := 16) (m ((c.tc : Thread nD τ).loc main_arg2)) (fun _ l => skOf m c l)
    ∧ Is2 (n := 3) (k := 1024) (m ((c.tc : Thread nD τ).loc main_arg3)) (wOf m c) := by
  obtain ⟨h0, h1, h2, h3⟩ := Cert.Pre_mixer_finite.real_args _ _ _ _ _ (congrFun (h c) (fun a => a.elim0))
  refine ⟨grid_is _ h0, grid_is _ h1, fun i => (grid_is _ h2 i).trans ?_, grid_is _ h3⟩
  have hi : (i 0).val < 1 := (i 0).isLt
  show ((grid _ (i 0).val (i 1).val : ℝ) : EReal) = ((grid _ 0 (i 1).val : ℝ) : EReal)
  rw [show (i 0).val = 0 by omega]
end

open Cert.Kernel2Ideal.Mixer in
theorem mixer_algebraic : Cert.algebraic_Kernel2Ideal_Reference2Ideal_on_mixer_read_pre_mixer_finite := by
  intro m g m' g' hpre hagree
  refine ⟨fun c i => ((gDZ (zOf m c) (dOf m c) (aOf m c) (skOf m c) (wOf m c) (i 0).val (i 1).val : ℝ) : EReal),
    fun c i => ((gKV (zOf m c) (dOf m c) (skOf m c) (i 0).val (i 1).val : ℝ) : EReal),
    fun c i => ((∑ g ∈ Finset.range 8192, gDZ (zOf m c) (dOf m c) (aOf m c) (skOf m c) (wOf m c) g (i 1).val : ℝ) : EReal),
    fun c i => ((∑ g ∈ Finset.range 8448, gKV (zOf m c) (dOf m c) (skOf m c) g (i 1).val : ℝ) : EReal),
    fun c i => ((∑ g ∈ Finset.range 8192, gW (zOf m c) (dOf m c) (i 0).val g (i 1).val : ℝ) : EReal),
    fun c i => ((∑ b ∈ Finset.range 64, gS (zOf m c) (dOf m c) (skOf m c) b (i 1).val : ℝ) : EReal), ?_, ?_⟩
  · refine (θ_run Cert.Kernel2Ideal.defs _ _).mono (fun r h c => ?_)
      (run_values m g (zOf m) (dOf m) (aOf m) (skOf m) (wOf m) fun c t ht => by
        obtain ⟨hz, hd, hs, hw⟩ := args_real m c hpre
        exact win_ok m c hz hd hs hw (attn_real m c hz hs) t ht)
    have R := h.1 c
    exact ⟨fun i hi => R.dz i (read_dz i hi), fun i _ => R.dkv i, fun i hi => R.db i (read_db i hi).1 (read_db i hi).2,
      fun i hi => R.dbkv i (read_dbkv i hi), fun i hi => R.dcw i (read_dcw i hi), fun i hi => R.dsk i (read_dsk i hi).1 (read_dsk i hi).2,
      R.a0, R.a1, R.a2, R.a3⟩
  · refine (θ_run Cert.Reference2Ideal.defs _ _).mono (fun r h c => ?_) (Cert.Reference2Ideal.Value.run (F := Ideal) m' g')
    obtain ⟨h0, h1, h2, h3, h4, h5, a0, a1, a2, a3⟩ := h c
    obtain ⟨hz, hd, hs, hw⟩ := args_real m c hpre
    obtain ⟨e0, e1, e2, e3⟩ := hagree c
    rw [← e0] at hz
    rw [← e1] at hd
    rw [← e2] at hs
    rw [← e3] at hw
    exact ⟨fun i hi => (congrFun (h0.trans (Cert.Reference2Ideal.Read.val_main_v266_eq _)) i).trans
        (Cert.Reference2Ideal.Mixer.v266_is hz hd hs hw i (read_dz i hi)),
      fun i hi => (congrFun (h1.trans (Cert.Reference2Ideal.Read.val_main_v269_eq _)) i).trans
        (Cert.Reference2Ideal.Mixer.v269_is hz hd hs hw i (read_dkv i hi).1 (read_dkv i hi).2),
      fun i hi => (congrFun (h2.trans (Cert.Reference2Ideal.Read.val_main_v270_eq _)) i).trans
        (Cert.Reference2Ideal.Mixer.v270_is hz hd hs hw i (read_db i hi).1 (read_db i hi).2),
      fun i hi => (congrFun (h3.trans (Cert.Reference2Ideal.Read.val_main_v272_eq _)) i).trans
        (Cert.Reference2Ideal.Mixer.v272_is hz hd hs hw i (read_dbkv i hi)),
      fun i hi => (congrFun (h4.trans (Cert.Reference2Ideal.Read.val_main_v273_eq _)) i).trans
        (Cert.Reference2Ideal.Mixer.v273_is hz hd i (read_dcw i hi)),
      fun i hi => (congrFun (h5.trans (Cert.Reference2Ideal.Read.val_main_v274_eq _)) i).trans
        (Cert.Reference2Ideal.Mixer.v274_is hz hd hs i (read_dsk i hi).1 (read_dsk i hi).2),
      a0, a1, a2, a3⟩

end Cert.Mixer

end
-- ==== Proof.Fwd.Claim.lean ====
module

public import proofs.«01_k».proof.Proof.Gen.Pre_mixer_fwd_finite
public import proofs.«01_k».proof.Proof.Fwd.Final
public import proofs.«01_k».proof.Proof.Fwd.Ref
public import proofs.«01_k».proof.Proof.Mixer.Claim

/-! The mixer's forward pass: the kernel's attention and merged rows are the reference's. -/

@[expose] public section

set_option maxRecDepth 16384

noncomputable section

namespace Cert.Pre_mixer_fwd_finite

open Idealize.ShloMosaic Cert.Mixer Cert.Pre_mixer_fwd_finite Cert.Pre_mixer_fwd_finite.Facts

theorem real_args (x0 : FVec Ideal S8192x6400 .bf16) (x1 : FVec Ideal S1x16 .f32) (x2 : FVec Ideal S3x1024 .f32) (i : S_.Idx)
    (h : fn (F := Ideal) x0 x1 x2 i = 1#1) : (∀ i, x0 i = (((x0 i).toReal : ℝ) : EReal)) ∧ ∀ i, x1 i = (((x1 i).toReal : ℝ) : EReal) := by
  obtain ⟨h0, h1⟩ := IntOp.andi_eq_one.1 h
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i))⟩

end Cert.Pre_mixer_fwd_finite

namespace Cert.Fwd

open Idealize.ShloMosaic TcCoe Idealize.SL.Sem
open Cert.Kernel7Ideal Cert.Kernel7Ideal.Gen Cert.Kernel7Ideal.Fwd
open Cert.Mixer (Is2 grid grid_is)

/-- The entries of the convolution's weights, by row and column. -/
def wAt (x : FVec Ideal S3x1024 .f32) (a b : ℕ) : EReal := if h : a < 3 ∧ b < 1024 then x (ix2 (⟨a, h.1⟩ : Fin 3) (⟨b, h.2⟩ : Fin 1024)) else 0

theorem wAt_is (x : FVec Ideal S3x1024 .f32) (i : S3x1024.Idx) : x i = wAt x (i 0).val (i 1).val := by
  rw [wAt, dif_pos ⟨(i 0).isLt, (i 1).isLt⟩]
  exact congrArg x (funext fun a => match a with
    | ⟨0, _⟩ => rfl
    | ⟨1, _⟩ => rfl)

theorem mixer_fwd_algebraic : Cert.algebraic_Kernel7Ideal_Reference7Ideal_pre_mixer_fwd_finite := by
  intro m g m' g' hpre hagree
  refine ⟨fun c => (dats m 0 c).arrAt 5 (cfgs 0).N, fun c => (dats m 0 c).arrAt 6 (cfgs 0).N, ?_, ?_⟩
  · run_from Cert.Kernel7Ideal.Gen.run_main m g
  · refine (θ_run Cert.Reference7Ideal.defs _ _).mono (fun r h c => ?_) (Cert.Reference7Ideal.Value.run (F := Ideal) m' g')
    obtain ⟨h0, h1, a⟩ := h c
    obtain ⟨e0, e1, e2⟩ := hagree c
    obtain ⟨r0, r1⟩ := Cert.Pre_mixer_fwd_finite.real_args _ _ _ _ (congrFun (hpre c) (fun a => a.elim0))
    have hz := grid_is (n := 8192) (k := 6400) (m ((c.tc : Thread nD τ).loc main_arg0)) r0
    have hs : Is2 (n := 1) (k := 16) (m ((c.tc : Thread nD τ).loc main_arg1)) (fun _ l => grid (n := 1) (k := 16) (m ((c.tc : Thread nD τ).loc main_arg1)) 0 l) := fun i => by
      refine (grid_is (n := 1) (k := 16) _ r1 i).trans ?_
      have hi : (i 0).val < 1 := (i 0).isLt
      show ((grid _ (i 0).val (i 1).val : ℝ) : EReal) = ((grid _ 0 (i 1).val : ℝ) : EReal)
      rw [show (i 0).val = 0 by omega]
    have hw := wAt_is (m ((c.tc : Thread nD τ).loc main_arg2))
    refine ⟨(h0.trans (Cert.Reference7Ideal.Read.val_main_v120_eq _ _)).trans ?_, (h1.trans (Cert.Reference7Ideal.Read.val_main_v122_eq _ _)).trans ?_, a⟩
    · rw [e0, e1]
      refine Eq.trans ?_ (final5 hz hs hw).symm
      exact funext fun i => Cert.Reference7Ideal.Fwd.v120_at hs hz i
    · rw [e0, e1, e2]
      refine Eq.trans ?_ (final6 hz hs hw).symm
      exact funext fun i => Cert.Reference7Ideal.Fwd.v122_at hs hz hw i

end Cert.Fwd

end
-- ==== Proof.Norm.Ext.lean ====
module

public import Idealize.ShloMosaic.Lib.Pointwise

/-! The modulated norm of a row at every extended real, in the order both programs compute it. -/

@[expose] public section

noncomputable section

namespace Cert.Norm

open Idealize.ShloMosaic

/-- A row divided by the root of its mean square. -/
def unit (x : Fin 1024 → EReal) (k : Fin 1024) : EReal :=
  x k * Ideal.rsqrt (Ideal.div (∑ j, x j * x j) (Ideal.ofBits FTy.f32 1149239296#32) + Ideal.ofBits FTy.f32 897988541#32)

/-- The same with the norm's scale `g`, the modulation's scale `s` and its shift `h`. -/
def modulated (x g s h : Fin 1024 → EReal) (k : Fin 1024) : EReal := unit x k * g k * (Ideal.ofBits FTy.f32 1065353216#32 + s k) + h k

end Cert.Norm

end
-- ==== Proof.Outproj.Value.lean ====
module

public import proofs.«01_k».proof.Proof.Norm.Ext
public import proofs.«01_k».proof.Proof.Norm.Rows
public import proofs.«01_k».proof.Proof.Gen.Kernel8Ideal.Frame
public import Idealize.ShloMosaic.Lib.Pipeline.ReadBack
public import Idealize.ShloMosaic.Lib.KernelVsHost
public import Idealize.ShloMosaic.Lib.StableHlo.RunRead

/-! The three results of the output projection's kernel, at every extended real. -/

@[expose] public section

set_option maxRecDepth 16384

noncomputable section

namespace Cert.Kernel8Ideal.Outproj

open Idealize.ShloMosaic TcCoe Idealize.SL.Sem
open Cert.Kernel8Ideal Gen

section Spec

variable (x0 : FVec Ideal S8192x1024 .bf16) (x1 : FVec Ideal S1x1024x1024 .f32) (x2 : FVec Ideal S8192x1024 .f32) (x3 x4 x5 x6 : FVec Ideal S1x1024 .f32)

/-- The projected heads. -/
def proj (r : Fin 8192) (k : Fin 1024) : EReal := ∑ j, x0 (ix2 r j) * x1 (ix3 (0 : Fin 1) j k)
/-- The residual rows. -/
def resid (r : Fin 8192) (k : Fin 1024) : EReal := x2 (ix2 r k) + x3 (ix2 (0 : Fin 1) k) * proj x0 x1 r k
/-- Their modulated norm. -/
def normed (r : Fin 8192) (k : Fin 1024) : EReal :=
  Norm.modulated (resid x0 x1 x2 x3 r) (fun k => x4 (ix2 (0 : Fin 1) k)) (fun k => x5 (ix2 (0 : Fin 1) k)) (fun k => x6 (ix2 (0 : Fin 1) k)) k

/-- The three as arrays. -/
def projA : FVec Ideal S8192x1024 .bf16 := fun j => proj x0 x1 (j 0) (j 1)
def residA : FVec Ideal S8192x1024 .f32 := fun j => resid x0 x1 x2 x3 (j 0) (j 1)
def normedA : FVec Ideal S8192x1024 .bf16 := fun j => normed x0 x1 x2 x3 x4 x5 x6 (j 0) (j 1)

end Spec

theorem pay1_at (v0 v1 : FVec Ideal S1024x1024 .bf16) (a k : Fin 1024) : k0_pay1 (F := Ideal) v0 v1 (ix2 a k) = ∑ j, v0 (ix2 a j) * v1 (ix2 j k) := by
  pointwise [k0_pay1]

theorem pay2_at (v0 v1 : FVec Ideal S1024x1024 .bf16) (v4 : FVec Ideal S1024x1024 .f32) (v5 : FVec Ideal S1x1024 .f32) (a k : Fin 1024) :
    k0_pay2 (F := Ideal) v0 v1 v4 v5 (ix2 a k) = v4 (ix2 a k) + v5 (ix2 (0 : Fin 1) k) * ∑ j, v0 (ix2 a j) * v1 (ix2 j k) := by
  pointwise [k0_pay2, k0_pay1]

theorem pay4_at (v0 v1 : FVec Ideal S1024x1024 .bf16) (v4 : FVec Ideal S1024x1024 .f32) (v5 v22 v25 v30 : FVec Ideal S1x1024 .f32) (a k : Fin 1024) :
    k0_pay4 (F := Ideal) v0 v1 v4 v5 v22 v25 v30 (ix2 a k) = Norm.modulated (fun j => k0_pay2 (F := Ideal) v0 v1 v4 v5 (ix2 a j))
      (fun k => v22 (ix2 (0 : Fin 1) k)) (fun k => v25 (ix2 (0 : Fin 1) k)) (fun k => v30 (ix2 (0 : Fin 1) k)) k := by
  unfold k0_pay4
  generalize k0_pay2 (F := Ideal) v0 v1 v4 v5 = X
  pointwise [Norm.modulated, Norm.unit]

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- Row `a` of block `t`. -/
def row (t : Fin cfg0.N) (a : Fin 1024) : Fin 8192 := ⟨1024 * t.val + a.val, by have : cfg0.N = 8 := N_0; omega⟩

variable (m : (ℓ : Loc nD τ sig) → Buf (Elt Ideal) ℓ) (c : Dev nD)

/-- The arguments in memory. -/
abbrev a0 : FVec Ideal S8192x1024 .bf16 := m (c.tc.loc main_arg0)
abbrev a1 : FVec Ideal S1x1024x1024 .f32 := m (c.tc.loc main_arg1)
abbrev a2 : FVec Ideal S8192x1024 .f32 := m (c.tc.loc main_arg2)
abbrev a3 : FVec Ideal S1x1024 .f32 := m (c.tc.loc main_arg3)
abbrev a4 : FVec Ideal S1x1024 .f32 := m (c.tc.loc main_arg4)
abbrev a5 : FVec Ideal S1x1024 .f32 := m (c.tc.loc main_arg5)
abbrev a6 : FVec Ideal S1x1024 .f32 := m (c.tc.loc main_arg6)

variable (t : Fin cfg0.N)

theorem blk0 (a j : Fin 1024) : (iblk m c 0 t : FVec Ideal S1024x1024 .bf16) (ix2 a j) = a0 m c (ix2 (row t a) j) := by
  blk_point [iblk, V, idx t, row]
theorem blk1 (j k : Fin 1024) : (iblk m c 1 t : FVec Ideal S1024x1024 .bf16) (ix2 j k) = a1 m c (ix3 (0 : Fin 1) j k) := by
  blk_point [iblk, V, idx t]
theorem blk2 (a k : Fin 1024) : (iblk m c 2 t : FVec Ideal S1024x1024 .f32) (ix2 a k) = a2 m c (ix2 (row t a) k) := by
  blk_point [iblk, V, idx t, row]
theorem blk3 (k : Fin 1024) : (iblk m c 3 t : FVec Ideal S1x1024 .f32) (ix2 (0 : Fin 1) k) = a3 m c (ix2 (0 : Fin 1) k) := by
  blk_point [iblk, V, idx t]
theorem blk4 (k : Fin 1024) : (iblk m c 4 t : FVec Ideal S1x1024 .f32) (ix2 (0 : Fin 1) k) = a4 m c (ix2 (0 : Fin 1) k) := by
  blk_point [iblk, V, idx t]
theorem blk5 (k : Fin 1024) : (iblk m c 5 t : FVec Ideal S1x1024 .f32) (ix2 (0 : Fin 1) k) = a5 m c (ix2 (0 : Fin 1) k) := by
  blk_point [iblk, V, idx t]
theorem blk6 (k : Fin 1024) : (iblk m c 6 t : FVec Ideal S1x1024 .f32) (ix2 (0 : Fin 1) k) = a6 m c (ix2 (0 : Fin 1) k) := by
  blk_point [iblk, V, idx t]

theorem proj_at (a k : Fin 1024) : k0_pay3 (F := Ideal) (iblk m c 0 t) (iblk m c 1 t) (ix2 a k) = proj (a0 m c) (a1 m c) (row t a) k := by
  refine Eq.trans ?_ ((pay1_at (iblk m c 0 t) (iblk m c 1 t) a k).trans (Finset.sum_congr rfl fun j _ => congrArg₂ (· * ·) (blk0 m c t a j) (blk1 m c t j k)))
  pointwise [k0_pay3]

theorem resid_at (a k : Fin 1024) : k0_pay2 (F := Ideal) (iblk m c 0 t) (iblk m c 1 t) (iblk m c 2 t) (iblk m c 3 t) (ix2 a k) = resid (a0 m c) (a1 m c) (a2 m c) (a3 m c) (row t a) k :=
  (pay2_at (iblk m c 0 t) (iblk m c 1 t) (iblk m c 2 t) (iblk m c 3 t) a k).trans (congrArg₂ (· + ·) (blk2 m c t a k) (congrArg₂ (· * ·) (blk3 m c t k)
    (Finset.sum_congr rfl fun j _ => congrArg₂ (· * ·) (blk0 m c t a j) (blk1 m c t j k))))

theorem normed_at (a k : Fin 1024) : k0_pay4 (F := Ideal) (iblk m c 0 t) (iblk m c 1 t) (iblk m c 2 t) (iblk m c 3 t) (iblk m c 4 t) (iblk m c 5 t) (iblk m c 6 t) (ix2 a k)
    = normed (a0 m c) (a1 m c) (a2 m c) (a3 m c) (a4 m c) (a5 m c) (a6 m c) (row t a) k := by
  refine (pay4_at (iblk m c 0 t) (iblk m c 1 t) (iblk m c 2 t) (iblk m c 3 t) (iblk m c 4 t) (iblk m c 5 t) (iblk m c 6 t) a k).trans ?_
  unfold normed
  rw [show (fun j => k0_pay2 (F := Ideal) (iblk m c 0 t) (iblk m c 1 t) (iblk m c 2 t) (iblk m c 3 t) (ix2 a j)) = resid (a0 m c) (a1 m c) (a2 m c) (a3 m c) (row t a) from
      funext fun j => resid_at m c t a j, funext (blk4 m c t), funext (blk5 m c t), funext (blk6 m c t)]

theorem at2 (y : S1024x1024.Idx) : y = ix2 (y 0) (y 1) := funext fun a => by fin_cases a <;> rfl

theorem final7 : (dats m 0 c).arrAt 7 (cfgs 0).N = projA (a0 m c) (a1 m c) := by
  refine (dats m 0 c).arrAt_eq_of_covers 7 _ (by decide +kernel) fun t _ y => ?_
  blk_simp
  rw [after0_7]
  frame_out
  refine ((congrArg _ (at2 y)).trans (proj_at m c t (y 0) (y 1))).trans ?_
  show projA (a0 m c) (a1 m c) (ix2 (row t (y 0)) (y 1)) = projA (a0 m c) (a1 m c) ((win0_7.blk t).view.emb y)
  generalize projA (a0 m c) (a1 m c) = G
  blk_point [idx t, row]

theorem final8 : (dats m 0 c).arrAt 8 (cfgs 0).N = residA (a0 m c) (a1 m c) (a2 m c) (a3 m c) := by
  refine (dats m 0 c).arrAt_eq_of_covers 8 _ (by decide +kernel) fun t _ y => ?_
  blk_simp
  rw [after0_8]
  frame_out
  refine ((congrArg _ (at2 y)).trans (resid_at m c t (y 0) (y 1))).trans ?_
  show residA (a0 m c) (a1 m c) (a2 m c) (a3 m c) (ix2 (row t (y 0)) (y 1)) = residA (a0 m c) (a1 m c) (a2 m c) (a3 m c) ((win0_8.blk t).view.emb y)
  generalize residA (a0 m c) (a1 m c) (a2 m c) (a3 m c) = G
  blk_point [idx t, row]

theorem final9 : (dats m 0 c).arrAt 9 (cfgs 0).N = normedA (a0 m c) (a1 m c) (a2 m c) (a3 m c) (a4 m c) (a5 m c) (a6 m c) := by
  refine (dats m 0 c).arrAt_eq_of_covers 9 _ (by decide +kernel) fun t _ y => ?_
  blk_simp
  rw [after0_9]
  frame_out
  refine ((congrArg _ (at2 y)).trans (normed_at m c t (y 0) (y 1))).trans ?_
  show normedA (a0 m c) (a1 m c) (a2 m c) (a3 m c) (a4 m c) (a5 m c) (a6 m c) (ix2 (row t (y 0)) (y 1)) = normedA (a0 m c) (a1 m c) (a2 m c) (a3 m c) (a4 m c) (a5 m c) (a6 m c) ((win0_9.blk t).view.emb y)
  generalize normedA (a0 m c) (a1 m c) (a2 m c) (a3 m c) (a4 m c) (a5 m c) (a6 m c) = G
  blk_point [idx t, row]

end Cert.Kernel8Ideal.Outproj

end
-- ==== Proof.Outproj.Claim.lean ====
module

public import proofs.«01_k».proof.Defs
public import proofs.«01_k».proof.Proof.Outproj.Value
public import proofs.«01_k».proof.Proof.Gen.Reference8Ideal.Read

/-! The output projection with the residual and the second norm: the kernel's three results are the reference's, for all arguments. -/

@[expose] public section

set_option maxRecDepth 16384

noncomputable section

namespace Cert.Reference8Ideal.Outproj

open Idealize.ShloMosaic TcCoe
open Cert.Reference8Ideal Cert.Reference8Ideal.Read
open Cert.Kernel8Ideal.Outproj (proj resid normed)

variable (X0 : FVec Ideal S8192x1024 .bf16) (X1 : FVec Ideal S1x1024x1024 .f32) (X2 : FVec Ideal S8192x1024 .f32) (X3 X4 X5 X6 : FVec Ideal S1x1024 .f32)

theorem proj_at (r : Fin 8192) (k : Fin 1024) : val_main_v2 (F := Ideal) X0 X1 (ix2 r k) = proj X0 X1 r k := by
  pointwise [val_main_v2, val_main_v1, val_main_v0]
  rfl

theorem resid_at (r : Fin 8192) (k : Fin 1024) : val_main_v5 (F := Ideal) X0 X1 X2 X3 (ix2 r k) = resid X0 X1 X2 X3 r k := by
  pointwise [val_main_v5, val_main_v4, val_main_v3]
  simp only [proj_at]
  rfl

theorem normed_at (r : Fin 8192) (k : Fin 1024) : val_main_v25 (F := Ideal) X0 X1 X2 X3 X4 X5 X6 (ix2 r k) = normed X0 X1 X2 X3 X4 X5 X6 r k := by
  pointwise [val_main_v6, val_main_v7, val_main_cst, val_main_v8, val_main_v9, val_main_cst_0, val_main_v10, val_main_v11, val_main_cst_1, val_main_v12, val_main_v13, val_main_v14, val_main_v15,
    val_main_v16, val_main_v17, val_main_v18, val_main_v19, val_main_cst_2, val_main_v20, val_main_v21, val_main_v22, val_main_v23, val_main_v24, val_main_v25]
  simp only [resid_at]
  unfold normed Cert.Norm.modulated Cert.Norm.unit
  pointwise

end Cert.Reference8Ideal.Outproj

namespace Cert.Outproj

open Idealize.ShloMosaic TcCoe Idealize.SL.Sem
open Cert.Kernel8Ideal Gen Cert.Kernel8Ideal.Outproj

theorem out_proj_algebraic : Cert.algebraic_Kernel8Ideal_Reference8Ideal := by
  intro m g m' g' _ hagree
  refine ⟨fun c => (dats m 0 c).arrAt 7 (cfgs 0).N, fun c => (dats m 0 c).arrAt 8 (cfgs 0).N, fun c => (dats m 0 c).arrAt 9 (cfgs 0).N, ?_, ?_⟩
  · run_from Cert.Kernel8Ideal.Gen.run_main m g
  · refine (θ_run Cert.Reference8Ideal.defs _ _).mono (fun r h c => ?_) (Cert.Reference8Ideal.Value.run (F := Ideal) m' g')
    obtain ⟨h0, h1, h2, a⟩ := h c
    obtain ⟨e0, e1, e2, e3, e4, e5, e6⟩ := hagree c
    refine ⟨(h0.trans (Cert.Reference8Ideal.Read.val_main_v26_eq _ _)).trans ?_, (h1.trans (Cert.Reference8Ideal.Read.val_main_v5_eq _ _ _ _)).trans ?_,
      (h2.trans (Cert.Reference8Ideal.Read.val_main_v27_eq _ _ _ _ _ _ _)).trans ?_, a⟩
    · rw [e0, e1]
      refine Eq.trans ?_ (final7 m c).symm
      exact Cert.Rows.of_ix2 fun i j => Cert.Reference8Ideal.Outproj.proj_at _ _ i j
    · rw [e0, e1, e2, e3]
      refine Eq.trans ?_ (final8 m c).symm
      exact Cert.Rows.of_ix2 fun i j => Cert.Reference8Ideal.Outproj.resid_at _ _ _ _ i j
    · rw [e0, e1, e2, e3, e4, e5, e6]
      refine Eq.trans ?_ (final9 m c).symm
      exact Cert.Rows.of_ix2 fun i j => Cert.Reference8Ideal.Outproj.normed_at _ _ _ _ _ _ _ i j

end Cert.Outproj

end
-- ==== Proof.Ffngate.Value.lean ====
module

public import proofs.«01_k».proof.Defs
public import proofs.«01_k».proof.Proof.Gen.Kernel9Ideal.Frame
public import Idealize.ShloMosaic.Lib.Pipeline.ValueKit
public import Idealize.ShloMosaic.Lib.Pipeline.ReadBack
public import Idealize.ShloMosaic.Lib.KernelVsHost
public import Idealize.ShloMosaic.Lib.StableHlo.RunRead

/-! What the gate's kernel leaves in its two arrays: the derivative tensors of `silu g · u`, and `silu g · u` itself. -/

@[expose] public section

set_option maxRecDepth 16384

noncomputable section

namespace Cert.Kernel9Ideal.Ffngate

open Idealize.ShloMosaic TcCoe Idealize.SL.Sem
open Cert.Kernel9Ideal Gen
open Idealize.ShloMosaic.Tactic

section Spec

variable (X : FVec Ideal S8192x1024 .bf16) (W : FVec Ideal S4x1024x1408 .bf16)

/-- A row of the activations times column `l` of the quartered weight, `s` quarters further. -/
def pre (s : ℕ) (hs : s ≤ 2) (r : Fin 8192) (l : Fin 2816) : EReal :=
  ∑ k : Fin 1024, X (ix2 r k) * W (ix3 ⟨l.val / 1408 + s, by omega⟩ k ⟨l.val % 1408, by omega⟩)
def gate (r : Fin 8192) (l : Fin 2816) : EReal := pre X W 0 (by decide) r l
def up (r : Fin 8192) (l : Fin 2816) : EReal := pre X W 2 le_rfl r l
def silu (r : Fin 8192) (l : Fin 2816) : EReal := gate X W r l * Ideal.logistic (gate X W r l)
def slopes (r : Fin 8192) (l : Fin 2816) : EReal :=
  up X W r l * (Ideal.logistic (gate X W r l) + silu X W r l * (1 - Ideal.logistic (gate X W r l)))
/-- The two derivatives stacked, by the gate and by the value. -/
def both : FVec Ideal S2x8192x2816 .bf16 := fun j => if (j 0).val = 0 then slopes X W (j 1) (j 2) else silu X W (j 1) (j 2)
/-- The gated activations. -/
def gated : FVec Ideal S8192x2816 .bf16 := fun j => silu X W (j 0) (j 1) * up X W (j 0) (j 1)

theorem both_gate (j : S2x8192x2816.Idx) (h : (j 0).val = 0) : both X W j = slopes X W (j 1) (j 2) := if_pos h
theorem both_value (j : S2x8192x2816.Idx) (h : (j 0).val ≠ 0) : both X W j = silu X W (j 1) (j 2) := if_neg h

end Spec

theorem idx : ∀ t : Fin cfg0.N, win0_0.index t = ![t.val % 8, 0] ∧ win0_1.index t = ![t.val / 8, 0, 0] ∧ win0_2.index t = ![t.val / 8 + 2, 0, 0]
    ∧ win0_3.index t = ![0, t.val % 8, t.val / 8] ∧ win0_4.index t = ![t.val % 8, t.val / 8] := (by decide +kernel : ∀ t : Fin grid0.N, _)

variable (m : (ℓ : Loc nD τ sig) → Buf (Elt Ideal) ℓ) (c : Dev nD)

theorem final3 : (dats m 0 c).arrAt 3 cfg0.N = both (V m c main_arg0) (V m c main_v3) := by
  refine (dats m 0 c).arrAt_eq_of_covers 3 _ (by decide +kernel) fun t _ y => ?_
  blk_simp
  rw [after0_3]
  canon_tiles x h
  · rw [both_value _ _ _ (by blk_simp [idx t]; omega)]
    open_payloads
    pointwise [silu, gate, pre]
    blk_point [iblk, idx t]
  · rw [both_gate _ _ _ (by blk_simp [idx t]; omega)]
    open_payloads
    pointwise [slopes, silu, gate, up, pre]
    blk_point [iblk, idx t]

theorem final4 : (dats m 0 c).arrAt 4 cfg0.N = gated (V m c main_arg0) (V m c main_v3) := by
  refine (dats m 0 c).arrAt_eq_of_covers 4 _ (by decide +kernel) fun t _ y => ?_
  blk_simp
  rw [after0_4]
  frame_out
  open_payloads
  pointwise [gated, silu, gate, up, pre]
  blk_point [iblk, idx t]

theorem shards_read (w : FVec Ideal S1x1024x5632 .f32) (q : Fin 4) (k : Fin 1024) (l : Fin 1408) :
    truncf .bf16 (transpose S4x1024x1408 [1, 0, 2] (shapeCast S1024x4x1408 (shapeCast S1024x5632 w
      shapeCasts_S1x1024x5632_S1024x5632) shapeCasts_S1024x5632_S1024x4x1408) transposes_S1024x4x1408_S4x1024x1408_1_0_2) bitsLt_bf16_f32 (ix3 q k l)
    = w (ix3 (0 : Fin 1) k ⟨q.val * 1408 + l.val, by omega⟩) := by
  pointwise
  blk_ext

/-- The weight as the kernel reads it: its columns in four quarters. -/
theorem shards (q : Fin 4) (k : Fin 1024) (l : Fin 1408) :
    V m c main_v3 (ix3 q k l) = m (c.tc.loc main_arg1) (ix3 (0 : Fin 1) k ⟨q.val * 1408 + l.val, by omega⟩) := by
  show StableHlo.after hostOps0 (fun b => m (c, b)) (Proc.devRef .tc main_v3) (ix3 q k l) = _
  after_reads_simp
  exact shards_read _ q k l

end Cert.Kernel9Ideal.Ffngate

end
-- ==== Proof.Ffngate.Claim.lean ====
module

public import proofs.«01_k».proof.Proof.Reals
public import proofs.«01_k».proof.Proof.Norm.Rows
public import proofs.«01_k».proof.Proof.Ffngate.Value
public import proofs.«01_k».proof.Proof.Mixer.Finite
public import proofs.«01_k».proof.Proof.Gen.Pre_ffn_gate_finite
public import proofs.«01_k».proof.Proof.Gen.Reference9Ideal.Read

/-! The gate of the feed-forward: the kernel's two results are the reference's. -/

@[expose] public section

set_option maxRecDepth 16384

noncomputable section

namespace Cert.Pre_ffn_gate_finite

open Idealize.ShloMosaic Cert.Mixer Cert.Pre_ffn_gate_finite Cert.Pre_ffn_gate_finite.Facts

theorem real_args (x0 : FVec Ideal S8192x1024 .bf16) (x1 : FVec Ideal S1x1024x5632 .f32) (i : S_.Idx) (h : fn (F := Ideal) x0 x1 i = 1#1) :
    (∀ i, x0 i = (((x0 i).toReal : ℝ) : EReal)) ∧ ∀ i, x1 i = (((x1 i).toReal : ℝ) : EReal) := by
  obtain ⟨h0, h1⟩ := IntOp.andi_eq_one.1 h
  have : Subsingleton S_.Idx := ⟨fun a b => funext fun d => d.elim0⟩
  exact ⟨fun i => real_of_abs_lt (inf_bf16 ▸ of_olt (Host.reduce_andi_all _ _ _ _ _ h0 i)),
    fun i => real_of_abs_lt (inf_f32 ▸ of_olt (Host.reduce_andi_all _ _ _ _ _ h1 i))⟩

end Cert.Pre_ffn_gate_finite

namespace Cert.Reference9Ideal.Ffngate

open Idealize.ShloMosaic TcCoe Cert.Reference9Ideal Gen Read

variable (x0 : FVec Ideal S8192x1024 .bf16) (x1 : FVec Ideal S1x1024x5632 .f32)

/-- A row times a column of the weight. -/
def dot (r : Fin 8192) (l : Fin 5632) : EReal := ∑ k : Fin 1024, x0 (ix2 r k) * x1 (ix3 (0 : Fin 1) k l)

variable (r : Fin 8192) (l : Fin 2816)

theorem logistic_at : val_main_v5_2 (F := Ideal) x0 x1 (ix2 r l) = Ideal.logistic (dot x0 x1 r ⟨l.val, by omega⟩) := by
  unfold dot
  pointwise [val_main_v5_2, val_main_call0_v0, val_main_call0_v1, val_main_call0_v2, val_main_call0_v3, val_main_call0_v4,
    val_main_call0_cst, val_main_call0_cst_0, val_main_v3, val_main_v2, val_main_v1, val_main_v0]
  rfl

theorem silu_at : val_main_v5_0 (F := Ideal) x0 x1 (ix2 r l) = dot x0 x1 r ⟨l.val, by omega⟩ * Ideal.logistic (dot x0 x1 r ⟨l.val, by omega⟩) := by
  rw [← logistic_at]
  unfold dot
  pointwise [val_main_v5_0, val_main_v3, val_main_v2, val_main_v1, val_main_v0]

theorem up_at : val_main_v4 (F := Ideal) x0 x1 (ix2 r l) = dot x0 x1 r ⟨2816 + l.val, by omega⟩ := by
  unfold dot
  pointwise [val_main_v4, val_main_v2, val_main_v1, val_main_v0]

theorem gated_at : val_main_v15 (F := Ideal) x0 x1 (ix2 r l) = val_main_v5_0 (F := Ideal) x0 x1 (ix2 r l) * val_main_v4 (F := Ideal) x0 x1 (ix2 r l) := by
  pointwise [val_main_v15, val_main_v6]

theorem slope_at : val_main_v14 (F := Ideal) x0 x1 (ix3 (0 : Fin 2) r l)
    = 1 * val_main_v4 (F := Ideal) x0 x1 (ix2 r l) * val_main_v5_2 (F := Ideal) x0 x1 (ix2 r l)
      + val_main_v3 (F := Ideal) x0 x1 (ix2 r l) * (1 * val_main_v4 (F := Ideal) x0 x1 (ix2 r l)) * (val_main_v5_2 (F := Ideal) x0 x1 (ix2 r l) * (1 - val_main_v5_2 (F := Ideal) x0 x1 (ix2 r l))) := by
  pointwise [val_main_v14, val_main_v13, val_main_v11, val_main_v12, val_main_v10, val_main_call1_v0, val_main_call1_v1, val_main_call1_v2, val_main_v9, val_main_v7, val_main_cst,
    val_main_v5_1, val_main_call0_v6, val_main_call0_v7, val_main_call0_cst_1]

theorem value_at : val_main_v14 (F := Ideal) x0 x1 (ix3 (1 : Fin 2) r l) = val_main_v5_0 (F := Ideal) x0 x1 (ix2 r l) := by
  pointwise [val_main_v14, val_main_v13, val_main_v11, val_main_v12, val_main_v8, val_main_v7, val_main_cst]

theorem gate_at : val_main_v3 (F := Ideal) x0 x1 (ix2 r l) = dot x0 x1 r ⟨l.val, by omega⟩ := by
  unfold dot
  pointwise [val_main_v3, val_main_v2, val_main_v1, val_main_v0]

end Cert.Reference9Ideal.Ffngate

namespace Cert.Ffngate

open Idealize.ShloMosaic TcCoe Idealize.SL.Sem
open Cert.Kernel9Ideal Gen Cert.Kernel9Ideal.Ffngate
open Cert.Reference9Ideal.Ffngate (dot gate_at up_at logistic_at silu_at gated_at slope_at value_at)

variable (m : (ℓ : Loc nD τ sig) → Buf (Elt Ideal) ℓ) (c : Dev nD)

theorem pre_eq (s : ℕ) (hs : s ≤ 2) (r : Fin 8192) (l : Fin 2816) (j : Fin 5632) (hj : j.val = 1408 * s + l.val) :
    pre (V m c main_arg0) (V m c main_v3) s hs r l = dot (m (c.tc.loc main_arg0)) (m (c.tc.loc main_arg1)) r j := by
  rw [V_main_arg0]
  refine Finset.sum_congr rfl fun k _ => congrArg _ ((shards m c _ _ _).trans (congrArg _ ?_))
  exact congrArg (ix3 (0 : Fin 1) k) (Fin.ext (by show (l.val / 1408 + s) * 1408 + l.val % 1408 = j.val; omega))

theorem gate_eq (r : Fin 8192) (l : Fin 2816) : gate (V m c main_arg0) (V m c main_v3) r l
    = dot (m (c.tc.loc main_arg0)) (m (c.tc.loc main_arg1)) r ⟨l.val, by omega⟩ :=
  pre_eq m c 0 (by decide) r l _ (by show l.val = 1408 * 0 + l.val; omega)
theorem up_eq (r : Fin 8192) (l : Fin 2816) : up (V m c main_arg0) (V m c main_v3) r l
    = dot (m (c.tc.loc main_arg0)) (m (c.tc.loc main_arg1)) r ⟨2816 + l.val, by omega⟩ :=
  pre_eq m c 2 le_rfl r l _ (by show 2816 + l.val = 1408 * 2 + l.val; omega)

/-- The product rule as the reference writes it, where both products are real. -/
theorem slope_eq (r : Fin 8192) (l : Fin 2816) {p : Fin 5632 → ℝ}
    (P : ∀ l, dot (m (c.tc.loc main_arg0)) (m (c.tc.loc main_arg1)) r l = ((p l : ℝ) : EReal)) :
    Cert.Reference9Ideal.Read.val_main_v14 (F := Ideal) (m (c.tc.loc main_arg0)) (m (c.tc.loc main_arg1)) (ix3 (0 : Fin 2) r l)
      = slopes (V m c main_arg0) (V m c main_v3) r l := by
  rw [slope_at, slopes, silu, gate_eq, up_eq, gate_at, up_at, logistic_at, P, P]
  exact (Reals.gate_rule 1 _ _).trans (one_mul _)

theorem ffn_in_algebraic : Cert.algebraic_Kernel9Ideal_Reference9Ideal_pre_ffn_gate_finite := by
  intro m g m' g' hpre hagree
  refine ⟨fun c => (dats m 0 c).arrAt 3 (cfgs 0).N, fun c => (dats m 0 c).arrAt 4 (cfgs 0).N, ?_, ?_⟩
  · run_from Cert.Kernel9Ideal.Gen.run_main m g
  · refine (θ_run Cert.Reference9Ideal.defs _ _).mono (fun r h c => ?_) (Cert.Reference9Ideal.Value.run (F := Ideal) m' g')
    obtain ⟨h0, h1, a⟩ := h c
    obtain ⟨e0, e1⟩ := hagree c
    obtain ⟨r0, r1⟩ := Cert.Pre_ffn_gate_finite.real_args _ _ _ (congrFun (hpre c) (fun a => a.elim0))
    refine ⟨(h0.trans (Cert.Reference9Ideal.Read.val_main_v14_eq _ _)).trans ?_, (h1.trans (Cert.Reference9Ideal.Read.val_main_v15_eq _ _)).trans ?_, a⟩
    · rw [e0, e1]
      refine Eq.trans ?_ (final3 m c).symm
      funext j
      have e : ∀ p : Fin 2, p.val = (j 0).val → j = ix3 p (j 1) (j 2) := fun p hp => funext fun a => match a with
        | ⟨0, _⟩ => Fin.ext hp.symm
        | ⟨1, _⟩ => rfl
        | ⟨2, _⟩ => rfl
      have hj : (j 0).val < 2 := (j 0).isLt
      by_cases hz : (j 0).val = 0
      · rw [both_gate _ _ _ hz]
        refine (congrArg _ (e 0 hz.symm)).trans ?_
        have P := fun l => Reals.coe_dot (a := fun k : Fin 1024 => (m (c.tc.loc main_arg0) : FVec Ideal S8192x1024 .bf16) (ix2 (j 1) k))
          (b := fun k => (m (c.tc.loc main_arg1) : FVec Ideal S1x1024x5632 .f32) (ix3 (0 : Fin 1) k l)) (fun k => r0 _) (fun k => r1 _)
        exact slope_eq m c (j 1) (j 2) P
      · rw [both_value _ _ _ hz]
        refine (congrArg _ (e 1 (by show 1 = _; omega))).trans ((value_at _ _ (j 1) (j 2)).trans ((silu_at _ _ _ _).trans ?_))
        exact congrArg (fun x => x * Ideal.logistic x) (gate_eq m c (j 1) (j 2)).symm
    · rw [e0, e1]
      refine Eq.trans ?_ (final4 m c).symm
      refine Cert.Rows.of_ix2 fun i j => (gated_at _ _ i j).trans ?_
      rw [silu_at, up_at, ← gate_eq m c i j, ← up_eq m c i j]
      rfl

end Cert.Ffngate

end
-- ==== Proof.Plain.OutBack.lean ====
module

public import proofs.«01_k».proof.Defs
public import proofs.«01_k».proof.Proof.Norm.Rows
public import proofs.«01_k».proof.Proof.Gen.Kernel10Ideal.Frame
public import proofs.«01_k».proof.Proof.Gen.Reference10Ideal.Read
public import Idealize.ShloMosaic.Lib.StableHlo.RunRead

/-! The output projection's cotangent: the kernel's row blocks of `dy · w_outᵀ` are the reference's, for all arguments. -/

@[expose] public section

set_option maxRecDepth 16384

noncomputable section

namespace Cert.OutBack

open Idealize.ShloMosaic TcCoe Idealize.SL.Sem
open Cert.Kernel10Ideal Gen

/-- A row of the cotangent against a row of the weight. -/
def back (X : FVec Ideal S8192x1024 .bf16) (W : FVec Ideal S1024x1024 .bf16) (r : Fin 8192) (k : Fin 1024) : EReal :=
  ∑ l : Fin 1024, X (ix2 r l) * W (ix2 k l)

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem final : (dats m 0 c).arrAt 2 (cfgs 0).N = (fun j => back (V m c main_arg0) (V m c main_v1) (j 0) (j 1) : FVec Ideal S8192x1024 .bf16) := by
  refine (dats m 0 c).arrAt_eq_of_covers 2 _ (by decide +kernel) fun t _ y => ?_
  blk_simp
  rw [after0_2]
  frame_out
  pointwise [k0_pay1, back]
  blk_point [iblk, idx t]

theorem weight_read (w : FVec Ideal S1x1024x1024 .f32) (k l : Fin 1024) :
    truncf .bf16 (shapeCast S1024x1024 w shapeCasts_S1x1024x1024_S1024x1024) bitsLt_bf16_f32 (ix2 k l) = w (ix3 (0 : Fin 1) k l) := by
  pointwise

theorem weight (k l : Fin 1024) : V m c main_v1 (ix2 k l) = m (c.tc.loc main_arg1) (ix3 (0 : Fin 1) k l) := by
  show StableHlo.after hostOps0 (fun b => m (c, b)) (Proc.devRef .tc main_v1) (ix2 k l) = _
  after_reads_simp
  exact weight_read _ k l

theorem out_proj_bwd_algebraic : Cert.algebraic_Kernel10Ideal_Reference10Ideal := by
  intro m g m' g' _ hagree
  refine ⟨fun c => (dats m 0 c).arrAt 2 (cfgs 0).N, ?_, ?_⟩
  · run_from Cert.Kernel10Ideal.Gen.run_main m g
  · refine (θ_run Cert.Reference10Ideal.defs _ _).mono (fun r h c => ?_) (Cert.Reference10Ideal.Value.run (F := Ideal) m' g')
    obtain ⟨h0, a⟩ := h c
    obtain ⟨e0, e1⟩ := hagree c
    refine ⟨(h0.trans (Cert.Reference10Ideal.Read.val_main_v5_eq _ _)).trans ?_, a⟩
    rw [e0, e1]
    refine Eq.trans ?_ (final m c).symm
    refine Cert.Rows.of_ix2 fun i j => ?_
    pointwise [Cert.Reference10Ideal.Read.val_main_v5, Cert.Reference10Ideal.Read.val_main_v4, Cert.Reference10Ideal.Read.val_main_v3, Cert.Reference10Ideal.Read.val_main_v1, back]
    exact Finset.sum_congr rfl fun l _ => congrArg (fun w : EReal => (_ : EReal) * w) (weight m c j l).symm

end Cert.OutBack

end
-- ==== Proof.Plain.Packs.lean ====
module

public import proofs.«01_k».proof.Defs
public import proofs.«01_k».proof.Proof.Norm.Rows
public import proofs.«01_k».proof.Proof.Gen.Kernel11Ideal.Frame
public import proofs.«01_k».proof.Proof.Gen.Reference11Ideal.Read

/-! The sum of the eight devices' packed small gradients: the kernel adds them one after the other, the reference sums over the first axis. -/

@[expose] public section

set_option maxRecDepth 16384

noncomputable section

namespace Cert.Packs

open Idealize.ShloMosaic TcCoe Idealize.SL.Sem
open Cert.Kernel11Ideal Gen

def total (X : FVec Ideal S8x152x128 .f32) (r : Fin 152) (l : Fin 128) : EReal := ∑ d : Fin 8, X (ix3 d r l)

theorem idx : ∀ t : Fin cfg0.N, win0_0.index t = ![0, 0, 0] ∧ win0_1.index t = ![0, 0] := (by decide +kernel : ∀ t : Fin grid0.N, _)

variable (m : (ℓ : Loc nD τ sig) → Buf (Elt Ideal) ℓ) (c : Dev nD)

theorem final : (dats m 0 c).arrAt 1 (cfgs 0).N = (fun j => total (m (c.tc.loc main_arg0)) (j 0) (j 1) : FVec Ideal S152x128 .f32) := by
  refine (dats m 0 c).arrAt_eq_of_covers 1 _ (by decide +kernel) fun t _ y => ?_
  blk_simp
  rw [after0_1]
  frame_out
  pointwise [k0_pay1, total, Fin.sum_univ_eight]
  blk_point [iblk, V, idx t]

theorem pack_sum_algebraic : Cert.algebraic_Kernel11Ideal_Reference11Ideal := by
  intro m g m' g' _ hagree
  refine ⟨fun c => (dats m 0 c).arrAt 1 (cfgs 0).N, ?_, ?_⟩
  · run_from Cert.Kernel11Ideal.Gen.run_main m g
  · refine (θ_run Cert.Reference11Ideal.defs _ _).mono (fun r h c => ?_) (Cert.Reference11Ideal.Value.run (F := Ideal) m' g')
    obtain ⟨h0, a⟩ := h c
    refine ⟨(h0.trans (Cert.Reference11Ideal.Read.val_main_v0_eq _)).trans ?_, a⟩
    rw [show m' ((c.tc : Thread Cert.Reference11Ideal.nD Cert.Reference11Ideal.τ).loc Cert.Reference11Ideal.main_arg0) = _ from hagree c]
    refine Eq.trans ?_ (final m c).symm
    refine Cert.Rows.of_ix2 fun i j => ?_
    pointwise [Cert.Reference11Ideal.Read.val_main_v0, Cert.Reference11Ideal.Read.val_main_cst, total]

end Cert.Packs

end
-- ==== Proof.Plain.Adamw.lean ====
module

public import proofs.«01_k».proof.Defs
public import proofs.«01_k».proof.Proof.Norm.Rows
public import proofs.«01_k».proof.Proof.Gen.Kernel12Ideal.Frame
public import proofs.«01_k».proof.Proof.Gen.Reference12Ideal.Read

/-! The optimiser's step on one array: each of the kernel's four row blocks holds what the reference computes element by element. -/

@[expose] public section

set_option maxRecDepth 16384

noncomputable section

namespace Cert.Adamw

open Idealize.ShloMosaic TcCoe Idealize.SL.Sem
open Cert.Kernel12Ideal Gen
open Cert.Reference12Ideal.Read

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem final4 : (dats m 0 c).arrAt 4 (cfgs 0).N = m (c.tc.loc main_arg1) := by
  refine (dats m 0 c).arrAt_eq_of_covers 4 _ (by decide +kernel) fun t _ y => ?_
  blk_simp
  rw [after0_4]
  frame_out
  blk_point [iblk, V, idx t]

theorem final5 : (dats m 0 c).arrAt 5 (cfgs 0).N = val_main_v23 (F := Ideal) (m (c.tc.loc main_arg0)) (m (c.tc.loc main_arg1))
    (m (c.tc.loc main_arg2)) (m (c.tc.loc main_arg3)) := by
  refine (dats m 0 c).arrAt_eq_of_covers 5 _ (by decide +kernel) fun t _ y => ?_
  blk_simp
  rw [after0_5]
  frame_out
  pointwise [k0_pay1, k0_pay2, k0_pay3, val_main_cst, val_main_v0, val_main_v1, val_main_cst_0, val_main_v2, val_main_v3, val_main_v4, val_main_cst_1, val_main_v5, val_main_v6,
    val_main_v7, val_main_cst_2, val_main_v8, val_main_v9, val_main_v10, val_main_cst_3, val_main_v11, val_main_v12, val_main_cst_4, val_main_v13, val_main_v14, val_main_v15,
    val_main_cst_5, val_main_v16, val_main_v17, val_main_v18, val_main_cst_6, val_main_v19, val_main_v20, val_main_v21, val_main_cst_7, val_main_v22, val_main_v23]
  blk_point [iblk, V, idx t]

theorem final6 : (dats m 0 c).arrAt 6 (cfgs 0).N = val_main_v4 (F := Ideal) (m (c.tc.loc main_arg1)) (m (c.tc.loc main_arg2)) := by
  refine (dats m 0 c).arrAt_eq_of_covers 6 _ (by decide +kernel) fun t _ y => ?_
  blk_simp
  rw [after0_6]
  frame_out
  pointwise [k0_pay1, val_main_cst, val_main_v0, val_main_v1, val_main_cst_0, val_main_v2, val_main_v3, val_main_v4]
  blk_point [iblk, V, idx t]

theorem final7 : (dats m 0 c).arrAt 7 (cfgs 0).N = val_main_v10 (F := Ideal) (m (c.tc.loc main_arg1)) (m (c.tc.loc main_arg3)) := by
  refine (dats m 0 c).arrAt_eq_of_covers 7 _ (by decide +kernel) fun t _ y => ?_
  blk_simp
  rw [after0_7]
  frame_out
  pointwise [k0_pay2, val_main_cst_1, val_main_v5, val_main_v6, val_main_v7, val_main_cst_2, val_main_v8, val_main_v9, val_main_v10]
  blk_point [iblk, V, idx t]

theorem adamw_algebraic : Cert.algebraic_Kernel12Ideal_Reference12Ideal := by
  intro m g m' g' _ hagree
  refine ⟨fun c => (dats m 0 c).arrAt 4 (cfgs 0).N, fun c => (dats m 0 c).arrAt 5 (cfgs 0).N, fun c => (dats m 0 c).arrAt 6 (cfgs 0).N,
    fun c => (dats m 0 c).arrAt 7 (cfgs 0).N, ?_, ?_⟩
  · run_from Cert.Kernel12Ideal.Gen.run_main m g
  · refine (θ_run Cert.Reference12Ideal.defs _ _).mono (fun r h c => ?_) (Cert.Reference12Ideal.Value.run (F := Ideal) m' g')
    obtain ⟨h0, h1, h2, h3, a⟩ := h c
    obtain ⟨e0, e1, e2, e3⟩ := hagree c
    refine ⟨(h0.trans e1).trans (final4 m c).symm, (h1.trans (val_main_v23_eq _ _ _ _)).trans ?_, (h2.trans (val_main_v4_eq _ _)).trans ?_,
      (h3.trans (val_main_v10_eq _ _)).trans ?_, a⟩
    · rw [e0, e1, e2, e3]; exact (final5 m c).symm
    · rw [e1, e2]; exact (final6 m c).symm
    · rw [e1, e3]; exact (final7 m c).symm

end Cert.Adamw

end
-- ==== Proof.Plain.Wgrad.lean ====
module

public import proofs.«01_k».proof.Defs
public import proofs.«01_k».proof.Proof.Norm.Rows
public import proofs.«01_k».proof.Proof.Gen.Kernel13Ideal.Frame
public import proofs.«01_k».proof.Proof.Gen.Reference13Ideal.Read
public import Idealize.ShloMosaic.Lib.Pipeline.ReadBack

/-! A weight's gradient: four blocks of 2048 rows, each adding its product to the one before; at the end the sum over all rows. -/

@[expose] public section

set_option maxRecDepth 16384

noncomputable section

namespace Cert.Wgrad

open Idealize.ShloMosaic TcCoe Idealize.SL.Sem
open Cert.Kernel13Ideal Gen

theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

/-- One row's product, and a block's sum of them. -/
def term (X Y : FVec Ideal S8192x1024 .bf16) (j : S1024x1024.Idx) (l : Fin 8192) : EReal := X (ix2 l (j 0)) * Y (ix2 l (j 1))
def row (t : Fin cfg0.N) (l : Fin 2048) : Fin 8192 := ⟨t.val * 2048 + l.val, by have := lt_of_lt_of_eq t.isLt N_0; omega⟩
def part (X Y : FVec Ideal S8192x1024 .bf16) (t : Fin cfg0.N) (j : S1024x1024.Idx) : EReal := ∑ l : Fin 2048, term X Y j (row t l)
def total (X Y : FVec Ideal S8192x1024 .bf16) (j : S1024x1024.Idx) : EReal := ∑ l : Fin 8192, term X Y j l

variable (m : (ℓ : Loc nD τ sig) → Buf (Elt Ideal) ℓ) (c : Dev nD) (t : Fin cfg0.N)

theorem added (v : Vec Ideal S1024x1024 .f32) (j : S1024x1024.Idx) :
    k0_pay2 v (iblk m c 0 t) (iblk m c 1 t) j = v j + part (m (c.tc.loc main_arg0)) (m (c.tc.loc main_arg1)) t j := by
  pointwise [k0_pay2, part, term]
  blk_point [iblk, V, idx t, row]

theorem first (j : S1024x1024.Idx) (h0 : t.val % 4 = 0) :
    (outsAt0 m c t.val t.isLt).1 j = 0 + part (m (c.tc.loc main_arg0)) (m (c.tc.loc main_arg1)) t j := by
  rw [outsAt0_A m c t h0 (by omega)]; frame_out
  exact (added m c t _ j).trans (congrArg (· + _) (by pointwise [k0_pay1]))

theorem next (j : S1024x1024.Idx) (h0 : ¬ t.val % 4 = 0) :
    (outsAt0 m c t.val t.isLt).1 j = (outsAt0 m c (t.val - 1) (Nat.lt_of_le_of_lt (Nat.sub_le _ _) t.isLt)).1 j
      + part (m (c.tc.loc main_arg0)) (m (c.tc.loc main_arg1)) t j := by
  by_cases h1 : t.val % 4 = 3
  · rw [outsAt0_C m c t h0 h1]; frame_out
    exact added m c t _ j
  · rw [outsAt0_B m c t h0 h1]; frame_out
    exact added m c t _ j

theorem rounded (j : S1024x1024.Idx) (h1 : t.val % 4 = 3) : (outsAt0 m c t.val t.isLt).2 j = (outsAt0 m c t.val t.isLt).1 j := by
  rw [outsAt0_C m c t (by omega) h1]; frame_out
  pointwise [k0_pay3]

theorem last (t : Fin cfg0.N) (h : t.val + 1 = 4) (j : S1024x1024.Idx) :
    (outsAt0 m c t.val t.isLt).1 j = total (m (c.tc.loc main_arg0)) (m (c.tc.loc main_arg1)) j := by
  rw [Pipeline.eq_sum_fin_of_reset_step_apply_last (fun n h => (outsAt0 m c n h).1) 4 (fun _ => 0)
    (part (m (c.tc.loc main_arg0)) (m (c.tc.loc main_arg1)))
    (fun t h0 j => first m c t j h0) (fun t h0 j => next m c t j h0) (le_of_eq N_0) t h j, zero_add]
  exact Fin.sum_mul_add_congr (S := 4) (n := 2048) fun s l hl => rfl

theorem final2 : (dats m 0 c).arrAt 2 (cfgs 0).N = total (m (c.tc.loc main_arg0)) (m (c.tc.loc main_arg1)) := by
  refine (dats m 0 c).arrAt_eq_of_after_last 2 t0_3 (by decide +kernel) _ fun j => ?_
  blk_simp
  rw [after0_2]
  exact last m c t0_3 rfl j

theorem final3 : (dats m 0 c).arrAt 3 (cfgs 0).N = total (m (c.tc.loc main_arg0)) (m (c.tc.loc main_arg1)) := by
  refine (dats m 0 c).arrAt_eq_of_after_last 3 t0_3 (by decide +kernel) _ fun j => ?_
  blk_simp
  rw [after0_3]
  exact (rounded m c t0_3 j rfl).trans (last m c t0_3 rfl j)

theorem reference_at (X Y : FVec Ideal S8192x1024 .bf16) (i j : Fin 1024) : Cert.Reference13Ideal.Read.val_main_v5 (F := Ideal) X Y (ix2 i j) = total X Y (ix2 i j) := by
  pointwise [Cert.Reference13Ideal.Read.val_main_v5, Cert.Reference13Ideal.Read.val_main_v4, Cert.Reference13Ideal.Read.val_main_v3, Cert.Reference13Ideal.Read.val_main_v1, total, term]
  exact Finset.sum_congr rfl fun _ _ => mul_comm _ _

theorem wgrad_algebraic : Cert.algebraic_Kernel13Ideal_Reference13Ideal := by
  intro m g m' g' _ hagree
  refine ⟨fun c => (dats m 0 c).arrAt 2 (cfgs 0).N, fun c => (dats m 0 c).arrAt 3 (cfgs 0).N, ?_, ?_⟩
  · run_from Cert.Kernel13Ideal.Gen.run_main m g
  · refine (θ_run Cert.Reference13Ideal.defs _ _).mono (fun r h c => ?_) (Cert.Reference13Ideal.Value.run (F := Ideal) m' g')
    obtain ⟨h0, h1, a⟩ := h c
    obtain ⟨e0, e1⟩ := hagree c
    refine ⟨(h0.trans (Cert.Reference13Ideal.Read.val_main_v5_eq _ _)).trans ?_, (h1.trans (Cert.Reference13Ideal.Read.val_main_v6_eq _ _)).trans ?_, a⟩
    · rw [e0, e1]
      refine Eq.trans ?_ (final2 m c).symm
      exact Cert.Rows.of_ix2 fun i j => reference_at _ _ i j
    · rw [e0, e1]
      refine Eq.trans ?_ (final3 m c).symm
      refine Cert.Rows.of_ix2 fun i j => Eq.trans ?_ (reference_at _ _ i j)
      pointwise [Cert.Reference13Ideal.Read.val_main_v6]

end Cert.Wgrad

end
-- ==== Proof.Plain.WgradIn.lean ====
module

public import proofs.«01_k».proof.Defs
public import proofs.«01_k».proof.Proof.Norm.Rows
public import proofs.«01_k».proof.Proof.Mixer.Outs
public import proofs.«01_k».proof.Proof.Gen.Kernel14Ideal.Frame
public import proofs.«01_k».proof.Proof.Gen.Reference14Ideal.Read
public import Idealize.ShloMosaic.Lib.Pipeline.ReadBack

/-! The projection's weight gradient: for each block of 1280 columns four blocks of 2048 rows, each adding its product to the one before. The first block of columns is written in two parts. -/

@[expose] public section

set_option maxRecDepth 16384

noncomputable section

namespace Cert.WgradIn

open Idealize.ShloMosaic TcCoe Idealize.SL.Sem
open Cert.Kernel14Ideal Gen Cert.Kernel2Ideal.Mixer

theorem idx : ∀ t : Fin cfg0.N, win0_0.index t = ![t.val % 4, t.val / 4] ∧ win0_1.index t = ![t.val % 4, 0] ∧ win0_2.index t = ![t.val % 4, 0]
    ∧ win0_3.index t = ![t.val / 4, 0] ∧ win0_4.index t = ![t.val / 4, 0] :=
  (by decide +kernel : ∀ t : Fin grid0.N, _)

def term (X : FVec Ideal S8192x6400 .bf16) (Y : FVec Ideal S8192x1024 .bf16) (j : S6400x1024.Idx) (l : Fin 8192) : EReal := X (ix2 l (j 0)) * Y (ix2 l (j 1))
def total (X : FVec Ideal S8192x6400 .bf16) (Y : FVec Ideal S8192x1024 .bf16) (j : S6400x1024.Idx) : EReal := ∑ l : Fin 8192, term X Y j l
def row (t : ℕ) (l : Fin 2048) : Fin 8192 := ⟨t % 4 * 2048 + l.val, by omega⟩
def col (t : Fin cfg0.N) (j : S1280x1024.Idx) : S6400x1024.Idx :=
  ix2 ⟨t.val / 4 * 1280 + (j 0).val, by have := lt_of_lt_of_eq t.isLt N_0; have : (j 0).val < 1280 := (j 0).isLt; omega⟩ (j 1)
def part (X : FVec Ideal S8192x6400 .bf16) (Y : FVec Ideal S8192x1024 .bf16) (t : Fin cfg0.N) (j : S1280x1024.Idx) : EReal :=
  ∑ l : Fin 2048, term X Y (col t j) (row t.val l)

variable (m : (ℓ : Loc nD τ sig) → Buf (Elt Ideal) ℓ) (c : Dev nD) (t : Fin cfg0.N)

/-- What a point adds to: zeros at the first of a block's four, what the point before left at the others. -/
def old : FVec Ideal S1280x1024 .f32 :=
  if t.val % 4 = 0 then k0_pay1 else (outsAt0 m c (t.val - 1) (Nat.lt_of_le_of_lt (Nat.sub_le _ _) t.isLt)).1

theorem emb_at {n o : ℕ} (inb : ∀ q : Fin 2, (![o, 0] : Fin 2 → ℕ) q + (![n, 1024] : Fin 2 → ℕ) q ≤ S1280x1024.size q) (i : (⟨2, ![n, 1024]⟩ : Shape).Idx) (j : S1280x1024.Idx)
    (hi : (j 0 : ℕ) = o + i 0) (hk : (j 1 : ℕ) = i 1) : (Rect.unit (s := S1280x1024) ![o, 0] ![n, 1024] inb).emb i = j := by
  funext q
  refine Fin.ext ?_
  fin_cases q
  · exact (congrArg (o + ·) (Nat.one_mul _)).trans hi.symm
  · exact ((Nat.zero_add _).trans (Nat.one_mul _)).trans hk.symm

theorem above {n o : ℕ} (inb : ∀ q : Fin 2, (![o, 0] : Fin 2 → ℕ) q + (![n, 1024] : Fin 2 → ℕ) q ≤ S1280x1024.size q) (j : S1280x1024.Idx) (h : ¬ o ≤ (j 0 : ℕ)) :
    j ∉ (Rect.unit (s := S1280x1024) ![o, 0] ![n, 1024] inb).set := fun hy => h ((Rect.mem_set_unit (inb := inb)).1 hy (0 : Fin 2)).1

theorem all (h1 : 4 ≤ t.val) : (outsAt0 m c t.val t.isLt).1 = k0_pay4 (old m c t) (iblk m c 0 t) (iblk m c 2 t) := by
  unfold old
  by_cases h0 : t.val % 4 = 0
  · rw [if_pos h0, outsAt0_D m c t h0 (by omega) h1 (by omega)]; frame_out
  · rw [if_neg h0]
    by_cases h3 : t.val % 4 = 3
    · rw [outsAt0_F m c t h0 (by omega) h1 h3]; frame_out
    · rw [outsAt0_E m c t h0 (by omega) h1 h3]; frame_out

theorem rounded (j : S1280x1024.Idx) (h3 : t.val % 4 = 3) : (outsAt0 m c t.val t.isLt).2 j = (outsAt0 m c t.val t.isLt).1 j := by
  by_cases h1 : t.val < 4
  · rw [outsAt0_C m c t (by omega) h1 (by omega) h3]; frame_out
    pointwise [k0_pay5]
    rw [View.readCov_eq_canon']
    exact congrArg (View.canon _) (emb_at (n := 1280) (o := 0) _ j j (Nat.zero_add _).symm rfl)
  · rw [outsAt0_F m c t (by omega) h1 (by omega) h3]; frame_out
    pointwise [k0_pay5]

theorem addedLow (P : FVec Ideal S1024x1024 .f32) (i : S1024x1024.Idx) (j : S1280x1024.Idx) (h1 : t.val < 4) (hi : (j 0 : ℕ) = 0 + i 0) (hk : (j 1 : ℕ) = i 1) :
    k0_pay2 P (View.ld (Val := Elt Ideal) (e' := .bf16) (iblk m c 0 t) (Rect.unit (s := S2048x1280) ![0, 0] S2048x1024.size inb_S2048x1280_S2048x1024_0_0)) (iblk m c 2 t) i
      = P i + part (m (c.tc.loc main_arg0)) (m (c.tc.loc main_arg1)) t j := by
  have h : t.val / 4 = 0 := by omega
  pointwise [k0_pay2, part, term, col]
  blk_point [iblk, V, idx t, row, h, hi, hk]

theorem addedHigh (P : FVec Ideal S256x1024 .f32) (i : S256x1024.Idx) (j : S1280x1024.Idx) (h1 : t.val < 4) (hi : (j 0 : ℕ) = 1024 + i 0) (hk : (j 1 : ℕ) = i 1) :
    k0_pay3 P (iblk m c 1 t) (iblk m c 2 t) i
      = P i + part (m (c.tc.loc main_arg0)) (m (c.tc.loc main_arg1)) t j := by
  have h : t.val / 4 = 0 := by omega
  pointwise [k0_pay3, part, term, col]
  blk_point [iblk, V, idx t, row, h, hi, hk]

theorem addedAll (P : FVec Ideal S1280x1024 .f32) (j : S1280x1024.Idx) :
    k0_pay4 P (iblk m c 0 t) (iblk m c 2 t) j
      = P j + part (m (c.tc.loc main_arg0)) (m (c.tc.loc main_arg1)) t j := by
  pointwise [k0_pay4, part, term, col]
  blk_point [iblk, V, idx t, row]

theorem tiles (P : FVec Ideal S1280x1024 .f32) (L : List (View.Piece (Elt Ideal) S1280x1024 .f32)) (j : S1280x1024.Idx) (h1 : t.val < 4) :
    View.canon ((⟨Rect.unit (s := S1280x1024) ![1024, 0] S256x1024.size inb_S1280x1024_S256x1024_1024_0,
        k0_pay3 (View.ld (Val := Elt Ideal) (e' := .f32) P (Rect.unit (s := S1280x1024) ![1024, 0] S256x1024.size inb_S1280x1024_S256x1024_1024_0)) (iblk m c 1 t) (iblk m c 2 t)⟩ : View.Piece (Elt Ideal) S1280x1024 .f32)
      :: (⟨Rect.unit (s := S1280x1024) ![0, 0] S1024x1024.size inb_S1280x1024_S1024x1024_0_0,
        k0_pay2 (View.ld (Val := Elt Ideal) (e' := .f32) P (Rect.unit (s := S1280x1024) ![0, 0] S1024x1024.size inb_S1280x1024_S1024x1024_0_0))
          (View.ld (Val := Elt Ideal) (e' := .bf16) (iblk m c 0 t) (Rect.unit (s := S2048x1280) ![0, 0] S2048x1024.size inb_S2048x1280_S2048x1024_0_0)) (iblk m c 2 t)⟩ : View.Piece (Elt Ideal) S1280x1024 .f32) :: L) j
      = P j + part (m (c.tc.loc main_arg0)) (m (c.tc.loc main_arg1)) t j := by
  have hj : (j 0).val < 1280 := (j 0).isLt
  by_cases h : 1024 ≤ (j 0).val
  · obtain ⟨i, hi, hk⟩ : ∃ i : S256x1024.Idx, (j 0).val = 1024 + (i 0).val ∧ (j 1).val = (i 1).val :=
      ⟨ix2 ⟨(j 0).val - 1024, by omega⟩ (j 1), by show _ = 1024 + ((j 0).val - 1024); omega, rfl⟩
    have e := emb_at (n := 256) (o := 1024) inb_S1280x1024_S256x1024_1024_0 i j hi hk
    refine (congrArg (View.canon _) e.symm).trans ((View.canon_cons_emb _ _ _ _).trans ?_)
    exact (addedHigh m c t _ i j h1 hi hk).trans (congrArg (fun w : EReal => w + part _ _ t j) (congrArg P e))
  · rw [View.canon_cons_of_not_mem]
    rotate_left
    · exact above (n := 256) (o := 1024) inb_S1280x1024_S256x1024_1024_0 j h
    obtain ⟨i, hi, hk⟩ : ∃ i : S1024x1024.Idx, (j 0).val = 0 + (i 0).val ∧ (j 1).val = (i 1).val :=
      ⟨ix2 ⟨(j 0).val, by omega⟩ (j 1), (Nat.zero_add _).symm, rfl⟩
    have e := emb_at (n := 1024) (o := 0) inb_S1280x1024_S1024x1024_0_0 i j hi hk
    refine (congrArg (View.canon _) e.symm).trans ((View.canon_cons_emb _ _ _ _).trans ?_)
    exact (addedLow m c t _ i j h1 hi hk).trans (congrArg (fun w : EReal => w + part _ _ t j) (congrArg P e))

theorem step (j : S1280x1024.Idx) :
    (outsAt0 m c t.val t.isLt).1 j = old m c t j + part (m (c.tc.loc main_arg0)) (m (c.tc.loc main_arg1)) t j := by
  by_cases h1 : t.val < 4
  · unfold old
    by_cases h0 : t.val % 4 = 0
    · rw [if_pos h0, outsAt0_A m c t h0 h1 (by omega) (by omega)]; frame_out
      simp (disch := decide) only [↓View.readCov_skip, ↓View.readCov_fill]
      exact tiles m c t _ _ j h1
    · rw [if_neg h0]
      by_cases h3 : t.val % 4 = 3
      · rw [outsAt0_C m c t h0 h1 (by omega) h3]; frame_out
        exact tiles m c t _ _ j h1
      · rw [outsAt0_B m c t h0 h1 (by omega) h3]; frame_out
        exact tiles m c t _ _ j h1
  · rw [all m c t (by omega)]; exact addedAll m c t _ j

theorem last (h3 : t.val % 4 = 3) (j : S1280x1024.Idx) :
    (outsAt0 m c t.val t.isLt).1 j = total (m (c.tc.loc main_arg0)) (m (c.tc.loc main_arg1)) (col t j) := by
  rw [Pipeline.eq_sum_fin_of_reset_step_apply_of_flush (fun n h => (outsAt0 m c n h).1) 4 (fun _ => 0)
    (part (m (c.tc.loc main_arg0)) (m (c.tc.loc main_arg1)))
    (fun t h0 j => (step m c t j).trans (congrArg (fun w : EReal => w + part _ _ t j) ((congrFun (if_pos h0) j).trans (by pointwise [k0_pay1]))))
    (fun t h0 j => (step m c t j).trans (congrArg (fun w : EReal => w + part _ _ t j) (congrFun (if_neg h0) j))) t h3 j, zero_add]
  refine Fin.sum_mul_add_congr (S := 4) (n := 2048) fun s l hl => congrArg₂ (term _ _) (congrArg (fun a => (ix2 a (j 1) : S6400x1024.Idx)) (Fin.ext ?_)) (Fin.ext ?_)
  · show (4 * (t.val / 4) + s.val) / 4 * 1280 + _ = t.val / 4 * 1280 + _
    omega
  · show (4 * (t.val / 4) + s.val) % 4 * 2048 + l.val = s.val * 2048 + l.val
    omega

theorem final3 : (dats m 0 c).arrAt 3 (cfgs 0).N = total (m (c.tc.loc main_arg0)) (m (c.tc.loc main_arg1)) := by
  refine (dats m 0 c).arrAt_eq_of_covers 3 _ (by decide +kernel) fun t hf y => ?_
  blk_simp
  rw [after0_3, last m c t ((flush0_3 t).1 hf) y]
  refine congrArg _ ?_
  blk_ext [idx t, col]

theorem final4 : (dats m 0 c).arrAt 4 (cfgs 0).N = total (m (c.tc.loc main_arg0)) (m (c.tc.loc main_arg1)) := by
  refine (dats m 0 c).arrAt_eq_of_covers 4 _ (by decide +kernel) fun t hf y => ?_
  blk_simp
  rw [after0_4, rounded m c t y ((flush0_4 t).1 hf), last m c t ((flush0_4 t).1 hf) y]
  refine congrArg _ ?_
  blk_ext [idx t, col]

open Cert.Reference14Ideal.Read in
theorem reference_at (X : FVec Ideal S8192x6400 .bf16) (Y : FVec Ideal S8192x1024 .bf16) (i : Fin 6400) (j : Fin 1024) : val_main_v6 (F := Ideal) X Y (ix2 i j) = total X Y (ix2 i j) := by
  pointwise [val_main_v6, val_main_v5, val_main_v4, val_main_v3, val_main_v1, total, term]

theorem wgrad_in_algebraic : Cert.algebraic_Kernel14Ideal_Reference14Ideal := by
  intro m g m' g' _ hagree
  refine ⟨fun c => (dats m 0 c).arrAt 3 (cfgs 0).N, fun c => (dats m 0 c).arrAt 4 (cfgs 0).N, ?_, ?_⟩
  · run_from Cert.Kernel14Ideal.Gen.run_main m g
  · refine (θ_run Cert.Reference14Ideal.defs _ _).mono (fun r h c => ?_) (Cert.Reference14Ideal.Value.run (F := Ideal) m' g')
    obtain ⟨h0, h1, a⟩ := h c
    obtain ⟨e0, e1⟩ := hagree c
    refine ⟨(h0.trans (Cert.Reference14Ideal.Read.val_main_v6_eq _ _)).trans ?_, (h1.trans (Cert.Reference14Ideal.Read.val_main_v8_eq _ _)).trans ?_, a⟩
    · rw [e0, e1]
      refine Eq.trans ?_ (final3 m c).symm
      exact Cert.Rows.of_ix2 fun i j => reference_at _ _ i j
    · rw [e0, e1]
      refine Eq.trans ?_ (final4 m c).symm
      refine Cert.Rows.of_ix2 fun i j => Eq.trans ?_ (reference_at _ _ i j)
      pointwise [Cert.Reference14Ideal.Read.val_main_v8, Cert.Reference14Ideal.Read.val_main_v7, Cert.Reference14Ideal.Read.val_main_v6]

end Cert.WgradIn

end
-- ==== Proof.lean ====
module

public import proofs.«01_k».proof.Proof.Gen.Kernel.Frame
public import proofs.«01_k».proof.Proof.Gen.Kernel2.Skeleton
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.AdaValue
public import proofs.«01_k».proof.Proof.Mixer.Frames
public import proofs.«01_k».proof.Proof.Ffn.Claim
public import proofs.«01_k».proof.Proof.Loss.Claim
public import proofs.«01_k».proof.Proof.Inproj.Claim
public import proofs.«01_k».proof.Proof.Ffnin.Claim
public import proofs.«01_k».proof.Proof.Fwd.Claim
public import proofs.«01_k».proof.Proof.Outproj.Claim
public import proofs.«01_k».proof.Proof.Ffngate.Claim
public import proofs.«01_k».proof.Proof.Plain.OutBack
public import proofs.«01_k».proof.Proof.Plain.Packs
public import proofs.«01_k».proof.Proof.Plain.Adamw
public import proofs.«01_k».proof.Proof.Plain.Wgrad
public import proofs.«01_k».proof.Proof.Plain.WgradIn

@[expose] public section

noncomputable section

namespace Cert.Proof

open Idealize.ShloMosaic Idealize.SL.Sem Cert.Kernel

theorem ada_algebraic : Cert.algebraic_KernelIdeal_ReferenceIdeal := by
  pair_intro
  · run_from Cert.KernelIdeal.Gen.run_main m g
  · run_from Cert.ReferenceIdeal.Value.run m' g'
    rw [Cert.KernelIdeal.Ada.final m c]
    funext j
    pointwise [Cert.KernelIdeal.Ada.gradAt]
    exact Finset.sum_congr rfl fun b _ => mul_comm _ _

theorem mixer_reference_frame : Cert.quiescent_Reference2Ideal := fun m ρ _ =>
  (θ_run Cert.Reference2Ideal.defs _ _).mono
    (fun r h => ⟨fun c => (h c).2.2.2.2.2.2, sem_eq_zero_of_no_sems rfl r.2⟩) (Cert.Reference2Ideal.Value.run m ρ)

theorem reference3_frame : Cert.quiescent_Reference3Ideal := fun m ρ _ =>
  (θ_run Cert.Reference3Ideal.defs _ _).mono
    (fun r h => ⟨fun c => (h c).2, sem_eq_zero_of_no_sems rfl r.2⟩) (Cert.Reference3Ideal.Value.run m ρ)

theorem reference4_frame : Cert.quiescent_Reference4Ideal := fun m ρ _ =>
  (θ_run Cert.Reference4Ideal.defs _ _).mono
    (fun r h => ⟨fun c => (h c).2.2.2, sem_eq_zero_of_no_sems rfl r.2⟩) (Cert.Reference4Ideal.Value.run m ρ)

theorem reference5_frame : Cert.quiescent_Reference5Ideal := fun m ρ _ =>
  (θ_run Cert.Reference5Ideal.defs _ _).mono
    (fun r h => ⟨fun c => (h c).2.2, sem_eq_zero_of_no_sems rfl r.2⟩) (Cert.Reference5Ideal.Value.run m ρ)

theorem reference6_frame : Cert.quiescent_Reference6Ideal := fun m ρ _ =>
  (θ_run Cert.Reference6Ideal.defs _ _).mono
    (fun r h => ⟨fun c => (h c).2.2.2, sem_eq_zero_of_no_sems rfl r.2⟩) (Cert.Reference6Ideal.Value.run m ρ)

theorem reference7_frame : Cert.quiescent_Reference7Ideal := fun m ρ _ =>
  (θ_run Cert.Reference7Ideal.defs _ _).mono
    (fun r h => ⟨fun c => (h c).2.2, sem_eq_zero_of_no_sems rfl r.2⟩) (Cert.Reference7Ideal.Value.run m ρ)

theorem reference8_frame : Cert.quiescent_Reference8Ideal := fun m ρ _ =>
  (θ_run Cert.Reference8Ideal.defs _ _).mono
    (fun r h => ⟨fun c => (h c).2.2.2, sem_eq_zero_of_no_sems rfl r.2⟩) (Cert.Reference8Ideal.Value.run m ρ)

theorem reference9_frame : Cert.quiescent_Reference9Ideal := fun m ρ _ =>
  (θ_run Cert.Reference9Ideal.defs _ _).mono
    (fun r h => ⟨fun c => (h c).2.2, sem_eq_zero_of_no_sems rfl r.2⟩) (Cert.Reference9Ideal.Value.run m ρ)

theorem reference10_frame : Cert.quiescent_Reference10Ideal := fun m ρ _ =>
  (θ_run Cert.Reference10Ideal.defs _ _).mono
    (fun r h => ⟨fun c => (h c).2, sem_eq_zero_of_no_sems rfl r.2⟩) (Cert.Reference10Ideal.Value.run m ρ)

theorem reference11_frame : Cert.quiescent_Reference11Ideal := fun m ρ _ =>
  (θ_run Cert.Reference11Ideal.defs _ _).mono
    (fun r h => ⟨fun c => (h c).2, sem_eq_zero_of_no_sems rfl r.2⟩) (Cert.Reference11Ideal.Value.run m ρ)

theorem reference12_frame : Cert.quiescent_Reference12Ideal := fun m ρ _ =>
  (θ_run Cert.Reference12Ideal.defs _ _).mono
    (fun r h => ⟨fun c => (h c).2.2.2.2, sem_eq_zero_of_no_sems rfl r.2⟩) (Cert.Reference12Ideal.Value.run m ρ)

theorem reference13_frame : Cert.quiescent_Reference13Ideal := fun m ρ _ =>
  (θ_run Cert.Reference13Ideal.defs _ _).mono
    (fun r h => ⟨fun c => (h c).2.2, sem_eq_zero_of_no_sems rfl r.2⟩) (Cert.Reference13Ideal.Value.run m ρ)

theorem reference14_frame : Cert.quiescent_Reference14Ideal := fun m ρ _ =>
  (θ_run Cert.Reference14Ideal.defs _ _).mono
    (fun r h => ⟨fun c => (h c).2.2, sem_eq_zero_of_no_sems rfl r.2⟩) (Cert.Reference14Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_mixer_finite.Gen.facts, Cert.Pre_ffn_out_finite.Gen.facts, Cert.Pre_loss_finite.Gen.facts, Cert.Pre_in_proj_finite.Gen.facts,
  Cert.Pre_ffn_in_finite.Gen.facts, Cert.Pre_mixer_fwd_finite.Gen.facts, Cert.Pre_ffn_gate_finite.Gen.facts,
  Cert.On_mixer_read.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2, sem_eq_zero_of_no_sems rfl r.2⟩) (Cert.ReferenceIdeal.Value.run m ρ),
  Cert.Mixer.kernel_frame, fun m ρ _ => Cert.Kernel2Ideal.Mixer.frame_run m ρ, fun m ρ _ => Cert.Kernel2Ideal.Mixer.frame_run m ρ,
  mixer_reference_frame, fun m ρ _ => mixer_reference_frame m ρ trivial,
  fun m ρ _ => Cert.Kernel3.Gen.frame m ρ, fun m ρ _ => Cert.Kernel3Ideal.Gen.frame m ρ, fun m ρ _ => Cert.Kernel3Ideal.Gen.frame m ρ,
  reference3_frame, fun m ρ _ => reference3_frame m ρ trivial,
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial,
  fun m ρ _ => Cert.Kernel5.Gen.frame m ρ, fun m ρ _ => Cert.Kernel5Ideal.Gen.frame m ρ, fun m ρ _ => Cert.Kernel5Ideal.Gen.frame m ρ,
  reference5_frame, fun m ρ _ => reference5_frame m ρ trivial,
  fun m ρ _ => Cert.Kernel6.Gen.frame m ρ, fun m ρ _ => Cert.Kernel6Ideal.Gen.frame m ρ, fun m ρ _ => Cert.Kernel6Ideal.Gen.frame m ρ,
  reference6_frame, fun m ρ _ => reference6_frame m ρ trivial,
  fun m ρ _ => Cert.Kernel7.Gen.frame m ρ, fun m ρ _ => Cert.Kernel7Ideal.Gen.frame m ρ, fun m ρ _ => Cert.Kernel7Ideal.Gen.frame m ρ,
  reference7_frame, fun m ρ _ => reference7_frame m ρ trivial,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, fun m ρ _ => Cert.Kernel9Ideal.Gen.frame m ρ,
  reference9_frame, fun m ρ _ => reference9_frame m ρ trivial,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  fun m ρ _ => Cert.Kernel13.Gen.frame m ρ, fun m ρ _ => Cert.Kernel13Ideal.Gen.frame m ρ, reference13_frame,
  fun m ρ _ => Cert.Kernel14.Gen.frame m ρ, fun m ρ _ => Cert.Kernel14Ideal.Gen.frame m ρ, reference14_frame,
  trivial, ada_algebraic, trivial, Cert.Mixer.mixer_algebraic,
  trivial, Cert.Ffn.ffn_out_algebraic, trivial, Cert.Loss.loss_algebraic, trivial, Cert.Inproj.in_proj_algebraic,
  trivial, Cert.Ffnin.ffn_in_algebraic, trivial, Cert.Fwd.mixer_fwd_algebraic,
  trivial, Cert.Outproj.out_proj_algebraic, trivial, Cert.Ffngate.ffn_in_algebraic,
  trivial, Cert.OutBack.out_proj_bwd_algebraic, trivial, Cert.Packs.pack_sum_algebraic,
  trivial, Cert.Adamw.adamw_algebraic, trivial, Cert.Wgrad.wgrad_algebraic, trivial, Cert.WgradIn.wgrad_in_algebraic⟩

end Cert.Proof

end
